-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpIdeal_mlp_finite [hPre_mlp_finite : Cert.Pre_mlp_finite.Facts] (m : (ℓ : Loc Cert.MlpIdeal.nD Cert.MlpIdeal.τ Cert.MlpIdeal.sig) → Buf (Elt Ideal) ℓ) : Prop :=
  ∀ c : Dev Cert.MlpIdeal.nD,
    (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6))).1 = (fun _ => 1#1)
    ∧ (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6))).2.1 = (fun _ => 1#1)
    ∧ (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6))).2.2.1 = (fun _ => 1#1)
    ∧ (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6))).2.2.2.1 = (fun _ => 1#1)
    ∧ (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6))).2.2.2.2.1 = (fun _ => 1#1)
    ∧ (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6))).2.2.2.2.2.1 = (fun _ => 1#1)
    ∧ (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6))).2.2.2.2.2.2 = (fun _ => 1#1)

def Pre_MlpRefIdeal (m : (ℓ : Loc Cert.MlpRefIdeal.nD Cert.MlpRefIdeal.τ Cert.MlpRefIdeal.sig) → Buf (Elt Ideal) ℓ) : Prop :=
  True

def Pre_MlpRefIdeal_mlp_finite [hPre_mlp_finite : Cert.Pre_mlp_finite.Facts] (m : (ℓ : Loc Cert.MlpRefIdeal.nD Cert.MlpRefIdeal.τ Cert.MlpRefIdeal.sig) → Buf (Elt Ideal) ℓ) : Prop :=
  ∀ c : Dev Cert.MlpRefIdeal.nD,
    (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6))).1 = (fun _ => 1#1)
    ∧ (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6))).2.1 = (fun _ => 1#1)
    ∧ (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6))).2.2.1 = (fun _ => 1#1)
    ∧ (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6))).2.2.2.1 = (fun _ => 1#1)
    ∧ (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6))).2.2.2.2.1 = (fun _ => 1#1)
    ∧ (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6))).2.2.2.2.2.1 = (fun _ => 1#1)
    ∧ (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6))).2.2.2.2.2.2 = (fun _ => 1#1)

def Pre_Bwd (m : (ℓ : Loc Cert.Bwd.nD Cert.Bwd.τ Cert.Bwd.sig) → Buf (Elt Bits) ℓ) : Prop :=
  True

def Pre_BwdIdeal (m : (ℓ : Loc Cert.BwdIdeal.nD Cert.BwdIdeal.τ Cert.BwdIdeal.sig) → Buf (Elt Ideal) ℓ) : Prop :=
  True

def Pre_BwdIdeal_bwd_finite [hPre_bwd_finite : Cert.Pre_bwd_finite.Facts] (m : (ℓ : Loc Cert.BwdIdeal.nD Cert.BwdIdeal.τ Cert.BwdIdeal.sig) → Buf (Elt Ideal) ℓ) : Prop :=
  ∀ c : Dev Cert.BwdIdeal.nD,
    (Cert.Pre_bwd_finite.fn (F := Ideal) (m ((c.tc : Thread Cert.BwdIdeal.nD Cert.BwdIdeal.τ).loc Cert.BwdIdeal.main_arg0)) (m ((c.tc : Thread Cert.BwdIdeal.nD Cert.BwdIdeal.τ).loc Cert.BwdIdeal.main_arg1)) (m ((c.tc : Thread Cert.BwdIdeal.nD Cert.BwdIdeal.τ).loc Cert.BwdIdeal.main_arg2)) (m ((c.tc : Thread Cert.BwdIdeal.nD Cert.BwdIdeal.τ).loc Cert.BwdIdeal.main_arg3)) (m ((c.tc : Thread Cert.BwdIdeal.nD Cert.BwdIdeal.τ).loc Cert.BwdIdeal.main_arg4)) (m ((c.tc : Thread Cert.BwdIdeal.nD Cert.BwdIdeal.τ).loc Cert.BwdIdeal.main_arg5)) (m ((c.tc : Thread Cert.BwdIdeal.nD Cert.BwdIdeal.τ).loc Cert.BwdIdeal.main_arg6)) (m ((c.tc : Thread Cert.BwdIdeal.nD Cert.BwdIdeal.τ).loc Cert.BwdIdeal.main_arg7)) (m ((c.tc : Thread Cert.BwdIdeal.nD Cert.BwdIdeal.τ).loc Cert.BwdIdeal.main_arg8)) (m ((c.tc : Thread Cert.BwdIdeal.nD Cert.BwdIdeal.τ).loc Cert.BwdIdeal.main_arg9))).1 = (fun _ => 1#1)
    ∧ (Cert.Pre_bwd_finite.fn (F := Ideal) (m ((c.tc : Thread Cert.BwdIdeal.nD Cert.BwdIdeal.τ).loc Cert.BwdIdeal.main_arg0)) (m ((c.tc : Thread Cert.BwdIdeal.nD Cert.BwdIdeal.τ).loc Cert.BwdIdeal.main_arg1)) (m ((c.tc : Thread Cert.BwdIdeal.nD Cert.BwdIdeal.τ).loc Cert.BwdIdeal.main_arg2)) (m ((c.tc : Thread Cert.BwdIdeal.nD Cert.BwdIdeal.τ).loc Cert.BwdIdeal.main_arg3)) (m ((c.tc : Thread Cert.BwdIdeal.nD Cert.BwdIdeal.τ).loc Cert.BwdIdeal.main_arg4)) (m ((c.tc : Thread Cert.BwdIdeal.nD Cert.BwdIdeal.τ).loc Cert.BwdIdeal.main_arg5)) (m ((c.tc : Thread Cert.BwdIdeal.nD Cert.BwdIdeal.τ).loc Cert.BwdIdeal.main_arg6)) (m ((c.tc : Thread Cert.BwdIdeal.nD Cert.BwdIdeal.τ).loc Cert.BwdIdeal.main_arg7)) (m ((c.tc : Thread Cert.BwdIdeal.nD Cert.BwdIdeal.τ).loc Cert.BwdIdeal.main_arg8)) (m ((c.tc : Thread Cert.BwdIdeal.nD Cert.BwdIdeal.τ).loc Cert.BwdIdeal.main_arg9))).2.1 = (fun _ => 1#1)
    ∧ (Cert.Pre_bwd_finite.fn (F := Ideal) (m ((c.tc : Thread Cert.BwdIdeal.nD Cert.BwdIdeal.τ).loc Cert.BwdIdeal.main_arg0)) (m ((c.tc : Thread Cert.BwdIdeal.nD Cert.BwdIdeal.τ).loc Cert.BwdIdeal.main_arg1)) (m ((c.tc : Thread Cert.BwdIdeal.nD Cert.BwdIdeal.τ).loc Cert.BwdIdeal.main_arg2)) (m ((c.tc : Thread Cert.BwdIdeal.nD Cert.BwdIdeal.τ).loc Cert.BwdIdeal.main_arg3)) (m ((c.tc : Thread Cert.BwdIdeal.nD Cert.BwdIdeal.τ).loc Cert.BwdIdeal.main_arg4)) (m ((c.tc : Thread Cert.BwdIdeal.nD Cert.BwdIdeal.τ).loc Cert.BwdIdeal.main_arg5)) (m ((c.tc : Thread Cert.BwdIdeal.nD Cert.BwdIdeal.τ).loc Cert.BwdIdeal.main_arg6)) (m ((c.tc : Thread Cert.BwdIdeal.nD Cert.BwdIdeal.τ).loc Cert.BwdIdeal.main_arg7)) (m ((c.tc : Thread Cert.BwdIdeal.nD Cert.BwdIdeal.τ).loc Cert.BwdIdeal.main_arg8)) (m ((c.tc : Thread Cert.BwdIdeal.nD Cert.BwdIdeal.τ).loc Cert.BwdIdeal.main_arg9))).2.2.1 = (fun _ => 1#1)
    ∧ (Cert.Pre_bwd_finite.fn (F := Ideal) (m ((c.tc : Thread Cert.BwdIdeal.nD Cert.BwdIdeal.τ).loc Cert.BwdIdeal.main_arg0)) (m ((c.tc : Thread Cert.BwdIdeal.nD Cert.BwdIdeal.τ).loc Cert.BwdIdeal.main_arg1)) (m ((c.tc : Thread Cert.BwdIdeal.nD Cert.BwdIdeal.τ).loc Cert.BwdIdeal.main_arg2)) (m ((c.tc : Thread Cert.BwdIdeal.nD Cert.BwdIdeal.τ).loc Cert.BwdIdeal.main_arg3)) (m ((c.tc : Thread Cert.BwdIdeal.nD Cert.BwdIdeal.τ).loc Cert.BwdIdeal.main_arg4)) (m ((c.tc : Thread Cert.BwdIdeal.nD Cert.BwdIdeal.τ).loc Cert.BwdIdeal.main_arg5)) (m ((c.tc : Thread Cert.BwdIdeal.nD Cert.BwdIdeal.τ).loc Cert.BwdIdeal.main_arg6)) (m ((c.tc : Thread Cert.BwdIdeal.nD Cert.BwdIdeal.τ).loc Cert.BwdIdeal.main_arg7)) (m ((c.tc : Thread Cert.BwdIdeal.nD Cert.BwdIdeal.τ).loc Cert.BwdIdeal.main_arg8)) (m ((c.tc : Thread Cert.BwdIdeal.nD Cert.BwdIdeal.τ).loc Cert.BwdIdeal.main_arg9))).2.2.2.1 = (fun _ => 1#1)
    ∧ (Cert.Pre_bwd_finite.fn (F := Ideal) (m ((c.tc : Thread Cert.BwdIdeal.nD Cert.BwdIdeal.τ).loc Cert.BwdIdeal.main_arg0)) (m ((c.tc : Thread Cert.BwdIdeal.nD Cert.BwdIdeal.τ).loc Cert.BwdIdeal.main_arg1)) (m ((c.tc : Thread Cert.BwdIdeal.nD Cert.BwdIdeal.τ).loc Cert.BwdIdeal.main_arg2)) (m ((c.tc : Thread Cert.BwdIdeal.nD Cert.BwdIdeal.τ).loc Cert.BwdIdeal.main_arg3)) (m ((c.tc : Thread Cert.BwdIdeal.nD Cert.BwdIdeal.τ).loc Cert.BwdIdeal.main_arg4)) (m ((c.tc : Thread Cert.BwdIdeal.nD Cert.BwdIdeal.τ).loc Cert.BwdIdeal.main_arg5)) (m ((c.tc : Thread Cert.BwdIdeal.nD Cert.BwdIdeal.τ).loc Cert.BwdIdeal.main_arg6)) (m ((c.tc : Thread Cert.BwdIdeal.nD Cert.BwdIdeal.τ).loc Cert.BwdIdeal.main_arg7)) (m ((c.tc : Thread Cert.BwdIdeal.nD Cert.BwdIdeal.τ).loc Cert.BwdIdeal.main_arg8)) (m ((c.tc : Thread Cert.BwdIdeal.nD Cert.BwdIdeal.τ).loc Cert.BwdIdeal.main_arg9))).2.2.2.2.1 = (fun _ => 1#1)
    ∧ (Cert.Pre_bwd_finite.fn (F := Ideal) (m ((c.tc : Thread Cert.BwdIdeal.nD Cert.BwdIdeal.τ).loc Cert.BwdIdeal.main_arg0)) (m ((c.tc : Thread Cert.BwdIdeal.nD Cert.BwdIdeal.τ).loc Cert.BwdIdeal.main_arg1)) (m ((c.tc : Thread Cert.BwdIdeal.nD Cert.BwdIdeal.τ).loc Cert.BwdIdeal.main_arg2)) (m ((c.tc : Thread Cert.BwdIdeal.nD Cert.BwdIdeal.τ).loc Cert.BwdIdeal.main_arg3)) (m ((c.tc : Thread Cert.BwdIdeal.nD Cert.BwdIdeal.τ).loc Cert.BwdIdeal.main_arg4)) (m ((c.tc : Thread Cert.BwdIdeal.nD Cert.BwdIdeal.τ).loc Cert.BwdIdeal.main_arg5)) (m ((c.tc : Thread Cert.BwdIdeal.nD Cert.BwdIdeal.τ).loc Cert.BwdIdeal.main_arg6)) (m ((c.tc : Thread Cert.BwdIdeal.nD Cert.BwdIdeal.τ).loc Cert.BwdIdeal.main_arg7)) (m ((c.tc : Thread Cert.BwdIdeal.nD Cert.BwdIdeal.τ).loc Cert.BwdIdeal.main_arg8)) (m ((c.tc : Thread Cert.BwdIdeal.nD Cert.BwdIdeal.τ).loc Cert.BwdIdeal.main_arg9))).2.2.2.2.2.1 = (fun _ => 1#1)
    ∧ (Cert.Pre_bwd_finite.fn (F := Ideal) (m ((c.tc : Thread Cert.BwdIdeal.nD Cert.BwdIdeal.τ).loc Cert.BwdIdeal.main_arg0)) (m ((c.tc : Thread Cert.BwdIdeal.nD Cert.BwdIdeal.τ).loc Cert.BwdIdeal.main_arg1)) (m ((c.tc : Thread Cert.BwdIdeal.nD Cert.BwdIdeal.τ).loc Cert.BwdIdeal.main_arg2)) (m ((c.tc : Thread Cert.BwdIdeal.nD Cert.BwdIdeal.τ).loc Cert.BwdIdeal.main_arg3)) (m ((c.tc : Thread Cert.BwdIdeal.nD Cert.BwdIdeal.τ).loc Cert.BwdIdeal.main_arg4)) (m ((c.tc : Thread Cert.BwdIdeal.nD Cert.BwdIdeal.τ).loc Cert.BwdIdeal.main_arg5)) (m ((c.tc : Thread Cert.BwdIdeal.nD Cert.BwdIdeal.τ).loc Cert.BwdIdeal.main_arg6)) (m ((c.tc : Thread Cert.BwdIdeal.nD Cert.BwdIdeal.τ).loc Cert.BwdIdeal.main_arg7)) (m ((c.tc : Thread Cert.BwdIdeal.nD Cert.BwdIdeal.τ).loc Cert.BwdIdeal.main_arg8)) (m ((c.tc : Thread Cert.BwdIdeal.nD Cert.BwdIdeal.τ).loc Cert.BwdIdeal.main_arg9))).2.2.2.2.2.2.1 = (fun _ => 1#1)
    ∧ (Cert.Pre_bwd_finite.fn (F := Ideal) (m ((c.tc : Thread Cert.BwdIdeal.nD Cert.BwdIdeal.τ).loc Cert.BwdIdeal.main_arg0)) (m ((c.tc : Thread Cert.BwdIdeal.nD Cert.BwdIdeal.τ).loc Cert.BwdIdeal.main_arg1)) (m ((c.tc : Thread Cert.BwdIdeal.nD Cert.BwdIdeal.τ).loc Cert.BwdIdeal.main_arg2)) (m ((c.tc : Thread Cert.BwdIdeal.nD Cert.BwdIdeal.τ).loc Cert.BwdIdeal.main_arg3)) (m ((c.tc : Thread Cert.BwdIdeal.nD Cert.BwdIdeal.τ).loc Cert.BwdIdeal.main_arg4)) (m ((c.tc : Thread Cert.BwdIdeal.nD Cert.BwdIdeal.τ).loc Cert.BwdIdeal.main_arg5)) (m ((c.tc : Thread Cert.BwdIdeal.nD Cert.BwdIdeal.τ).loc Cert.BwdIdeal.main_arg6)) (m ((c.tc : Thread Cert.BwdIdeal.nD Cert.BwdIdeal.τ).loc Cert.BwdIdeal.main_arg7)) (m ((c.tc : Thread Cert.BwdIdeal.nD Cert.BwdIdeal.τ).loc Cert.BwdIdeal.main_arg8)) (m ((c.tc : Thread Cert.BwdIdeal.nD Cert.BwdIdeal.τ).loc Cert.BwdIdeal.main_arg9))).2.2.2.2.2.2.2.1 = (fun _ => 1#1)
    ∧ (Cert.Pre_bwd_finite.fn (F := Ideal) (m ((c.tc : Thread Cert.BwdIdeal.nD Cert.BwdIdeal.τ).loc Cert.BwdIdeal.main_arg0)) (m ((c.tc : Thread Cert.BwdIdeal.nD Cert.BwdIdeal.τ).loc Cert.BwdIdeal.main_arg1)) (m ((c.tc : Thread Cert.BwdIdeal.nD Cert.BwdIdeal.τ).loc Cert.BwdIdeal.main_arg2)) (m ((c.tc : Thread Cert.BwdIdeal.nD Cert.BwdIdeal.τ).loc Cert.BwdIdeal.main_arg3)) (m ((c.tc : Thread Cert.BwdIdeal.nD Cert.BwdIdeal.τ).loc Cert.BwdIdeal.main_arg4)) (m ((c.tc : Thread Cert.BwdIdeal.nD Cert.BwdIdeal.τ).loc Cert.BwdIdeal.main_arg5)) (m ((c.tc : Thread Cert.BwdIdeal.nD Cert.BwdIdeal.τ).loc Cert.BwdIdeal.main_arg6)) (m ((c.tc : Thread Cert.BwdIdeal.nD Cert.BwdIdeal.τ).loc Cert.BwdIdeal.main_arg7)) (m ((c.tc : Thread Cert.BwdIdeal.nD Cert.BwdIdeal.τ).loc Cert.BwdIdeal.main_arg8)) (m ((c.tc : Thread Cert.BwdIdeal.nD Cert.BwdIdeal.τ).loc Cert.BwdIdeal.main_arg9))).2.2.2.2.2.2.2.2 = (fun _ => 1#1)

def Pre_BwdRefIdeal (m : (ℓ : Loc Cert.BwdRefIdeal.nD Cert.BwdRefIdeal.τ Cert.BwdRefIdeal.sig) → Buf (Elt Ideal) ℓ) : Prop :=
  True

def Pre_BwdRefIdeal_bwd_finite [hPre_bwd_finite : Cert.Pre_bwd_finite.Facts] (m : (ℓ : Loc Cert.BwdRefIdeal.nD Cert.BwdRefIdeal.τ Cert.BwdRefIdeal.sig) → Buf (Elt Ideal) ℓ) : Prop :=
  ∀ c : Dev Cert.BwdRefIdeal.nD,
    (Cert.Pre_bwd_finite.fn (F := Ideal) (m ((c.tc : Thread Cert.BwdRefIdeal.nD Cert.BwdRefIdeal.τ).loc Cert.BwdRefIdeal.main_arg0)) (m ((c.tc : Thread Cert.BwdRefIdeal.nD Cert.BwdRefIdeal.τ).loc Cert.BwdRefIdeal.main_arg1)) (m ((c.tc : Thread Cert.BwdRefIdeal.nD Cert.BwdRefIdeal.τ).loc Cert.BwdRefIdeal.main_arg2)) (m ((c.tc : Thread Cert.BwdRefIdeal.nD Cert.BwdRefIdeal.τ).loc Cert.BwdRefIdeal.main_arg3)) (m ((c.tc : Thread Cert.BwdRefIdeal.nD Cert.BwdRefIdeal.τ).loc Cert.BwdRefIdeal.main_arg4)) (m ((c.tc : Thread Cert.BwdRefIdeal.nD Cert.BwdRefIdeal.τ).loc Cert.BwdRefIdeal.main_arg5)) (m ((c.tc : Thread Cert.BwdRefIdeal.nD Cert.BwdRefIdeal.τ).loc Cert.BwdRefIdeal.main_arg6)) (m ((c.tc : Thread Cert.BwdRefIdeal.nD Cert.BwdRefIdeal.τ).loc Cert.BwdRefIdeal.main_arg7)) (m ((c.tc : Thread Cert.BwdRefIdeal.nD Cert.BwdRefIdeal.τ).loc Cert.BwdRefIdeal.main_arg8)) (m ((c.tc : Thread Cert.BwdRefIdeal.nD Cert.BwdRefIdeal.τ).loc Cert.BwdRefIdeal.main_arg9))).1 = (fun _ => 1#1)
    ∧ (Cert.Pre_bwd_finite.fn (F := Ideal) (m ((c.tc : Thread Cert.BwdRefIdeal.nD Cert.BwdRefIdeal.τ).loc Cert.BwdRefIdeal.main_arg0)) (m ((c.tc : Thread Cert.BwdRefIdeal.nD Cert.BwdRefIdeal.τ).loc Cert.BwdRefIdeal.main_arg1)) (m ((c.tc : Thread Cert.BwdRefIdeal.nD Cert.BwdRefIdeal.τ).loc Cert.BwdRefIdeal.main_arg2)) (m ((c.tc : Thread Cert.BwdRefIdeal.nD Cert.BwdRefIdeal.τ).loc Cert.BwdRefIdeal.main_arg3)) (m ((c.tc : Thread Cert.BwdRefIdeal.nD Cert.BwdRefIdeal.τ).loc Cert.BwdRefIdeal.main_arg4)) (m ((c.tc : Thread Cert.BwdRefIdeal.nD Cert.BwdRefIdeal.τ).loc Cert.BwdRefIdeal.main_arg5)) (m ((c.tc : Thread Cert.BwdRefIdeal.nD Cert.BwdRefIdeal.τ).loc Cert.BwdRefIdeal.main_arg6)) (m ((c.tc : Thread Cert.BwdRefIdeal.nD Cert.BwdRefIdeal.τ).loc Cert.BwdRefIdeal.main_arg7)) (m ((c.tc : Thread Cert.BwdRefIdeal.nD Cert.BwdRefIdeal.τ).loc Cert.BwdRefIdeal.main_arg8)) (m ((c.tc : Thread Cert.BwdRefIdeal.nD Cert.BwdRefIdeal.τ).loc Cert.BwdRefIdeal.main_arg9))).2.1 = (fun _ => 1#1)
    ∧ (Cert.Pre_bwd_finite.fn (F := Ideal) (m ((c.tc : Thread Cert.BwdRefIdeal.nD Cert.BwdRefIdeal.τ).loc Cert.BwdRefIdeal.main_arg0)) (m ((c.tc : Thread Cert.BwdRefIdeal.nD Cert.BwdRefIdeal.τ).loc Cert.BwdRefIdeal.main_arg1)) (m ((c.tc : Thread Cert.BwdRefIdeal.nD Cert.BwdRefIdeal.τ).loc Cert.BwdRefIdeal.main_arg2)) (m ((c.tc : Thread Cert.BwdRefIdeal.nD Cert.BwdRefIdeal.τ).loc Cert.BwdRefIdeal.main_arg3)) (m ((c.tc : Thread Cert.BwdRefIdeal.nD Cert.BwdRefIdeal.τ).loc Cert.BwdRefIdeal.main_arg4)) (m ((c.tc : Thread Cert.BwdRefIdeal.nD Cert.BwdRefIdeal.τ).loc Cert.BwdRefIdeal.main_arg5)) (m ((c.tc : Thread Cert.BwdRefIdeal.nD Cert.BwdRefIdeal.τ).loc Cert.BwdRefIdeal.main_arg6)) (m ((c.tc : Thread Cert.BwdRefIdeal.nD Cert.BwdRefIdeal.τ).loc Cert.BwdRefIdeal.main_arg7)) (m ((c.tc : Thread Cert.BwdRefIdeal.nD Cert.BwdRefIdeal.τ).loc Cert.BwdRefIdeal.main_arg8)) (m ((c.tc : Thread Cert.BwdRefIdeal.nD Cert.BwdRefIdeal.τ).loc Cert.BwdRefIdeal.main_arg9))).2.2.1 = (fun _ => 1#1)
    ∧ (Cert.Pre_bwd_finite.fn (F := Ideal) (m ((c.tc : Thread Cert.BwdRefIdeal.nD Cert.BwdRefIdeal.τ).loc Cert.BwdRefIdeal.main_arg0)) (m ((c.tc : Thread Cert.BwdRefIdeal.nD Cert.BwdRefIdeal.τ).loc Cert.BwdRefIdeal.main_arg1)) (m ((c.tc : Thread Cert.BwdRefIdeal.nD Cert.BwdRefIdeal.τ).loc Cert.BwdRefIdeal.main_arg2)) (m ((c.tc : Thread Cert.BwdRefIdeal.nD Cert.BwdRefIdeal.τ).loc Cert.BwdRefIdeal.main_arg3)) (m ((c.tc : Thread Cert.BwdRefIdeal.nD Cert.BwdRefIdeal.τ).loc Cert.BwdRefIdeal.main_arg4)) (m ((c.tc : Thread Cert.BwdRefIdeal.nD Cert.BwdRefIdeal.τ).loc Cert.BwdRefIdeal.main_arg5)) (m ((c.tc : Thread Cert.BwdRefIdeal.nD Cert.BwdRefIdeal.τ).loc Cert.BwdRefIdeal.main_arg6)) (m ((c.tc : Thread Cert.BwdRefIdeal.nD Cert.BwdRefIdeal.τ).loc Cert.BwdRefIdeal.main_arg7)) (m ((c.tc : Thread Cert.BwdRefIdeal.nD Cert.BwdRefIdeal.τ).loc Cert.BwdRefIdeal.main_arg8)) (m ((c.tc : Thread Cert.BwdRefIdeal.nD Cert.BwdRefIdeal.τ).loc Cert.BwdRefIdeal.main_arg9))).2.2.2.1 = (fun _ => 1#1)
    ∧ (Cert.Pre_bwd_finite.fn (F := Ideal) (m ((c.tc : Thread Cert.BwdRefIdeal.nD Cert.BwdRefIdeal.τ).loc Cert.BwdRefIdeal.main_arg0)) (m ((c.tc : Thread Cert.BwdRefIdeal.nD Cert.BwdRefIdeal.τ).loc Cert.BwdRefIdeal.main_arg1)) (m ((c.tc : Thread Cert.BwdRefIdeal.nD Cert.BwdRefIdeal.τ).loc Cert.BwdRefIdeal.main_arg2)) (m ((c.tc : Thread Cert.BwdRefIdeal.nD Cert.BwdRefIdeal.τ).loc Cert.BwdRefIdeal.main_arg3)) (m ((c.tc : Thread Cert.BwdRefIdeal.nD Cert.BwdRefIdeal.τ).loc Cert.BwdRefIdeal.main_arg4)) (m ((c.tc : Thread Cert.BwdRefIdeal.nD Cert.BwdRefIdeal.τ).loc Cert.BwdRefIdeal.main_arg5)) (m ((c.tc : Thread Cert.BwdRefIdeal.nD Cert.BwdRefIdeal.τ).loc Cert.BwdRefIdeal.main_arg6)) (m ((c.tc : Thread Cert.BwdRefIdeal.nD Cert.BwdRefIdeal.τ).loc Cert.BwdRefIdeal.main_arg7)) (m ((c.tc : Thread Cert.BwdRefIdeal.nD Cert.BwdRefIdeal.τ).loc Cert.BwdRefIdeal.main_arg8)) (m ((c.tc : Thread Cert.BwdRefIdeal.nD Cert.BwdRefIdeal.τ).loc Cert.BwdRefIdeal.main_arg9))).2.2.2.2.1 = (fun _ => 1#1)
    ∧ (Cert.Pre_bwd_finite.fn (F := Ideal) (m ((c.tc : Thread Cert.BwdRefIdeal.nD Cert.BwdRefIdeal.τ).loc Cert.BwdRefIdeal.main_arg0)) (m ((c.tc : Thread Cert.BwdRefIdeal.nD Cert.BwdRefIdeal.τ).loc Cert.BwdRefIdeal.main_arg1)) (m ((c.tc : Thread Cert.BwdRefIdeal.nD Cert.BwdRefIdeal.τ).loc Cert.BwdRefIdeal.main_arg2)) (m ((c.tc : Thread Cert.BwdRefIdeal.nD Cert.BwdRefIdeal.τ).loc Cert.BwdRefIdeal.main_arg3)) (m ((c.tc : Thread Cert.BwdRefIdeal.nD Cert.BwdRefIdeal.τ).loc Cert.BwdRefIdeal.main_arg4)) (m ((c.tc : Thread Cert.BwdRefIdeal.nD Cert.BwdRefIdeal.τ).loc Cert.BwdRefIdeal.main_arg5)) (m ((c.tc : Thread Cert.BwdRefIdeal.nD Cert.BwdRefIdeal.τ).loc Cert.BwdRefIdeal.main_arg6)) (m ((c.tc : Thread Cert.BwdRefIdeal.nD Cert.BwdRefIdeal.τ).loc Cert.BwdRefIdeal.main_arg7)) (m ((c.tc : Thread Cert.BwdRefIdeal.nD Cert.BwdRefIdeal.τ).loc Cert.BwdRefIdeal.main_arg8)) (m ((c.tc : Thread Cert.BwdRefIdeal.nD Cert.BwdRefIdeal.τ).loc Cert.BwdRefIdeal.main_arg9))).2.2.2.2.2.1 = (fun _ => 1#1)
    ∧ (Cert.Pre_bwd_finite.fn (F := Ideal) (m ((c.tc : Thread Cert.BwdRefIdeal.nD Cert.BwdRefIdeal.τ).loc Cert.BwdRefIdeal.main_arg0)) (m ((c.tc : Thread Cert.BwdRefIdeal.nD Cert.BwdRefIdeal.τ).loc Cert.BwdRefIdeal.main_arg1)) (m ((c.tc : Thread Cert.BwdRefIdeal.nD Cert.BwdRefIdeal.τ).loc Cert.BwdRefIdeal.main_arg2)) (m ((c.tc : Thread Cert.BwdRefIdeal.nD Cert.BwdRefIdeal.τ).loc Cert.BwdRefIdeal.main_arg3)) (m ((c.tc : Thread Cert.BwdRefIdeal.nD Cert.BwdRefIdeal.τ).loc Cert.BwdRefIdeal.main_arg4)) (m ((c.tc : Thread Cert.BwdRefIdeal.nD Cert.BwdRefIdeal.τ).loc Cert.BwdRefIdeal.main_arg5)) (m ((c.tc : Thread Cert.BwdRefIdeal.nD Cert.BwdRefIdeal.τ).loc Cert.BwdRefIdeal.main_arg6)) (m ((c.tc : Thread Cert.BwdRefIdeal.nD Cert.BwdRefIdeal.τ).loc Cert.BwdRefIdeal.main_arg7)) (m ((c.tc : Thread Cert.BwdRefIdeal.nD Cert.BwdRefIdeal.τ).loc Cert.BwdRefIdeal.main_arg8)) (m ((c.tc : Thread Cert.BwdRefIdeal.nD Cert.BwdRefIdeal.τ).loc Cert.BwdRefIdeal.main_arg9))).2.2.2.2.2.2.1 = (fun _ => 1#1)
    ∧ (Cert.Pre_bwd_finite.fn (F := Ideal) (m ((c.tc : Thread Cert.BwdRefIdeal.nD Cert.BwdRefIdeal.τ).loc Cert.BwdRefIdeal.main_arg0)) (m ((c.tc : Thread Cert.BwdRefIdeal.nD Cert.BwdRefIdeal.τ).loc Cert.BwdRefIdeal.main_arg1)) (m ((c.tc : Thread Cert.BwdRefIdeal.nD Cert.BwdRefIdeal.τ).loc Cert.BwdRefIdeal.main_arg2)) (m ((c.tc : Thread Cert.BwdRefIdeal.nD Cert.BwdRefIdeal.τ).loc Cert.BwdRefIdeal.main_arg3)) (m ((c.tc : Thread Cert.BwdRefIdeal.nD Cert.BwdRefIdeal.τ).loc Cert.BwdRefIdeal.main_arg4)) (m ((c.tc : Thread Cert.BwdRefIdeal.nD Cert.BwdRefIdeal.τ).loc Cert.BwdRefIdeal.main_arg5)) (m ((c.tc : Thread Cert.BwdRefIdeal.nD Cert.BwdRefIdeal.τ).loc Cert.BwdRefIdeal.main_arg6)) (m ((c.tc : Thread Cert.BwdRefIdeal.nD Cert.BwdRefIdeal.τ).loc Cert.BwdRefIdeal.main_arg7)) (m ((c.tc : Thread Cert.BwdRefIdeal.nD Cert.BwdRefIdeal.τ).loc Cert.BwdRefIdeal.main_arg8)) (m ((c.tc : Thread Cert.BwdRefIdeal.nD Cert.BwdRefIdeal.τ).loc Cert.BwdRefIdeal.main_arg9))).2.2.2.2.2.2.2.1 = (fun _ => 1#1)
    ∧ (Cert.Pre_bwd_finite.fn (F := Ideal) (m ((c.tc : Thread Cert.BwdRefIdeal.nD Cert.BwdRefIdeal.τ).loc Cert.BwdRefIdeal.main_arg0)) (m ((c.tc : Thread Cert.BwdRefIdeal.nD Cert.BwdRefIdeal.τ).loc Cert.BwdRefIdeal.main_arg1)) (m ((c.tc : Thread Cert.BwdRefIdeal.nD Cert.BwdRefIdeal.τ).loc Cert.BwdRefIdeal.main_arg2)) (m ((c.tc : Thread Cert.BwdRefIdeal.nD Cert.BwdRefIdeal.τ).loc Cert.BwdRefIdeal.main_arg3)) (m ((c.tc : Thread Cert.BwdRefIdeal.nD Cert.BwdRefIdeal.τ).loc Cert.BwdRefIdeal.main_arg4)) (m ((c.tc : Thread Cert.BwdRefIdeal.nD Cert.BwdRefIdeal.τ).loc Cert.BwdRefIdeal.main_arg5)) (m ((c.tc : Thread Cert.BwdRefIdeal.nD Cert.BwdRefIdeal.τ).loc Cert.BwdRefIdeal.main_arg6)) (m ((c.tc : Thread Cert.BwdRefIdeal.nD Cert.BwdRefIdeal.τ).loc Cert.BwdRefIdeal.main_arg7)) (m ((c.tc : Thread Cert.BwdRefIdeal.nD Cert.BwdRefIdeal.τ).loc Cert.BwdRefIdeal.main_arg8)) (m ((c.tc : Thread Cert.BwdRefIdeal.nD Cert.BwdRefIdeal.τ).loc Cert.BwdRefIdeal.main_arg9))).2.2.2.2.2.2.2.2 = (fun _ => 1#1)

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_fwd_finite [hPre_fwd_finite : Cert.Pre_fwd_finite.Facts] (m : (ℓ : Loc Cert.FwdIdeal.nD Cert.FwdIdeal.τ Cert.FwdIdeal.sig) → Buf (Elt Ideal) ℓ) : Prop :=
  ∀ c : Dev Cert.FwdIdeal.nD,
    (Cert.Pre_fwd_finite.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3)) (m ((c.tc : Thread Cert.FwdIdeal.nD Cert.FwdIdeal.τ).loc Cert.FwdIdeal.main_arg4)) (m ((c.tc : Thread Cert.FwdIdeal.nD Cert.FwdIdeal.τ).loc Cert.FwdIdeal.main_arg5)) (m ((c.tc : Thread Cert.FwdIdeal.nD Cert.FwdIdeal.τ).loc Cert.FwdIdeal.main_arg6)) (m ((c.tc : Thread Cert.FwdIdeal.nD Cert.FwdIdeal.τ).loc Cert.FwdIdeal.main_arg7)) (m ((c.tc : Thread Cert.FwdIdeal.nD Cert.FwdIdeal.τ).loc Cert.FwdIdeal.main_arg8))).1 = (fun _ => 1#1)
    ∧ (Cert.Pre_fwd_finite.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3)) (m ((c.tc : Thread Cert.FwdIdeal.nD Cert.FwdIdeal.τ).loc Cert.FwdIdeal.main_arg4)) (m ((c.tc : Thread Cert.FwdIdeal.nD Cert.FwdIdeal.τ).loc Cert.FwdIdeal.main_arg5)) (m ((c.tc : Thread Cert.FwdIdeal.nD Cert.FwdIdeal.τ).loc Cert.FwdIdeal.main_arg6)) (m ((c.tc : Thread Cert.FwdIdeal.nD Cert.FwdIdeal.τ).loc Cert.FwdIdeal.main_arg7)) (m ((c.tc : Thread Cert.FwdIdeal.nD Cert.FwdIdeal.τ).loc Cert.FwdIdeal.main_arg8))).2.1 = (fun _ => 1#1)
    ∧ (Cert.Pre_fwd_finite.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3)) (m ((c.tc : Thread Cert.FwdIdeal.nD Cert.FwdIdeal.τ).loc Cert.FwdIdeal.main_arg4)) (m ((c.tc : Thread Cert.FwdIdeal.nD Cert.FwdIdeal.τ).loc Cert.FwdIdeal.main_arg5)) (m ((c.tc : Thread Cert.FwdIdeal.nD Cert.FwdIdeal.τ).loc Cert.FwdIdeal.main_arg6)) (m ((c.tc : Thread Cert.FwdIdeal.nD Cert.FwdIdeal.τ).loc Cert.FwdIdeal.main_arg7)) (m ((c.tc : Thread Cert.FwdIdeal.nD Cert.FwdIdeal.τ).loc Cert.FwdIdeal.main_arg8))).2.2 = (fun _ => 1#1)

def Pre_FwdRefIdeal (m : (ℓ : Loc Cert.FwdRefIdeal.nD Cert.FwdRefIdeal.τ Cert.FwdRefIdeal.sig) → Buf (Elt Ideal) ℓ) : Prop :=
  True

def Pre_FwdRefIdeal_fwd_finite [hPre_fwd_finite : Cert.Pre_fwd_finite.Facts] (m : (ℓ : Loc Cert.FwdRefIdeal.nD Cert.FwdRefIdeal.τ Cert.FwdRefIdeal.sig) → Buf (Elt Ideal) ℓ) : Prop :=
  ∀ c : Dev Cert.FwdRefIdeal.nD,
    (Cert.Pre_fwd_finite.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2)) (m ((c.tc : Thread Cert.FwdRefIdeal.nD Cert.FwdRefIdeal.τ).loc Cert.FwdRefIdeal.main_arg3)) (m ((c.tc : Thread Cert.FwdRefIdeal.nD Cert.FwdRefIdeal.τ).loc Cert.FwdRefIdeal.main_arg4)) (m ((c.tc : Thread Cert.FwdRefIdeal.nD Cert.FwdRefIdeal.τ).loc Cert.FwdRefIdeal.main_arg5)) (m ((c.tc : Thread Cert.FwdRefIdeal.nD Cert.FwdRefIdeal.τ).loc Cert.FwdRefIdeal.main_arg6)) (m ((c.tc : Thread Cert.FwdRefIdeal.nD Cert.FwdRefIdeal.τ).loc Cert.FwdRefIdeal.main_arg7)) (m ((c.tc : Thread Cert.FwdRefIdeal.nD Cert.FwdRefIdeal.τ).loc Cert.FwdRefIdeal.main_arg8))).1 = (fun _ => 1#1)
    ∧ (Cert.Pre_fwd_finite.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2)) (m ((c.tc : Thread Cert.FwdRefIdeal.nD Cert.FwdRefIdeal.τ).loc Cert.FwdRefIdeal.main_arg3)) (m ((c.tc : Thread Cert.FwdRefIdeal.nD Cert.FwdRefIdeal.τ).loc Cert.FwdRefIdeal.main_arg4)) (m ((c.tc : Thread Cert.FwdRefIdeal.nD Cert.FwdRefIdeal.τ).loc Cert.FwdRefIdeal.main_arg5)) (m ((c.tc : Thread Cert.FwdRefIdeal.nD Cert.FwdRefIdeal.τ).loc Cert.FwdRefIdeal.main_arg6)) (m ((c.tc : Thread Cert.FwdRefIdeal.nD Cert.FwdRefIdeal.τ).loc Cert.FwdRefIdeal.main_arg7)) (m ((c.tc : Thread Cert.FwdRefIdeal.nD Cert.FwdRefIdeal.τ).loc Cert.FwdRefIdeal.main_arg8))).2.1 = (fun _ => 1#1)
    ∧ (Cert.Pre_fwd_finite.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2)) (m ((c.tc : Thread Cert.FwdRefIdeal.nD Cert.FwdRefIdeal.τ).loc Cert.FwdRefIdeal.main_arg3)) (m ((c.tc : Thread Cert.FwdRefIdeal.nD Cert.FwdRefIdeal.τ).loc Cert.FwdRefIdeal.main_arg4)) (m ((c.tc : Thread Cert.FwdRefIdeal.nD Cert.FwdRefIdeal.τ).loc Cert.FwdRefIdeal.main_arg5)) (m ((c.tc : Thread Cert.FwdRefIdeal.nD Cert.FwdRefIdeal.τ).loc Cert.FwdRefIdeal.main_arg6)) (m ((c.tc : Thread Cert.FwdRefIdeal.nD Cert.FwdRefIdeal.τ).loc Cert.FwdRefIdeal.main_arg7)) (m ((c.tc : Thread Cert.FwdRefIdeal.nD Cert.FwdRefIdeal.τ).loc Cert.FwdRefIdeal.main_arg8))).2.2 = (fun _ => 1#1)

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Opt (m : (ℓ : Loc Cert.Opt.nD Cert.Opt.τ Cert.Opt.sig) → Buf (Elt Bits) ℓ) : Prop :=
  True

def Pre_OptIdeal (m : (ℓ : Loc Cert.OptIdeal.nD Cert.OptIdeal.τ Cert.OptIdeal.sig) → Buf (Elt Ideal) ℓ) : Prop :=
  True

def Pre_OptRefIdeal (m : (ℓ : Loc Cert.OptRefIdeal.nD Cert.OptRefIdeal.τ Cert.OptRefIdeal.sig) → Buf (Elt Ideal) ℓ) : Prop :=
  True

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6))
      ∧ r.2.sem = fun _ => 0)

def quiescent_MlpIdeal_pre_mlp_finite [hMlpIdeal : Cert.MlpIdeal.Facts] [hPre_mlp_finite : Cert.Pre_mlp_finite.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal_mlp_finite m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6))
      ∧ r.2.sem = fun _ => 0)

def quiescent_MlpRefIdeal_pre_mlp_finite [hMlpRefIdeal : Cert.MlpRefIdeal.Facts] [hPre_mlp_finite : Cert.Pre_mlp_finite.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal_mlp_finite m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6))
      ∧ r.2.sem = fun _ => 0)

def quiescent_Bwd [hBwd : Cert.Bwd.Facts] : Prop :=
  ∀ (m : (ℓ : Loc Cert.Bwd.nD Cert.Bwd.τ Cert.Bwd.sig) → Buf (Elt Bits) ℓ) (g : Dev Cert.Bwd.nD → PrngReg), Pre_Bwd m →
    θ_run (Cert.Bwd.defs (F := Bits)) (onTc (τ := Cert.Bwd.τ) (Cert.Bwd.main (F := Bits))) ⟨m, fun _ => 0, g⟩ (fun r => (∀ c : Dev Cert.Bwd.nD,
      r.2.mem ((c.tc : Thread Cert.Bwd.nD Cert.Bwd.τ).loc Cert.Bwd.main_arg0) = m ((c.tc : Thread Cert.Bwd.nD Cert.Bwd.τ).loc Cert.Bwd.main_arg0)
      ∧ r.2.mem ((c.tc : Thread Cert.Bwd.nD Cert.Bwd.τ).loc Cert.Bwd.main_arg1) = m ((c.tc : Thread Cert.Bwd.nD Cert.Bwd.τ).loc Cert.Bwd.main_arg1)
      ∧ r.2.mem ((c.tc : Thread Cert.Bwd.nD Cert.Bwd.τ).loc Cert.Bwd.main_arg2) = m ((c.tc : Thread Cert.Bwd.nD Cert.Bwd.τ).loc Cert.Bwd.main_arg2)
      ∧ r.2.mem ((c.tc : Thread Cert.Bwd.nD Cert.Bwd.τ).loc Cert.Bwd.main_arg3) = m ((c.tc : Thread Cert.Bwd.nD Cert.Bwd.τ).loc Cert.Bwd.main_arg3)
      ∧ r.2.mem ((c.tc : Thread Cert.Bwd.nD Cert.Bwd.τ).loc Cert.Bwd.main_arg4) = m ((c.tc : Thread Cert.Bwd.nD Cert.Bwd.τ).loc Cert.Bwd.main_arg4)
      ∧ r.2.mem ((c.tc : Thread Cert.Bwd.nD Cert.Bwd.τ).loc Cert.Bwd.main_arg5) = m ((c.tc : Thread Cert.Bwd.nD Cert.Bwd.τ).loc Cert.Bwd.main_arg5)
      ∧ r.2.mem ((c.tc : Thread Cert.Bwd.nD Cert.Bwd.τ).loc Cert.Bwd.main_arg6) = m ((c.tc : Thread Cert.Bwd.nD Cert.Bwd.τ).loc Cert.Bwd.main_arg6)
      ∧ r.2.mem ((c.tc : Thread Cert.Bwd.nD Cert.Bwd.τ).loc Cert.Bwd.main_arg7) = m ((c.tc : Thread Cert.Bwd.nD Cert.Bwd.τ).loc Cert.Bwd.main_arg7)
      ∧ r.2.mem ((c.tc : Thread Cert.Bwd.nD Cert.Bwd.τ).loc Cert.Bwd.main_arg8) = m ((c.tc : Thread Cert.Bwd.nD Cert.Bwd.τ).loc Cert.Bwd.main_arg8)
      ∧ r.2.mem ((c.tc : Thread Cert.Bwd.nD Cert.Bwd.τ).loc Cert.Bwd.main_arg9) = m ((c.tc : Thread Cert.Bwd.nD Cert.Bwd.τ).loc Cert.Bwd.main_arg9))
      ∧ r.2.sem = fun _ => 0)

def quiescent_BwdIdeal [hBwdIdeal : Cert.BwdIdeal.Facts] : Prop :=
  ∀ (m : (ℓ : Loc Cert.BwdIdeal.nD Cert.BwdIdeal.τ Cert.BwdIdeal.sig) → Buf (Elt Ideal) ℓ) (g : Dev Cert.BwdIdeal.nD → PrngReg), Pre_BwdIdeal m →
    θ_run (Cert.BwdIdeal.defs (F := Ideal)) (onTc (τ := Cert.BwdIdeal.τ) (Cert.BwdIdeal.main (F := Ideal))) ⟨m, fun _ => 0, g⟩ (fun r => (∀ c : Dev Cert.BwdIdeal.nD,
      r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
      ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
      ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
      ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3)
      ∧ r.2.mem ((c.tc : Thread Cert.BwdIdeal.nD Cert.BwdIdeal.τ).loc Cert.BwdIdeal.main_arg4) = m ((c.tc : Thread Cert.BwdIdeal.nD Cert.BwdIdeal.τ).loc Cert.BwdIdeal.main_arg4)
      ∧ r.2.mem ((c.tc : Thread Cert.BwdIdeal.nD Cert.BwdIdeal.τ).loc Cert.BwdIdeal.main_arg5) = m ((c.tc : Thread Cert.BwdIdeal.nD Cert.BwdIdeal.τ).loc Cert.BwdIdeal.main_arg5)
      ∧ r.2.mem ((c.tc : Thread Cert.BwdIdeal.nD Cert.BwdIdeal.τ).loc Cert.BwdIdeal.main_arg6) = m ((c.tc : Thread Cert.BwdIdeal.nD Cert.BwdIdeal.τ).loc Cert.BwdIdeal.main_arg6)
      ∧ r.2.mem ((c.tc : Thread Cert.BwdIdeal.nD Cert.BwdIdeal.τ).loc Cert.BwdIdeal.main_arg7) = m ((c.tc : Thread Cert.BwdIdeal.nD Cert.BwdIdeal.τ).loc Cert.BwdIdeal.main_arg7)
      ∧ r.2.mem ((c.tc : Thread Cert.BwdIdeal.nD Cert.BwdIdeal.τ).loc Cert.BwdIdeal.main_arg8) = m ((c.tc : Thread Cert.BwdIdeal.nD Cert.BwdIdeal.τ).loc Cert.BwdIdeal.main_arg8)
      ∧ r.2.mem ((c.tc : Thread Cert.BwdIdeal.nD Cert.BwdIdeal.τ).loc Cert.BwdIdeal.main_arg9) = m ((c.tc : Thread Cert.BwdIdeal.nD Cert.BwdIdeal.τ).loc Cert.BwdIdeal.main_arg9))
      ∧ r.2.sem = fun _ => 0)

def quiescent_BwdIdeal_pre_bwd_finite [hBwdIdeal : Cert.BwdIdeal.Facts] [hPre_bwd_finite : Cert.Pre_bwd_finite.Facts] : Prop :=
  ∀ (m : (ℓ : Loc Cert.BwdIdeal.nD Cert.BwdIdeal.τ Cert.BwdIdeal.sig) → Buf (Elt Ideal) ℓ) (g : Dev Cert.BwdIdeal.nD → PrngReg), Pre_BwdIdeal_bwd_finite m →
    θ_run (Cert.BwdIdeal.defs (F := Ideal)) (onTc (τ := Cert.BwdIdeal.τ) (Cert.BwdIdeal.main (F := Ideal))) ⟨m, fun _ => 0, g⟩ (fun r => (∀ c : Dev Cert.BwdIdeal.nD,
      r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
      ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
      ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
      ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3)
      ∧ r.2.mem ((c.tc : Thread Cert.BwdIdeal.nD Cert.BwdIdeal.τ).loc Cert.BwdIdeal.main_arg4) = m ((c.tc : Thread Cert.BwdIdeal.nD Cert.BwdIdeal.τ).loc Cert.BwdIdeal.main_arg4)
      ∧ r.2.mem ((c.tc : Thread Cert.BwdIdeal.nD Cert.BwdIdeal.τ).loc Cert.BwdIdeal.main_arg5) = m ((c.tc : Thread Cert.BwdIdeal.nD Cert.BwdIdeal.τ).loc Cert.BwdIdeal.main_arg5)
      ∧ r.2.mem ((c.tc : Thread Cert.BwdIdeal.nD Cert.BwdIdeal.τ).loc Cert.BwdIdeal.main_arg6) = m ((c.tc : Thread Cert.BwdIdeal.nD Cert.BwdIdeal.τ).loc Cert.BwdIdeal.main_arg6)
      ∧ r.2.mem ((c.tc : Thread Cert.BwdIdeal.nD Cert.BwdIdeal.τ).loc Cert.BwdIdeal.main_arg7) = m ((c.tc : Thread Cert.BwdIdeal.nD Cert.BwdIdeal.τ).loc Cert.BwdIdeal.main_arg7)
      ∧ r.2.mem ((c.tc : Thread Cert.BwdIdeal.nD Cert.BwdIdeal.τ).loc Cert.BwdIdeal.main_arg8) = m ((c.tc : Thread Cert.BwdIdeal.nD Cert.BwdIdeal.τ).loc Cert.BwdIdeal.main_arg8)
      ∧ r.2.mem ((c.tc : Thread Cert.BwdIdeal.nD Cert.BwdIdeal.τ).loc Cert.BwdIdeal.main_arg9) = m ((c.tc : Thread Cert.BwdIdeal.nD Cert.BwdIdeal.τ).loc Cert.BwdIdeal.main_arg9))
      ∧ r.2.sem = fun _ => 0)

def quiescent_BwdRefIdeal [hBwdRefIdeal : Cert.BwdRefIdeal.Facts] : Prop :=
  ∀ (m : (ℓ : Loc Cert.BwdRefIdeal.nD Cert.BwdRefIdeal.τ Cert.BwdRefIdeal.sig) → Buf (Elt Ideal) ℓ) (g : Dev Cert.BwdRefIdeal.nD → PrngReg), Pre_BwdRefIdeal m →
    θ_run (Cert.BwdRefIdeal.defs (F := Ideal)) (onTc (τ := Cert.BwdRefIdeal.τ) (Cert.BwdRefIdeal.main (F := Ideal))) ⟨m, fun _ => 0, g⟩ (fun r => (∀ c : Dev Cert.BwdRefIdeal.nD,
      r.2.mem ((c.tc : Thread Cert.BwdRefIdeal.nD Cert.BwdRefIdeal.τ).loc Cert.BwdRefIdeal.main_arg0) = m ((c.tc : Thread Cert.BwdRefIdeal.nD Cert.BwdRefIdeal.τ).loc Cert.BwdRefIdeal.main_arg0)
      ∧ r.2.mem ((c.tc : Thread Cert.BwdRefIdeal.nD Cert.BwdRefIdeal.τ).loc Cert.BwdRefIdeal.main_arg1) = m ((c.tc : Thread Cert.BwdRefIdeal.nD Cert.BwdRefIdeal.τ).loc Cert.BwdRefIdeal.main_arg1)
      ∧ r.2.mem ((c.tc : Thread Cert.BwdRefIdeal.nD Cert.BwdRefIdeal.τ).loc Cert.BwdRefIdeal.main_arg2) = m ((c.tc : Thread Cert.BwdRefIdeal.nD Cert.BwdRefIdeal.τ).loc Cert.BwdRefIdeal.main_arg2)
      ∧ r.2.mem ((c.tc : Thread Cert.BwdRefIdeal.nD Cert.BwdRefIdeal.τ).loc Cert.BwdRefIdeal.main_arg3) = m ((c.tc : Thread Cert.BwdRefIdeal.nD Cert.BwdRefIdeal.τ).loc Cert.BwdRefIdeal.main_arg3)
      ∧ r.2.mem ((c.tc : Thread Cert.BwdRefIdeal.nD Cert.BwdRefIdeal.τ).loc Cert.BwdRefIdeal.main_arg4) = m ((c.tc : Thread Cert.BwdRefIdeal.nD Cert.BwdRefIdeal.τ).loc Cert.BwdRefIdeal.main_arg4)
      ∧ r.2.mem ((c.tc : Thread Cert.BwdRefIdeal.nD Cert.BwdRefIdeal.τ).loc Cert.BwdRefIdeal.main_arg5) = m ((c.tc : Thread Cert.BwdRefIdeal.nD Cert.BwdRefIdeal.τ).loc Cert.BwdRefIdeal.main_arg5)
      ∧ r.2.mem ((c.tc : Thread Cert.BwdRefIdeal.nD Cert.BwdRefIdeal.τ).loc Cert.BwdRefIdeal.main_arg6) = m ((c.tc : Thread Cert.BwdRefIdeal.nD Cert.BwdRefIdeal.τ).loc Cert.BwdRefIdeal.main_arg6)
      ∧ r.2.mem ((c.tc : Thread Cert.BwdRefIdeal.nD Cert.BwdRefIdeal.τ).loc Cert.BwdRefIdeal.main_arg7) = m ((c.tc : Thread Cert.BwdRefIdeal.nD Cert.BwdRefIdeal.τ).loc Cert.BwdRefIdeal.main_arg7)
      ∧ r.2.mem ((c.tc : Thread Cert.BwdRefIdeal.nD Cert.BwdRefIdeal.τ).loc Cert.BwdRefIdeal.main_arg8) = m ((c.tc : Thread Cert.BwdRefIdeal.nD Cert.BwdRefIdeal.τ).loc Cert.BwdRefIdeal.main_arg8)
      ∧ r.2.mem ((c.tc : Thread Cert.BwdRefIdeal.nD Cert.BwdRefIdeal.τ).loc Cert.BwdRefIdeal.main_arg9) = m ((c.tc : Thread Cert.BwdRefIdeal.nD Cert.BwdRefIdeal.τ).loc Cert.BwdRefIdeal.main_arg9))
      ∧ r.2.sem = fun _ => 0)

def quiescent_BwdRefIdeal_pre_bwd_finite [hBwdRefIdeal : Cert.BwdRefIdeal.Facts] [hPre_bwd_finite : Cert.Pre_bwd_finite.Facts] : Prop :=
  ∀ (m : (ℓ : Loc Cert.BwdRefIdeal.nD Cert.BwdRefIdeal.τ Cert.BwdRefIdeal.sig) → Buf (Elt Ideal) ℓ) (g : Dev Cert.BwdRefIdeal.nD → PrngReg), Pre_BwdRefIdeal_bwd_finite m →
    θ_run (Cert.BwdRefIdeal.defs (F := Ideal)) (onTc (τ := Cert.BwdRefIdeal.τ) (Cert.BwdRefIdeal.main (F := Ideal))) ⟨m, fun _ => 0, g⟩ (fun r => (∀ c : Dev Cert.BwdRefIdeal.nD,
      r.2.mem ((c.tc : Thread Cert.BwdRefIdeal.nD Cert.BwdRefIdeal.τ).loc Cert.BwdRefIdeal.main_arg0) = m ((c.tc : Thread Cert.BwdRefIdeal.nD Cert.BwdRefIdeal.τ).loc Cert.BwdRefIdeal.main_arg0)
      ∧ r.2.mem ((c.tc : Thread Cert.BwdRefIdeal.nD Cert.BwdRefIdeal.τ).loc Cert.BwdRefIdeal.main_arg1) = m ((c.tc : Thread Cert.BwdRefIdeal.nD Cert.BwdRefIdeal.τ).loc Cert.BwdRefIdeal.main_arg1)
      ∧ r.2.mem ((c.tc : Thread Cert.BwdRefIdeal.nD Cert.BwdRefIdeal.τ).loc Cert.BwdRefIdeal.main_arg2) = m ((c.tc : Thread Cert.BwdRefIdeal.nD Cert.BwdRefIdeal.τ).loc Cert.BwdRefIdeal.main_arg2)
      ∧ r.2.mem ((c.tc : Thread Cert.BwdRefIdeal.nD Cert.BwdRefIdeal.τ).loc Cert.BwdRefIdeal.main_arg3) = m ((c.tc : Thread Cert.BwdRefIdeal.nD Cert.BwdRefIdeal.τ).loc Cert.BwdRefIdeal.main_arg3)
      ∧ r.2.mem ((c.tc : Thread Cert.BwdRefIdeal.nD Cert.BwdRefIdeal.τ).loc Cert.BwdRefIdeal.main_arg4) = m ((c.tc : Thread Cert.BwdRefIdeal.nD Cert.BwdRefIdeal.τ).loc Cert.BwdRefIdeal.main_arg4)
      ∧ r.2.mem ((c.tc : Thread Cert.BwdRefIdeal.nD Cert.BwdRefIdeal.τ).loc Cert.BwdRefIdeal.main_arg5) = m ((c.tc : Thread Cert.BwdRefIdeal.nD Cert.BwdRefIdeal.τ).loc Cert.BwdRefIdeal.main_arg5)
      ∧ r.2.mem ((c.tc : Thread Cert.BwdRefIdeal.nD Cert.BwdRefIdeal.τ).loc Cert.BwdRefIdeal.main_arg6) = m ((c.tc : Thread Cert.BwdRefIdeal.nD Cert.BwdRefIdeal.τ).loc Cert.BwdRefIdeal.main_arg6)
      ∧ r.2.mem ((c.tc : Thread Cert.BwdRefIdeal.nD Cert.BwdRefIdeal.τ).loc Cert.BwdRefIdeal.main_arg7) = m ((c.tc : Thread Cert.BwdRefIdeal.nD Cert.BwdRefIdeal.τ).loc Cert.BwdRefIdeal.main_arg7)
      ∧ r.2.mem ((c.tc : Thread Cert.BwdRefIdeal.nD Cert.BwdRefIdeal.τ).loc Cert.BwdRefIdeal.main_arg8) = m ((c.tc : Thread Cert.BwdRefIdeal.nD Cert.BwdRefIdeal.τ).loc Cert.BwdRefIdeal.main_arg8)
      ∧ r.2.mem ((c.tc : Thread Cert.BwdRefIdeal.nD Cert.BwdRefIdeal.τ).loc Cert.BwdRefIdeal.main_arg9) = m ((c.tc : Thread Cert.BwdRefIdeal.nD Cert.BwdRefIdeal.τ).loc Cert.BwdRefIdeal.main_arg9))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3)
      ∧ r.2.mem ((c.tc : Thread Cert.Fwd.nD Cert.Fwd.τ).loc Cert.Fwd.main_arg4) = m ((c.tc : Thread Cert.Fwd.nD Cert.Fwd.τ).loc Cert.Fwd.main_arg4)
      ∧ r.2.mem ((c.tc : Thread Cert.Fwd.nD Cert.Fwd.τ).loc Cert.Fwd.main_arg5) = m ((c.tc : Thread Cert.Fwd.nD Cert.Fwd.τ).loc Cert.Fwd.main_arg5)
      ∧ r.2.mem ((c.tc : Thread Cert.Fwd.nD Cert.Fwd.τ).loc Cert.Fwd.main_arg6) = m ((c.tc : Thread Cert.Fwd.nD Cert.Fwd.τ).loc Cert.Fwd.main_arg6)
      ∧ r.2.mem ((c.tc : Thread Cert.Fwd.nD Cert.Fwd.τ).loc Cert.Fwd.main_arg7) = m ((c.tc : Thread Cert.Fwd.nD Cert.Fwd.τ).loc Cert.Fwd.main_arg7)
      ∧ r.2.mem ((c.tc : Thread Cert.Fwd.nD Cert.Fwd.τ).loc Cert.Fwd.main_arg8) = m ((c.tc : Thread Cert.Fwd.nD Cert.Fwd.τ).loc Cert.Fwd.main_arg8))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
      ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
      ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6)
      ∧ r.2.mem ((c.tc : Thread Cert.FwdIdeal.nD Cert.FwdIdeal.τ).loc Cert.FwdIdeal.main_arg7) = m ((c.tc : Thread Cert.FwdIdeal.nD Cert.FwdIdeal.τ).loc Cert.FwdIdeal.main_arg7)
      ∧ r.2.mem ((c.tc : Thread Cert.FwdIdeal.nD Cert.FwdIdeal.τ).loc Cert.FwdIdeal.main_arg8) = m ((c.tc : Thread Cert.FwdIdeal.nD Cert.FwdIdeal.τ).loc Cert.FwdIdeal.main_arg8))
      ∧ r.2.sem = fun _ => 0)

def quiescent_FwdIdeal_pre_fwd_finite [hFwdIdeal : Cert.FwdIdeal.Facts] [hPre_fwd_finite : Cert.Pre_fwd_finite.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_fwd_finite m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
      ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
      ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6)
      ∧ r.2.mem ((c.tc : Thread Cert.FwdIdeal.nD Cert.FwdIdeal.τ).loc Cert.FwdIdeal.main_arg7) = m ((c.tc : Thread Cert.FwdIdeal.nD Cert.FwdIdeal.τ).loc Cert.FwdIdeal.main_arg7)
      ∧ r.2.mem ((c.tc : Thread Cert.FwdIdeal.nD Cert.FwdIdeal.τ).loc Cert.FwdIdeal.main_arg8) = m ((c.tc : Thread Cert.FwdIdeal.nD Cert.FwdIdeal.τ).loc Cert.FwdIdeal.main_arg8))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3)
      ∧ r.2.mem ((c.tc : Thread Cert.FwdRefIdeal.nD Cert.FwdRefIdeal.τ).loc Cert.FwdRefIdeal.main_arg4) = m ((c.tc : Thread Cert.FwdRefIdeal.nD Cert.FwdRefIdeal.τ).loc Cert.FwdRefIdeal.main_arg4)
      ∧ r.2.mem ((c.tc : Thread Cert.FwdRefIdeal.nD Cert.FwdRefIdeal.τ).loc Cert.FwdRefIdeal.main_arg5) = m ((c.tc : Thread Cert.FwdRefIdeal.nD Cert.FwdRefIdeal.τ).loc Cert.FwdRefIdeal.main_arg5)
      ∧ r.2.mem ((c.tc : Thread Cert.FwdRefIdeal.nD Cert.FwdRefIdeal.τ).loc Cert.FwdRefIdeal.main_arg6) = m ((c.tc : Thread Cert.FwdRefIdeal.nD Cert.FwdRefIdeal.τ).loc Cert.FwdRefIdeal.main_arg6)
      ∧ r.2.mem ((c.tc : Thread Cert.FwdRefIdeal.nD Cert.FwdRefIdeal.τ).loc Cert.FwdRefIdeal.main_arg7) = m ((c.tc : Thread Cert.FwdRefIdeal.nD Cert.FwdRefIdeal.τ).loc Cert.FwdRefIdeal.main_arg7)
      ∧ r.2.mem ((c.tc : Thread Cert.FwdRefIdeal.nD Cert.FwdRefIdeal.τ).loc Cert.FwdRefIdeal.main_arg8) = m ((c.tc : Thread Cert.FwdRefIdeal.nD Cert.FwdRefIdeal.τ).loc Cert.FwdRefIdeal.main_arg8))
      ∧ r.2.sem = fun _ => 0)

def quiescent_FwdRefIdeal_pre_fwd_finite [hFwdRefIdeal : Cert.FwdRefIdeal.Facts] [hPre_fwd_finite : Cert.Pre_fwd_finite.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal_fwd_finite m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3)
      ∧ r.2.mem ((c.tc : Thread Cert.FwdRefIdeal.nD Cert.FwdRefIdeal.τ).loc Cert.FwdRefIdeal.main_arg4) = m ((c.tc : Thread Cert.FwdRefIdeal.nD Cert.FwdRefIdeal.τ).loc Cert.FwdRefIdeal.main_arg4)
      ∧ r.2.mem ((c.tc : Thread Cert.FwdRefIdeal.nD Cert.FwdRefIdeal.τ).loc Cert.FwdRefIdeal.main_arg5) = m ((c.tc : Thread Cert.FwdRefIdeal.nD Cert.FwdRefIdeal.τ).loc Cert.FwdRefIdeal.main_arg5)
      ∧ r.2.mem ((c.tc : Thread Cert.FwdRefIdeal.nD Cert.FwdRefIdeal.τ).loc Cert.FwdRefIdeal.main_arg6) = m ((c.tc : Thread Cert.FwdRefIdeal.nD Cert.FwdRefIdeal.τ).loc Cert.FwdRefIdeal.main_arg6)
      ∧ r.2.mem ((c.tc : Thread Cert.FwdRefIdeal.nD Cert.FwdRefIdeal.τ).loc Cert.FwdRefIdeal.main_arg7) = m ((c.tc : Thread Cert.FwdRefIdeal.nD Cert.FwdRefIdeal.τ).loc Cert.FwdRefIdeal.main_arg7)
      ∧ r.2.mem ((c.tc : Thread Cert.FwdRefIdeal.nD Cert.FwdRefIdeal.τ).loc Cert.FwdRefIdeal.main_arg8) = m ((c.tc : Thread Cert.FwdRefIdeal.nD Cert.FwdRefIdeal.τ).loc Cert.FwdRefIdeal.main_arg8))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3)
      ∧ r.2.mem ((c.tc : Thread Cert.Ada.nD Cert.Ada.τ).loc Cert.Ada.main_arg4) = m ((c.tc : Thread Cert.Ada.nD Cert.Ada.τ).loc Cert.Ada.main_arg4))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3)
      ∧ r.2.mem ((c.tc : Thread Cert.AdaIdeal.nD Cert.AdaIdeal.τ).loc Cert.AdaIdeal.main_arg4) = m ((c.tc : Thread Cert.AdaIdeal.nD Cert.AdaIdeal.τ).loc Cert.AdaIdeal.main_arg4))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2)
      ∧ r.2.mem ((c.tc : Thread Cert.AdaRefIdeal.nD Cert.AdaRefIdeal.τ).loc Cert.AdaRefIdeal.main_arg3) = m ((c.tc : Thread Cert.AdaRefIdeal.nD Cert.AdaRefIdeal.τ).loc Cert.AdaRefIdeal.main_arg3)
      ∧ r.2.mem ((c.tc : Thread Cert.AdaRefIdeal.nD Cert.AdaRefIdeal.τ).loc Cert.AdaRefIdeal.main_arg4) = m ((c.tc : Thread Cert.AdaRefIdeal.nD Cert.AdaRefIdeal.τ).loc Cert.AdaRefIdeal.main_arg4))
      ∧ r.2.sem = fun _ => 0)

def quiescent_Opt [hOpt : Cert.Opt.Facts] : Prop :=
  ∀ (m : (ℓ : Loc Cert.Opt.nD Cert.Opt.τ Cert.Opt.sig) → Buf (Elt Bits) ℓ) (g : Dev Cert.Opt.nD → PrngReg), Pre_Opt m →
    θ_run (Cert.Opt.defs (F := Bits)) (onTc (τ := Cert.Opt.τ) (Cert.Opt.main (F := Bits))) ⟨m, fun _ => 0, g⟩ (fun r => (∀ c : Dev Cert.Opt.nD,
      r.2.mem ((c.tc : Thread Cert.Opt.nD Cert.Opt.τ).loc Cert.Opt.main_arg0) = m ((c.tc : Thread Cert.Opt.nD Cert.Opt.τ).loc Cert.Opt.main_arg0)
      ∧ r.2.mem ((c.tc : Thread Cert.Opt.nD Cert.Opt.τ).loc Cert.Opt.main_arg1) = m ((c.tc : Thread Cert.Opt.nD Cert.Opt.τ).loc Cert.Opt.main_arg1)
      ∧ r.2.mem ((c.tc : Thread Cert.Opt.nD Cert.Opt.τ).loc Cert.Opt.main_arg2) = m ((c.tc : Thread Cert.Opt.nD Cert.Opt.τ).loc Cert.Opt.main_arg2)
      ∧ r.2.mem ((c.tc : Thread Cert.Opt.nD Cert.Opt.τ).loc Cert.Opt.main_arg3) = m ((c.tc : Thread Cert.Opt.nD Cert.Opt.τ).loc Cert.Opt.main_arg3)
      ∧ r.2.mem ((c.tc : Thread Cert.Opt.nD Cert.Opt.τ).loc Cert.Opt.main_arg4) = m ((c.tc : Thread Cert.Opt.nD Cert.Opt.τ).loc Cert.Opt.main_arg4)
      ∧ r.2.mem ((c.tc : Thread Cert.Opt.nD Cert.Opt.τ).loc Cert.Opt.main_arg5) = m ((c.tc : Thread Cert.Opt.nD Cert.Opt.τ).loc Cert.Opt.main_arg5)
      ∧ r.2.mem ((c.tc : Thread Cert.Opt.nD Cert.Opt.τ).loc Cert.Opt.main_arg6) = m ((c.tc : Thread Cert.Opt.nD Cert.Opt.τ).loc Cert.Opt.main_arg6)
      ∧ r.2.mem ((c.tc : Thread Cert.Opt.nD Cert.Opt.τ).loc Cert.Opt.main_arg7) = m ((c.tc : Thread Cert.Opt.nD Cert.Opt.τ).loc Cert.Opt.main_arg7))
      ∧ r.2.sem = fun _ => 0)

def quiescent_OptIdeal [hOptIdeal : Cert.OptIdeal.Facts] : Prop :=
  ∀ (m : (ℓ : Loc Cert.OptIdeal.nD Cert.OptIdeal.τ Cert.OptIdeal.sig) → Buf (Elt Ideal) ℓ) (g : Dev Cert.OptIdeal.nD → PrngReg), Pre_OptIdeal m →
    θ_run (Cert.OptIdeal.defs (F := Ideal)) (onTc (τ := Cert.OptIdeal.τ) (Cert.OptIdeal.main (F := Ideal))) ⟨m, fun _ => 0, g⟩ (fun r => (∀ c : Dev Cert.OptIdeal.nD,
      r.2.mem ((c.tc : Thread Cert.OptIdeal.nD Cert.OptIdeal.τ).loc Cert.OptIdeal.main_arg0) = m ((c.tc : Thread Cert.OptIdeal.nD Cert.OptIdeal.τ).loc Cert.OptIdeal.main_arg0)
      ∧ r.2.mem ((c.tc : Thread Cert.OptIdeal.nD Cert.OptIdeal.τ).loc Cert.OptIdeal.main_arg1) = m ((c.tc : Thread Cert.OptIdeal.nD Cert.OptIdeal.τ).loc Cert.OptIdeal.main_arg1)
      ∧ r.2.mem ((c.tc : Thread Cert.OptIdeal.nD Cert.OptIdeal.τ).loc Cert.OptIdeal.main_arg2) = m ((c.tc : Thread Cert.OptIdeal.nD Cert.OptIdeal.τ).loc Cert.OptIdeal.main_arg2)
      ∧ r.2.mem ((c.tc : Thread Cert.OptIdeal.nD Cert.OptIdeal.τ).loc Cert.OptIdeal.main_arg3) = m ((c.tc : Thread Cert.OptIdeal.nD Cert.OptIdeal.τ).loc Cert.OptIdeal.main_arg3)
      ∧ r.2.mem ((c.tc : Thread Cert.OptIdeal.nD Cert.OptIdeal.τ).loc Cert.OptIdeal.main_arg4) = m ((c.tc : Thread Cert.OptIdeal.nD Cert.OptIdeal.τ).loc Cert.OptIdeal.main_arg4)
      ∧ r.2.mem ((c.tc : Thread Cert.OptIdeal.nD Cert.OptIdeal.τ).loc Cert.OptIdeal.main_arg5) = m ((c.tc : Thread Cert.OptIdeal.nD Cert.OptIdeal.τ).loc Cert.OptIdeal.main_arg5)
      ∧ r.2.mem ((c.tc : Thread Cert.OptIdeal.nD Cert.OptIdeal.τ).loc Cert.OptIdeal.main_arg6) = m ((c.tc : Thread Cert.OptIdeal.nD Cert.OptIdeal.τ).loc Cert.OptIdeal.main_arg6)
      ∧ r.2.mem ((c.tc : Thread Cert.OptIdeal.nD Cert.OptIdeal.τ).loc Cert.OptIdeal.main_arg7) = m ((c.tc : Thread Cert.OptIdeal.nD Cert.OptIdeal.τ).loc Cert.OptIdeal.main_arg7))
      ∧ r.2.sem = fun _ => 0)

def quiescent_OptRefIdeal [hOptRefIdeal : Cert.OptRefIdeal.Facts] : Prop :=
  ∀ (m : (ℓ : Loc Cert.OptRefIdeal.nD Cert.OptRefIdeal.τ Cert.OptRefIdeal.sig) → Buf (Elt Ideal) ℓ) (g : Dev Cert.OptRefIdeal.nD → PrngReg), Pre_OptRefIdeal m →
    θ_run (Cert.OptRefIdeal.defs (F := Ideal)) (onTc (τ := Cert.OptRefIdeal.τ) (Cert.OptRefIdeal.main (F := Ideal))) ⟨m, fun _ => 0, g⟩ (fun r => (∀ c : Dev Cert.OptRefIdeal.nD,
      r.2.mem ((c.tc : Thread Cert.OptRefIdeal.nD Cert.OptRefIdeal.τ).loc Cert.OptRefIdeal.main_arg0) = m ((c.tc : Thread Cert.OptRefIdeal.nD Cert.OptRefIdeal.τ).loc Cert.OptRefIdeal.main_arg0)
      ∧ r.2.mem ((c.tc : Thread Cert.OptRefIdeal.nD Cert.OptRefIdeal.τ).loc Cert.OptRefIdeal.main_arg1) = m ((c.tc : Thread Cert.OptRefIdeal.nD Cert.OptRefIdeal.τ).loc Cert.OptRefIdeal.main_arg1)
      ∧ r.2.mem ((c.tc : Thread Cert.OptRefIdeal.nD Cert.OptRefIdeal.τ).loc Cert.OptRefIdeal.main_arg2) = m ((c.tc : Thread Cert.OptRefIdeal.nD Cert.OptRefIdeal.τ).loc Cert.OptRefIdeal.main_arg2)
      ∧ r.2.mem ((c.tc : Thread Cert.OptRefIdeal.nD Cert.OptRefIdeal.τ).loc Cert.OptRefIdeal.main_arg3) = m ((c.tc : Thread Cert.OptRefIdeal.nD Cert.OptRefIdeal.τ).loc Cert.OptRefIdeal.main_arg3)
      ∧ r.2.mem ((c.tc : Thread Cert.OptRefIdeal.nD Cert.OptRefIdeal.τ).loc Cert.OptRefIdeal.main_arg4) = m ((c.tc : Thread Cert.OptRefIdeal.nD Cert.OptRefIdeal.τ).loc Cert.OptRefIdeal.main_arg4)
      ∧ r.2.mem ((c.tc : Thread Cert.OptRefIdeal.nD Cert.OptRefIdeal.τ).loc Cert.OptRefIdeal.main_arg5) = m ((c.tc : Thread Cert.OptRefIdeal.nD Cert.OptRefIdeal.τ).loc Cert.OptRefIdeal.main_arg5)
      ∧ r.2.mem ((c.tc : Thread Cert.OptRefIdeal.nD Cert.OptRefIdeal.τ).loc Cert.OptRefIdeal.main_arg6) = m ((c.tc : Thread Cert.OptRefIdeal.nD Cert.OptRefIdeal.τ).loc Cert.OptRefIdeal.main_arg6)
      ∧ r.2.mem ((c.tc : Thread Cert.OptRefIdeal.nD Cert.OptRefIdeal.τ).loc Cert.OptRefIdeal.main_arg7) = m ((c.tc : Thread Cert.OptRefIdeal.nD Cert.OptRefIdeal.τ).loc Cert.OptRefIdeal.main_arg7))
      ∧ r.2.sem = fun _ => 0)

def preserves_Mlp_MlpIdeal : Prop :=
  True

def algebraic_MlpIdeal_MlpRefIdeal_pre_mlp_finite [hMlpIdeal : Cert.MlpIdeal.Facts] [hMlpRefIdeal : Cert.MlpRefIdeal.Facts] [hPre_mlp_finite : Cert.Pre_mlp_finite.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal_mlp_finite m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)) →
    ∃ (v0 : (c : Dev Cert.MlpIdeal.nD) → Buf (Elt Ideal) ((c.tc : Thread Cert.MlpIdeal.nD Cert.MlpIdeal.τ).loc Cert.MlpIdeal.main_v10_0)) (v1 : (c : Dev Cert.MlpIdeal.nD) → Buf (Elt Ideal) ((c.tc : Thread Cert.MlpIdeal.nD Cert.MlpIdeal.τ).loc Cert.MlpIdeal.main_v10_1)) (v2 : (c : Dev Cert.MlpIdeal.nD) → Buf (Elt Ideal) ((c.tc : Thread Cert.MlpIdeal.nD Cert.MlpIdeal.τ).loc Cert.MlpIdeal.main_v10_2)) (v3 : (c : Dev Cert.MlpIdeal.nD) → Buf (Elt Ideal) ((c.tc : Thread Cert.MlpIdeal.nD Cert.MlpIdeal.τ).loc Cert.MlpIdeal.main_v10_3)) (v4 : (c : Dev Cert.MlpIdeal.nD) → Buf (Elt Ideal) ((c.tc : Thread Cert.MlpIdeal.nD Cert.MlpIdeal.τ).loc Cert.MlpIdeal.main_v10_4)) (v5 : (c : Dev Cert.MlpIdeal.nD) → Buf (Elt Ideal) ((c.tc : Thread Cert.MlpIdeal.nD Cert.MlpIdeal.τ).loc Cert.MlpIdeal.main_v10_5)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v10_0) = v0 c
          ∧ r.2.mem ((c.tc : Thread Cert.MlpIdeal.nD Cert.MlpIdeal.τ).loc Cert.MlpIdeal.main_v10_1) = v1 c
          ∧ r.2.mem ((c.tc : Thread Cert.MlpIdeal.nD Cert.MlpIdeal.τ).loc Cert.MlpIdeal.main_v10_2) = v2 c
          ∧ r.2.mem ((c.tc : Thread Cert.MlpIdeal.nD Cert.MlpIdeal.τ).loc Cert.MlpIdeal.main_v10_3) = v3 c
          ∧ r.2.mem ((c.tc : Thread Cert.MlpIdeal.nD Cert.MlpIdeal.τ).loc Cert.MlpIdeal.main_v10_4) = v4 c
          ∧ r.2.mem ((c.tc : Thread Cert.MlpIdeal.nD Cert.MlpIdeal.τ).loc Cert.MlpIdeal.main_v10_5) = v5 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v144) = v0 c
          ∧ r.2.mem ((c.tc : Thread Cert.MlpRefIdeal.nD Cert.MlpRefIdeal.τ).loc Cert.MlpRefIdeal.main_v148) = v1 c
          ∧ r.2.mem ((c.tc : Thread Cert.MlpRefIdeal.nD Cert.MlpRefIdeal.τ).loc Cert.MlpRefIdeal.main_v152) = v2 c
          ∧ r.2.mem ((c.tc : Thread Cert.MlpRefIdeal.nD Cert.MlpRefIdeal.τ).loc Cert.MlpRefIdeal.main_v154) = v3 c
          ∧ r.2.mem ((c.tc : Thread Cert.MlpRefIdeal.nD Cert.MlpRefIdeal.τ).loc Cert.MlpRefIdeal.main_v156) = v4 c
          ∧ r.2.mem ((c.tc : Thread Cert.MlpRefIdeal.nD Cert.MlpRefIdeal.τ).loc Cert.MlpRefIdeal.main_v143) = v5 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6))

def preserves_Bwd_BwdIdeal : Prop :=
  True

def algebraic_BwdIdeal_BwdRefIdeal_pre_bwd_finite [hBwdIdeal : Cert.BwdIdeal.Facts] [hBwdRefIdeal : Cert.BwdRefIdeal.Facts] [hPre_bwd_finite : Cert.Pre_bwd_finite.Facts] : Prop :=
  ∀ (m : (ℓ : Loc Cert.BwdIdeal.nD Cert.BwdIdeal.τ Cert.BwdIdeal.sig) → Buf (Elt Ideal) ℓ) (g : Dev Cert.BwdIdeal.nD → PrngReg)
    (m' : (ℓ : Loc Cert.BwdRefIdeal.nD Cert.BwdRefIdeal.τ Cert.BwdRefIdeal.sig) → Buf (Elt Ideal) ℓ) (g' : Dev Cert.BwdRefIdeal.nD → PrngReg), Pre_BwdIdeal_bwd_finite m →
    (∀ c : Dev Cert.BwdIdeal.nD,
      m' ((c.tc : Thread Cert.BwdRefIdeal.nD Cert.BwdRefIdeal.τ).loc Cert.BwdRefIdeal.main_arg0) = m ((c.tc : Thread Cert.BwdIdeal.nD Cert.BwdIdeal.τ).loc Cert.BwdIdeal.main_arg0)
      ∧ m' ((c.tc : Thread Cert.BwdRefIdeal.nD Cert.BwdRefIdeal.τ).loc Cert.BwdRefIdeal.main_arg1) = m ((c.tc : Thread Cert.BwdIdeal.nD Cert.BwdIdeal.τ).loc Cert.BwdIdeal.main_arg1)
      ∧ m' ((c.tc : Thread Cert.BwdRefIdeal.nD Cert.BwdRefIdeal.τ).loc Cert.BwdRefIdeal.main_arg2) = m ((c.tc : Thread Cert.BwdIdeal.nD Cert.BwdIdeal.τ).loc Cert.BwdIdeal.main_arg2)
      ∧ m' ((c.tc : Thread Cert.BwdRefIdeal.nD Cert.BwdRefIdeal.τ).loc Cert.BwdRefIdeal.main_arg3) = m ((c.tc : Thread Cert.BwdIdeal.nD Cert.BwdIdeal.τ).loc Cert.BwdIdeal.main_arg3)
      ∧ m' ((c.tc : Thread Cert.BwdRefIdeal.nD Cert.BwdRefIdeal.τ).loc Cert.BwdRefIdeal.main_arg4) = m ((c.tc : Thread Cert.BwdIdeal.nD Cert.BwdIdeal.τ).loc Cert.BwdIdeal.main_arg4)
      ∧ m' ((c.tc : Thread Cert.BwdRefIdeal.nD Cert.BwdRefIdeal.τ).loc Cert.BwdRefIdeal.main_arg5) = m ((c.tc : Thread Cert.BwdIdeal.nD Cert.BwdIdeal.τ).loc Cert.BwdIdeal.main_arg5)
      ∧ m' ((c.tc : Thread Cert.BwdRefIdeal.nD Cert.BwdRefIdeal.τ).loc Cert.BwdRefIdeal.main_arg6) = m ((c.tc : Thread Cert.BwdIdeal.nD Cert.BwdIdeal.τ).loc Cert.BwdIdeal.main_arg6)
      ∧ m' ((c.tc : Thread Cert.BwdRefIdeal.nD Cert.BwdRefIdeal.τ).loc Cert.BwdRefIdeal.main_arg7) = m ((c.tc : Thread Cert.BwdIdeal.nD Cert.BwdIdeal.τ).loc Cert.BwdIdeal.main_arg7)
      ∧ m' ((c.tc : Thread Cert.BwdRefIdeal.nD Cert.BwdRefIdeal.τ).loc Cert.BwdRefIdeal.main_arg8) = m ((c.tc : Thread Cert.BwdIdeal.nD Cert.BwdIdeal.τ).loc Cert.BwdIdeal.main_arg8)
      ∧ m' ((c.tc : Thread Cert.BwdRefIdeal.nD Cert.BwdRefIdeal.τ).loc Cert.BwdRefIdeal.main_arg9) = m ((c.tc : Thread Cert.BwdIdeal.nD Cert.BwdIdeal.τ).loc Cert.BwdIdeal.main_arg9)) →
    ∃ (v0 : (c : Dev Cert.BwdIdeal.nD) → Buf (Elt Ideal) ((c.tc : Thread Cert.BwdIdeal.nD Cert.BwdIdeal.τ).loc Cert.BwdIdeal.main_v127_0)) (v1 : (c : Dev Cert.BwdIdeal.nD) → Buf (Elt Ideal) ((c.tc : Thread Cert.BwdIdeal.nD Cert.BwdIdeal.τ).loc Cert.BwdIdeal.main_v127_1)) (v2 : (c : Dev Cert.BwdIdeal.nD) → Buf (Elt Ideal) ((c.tc : Thread Cert.BwdIdeal.nD Cert.BwdIdeal.τ).loc Cert.BwdIdeal.main_v127_2)) (v3 : (c : Dev Cert.BwdIdeal.nD) → Buf (Elt Ideal) ((c.tc : Thread Cert.BwdIdeal.nD Cert.BwdIdeal.τ).loc Cert.BwdIdeal.main_v127_3)) (v4 : (c : Dev Cert.BwdIdeal.nD) → Buf (Elt Ideal) ((c.tc : Thread Cert.BwdIdeal.nD Cert.BwdIdeal.τ).loc Cert.BwdIdeal.main_v127_4)) (v5 : (c : Dev Cert.BwdIdeal.nD) → Buf (Elt Ideal) ((c.tc : Thread Cert.BwdIdeal.nD Cert.BwdIdeal.τ).loc Cert.BwdIdeal.main_v127_5)),
      θ_run (Cert.BwdIdeal.defs (F := Ideal)) (onTc (τ := Cert.BwdIdeal.τ) (Cert.BwdIdeal.main (F := Ideal))) ⟨m, fun _ => 0, g⟩ (fun r => ∀ c : Dev Cert.BwdIdeal.nD,
          r.2.mem ((c.tc : Thread Cert.BwdIdeal.nD Cert.BwdIdeal.τ).loc Cert.BwdIdeal.main_v127_0) = v0 c
          ∧ r.2.mem ((c.tc : Thread Cert.BwdIdeal.nD Cert.BwdIdeal.τ).loc Cert.BwdIdeal.main_v127_1) = v1 c
          ∧ r.2.mem ((c.tc : Thread Cert.BwdIdeal.nD Cert.BwdIdeal.τ).loc Cert.BwdIdeal.main_v127_2) = v2 c
          ∧ r.2.mem ((c.tc : Thread Cert.BwdIdeal.nD Cert.BwdIdeal.τ).loc Cert.BwdIdeal.main_v127_3) = v3 c
          ∧ r.2.mem ((c.tc : Thread Cert.BwdIdeal.nD Cert.BwdIdeal.τ).loc Cert.BwdIdeal.main_v127_4) = v4 c
          ∧ r.2.mem ((c.tc : Thread Cert.BwdIdeal.nD Cert.BwdIdeal.τ).loc Cert.BwdIdeal.main_v127_5) = v5 c
          ∧ r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
          ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
          ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
          ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3)
          ∧ r.2.mem ((c.tc : Thread Cert.BwdIdeal.nD Cert.BwdIdeal.τ).loc Cert.BwdIdeal.main_arg4) = m ((c.tc : Thread Cert.BwdIdeal.nD Cert.BwdIdeal.τ).loc Cert.BwdIdeal.main_arg4)
          ∧ r.2.mem ((c.tc : Thread Cert.BwdIdeal.nD Cert.BwdIdeal.τ).loc Cert.BwdIdeal.main_arg5) = m ((c.tc : Thread Cert.BwdIdeal.nD Cert.BwdIdeal.τ).loc Cert.BwdIdeal.main_arg5)
          ∧ r.2.mem ((c.tc : Thread Cert.BwdIdeal.nD Cert.BwdIdeal.τ).loc Cert.BwdIdeal.main_arg6) = m ((c.tc : Thread Cert.BwdIdeal.nD Cert.BwdIdeal.τ).loc Cert.BwdIdeal.main_arg6)
          ∧ r.2.mem ((c.tc : Thread Cert.BwdIdeal.nD Cert.BwdIdeal.τ).loc Cert.BwdIdeal.main_arg7) = m ((c.tc : Thread Cert.BwdIdeal.nD Cert.BwdIdeal.τ).loc Cert.BwdIdeal.main_arg7)
          ∧ r.2.mem ((c.tc : Thread Cert.BwdIdeal.nD Cert.BwdIdeal.τ).loc Cert.BwdIdeal.main_arg8) = m ((c.tc : Thread Cert.BwdIdeal.nD Cert.BwdIdeal.τ).loc Cert.BwdIdeal.main_arg8)
          ∧ r.2.mem ((c.tc : Thread Cert.BwdIdeal.nD Cert.BwdIdeal.τ).loc Cert.BwdIdeal.main_arg9) = m ((c.tc : Thread Cert.BwdIdeal.nD Cert.BwdIdeal.τ).loc Cert.BwdIdeal.main_arg9))
      ∧ θ_run (Cert.BwdRefIdeal.defs (F := Ideal)) (onTc (τ := Cert.BwdRefIdeal.τ) (Cert.BwdRefIdeal.main (F := Ideal))) ⟨m', fun _ => 0, g'⟩ (fun r => ∀ c : Dev Cert.BwdRefIdeal.nD,
          r.2.mem ((c.tc : Thread Cert.BwdRefIdeal.nD Cert.BwdRefIdeal.τ).loc Cert.BwdRefIdeal.main_v335) = v0 c
          ∧ r.2.mem ((c.tc : Thread Cert.BwdRefIdeal.nD Cert.BwdRefIdeal.τ).loc Cert.BwdRefIdeal.main_v334) = v1 c
          ∧ r.2.mem ((c.tc : Thread Cert.BwdRefIdeal.nD Cert.BwdRefIdeal.τ).loc Cert.BwdRefIdeal.main_v337) = v2 c
          ∧ r.2.mem ((c.tc : Thread Cert.BwdRefIdeal.nD Cert.BwdRefIdeal.τ).loc Cert.BwdRefIdeal.main_v327) = v3 c
          ∧ r.2.mem ((c.tc : Thread Cert.BwdRefIdeal.nD Cert.BwdRefIdeal.τ).loc Cert.BwdRefIdeal.main_v330) = v4 c
          ∧ r.2.mem ((c.tc : Thread Cert.BwdRefIdeal.nD Cert.BwdRefIdeal.τ).loc Cert.BwdRefIdeal.main_v338) = v5 c
          ∧ r.2.mem ((c.tc : Thread Cert.BwdRefIdeal.nD Cert.BwdRefIdeal.τ).loc Cert.BwdRefIdeal.main_arg0) = m' ((c.tc : Thread Cert.BwdRefIdeal.nD Cert.BwdRefIdeal.τ).loc Cert.BwdRefIdeal.main_arg0)
          ∧ r.2.mem ((c.tc : Thread Cert.BwdRefIdeal.nD Cert.BwdRefIdeal.τ).loc Cert.BwdRefIdeal.main_arg1) = m' ((c.tc : Thread Cert.BwdRefIdeal.nD Cert.BwdRefIdeal.τ).loc Cert.BwdRefIdeal.main_arg1)
          ∧ r.2.mem ((c.tc : Thread Cert.BwdRefIdeal.nD Cert.BwdRefIdeal.τ).loc Cert.BwdRefIdeal.main_arg2) = m' ((c.tc : Thread Cert.BwdRefIdeal.nD Cert.BwdRefIdeal.τ).loc Cert.BwdRefIdeal.main_arg2)
          ∧ r.2.mem ((c.tc : Thread Cert.BwdRefIdeal.nD Cert.BwdRefIdeal.τ).loc Cert.BwdRefIdeal.main_arg3) = m' ((c.tc : Thread Cert.BwdRefIdeal.nD Cert.BwdRefIdeal.τ).loc Cert.BwdRefIdeal.main_arg3)
          ∧ r.2.mem ((c.tc : Thread Cert.BwdRefIdeal.nD Cert.BwdRefIdeal.τ).loc Cert.BwdRefIdeal.main_arg4) = m' ((c.tc : Thread Cert.BwdRefIdeal.nD Cert.BwdRefIdeal.τ).loc Cert.BwdRefIdeal.main_arg4)
          ∧ r.2.mem ((c.tc : Thread Cert.BwdRefIdeal.nD Cert.BwdRefIdeal.τ).loc Cert.BwdRefIdeal.main_arg5) = m' ((c.tc : Thread Cert.BwdRefIdeal.nD Cert.BwdRefIdeal.τ).loc Cert.BwdRefIdeal.main_arg5)
          ∧ r.2.mem ((c.tc : Thread Cert.BwdRefIdeal.nD Cert.BwdRefIdeal.τ).loc Cert.BwdRefIdeal.main_arg6) = m' ((c.tc : Thread Cert.BwdRefIdeal.nD Cert.BwdRefIdeal.τ).loc Cert.BwdRefIdeal.main_arg6)
          ∧ r.2.mem ((c.tc : Thread Cert.BwdRefIdeal.nD Cert.BwdRefIdeal.τ).loc Cert.BwdRefIdeal.main_arg7) = m' ((c.tc : Thread Cert.BwdRefIdeal.nD Cert.BwdRefIdeal.τ).loc Cert.BwdRefIdeal.main_arg7)
          ∧ r.2.mem ((c.tc : Thread Cert.BwdRefIdeal.nD Cert.BwdRefIdeal.τ).loc Cert.BwdRefIdeal.main_arg8) = m' ((c.tc : Thread Cert.BwdRefIdeal.nD Cert.BwdRefIdeal.τ).loc Cert.BwdRefIdeal.main_arg8)
          ∧ r.2.mem ((c.tc : Thread Cert.BwdRefIdeal.nD Cert.BwdRefIdeal.τ).loc Cert.BwdRefIdeal.main_arg9) = m' ((c.tc : Thread Cert.BwdRefIdeal.nD Cert.BwdRefIdeal.τ).loc Cert.BwdRefIdeal.main_arg9))

def preserves_Fwd_FwdIdeal : Prop :=
  True

def algebraic_FwdIdeal_FwdRefIdeal_pre_fwd_finite [hFwdIdeal : Cert.FwdIdeal.Facts] [hFwdRefIdeal : Cert.FwdRefIdeal.Facts] [hPre_fwd_finite : Cert.Pre_fwd_finite.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal_fwd_finite m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)
      ∧ m' ((c.tc : Thread Cert.FwdRefIdeal.nD Cert.FwdRefIdeal.τ).loc Cert.FwdRefIdeal.main_arg3) = m ((c.tc : Thread Cert.FwdIdeal.nD Cert.FwdIdeal.τ).loc Cert.FwdIdeal.main_arg3)
      ∧ m' ((c.tc : Thread Cert.FwdRefIdeal.nD Cert.FwdRefIdeal.τ).loc Cert.FwdRefIdeal.main_arg4) = m ((c.tc : Thread Cert.FwdIdeal.nD Cert.FwdIdeal.τ).loc Cert.FwdIdeal.main_arg4)
      ∧ m' ((c.tc : Thread Cert.FwdRefIdeal.nD Cert.FwdRefIdeal.τ).loc Cert.FwdRefIdeal.main_arg5) = m ((c.tc : Thread Cert.FwdIdeal.nD Cert.FwdIdeal.τ).loc Cert.FwdIdeal.main_arg5)
      ∧ m' ((c.tc : Thread Cert.FwdRefIdeal.nD Cert.FwdRefIdeal.τ).loc Cert.FwdRefIdeal.main_arg6) = m ((c.tc : Thread Cert.FwdIdeal.nD Cert.FwdIdeal.τ).loc Cert.FwdIdeal.main_arg6)
      ∧ m' ((c.tc : Thread Cert.FwdRefIdeal.nD Cert.FwdRefIdeal.τ).loc Cert.FwdRefIdeal.main_arg7) = m ((c.tc : Thread Cert.FwdIdeal.nD Cert.FwdIdeal.τ).loc Cert.FwdIdeal.main_arg7)
      ∧ m' ((c.tc : Thread Cert.FwdRefIdeal.nD Cert.FwdRefIdeal.τ).loc Cert.FwdRefIdeal.main_arg8) = m ((c.tc : Thread Cert.FwdIdeal.nD Cert.FwdIdeal.τ).loc Cert.FwdIdeal.main_arg8)) →
    ∃ (v0 : (c : Dev Cert.FwdIdeal.nD) → Buf (Elt Ideal) ((c.tc : Thread Cert.FwdIdeal.nD Cert.FwdIdeal.τ).loc Cert.FwdIdeal.main_v11_0)) (v1 : (c : Dev Cert.FwdIdeal.nD) → Buf (Elt Ideal) ((c.tc : Thread Cert.FwdIdeal.nD Cert.FwdIdeal.τ).loc Cert.FwdIdeal.main_v11_1)) (v2 : (c : Dev Cert.FwdIdeal.nD) → Buf (Elt Ideal) ((c.tc : Thread Cert.FwdIdeal.nD Cert.FwdIdeal.τ).loc Cert.FwdIdeal.main_v11_2)) (v3 : (c : Dev Cert.FwdIdeal.nD) → Buf (Elt Ideal) ((c.tc : Thread Cert.FwdIdeal.nD Cert.FwdIdeal.τ).loc Cert.FwdIdeal.main_v11_3)) (v4 : (c : Dev Cert.FwdIdeal.nD) → Buf (Elt Ideal) ((c.tc : Thread Cert.FwdIdeal.nD Cert.FwdIdeal.τ).loc Cert.FwdIdeal.main_v11_4)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v11_0) = v0 c
          ∧ r.2.mem ((c.tc : Thread Cert.FwdIdeal.nD Cert.FwdIdeal.τ).loc Cert.FwdIdeal.main_v11_1) = v1 c
          ∧ r.2.mem ((c.tc : Thread Cert.FwdIdeal.nD Cert.FwdIdeal.τ).loc Cert.FwdIdeal.main_v11_2) = v2 c
          ∧ r.2.mem ((c.tc : Thread Cert.FwdIdeal.nD Cert.FwdIdeal.τ).loc Cert.FwdIdeal.main_v11_3) = v3 c
          ∧ r.2.mem ((c.tc : Thread Cert.FwdIdeal.nD Cert.FwdIdeal.τ).loc Cert.FwdIdeal.main_v11_4) = v4 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
          ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
          ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
          ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6)
          ∧ r.2.mem ((c.tc : Thread Cert.FwdIdeal.nD Cert.FwdIdeal.τ).loc Cert.FwdIdeal.main_arg7) = m ((c.tc : Thread Cert.FwdIdeal.nD Cert.FwdIdeal.τ).loc Cert.FwdIdeal.main_arg7)
          ∧ r.2.mem ((c.tc : Thread Cert.FwdIdeal.nD Cert.FwdIdeal.τ).loc Cert.FwdIdeal.main_arg8) = m ((c.tc : Thread Cert.FwdIdeal.nD Cert.FwdIdeal.τ).loc Cert.FwdIdeal.main_arg8))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v144) = v0 c
          ∧ r.2.mem ((c.tc : Thread Cert.FwdRefIdeal.nD Cert.FwdRefIdeal.τ).loc Cert.FwdRefIdeal.main_v146) = v1 c
          ∧ r.2.mem ((c.tc : Thread Cert.FwdRefIdeal.nD Cert.FwdRefIdeal.τ).loc Cert.FwdRefIdeal.main_v147) = v2 c
          ∧ r.2.mem ((c.tc : Thread Cert.FwdRefIdeal.nD Cert.FwdRefIdeal.τ).loc Cert.FwdRefIdeal.main_v149) = v3 c
          ∧ r.2.mem ((c.tc : Thread Cert.FwdRefIdeal.nD Cert.FwdRefIdeal.τ).loc Cert.FwdRefIdeal.main_v151) = v4 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2)
          ∧ r.2.mem ((c.tc : Thread Cert.FwdRefIdeal.nD Cert.FwdRefIdeal.τ).loc Cert.FwdRefIdeal.main_arg3) = m' ((c.tc : Thread Cert.FwdRefIdeal.nD Cert.FwdRefIdeal.τ).loc Cert.FwdRefIdeal.main_arg3)
          ∧ r.2.mem ((c.tc : Thread Cert.FwdRefIdeal.nD Cert.FwdRefIdeal.τ).loc Cert.FwdRefIdeal.main_arg4) = m' ((c.tc : Thread Cert.FwdRefIdeal.nD Cert.FwdRefIdeal.τ).loc Cert.FwdRefIdeal.main_arg4)
          ∧ r.2.mem ((c.tc : Thread Cert.FwdRefIdeal.nD Cert.FwdRefIdeal.τ).loc Cert.FwdRefIdeal.main_arg5) = m' ((c.tc : Thread Cert.FwdRefIdeal.nD Cert.FwdRefIdeal.τ).loc Cert.FwdRefIdeal.main_arg5)
          ∧ r.2.mem ((c.tc : Thread Cert.FwdRefIdeal.nD Cert.FwdRefIdeal.τ).loc Cert.FwdRefIdeal.main_arg6) = m' ((c.tc : Thread Cert.FwdRefIdeal.nD Cert.FwdRefIdeal.τ).loc Cert.FwdRefIdeal.main_arg6)
          ∧ r.2.mem ((c.tc : Thread Cert.FwdRefIdeal.nD Cert.FwdRefIdeal.τ).loc Cert.FwdRefIdeal.main_arg7) = m' ((c.tc : Thread Cert.FwdRefIdeal.nD Cert.FwdRefIdeal.τ).loc Cert.FwdRefIdeal.main_arg7)
          ∧ r.2.mem ((c.tc : Thread Cert.FwdRefIdeal.nD Cert.FwdRefIdeal.τ).loc Cert.FwdRefIdeal.main_arg8) = m' ((c.tc : Thread Cert.FwdRefIdeal.nD Cert.FwdRefIdeal.τ).loc Cert.FwdRefIdeal.main_arg8))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)
      ∧ m' ((c.tc : Thread Cert.AdaRefIdeal.nD Cert.AdaRefIdeal.τ).loc Cert.AdaRefIdeal.main_arg3) = m ((c.tc : Thread Cert.AdaIdeal.nD Cert.AdaIdeal.τ).loc Cert.AdaIdeal.main_arg3)
      ∧ m' ((c.tc : Thread Cert.AdaRefIdeal.nD Cert.AdaRefIdeal.τ).loc Cert.AdaRefIdeal.main_arg4) = m ((c.tc : Thread Cert.AdaIdeal.nD Cert.AdaIdeal.τ).loc Cert.AdaIdeal.main_arg4)) →
    ∃ (v0 : (c : Dev Cert.AdaIdeal.nD) → Buf (Elt Ideal) ((c.tc : Thread Cert.AdaIdeal.nD Cert.AdaIdeal.τ).loc Cert.AdaIdeal.main_v5_0)) (v1 : (c : Dev Cert.AdaIdeal.nD) → Buf (Elt Ideal) ((c.tc : Thread Cert.AdaIdeal.nD Cert.AdaIdeal.τ).loc Cert.AdaIdeal.main_v5_1)) (v2 : (c : Dev Cert.AdaIdeal.nD) → Buf (Elt Ideal) ((c.tc : Thread Cert.AdaIdeal.nD Cert.AdaIdeal.τ).loc Cert.AdaIdeal.main_v5_2)) (v3 : (c : Dev Cert.AdaIdeal.nD) → Buf (Elt Ideal) ((c.tc : Thread Cert.AdaIdeal.nD Cert.AdaIdeal.τ).loc Cert.AdaIdeal.main_v5_3)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v5_0) = v0 c
          ∧ r.2.mem ((c.tc : Thread Cert.AdaIdeal.nD Cert.AdaIdeal.τ).loc Cert.AdaIdeal.main_v5_1) = v1 c
          ∧ r.2.mem ((c.tc : Thread Cert.AdaIdeal.nD Cert.AdaIdeal.τ).loc Cert.AdaIdeal.main_v5_2) = v2 c
          ∧ r.2.mem ((c.tc : Thread Cert.AdaIdeal.nD Cert.AdaIdeal.τ).loc Cert.AdaIdeal.main_v5_3) = v3 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3)
          ∧ r.2.mem ((c.tc : Thread Cert.AdaIdeal.nD Cert.AdaIdeal.τ).loc Cert.AdaIdeal.main_arg4) = m ((c.tc : Thread Cert.AdaIdeal.nD Cert.AdaIdeal.τ).loc Cert.AdaIdeal.main_arg4))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v30) = v0 c
          ∧ r.2.mem ((c.tc : Thread Cert.AdaRefIdeal.nD Cert.AdaRefIdeal.τ).loc Cert.AdaRefIdeal.main_v31) = v1 c
          ∧ r.2.mem ((c.tc : Thread Cert.AdaRefIdeal.nD Cert.AdaRefIdeal.τ).loc Cert.AdaRefIdeal.main_v32) = v2 c
          ∧ r.2.mem ((c.tc : Thread Cert.AdaRefIdeal.nD Cert.AdaRefIdeal.τ).loc Cert.AdaRefIdeal.main_v33) = v3 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2)
          ∧ r.2.mem ((c.tc : Thread Cert.AdaRefIdeal.nD Cert.AdaRefIdeal.τ).loc Cert.AdaRefIdeal.main_arg3) = m' ((c.tc : Thread Cert.AdaRefIdeal.nD Cert.AdaRefIdeal.τ).loc Cert.AdaRefIdeal.main_arg3)
          ∧ r.2.mem ((c.tc : Thread Cert.AdaRefIdeal.nD Cert.AdaRefIdeal.τ).loc Cert.AdaRefIdeal.main_arg4) = m' ((c.tc : Thread Cert.AdaRefIdeal.nD Cert.AdaRefIdeal.τ).loc Cert.AdaRefIdeal.main_arg4))

def preserves_Opt_OptIdeal : Prop :=
  True

def algebraic_OptIdeal_OptRefIdeal [hOptIdeal : Cert.OptIdeal.Facts] [hOptRefIdeal : Cert.OptRefIdeal.Facts] : Prop :=
  ∀ (m : (ℓ : Loc Cert.OptIdeal.nD Cert.OptIdeal.τ Cert.OptIdeal.sig) → Buf (Elt Ideal) ℓ) (g : Dev Cert.OptIdeal.nD → PrngReg)
    (m' : (ℓ : Loc Cert.OptRefIdeal.nD Cert.OptRefIdeal.τ Cert.OptRefIdeal.sig) → Buf (Elt Ideal) ℓ) (g' : Dev Cert.OptRefIdeal.nD → PrngReg), Pre_OptIdeal m →
    (∀ c : Dev Cert.OptIdeal.nD,
      m' ((c.tc : Thread Cert.OptRefIdeal.nD Cert.OptRefIdeal.τ).loc Cert.OptRefIdeal.main_arg0) = m ((c.tc : Thread Cert.OptIdeal.nD Cert.OptIdeal.τ).loc Cert.OptIdeal.main_arg0)
      ∧ m' ((c.tc : Thread Cert.OptRefIdeal.nD Cert.OptRefIdeal.τ).loc Cert.OptRefIdeal.main_arg1) = m ((c.tc : Thread Cert.OptIdeal.nD Cert.OptIdeal.τ).loc Cert.OptIdeal.main_arg1)
      ∧ m' ((c.tc : Thread Cert.OptRefIdeal.nD Cert.OptRefIdeal.τ).loc Cert.OptRefIdeal.main_arg2) = m ((c.tc : Thread Cert.OptIdeal.nD Cert.OptIdeal.τ).loc Cert.OptIdeal.main_arg2)
      ∧ m' ((c.tc : Thread Cert.OptRefIdeal.nD Cert.OptRefIdeal.τ).loc Cert.OptRefIdeal.main_arg3) = m ((c.tc : Thread Cert.OptIdeal.nD Cert.OptIdeal.τ).loc Cert.OptIdeal.main_arg3)
      ∧ m' ((c.tc : Thread Cert.OptRefIdeal.nD Cert.OptRefIdeal.τ).loc Cert.OptRefIdeal.main_arg4) = m ((c.tc : Thread Cert.OptIdeal.nD Cert.OptIdeal.τ).loc Cert.OptIdeal.main_arg4)
      ∧ m' ((c.tc : Thread Cert.OptRefIdeal.nD Cert.OptRefIdeal.τ).loc Cert.OptRefIdeal.main_arg5) = m ((c.tc : Thread Cert.OptIdeal.nD Cert.OptIdeal.τ).loc Cert.OptIdeal.main_arg5)
      ∧ m' ((c.tc : Thread Cert.OptRefIdeal.nD Cert.OptRefIdeal.τ).loc Cert.OptRefIdeal.main_arg6) = m ((c.tc : Thread Cert.OptIdeal.nD Cert.OptIdeal.τ).loc Cert.OptIdeal.main_arg6)
      ∧ m' ((c.tc : Thread Cert.OptRefIdeal.nD Cert.OptRefIdeal.τ).loc Cert.OptRefIdeal.main_arg7) = m ((c.tc : Thread Cert.OptIdeal.nD Cert.OptIdeal.τ).loc Cert.OptIdeal.main_arg7)) →
    ∃ (v0 : (c : Dev Cert.OptIdeal.nD) → Buf (Elt Ideal) ((c.tc : Thread Cert.OptIdeal.nD Cert.OptIdeal.τ).loc Cert.OptIdeal.main_v6_0)) (v1 : (c : Dev Cert.OptIdeal.nD) → Buf (Elt Ideal) ((c.tc : Thread Cert.OptIdeal.nD Cert.OptIdeal.τ).loc Cert.OptIdeal.main_v6_1)) (v2 : (c : Dev Cert.OptIdeal.nD) → Buf (Elt Ideal) ((c.tc : Thread Cert.OptIdeal.nD Cert.OptIdeal.τ).loc Cert.OptIdeal.main_v6_2)) (v3 : (c : Dev Cert.OptIdeal.nD) → Buf (Elt Ideal) ((c.tc : Thread Cert.OptIdeal.nD Cert.OptIdeal.τ).loc Cert.OptIdeal.main_v6_3)) (v4 : (c : Dev Cert.OptIdeal.nD) → Buf (Elt Ideal) ((c.tc : Thread Cert.OptIdeal.nD Cert.OptIdeal.τ).loc Cert.OptIdeal.main_v6_4)) (v5 : (c : Dev Cert.OptIdeal.nD) → Buf (Elt Ideal) ((c.tc : Thread Cert.OptIdeal.nD Cert.OptIdeal.τ).loc Cert.OptIdeal.main_v6_5)),
      θ_run (Cert.OptIdeal.defs (F := Ideal)) (onTc (τ := Cert.OptIdeal.τ) (Cert.OptIdeal.main (F := Ideal))) ⟨m, fun _ => 0, g⟩ (fun r => ∀ c : Dev Cert.OptIdeal.nD,
          r.2.mem ((c.tc : Thread Cert.OptIdeal.nD Cert.OptIdeal.τ).loc Cert.OptIdeal.main_v6_0) = v0 c
          ∧ r.2.mem ((c.tc : Thread Cert.OptIdeal.nD Cert.OptIdeal.τ).loc Cert.OptIdeal.main_v6_1) = v1 c
          ∧ r.2.mem ((c.tc : Thread Cert.OptIdeal.nD Cert.OptIdeal.τ).loc Cert.OptIdeal.main_v6_2) = v2 c
          ∧ r.2.mem ((c.tc : Thread Cert.OptIdeal.nD Cert.OptIdeal.τ).loc Cert.OptIdeal.main_v6_3) = v3 c
          ∧ r.2.mem ((c.tc : Thread Cert.OptIdeal.nD Cert.OptIdeal.τ).loc Cert.OptIdeal.main_v6_4) = v4 c
          ∧ r.2.mem ((c.tc : Thread Cert.OptIdeal.nD Cert.OptIdeal.τ).loc Cert.OptIdeal.main_v6_5) = v5 c
          ∧ r.2.mem ((c.tc : Thread Cert.OptIdeal.nD Cert.OptIdeal.τ).loc Cert.OptIdeal.main_arg0) = m ((c.tc : Thread Cert.OptIdeal.nD Cert.OptIdeal.τ).loc Cert.OptIdeal.main_arg0)
          ∧ r.2.mem ((c.tc : Thread Cert.OptIdeal.nD Cert.OptIdeal.τ).loc Cert.OptIdeal.main_arg1) = m ((c.tc : Thread Cert.OptIdeal.nD Cert.OptIdeal.τ).loc Cert.OptIdeal.main_arg1)
          ∧ r.2.mem ((c.tc : Thread Cert.OptIdeal.nD Cert.OptIdeal.τ).loc Cert.OptIdeal.main_arg2) = m ((c.tc : Thread Cert.OptIdeal.nD Cert.OptIdeal.τ).loc Cert.OptIdeal.main_arg2)
          ∧ r.2.mem ((c.tc : Thread Cert.OptIdeal.nD Cert.OptIdeal.τ).loc Cert.OptIdeal.main_arg3) = m ((c.tc : Thread Cert.OptIdeal.nD Cert.OptIdeal.τ).loc Cert.OptIdeal.main_arg3)
          ∧ r.2.mem ((c.tc : Thread Cert.OptIdeal.nD Cert.OptIdeal.τ).loc Cert.OptIdeal.main_arg4) = m ((c.tc : Thread Cert.OptIdeal.nD Cert.OptIdeal.τ).loc Cert.OptIdeal.main_arg4)
          ∧ r.2.mem ((c.tc : Thread Cert.OptIdeal.nD Cert.OptIdeal.τ).loc Cert.OptIdeal.main_arg5) = m ((c.tc : Thread Cert.OptIdeal.nD Cert.OptIdeal.τ).loc Cert.OptIdeal.main_arg5)
          ∧ r.2.mem ((c.tc : Thread Cert.OptIdeal.nD Cert.OptIdeal.τ).loc Cert.OptIdeal.main_arg6) = m ((c.tc : Thread Cert.OptIdeal.nD Cert.OptIdeal.τ).loc Cert.OptIdeal.main_arg6)
          ∧ r.2.mem ((c.tc : Thread Cert.OptIdeal.nD Cert.OptIdeal.τ).loc Cert.OptIdeal.main_arg7) = m ((c.tc : Thread Cert.OptIdeal.nD Cert.OptIdeal.τ).loc Cert.OptIdeal.main_arg7))
      ∧ θ_run (Cert.OptRefIdeal.defs (F := Ideal)) (onTc (τ := Cert.OptRefIdeal.τ) (Cert.OptRefIdeal.main (F := Ideal))) ⟨m', fun _ => 0, g'⟩ (fun r => ∀ c : Dev Cert.OptRefIdeal.nD,
          r.2.mem ((c.tc : Thread Cert.OptRefIdeal.nD Cert.OptRefIdeal.τ).loc Cert.OptRefIdeal.main_v26) = v0 c
          ∧ r.2.mem ((c.tc : Thread Cert.OptRefIdeal.nD Cert.OptRefIdeal.τ).loc Cert.OptRefIdeal.main_v7) = v1 c
          ∧ r.2.mem ((c.tc : Thread Cert.OptRefIdeal.nD Cert.OptRefIdeal.τ).loc Cert.OptRefIdeal.main_v13) = v2 c
          ∧ r.2.mem ((c.tc : Thread Cert.OptRefIdeal.nD Cert.OptRefIdeal.τ).loc Cert.OptRefIdeal.main_v53) = v3 c
          ∧ r.2.mem ((c.tc : Thread Cert.OptRefIdeal.nD Cert.OptRefIdeal.τ).loc Cert.OptRefIdeal.main_v34) = v4 c
          ∧ r.2.mem ((c.tc : Thread Cert.OptRefIdeal.nD Cert.OptRefIdeal.τ).loc Cert.OptRefIdeal.main_v40) = v5 c
          ∧ r.2.mem ((c.tc : Thread Cert.OptRefIdeal.nD Cert.OptRefIdeal.τ).loc Cert.OptRefIdeal.main_arg0) = m' ((c.tc : Thread Cert.OptRefIdeal.nD Cert.OptRefIdeal.τ).loc Cert.OptRefIdeal.main_arg0)
          ∧ r.2.mem ((c.tc : Thread Cert.OptRefIdeal.nD Cert.OptRefIdeal.τ).loc Cert.OptRefIdeal.main_arg1) = m' ((c.tc : Thread Cert.OptRefIdeal.nD Cert.OptRefIdeal.τ).loc Cert.OptRefIdeal.main_arg1)
          ∧ r.2.mem ((c.tc : Thread Cert.OptRefIdeal.nD Cert.OptRefIdeal.τ).loc Cert.OptRefIdeal.main_arg2) = m' ((c.tc : Thread Cert.OptRefIdeal.nD Cert.OptRefIdeal.τ).loc Cert.OptRefIdeal.main_arg2)
          ∧ r.2.mem ((c.tc : Thread Cert.OptRefIdeal.nD Cert.OptRefIdeal.τ).loc Cert.OptRefIdeal.main_arg3) = m' ((c.tc : Thread Cert.OptRefIdeal.nD Cert.OptRefIdeal.τ).loc Cert.OptRefIdeal.main_arg3)
          ∧ r.2.mem ((c.tc : Thread Cert.OptRefIdeal.nD Cert.OptRefIdeal.τ).loc Cert.OptRefIdeal.main_arg4) = m' ((c.tc : Thread Cert.OptRefIdeal.nD Cert.OptRefIdeal.τ).loc Cert.OptRefIdeal.main_arg4)
          ∧ r.2.mem ((c.tc : Thread Cert.OptRefIdeal.nD Cert.OptRefIdeal.τ).loc Cert.OptRefIdeal.main_arg5) = m' ((c.tc : Thread Cert.OptRefIdeal.nD Cert.OptRefIdeal.τ).loc Cert.OptRefIdeal.main_arg5)
          ∧ r.2.mem ((c.tc : Thread Cert.OptRefIdeal.nD Cert.OptRefIdeal.τ).loc Cert.OptRefIdeal.main_arg6) = m' ((c.tc : Thread Cert.OptRefIdeal.nD Cert.OptRefIdeal.τ).loc Cert.OptRefIdeal.main_arg6)
          ∧ r.2.mem ((c.tc : Thread Cert.OptRefIdeal.nD Cert.OptRefIdeal.τ).loc Cert.OptRefIdeal.main_arg7) = m' ((c.tc : Thread Cert.OptRefIdeal.nD Cert.OptRefIdeal.τ).loc Cert.OptRefIdeal.main_arg7))

def Claim : Prop :=
  ∃ (hMlp : Cert.Mlp.Facts) (hMlpIdeal : Cert.MlpIdeal.Facts) (hMlpRefIdeal : Cert.MlpRefIdeal.Facts) (hBwd : Cert.Bwd.Facts) (hBwdIdeal : Cert.BwdIdeal.Facts) (hBwdRefIdeal : Cert.BwdRefIdeal.Facts) (hFwd : Cert.Fwd.Facts) (hFwdIdeal : Cert.FwdIdeal.Facts) (hFwdRefIdeal : Cert.FwdRefIdeal.Facts) (hAda : Cert.Ada.Facts) (hAdaIdeal : Cert.AdaIdeal.Facts) (hAdaRefIdeal : Cert.AdaRefIdeal.Facts) (hOpt : Cert.Opt.Facts) (hOptIdeal : Cert.OptIdeal.Facts) (hOptRefIdeal : Cert.OptRefIdeal.Facts) (hPre_mlp_finite : Cert.Pre_mlp_finite.Facts) (hPre_bwd_finite : Cert.Pre_bwd_finite.Facts) (hPre_fwd_finite : Cert.Pre_fwd_finite.Facts),
    quiescent_Mlp (hMlp := hMlp)
    ∧ quiescent_MlpIdeal (hMlpIdeal := hMlpIdeal)
    ∧ quiescent_MlpIdeal_pre_mlp_finite (hMlpIdeal := hMlpIdeal) (hPre_mlp_finite := hPre_mlp_finite)
    ∧ quiescent_MlpRefIdeal (hMlpRefIdeal := hMlpRefIdeal)
    ∧ quiescent_MlpRefIdeal_pre_mlp_finite (hMlpRefIdeal := hMlpRefIdeal) (hPre_mlp_finite := hPre_mlp_finite)
    ∧ quiescent_Bwd (hBwd := hBwd)
    ∧ quiescent_BwdIdeal (hBwdIdeal := hBwdIdeal)
    ∧ quiescent_BwdIdeal_pre_bwd_finite (hBwdIdeal := hBwdIdeal) (hPre_bwd_finite := hPre_bwd_finite)
    ∧ quiescent_BwdRefIdeal (hBwdRefIdeal := hBwdRefIdeal)
    ∧ quiescent_BwdRefIdeal_pre_bwd_finite (hBwdRefIdeal := hBwdRefIdeal) (hPre_bwd_finite := hPre_bwd_finite)
    ∧ quiescent_Fwd (hFwd := hFwd)
    ∧ quiescent_FwdIdeal (hFwdIdeal := hFwdIdeal)
    ∧ quiescent_FwdIdeal_pre_fwd_finite (hFwdIdeal := hFwdIdeal) (hPre_fwd_finite := hPre_fwd_finite)
    ∧ quiescent_FwdRefIdeal (hFwdRefIdeal := hFwdRefIdeal)
    ∧ quiescent_FwdRefIdeal_pre_fwd_finite (hFwdRefIdeal := hFwdRefIdeal) (hPre_fwd_finite := hPre_fwd_finite)
    ∧ quiescent_Ada (hAda := hAda)
    ∧ quiescent_AdaIdeal (hAdaIdeal := hAdaIdeal)
    ∧ quiescent_AdaRefIdeal (hAdaRefIdeal := hAdaRefIdeal)
    ∧ quiescent_Opt (hOpt := hOpt)
    ∧ quiescent_OptIdeal (hOptIdeal := hOptIdeal)
    ∧ quiescent_OptRefIdeal (hOptRefIdeal := hOptRefIdeal)
    ∧ preserves_Mlp_MlpIdeal
    ∧ algebraic_MlpIdeal_MlpRefIdeal_pre_mlp_finite (hMlpIdeal := hMlpIdeal) (hMlpRefIdeal := hMlpRefIdeal) (hPre_mlp_finite := hPre_mlp_finite)
    ∧ preserves_Bwd_BwdIdeal
    ∧ algebraic_BwdIdeal_BwdRefIdeal_pre_bwd_finite (hBwdIdeal := hBwdIdeal) (hBwdRefIdeal := hBwdRefIdeal) (hPre_bwd_finite := hPre_bwd_finite)
    ∧ preserves_Fwd_FwdIdeal
    ∧ algebraic_FwdIdeal_FwdRefIdeal_pre_fwd_finite (hFwdIdeal := hFwdIdeal) (hFwdRefIdeal := hFwdRefIdeal) (hPre_fwd_finite := hPre_fwd_finite)
    ∧ preserves_Ada_AdaIdeal
    ∧ algebraic_AdaIdeal_AdaRefIdeal (hAdaIdeal := hAdaIdeal) (hAdaRefIdeal := hAdaRefIdeal)
    ∧ preserves_Opt_OptIdeal
    ∧ algebraic_OptIdeal_OptRefIdeal (hOptIdeal := hOptIdeal) (hOptRefIdeal := hOptRefIdeal)
-- ==== Pre_bwd_finite.lean ====
abbrev S1x8192x1024 : Shape := ⟨3, ![1, 8192, 1024]⟩
abbrev S1x6144 : Shape := ⟨2, ![1, 6144]⟩
abbrev S1x1024x2048 : Shape := ⟨3, ![1, 1024, 2048]⟩
abbrev S1x3x512 : Shape := ⟨3, ![1, 3, 512]⟩
abbrev S1x4x128x128 : Shape := ⟨4, ![1, 4, 128, 128]⟩
abbrev S1x512 : Shape := ⟨2, ![1, 512]⟩
abbrev S1x1024x1024 : Shape := ⟨3, ![1, 1024, 1024]⟩
abbrev S1x1024 : Shape := ⟨2, ![1, 1024]⟩
abbrev S_ : Shape := ⟨0, ![]⟩
abbrev S1x3072 : Shape := ⟨2, ![1, 3072]⟩

class Facts : Prop where
  bcast_S_S1x8192x1024 : S_.BroadcastsInDim S1x8192x1024 (![] : Fin 0 → Fin S1x8192x1024.rank)
  slices_S1x6144_S1x3072_0_0 : S1x6144.Slices ![0, 0] S1x3072
  bcast_S_S1x3072 : S_.BroadcastsInDim S1x3072 (![] : Fin 0 → Fin S1x3072.rank)
  bcast_S_S1x1024x2048 : S_.BroadcastsInDim S1x1024x2048 (![] : Fin 0 → Fin S1x1024x2048.rank)
  bcast_S_S1x3x512 : S_.BroadcastsInDim S1x3x512 (![] : Fin 0 → Fin S1x3x512.rank)
  bcast_S_S1x4x128x128 : S_.BroadcastsInDim S1x4x128x128 (![] : Fin 0 → Fin S1x4x128x128.rank)
  bcast_S_S1x512 : S_.BroadcastsInDim S1x512 (![] : Fin 0 → Fin S1x512.rank)
  bcast_S_S1x1024x1024 : S_.BroadcastsInDim S1x1024x1024 (![] : Fin 0 → Fin S1x1024x1024.rank)
  bcast_S_S1x1024 : S_.BroadcastsInDim S1x1024 (![] : Fin 0 → Fin S1x1024.rank)

variable [Facts]

def fn_part1 {F : FTy → Type} [FloatOps F] (main_arg6 : FVec F S1x1024x1024 .f32) (main_arg7 : FVec F S1x1024 .f32) (main_arg9 : FVec F S1x8192x1024 .f32) (main_v2 : IVec S1x8192x1024 1) (main_v6 : IVec S1x3072 1) (main_v9 : IVec S1x1024x2048 1) (main_v12 : IVec S1x3x512 1) (main_v15 : IVec S1x4x128x128 1) (main_v16 : FVec F S1x512 .f32) (main_v17 : FVec F S1x512 .f32) : IVec S1x8192x1024 1 × IVec S1x3072 1 × IVec S1x1024x2048 1 × IVec S1x3x512 1 × IVec S1x4x128x128 1 × IVec S1x512 1 × IVec S1x1024x1024 1 × IVec S1x1024 1 × IVec S1x8192x1024 1 :=
  let main_v18 : IVec S1x512 1 := cmpf .olt main_v16 main_v17
  let main_v19 : FVec F S1x1024x1024 .f32 := Host.absf main_arg6
  let main_cst_5 : FVec F S_ .f32 := constant S_ .f32 0x7F800000#32
  let main_v20 : FVec F S1x1024x1024 .f32 := broadcastInDim S1x1024x1024 ![] bcast_S_S1x1024x1024 main_cst_5
  let main_v21 : IVec S1x1024x1024 1 := cmpf .olt main_v19 main_v20
  let main_v22 : FVec F S1x1024 .f32 := Host.absf main_arg7
  let main_cst_6 : FVec F S_ .f32 := constant S_ .f32 0x7F800000#32
  let main_v23 : FVec F S1x1024 .f32 := broadcastInDim S1x1024 ![] bcast_S_S1x1024 main_cst_6
  let main_v24 : IVec S1x1024 1 := cmpf .olt main_v22 main_v23
  let main_v25 : FVec F S1x8192x1024 .f32 := Host.absf main_arg9
  let main_cst_7 : FVec F S_ .f32 := constant S_ .f32 0x7F800000#32
  let main_v26 : FVec F S1x8192x1024 .f32 := broadcastInDim S1x8192x1024 ![] bcast_S_S1x8192x1024 main_cst_7
  let main_v27 : IVec S1x8192x1024 1 := cmpf .olt main_v25 main_v26
  (main_v2, main_v6, main_v9, main_v12, main_v15, main_v18, main_v21, main_v24, main_v27)

def fn {F : FTy → Type} [FloatOps F] (main_arg0 : FVec F S1x8192x1024 .f32) (main_arg1 : FVec F S1x6144 .f32) (main_arg2 : FVec F S1x1024x2048 .f32) (main_arg3 : FVec F S1x3x512 .f32) (main_arg4 : FVec F S1x4x128x128 .f32) (main_arg5 : FVec F S1x512 .f32) (main_arg6 : FVec F S1x1024x1024 .f32) (main_arg7 : FVec F S1x1024 .f32) (main_arg8 : FVec F S1x1024 .f32) (main_arg9 : FVec F S1x8192x1024 .f32) : IVec S1x8192x1024 1 × IVec S1x3072 1 × IVec S1x1024x2048 1 × IVec S1x3x512 1 × IVec S1x4x128x128 1 × IVec S1x512 1 × IVec S1x1024x1024 1 × IVec S1x1024 1 × IVec S1x8192x1024 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1x3072 .f32 := (extractStridedSlice S1x3072 ![0, 0] · slices_S1x6144_S1x3072_0_0) main_arg1
  let main_v4 : FVec F S1x3072 .f32 := Host.absf main_v3
  let main_cst_0 : FVec F S_ .f32 := constant S_ .f32 0x7F800000#32
  let main_v5 : FVec F S1x3072 .f32 := broadcastInDim S1x3072 ![] bcast_S_S1x3072 main_cst_0
  let main_v6 : IVec S1x3072 1 := cmpf .olt main_v4 main_v5
  let main_v7 : FVec F S1x1024x2048 .f32 := Host.absf main_arg2
  let main_cst_1 : FVec F S_ .f32 := constant S_ .f32 0x7F800000#32
  let main_v8 : FVec F S1x1024x2048 .f32 := broadcastInDim S1x1024x2048 ![] bcast_S_S1x1024x2048 main_cst_1
  let main_v9 : IVec S1x1024x2048 1 := cmpf .olt main_v7 main_v8
  let main_v10 : FVec F S1x3x512 .f32 := Host.absf main_arg3
  let main_cst_2 : FVec F S_ .f32 := constant S_ .f32 0x7F800000#32
  let main_v11 : FVec F S1x3x512 .f32 := broadcastInDim S1x3x512 ![] bcast_S_S1x3x512 main_cst_2
  let main_v12 : IVec S1x3x512 1 := cmpf .olt main_v10 main_v11
  let main_v13 : FVec F S1x4x128x128 .f32 := Host.absf main_arg4
  let main_cst_3 : FVec F S_ .f32 := constant S_ .f32 0x7F800000#32
  let main_v14 : FVec F S1x4x128x128 .f32 := broadcastInDim S1x4x128x128 ![] bcast_S_S1x4x128x128 main_cst_3
  let main_v15 : IVec S1x4x128x128 1 := cmpf .olt main_v13 main_v14
  let main_v16 : FVec F S1x512 .f32 := Host.absf main_arg5
  let main_cst_4 : FVec F S_ .f32 := constant S_ .f32 0x7F800000#32
  let main_v17 : FVec F S1x512 .f32 := broadcastInDim S1x512 ![] bcast_S_S1x512 main_cst_4
  fn_part1 (F := F) main_arg6 main_arg7 main_arg9 main_v2 main_v6 main_v9 main_v12 main_v15 main_v16 main_v17
-- ==== Pre_fwd_finite.lean ====
abbrev S1x8192x1024 : Shape := ⟨3, ![1, 8192, 1024]⟩
abbrev S1x6144 : Shape := ⟨2, ![1, 6144]⟩
abbrev S1x1024x2048 : Shape := ⟨3, ![1, 1024, 2048]⟩
abbrev S1x3x512 : Shape := ⟨3, ![1, 3, 512]⟩
abbrev S1x4x128x128 : Shape := ⟨4, ![1, 4, 128, 128]⟩
abbrev S1x512 : Shape := ⟨2, ![1, 512]⟩
abbrev S1x1024x1024 : Shape := ⟨3, ![1, 1024, 1024]⟩
abbrev S1x1024 : Shape := ⟨2, ![1, 1024]⟩
abbrev S_ : Shape := ⟨0, ![]⟩
abbrev S1x2048 : Shape := ⟨2, ![1, 2048]⟩
abbrev S1x1024x512 : Shape := ⟨3, ![1, 1024, 512]⟩

class Facts : Prop where
  bcast_S_S1x8192x1024 : S_.BroadcastsInDim S1x8192x1024 (![] : Fin 0 → Fin S1x8192x1024.rank)
  slices_S1x6144_S1x2048_0_0 : S1x6144.Slices ![0, 0] S1x2048
  bcast_S_S1x2048 : S_.BroadcastsInDim S1x2048 (![] : Fin 0 → Fin S1x2048.rank)
  slices_S1x1024x2048_S1x1024x512_0_0_1536 : S1x1024x2048.Slices ![0, 0, 1536] S1x1024x512
  bcast_S_S1x1024x512 : S_.BroadcastsInDim S1x1024x512 (![] : Fin 0 → Fin S1x1024x512.rank)

variable [Facts]

def fn {F : FTy → Type} [FloatOps F] (main_arg0 : FVec F S1x8192x1024 .f32) (main_arg1 : FVec F S1x6144 .f32) (main_arg2 : FVec F S1x1024x2048 .f32) (main_arg3 : FVec F S1x3x512 .f32) (main_arg4 : FVec F S1x4x128x128 .f32) (main_arg5 : FVec F S1x512 .f32) (main_arg6 : FVec F S1x1024x1024 .f32) (main_arg7 : FVec F S1x1024 .f32) (main_arg8 : FVec F S1x1024 .f32) : IVec S1x8192x1024 1 × IVec S1x2048 1 × IVec S1x1024x512 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1x2048 .f32 := (extractStridedSlice S1x2048 ![0, 0] · slices_S1x6144_S1x2048_0_0) main_arg1
  let main_v4 : FVec F S1x2048 .f32 := Host.absf main_v3
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_v7 : FVec F S1x1024x512 .f32 := (extractStridedSlice S1x1024x512 ![0, 0, 1536] · slices_S1x1024x2048_S1x1024x512_0_0_1536) main_arg2
  let main_v8 : FVec F S1x1024x512 .f32 := Host.absf main_v7
  let main_cst_1 : FVec F S_ .f32 := constant S_ .f32 0x7F800000#32
  let main_v9 : FVec F S1x1024x512 .f32 := broadcastInDim S1x1024x512 ![] bcast_S_S1x1024x512 main_cst_1
  let main_v10 : IVec S1x1024x512 1 := cmpf .olt main_v8 main_v9
  (main_v2, main_v6, main_v10)
-- ==== Pre_mlp_finite.lean ====
abbrev S1x8192x1024 : Shape := ⟨3, ![1, 8192, 1024]⟩
abbrev S1x6144 : Shape := ⟨2, ![1, 6144]⟩
abbrev S1x1024x4096 : Shape := ⟨3, ![1, 1024, 4096]⟩
abbrev S1x4096x1024 : Shape := ⟨3, ![1, 4096, 1024]⟩
abbrev S1x1024 : Shape := ⟨2, ![1, 1024]⟩
abbrev S_ : Shape := ⟨0, ![]⟩
abbrev S1x3072 : Shape := ⟨2, ![1, 3072]⟩

class Facts : Prop where
  bcast_S_S1x8192x1024 : S_.BroadcastsInDim S1x8192x1024 (![] : Fin 0 → Fin S1x8192x1024.rank)
  slices_S1x6144_S1x3072_0_3072 : S1x6144.Slices ![0, 3072] S1x3072
  bcast_S_S1x3072 : S_.BroadcastsInDim S1x3072 (![] : Fin 0 → Fin S1x3072.rank)
  bcast_S_S1x1024x4096 : S_.BroadcastsInDim S1x1024x4096 (![] : Fin 0 → Fin S1x1024x4096.rank)
  bcast_S_S1x4096x1024 : S_.BroadcastsInDim S1x4096x1024 (![] : Fin 0 → Fin S1x4096x1024.rank)
  bcast_S_S1x1024 : S_.BroadcastsInDim S1x1024 (![] : Fin 0 → Fin S1x1024.rank)

variable [Facts]

def fn_part1 {F : FTy → Type} [FloatOps F] (main_arg6 : FVec F S1x8192x1024 .f32) (main_v2 : IVec S1x8192x1024 1) (main_v6 : IVec S1x3072 1) (main_v9 : IVec S1x1024x4096 1) (main_v12 : IVec S1x4096x1024 1) (main_v15 : IVec S1x1024 1) (main_v16 : FVec F S1x1024 .f32) (main_v17 : FVec F S1x1024 .f32) : IVec S1x8192x1024 1 × IVec S1x3072 1 × IVec S1x1024x4096 1 × IVec S1x4096x1024 1 × IVec S1x1024 1 × IVec S1x1024 1 × IVec S1x8192x1024 1 :=
  let main_v18 : IVec S1x1024 1 := cmpf .olt main_v16 main_v17
  let main_v19 : FVec F S1x8192x1024 .f32 := Host.absf main_arg6
  let main_cst_5 : FVec F S_ .f32 := constant S_ .f32 0x7F800000#32
  let main_v20 : FVec F S1x8192x1024 .f32 := broadcastInDim S1x8192x1024 ![] bcast_S_S1x8192x1024 main_cst_5
  let main_v21 : IVec S1x8192x1024 1 := cmpf .olt main_v19 main_v20
  (main_v2, main_v6, main_v9, main_v12, main_v15, main_v18, main_v21)

def fn {F : FTy → Type} [FloatOps F] (main_arg0 : FVec F S1x8192x1024 .f32) (main_arg1 : FVec F S1x6144 .f32) (main_arg2 : FVec F S1x1024x4096 .f32) (main_arg3 : FVec F S1x4096x1024 .f32) (main_arg4 : FVec F S1x1024 .f32) (main_arg5 : FVec F S1x1024 .f32) (main_arg6 : FVec F S1x8192x1024 .f32) : IVec S1x8192x1024 1 × IVec S1x3072 1 × IVec S1x1024x4096 1 × IVec S1x4096x1024 1 × IVec S1x1024 1 × IVec S1x1024 1 × IVec S1x8192x1024 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1x3072 .f32 := (extractStridedSlice S1x3072 ![0, 3072] · slices_S1x6144_S1x3072_0_3072) main_arg1
  let main_v4 : FVec F S1x3072 .f32 := Host.absf main_v3
  let main_cst_0 : FVec F S_ .f32 := constant S_ .f32 0x7F800000#32
  let main_v5 : FVec F S1x3072 .f32 := broadcastInDim S1x3072 ![] bcast_S_S1x3072 main_cst_0
  let main_v6 : IVec S1x3072 1 := cmpf .olt main_v4 main_v5
  let main_v7 : FVec F S1x1024x4096 .f32 := Host.absf main_arg2
  let main_cst_1 : FVec F S_ .f32 := constant S_ .f32 0x7F800000#32
  let main_v8 : FVec F S1x1024x4096 .f32 := broadcastInDim S1x1024x4096 ![] bcast_S_S1x1024x4096 main_cst_1
  let main_v9 : IVec S1x1024x4096 1 := cmpf .olt main_v7 main_v8
  let main_v10 : FVec F S1x4096x1024 .f32 := Host.absf main_arg3
  let main_cst_2 : FVec F S_ .f32 := constant S_ .f32 0x7F800000#32
  let main_v11 : FVec F S1x4096x1024 .f32 := broadcastInDim S1x4096x1024 ![] bcast_S_S1x4096x1024 main_cst_2
  let main_v12 : IVec S1x4096x1024 1 := cmpf .olt main_v10 main_v11
  let main_v13 : FVec F S1x1024 .f32 := Host.absf main_arg4
  let main_cst_3 : FVec F S_ .f32 := constant S_ .f32 0x7F800000#32
  let main_v14 : FVec F S1x1024 .f32 := broadcastInDim S1x1024 ![] bcast_S_S1x1024 main_cst_3
  let main_v15 : IVec S1x1024 1 := cmpf .olt main_v13 main_v14
  let main_v16 : FVec F S1x1024 .f32 := Host.absf main_arg5
  let main_cst_4 : FVec F S_ .f32 := constant S_ .f32 0x7F800000#32
  let main_v17 : FVec F S1x1024 .f32 := broadcastInDim S1x1024 ![] bcast_S_S1x1024 main_cst_4
  fn_part1 (F := F) main_arg6 main_v2 main_v6 main_v9 main_v12 main_v15 main_v16 main_v17
-- ==== Mlp.lean ====
abbrev S1x8192x1024 : Shape := ⟨3, ![1, 8192, 1024]⟩
abbrev S1x6144 : Shape := ⟨2, ![1, 6144]⟩
abbrev S1x1024x4096 : Shape := ⟨3, ![1, 1024, 4096]⟩
abbrev S1x4096x1024 : Shape := ⟨3, ![1, 4096, 1024]⟩
abbrev S1x1024 : Shape := ⟨2, ![1, 1024]⟩
abbrev S8x6144 : Shape := ⟨2, ![8, 6144]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4096x1024 : Shape := ⟨2, ![4096, 1024]⟩
abbrev S8192x1024 : Shape := ⟨2, ![8192, 1024]⟩
abbrev S4x8192x1024 : Shape := ⟨3, ![4, 8192, 1024]⟩
abbrev S8x1024 : Shape := ⟨2, ![8, 1024]⟩
abbrev S256x1024 : Shape := ⟨2, ![256, 1024]⟩
abbrev S4x256x1024 : Shape := ⟨3, ![4, 256, 1024]⟩
abbrev S6x8x1024 : Shape := ⟨3, ![6, 8, 1024]⟩
abbrev S1x1024x1024 : Shape := ⟨3, ![1, 1024, 1024]⟩
abbrev S1024x1024 : Shape := ⟨2, ![1024, 1024]⟩
abbrev S1x256x1024 : Shape := ⟨3, ![1, 256, 1024]⟩
abbrev S256 : Shape := ⟨1, ![256]⟩
abbrev S256x1 : Shape := ⟨2, ![256, 1]⟩
abbrev S1x8x1024 : Shape := ⟨3, ![1, 8, 1024]⟩
abbrev S32x8x1024 : Shape := ⟨3, ![32, 8, 1024]⟩
abbrev S1024 : Shape := ⟨1, ![1024]⟩
abbrev S1 : Shape := ⟨1, ![1]⟩
abbrev S1x1x1 : Shape := ⟨3, ![1, 1, 1]⟩
abbrev S2x1024 : Shape := ⟨2, ![2, 1024]⟩

abbrev nBuf : Space → Nat
  | .hbm => 23
  | .vmem => 22
  | .smem => 0
  | _ => 0

abbrev bufTy : (tb : Table) → Fin (tcTables nBuf tb) → BufTy
  | .hbm, ⟨0, _⟩ => ⟨S1x8192x1024, .f32⟩
  | .hbm, ⟨1, _⟩ => ⟨S1x6144, .f32⟩
  | .hbm, ⟨2, _⟩ => ⟨S1x1024x4096, .f32⟩
  | .hbm, ⟨3, _⟩ => ⟨S1x4096x1024, .f32⟩
  | .hbm, ⟨4, _⟩ => ⟨S1x1024, .f32⟩
  | .hbm, ⟨5, _⟩ => ⟨S1x1024, .f32⟩
  | .hbm, ⟨6, _⟩ => ⟨S1x8192x1024, .f32⟩
  | .hbm, ⟨7, _⟩ => ⟨S8x6144, .f32⟩
  | .hbm, ⟨8, _⟩ => ⟨S1024x4096, .f32⟩
  | .hbm, ⟨9, _⟩ => ⟨S1024x4x1024, .f32⟩
  | .hbm, ⟨10, _⟩ => ⟨S4x1024x1024, .f32⟩
  | .hbm, ⟨11, _⟩ => ⟨S4x1024x1024, .bf16⟩
  | .hbm, ⟨12, _⟩ => ⟨S4096x1024, .f32⟩
  | .hbm, ⟨13, _⟩ => ⟨S4x1024x1024, .f32⟩
  | .hbm, ⟨14, _⟩ => ⟨S4x1024x1024, .bf16⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S4x8192x1024, .bf16⟩
  | .hbm, ⟨19, _⟩ => ⟨S4x8192x1024, .bf16⟩
  | .hbm, ⟨20, _⟩ => ⟨S8192x1024, .bf16⟩
  | .hbm, ⟨21, _⟩ => ⟨S8192x1024, .bf16⟩
  | .hbm, ⟨22, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S8x6144, .f32⟩
  | .local _ .vmem, ⟨5, _⟩ => ⟨S4x1024x1024, .bf16⟩
  | .local _ .vmem, ⟨6, _⟩ => ⟨S4x1024x1024, .bf16⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S4x256x1024, .bf16⟩
  | .local _ .vmem, ⟨12, _⟩ => ⟨S4x256x1024, .bf16⟩
  | .local _ .vmem, ⟨13, _⟩ => ⟨S4x256x1024, .bf16⟩
  | .local _ .vmem, ⟨14, _⟩ => ⟨S4x256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S8x1024, .f32⟩
  | .local _ .vmem, ⟨20, _⟩ => ⟨S4x256x1024, .f32⟩
  | .local _ .vmem, ⟨21, _⟩ => ⟨S6x8x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev main_v10_4 : Ref sig .tc := ⟨.hbm, 21, rfl⟩
abbrev main_v10_5 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v271 : BitVec 1 := Scalar.cmpi .eq arg0 c31_i32
  let v272 : BitVec 32 := Scalar.extui v271
  let c0_i32_191 : BitVec 32 := 0#32
  let v273 : BitVec 1 := Scalar.cmpi .ne v272 c0_i32_191
  v273

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== MlpRefIdeal.lean ====
abbrev S1x8192x1024 : Shape := ⟨3, ![1, 8192, 1024]⟩
abbrev S1x6144 : Shape := ⟨2, ![1, 6144]⟩
abbrev S1x1024x4096 : Shape := ⟨3, ![1, 1024, 4096]⟩
abbrev S1x4096x1024 : Shape := ⟨3, ![1, 4096, 1024]⟩
abbrev S1x1024 : Shape := ⟨2, ![1, 1024]⟩
abbrev S1x1x6144 : Shape := ⟨3, ![1, 1, 6144]⟩
abbrev S1x1x1024 : Shape := ⟨3, ![1, 1, 1024]⟩
abbrev S_ : Shape := ⟨0, ![]⟩
abbrev S1x8192x4096 : Shape := ⟨3, ![1, 8192, 4096]⟩
abbrev S1024x4096 : Shape := ⟨2, ![1024, 4096]⟩
abbrev S4096x1024 : Shape := ⟨2, ![4096, 1024]⟩
abbrev S1024 : Shape := ⟨1, ![1024]⟩
abbrev S1x8192 : Shape := ⟨2, ![1, 8192]⟩
abbrev S1x8192x1 : Shape := ⟨3, ![1, 8192, 1]⟩
abbrev S8192 : Shape := ⟨1, ![8192]⟩
abbrev S2x1024 : Shape := ⟨2, ![2, 1024]⟩
abbrev S8x1024 : Shape := ⟨2, ![8, 1024]⟩
abbrev S8192x1024 : Shape := ⟨2, ![8192, 1024]⟩
abbrev S8192x4096 : Shape := ⟨2, ![8192, 4096]⟩
abbrev S8192x4x1024 : Shape := ⟨3, ![8192, 4, 1024]⟩
abbrev S4x8192x1024 : Shape := ⟨3, ![4, 8192, 1024]⟩

abbrev nBuf : Space → Nat
  | .hbm => 206
  | .vmem => 0
  | .smem => 0
  | _ => 0

abbrev hbmTy0_0 (i : Nat) : BufTy := match i % 128 with
  | 0 => ⟨S1x8192x1024, .f32⟩
  | 1 => ⟨S1x6144, .f32⟩
  | 2 => ⟨S1x1024x4096, .f32⟩
  | 3 => ⟨S1x4096x1024, .f32⟩
  | 4 => ⟨S1x1024, .f32⟩
  | 5 => ⟨S1x1024, .f32⟩
  | 6 => ⟨S1x8192x1024, .f32⟩
  | 7 => ⟨S1x1x6144, .f32⟩
  | 8 => ⟨S1x1x1024, .f32⟩
  | 9 => ⟨S1x1x1024, .f32⟩
  | 10 => ⟨S1x1x1024, .f32⟩
  | 11 => ⟨S1x1x1024, .f32⟩
  | 12 => ⟨S1x1x1024, .f32⟩
  | 13 => ⟨S1x1x1024, .f32⟩
  | 14 => ⟨S_, .f32⟩
  | 15 => ⟨S1x8192x4096, .f32⟩
  | 16 => ⟨S_, .f32⟩
  | 17 => ⟨S1x8192x1024, .f32⟩
  | 18 => ⟨S_, .f32⟩
  | 19 => ⟨S1x1x1024, .f32⟩
  | 20 => ⟨S1x1x1024, .f32⟩
  | 21 => ⟨S1x8192x1024, .f32⟩
  | 22 => ⟨S1x8192x1024, .f32⟩
  | 23 => ⟨S1x8192x1024, .f32⟩
  | 24 => ⟨S1x8192x1024, .f32⟩
  | 25 => ⟨S1024x4096, .f32⟩
  | 26 => ⟨S1x8192x4096, .f32⟩
  | 27 => ⟨S1x8192x4096, .f32⟩
  | 28 => ⟨S_, .f32⟩
  | 29 => ⟨S1x8192x4096, .f32⟩
  | 30 => ⟨S1x8192x4096, .f32⟩
  | 31 => ⟨S_, .f32⟩
  | 32 => ⟨S1x8192x4096, .f32⟩
  | 33 => ⟨S1x8192x4096, .i1⟩
  | 34 => ⟨S_, .f32⟩
  | 35 => ⟨S1x8192x4096, .f32⟩
  | 36 => ⟨S1x8192x4096, .f32⟩
  | 37 => ⟨S_, .f32⟩
  | 38 => ⟨S1x8192x4096, .f32⟩
  | 39 => ⟨S1x8192x4096, .f32⟩
  | 40 => ⟨S_, .f32⟩
  | 41 => ⟨S1x8192x1024, .f32⟩
  | 42 => ⟨S1x8192x1024, .f32⟩
  | 43 => ⟨S_, .f32⟩
  | 44 => ⟨S1x1x1024, .f32⟩
  | 45 => ⟨S1x1x1024, .f32⟩
  | 46 => ⟨S4096x1024, .f32⟩
  | 47 => ⟨S1x8192x1024, .f32⟩
  | 48 => ⟨S1x8192x1024, .f32⟩
  | 49 => ⟨S1x8192x1024, .f32⟩
  | 50 => ⟨S1x8192x1024, .f32⟩
  | 51 => ⟨S1x8192x1024, .f32⟩
  | 52 => ⟨S1024, .f32⟩
  | 53 => ⟨S1024, .f32⟩
  | 54 => ⟨S_, .f32⟩
  | 55 => ⟨S1x8192, .f32⟩
  | 56 => ⟨S1x8192x1, .f32⟩
  | 57 => ⟨S_, .f32⟩
  | 58 => ⟨S1x8192x1, .f32⟩
  | 59 => ⟨S1x8192x1, .f32⟩
  | 60 => ⟨S1x8192x1024, .f32⟩
  | 61 => ⟨S1x8192x1024, .f32⟩
  | 62 => ⟨S1x8192x1024, .f32⟩
  | 63 => ⟨S_, .f32⟩
  | 64 => ⟨S1x8192x1024, .f32⟩
  | 65 => ⟨S1x8192x1024, .f32⟩
  | 66 => ⟨S_, .f32⟩
  | 67 => ⟨S1x8192, .f32⟩
  | 68 => ⟨S1x8192x1, .f32⟩
  | 69 => ⟨S_, .f32⟩
  | 70 => ⟨S1x8192x1, .f32⟩
  | 71 => ⟨S1x8192x1, .f32⟩
  | 72 => ⟨S1x8192x1024, .f32⟩
  | 73 => ⟨S1x8192x1024, .f32⟩
  | 74 => ⟨S_, .f32⟩
  | 75 => ⟨S1x8192x1, .f32⟩
  | 76 => ⟨S1x8192x1, .f32⟩
  | 77 => ⟨S1x8192x1, .f32⟩
  | 78 => ⟨S1x8192x1, .f32⟩
  | 79 => ⟨S_, .f32⟩
  | 80 => ⟨S1x8192x1, .f32⟩
  | 81 => ⟨S1x8192x1, .f32⟩
  | 82 => ⟨S1x8192x1024, .f32⟩
  | 83 => ⟨S1x8192x1024, .f32⟩
  | 84 => ⟨S1x1x1024, .f32⟩
  | 85 => ⟨S1x8192x1024, .f32⟩
  | 86 => ⟨S1x8192x1024, .f32⟩
  | 87 => ⟨S1x1x1024, .f32⟩
  | 88 => ⟨S1x8192x1024, .f32⟩
  | 89 => ⟨S1x8192x1024, .f32⟩
  | 90 => ⟨S1x8192x1024, .f32⟩
  | 91 => ⟨S1x8192x1024, .f32⟩
  | 92 => ⟨S_, .f32⟩
  | 93 => ⟨S1x8192x1024, .f32⟩
  | 94 => ⟨S1x8192x1024, .f32⟩
  | 95 => ⟨S_, .f32⟩
  | 96 => ⟨S1x8192, .f32⟩
  | 97 => ⟨S_, .f32⟩
  | 98 => ⟨S1x8192, .f32⟩
  | 99 => ⟨S1x8192, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S1x8192, .f32⟩
  | 108 => ⟨S_, .f32⟩
  | 109 => ⟨S1x8192, .f32⟩
  | 110 => ⟨S1x8192, .f32⟩
  | 111 => ⟨S1x8192x1024, .f32⟩
  | 112 => ⟨S1x8192x1024, .f32⟩
  | 113 => ⟨S_, .f32⟩
  | 114 => ⟨S1x1024, .f32⟩
  | 115 => ⟨S1x1x1024, .f32⟩
  | 116 => ⟨S_, .f32⟩
  | 117 => ⟨S1024, .f32⟩
  | 118 => ⟨S1x8192x1024, .f32⟩
  | 119 => ⟨S_, .f32⟩
  | 120 => ⟨S1x1024, .f32⟩
  | 121 => ⟨S1x1x1024, .f32⟩
  | 122 => ⟨S1x8192x1024, .f32⟩
  | 123 => ⟨S1x8192x1024, .f32⟩
  | 124 => ⟨S_, .f32⟩
  | 125 => ⟨S1024, .f32⟩
  | 126 => ⟨S1x8192x1024, .f32⟩
  | 127 => ⟨S_, .f32⟩
  | _ => ⟨S1x8192x1024, .f32⟩

abbrev hbmTy0_1 (i : Nat) : BufTy := match i % 128 with
  | 0 => ⟨S1x8192, .f32⟩
  | 1 => ⟨S1x8192x1, .f32⟩
  | 2 => ⟨S1x8192x1024, .f32⟩
  | 3 => ⟨S1x8192x1024, .f32⟩
  | 4 => ⟨S1x8192x1, .f32⟩
  | 5 => ⟨S1x8192x1024, .f32⟩
  | 6 => ⟨S_, .f32⟩
  | 7 => ⟨S1x8192, .f32⟩
  | 8 => ⟨S1x8192x1, .f32⟩
  | 9 => ⟨S_, .f32⟩
  | 10 => ⟨S1x8192x1, .f32⟩
  | 11 => ⟨S1x8192x1, .f32⟩
  | 12 => ⟨S_, .f32⟩
  | 13 => ⟨S8192, .f32⟩
  | 14 => ⟨S1x8192, .f32⟩
  | 15 => ⟨S1x8192x1024, .f32⟩
  | 16 => ⟨S1x8192x1024, .f32⟩
  | 17 => ⟨S1x8192x1024, .f32⟩
  | 18 => ⟨S_, .f32⟩
  | 19 => ⟨S1x8192, .f32⟩
  | 20 => ⟨S1x8192x1, .f32⟩
  | 21 => ⟨S1x8192x1024, .f32⟩
  | 22 => ⟨S1x8192x1, .f32⟩
  | 23 => ⟨S_, .f32⟩
  | 24 => ⟨S1x8192x1, .f32⟩
  | 25 => ⟨S1x8192x1, .f32⟩
  | 26 => ⟨S_, .f32⟩
  | 27 => ⟨S8192, .f32⟩
  | 28 => ⟨S1x8192, .f32⟩
  | 29 => ⟨S1x8192x1024, .f32⟩
  | 30 => ⟨S1x8192x1024, .f32⟩
  | 31 => ⟨S1x1024, .f32⟩
  | 32 => ⟨S1x1024, .f32⟩
  | 33 => ⟨S1x8192x1024, .f32⟩
  | 34 => ⟨S1x8192x1024, .f32⟩
  | 35 => ⟨S1x8192x1024, .f32⟩
  | 36 => ⟨S_, .f32⟩
  | 37 => ⟨S1x1024, .f32⟩
  | 38 => ⟨S1x1x1024, .f32⟩
  | 39 => ⟨S1x8192x4096, .f32⟩
  | 40 => ⟨S_, .f32⟩
  | 41 => ⟨S1x8192x1024, .f32⟩
  | 42 => ⟨S1x8192x1024, .f32⟩
  | 43 => ⟨S1x8192x4096, .f32⟩
  | 44 => ⟨S_, .f32⟩
  | 45 => ⟨S1x8192x4096, .f32⟩
  | 46 => ⟨S1x8192x4096, .f32⟩
  | 47 => ⟨S1x8192x1024, .f32⟩
  | 48 => ⟨S_, .f32⟩
  | 49 => ⟨S1x1024, .f32⟩
  | 50 => ⟨S1x1x1024, .f32⟩
  | 51 => ⟨S1x8192x1024, .f32⟩
  | 52 => ⟨S_, .f32⟩
  | 53 => ⟨S1x1024, .f32⟩
  | 54 => ⟨S1x1x1024, .f32⟩
  | 55 => ⟨S1x8192x1024, .f32⟩
  | 56 => ⟨S1x8192x1024, .f32⟩
  | 57 => ⟨S1x8192x1024, .f32⟩
  | 58 => ⟨S1x1024, .f32⟩
  | 59 => ⟨S1x1024, .f32⟩
  | 60 => ⟨S1x1024, .f32⟩
  | 61 => ⟨S1x1024, .f32⟩
  | 62 => ⟨S_, .f32⟩
  | 63 => ⟨S2x1024, .f32⟩
  | 64 => ⟨S8x1024, .f32⟩
  | 65 => ⟨S8192x1024, .f32⟩
  | 66 => ⟨S8192x4096, .f32⟩
  | 67 => ⟨S8192x4x1024, .f32⟩
  | 68 => ⟨S4x8192x1024, .f32⟩
  | 69 => ⟨S4x8192x1024, .bf16⟩
  | 70 => ⟨S8192x4096, .f32⟩
  | 71 => ⟨S8192x4x1024, .f32⟩
  | 72 => ⟨S4x8192x1024, .f32⟩
  | 73 => ⟨S4x8192x1024, .bf16⟩
  | 74 => ⟨S8192x1024, .f32⟩
  | 75 => ⟨S8192x1024, .bf16⟩
  | 76 => ⟨S8192x1024, .f32⟩
  | 77 => ⟨S8192x1024, .bf16⟩
  | _ => ⟨S1x8192x1024, .f32⟩

abbrev hbmTy (i : Nat) : BufTy := match i / 128 with
  | 0 => hbmTy0_0 i
  | 1 => hbmTy0_1 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_cst : Ref sig .tc := ⟨.hbm, 28, rfl⟩
abbrev main_call0_v0 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_cst_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_13 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_14 : Ref sig .tc := ⟨.hbm, 92, rfl⟩
abbrev main_v68 : Ref sig .tc := ⟨.hbm, 93, rfl⟩
abbrev main_v69 : Ref sig .tc := ⟨.hbm, 94, rfl⟩
abbrev main_cst_15 : Ref sig .tc := ⟨.hbm, 95, rfl⟩
abbrev main_v70 : Ref sig .tc := ⟨.hbm, 96, rfl⟩
abbrev main_cst_16 : Ref sig .tc := ⟨.hbm, 97, rfl⟩
abbrev main_v71 : Ref sig .tc := ⟨.hbm, 98, rfl⟩
abbrev main_v72 : Ref sig .tc := ⟨.hbm, 99, rfl⟩
abbrev main_cst_17 : Ref sig .tc := ⟨.hbm, 100, rfl⟩
abbrev main_v73 : Ref sig .tc := ⟨.hbm, 101, rfl⟩
abbrev main_cst_18 : Ref sig .tc := ⟨.hbm, 102, rfl⟩
abbrev main_v74 : Ref sig .tc := ⟨.hbm, 103, rfl⟩
abbrev main_cst_19 : Ref sig .tc := ⟨.hbm, 104, rfl⟩
abbrev main_cst_20 : Ref sig .tc := ⟨.hbm, 105, rfl⟩
abbrev main_v75 : Ref sig .tc := ⟨.hbm, 106, rfl⟩
abbrev main_v76 : Ref sig .tc := ⟨.hbm, 107, rfl⟩
abbrev main_cst_21 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_22 : Ref sig .tc := ⟨.hbm, 113, rfl⟩
abbrev main_v81 : Ref sig .tc := ⟨.hbm, 114, rfl⟩
abbrev main_v82 : Ref sig .tc := ⟨.hbm, 115, rfl⟩
abbrev main_cst_23 : Ref sig .tc := ⟨.hbm, 116, rfl⟩
abbrev main_v83 : Ref sig .tc := ⟨.hbm, 117, rfl⟩
abbrev main_v84 : Ref sig .tc := ⟨.hbm, 118, rfl⟩
abbrev main_cst_24 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_25 : Ref sig .tc := ⟨.hbm, 124, rfl⟩
abbrev main_v89 : Ref sig .tc := ⟨.hbm, 125, rfl⟩
abbrev main_v90 : Ref sig .tc := ⟨.hbm, 126, rfl⟩
abbrev main_cst_26 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_27 : Ref sig .tc := ⟨.hbm, 134, rfl⟩
abbrev main_v97 : Ref sig .tc := ⟨.hbm, 135, rfl⟩
abbrev main_v98 : Ref sig .tc := ⟨.hbm, 136, rfl⟩
abbrev main_cst_28 : Ref sig .tc := ⟨.hbm, 137, rfl⟩
abbrev main_v99 : Ref sig .tc := ⟨.hbm, 138, rfl⟩
abbrev main_v100 : Ref sig .tc := ⟨.hbm, 139, rfl⟩
abbrev main_cst_29 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_cst_30 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_cst_31 : Ref sig .tc := ⟨.hbm, 151, rfl⟩
abbrev main_v110 : Ref sig .tc := ⟨.hbm, 152, rfl⟩
abbrev main_v111 : Ref sig .tc := ⟨.hbm, 153, rfl⟩
abbrev main_cst_32 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_cst_33 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_cst_34 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_cst_35 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_cst_36 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_cst_37 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_cst_38 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩

abbrev nD : Nat := 1
abbrev τ : Topo := Topo.v7x

variable {F : FTy → Type} [FloatOps F]
-- ==== Bwd.lean ====
abbrev S1x8192x1024 : Shape := ⟨3, ![1, 8192, 1024]⟩
abbrev S1x6144 : Shape := ⟨2, ![1, 6144]⟩
abbrev S1x1024x2048 : Shape := ⟨3, ![1, 1024, 2048]⟩
abbrev S1x3x512 : Shape := ⟨3, ![1, 3, 512]⟩
abbrev S1x4x128x128 : Shape := ⟨4, ![1, 4, 128, 128]⟩
abbrev S1x512 : Shape := ⟨2, ![1, 512]⟩
abbrev S1x1024x1024 : Shape := ⟨3, ![1, 1024, 1024]⟩
abbrev S1x1024 : Shape := ⟨2, ![1, 1024]⟩
abbrev S1x1x6144 : Shape := ⟨3, ![1, 1, 6144]⟩
abbrev S1x1x1024 : Shape := ⟨3, ![1, 1, 1024]⟩
abbrev S1024x2048 : Shape := ⟨2, ![1024, 2048]⟩
abbrev S3x512 : Shape := ⟨2, ![3, 512]⟩
abbrev S4x128x128 : Shape := ⟨3, ![4, 128, 128]⟩
abbrev S512 : Shape := ⟨1, ![512]⟩
abbrev S1024x1024 : Shape := ⟨2, ![1024, 1024]⟩
abbrev S_ : Shape := ⟨0, ![]⟩
abbrev S1x8192x2048 : Shape := ⟨3, ![1, 8192, 2048]⟩
abbrev S1x8192x512 : Shape := ⟨3, ![1, 8192, 512]⟩
abbrev S1x2x512 : Shape := ⟨3, ![1, 2, 512]⟩
abbrev S1x8194x512 : Shape := ⟨3, ![1, 8194, 512]⟩
abbrev S1x1x512 : Shape := ⟨3, ![1, 1, 512]⟩
abbrev S8192 : Shape := ⟨1, ![8192]⟩
abbrev S1x8192x1 : Shape := ⟨3, ![1, 8192, 1]⟩
abbrev S1x8192x128 : Shape := ⟨3, ![1, 8192, 128]⟩
abbrev S1x2x128 : Shape := ⟨3, ![1, 2, 128]⟩
abbrev S1x8194x128 : Shape := ⟨3, ![1, 8194, 128]⟩
abbrev S1x4x128 : Shape := ⟨3, ![1, 4, 128]⟩
abbrev S1x8196x128 : Shape := ⟨3, ![1, 8196, 128]⟩
abbrev S1x8x128 : Shape := ⟨3, ![1, 8, 128]⟩
abbrev S1x8200x128 : Shape := ⟨3, ![1, 8200, 128]⟩
abbrev S1x16x128 : Shape := ⟨3, ![1, 16, 128]⟩
abbrev S1x8208x128 : Shape := ⟨3, ![1, 8208, 128]⟩
abbrev S1x8192x1x128 : Shape := ⟨4, ![1, 8192, 1, 128]⟩
abbrev S1x8192x4x128 : Shape := ⟨4, ![1, 8192, 4, 128]⟩
abbrev S4x128x1x8192 : Shape := ⟨4, ![4, 128, 1, 8192]⟩
abbrev S1x8192x2560 : Shape := ⟨3, ![1, 8192, 2560]⟩
abbrev S8192x2560 : Shape := ⟨2, ![8192, 2560]⟩
abbrev S8x6144 : Shape := ⟨2, ![8, 6144]⟩
abbrev S1024x4x512 : Shape := ⟨3, ![1024, 4, 512]⟩
abbrev S4x1024x512 : Shape := ⟨3, ![4, 1024, 512]⟩
abbrev S8x512 : Shape := ⟨2, ![8, 512]⟩
abbrev S8x128 : Shape := ⟨2, ![8, 128]⟩
abbrev S8192x1024 : Shape := ⟨2, ![8192, 1024]⟩
abbrev S4x8192x512 : Shape := ⟨3, ![4, 8192, 512]⟩
abbrev S8x1024 : Shape := ⟨2, ![8, 1024]⟩
abbrev S512x1024 : Shape := ⟨2, ![512, 1024]⟩
abbrev S512x2560 : Shape := ⟨2, ![512, 2560]⟩
abbrev S4x512x512 : Shape := ⟨3, ![4, 512, 512]⟩
abbrev S528x512 : Shape := ⟨2, ![528, 512]⟩
abbrev S5x8x1024 : Shape := ⟨3, ![5, 8, 1024]⟩
abbrev S4x8x512 : Shape := ⟨3, ![4, 8, 512]⟩
abbrev S16x512 : Shape := ⟨2, ![16, 512]⟩
abbrev S512x1 : Shape := ⟨2, ![512, 1]⟩
abbrev S512x512 : Shape := ⟨2, ![512, 512]⟩
abbrev S1x8x512 : Shape := ⟨3, ![1, 8, 512]⟩
abbrev S64x8x512 : Shape := ⟨3, ![64, 8, 512]⟩
abbrev S512x128 : Shape := ⟨2, ![512, 128]⟩
abbrev S1x128x128 : Shape := ⟨3, ![1, 128, 128]⟩
abbrev S128x128 : Shape := ⟨2, ![128, 128]⟩
abbrev S1x512x512 : Shape := ⟨3, ![1, 512, 512]⟩
abbrev S1x1024x512 : Shape := ⟨3, ![1, 1024, 512]⟩
abbrev S1024x512 : Shape := ⟨2, ![1024, 512]⟩
abbrev S1x8x1024 : Shape := ⟨3, ![1, 8, 1024]⟩
abbrev S64x8x1024 : Shape := ⟨3, ![64, 8, 1024]⟩
abbrev S1024 : Shape := ⟨1, ![1024]⟩
abbrev S3x1024 : Shape := ⟨2, ![3, 1024]⟩
abbrev S4x512 : Shape := ⟨2, ![4, 512]⟩

abbrev nBuf : Space → Nat
  | .hbm => 159
  | .vmem => 29
  | .smem => 0
  | _ => 0

abbrev hbmTy0_0 (i : Nat) : BufTy := match i % 128 with
  | 0 => ⟨S1x8192x1024, .f32⟩
  | 1 => ⟨S1x6144, .f32⟩
  | 2 => ⟨S1x1024x2048, .f32⟩
  | 3 => ⟨S1x3x512, .f32⟩
  | 4 => ⟨S1x4x128x128, .f32⟩
  | 5 => ⟨S1x512, .f32⟩
  | 6 => ⟨S1x1024x1024, .f32⟩
  | 7 => ⟨S1x1024, .f32⟩
  | 8 => ⟨S1x1024, .f32⟩
  | 9 => ⟨S1x8192x1024, .f32⟩
  | 10 => ⟨S1x1x6144, .f32⟩
  | 11 => ⟨S1x1x1024, .f32⟩
  | 12 => ⟨S1x1x1024, .f32⟩
  | 13 => ⟨S1x1x1024, .f32⟩
  | 14 => ⟨S1x1x1024, .f32⟩
  | 15 => ⟨S1x1x1024, .f32⟩
  | 16 => ⟨S1x1x1024, .f32⟩
  | 17 => ⟨S1024x2048, .f32⟩
  | 18 => ⟨S3x512, .f32⟩
  | 19 => ⟨S4x128x128, .f32⟩
  | 20 => ⟨S512, .f32⟩
  | 21 => ⟨S1024x1024, .f32⟩
  | 22 => ⟨S_, .f32⟩
  | 23 => ⟨S1x1x1024, .f32⟩
  | 24 => ⟨S1x1x1024, .f32⟩
  | 25 => ⟨S1x8192x1024, .f32⟩
  | 26 => ⟨S1x8192x1024, .f32⟩
  | 27 => ⟨S1x8192x1024, .f32⟩
  | 28 => ⟨S1x8192x1024, .f32⟩
  | 29 => ⟨S1x8192x2048, .f32⟩
  | 30 => ⟨S1x8192x512, .f32⟩
  | 31 => ⟨S1x8192x512, .f32⟩
  | 32 => ⟨S1x8192x512, .f32⟩
  | 33 => ⟨S1x8192x512, .f32⟩
  | 34 => ⟨S1x8192x512, .f32⟩
  | 35 => ⟨S_, .f32⟩
  | 36 => ⟨S1x2x512, .f32⟩
  | 37 => ⟨S1x8194x512, .f32⟩
  | 38 => ⟨S1x8192x512, .f32⟩
  | 39 => ⟨S1x512, .f32⟩
  | 40 => ⟨S512, .f32⟩
  | 41 => ⟨S1x1x512, .f32⟩
  | 42 => ⟨S1x8192x512, .f32⟩
  | 43 => ⟨S1x8192x512, .f32⟩
  | 44 => ⟨S1x8192x512, .f32⟩
  | 45 => ⟨S1x512, .f32⟩
  | 46 => ⟨S512, .f32⟩
  | 47 => ⟨S1x1x512, .f32⟩
  | 48 => ⟨S1x8192x512, .f32⟩
  | 49 => ⟨S1x8192x512, .f32⟩
  | 50 => ⟨S1x8192x512, .f32⟩
  | 51 => ⟨S1x8192x512, .f32⟩
  | 52 => ⟨S1x512, .f32⟩
  | 53 => ⟨S512, .f32⟩
  | 54 => ⟨S1x1x512, .f32⟩
  | 55 => ⟨S1x8192x512, .f32⟩
  | 56 => ⟨S1x8192x512, .f32⟩
  | 57 => ⟨S1x8192x512, .f32⟩
  | 58 => ⟨S_, .f32⟩
  | 59 => ⟨S_, .f32⟩
  | 60 => ⟨S1x8192x512, .f32⟩
  | 61 => ⟨S8192, .f32⟩
  | 62 => ⟨S_, .f32⟩
  | 63 => ⟨S8192, .f32⟩
  | 64 => ⟨S8192, .f32⟩
  | 65 => ⟨S1x8192x1, .f32⟩
  | 66 => ⟨S1x8192x128, .f32⟩
  | 67 => ⟨S_, .f32⟩
  | 68 => ⟨S1x2x128, .f32⟩
  | 69 => ⟨S1x8194x128, .f32⟩
  | 70 => ⟨S1x8192x128, .f32⟩
  | 71 => ⟨S1x8192x128, .f32⟩
  | 72 => ⟨S_, .f32⟩
  | 73 => ⟨S1x8192x1, .f32⟩
  | 74 => ⟨S1x8192x1, .f32⟩
  | 75 => ⟨S1x8192x128, .f32⟩
  | 76 => ⟨S1x8192x128, .f32⟩
  | 77 => ⟨S1x8192x128, .f32⟩
  | 78 => ⟨S1x8192x128, .f32⟩
  | 79 => ⟨S1x8192x128, .f32⟩
  | 80 => ⟨S_, .f32⟩
  | 81 => ⟨S1x4x128, .f32⟩
  | 82 => ⟨S1x8196x128, .f32⟩
  | 83 => ⟨S1x8192x128, .f32⟩
  | 84 => ⟨S1x8192x128, .f32⟩
  | 85 => ⟨S_, .f32⟩
  | 86 => ⟨S1x8192x1, .f32⟩
  | 87 => ⟨S1x8192x1, .f32⟩
  | 88 => ⟨S1x8192x128, .f32⟩
  | 89 => ⟨S1x8192x128, .f32⟩
  | 90 => ⟨S1x8192x128, .f32⟩
  | 91 => ⟨S1x8192x128, .f32⟩
  | 92 => ⟨S1x8192x128, .f32⟩
  | 93 => ⟨S_, .f32⟩
  | 94 => ⟨S1x8x128, .f32⟩
  | 95 => ⟨S1x8200x128, .f32⟩
  | 96 => ⟨S1x8192x128, .f32⟩
  | 97 => ⟨S1x8192x128, .f32⟩
  | 98 => ⟨S_, .f32⟩
  | 99 => ⟨S1x8192x1, .f32⟩
  | 100 => ⟨S1x8192x1, .f32⟩
  | 101 => ⟨S1x8192x128, .f32⟩
  | 102 => ⟨S1x8192x128, .f32⟩
  | 103 => ⟨S1x8192x128, .f32⟩
  | 104 => ⟨S1x8192x128, .f32⟩
  | 105 => ⟨S1x8192x128, .f32⟩
  | 106 => ⟨S_, .f32⟩
  | 107 => ⟨S1x16x128, .f32⟩
  | 108 => ⟨S1x8208x128, .f32⟩
  | 109 => ⟨S1x8192x128, .f32⟩
  | 110 => ⟨S1x8192x128, .f32⟩
  | 111 => ⟨S_, .f32⟩
  | 112 => ⟨S1x8192x1, .f32⟩
  | 113 => ⟨S1x8192x1, .f32⟩
  | 114 => ⟨S1x8192x128, .f32⟩
  | 115 => ⟨S1x8192x128, .f32⟩
  | 116 => ⟨S1x8192x128, .f32⟩
  | 117 => ⟨S1x8192x128, .f32⟩
  | 118 => ⟨S1x8192x1x128, .f32⟩
  | 119 => ⟨S1x8192x1x128, .f32⟩
  | 120 => ⟨S1x8192x1x128, .f32⟩
  | 121 => ⟨S1x8192x1x128, .f32⟩
  | 122 => ⟨S1x8192x4x128, .f32⟩
  | 123 => ⟨S4x128x1x8192, .f32⟩
  | 124 => ⟨S1x8192x4x128, .f32⟩
  | 125 => ⟨S1x8192x512, .f32⟩
  | 126 => ⟨S1x1x512, .f32⟩
  | 127 => ⟨S1x8192x512, .f32⟩
  | _ => ⟨S1x8192x1024, .f32⟩

abbrev hbmTy0_1 (i : Nat) : BufTy := match i % 128 with
  | 0 => ⟨S1x8192x512, .f32⟩
  | 1 => ⟨S1x8192x512, .f32⟩
  | 2 => ⟨S1x8192x1024, .f32⟩
  | 3 => ⟨S1x8192x1024, .f32⟩
  | 4 => ⟨S1x8192x512, .f32⟩
  | 5 => ⟨S1x8192x2560, .f32⟩
  | 6 => ⟨S8192x2560, .f32⟩
  | 7 => ⟨S8192x2560, .bf16⟩
  | 8 => ⟨S8x6144, .f32⟩
  | 9 => ⟨S1024x2048, .f32⟩
  | 10 => ⟨S1024x4x512, .f32⟩
  | 11 => ⟨S4x1024x512, .f32⟩
  | 12 => ⟨S4x1024x512, .bf16⟩
  | 13 => ⟨S3x512, .f32⟩
  | 14 => ⟨S_, .i32⟩
  | 15 => ⟨S_, .f32⟩
  | 16 => ⟨S8x512, .f32⟩
  | 17 => ⟨S_, .f32⟩
  | 18 => ⟨S8x128, .f32⟩
  | 19 => ⟨S8192x1024, .f32⟩
  | 20 => ⟨S8192x1024, .f32⟩
  | 21 => ⟨S8192x1024, .f32⟩
  | 22 => ⟨S4x128x128, .f32⟩
  | 23 => ⟨S1024x1024, .f32⟩
  | 24 => ⟨S1024x1024, .bf16⟩
  | 25 => ⟨S8192x1024, .f32⟩
  | 26 => ⟨S4x8192x512, .bf16⟩
  | 27 => ⟨S8192x1024, .bf16⟩
  | 28 => ⟨S8x1024, .f32⟩
  | 29 => ⟨S8x512, .f32⟩
  | 30 => ⟨S4x128x128, .f32⟩
  | _ => ⟨S1x8192x1024, .f32⟩

abbrev hbmTy (i : Nat) : BufTy := match i / 128 with
  | 0 => hbmTy0_0 i
  | 1 => hbmTy0_1 i
  | _ => ⟨S1x8192x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x2560, .bf16⟩
  | .local _ .vmem, ⟨7, _⟩ => ⟨S512x2560, .bf16⟩
  | .local _ .vmem, ⟨8, _⟩ => ⟨S8x6144, .f32⟩
  | .local _ .vmem, ⟨9, _⟩ => ⟨S8x512, .f32⟩
  | .local _ .vmem, ⟨10, _⟩ => ⟨S4x1024x512, .bf16⟩
  | .local _ .vmem, ⟨11, _⟩ => ⟨S4x128x128, .f32⟩
  | .local _ .vmem, ⟨12, _⟩ => ⟨S1x512, .f32⟩
  | .local _ .vmem, ⟨13, _⟩ => ⟨S1024x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S4x512x512, .bf16⟩
  | .local _ .vmem, ⟨18, _⟩ => ⟨S4x512x512, .bf16⟩
  | .local _ .vmem, ⟨19, _⟩ => ⟨S512x1024, .bf16⟩
  | .local _ .vmem, ⟨20, _⟩ => ⟨S512x1024, .bf16⟩
  | .local _ .vmem, ⟨21, _⟩ => ⟨S8x1024, .f32⟩
  | .local _ .vmem, ⟨22, _⟩ => ⟨S8x512, .f32⟩
  | .local _ .vmem, ⟨23, _⟩ => ⟨S4x128x128, .f32⟩
  | .local _ .vmem, ⟨24, _⟩ => ⟨S528x512, .f32⟩
  | .local _ .vmem, ⟨25, _⟩ => ⟨S528x512, .f32⟩
  | .local _ .vmem, ⟨26, _⟩ => ⟨S5x8x1024, .f32⟩
  | .local _ .vmem, ⟨27, _⟩ => ⟨S4x8x512, .f32⟩
  | .local _ .vmem, ⟨28, _⟩ => ⟨S4x128x128, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_0 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_call0_call0_cst : Ref sig .tc := ⟨.hbm, 58, rfl⟩
abbrev main_call0_call0_v0 : Ref sig .tc := ⟨.hbm, 59, rfl⟩
abbrev main_v46 : Ref sig .tc := ⟨.hbm, 60, rfl⟩
abbrev main_v47 : Ref sig .tc := ⟨.hbm, 61, rfl⟩
abbrev main_cst_1 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_2 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_3 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_4 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_5 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_cst_6 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_cst_7 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_cst_8 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_cst_9 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_c : Ref sig .tc := ⟨.hbm, 142, rfl⟩
abbrev main_call1_v0 : Ref sig .tc := ⟨.hbm, 143, rfl⟩
abbrev main_v119 : Ref sig .tc := ⟨.hbm, 144, rfl⟩
abbrev main_cst_10 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127_0 : Ref sig .tc := ⟨.hbm, 153, rfl⟩
abbrev main_v127_1 : Ref sig .tc := ⟨.hbm, 154, rfl⟩
abbrev main_v127_2 : Ref sig .tc := ⟨.hbm, 155, rfl⟩
abbrev main_v127_3 : Ref sig .tc := ⟨.hbm, 156, rfl⟩
abbrev main_v127_4 : Ref sig .tc := ⟨.hbm, 157, rfl⟩
abbrev main_v127_5 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem15_0 : DmaSem sig := 22
abbrev cc0_sem16_0 : DmaSem sig := 23

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32_264 : BitVec 32 := 15#32
  let v422 : BitVec 1 := Scalar.cmpi .eq arg0 c15_i32_264
  let v423 : BitVec 32 := Scalar.extui v422
  let c0_i32_265 : BitVec 32 := 0#32
  let v424 : BitVec 1 := Scalar.cmpi .ne v423 c0_i32_265
  v424

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_13 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_14 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2560 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S4x128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== BwdRefIdeal.lean ====
abbrev S1x8192x1024 : Shape := ⟨3, ![1, 8192, 1024]⟩
abbrev S1x6144 : Shape := ⟨2, ![1, 6144]⟩
abbrev S1x1024x2048 : Shape := ⟨3, ![1, 1024, 2048]⟩
abbrev S1x3x512 : Shape := ⟨3, ![1, 3, 512]⟩
abbrev S1x4x128x128 : Shape := ⟨4, ![1, 4, 128, 128]⟩
abbrev S1x512 : Shape := ⟨2, ![1, 512]⟩
abbrev S1x1024x1024 : Shape := ⟨3, ![1, 1024, 1024]⟩
abbrev S1x1024 : Shape := ⟨2, ![1, 1024]⟩
abbrev S1x1x6144 : Shape := ⟨3, ![1, 1, 6144]⟩
abbrev S1x1x1024 : Shape := ⟨3, ![1, 1, 1024]⟩
abbrev S_ : Shape := ⟨0, ![]⟩
abbrev S1x8192x2048 : Shape := ⟨3, ![1, 8192, 2048]⟩
abbrev S1024x2048 : Shape := ⟨2, ![1024, 2048]⟩
abbrev S3x512 : Shape := ⟨2, ![3, 512]⟩
abbrev S4x128x128 : Shape := ⟨3, ![4, 128, 128]⟩
abbrev S512 : Shape := ⟨1, ![512]⟩
abbrev S1024x1024 : Shape := ⟨2, ![1024, 1024]⟩
abbrev S1x8192x512 : Shape := ⟨3, ![1, 8192, 512]⟩
abbrev S1x2x512 : Shape := ⟨3, ![1, 2, 512]⟩
abbrev S1x8194x512 : Shape := ⟨3, ![1, 8194, 512]⟩
abbrev S1x1x512 : Shape := ⟨3, ![1, 1, 512]⟩
abbrev S8192 : Shape := ⟨1, ![8192]⟩
abbrev S1x8192x1 : Shape := ⟨3, ![1, 8192, 1]⟩
abbrev S1x8192x128 : Shape := ⟨3, ![1, 8192, 128]⟩
abbrev S1x2x128 : Shape := ⟨3, ![1, 2, 128]⟩
abbrev S1x8194x128 : Shape := ⟨3, ![1, 8194, 128]⟩
abbrev S1x4x128 : Shape := ⟨3, ![1, 4, 128]⟩
abbrev S1x8196x128 : Shape := ⟨3, ![1, 8196, 128]⟩
abbrev S1x8x128 : Shape := ⟨3, ![1, 8, 128]⟩
abbrev S1x8200x128 : Shape := ⟨3, ![1, 8200, 128]⟩
abbrev S1x16x128 : Shape := ⟨3, ![1, 16, 128]⟩
abbrev S1x8208x128 : Shape := ⟨3, ![1, 8208, 128]⟩
abbrev S1x8192x1x128 : Shape := ⟨4, ![1, 8192, 1, 128]⟩
abbrev S1x8192x4x128 : Shape := ⟨4, ![1, 8192, 4, 128]⟩
abbrev S4x128x1x8192 : Shape := ⟨4, ![4, 128, 1, 8192]⟩
abbrev S1024 : Shape := ⟨1, ![1024]⟩
abbrev S1x8192 : Shape := ⟨2, ![1, 8192]⟩
abbrev S4x1x8192x128 : Shape := ⟨4, ![4, 1, 8192, 128]⟩
abbrev S3x1024 : Shape := ⟨2, ![3, 1024]⟩
abbrev S8x1024 : Shape := ⟨2, ![8, 1024]⟩
abbrev S4x512 : Shape := ⟨2, ![4, 512]⟩
abbrev S8x512 : Shape := ⟨2, ![8, 512]⟩
abbrev S8192x2048 : Shape := ⟨2, ![8192, 2048]⟩
abbrev S8192x4x512 : Shape := ⟨3, ![8192, 4, 512]⟩
abbrev S4x8192x512 : Shape := ⟨3, ![4, 8192, 512]⟩
abbrev S8192x1024 : Shape := ⟨2, ![8192, 1024]⟩

abbrev nBuf : Space → Nat
  | .hbm => 423
  | .vmem => 0
  | .smem => 0
  | _ => 0

abbrev hbmTy0_0 (i : Nat) : BufTy := match i % 128 with
  | 0 => ⟨S1x8192x1024, .f32⟩
  | 1 => ⟨S1x6144, .f32⟩
  | 2 => ⟨S1x1024x2048, .f32⟩
  | 3 => ⟨S1x3x512, .f32⟩
  | 4 => ⟨S1x4x128x128, .f32⟩
  | 5 => ⟨S1x512, .f32⟩
  | 6 => ⟨S1x1024x1024, .f32⟩
  | 7 => ⟨S1x1024, .f32⟩
  | 8 => ⟨S1x1024, .f32⟩
  | 9 => ⟨S1x8192x1024, .f32⟩
  | 10 => ⟨S1x1x6144, .f32⟩
  | 11 => ⟨S1x1x1024, .f32⟩
  | 12 => ⟨S1x1x1024, .f32⟩
  | 13 => ⟨S1x1x1024, .f32⟩
  | 14 => ⟨S1x1x1024, .f32⟩
  | 15 => ⟨S1x1x1024, .f32⟩
  | 16 => ⟨S1x1x1024, .f32⟩
  | 17 => ⟨S_, .f32⟩
  | 18 => ⟨S1x8192x2048, .f32⟩
  | 19 => ⟨S_, .f32⟩
  | 20 => ⟨S1x8192x1024, .f32⟩
  | 21 => ⟨S1024x2048, .f32⟩
  | 22 => ⟨S3x512, .f32⟩
  | 23 => ⟨S4x128x128, .f32⟩
  | 24 => ⟨S512, .f32⟩
  | 25 => ⟨S1024x1024, .f32⟩
  | 26 => ⟨S_, .f32⟩
  | 27 => ⟨S1x1x1024, .f32⟩
  | 28 => ⟨S1x1x1024, .f32⟩
  | 29 => ⟨S1x8192x1024, .f32⟩
  | 30 => ⟨S1x8192x1024, .f32⟩
  | 31 => ⟨S1x8192x1024, .f32⟩
  | 32 => ⟨S1x8192x1024, .f32⟩
  | 33 => ⟨S1x8192x2048, .f32⟩
  | 34 => ⟨S1x8192x2048, .f32⟩
  | 35 => ⟨S1x8192x512, .f32⟩
  | 36 => ⟨S1x8192x512, .f32⟩
  | 37 => ⟨S1x8192x512, .f32⟩
  | 38 => ⟨S1x8192x512, .f32⟩
  | 39 => ⟨S1x8192x512, .f32⟩
  | 40 => ⟨S_, .f32⟩
  | 41 => ⟨S1x2x512, .f32⟩
  | 42 => ⟨S1x8194x512, .f32⟩
  | 43 => ⟨S_, .f32⟩
  | 44 => ⟨S1x2x512, .f32⟩
  | 45 => ⟨S1x8192x512, .f32⟩
  | 46 => ⟨S1x512, .f32⟩
  | 47 => ⟨S512, .f32⟩
  | 48 => ⟨S1x1x512, .f32⟩
  | 49 => ⟨S1x8192x512, .f32⟩
  | 50 => ⟨S1x8192x512, .f32⟩
  | 51 => ⟨S1x8192x512, .f32⟩
  | 52 => ⟨S1x512, .f32⟩
  | 53 => ⟨S512, .f32⟩
  | 54 => ⟨S1x1x512, .f32⟩
  | 55 => ⟨S1x8192x512, .f32⟩
  | 56 => ⟨S1x8192x512, .f32⟩
  | 57 => ⟨S1x8192x512, .f32⟩
  | 58 => ⟨S1x8192x512, .f32⟩
  | 59 => ⟨S1x512, .f32⟩
  | 60 => ⟨S512, .f32⟩
  | 61 => ⟨S1x1x512, .f32⟩
  | 62 => ⟨S1x8192x512, .f32⟩
  | 63 => ⟨S1x8192x512, .f32⟩
  | 64 => ⟨S1x8192x512, .f32⟩
  | 65 => ⟨S_, .f32⟩
  | 66 => ⟨S_, .f32⟩
  | 67 => ⟨S1x8192x512, .f32⟩
  | 68 => ⟨S8192, .f32⟩
  | 69 => ⟨S_, .f32⟩
  | 70 => ⟨S8192, .f32⟩
  | 71 => ⟨S8192, .f32⟩
  | 72 => ⟨S1x8192x1, .f32⟩
  | 73 => ⟨S1x8192x128, .f32⟩
  | 74 => ⟨S_, .f32⟩
  | 75 => ⟨S1x2x128, .f32⟩
  | 76 => ⟨S1x8194x128, .f32⟩
  | 77 => ⟨S_, .f32⟩
  | 78 => ⟨S1x2x128, .f32⟩
  | 79 => ⟨S1x8192x128, .f32⟩
  | 80 => ⟨S1x8192x128, .f32⟩
  | 81 => ⟨S_, .f32⟩
  | 82 => ⟨S1x8192x1, .f32⟩
  | 83 => ⟨S1x8192x1, .f32⟩
  | 84 => ⟨S1x8192x128, .f32⟩
  | 85 => ⟨S1x8192x128, .f32⟩
  | 86 => ⟨S1x8192x128, .f32⟩
  | 87 => ⟨S1x8192x128, .f32⟩
  | 88 => ⟨S1x8192x128, .f32⟩
  | 89 => ⟨S_, .f32⟩
  | 90 => ⟨S1x4x128, .f32⟩
  | 91 => ⟨S1x8196x128, .f32⟩
  | 92 => ⟨S_, .f32⟩
  | 93 => ⟨S1x4x128, .f32⟩
  | 94 => ⟨S1x8192x128, .f32⟩
  | 95 => ⟨S1x8192x128, .f32⟩
  | 96 => ⟨S_, .f32⟩
  | 97 => ⟨S1x8192x1, .f32⟩
  | 98 => ⟨S1x8192x1, .f32⟩
  | 99 => ⟨S1x8192x128, .f32⟩
  | 100 => ⟨S1x8192x128, .f32⟩
  | 101 => ⟨S1x8192x128, .f32⟩
  | 102 => ⟨S1x8192x128, .f32⟩
  | 103 => ⟨S1x8192x128, .f32⟩
  | 104 => ⟨S_, .f32⟩
  | 105 => ⟨S1x8x128, .f32⟩
  | 106 => ⟨S1x8200x128, .f32⟩
  | 107 => ⟨S_, .f32⟩
  | 108 => ⟨S1x8x128, .f32⟩
  | 109 => ⟨S1x8192x128, .f32⟩
  | 110 => ⟨S1x8192x128, .f32⟩
  | 111 => ⟨S_, .f32⟩
  | 112 => ⟨S1x8192x1, .f32⟩
  | 113 => ⟨S1x8192x1, .f32⟩
  | 114 => ⟨S1x8192x128, .f32⟩
  | 115 => ⟨S1x8192x128, .f32⟩
  | 116 => ⟨S1x8192x128, .f32⟩
  | 117 => ⟨S1x8192x128, .f32⟩
  | 118 => ⟨S1x8192x128, .f32⟩
  | 119 => ⟨S_, .f32⟩
  | 120 => ⟨S1x16x128, .f32⟩
  | 121 => ⟨S1x8208x128, .f32⟩
  | 122 => ⟨S_, .f32⟩
  | 123 => ⟨S1x16x128, .f32⟩
  | 124 => ⟨S1x8192x128, .f32⟩
  | 125 => ⟨S1x8192x128, .f32⟩
  | 126 => ⟨S_, .f32⟩
  | 127 => ⟨S1x8192x1, .f32⟩
  | _ => ⟨S1x8192x1024, .f32⟩

abbrev hbmTy0_1 (i : Nat) : BufTy := match i % 128 with
  | 0 => ⟨S1x8192x1, .f32⟩
  | 1 => ⟨S1x8192x128, .f32⟩
  | 2 => ⟨S1x8192x128, .f32⟩
  | 3 => ⟨S1x8192x128, .f32⟩
  | 4 => ⟨S1x8192x128, .f32⟩
  | 5 => ⟨S1x8192x1x128, .f32⟩
  | 6 => ⟨S1x8192x1x128, .f32⟩
  | 7 => ⟨S1x8192x1x128, .f32⟩
  | 8 => ⟨S1x8192x1x128, .f32⟩
  | 9 => ⟨S1x8192x4x128, .f32⟩
  | 10 => ⟨S4x128x1x8192, .f32⟩
  | 11 => ⟨S1x8192x4x128, .f32⟩
  | 12 => ⟨S1x8192x512, .f32⟩
  | 13 => ⟨S1x1x512, .f32⟩
  | 14 => ⟨S1x8192x512, .f32⟩
  | 15 => ⟨S1x8192x512, .f32⟩
  | 16 => ⟨S1x8192x512, .f32⟩
  | 17 => ⟨S1x8192x1024, .f32⟩
  | 18 => ⟨S1x8192x1024, .f32⟩
  | 19 => ⟨S1x8192x1024, .f32⟩
  | 20 => ⟨S1x8192x512, .f32⟩
  | 21 => ⟨S_, .f32⟩
  | 22 => ⟨S1x8192x1024, .f32⟩
  | 23 => ⟨S1x8192x1024, .f32⟩
  | 24 => ⟨S_, .f32⟩
  | 25 => ⟨S1x1x1024, .f32⟩
  | 26 => ⟨S1x1x1024, .f32⟩
  | 27 => ⟨S1x8192x1024, .f32⟩
  | 28 => ⟨S1x8192x1024, .f32⟩
  | 29 => ⟨S1x8192x1024, .f32⟩
  | 30 => ⟨S1024, .f32⟩
  | 31 => ⟨S1024, .f32⟩
  | 32 => ⟨S_, .f32⟩
  | 33 => ⟨S1x8192, .f32⟩
  | 34 => ⟨S1x8192x1, .f32⟩
  | 35 => ⟨S_, .f32⟩
  | 36 => ⟨S1x8192x1, .f32⟩
  | 37 => ⟨S1x8192x1, .f32⟩
  | 38 => ⟨S1x8192x1024, .f32⟩
  | 39 => ⟨S1x8192x1024, .f32⟩
  | 40 => ⟨S1x8192x1024, .f32⟩
  | 41 => ⟨S_, .f32⟩
  | 42 => ⟨S1x8192x1024, .f32⟩
  | 43 => ⟨S1x8192x1024, .f32⟩
  | 44 => ⟨S_, .f32⟩
  | 45 => ⟨S1x8192, .f32⟩
  | 46 => ⟨S1x8192x1, .f32⟩
  | 47 => ⟨S_, .f32⟩
  | 48 => ⟨S1x8192x1, .f32⟩
  | 49 => ⟨S1x8192x1, .f32⟩
  | 50 => ⟨S1x8192x1024, .f32⟩
  | 51 => ⟨S1x8192x1024, .f32⟩
  | 52 => ⟨S_, .f32⟩
  | 53 => ⟨S1x8192x1, .f32⟩
  | 54 => ⟨S1x8192x1, .f32⟩
  | 55 => ⟨S1x8192x1, .f32⟩
  | 56 => ⟨S1x8192x1, .f32⟩
  | 57 => ⟨S_, .f32⟩
  | 58 => ⟨S1x8192x1, .f32⟩
  | 59 => ⟨S1x8192x1, .f32⟩
  | 60 => ⟨S1x8192x1024, .f32⟩
  | 61 => ⟨S1x8192x1024, .f32⟩
  | 62 => ⟨S1x1x1024, .f32⟩
  | 63 => ⟨S1x8192x1024, .f32⟩
  | 64 => ⟨S1x8192x1024, .f32⟩
  | 65 => ⟨S1x1x1024, .f32⟩
  | 66 => ⟨S1x8192x1024, .f32⟩
  | 67 => ⟨S1x8192x1024, .f32⟩
  | 68 => ⟨S1x8192x1024, .f32⟩
  | 69 => ⟨S_, .f32⟩
  | 70 => ⟨S1x1024, .f32⟩
  | 71 => ⟨S1x1x1024, .f32⟩
  | 72 => ⟨S_, .f32⟩
  | 73 => ⟨S1024, .f32⟩
  | 74 => ⟨S1x8192x1024, .f32⟩
  | 75 => ⟨S_, .f32⟩
  | 76 => ⟨S1x1024, .f32⟩
  | 77 => ⟨S1x1x1024, .f32⟩
  | 78 => ⟨S1x8192x1024, .f32⟩
  | 79 => ⟨S1x8192x1024, .f32⟩
  | 80 => ⟨S_, .f32⟩
  | 81 => ⟨S1024, .f32⟩
  | 82 => ⟨S1x8192x1024, .f32⟩
  | 83 => ⟨S_, .f32⟩
  | 84 => ⟨S1x8192, .f32⟩
  | 85 => ⟨S1x8192x1, .f32⟩
  | 86 => ⟨S1x8192x1024, .f32⟩
  | 87 => ⟨S1x8192x1024, .f32⟩
  | 88 => ⟨S1x8192x1, .f32⟩
  | 89 => ⟨S1x8192x1024, .f32⟩
  | 90 => ⟨S_, .f32⟩
  | 91 => ⟨S1x8192, .f32⟩
  | 92 => ⟨S1x8192x1, .f32⟩
  | 93 => ⟨S_, .f32⟩
  | 94 => ⟨S1x8192x1, .f32⟩
  | 95 => ⟨S1x8192x1, .f32⟩
  | 96 => ⟨S_, .f32⟩
  | 97 => ⟨S8192, .f32⟩
  | 98 => ⟨S1x8192, .f32⟩
  | 99 => ⟨S1x8192x1024, .f32⟩
  | 100 => ⟨S1x8192x1024, .f32⟩
  | 101 => ⟨S1x8192x1024, .f32⟩
  | 102 => ⟨S_, .f32⟩
  | 103 => ⟨S1x8192, .f32⟩
  | 104 => ⟨S1x8192x1, .f32⟩
  | 105 => ⟨S1x8192x1024, .f32⟩
  | 106 => ⟨S1x8192x1, .f32⟩
  | 107 => ⟨S_, .f32⟩
  | 108 => ⟨S1x8192x1, .f32⟩
  | 109 => ⟨S1x8192x1, .f32⟩
  | 110 => ⟨S_, .f32⟩
  | 111 => ⟨S8192, .f32⟩
  | 112 => ⟨S1x8192, .f32⟩
  | 113 => ⟨S1x8192x1024, .f32⟩
  | 114 => ⟨S1x8192x1024, .f32⟩
  | 115 => ⟨S1x1024, .f32⟩
  | 116 => ⟨S1x1024, .f32⟩
  | 117 => ⟨S1x8192x1024, .f32⟩
  | 118 => ⟨S1x8192x1024, .f32⟩
  | 119 => ⟨S1x8192x1024, .f32⟩
  | 120 => ⟨S_, .f32⟩
  | 121 => ⟨S1x1024, .f32⟩
  | 122 => ⟨S1x1x1024, .f32⟩
  | 123 => ⟨S_, .f32⟩
  | 124 => ⟨S1x8192x1024, .f32⟩
  | 125 => ⟨S1x8192x1024, .f32⟩
  | 126 => ⟨S1x8192x1024, .f32⟩
  | 127 => ⟨S1x8192x512, .f32⟩
  | _ => ⟨S1x8192x1024, .f32⟩

abbrev hbmTy0_2 (i : Nat) : BufTy := match i % 128 with
  | 0 => ⟨S1x8192x512, .f32⟩
  | 1 => ⟨S1x8192x512, .f32⟩
  | 2 => ⟨S1x8192x512, .f32⟩
  | 3 => ⟨S1x8192x512, .f32⟩
  | 4 => ⟨S_, .f32⟩
  | 5 => ⟨S1x512, .f32⟩
  | 6 => ⟨S1x1x512, .f32⟩
  | 7 => ⟨S1x8192x512, .f32⟩
  | 8 => ⟨S1x8192x512, .f32⟩
  | 9 => ⟨S_, .f32⟩
  | 10 => ⟨S512, .f32⟩
  | 11 => ⟨S1x8192x4x128, .f32⟩
  | 12 => ⟨S4x128x1x8192, .f32⟩
  | 13 => ⟨S4x1x8192x128, .f32⟩
  | 14 => ⟨S1x8192x4x128, .f32⟩
  | 15 => ⟨S4x128x128, .f32⟩
  | 16 => ⟨S4x128x128, .f32⟩
  | 17 => ⟨S1x8192x1x128, .f32⟩
  | 18 => ⟨S1x8192x128, .f32⟩
  | 19 => ⟨S1x8192x1x128, .f32⟩
  | 20 => ⟨S1x8192x128, .f32⟩
  | 21 => ⟨S1x8192x1x128, .f32⟩
  | 22 => ⟨S1x8192x128, .f32⟩
  | 23 => ⟨S1x8192x1x128, .f32⟩
  | 24 => ⟨S1x8192x128, .f32⟩
  | 25 => ⟨S1x8192x128, .f32⟩
  | 26 => ⟨S_, .f32⟩
  | 27 => ⟨S1x8192x512, .f32⟩
  | 28 => ⟨S1x8192x128, .f32⟩
  | 29 => ⟨S1x8192x128, .f32⟩
  | 30 => ⟨S1x8192x128, .f32⟩
  | 31 => ⟨S_, .f32⟩
  | 32 => ⟨S1x8208x128, .f32⟩
  | 33 => ⟨S1x16x128, .f32⟩
  | 34 => ⟨S1x8192x128, .f32⟩
  | 35 => ⟨S1x8192x128, .f32⟩
  | 36 => ⟨S_, .f32⟩
  | 37 => ⟨S1x8192x512, .f32⟩
  | 38 => ⟨S1x8192x128, .f32⟩
  | 39 => ⟨S_, .f32⟩
  | 40 => ⟨S1x8192x512, .f32⟩
  | 41 => ⟨S1x8192x512, .f32⟩
  | 42 => ⟨S1x8192x128, .f32⟩
  | 43 => ⟨S1x8192x128, .f32⟩
  | 44 => ⟨S1x8192x128, .f32⟩
  | 45 => ⟨S_, .f32⟩
  | 46 => ⟨S1x8200x128, .f32⟩
  | 47 => ⟨S1x8x128, .f32⟩
  | 48 => ⟨S1x8192x128, .f32⟩
  | 49 => ⟨S1x8192x128, .f32⟩
  | 50 => ⟨S_, .f32⟩
  | 51 => ⟨S1x8192x512, .f32⟩
  | 52 => ⟨S1x8192x512, .f32⟩
  | 53 => ⟨S1x8192x128, .f32⟩
  | 54 => ⟨S_, .f32⟩
  | 55 => ⟨S1x8192x512, .f32⟩
  | 56 => ⟨S1x8192x512, .f32⟩
  | 57 => ⟨S1x8192x128, .f32⟩
  | 58 => ⟨S1x8192x128, .f32⟩
  | 59 => ⟨S1x8192x128, .f32⟩
  | 60 => ⟨S_, .f32⟩
  | 61 => ⟨S1x8196x128, .f32⟩
  | 62 => ⟨S1x4x128, .f32⟩
  | 63 => ⟨S1x8192x128, .f32⟩
  | 64 => ⟨S1x8192x128, .f32⟩
  | 65 => ⟨S_, .f32⟩
  | 66 => ⟨S1x8192x512, .f32⟩
  | 67 => ⟨S1x8192x512, .f32⟩
  | 68 => ⟨S1x8192x128, .f32⟩
  | 69 => ⟨S_, .f32⟩
  | 70 => ⟨S1x8192x512, .f32⟩
  | 71 => ⟨S1x8192x512, .f32⟩
  | 72 => ⟨S1x8192x128, .f32⟩
  | 73 => ⟨S1x8192x128, .f32⟩
  | 74 => ⟨S1x8192x128, .f32⟩
  | 75 => ⟨S_, .f32⟩
  | 76 => ⟨S1x8194x128, .f32⟩
  | 77 => ⟨S1x2x128, .f32⟩
  | 78 => ⟨S1x8192x128, .f32⟩
  | 79 => ⟨S1x8192x128, .f32⟩
  | 80 => ⟨S_, .f32⟩
  | 81 => ⟨S1x8192x512, .f32⟩
  | 82 => ⟨S1x8192x512, .f32⟩
  | 83 => ⟨S_, .f32⟩
  | 84 => ⟨S_, .f32⟩
  | 85 => ⟨S1x8192x512, .f32⟩
  | 86 => ⟨S1x8192x512, .f32⟩
  | 87 => ⟨S1x8192x512, .f32⟩
  | 88 => ⟨S_, .f32⟩
  | 89 => ⟨S1x512, .f32⟩
  | 90 => ⟨S1x1x512, .f32⟩
  | 91 => ⟨S1x8192x512, .f32⟩
  | 92 => ⟨S1x8192x512, .f32⟩
  | 93 => ⟨S_, .f32⟩
  | 94 => ⟨S512, .f32⟩
  | 95 => ⟨S1x512, .f32⟩
  | 96 => ⟨S_, .f32⟩
  | 97 => ⟨S3x512, .f32⟩
  | 98 => ⟨S_, .f32⟩
  | 99 => ⟨S1x8194x512, .f32⟩
  | 100 => ⟨S1x8192x512, .f32⟩
  | 101 => ⟨S_, .f32⟩
  | 102 => ⟨S1x512, .f32⟩
  | 103 => ⟨S1x1x512, .f32⟩
  | 104 => ⟨S1x8192x512, .f32⟩
  | 105 => ⟨S1x8192x512, .f32⟩
  | 106 => ⟨S_, .f32⟩
  | 107 => ⟨S512, .f32⟩
  | 108 => ⟨S1x512, .f32⟩
  | 109 => ⟨S_, .f32⟩
  | 110 => ⟨S3x512, .f32⟩
  | 111 => ⟨S3x512, .f32⟩
  | 112 => ⟨S_, .f32⟩
  | 113 => ⟨S1x8194x512, .f32⟩
  | 114 => ⟨S1x8194x512, .f32⟩
  | 115 => ⟨S1x8192x512, .f32⟩
  | 116 => ⟨S_, .f32⟩
  | 117 => ⟨S1x512, .f32⟩
  | 118 => ⟨S1x1x512, .f32⟩
  | 119 => ⟨S1x8192x512, .f32⟩
  | 120 => ⟨S1x8192x512, .f32⟩
  | 121 => ⟨S_, .f32⟩
  | 122 => ⟨S512, .f32⟩
  | 123 => ⟨S1x512, .f32⟩
  | 124 => ⟨S_, .f32⟩
  | 125 => ⟨S3x512, .f32⟩
  | 126 => ⟨S3x512, .f32⟩
  | 127 => ⟨S_, .f32⟩
  | _ => ⟨S1x8192x1024, .f32⟩

abbrev hbmTy0_3 (i : Nat) : BufTy := match i % 128 with
  | 0 => ⟨S1x8194x512, .f32⟩
  | 1 => ⟨S1x8194x512, .f32⟩
  | 2 => ⟨S1x2x512, .f32⟩
  | 3 => ⟨S1x8192x512, .f32⟩
  | 4 => ⟨S1x8192x512, .f32⟩
  | 5 => ⟨S1x8192x512, .f32⟩
  | 6 => ⟨S1x8192x2048, .f32⟩
  | 7 => ⟨S1x8192x1024, .f32⟩
  | 8 => ⟨S_, .f32⟩
  | 9 => ⟨S1x1024, .f32⟩
  | 10 => ⟨S1x1x1024, .f32⟩
  | 11 => ⟨S1x8192x1024, .f32⟩
  | 12 => ⟨S_, .f32⟩
  | 13 => ⟨S1x1024, .f32⟩
  | 14 => ⟨S1x1x1024, .f32⟩
  | 15 => ⟨S1x8192x1024, .f32⟩
  | 16 => ⟨S1x8192x1024, .f32⟩
  | 17 => ⟨S1x8192x1024, .f32⟩
  | 18 => ⟨S1x512, .f32⟩
  | 19 => ⟨S1x4x128x128, .f32⟩
  | 20 => ⟨S1x3x512, .f32⟩
  | 21 => ⟨S1x1024, .f32⟩
  | 22 => ⟨S1x1024, .f32⟩
  | 23 => ⟨S1x1024, .f32⟩
  | 24 => ⟨S_, .f32⟩
  | 25 => ⟨S3x1024, .f32⟩
  | 26 => ⟨S8x1024, .f32⟩
  | 27 => ⟨S3x512, .f32⟩
  | 28 => ⟨S_, .f32⟩
  | 29 => ⟨S4x512, .f32⟩
  | 30 => ⟨S8x512, .f32⟩
  | 31 => ⟨S8192x2048, .f32⟩
  | 32 => ⟨S8192x4x512, .f32⟩
  | 33 => ⟨S4x8192x512, .f32⟩
  | 34 => ⟨S4x8192x512, .bf16⟩
  | 35 => ⟨S8192x1024, .f32⟩
  | 36 => ⟨S8192x1024, .f32⟩
  | 37 => ⟨S8192x1024, .bf16⟩
  | 38 => ⟨S4x128x128, .f32⟩
  | _ => ⟨S1x8192x1024, .f32⟩

abbrev hbmTy (i : Nat) : BufTy := match i / 128 with
  | 0 => hbmTy0_0 i
  | 1 => hbmTy0_1 i
  | 2 => hbmTy0_2 i
  | 3 => hbmTy0_3 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_call0_call0_cst : Ref sig .tc := ⟨.hbm, 65, rfl⟩
abbrev main_call0_call0_v0 : Ref sig .tc := ⟨.hbm, 66, rfl⟩
abbrev main_v50 : Ref sig .tc := ⟨.hbm, 67, rfl⟩
abbrev main_v51 : Ref sig .tc := ⟨.hbm, 68, rfl⟩
abbrev main_cst_4 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_5 : Ref sig .tc := ⟨.hbm, 74, rfl⟩
abbrev main_v56 : Ref sig .tc := ⟨.hbm, 75, rfl⟩
abbrev main_v57 : Ref sig .tc := ⟨.hbm, 76, rfl⟩
abbrev main_cst_6 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_7 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_8 : Ref sig .tc := ⟨.hbm, 89, rfl⟩
abbrev main_v68 : Ref sig .tc := ⟨.hbm, 90, rfl⟩
abbrev main_v69 : Ref sig .tc := ⟨.hbm, 91, rfl⟩
abbrev main_cst_9 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_10 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_11 : Ref sig .tc := ⟨.hbm, 104, rfl⟩
abbrev main_v80 : Ref sig .tc := ⟨.hbm, 105, rfl⟩
abbrev main_v81 : Ref sig .tc := ⟨.hbm, 106, rfl⟩
abbrev main_cst_12 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_13 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_cst_14 : Ref sig .tc := ⟨.hbm, 119, rfl⟩
abbrev main_v92 : Ref sig .tc := ⟨.hbm, 120, rfl⟩
abbrev main_v93 : Ref sig .tc := ⟨.hbm, 121, rfl⟩
abbrev main_cst_15 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_cst_16 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_cst_17 : Ref sig .tc := ⟨.hbm, 149, rfl⟩
abbrev main_v119 : Ref sig .tc := ⟨.hbm, 150, rfl⟩
abbrev main_v120 : Ref sig .tc := ⟨.hbm, 151, rfl⟩
abbrev main_cst_18 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_cst_19 : Ref sig .tc := ⟨.hbm, 160, rfl⟩
abbrev main_v128 : Ref sig .tc := ⟨.hbm, 161, rfl⟩
abbrev main_v129 : Ref sig .tc := ⟨.hbm, 162, rfl⟩
abbrev main_cst_20 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_cst_21 : Ref sig .tc := ⟨.hbm, 169, rfl⟩
abbrev main_v135 : Ref sig .tc := ⟨.hbm, 170, rfl⟩
abbrev main_v136 : Ref sig .tc := ⟨.hbm, 171, rfl⟩
abbrev main_cst_22 : Ref sig .tc := ⟨.hbm, 172, rfl⟩
abbrev main_v137 : Ref sig .tc := ⟨.hbm, 173, rfl⟩
abbrev main_v138 : Ref sig .tc := ⟨.hbm, 174, rfl⟩
abbrev main_cst_23 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_cst_24 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_cst_25 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_cst_26 : Ref sig .tc := ⟨.hbm, 197, rfl⟩
abbrev main_v158 : Ref sig .tc := ⟨.hbm, 198, rfl⟩
abbrev main_v159 : Ref sig .tc := ⟨.hbm, 199, rfl⟩
abbrev main_cst_27 : Ref sig .tc := ⟨.hbm, 200, rfl⟩
abbrev main_v160 : Ref sig .tc := ⟨.hbm, 201, rfl⟩
abbrev main_v161 : Ref sig .tc := ⟨.hbm, 202, rfl⟩
abbrev main_cst_28 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_cst_29 : Ref sig .tc := ⟨.hbm, 208, rfl⟩
abbrev main_v166 : Ref sig .tc := ⟨.hbm, 209, rfl⟩
abbrev main_v167 : Ref sig .tc := ⟨.hbm, 210, rfl⟩
abbrev main_cst_30 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_cst_31 : Ref sig .tc := ⟨.hbm, 218, rfl⟩
abbrev main_v174 : Ref sig .tc := ⟨.hbm, 219, rfl⟩
abbrev main_v175 : Ref sig .tc := ⟨.hbm, 220, rfl⟩
abbrev main_cst_32 : Ref sig .tc := ⟨.hbm, 221, rfl⟩
abbrev main_v176 : Ref sig .tc := ⟨.hbm, 222, rfl⟩
abbrev main_v177 : Ref sig .tc := ⟨.hbm, 223, rfl⟩
abbrev main_cst_33 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_cst_34 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_cst_35 : Ref sig .tc := ⟨.hbm, 235, rfl⟩
abbrev main_v187 : Ref sig .tc := ⟨.hbm, 236, rfl⟩
abbrev main_v188 : Ref sig .tc := ⟨.hbm, 237, rfl⟩
abbrev main_cst_36 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_cst_37 : Ref sig .tc := ⟨.hbm, 248, rfl⟩
abbrev main_v198 : Ref sig .tc := ⟨.hbm, 249, rfl⟩
abbrev main_v199 : Ref sig .tc := ⟨.hbm, 250, rfl⟩
abbrev main_cst_38 : Ref sig .tc := ⟨.hbm, 251, rfl⟩
abbrev main_v200 : Ref sig .tc := ⟨.hbm, 252, rfl⟩
abbrev main_v201 : Ref sig .tc := ⟨.hbm, 253, rfl⟩
abbrev main_v202 : Ref sig .tc := ⟨.hbm, 254, rfl⟩
abbrev main_v203 : Ref sig .tc := ⟨.hbm, 255, rfl⟩
abbrev main_v204 : Ref sig .tc := ⟨.hbm, 256, rfl⟩
abbrev main_v205 : Ref sig .tc := ⟨.hbm, 257, rfl⟩
abbrev main_v206 : Ref sig .tc := ⟨.hbm, 258, rfl⟩
abbrev main_v207 : Ref sig .tc := ⟨.hbm, 259, rfl⟩
abbrev main_cst_39 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩
abbrev main_v211 : Ref sig .tc := ⟨.hbm, 264, rfl⟩
abbrev main_cst_40 : Ref sig .tc := ⟨.hbm, 265, rfl⟩
abbrev main_v212 : Ref sig .tc := ⟨.hbm, 266, rfl⟩
abbrev main_v213 : Ref sig .tc := ⟨.hbm, 267, rfl⟩
abbrev main_v214 : Ref sig .tc := ⟨.hbm, 268, rfl⟩
abbrev main_v215 : Ref sig .tc := ⟨.hbm, 269, rfl⟩
abbrev main_v216 : Ref sig .tc := ⟨.hbm, 270, rfl⟩
abbrev main_v217 : Ref sig .tc := ⟨.hbm, 271, rfl⟩
abbrev main_v218 : Ref sig .tc := ⟨.hbm, 272, rfl⟩
abbrev main_v219 : Ref sig .tc := ⟨.hbm, 273, rfl⟩
abbrev main_v220 : Ref sig .tc := ⟨.hbm, 274, rfl⟩
abbrev main_v221 : Ref sig .tc := ⟨.hbm, 275, rfl⟩
abbrev main_v222 : Ref sig .tc := ⟨.hbm, 276, rfl⟩
abbrev main_v223 : Ref sig .tc := ⟨.hbm, 277, rfl⟩
abbrev main_v224 : Ref sig .tc := ⟨.hbm, 278, rfl⟩
abbrev main_v225 : Ref sig .tc := ⟨.hbm, 279, rfl⟩
abbrev main_v226 : Ref sig .tc := ⟨.hbm, 280, rfl⟩
abbrev main_v227 : Ref sig .tc := ⟨.hbm, 281, rfl⟩
abbrev main_cst_41 : Ref sig .tc := ⟨.hbm, 282, rfl⟩
abbrev main_v228 : Ref sig .tc := ⟨.hbm, 283, rfl⟩
abbrev main_v229 : Ref sig .tc := ⟨.hbm, 284, rfl⟩
abbrev main_v230 : Ref sig .tc := ⟨.hbm, 285, rfl⟩
abbrev main_v231 : Ref sig .tc := ⟨.hbm, 286, rfl⟩
abbrev main_cst_42 : Ref sig .tc := ⟨.hbm, 287, rfl⟩
abbrev main_v232 : Ref sig .tc := ⟨.hbm, 288, rfl⟩
abbrev main_v233 : Ref sig .tc := ⟨.hbm, 289, rfl⟩
abbrev main_v234 : Ref sig .tc := ⟨.hbm, 290, rfl⟩
abbrev main_v235 : Ref sig .tc := ⟨.hbm, 291, rfl⟩
abbrev main_cst_43 : Ref sig .tc := ⟨.hbm, 292, rfl⟩
abbrev main_v236 : Ref sig .tc := ⟨.hbm, 293, rfl⟩
abbrev main_v237 : Ref sig .tc := ⟨.hbm, 294, rfl⟩
abbrev main_cst_44 : Ref sig .tc := ⟨.hbm, 295, rfl⟩
abbrev main_v238 : Ref sig .tc := ⟨.hbm, 296, rfl⟩
abbrev main_v239 : Ref sig .tc := ⟨.hbm, 297, rfl⟩
abbrev main_v240 : Ref sig .tc := ⟨.hbm, 298, rfl⟩
abbrev main_v241 : Ref sig .tc := ⟨.hbm, 299, rfl⟩
abbrev main_v242 : Ref sig .tc := ⟨.hbm, 300, rfl⟩
abbrev main_cst_45 : Ref sig .tc := ⟨.hbm, 301, rfl⟩
abbrev main_v243 : Ref sig .tc := ⟨.hbm, 302, rfl⟩
abbrev main_v244 : Ref sig .tc := ⟨.hbm, 303, rfl⟩
abbrev main_v245 : Ref sig .tc := ⟨.hbm, 304, rfl⟩
abbrev main_v246 : Ref sig .tc := ⟨.hbm, 305, rfl⟩
abbrev main_cst_46 : Ref sig .tc := ⟨.hbm, 306, rfl⟩
abbrev main_v247 : Ref sig .tc := ⟨.hbm, 307, rfl⟩
abbrev main_v248 : Ref sig .tc := ⟨.hbm, 308, rfl⟩
abbrev main_v249 : Ref sig .tc := ⟨.hbm, 309, rfl⟩
abbrev main_cst_47 : Ref sig .tc := ⟨.hbm, 310, rfl⟩
abbrev main_v250 : Ref sig .tc := ⟨.hbm, 311, rfl⟩
abbrev main_v251 : Ref sig .tc := ⟨.hbm, 312, rfl⟩
abbrev main_v252 : Ref sig .tc := ⟨.hbm, 313, rfl⟩
abbrev main_v253 : Ref sig .tc := ⟨.hbm, 314, rfl⟩
abbrev main_v254 : Ref sig .tc := ⟨.hbm, 315, rfl⟩
abbrev main_cst_48 : Ref sig .tc := ⟨.hbm, 316, rfl⟩
abbrev main_v255 : Ref sig .tc := ⟨.hbm, 317, rfl⟩
abbrev main_v256 : Ref sig .tc := ⟨.hbm, 318, rfl⟩
abbrev main_v257 : Ref sig .tc := ⟨.hbm, 319, rfl⟩
abbrev main_v258 : Ref sig .tc := ⟨.hbm, 320, rfl⟩
abbrev main_cst_49 : Ref sig .tc := ⟨.hbm, 321, rfl⟩
abbrev main_v259 : Ref sig .tc := ⟨.hbm, 322, rfl⟩
abbrev main_v260 : Ref sig .tc := ⟨.hbm, 323, rfl⟩
abbrev main_v261 : Ref sig .tc := ⟨.hbm, 324, rfl⟩
abbrev main_cst_50 : Ref sig .tc := ⟨.hbm, 325, rfl⟩
abbrev main_v262 : Ref sig .tc := ⟨.hbm, 326, rfl⟩
abbrev main_v263 : Ref sig .tc := ⟨.hbm, 327, rfl⟩
abbrev main_v264 : Ref sig .tc := ⟨.hbm, 328, rfl⟩
abbrev main_v265 : Ref sig .tc := ⟨.hbm, 329, rfl⟩
abbrev main_v266 : Ref sig .tc := ⟨.hbm, 330, rfl⟩
abbrev main_cst_51 : Ref sig .tc := ⟨.hbm, 331, rfl⟩
abbrev main_v267 : Ref sig .tc := ⟨.hbm, 332, rfl⟩
abbrev main_v268 : Ref sig .tc := ⟨.hbm, 333, rfl⟩
abbrev main_v269 : Ref sig .tc := ⟨.hbm, 334, rfl⟩
abbrev main_v270 : Ref sig .tc := ⟨.hbm, 335, rfl⟩
abbrev main_cst_52 : Ref sig .tc := ⟨.hbm, 336, rfl⟩
abbrev main_v271 : Ref sig .tc := ⟨.hbm, 337, rfl⟩
abbrev main_v272 : Ref sig .tc := ⟨.hbm, 338, rfl⟩
abbrev main_call1_call0_cst : Ref sig .tc := ⟨.hbm, 339, rfl⟩
abbrev main_call1_call0_v0 : Ref sig .tc := ⟨.hbm, 340, rfl⟩
abbrev main_v273 : Ref sig .tc := ⟨.hbm, 341, rfl⟩
abbrev main_v274 : Ref sig .tc := ⟨.hbm, 342, rfl⟩
abbrev main_v275 : Ref sig .tc := ⟨.hbm, 343, rfl⟩
abbrev main_cst_53 : Ref sig .tc := ⟨.hbm, 344, rfl⟩
abbrev main_v276 : Ref sig .tc := ⟨.hbm, 345, rfl⟩
abbrev main_v277 : Ref sig .tc := ⟨.hbm, 346, rfl⟩
abbrev main_v278 : Ref sig .tc := ⟨.hbm, 347, rfl⟩
abbrev main_v279 : Ref sig .tc := ⟨.hbm, 348, rfl⟩
abbrev main_cst_54 : Ref sig .tc := ⟨.hbm, 349, rfl⟩
abbrev main_v280 : Ref sig .tc := ⟨.hbm, 350, rfl⟩
abbrev main_v281 : Ref sig .tc := ⟨.hbm, 351, rfl⟩
abbrev main_cst_55 : Ref sig .tc := ⟨.hbm, 352, rfl⟩
abbrev main_v282 : Ref sig .tc := ⟨.hbm, 353, rfl⟩
abbrev main_cst_56 : Ref sig .tc := ⟨.hbm, 354, rfl⟩
abbrev main_v283 : Ref sig .tc := ⟨.hbm, 355, rfl⟩
abbrev main_v284 : Ref sig .tc := ⟨.hbm, 356, rfl⟩
abbrev main_cst_57 : Ref sig .tc := ⟨.hbm, 357, rfl⟩
abbrev main_v285 : Ref sig .tc := ⟨.hbm, 358, rfl⟩
abbrev main_v286 : Ref sig .tc := ⟨.hbm, 359, rfl⟩
abbrev main_v287 : Ref sig .tc := ⟨.hbm, 360, rfl⟩
abbrev main_v288 : Ref sig .tc := ⟨.hbm, 361, rfl⟩
abbrev main_cst_58 : Ref sig .tc := ⟨.hbm, 362, rfl⟩
abbrev main_v289 : Ref sig .tc := ⟨.hbm, 363, rfl⟩
abbrev main_v290 : Ref sig .tc := ⟨.hbm, 364, rfl⟩
abbrev main_cst_59 : Ref sig .tc := ⟨.hbm, 365, rfl⟩
abbrev main_v291 : Ref sig .tc := ⟨.hbm, 366, rfl⟩
abbrev main_v292 : Ref sig .tc := ⟨.hbm, 367, rfl⟩
abbrev main_cst_60 : Ref sig .tc := ⟨.hbm, 368, rfl⟩
abbrev main_v293 : Ref sig .tc := ⟨.hbm, 369, rfl⟩
abbrev main_v294 : Ref sig .tc := ⟨.hbm, 370, rfl⟩
abbrev main_v295 : Ref sig .tc := ⟨.hbm, 371, rfl⟩
abbrev main_cst_61 : Ref sig .tc := ⟨.hbm, 372, rfl⟩
abbrev main_v296 : Ref sig .tc := ⟨.hbm, 373, rfl⟩
abbrev main_v297 : Ref sig .tc := ⟨.hbm, 374, rfl⟩
abbrev main_v298 : Ref sig .tc := ⟨.hbm, 375, rfl⟩
abbrev main_v299 : Ref sig .tc := ⟨.hbm, 376, rfl⟩
abbrev main_cst_62 : Ref sig .tc := ⟨.hbm, 377, rfl⟩
abbrev main_v300 : Ref sig .tc := ⟨.hbm, 378, rfl⟩
abbrev main_v301 : Ref sig .tc := ⟨.hbm, 379, rfl⟩
abbrev main_cst_63 : Ref sig .tc := ⟨.hbm, 380, rfl⟩
abbrev main_v302 : Ref sig .tc := ⟨.hbm, 381, rfl⟩
abbrev main_v303 : Ref sig .tc := ⟨.hbm, 382, rfl⟩
abbrev main_cst_64 : Ref sig .tc := ⟨.hbm, 383, rfl⟩
abbrev main_v304 : Ref sig .tc := ⟨.hbm, 384, rfl⟩
abbrev main_v305 : Ref sig .tc := ⟨.hbm, 385, rfl⟩
abbrev main_v306 : Ref sig .tc := ⟨.hbm, 386, rfl⟩
abbrev main_v307 : Ref sig .tc := ⟨.hbm, 387, rfl⟩
abbrev main_v308 : Ref sig .tc := ⟨.hbm, 388, rfl⟩
abbrev main_v309 : Ref sig .tc := ⟨.hbm, 389, rfl⟩
abbrev main_v310 : Ref sig .tc := ⟨.hbm, 390, rfl⟩
abbrev main_v311 : Ref sig .tc := ⟨.hbm, 391, rfl⟩
abbrev main_cst_65 : Ref sig .tc := ⟨.hbm, 392, rfl⟩
abbrev main_v312 : Ref sig .tc := ⟨.hbm, 393, rfl⟩
abbrev main_v313 : Ref sig .tc := ⟨.hbm, 394, rfl⟩
abbrev main_v314 : Ref sig .tc := ⟨.hbm, 395, rfl⟩
abbrev main_cst_66 : Ref sig .tc := ⟨.hbm, 396, rfl⟩
abbrev main_v315 : Ref sig .tc := ⟨.hbm, 397, rfl⟩
abbrev main_v316 : Ref sig .tc := ⟨.hbm, 398, rfl⟩
abbrev main_v317 : Ref sig .tc := ⟨.hbm, 399, rfl⟩
abbrev main_v318 : Ref sig .tc := ⟨.hbm, 400, rfl⟩
abbrev main_v319 : Ref sig .tc := ⟨.hbm, 401, rfl⟩
abbrev main_v320 : Ref sig .tc := ⟨.hbm, 402, rfl⟩
abbrev main_v321 : Ref sig .tc := ⟨.hbm, 403, rfl⟩
abbrev main_v322 : Ref sig .tc := ⟨.hbm, 404, rfl⟩
abbrev main_v323 : Ref sig .tc := ⟨.hbm, 405, rfl⟩
abbrev main_v324 : Ref sig .tc := ⟨.hbm, 406, rfl⟩
abbrev main_v325 : Ref sig .tc := ⟨.hbm, 407, rfl⟩
abbrev main_cst_67 : Ref sig .tc := ⟨.hbm, 408, rfl⟩
abbrev main_v326 : Ref sig .tc := ⟨.hbm, 409, rfl⟩
abbrev main_v327 : Ref sig .tc := ⟨.hbm, 410, rfl⟩
abbrev main_v328 : Ref sig .tc := ⟨.hbm, 411, rfl⟩
abbrev main_cst_68 : Ref sig .tc := ⟨.hbm, 412, rfl⟩
abbrev main_v329 : Ref sig .tc := ⟨.hbm, 413, rfl⟩
abbrev main_v330 : Ref sig .tc := ⟨.hbm, 414, rfl⟩
abbrev main_v331 : Ref sig .tc := ⟨.hbm, 415, rfl⟩
abbrev main_v332 : Ref sig .tc := ⟨.hbm, 416, rfl⟩
abbrev main_v333 : Ref sig .tc := ⟨.hbm, 417, rfl⟩
abbrev main_v334 : Ref sig .tc := ⟨.hbm, 418, rfl⟩
abbrev main_v335 : Ref sig .tc := ⟨.hbm, 419, rfl⟩
abbrev main_v336 : Ref sig .tc := ⟨.hbm, 420, rfl⟩
abbrev main_v337 : Ref sig .tc := ⟨.hbm, 421, rfl⟩
abbrev main_v338 : Ref sig .tc := ⟨.hbm, 422, rfl⟩

abbrev nD : Nat := 1
abbrev τ : Topo := Topo.v7x

variable {F : FTy → Type} [FloatOps F]
-- ==== Fwd.lean ====
abbrev S1x8192x1024 : Shape := ⟨3, ![1, 8192, 1024]⟩
abbrev S1x6144 : Shape := ⟨2, ![1, 6144]⟩
abbrev S1x1024x2048 : Shape := ⟨3, ![1, 1024, 2048]⟩
abbrev S1x3x512 : Shape := ⟨3, ![1, 3, 512]⟩
abbrev S1x4x128x128 : Shape := ⟨4, ![1, 4, 128, 128]⟩
abbrev S1x512 : Shape := ⟨2, ![1, 512]⟩
abbrev S1x1024x1024 : Shape := ⟨3, ![1, 1024, 1024]⟩
abbrev S1x1024 : Shape := ⟨2, ![1, 1024]⟩
abbrev S8x6144 : Shape := ⟨2, ![8, 6144]⟩
abbrev S1024x2048 : Shape := ⟨2, ![1024, 2048]⟩
abbrev S1024x4x512 : Shape := ⟨3, ![1024, 4, 512]⟩
abbrev S4x1024x512 : Shape := ⟨3, ![4, 1024, 512]⟩
abbrev S3x512 : Shape := ⟨2, ![3, 512]⟩
abbrev S_ : Shape := ⟨0, ![]⟩
abbrev S8x512 : Shape := ⟨2, ![8, 512]⟩
abbrev S8192x1024 : Shape := ⟨2, ![8192, 1024]⟩
abbrev S4x128x128 : Shape := ⟨3, ![4, 128, 128]⟩
abbrev S1024x1024 : Shape := ⟨2, ![1024, 1024]⟩
abbrev S8192x2560 : Shape := ⟨2, ![8192, 2560]⟩
abbrev S512x1024 : Shape := ⟨2, ![512, 1024]⟩
abbrev S512x2560 : Shape := ⟨2, ![512, 2560]⟩
abbrev S528x512 : Shape := ⟨2, ![528, 512]⟩
abbrev S16x512 : Shape := ⟨2, ![16, 512]⟩
abbrev S1x1024x512 : Shape := ⟨3, ![1, 1024, 512]⟩
abbrev S1024x512 : Shape := ⟨2, ![1024, 512]⟩
abbrev S512x512 : Shape := ⟨2, ![512, 512]⟩
abbrev S512x128 : Shape := ⟨2, ![512, 128]⟩
abbrev S512x1 : Shape := ⟨2, ![512, 1]⟩
abbrev S1x128x128 : Shape := ⟨3, ![1, 128, 128]⟩
abbrev S128x128 : Shape := ⟨2, ![128, 128]⟩
abbrev S512 : Shape := ⟨1, ![512]⟩

abbrev nBuf : Space → Nat
  | .hbm => 27
  | .vmem => 22
  | .smem => 0
  | _ => 0

abbrev bufTy : (tb : Table) → Fin (tcTables nBuf tb) → BufTy
  | .hbm, ⟨0, _⟩ => ⟨S1x8192x1024, .f32⟩
  | .hbm, ⟨1, _⟩ => ⟨S1x6144, .f32⟩
  | .hbm, ⟨2, _⟩ => ⟨S1x1024x2048, .f32⟩
  | .hbm, ⟨3, _⟩ => ⟨S1x3x512, .f32⟩
  | .hbm, ⟨4, _⟩ => ⟨S1x4x128x128, .f32⟩
  | .hbm, ⟨5, _⟩ => ⟨S1x512, .f32⟩
  | .hbm, ⟨6, _⟩ => ⟨S1x1024x1024, .f32⟩
  | .hbm, ⟨7, _⟩ => ⟨S1x1024, .f32⟩
  | .hbm, ⟨8, _⟩ => ⟨S1x1024, .f32⟩
  | .hbm, ⟨9, _⟩ => ⟨S8x6144, .f32⟩
  | .hbm, ⟨10, _⟩ => ⟨S1024x2048, .f32⟩
  | .hbm, ⟨11, _⟩ => ⟨S1024x4x512, .f32⟩
  | .hbm, ⟨12, _⟩ => ⟨S4x1024x512, .f32⟩
  | .hbm, ⟨13, _⟩ => ⟨S4x1024x512, .bf16⟩
  | .hbm, ⟨14, _⟩ => ⟨S3x512, .f32⟩
  | .hbm, ⟨15, _⟩ => ⟨S_, .i32⟩
  | .hbm, ⟨16, _⟩ => ⟨S_, .f32⟩
  | .hbm, ⟨17, _⟩ => ⟨S8x512, .f32⟩
  | .hbm, ⟨18, _⟩ => ⟨S8192x1024, .f32⟩
  | .hbm, ⟨19, _⟩ => ⟨S4x128x128, .f32⟩
  | .hbm, ⟨20, _⟩ => ⟨S1024x1024, .f32⟩
  | .hbm, ⟨21, _⟩ => ⟨S1024x1024, .bf16⟩
  | .hbm, ⟨22, _⟩ => ⟨S8192x1024, .f32⟩
  | .hbm, ⟨23, _⟩ => ⟨S8192x2560, .bf16⟩
  | .hbm, ⟨24, _⟩ => ⟨S8192x1024, .f32⟩
  | .hbm, ⟨25, _⟩ => ⟨S8192x1024, .bf16⟩
  | .hbm, ⟨26, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S8x6144, .f32⟩
  | .local _ .vmem, ⟨3, _⟩ => ⟨S8x512, .f32⟩
  | .local _ .vmem, ⟨4, _⟩ => ⟨S4x1024x512, .bf16⟩
  | .local _ .vmem, ⟨5, _⟩ => ⟨S4x128x128, .f32⟩
  | .local _ .vmem, ⟨6, _⟩ => ⟨S1x512, .f32⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x2560, .bf16⟩
  | .local _ .vmem, ⟨13, _⟩ => ⟨S512x2560, .bf16⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S528x512, .f32⟩
  | .local _ .vmem, ⟨21, _⟩ => ⟨S528x512, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_call0_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev main_v11_3 : Ref sig .tc := ⟨.hbm, 25, rfl⟩
abbrev main_v11_4 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2560 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== FwdRefIdeal.lean ====
abbrev S1x8192x1024 : Shape := ⟨3, ![1, 8192, 1024]⟩
abbrev S1x6144 : Shape := ⟨2, ![1, 6144]⟩
abbrev S1x1024x2048 : Shape := ⟨3, ![1, 1024, 2048]⟩
abbrev S1x3x512 : Shape := ⟨3, ![1, 3, 512]⟩
abbrev S1x4x128x128 : Shape := ⟨4, ![1, 4, 128, 128]⟩
abbrev S1x512 : Shape := ⟨2, ![1, 512]⟩
abbrev S1x1024x1024 : Shape := ⟨3, ![1, 1024, 1024]⟩
abbrev S1x1024 : Shape := ⟨2, ![1, 1024]⟩
abbrev S1x1x6144 : Shape := ⟨3, ![1, 1, 6144]⟩
abbrev S1x1x1024 : Shape := ⟨3, ![1, 1, 1024]⟩
abbrev S1024x2048 : Shape := ⟨2, ![1024, 2048]⟩
abbrev S3x512 : Shape := ⟨2, ![3, 512]⟩
abbrev S4x128x128 : Shape := ⟨3, ![4, 128, 128]⟩
abbrev S512 : Shape := ⟨1, ![512]⟩
abbrev S1024x1024 : Shape := ⟨2, ![1024, 1024]⟩
abbrev S_ : Shape := ⟨0, ![]⟩
abbrev S1x8192x2048 : Shape := ⟨3, ![1, 8192, 2048]⟩
abbrev S1x8192x512 : Shape := ⟨3, ![1, 8192, 512]⟩
abbrev S1x2x512 : Shape := ⟨3, ![1, 2, 512]⟩
abbrev S1x8194x512 : Shape := ⟨3, ![1, 8194, 512]⟩
abbrev S1x1x512 : Shape := ⟨3, ![1, 1, 512]⟩
abbrev S8192 : Shape := ⟨1, ![8192]⟩
abbrev S1x8192x1 : Shape := ⟨3, ![1, 8192, 1]⟩
abbrev S1x8192x128 : Shape := ⟨3, ![1, 8192, 128]⟩
abbrev S1x2x128 : Shape := ⟨3, ![1, 2, 128]⟩
abbrev S1x8194x128 : Shape := ⟨3, ![1, 8194, 128]⟩
abbrev S1x4x128 : Shape := ⟨3, ![1, 4, 128]⟩
abbrev S1x8196x128 : Shape := ⟨3, ![1, 8196, 128]⟩
abbrev S1x8x128 : Shape := ⟨3, ![1, 8, 128]⟩
abbrev S1x8200x128 : Shape := ⟨3, ![1, 8200, 128]⟩
abbrev S1x16x128 : Shape := ⟨3, ![1, 16, 128]⟩
abbrev S1x8208x128 : Shape := ⟨3, ![1, 8208, 128]⟩
abbrev S1x8192x1x128 : Shape := ⟨4, ![1, 8192, 1, 128]⟩
abbrev S1x8192x4x128 : Shape := ⟨4, ![1, 8192, 4, 128]⟩
abbrev S4x128x1x8192 : Shape := ⟨4, ![4, 128, 1, 8192]⟩
abbrev S1024 : Shape := ⟨1, ![1024]⟩
abbrev S1x8192 : Shape := ⟨2, ![1, 8192]⟩
abbrev S1x8192x2560 : Shape := ⟨3, ![1, 8192, 2560]⟩
abbrev S8192x1024 : Shape := ⟨2, ![8192, 1024]⟩
abbrev S8192x2560 : Shape := ⟨2, ![8192, 2560]⟩

abbrev nBuf : Space → Nat
  | .hbm => 181
  | .vmem => 0
  | .smem => 0
  | _ => 0

abbrev hbmTy0_0 (i : Nat) : BufTy := match i % 128 with
  | 0 => ⟨S1x8192x1024, .f32⟩
  | 1 => ⟨S1x6144, .f32⟩
  | 2 => ⟨S1x1024x2048, .f32⟩
  | 3 => ⟨S1x3x512, .f32⟩
  | 4 => ⟨S1x4x128x128, .f32⟩
  | 5 => ⟨S1x512, .f32⟩
  | 6 => ⟨S1x1024x1024, .f32⟩
  | 7 => ⟨S1x1024, .f32⟩
  | 8 => ⟨S1x1024, .f32⟩
  | 9 => ⟨S1x1x6144, .f32⟩
  | 10 => ⟨S1x1x1024, .f32⟩
  | 11 => ⟨S1x1x1024, .f32⟩
  | 12 => ⟨S1x1x1024, .f32⟩
  | 13 => ⟨S1x1x1024, .f32⟩
  | 14 => ⟨S1x1x1024, .f32⟩
  | 15 => ⟨S1x1x1024, .f32⟩
  | 16 => ⟨S1024x2048, .f32⟩
  | 17 => ⟨S3x512, .f32⟩
  | 18 => ⟨S4x128x128, .f32⟩
  | 19 => ⟨S512, .f32⟩
  | 20 => ⟨S1024x1024, .f32⟩
  | 21 => ⟨S_, .f32⟩
  | 22 => ⟨S1x1x1024, .f32⟩
  | 23 => ⟨S1x1x1024, .f32⟩
  | 24 => ⟨S1x8192x1024, .f32⟩
  | 25 => ⟨S1x8192x1024, .f32⟩
  | 26 => ⟨S1x8192x1024, .f32⟩
  | 27 => ⟨S1x8192x1024, .f32⟩
  | 28 => ⟨S1x8192x2048, .f32⟩
  | 29 => ⟨S1x8192x512, .f32⟩
  | 30 => ⟨S1x8192x512, .f32⟩
  | 31 => ⟨S1x8192x512, .f32⟩
  | 32 => ⟨S1x8192x512, .f32⟩
  | 33 => ⟨S1x8192x512, .f32⟩
  | 34 => ⟨S_, .f32⟩
  | 35 => ⟨S1x2x512, .f32⟩
  | 36 => ⟨S1x8194x512, .f32⟩
  | 37 => ⟨S1x8192x512, .f32⟩
  | 38 => ⟨S1x512, .f32⟩
  | 39 => ⟨S512, .f32⟩
  | 40 => ⟨S1x1x512, .f32⟩
  | 41 => ⟨S1x8192x512, .f32⟩
  | 42 => ⟨S1x8192x512, .f32⟩
  | 43 => ⟨S1x8192x512, .f32⟩
  | 44 => ⟨S1x512, .f32⟩
  | 45 => ⟨S512, .f32⟩
  | 46 => ⟨S1x1x512, .f32⟩
  | 47 => ⟨S1x8192x512, .f32⟩
  | 48 => ⟨S1x8192x512, .f32⟩
  | 49 => ⟨S1x8192x512, .f32⟩
  | 50 => ⟨S1x8192x512, .f32⟩
  | 51 => ⟨S1x512, .f32⟩
  | 52 => ⟨S512, .f32⟩
  | 53 => ⟨S1x1x512, .f32⟩
  | 54 => ⟨S1x8192x512, .f32⟩
  | 55 => ⟨S1x8192x512, .f32⟩
  | 56 => ⟨S1x8192x512, .f32⟩
  | 57 => ⟨S_, .f32⟩
  | 58 => ⟨S_, .f32⟩
  | 59 => ⟨S1x8192x512, .f32⟩
  | 60 => ⟨S8192, .f32⟩
  | 61 => ⟨S_, .f32⟩
  | 62 => ⟨S8192, .f32⟩
  | 63 => ⟨S8192, .f32⟩
  | 64 => ⟨S1x8192x1, .f32⟩
  | 65 => ⟨S1x8192x128, .f32⟩
  | 66 => ⟨S_, .f32⟩
  | 67 => ⟨S1x2x128, .f32⟩
  | 68 => ⟨S1x8194x128, .f32⟩
  | 69 => ⟨S1x8192x128, .f32⟩
  | 70 => ⟨S1x8192x128, .f32⟩
  | 71 => ⟨S_, .f32⟩
  | 72 => ⟨S1x8192x1, .f32⟩
  | 73 => ⟨S1x8192x1, .f32⟩
  | 74 => ⟨S1x8192x128, .f32⟩
  | 75 => ⟨S1x8192x128, .f32⟩
  | 76 => ⟨S1x8192x128, .f32⟩
  | 77 => ⟨S1x8192x128, .f32⟩
  | 78 => ⟨S1x8192x128, .f32⟩
  | 79 => ⟨S_, .f32⟩
  | 80 => ⟨S1x4x128, .f32⟩
  | 81 => ⟨S1x8196x128, .f32⟩
  | 82 => ⟨S1x8192x128, .f32⟩
  | 83 => ⟨S1x8192x128, .f32⟩
  | 84 => ⟨S_, .f32⟩
  | 85 => ⟨S1x8192x1, .f32⟩
  | 86 => ⟨S1x8192x1, .f32⟩
  | 87 => ⟨S1x8192x128, .f32⟩
  | 88 => ⟨S1x8192x128, .f32⟩
  | 89 => ⟨S1x8192x128, .f32⟩
  | 90 => ⟨S1x8192x128, .f32⟩
  | 91 => ⟨S1x8192x128, .f32⟩
  | 92 => ⟨S_, .f32⟩
  | 93 => ⟨S1x8x128, .f32⟩
  | 94 => ⟨S1x8200x128, .f32⟩
  | 95 => ⟨S1x8192x128, .f32⟩
  | 96 => ⟨S1x8192x128, .f32⟩
  | 97 => ⟨S_, .f32⟩
  | 98 => ⟨S1x8192x1, .f32⟩
  | 99 => ⟨S1x8192x1, .f32⟩
  | 100 => ⟨S1x8192x128, .f32⟩
  | 101 => ⟨S1x8192x128, .f32⟩
  | 102 => ⟨S1x8192x128, .f32⟩
  | 103 => ⟨S1x8192x128, .f32⟩
  | 104 => ⟨S1x8192x128, .f32⟩
  | 105 => ⟨S_, .f32⟩
  | 106 => ⟨S1x16x128, .f32⟩
  | 107 => ⟨S1x8208x128, .f32⟩
  | 108 => ⟨S1x8192x128, .f32⟩
  | 109 => ⟨S1x8192x128, .f32⟩
  | 110 => ⟨S_, .f32⟩
  | 111 => ⟨S1x8192x1, .f32⟩
  | 112 => ⟨S1x8192x1, .f32⟩
  | 113 => ⟨S1x8192x128, .f32⟩
  | 114 => ⟨S1x8192x128, .f32⟩
  | 115 => ⟨S1x8192x128, .f32⟩
  | 116 => ⟨S1x8192x128, .f32⟩
  | 117 => ⟨S1x8192x1x128, .f32⟩
  | 118 => ⟨S1x8192x1x128, .f32⟩
  | 119 => ⟨S1x8192x1x128, .f32⟩
  | 120 => ⟨S1x8192x1x128, .f32⟩
  | 121 => ⟨S1x8192x4x128, .f32⟩
  | 122 => ⟨S4x128x1x8192, .f32⟩
  | 123 => ⟨S1x8192x4x128, .f32⟩
  | 124 => ⟨S1x8192x512, .f32⟩
  | 125 => ⟨S1x1x512, .f32⟩
  | 126 => ⟨S1x8192x512, .f32⟩
  | 127 => ⟨S1x8192x512, .f32⟩
  | _ => ⟨S1x8192x1024, .f32⟩

abbrev hbmTy0_1 (i : Nat) : BufTy := match i % 128 with
  | 0 => ⟨S1x8192x512, .f32⟩
  | 1 => ⟨S1x8192x1024, .f32⟩
  | 2 => ⟨S1x8192x1024, .f32⟩
  | 3 => ⟨S1x8192x512, .f32⟩
  | 4 => ⟨S_, .f32⟩
  | 5 => ⟨S1x8192x1024, .f32⟩
  | 6 => ⟨S1x8192x1024, .f32⟩
  | 7 => ⟨S_, .f32⟩
  | 8 => ⟨S1x1x1024, .f32⟩
  | 9 => ⟨S1x1x1024, .f32⟩
  | 10 => ⟨S1x8192x1024, .f32⟩
  | 11 => ⟨S1x8192x1024, .f32⟩
  | 12 => ⟨S1x8192x1024, .f32⟩
  | 13 => ⟨S1024, .f32⟩
  | 14 => ⟨S1024, .f32⟩
  | 15 => ⟨S_, .f32⟩
  | 16 => ⟨S1x8192, .f32⟩
  | 17 => ⟨S1x8192x1, .f32⟩
  | 18 => ⟨S_, .f32⟩
  | 19 => ⟨S1x8192x1, .f32⟩
  | 20 => ⟨S1x8192x1, .f32⟩
  | 21 => ⟨S1x8192x1024, .f32⟩
  | 22 => ⟨S1x8192x1024, .f32⟩
  | 23 => ⟨S1x8192x1024, .f32⟩
  | 24 => ⟨S_, .f32⟩
  | 25 => ⟨S1x8192, .f32⟩
  | 26 => ⟨S1x8192x1, .f32⟩
  | 27 => ⟨S_, .f32⟩
  | 28 => ⟨S1x8192x1, .f32⟩
  | 29 => ⟨S1x8192x1, .f32⟩
  | 30 => ⟨S1x8192x1024, .f32⟩
  | 31 => ⟨S1x8192x1024, .f32⟩
  | 32 => ⟨S_, .f32⟩
  | 33 => ⟨S1x8192x1, .f32⟩
  | 34 => ⟨S1x8192x1, .f32⟩
  | 35 => ⟨S1x8192x1, .f32⟩
  | 36 => ⟨S1x8192x1024, .f32⟩
  | 37 => ⟨S1x8192x1024, .f32⟩
  | 38 => ⟨S1x1x1024, .f32⟩
  | 39 => ⟨S1x8192x1024, .f32⟩
  | 40 => ⟨S1x8192x1024, .f32⟩
  | 41 => ⟨S1x1x1024, .f32⟩
  | 42 => ⟨S1x8192x1024, .f32⟩
  | 43 => ⟨S1x8192x1024, .f32⟩
  | 44 => ⟨S1x8192x2560, .f32⟩
  | 45 => ⟨S8192x1024, .f32⟩
  | 46 => ⟨S8192x2560, .f32⟩
  | 47 => ⟨S8192x2560, .bf16⟩
  | 48 => ⟨S8192x1024, .f32⟩
  | 49 => ⟨S8192x1024, .f32⟩
  | 50 => ⟨S8192x1024, .bf16⟩
  | 51 => ⟨S8192x1024, .f32⟩
  | 52 => ⟨S8192x1024, .bf16⟩
  | _ => ⟨S1x8192x1024, .f32⟩

abbrev hbmTy (i : Nat) : BufTy := match i / 128 with
  | 0 => hbmTy0_0 i
  | 1 => hbmTy0_1 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_call0_call0_cst : Ref sig .tc := ⟨.hbm, 57, rfl⟩
abbrev main_call0_call0_v0 : Ref sig .tc := ⟨.hbm, 58, rfl⟩
abbrev main_v46 : Ref sig .tc := ⟨.hbm, 59, rfl⟩
abbrev main_v47 : Ref sig .tc := ⟨.hbm, 60, rfl⟩
abbrev main_cst_1 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_2 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_3 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_4 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_5 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_cst_6 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_cst_7 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_cst_8 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_cst_9 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_cst_10 : Ref sig .tc := ⟨.hbm, 132, rfl⟩
abbrev main_v110 : Ref sig .tc := ⟨.hbm, 133, rfl⟩
abbrev main_v111 : Ref sig .tc := ⟨.hbm, 134, rfl⟩
abbrev main_cst_11 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_cst_12 : Ref sig .tc := ⟨.hbm, 143, rfl⟩
abbrev main_v119 : Ref sig .tc := ⟨.hbm, 144, rfl⟩
abbrev main_v120 : Ref sig .tc := ⟨.hbm, 145, rfl⟩
abbrev main_cst_13 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_cst_14 : Ref sig .tc := ⟨.hbm, 152, rfl⟩
abbrev main_v126 : Ref sig .tc := ⟨.hbm, 153, rfl⟩
abbrev main_v127 : Ref sig .tc := ⟨.hbm, 154, rfl⟩
abbrev main_cst_15 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_cst_16 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩

abbrev nD : Nat := 1
abbrev τ : Topo := Topo.v7x

variable {F : FTy → Type} [FloatOps F]
-- ==== Ada.lean ====
abbrev S8x1024 : Shape := ⟨2, ![8, 1024]⟩
abbrev S8x1536 : Shape := ⟨2, ![8, 1536]⟩
abbrev S1x1024x1536 : Shape := ⟨3, ![1, 1024, 1536]⟩
abbrev S_ : Shape := ⟨0, ![]⟩
abbrev S8x128 : Shape := ⟨2, ![8, 128]⟩
abbrev S1024x1536 : Shape := ⟨2, ![1024, 1536]⟩
abbrev S128x1536 : Shape := ⟨2, ![128, 1536]⟩

abbrev nBuf : Space → Nat
  | .hbm => 23
  | .vmem => 17
  | .smem => 0
  | _ => 0

abbrev bufTy : (tb : Table) → Fin (tcTables nBuf tb) → BufTy
  | .hbm, ⟨0, _⟩ => ⟨S8x1024, .f32⟩
  | .hbm, ⟨1, _⟩ => ⟨S8x1536, .f32⟩
  | .hbm, ⟨2, _⟩ => ⟨S1x1024x1536, .f32⟩
  | .hbm, ⟨3, _⟩ => ⟨S1x1024x1536, .f32⟩
  | .hbm, ⟨4, _⟩ => ⟨S1x1024x1536, .f32⟩
  | .hbm, ⟨5, _⟩ => ⟨S_, .f32⟩
  | .hbm, ⟨6, _⟩ => ⟨S8x128, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S_, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S1024x1536, .f32⟩
  | .hbm, ⟨17, _⟩ => ⟨S1024x1536, .f32⟩
  | .hbm, ⟨18, _⟩ => ⟨S1024x1536, .f32⟩
  | .hbm, ⟨19, _⟩ => ⟨S1024x1536, .f32⟩
  | .hbm, ⟨20, _⟩ => ⟨S1024x1536, .f32⟩
  | .hbm, ⟨21, _⟩ => ⟨S1024x1536, .f32⟩
  | .hbm, ⟨22, _⟩ => ⟨S1024x1536, .f32⟩
  | .local _ .vmem, ⟨0, _⟩ => ⟨S8x128, .f32⟩
  | .local _ .vmem, ⟨1, _⟩ => ⟨S8x128, .f32⟩
  | .local _ .vmem, ⟨2, _⟩ => ⟨S8x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | .local _ .vmem, ⟨14, _⟩ => ⟨S128x1536, .f32⟩
  | .local _ .vmem, ⟨15, _⟩ => ⟨S128x1536, .f32⟩
  | .local _ .vmem, ⟨16, _⟩ => ⟨S128x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5_0 : Ref sig .tc := ⟨.hbm, 19, rfl⟩
abbrev main_v5_1 : Ref sig .tc := ⟨.hbm, 20, rfl⟩
abbrev main_v5_2 : Ref sig .tc := ⟨.hbm, 21, rfl⟩
abbrev main_v5_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdaRefIdeal.lean ====
abbrev S8x1024 : Shape := ⟨2, ![8, 1024]⟩
abbrev S8x1536 : Shape := ⟨2, ![8, 1536]⟩
abbrev S1x1024x1536 : Shape := ⟨3, ![1, 1024, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1536, .f32⟩
  | .hbm, ⟨2, _⟩ => ⟨S1x1024x1536, .f32⟩
  | .hbm, ⟨3, _⟩ => ⟨S1x1024x1536, .f32⟩
  | .hbm, ⟨4, _⟩ => ⟨S1x1024x1536, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S1024x1536, .f32⟩
  | .hbm, ⟨15, _⟩ => ⟨S8x1536, .f32⟩
  | .hbm, ⟨16, _⟩ => ⟨S1536x1024, .f32⟩
  | .hbm, ⟨17, _⟩ => ⟨S1024x1536, .f32⟩
  | .hbm, ⟨18, _⟩ => ⟨S1x1024x1536, .f32⟩
  | .hbm, ⟨19, _⟩ => ⟨S_, .f32⟩
  | .hbm, ⟨20, _⟩ => ⟨S1x1024x1536, .f32⟩
  | .hbm, ⟨21, _⟩ => ⟨S1x1024x1536, .f32⟩
  | .hbm, ⟨22, _⟩ => ⟨S_, .f32⟩
  | .hbm, ⟨23, _⟩ => ⟨S1x1024x1536, .f32⟩
  | .hbm, ⟨24, _⟩ => ⟨S1x1024x1536, .f32⟩
  | .hbm, ⟨25, _⟩ => ⟨S1x1024x1536, .f32⟩
  | .hbm, ⟨26, _⟩ => ⟨S_, .f32⟩
  | .hbm, ⟨27, _⟩ => ⟨S1x1024x1536, .f32⟩
  | .hbm, ⟨28, _⟩ => ⟨S1x1024x1536, .f32⟩
  | .hbm, ⟨29, _⟩ => ⟨S1x1024x1536, .f32⟩
  | .hbm, ⟨30, _⟩ => ⟨S_, .f32⟩
  | .hbm, ⟨31, _⟩ => ⟨S1x1024x1536, .f32⟩
  | .hbm, ⟨32, _⟩ => ⟨S1x1024x1536, .f32⟩
  | .hbm, ⟨33, _⟩ => ⟨S1x1024x1536, .f32⟩
  | .hbm, ⟨34, _⟩ => ⟨S_, .f32⟩
  | .hbm, ⟨35, _⟩ => ⟨S1x1024x1536, .f32⟩
  | .hbm, ⟨36, _⟩ => ⟨S1x1024x1536, .f32⟩
  | .hbm, ⟨37, _⟩ => ⟨S_, .f32⟩
  | .hbm, ⟨38, _⟩ => ⟨S1x1024x1536, .f32⟩
  | .hbm, ⟨39, _⟩ => ⟨S1x1024x1536, .f32⟩
  | .hbm, ⟨40, _⟩ => ⟨S1x1024x1536, .f32⟩
  | .hbm, ⟨41, _⟩ => ⟨S_, .f32⟩
  | .hbm, ⟨42, _⟩ => ⟨S1x1024x1536, .f32⟩
  | .hbm, ⟨43, _⟩ => ⟨S1x1024x1536, .f32⟩
  | .hbm, ⟨44, _⟩ => ⟨S1x1024x1536, .f32⟩
  | .hbm, ⟨45, _⟩ => ⟨S_, .f32⟩
  | .hbm, ⟨46, _⟩ => ⟨S1x1024x1536, .f32⟩
  | .hbm, ⟨47, _⟩ => ⟨S1x1024x1536, .f32⟩
  | .hbm, ⟨48, _⟩ => ⟨S1x1024x1536, .f32⟩
  | .hbm, ⟨49, _⟩ => ⟨S_, .f32⟩
  | .hbm, ⟨50, _⟩ => ⟨S1x1024x1536, .f32⟩
  | .hbm, ⟨51, _⟩ => ⟨S1x1024x1536, .f32⟩
  | .hbm, ⟨52, _⟩ => ⟨S1024x1536, .f32⟩
  | .hbm, ⟨53, _⟩ => ⟨S1024x1536, .f32⟩
  | .hbm, ⟨54, _⟩ => ⟨S1024x1536, .f32⟩
  | .hbm, ⟨55, _⟩ => ⟨S1024x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_7 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩

abbrev nD : Nat := 1
abbrev τ : Topo := Topo.v7x

variable {F : FTy → Type} [FloatOps F]
-- ==== Opt.lean ====
abbrev S1024x1024 : Shape := ⟨2, ![1024, 1024]⟩
abbrev S1x1024x1024 : Shape := ⟨3, ![1, 1024, 1024]⟩
abbrev S256x1024 : Shape := ⟨2, ![256, 1024]⟩

abbrev nBuf : Space → Nat
  | .hbm => 20
  | .vmem => 28
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1x1024x1024, .f32⟩
  | .hbm, ⟨3, _⟩ => ⟨S1x1024x1024, .f32⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev main_v6_5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== OptRefIdeal.lean ====
abbrev S1024x1024 : Shape := ⟨2, ![1024, 1024]⟩
abbrev S1x1024x1024 : Shape := ⟨3, ![1, 1024, 1024]⟩
abbrev S_ : Shape := ⟨0, ![]⟩

abbrev nBuf : Space → Nat
  | .hbm => 80
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1x1024x1024, .f32⟩
  | .hbm, ⟨3, _⟩ => ⟨S1x1024x1024, .f32⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S_, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S_, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S_, .f32⟩
  | .hbm, ⟨30, _⟩ => ⟨S1024x1024, .f32⟩
  | .hbm, ⟨31, _⟩ => ⟨S1024x1024, .f32⟩
  | .hbm, ⟨32, _⟩ => ⟨S1024x1024, .f32⟩
  | .hbm, ⟨33, _⟩ => ⟨S_, .f32⟩
  | .hbm, ⟨34, _⟩ => ⟨S1024x1024, .f32⟩
  | .hbm, ⟨35, _⟩ => ⟨S1024x1024, .f32⟩
  | .hbm, ⟨36, _⟩ => ⟨S1024x1024, .f32⟩
  | .hbm, ⟨37, _⟩ => ⟨S_, .f32⟩
  | .hbm, ⟨38, _⟩ => ⟨S1024x1024, .f32⟩
  | .hbm, ⟨39, _⟩ => ⟨S1024x1024, .f32⟩
  | .hbm, ⟨40, _⟩ => ⟨S1024x1024, .f32⟩
  | .hbm, ⟨41, _⟩ => ⟨S_, .f32⟩
  | .hbm, ⟨42, _⟩ => ⟨S1024x1024, .f32⟩
  | .hbm, ⟨43, _⟩ => ⟨S1024x1024, .f32⟩
  | .hbm, ⟨44, _⟩ => ⟨S1024x1024, .f32⟩
  | .hbm, ⟨45, _⟩ => ⟨S1024x1024, .f32⟩
  | .hbm, ⟨46, _⟩ => ⟨S1024x1024, .f32⟩
  | .hbm, ⟨47, _⟩ => ⟨S_, .f32⟩
  | .hbm, ⟨48, _⟩ => ⟨S1024x1024, .f32⟩
  | .hbm, ⟨49, _⟩ => ⟨S1024x1024, .f32⟩
  | .hbm, ⟨50, _⟩ => ⟨S_, .f32⟩
  | .hbm, ⟨51, _⟩ => ⟨S1024x1024, .f32⟩
  | .hbm, ⟨52, _⟩ => ⟨S1024x1024, .f32⟩
  | .hbm, ⟨53, _⟩ => ⟨S1024x1024, .f32⟩
  | .hbm, ⟨54, _⟩ => ⟨S_, .f32⟩
  | .hbm, ⟨55, _⟩ => ⟨S1024x1024, .f32⟩
  | .hbm, ⟨56, _⟩ => ⟨S1024x1024, .f32⟩
  | .hbm, ⟨57, _⟩ => ⟨S1024x1024, .f32⟩
  | .hbm, ⟨58, _⟩ => ⟨S_, .f32⟩
  | .hbm, ⟨59, _⟩ => ⟨S1024x1024, .f32⟩
  | .hbm, ⟨60, _⟩ => ⟨S1024x1024, .f32⟩
  | .hbm, ⟨61, _⟩ => ⟨S1024x1024, .f32⟩
  | .hbm, ⟨62, _⟩ => ⟨S_, .f32⟩
  | .hbm, ⟨63, _⟩ => ⟨S1024x1024, .f32⟩
  | .hbm, ⟨64, _⟩ => ⟨S1024x1024, .f32⟩
  | .hbm, ⟨65, _⟩ => ⟨S_, .f32⟩
  | .hbm, ⟨66, _⟩ => ⟨S1024x1024, .f32⟩
  | .hbm, ⟨67, _⟩ => ⟨S1024x1024, .f32⟩
  | .hbm, ⟨68, _⟩ => ⟨S1024x1024, .f32⟩
  | .hbm, ⟨69, _⟩ => ⟨S_, .f32⟩
  | .hbm, ⟨70, _⟩ => ⟨S1024x1024, .f32⟩
  | .hbm, ⟨71, _⟩ => ⟨S1024x1024, .f32⟩
  | .hbm, ⟨72, _⟩ => ⟨S1024x1024, .f32⟩
  | .hbm, ⟨73, _⟩ => ⟨S_, .f32⟩
  | .hbm, ⟨74, _⟩ => ⟨S1024x1024, .f32⟩
  | .hbm, ⟨75, _⟩ => ⟨S1024x1024, .f32⟩
  | .hbm, ⟨76, _⟩ => ⟨S1024x1024, .f32⟩
  | .hbm, ⟨77, _⟩ => ⟨S_, .f32⟩
  | .hbm, ⟨78, _⟩ => ⟨S1024x1024, .f32⟩
  | .hbm, ⟨79, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_cst_9 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_10 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_11 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_12 : Ref sig .tc := ⟨.hbm, 62, rfl⟩
abbrev main_v41 : Ref sig .tc := ⟨.hbm, 63, rfl⟩
abbrev main_v42 : Ref sig .tc := ⟨.hbm, 64, rfl⟩
abbrev main_cst_13 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_14 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_15 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_16 : Ref sig .tc := ⟨.hbm, 77, rfl⟩
abbrev main_v52 : Ref sig .tc := ⟨.hbm, 78, rfl⟩
abbrev main_v53 : Ref sig .tc := ⟨.hbm, 79, rfl⟩

abbrev nD : Nat := 1
abbrev τ : Topo := Topo.v7x

variable {F : FTy → Type} [FloatOps F]
-- ==== Proof.RealLift.lean ====
/- Real arithmetic inside the extended reals: the operations of finite values are the real operations.
   Row functions of the layer normalisation and its gradient, shared by the value proofs. -/
module

public import Idealize.ShloMosaic.Lib.Pointwise
public import Idealize.ShloMosaic.Lib.IdealHost

@[expose] public section

noncomputable section

namespace Cert.RealLift

open Idealize.ShloMosaic

/-- A finite sum of real values is the real sum. -/
theorem coe_sum {ι : Type*} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

theorem coe_max (a b : ℝ) : max (a : EReal) (b : EReal) = ((max a b : ℝ) : EReal) :=
  ((EReal.coe_strictMono.monotone).map_max).symm

theorem coe_div (a b : ℝ) (h : b ≠ 0) : Ideal.div (a : EReal) (b : EReal) = ((a / b : ℝ) : EReal) := by
  rw [Ideal.div_coe h, ← EReal.coe_mul, mul_one_div]

theorem coe_rsqrt (a : ℝ) (h : 0 < a) : Ideal.rsqrt (a : EReal) = (((Real.sqrt a)⁻¹ : ℝ) : EReal) := by
  rw [Ideal.rsqrt_coe, if_neg (not_lt.mpr h.le), if_neg h.ne']

/-- A value below infinity in magnitude is a real number. -/
theorem exists_real (x : EReal) (h1 : x ≠ ⊤) (h2 : x ≠ ⊥) : ((x.toReal : ℝ) : EReal) = x :=
  EReal.coe_toReal h1 h2

/-! ## The constants -/

/-- The residual weight, as the binary32 number printed for it. -/
def alpha : ℝ := 9975792 / 8388608
/-- The stabiliser of the variance, as the binary32 number printed for it. -/
def eps : ℝ := 10995116 / 1099511627776

theorem eps_pos : 0 < eps := by norm_num [eps]
theorem c_alpha : Ideal.ofBits .f32 0x3F9837F0#32 = ((alpha : ℝ) : EReal) := by
  rw [alpha]; simp [Ideal.ofBits, Ideal.ieee, -EReal.coe_mul]; norm_num
theorem c_eps : Ideal.ofBits .f32 0x3727C5AC#32 = ((eps : ℝ) : EReal) := by
  rw [eps]; simp [Ideal.ofBits, Ideal.ieee, -EReal.coe_mul]; norm_num
theorem c_1024 : Ideal.ofBits .f32 0x44800000#32 = ((1024 : ℝ) : EReal) := by
  simp [Ideal.ofBits, Ideal.ieee, -EReal.coe_mul]; norm_num
theorem c_2 : Ideal.ofBits .f32 0x40000000#32 = ((2 : ℝ) : EReal) := by
  simp [Ideal.ofBits, Ideal.ieee, -EReal.coe_mul]; norm_num
theorem c_inv1024 : Ideal.ofBits .f32 0x3A800000#32 = ((1 / 1024 : ℝ) : EReal) := by
  simp [Ideal.ofBits, Ideal.ieee, -EReal.coe_mul]; norm_num
theorem c_inv2048 : Ideal.ofBits .f32 0x3A000000#32 = ((1 / 2048 : ℝ) : EReal) := by
  simp [Ideal.ofBits, Ideal.ieee, -EReal.coe_mul]; norm_num
theorem c_half : Ideal.ofBits .f32 0x3F000000#32 = ((1 / 2 : ℝ) : EReal) := by
  simp [Ideal.ofBits, Ideal.ieee, -EReal.coe_mul]; norm_num
theorem c_neghalf : Ideal.ofBits .f32 0xBF000000#32 = ((-(1 / 2) : ℝ) : EReal) := by
  simp [Ideal.ofBits, Ideal.ieee, -EReal.coe_mul]; norm_num

/-- The operations and constants of real values, read upwards. -/
theorem ups :
    (∀ a b : ℝ, (a : EReal) + (b : EReal) = ((a + b : ℝ) : EReal)) ∧ (∀ a b : ℝ, (a : EReal) * (b : EReal) = ((a * b : ℝ) : EReal))
    ∧ (∀ a b : ℝ, (a : EReal) - (b : EReal) = ((a - b : ℝ) : EReal)) ∧ (∀ a : ℝ, -(a : EReal) = ((-a : ℝ) : EReal))
    ∧ (∀ a b : ℝ, max (a : EReal) (b : EReal) = ((max a b : ℝ) : EReal))
    ∧ (∀ (n : ℕ) (f : Fin n → ℝ), (∑ k, ((f k : ℝ) : EReal)) = ((∑ k, f k : ℝ) : EReal))
    ∧ (∀ a : ℝ, Ideal.div (a : EReal) (Ideal.ofBits .f32 0x44800000#32) = ((a / 1024 : ℝ) : EReal))
    ∧ (∀ a : ℝ, Ideal.div (a : EReal) ((1024 : ℝ) : EReal) = ((a / 1024 : ℝ) : EReal))
    ∧ Ideal.ofBits .f32 0x3F9837F0#32 = ((alpha : ℝ) : EReal) ∧ Ideal.ofBits .f32 0x3727C5AC#32 = ((eps : ℝ) : EReal)
    ∧ Ideal.ofBits .f32 0x44800000#32 = ((1024 : ℝ) : EReal) ∧ Ideal.ofBits .f32 0x40000000#32 = ((2 : ℝ) : EReal)
    ∧ Ideal.ofBits .f32 0x3A800000#32 = ((1 / 1024 : ℝ) : EReal) ∧ Ideal.ofBits .f32 0x3A000000#32 = ((1 / 2048 : ℝ) : EReal)
    ∧ Ideal.ofBits .f32 0x3F000000#32 = ((1 / 2 : ℝ) : EReal) ∧ Ideal.ofBits .f32 0xBF000000#32 = ((-(1 / 2) : ℝ) : EReal)
    ∧ (1 : EReal) = ((1 : ℝ) : EReal) ∧ (0 : EReal) = ((0 : ℝ) : EReal) :=
  ⟨fun a b => (EReal.coe_add a b).symm, fun a b => (EReal.coe_mul a b).symm, fun a b => (EReal.coe_sub a b).symm, fun a => (EReal.coe_neg a).symm,
    coe_max, fun n f => coe_sum _ f, fun a => by rw [c_1024, coe_div _ _ (by norm_num)], fun a => coe_div _ _ (by norm_num),
    c_alpha, c_eps, c_1024, c_2, c_inv1024, c_inv2048, c_half, c_neghalf, rfl, rfl⟩

/-- The entries of a rank-two block are real numbers. -/
def Is2 {a b : ℕ} {φ : FTy} (v : FVec Ideal ⟨2, ![a, b]⟩ φ) (f : Fin a → Fin b → ℝ) : Prop := ∀ r c, v (ix2 r c) = ((f r c : ℝ) : EReal)
/-- The entries of a rank-three block are real numbers. -/
def Is3 {a b d : ℕ} {φ : FTy} (v : FVec Ideal ⟨3, ![a, b, d]⟩ φ) (f : Fin a → Fin b → Fin d → ℝ) : Prop :=
  ∀ j r c, v (ix3 j r c) = ((f j r c : ℝ) : EReal)

theorem Is2.at {a b : ℕ} {φ : FTy} {v : FVec Ideal ⟨2, ![a, b]⟩ φ} {f : Fin a → Fin b → ℝ} (h : Is2 v f) (x : (⟨2, ![a, b]⟩ : Shape).Idx)
    {r : Fin a} {c : Fin b} (h0 : (r : ℕ) = (x 0).val) (h1 : (c : ℕ) = (x 1).val) : v x = ((f r c : ℝ) : EReal) := by
  obtain rfl : x = ix2 r c := by
    funext k; match k with
    | ⟨0, _⟩ => exact Fin.ext h0.symm
    | ⟨1, _⟩ => exact Fin.ext h1.symm
  exact h r c

theorem Is3.at {a b d : ℕ} {φ : FTy} {v : FVec Ideal ⟨3, ![a, b, d]⟩ φ} {f : Fin a → Fin b → Fin d → ℝ} (h : Is3 v f) (x : (⟨3, ![a, b, d]⟩ : Shape).Idx)
    {j : Fin a} {r : Fin b} {c : Fin d} (h0 : (j : ℕ) = (x 0).val) (h1 : (r : ℕ) = (x 1).val) (h2 : (c : ℕ) = (x 2).val) : v x = ((f j r c : ℝ) : EReal) := by
  obtain rfl : x = ix3 j r c := by
    funext k; match k with
    | ⟨0, _⟩ => exact Fin.ext h0.symm
    | ⟨1, _⟩ => exact Fin.ext h1.symm
    | ⟨2, _⟩ => exact Fin.ext h2.symm
  exact h j r c

/-! ## The layer normalisation of a row of 1024 numbers -/

abbrev Row := Fin 1024 → ℝ

def mean (r : Row) : ℝ := (∑ c, r c) / 1024
def cen (r : Row) : Row := fun c => r c - mean r
def var (r : Row) : ℝ := (∑ c, cen r c * cen r c) / 1024
def rstd (r : Row) : ℝ := (Real.sqrt (var r + eps))⁻¹
def xhat (r : Row) : Row := fun c => cen r c * rstd r

theorem var_nonneg (r : Row) : 0 ≤ var r :=
  div_nonneg (Finset.sum_nonneg fun c _ => mul_self_nonneg _) (by norm_num)
theorem var_eps_pos (r : Row) : 0 < var r + eps := add_pos_of_nonneg_of_pos (var_nonneg r) eps_pos

/-- The gradient of the normalised row, as the fused kernel writes it (`e` is the gradient times the scale). -/
def lnBwd (r e : Row) : Row := fun c =>
  rstd r * (e c - (∑ k, e k) / 1024 - xhat r c * ((∑ k, e k * xhat r k) / 1024))

theorem sum_cen (r : Row) : ∑ c, cen r c = 0 := by
  simp only [cen, mean, Finset.sum_sub_distrib, Finset.sum_const, Finset.card_univ, Fintype.card_fin, nsmul_eq_mul]
  push_cast
  ring

/-- What differentiating the normalisation line by line gives is the fused form. -/
theorem lnBwd_eq (r e : Row) (c : Fin 1024) :
    let t : Row := fun k => e k * rstd r
    let u : ℝ := (∑ k, cen r k * e k) * (-(1 / 2) * (rstd r / (var r + eps))) / 1024
    t c + u * (2 * cen r c) + (-(∑ k, (t k + u * (2 * cen r k)))) / 1024 = lnBwd r e c := by
  intro t u
  have hs : rstd r / (var r + eps) = rstd r * rstd r * rstd r := by
    have h := var_eps_pos r
    have h2 : rstd r * rstd r = (var r + eps)⁻¹ := by
      rw [rstd, ← mul_inv, Real.mul_self_sqrt h.le]
    rw [h2, mul_comm, div_eq_mul_inv, mul_comm]
  have h1 : ∑ k, (t k + u * (2 * cen r k)) = (∑ k, e k) * rstd r := by
    rw [Finset.sum_add_distrib, ← Finset.mul_sum, ← Finset.mul_sum, sum_cen, ← Finset.sum_mul]; ring
  have h3 : ∑ k, e k * xhat r k = (∑ k, cen r k * e k) * rstd r := by
    rw [Finset.sum_mul]; exact Finset.sum_congr rfl fun k _ => by rw [xhat]; ring
  rw [h1, lnBwd, h3]
  simp only [t, u, xhat, hs]
  ring

end Cert.RealLift

end
-- ==== Proof.MlpMath.lean ====
/- The real functions the MLP call computes, token by token: forward, loss gradient, backward. -/
module

public import proofs.«01_k».proof.Proof.RealLift

@[expose] public section

noncomputable section

namespace Cert.MlpMath

open Idealize.ShloMosaic Cert.RealLift

/-- What every token shares: shift, scale and gate, the normalisation's scale and shift, the two weights. -/
structure Par where
  sh : Row
  sc : Row
  g : Row
  lg : Row
  lb : Row
  wi : Fin 1024 → Fin 4096 → ℝ
  wo : Fin 4096 → Fin 1024 → ℝ

/-- Hidden unit `q` of chunk `j`. -/
def kx (j : Fin 4) (q : Fin 1024) : Fin 4096 := ⟨j.val * 1024 + q.val, by omega⟩

theorem sum_chunks (F : Fin 4096 → ℝ) :
    ∑ k, F k = ∑ q, F (kx 0 q) + ∑ q, F (kx 1 q) + ∑ q, F (kx 2 q) + ∑ q, F (kx 3 q) := by
  rw [Fin.sum_univ_tiles 4 1024 rfl F, Fin.sum_univ_four]
  rfl

variable (P : Par) (x tg : Row)

def h : Row := fun c => x c * (1 + P.sc c) + P.sh c
def act : Fin 4096 → ℝ := fun k => max (∑ c, h P x c * P.wi c k) 0
def sq : Fin 4096 → ℝ := fun k => act P x k * act P x k
def f : Row := fun c => ∑ k, sq P x k * P.wo k c
/-- Chunk `j`'s part of the forward product. -/
def fc (j : Fin 4) : Row := fun c => ∑ q, sq P x (kx j q) * P.wo (kx j q) c
theorem f_chunks (c : Fin 1024) : f P x c = fc P x 0 c + fc P x 1 c + fc P x 2 c + fc P x 3 c := sum_chunks _
def res : Row := fun c => alpha * x c + (1 + P.g c) * f P x c
def err : Row := fun c => xhat (res P x) c * P.lg c + P.lb c - tg c
def dy : Row := fun c => err P x tg c * (1 / 1024)
def dn : Row := fun c => dy P x tg c * P.lg c
def dr : Row := lnBwd (res P x) (dn P x tg)
def df : Row := fun c => (1 + P.g c) * dr P x tg c
def da : Fin 4096 → ℝ := fun k => (∑ c, df P x tg c * P.wo k c) * (2 * act P x k)
def dh : Row := fun c => ∑ k, da P x tg k * P.wi c k
/-- Chunk `j`'s part of the gradient product. -/
def dc (j : Fin 4) : Row := fun c => ∑ q, da P x tg (kx j q) * P.wi c (kx j q)
theorem dh_chunks (c : Fin 1024) : dh P x tg c = dc P x tg 0 c + dc P x tg 1 c + dc P x tg 2 c + dc P x tg 3 c := sum_chunks _
def dx : Row := fun c => alpha * dr P x tg c + dh P x tg c * (1 + P.sc c)
/-- What a token adds to the six sums over the tokens. -/
def quant : Fin 6 → Row := ![fun c => dy P x tg c * xhat (res P x) c, dy P x tg, fun c => dr P x tg c * f P x c, fun c => dh P x tg c * x c, dh P x tg,
  fun c => err P x tg c * err P x tg c]

/-- The eight rows of sums over all tokens. -/
def stats (X TG : Fin 8192 → Row) : Fin 8 → Row :=
  ![fun q => ∑ r, quant P (X r) (TG r) 0 q, fun q => ∑ r, quant P (X r) (TG r) 1 q, fun q => ∑ r, quant P (X r) (TG r) 2 q, fun q => ∑ r, quant P (X r) (TG r) 3 q,
    fun q => ∑ r, quant P (X r) (TG r) 4 q, fun _ => (∑ r, ∑ q, quant P (X r) (TG r) 5 q) * (1 / 2048), fun _ => 0, fun _ => 0]

end Cert.MlpMath

end
-- ==== Proof.MlpPay.lean ====
/- What each step of the MLP body computes, over the real numbers: one lemma per step. A step's operands are given by
   what they hold; the step then holds the named function of the token's row. -/
module

public import proofs.«01_k».proof.Proof.Gen.MlpIdeal.Value
public import Idealize.ShloMosaic.Lib.Pipeline.ValueKit
public import Idealize.ShloMosaic.Lib.Pipeline.ReadBack
public import Idealize.ShloMosaic.Lib.Pointwise
public import proofs.«01_k».proof.Proof.MlpMath

@[expose] public section

set_option maxRecDepth 16384

noncomputable section

open Idealize.ShloMosaic Idealize.ShloMosaic.TcCoe Idealize.SL.Sem
open Idealize.ShloMosaic.Pipeline (Dat)

namespace Cert.MlpIdeal.Pay

open Cert.MlpIdeal Cert.MlpIdeal.Gen Cert.RealLift Cert.MlpMath

variable {P : Par} {X TG : Fin 256 → Row}

/-- A row shared by every token. -/
abbrev Vec1 (v : FVec Ideal S1x1024 .f32) (w : Row) : Prop := Is2 v fun _ c => w c
/-- A block of one row per token. -/
abbrev Blk {φ : FTy} (v : FVec Ideal S256x1024 φ) (w : Fin 256 → Row) : Prop := Is2 v w
/-- Chunk `j` of the first weight. -/
abbrev Wi (P : Par) (v : FVec Ideal S1x1024x1024 .bf16) (j : Fin 4) : Prop := Is3 v fun _ c q => P.wi c (kx j q)
/-- Chunk `j` of the second weight. -/
abbrev Wo (P : Par) (v : FVec Ideal S1x1024x1024 .bf16) (j : Fin 4) : Prop := Is3 v fun _ q c => P.wo (kx j q) c

theorem p10 {v3 : FVec Ideal S256x1024 .f32} (h3 : Blk v3 X) :
    Blk (k0_pay10 v3) X := by
  intro r l
  pointwise [k0_pay10]
  simp only [h3 _ _, ups]
  all_goals rfl

theorem p11 {w : Row} {v7 : FVec Ideal S1x1024 .f32} (h7 : Vec1 v7 w) :
    Vec1 (k0_pay11 v7) w := by
  intro r l
  pointwise [k0_pay11]
  simp only [h7 _ _, ups]
  all_goals rfl

theorem p12 {w : Row} {v9 : FVec Ideal S1x1024 .f32} (h9 : Vec1 v9 w) :
    Vec1 (k0_pay12 v9) w := by
  intro r l
  pointwise [k0_pay12]
  simp only [h9 _ _, ups]
  all_goals rfl

theorem p13 {v3 : FVec Ideal S256x1024 .f32} {v5 : FVec Ideal S1x1024 .f32} {v7 : FVec Ideal S1x1024 .f32} (h3 : Blk v3 X) (h5 : Vec1 v5 P.sh) (h7 : Vec1 v7 P.sc) :
    Blk (k0_pay13 v3 v5 v7) fun r => h P (X r) := by
  intro r l
  pointwise [k0_pay13, k0_pay11, k0_pay10]
  simp only [h3 _ _, h5 _ _, h7 _ _, ups]
  all_goals rfl

theorem p14 :
    Blk (k0_pay14 (F := Ideal)) fun _ _ => 0 := by
  intro r l
  pointwise [k0_pay14]
  simp only [ups]
  all_goals rfl

theorem p15 {j : Fin 4} {v3 : FVec Ideal S256x1024 .f32} {v5 : FVec Ideal S1x1024 .f32} {v7 : FVec Ideal S1x1024 .f32} {v20 : FVec Ideal S1x1024x1024 .bf16} (h3 : Blk v3 X) (h5 : Vec1 v5 P.sh) (h7 : Vec1 v7 P.sc) (h20 : Wi P v20 j) :
    Is2 (k0_pay15 v3 v5 v7 v20) fun r q => act P (X r) (kx j q) := by
  intro r l
  pointwise [k0_pay15]
  simp only [h3 _ _, h5 _ _, h7 _ _, h20 _ _ _, p13 h3 h5 h7 _ _, ups]
  all_goals rfl

theorem p16 {j : Fin 4} {v3 : FVec Ideal S256x1024 .f32} {v5 : FVec Ideal S1x1024 .f32} {v7 : FVec Ideal S1x1024 .f32} {v20 : FVec Ideal S1x1024x1024 .bf16} (h3 : Blk v3 X) (h5 : Vec1 v5 P.sh) (h7 : Vec1 v7 P.sc) (h20 : Wi P v20 j) :
    Is3 (k0_pay16 v3 v5 v7 v20) fun _ r q => act P (X r) (kx j q) := by
  intro i r l
  pointwise [k0_pay16]
  simp only [h3 _ _, h5 _ _, h7 _ _, h20 _ _ _, p15 h3 h5 h7 h20 _ _, ups]
  all_goals rfl

theorem p17 {j : Fin 4} {v3 : FVec Ideal S256x1024 .f32} {v5 : FVec Ideal S1x1024 .f32} {v7 : FVec Ideal S1x1024 .f32} {v20 : FVec Ideal S1x1024x1024 .bf16} (h3 : Blk v3 X) (h5 : Vec1 v5 P.sh) (h7 : Vec1 v7 P.sc) (h20 : Wi P v20 j) :
    Is2 (k0_pay17 v3 v5 v7 v20) fun r q => sq P (X r) (kx j q) := by
  intro r l
  pointwise [k0_pay17]
  simp only [h3 _ _, h5 _ _, h7 _ _, h20 _ _ _, p15 h3 h5 h7 h20 _ _, ups]
  all_goals rfl

theorem p18 {w : Fin 256 → Fin 1024 → ℝ} {v29 : FVec Ideal S256x1024 .bf16} (h29 : Is2 v29 w) :
    Is3 (k0_pay18 v29) fun _ => w := by
  intro i r l
  pointwise [k0_pay18]
  simp only [h29 _ _, ups]
  all_goals rfl

theorem p19 {j : Fin 4} {v17 : FVec Ideal S256x1024 .bf16} {v37 : FVec Ideal S1x1024x1024 .bf16} (h17 : Blk v17 fun r => h P (X r)) (h37 : Wi P v37 j) :
    Is2 (k0_pay19 v17 v37) fun r q => act P (X r) (kx j q) := by
  intro r l
  pointwise [k0_pay19]
  simp only [h17 _ _, h37 _ _ _, ups]
  all_goals rfl

theorem p20 {j : Fin 4} {v17 : FVec Ideal S256x1024 .bf16} {v37 : FVec Ideal S1x1024x1024 .bf16} (h17 : Blk v17 fun r => h P (X r)) (h37 : Wi P v37 j) :
    Is3 (k0_pay20 v17 v37) fun _ r q => act P (X r) (kx j q) := by
  intro i r l
  pointwise [k0_pay20]
  simp only [h17 _ _, h37 _ _ _, p19 h17 h37 _ _, ups]
  all_goals rfl

theorem p21 {j : Fin 4} {v17 : FVec Ideal S256x1024 .bf16} {v37 : FVec Ideal S1x1024x1024 .bf16} (h17 : Blk v17 fun r => h P (X r)) (h37 : Wi P v37 j) :
    Is2 (k0_pay21 v17 v37) fun r q => sq P (X r) (kx j q) := by
  intro r l
  pointwise [k0_pay21]
  simp only [h17 _ _, h37 _ _ _, p19 h17 h37 _ _, ups]
  all_goals rfl

theorem p22 {j : Fin 4} {v17 : FVec Ideal S256x1024 .bf16} {v37 : FVec Ideal S1x1024x1024 .bf16} (h17 : Blk v17 fun r => h P (X r)) (h37 : Wi P v37 j) :
    Is3 (k0_pay22 v17 v37) fun _ r q => sq P (X r) (kx j q) := by
  intro i r l
  pointwise [k0_pay22]
  simp only [h17 _ _, h37 _ _ _, p21 h17 h37 _ _, ups]
  all_goals rfl

theorem p28 {j : Fin 4} {v17 : FVec Ideal S256x1024 .bf16} {v71 : FVec Ideal S1x1024x1024 .bf16} (h17 : Blk v17 fun r => h P (X r)) (h71 : Wi P v71 j) :
    Is2 (k0_pay28 v17 v71) fun r q => act P (X r) (kx j q) := by
  intro r l
  pointwise [k0_pay28]
  simp only [h17 _ _, h71 _ _ _, ups]
  all_goals rfl

theorem p29 {j : Fin 4} {v17 : FVec Ideal S256x1024 .bf16} {v71 : FVec Ideal S1x1024x1024 .bf16} (h17 : Blk v17 fun r => h P (X r)) (h71 : Wi P v71 j) :
    Is3 (k0_pay29 v17 v71) fun _ r q => act P (X r) (kx j q) := by
  intro i r l
  pointwise [k0_pay29]
  simp only [h17 _ _, h71 _ _ _, p28 h17 h71 _ _, ups]
  all_goals rfl

theorem p30 {j : Fin 4} {v17 : FVec Ideal S256x1024 .bf16} {v71 : FVec Ideal S1x1024x1024 .bf16} (h17 : Blk v17 fun r => h P (X r)) (h71 : Wi P v71 j) :
    Is2 (k0_pay30 v17 v71) fun r q => sq P (X r) (kx j q) := by
  intro r l
  pointwise [k0_pay30]
  simp only [h17 _ _, h71 _ _ _, p28 h17 h71 _ _, ups]
  all_goals rfl

theorem p31 {j : Fin 4} {v17 : FVec Ideal S256x1024 .bf16} {v71 : FVec Ideal S1x1024x1024 .bf16} (h17 : Blk v17 fun r => h P (X r)) (h71 : Wi P v71 j) :
    Is3 (k0_pay31 v17 v71) fun _ r q => sq P (X r) (kx j q) := by
  intro i r l
  pointwise [k0_pay31]
  simp only [h17 _ _, h71 _ _ _, p30 h17 h71 _ _, ups]
  all_goals rfl

theorem p23 {v17 : FVec Ideal S256x1024 .bf16} {v19 : FVec Ideal S256x1024 .f32} {v29 : FVec Ideal S256x1024 .bf16} {v33 : FVec Ideal S1x1024x1024 .bf16} {v37 : FVec Ideal S1x1024x1024 .bf16} {v50 : FVec Ideal S1x1024x1024 .bf16} (h17 : Blk v17 fun r => h P (X r)) (h19 : Blk v19 fun _ _ => 0) (h29 : Is2 v29 fun r q => sq P (X r) (kx 0 q)) (h33 : Wo P v33 0) (h37 : Wi P v37 1) (h50 : Wo P v50 1) :
    Blk (k0_pay23 v17 v19 v29 v33 v37 v50) fun r c => fc P (X r) 0 c + fc P (X r) 1 c := by
  intro r l
  pointwise [k0_pay23]
  simp only [h17 _ _, h19 _ _, h29 _ _, h33 _ _ _, h37 _ _ _, h50 _ _ _, p21 h17 h37 _ _, zero_add, ups]
  all_goals rfl

theorem p24 {j : Fin 4} {v17 : FVec Ideal S256x1024 .bf16} {v54 : FVec Ideal S1x1024x1024 .bf16} (h17 : Blk v17 fun r => h P (X r)) (h54 : Wi P v54 j) :
    Is2 (k0_pay24 v17 v54) fun r q => act P (X r) (kx j q) := by
  intro r l
  pointwise [k0_pay24]
  simp only [h17 _ _, h54 _ _ _, ups]
  all_goals rfl

theorem p25 {w : Fin 256 → Fin 1024 → ℝ} {v58 : FVec Ideal S256x1024 .f32} (h58 : Is2 v58 w) :
    Is3 (k0_pay25 v58) fun _ => w := by
  intro i r l
  pointwise [k0_pay25]
  simp only [h58 _ _, ups]
  all_goals rfl

theorem p26 {j : Fin 4} {v58 : FVec Ideal S256x1024 .f32} (h58 : Is2 v58 fun r q => act P (X r) (kx j q)) :
    Is2 (k0_pay26 v58) fun r q => sq P (X r) (kx j q) := by
  intro r l
  pointwise [k0_pay26]
  simp only [h58 _ _, ups]
  all_goals rfl

theorem p27 {j : Fin 4} {v58 : FVec Ideal S256x1024 .f32} (h58 : Is2 v58 fun r q => act P (X r) (kx j q)) :
    Is3 (k0_pay27 v58) fun _ r q => sq P (X r) (kx j q) := by
  intro i r l
  pointwise [k0_pay27]
  simp only [h58 _ _, p26 h58 _ _, ups]
  all_goals rfl

theorem p32 {v17 : FVec Ideal S256x1024 .bf16} {v53 : FVec Ideal S256x1024 .f32} {v58 : FVec Ideal S256x1024 .f32} {v67 : FVec Ideal S1x1024x1024 .bf16} {v71 : FVec Ideal S1x1024x1024 .bf16} {v84 : FVec Ideal S1x1024x1024 .bf16} (h17 : Blk v17 fun r => h P (X r)) (h53 : Blk v53 fun r c => fc P (X r) 0 c + fc P (X r) 1 c) (h58 : Is2 v58 fun r q => act P (X r) (kx 2 q)) (h67 : Wo P v67 2) (h71 : Wi P v71 3) (h84 : Wo P v84 3) :
    Blk (k0_pay32 v17 v53 v58 v67 v71 v84) fun r => f P (X r) := by
  intro r l
  pointwise [k0_pay32]
  simp only [h17 _ _, h53 _ _, h58 _ _, h67 _ _ _, h71 _ _ _, h84 _ _ _, f_chunks, p26 h58 _ _, p30 h17 h71 _ _, ups]
  all_goals rfl

theorem p33 {v4 : FVec Ideal S256x1024 .f32} (h4 : Blk v4 X) :
    Blk (k0_pay33 v4) fun r c => alpha * X r c := by
  intro r l
  pointwise [k0_pay33]
  simp only [h4 _ _, ups]
  all_goals rfl

theorem p34 {v10 : FVec Ideal S1x1024 .f32} (h10 : Vec1 v10 P.g) :
    Blk (k0_pay34 v10) fun _ c => 1 + P.g c := by
  intro r l
  pointwise [k0_pay34]
  simp only [h10 _ _, ups]
  all_goals rfl

theorem p35 {v87 : FVec Ideal S256x1024 .f32} {v89 : FVec Ideal S256x1024 .f32} {v92 : FVec Ideal S256x1024 .f32} (h87 : Blk v87 fun r => f P (X r)) (h89 : Blk v89 fun r c => alpha * X r c) (h92 : Blk v92 fun _ c => 1 + P.g c) :
    Blk (k0_pay35 v87 v89 v92) fun r => cen (res P (X r)) := by
  intro r l
  pointwise [k0_pay35]
  simp only [h87 _ _, h89 _ _, h92 _ _, ups]
  all_goals rfl

theorem p36 {v87 : FVec Ideal S256x1024 .f32} {v89 : FVec Ideal S256x1024 .f32} {v92 : FVec Ideal S256x1024 .f32} (h87 : Blk v87 fun r => f P (X r)) (h89 : Blk v89 fun r c => alpha * X r c) (h92 : Blk v92 fun _ c => 1 + P.g c) :
    Is2 (k0_pay36 v87 v89 v92) fun r _ => rstd (res P (X r)) := by
  intro r l
  pointwise [k0_pay36]
  simp only [h87 _ _, h89 _ _, h92 _ _, p35 h87 h89 h92 _ _, ups]
  all_goals exact coe_rsqrt _ (var_eps_pos _)

theorem p37 {v87 : FVec Ideal S256x1024 .f32} {v89 : FVec Ideal S256x1024 .f32} {v92 : FVec Ideal S256x1024 .f32} (h87 : Blk v87 fun r => f P (X r)) (h89 : Blk v89 fun r c => alpha * X r c) (h92 : Blk v92 fun _ c => 1 + P.g c) :
    Blk (k0_pay37 v87 v89 v92) fun r => xhat (res P (X r)) := by
  intro r l
  pointwise [k0_pay37]
  simp only [h87 _ _, h89 _ _, h92 _ _, p35 h87 h89 h92 _ _, p36 h87 h89 h92 _ _, ups]
  all_goals rfl

theorem p38 {v87 : FVec Ideal S256x1024 .f32} {v89 : FVec Ideal S256x1024 .f32} {v92 : FVec Ideal S256x1024 .f32} {v111 : FVec Ideal S1x1024 .f32} {v114 : FVec Ideal S1x1024 .f32} {v117 : FVec Ideal S256x1024 .f32} (h87 : Blk v87 fun r => f P (X r)) (h89 : Blk v89 fun r c => alpha * X r c) (h92 : Blk v92 fun _ c => 1 + P.g c) (h111 : Vec1 v111 P.lg) (h114 : Vec1 v114 P.lb) (h117 : Blk v117 TG) :
    Blk (k0_pay38 v87 v89 v92 v111 v114 v117) fun r => err P (X r) (TG r) := by
  intro r l
  pointwise [k0_pay38]
  simp only [h87 _ _, h89 _ _, h92 _ _, h111 _ _, h114 _ _, h117 _ _, p37 h87 h89 h92 _ _, ups]
  all_goals rfl

theorem p39 {v87 : FVec Ideal S256x1024 .f32} {v89 : FVec Ideal S256x1024 .f32} {v92 : FVec Ideal S256x1024 .f32} {v111 : FVec Ideal S1x1024 .f32} {v114 : FVec Ideal S1x1024 .f32} {v117 : FVec Ideal S256x1024 .f32} (h87 : Blk v87 fun r => f P (X r)) (h89 : Blk v89 fun r c => alpha * X r c) (h92 : Blk v92 fun _ c => 1 + P.g c) (h111 : Vec1 v111 P.lg) (h114 : Vec1 v114 P.lb) (h117 : Blk v117 TG) :
    Blk (k0_pay39 v87 v89 v92 v111 v114 v117) fun r => dy P (X r) (TG r) := by
  intro r l
  pointwise [k0_pay39]
  simp only [h87 _ _, h89 _ _, h92 _ _, h111 _ _, h114 _ _, h117 _ _, p38 h87 h89 h92 h111 h114 h117 _ _, ups]
  all_goals rfl

theorem p40 {v87 : FVec Ideal S256x1024 .f32} {v89 : FVec Ideal S256x1024 .f32} {v92 : FVec Ideal S256x1024 .f32} {v111 : FVec Ideal S1x1024 .f32} {v114 : FVec Ideal S1x1024 .f32} {v117 : FVec Ideal S256x1024 .f32} (h87 : Blk v87 fun r => f P (X r)) (h89 : Blk v89 fun r c => alpha * X r c) (h92 : Blk v92 fun _ c => 1 + P.g c) (h111 : Vec1 v111 P.lg) (h114 : Vec1 v114 P.lb) (h117 : Blk v117 TG) :
    Blk (k0_pay40 v87 v89 v92 v111 v114 v117) fun r => dn P (X r) (TG r) := by
  intro r l
  pointwise [k0_pay40]
  simp only [h87 _ _, h89 _ _, h92 _ _, h111 _ _, h114 _ _, h117 _ _, p39 h87 h89 h92 h111 h114 h117 _ _, ups]
  all_goals rfl

theorem p41 {v87 : FVec Ideal S256x1024 .f32} {v89 : FVec Ideal S256x1024 .f32} {v92 : FVec Ideal S256x1024 .f32} {v111 : FVec Ideal S1x1024 .f32} {v114 : FVec Ideal S1x1024 .f32} {v117 : FVec Ideal S256x1024 .f32} (h87 : Blk v87 fun r => f P (X r)) (h89 : Blk v89 fun r c => alpha * X r c) (h92 : Blk v92 fun _ c => 1 + P.g c) (h111 : Vec1 v111 P.lg) (h114 : Vec1 v114 P.lb) (h117 : Blk v117 TG) :
    Blk (k0_pay41 v87 v89 v92 v111 v114 v117) fun r c => dn P (X r) (TG r) c - (∑ k, dn P (X r) (TG r) k) / 1024 := by
  intro r l
  pointwise [k0_pay41]
  simp only [h87 _ _, h89 _ _, h92 _ _, h111 _ _, h114 _ _, h117 _ _, p40 h87 h89 h92 h111 h114 h117 _ _, ups]
  all_goals rfl

theorem p42 {v87 : FVec Ideal S256x1024 .f32} {v89 : FVec Ideal S256x1024 .f32} {v92 : FVec Ideal S256x1024 .f32} {v111 : FVec Ideal S1x1024 .f32} {v114 : FVec Ideal S1x1024 .f32} {v117 : FVec Ideal S256x1024 .f32} (h87 : Blk v87 fun r => f P (X r)) (h89 : Blk v89 fun r c => alpha * X r c) (h92 : Blk v92 fun _ c => 1 + P.g c) (h111 : Vec1 v111 P.lg) (h114 : Vec1 v114 P.lb) (h117 : Blk v117 TG) :
    Blk (k0_pay42 v87 v89 v92 v111 v114 v117) fun r c => xhat (res P (X r)) c * ((∑ k, dn P (X r) (TG r) k * xhat (res P (X r)) k) / 1024) := by
  intro r l
  pointwise [k0_pay42]
  simp only [h87 _ _, h89 _ _, h92 _ _, h111 _ _, h114 _ _, h117 _ _, p40 h87 h89 h92 h111 h114 h117 _ _, p37 h87 h89 h92 _ _, ups]
  all_goals rfl

theorem p43 {v108 : FVec Ideal S256x1 .f32} {v134 : FVec Ideal S256x1024 .f32} {v136 : FVec Ideal S256x1024 .f32} (h108 : Is2 v108 fun r _ => rstd (res P (X r))) (h134 : Blk v134 fun r c => dn P (X r) (TG r) c - (∑ k, dn P (X r) (TG r) k) / 1024) (h136 : Blk v136 fun r c => xhat (res P (X r)) c * ((∑ k, dn P (X r) (TG r) k * xhat (res P (X r)) k) / 1024)) :
    Blk (k0_pay43 v108 v134 v136) fun r => dr P (X r) (TG r) := by
  intro r l
  pointwise [k0_pay43]
  simp only [h108 _ _, h134 _ _, h136 _ _, ups]
  all_goals rfl

theorem p44 {v10 : FVec Ideal S1x1024 .f32} {v108 : FVec Ideal S256x1 .f32} {v134 : FVec Ideal S256x1024 .f32} {v136 : FVec Ideal S256x1024 .f32} (h10 : Vec1 v10 P.g) (h108 : Is2 v108 fun r _ => rstd (res P (X r))) (h134 : Blk v134 fun r c => dn P (X r) (TG r) c - (∑ k, dn P (X r) (TG r) k) / 1024) (h136 : Blk v136 fun r c => xhat (res P (X r)) c * ((∑ k, dn P (X r) (TG r) k * xhat (res P (X r)) k) / 1024)) :
    Blk (k0_pay44 v10 v108 v134 v136) fun r => df P (X r) (TG r) := by
  intro r l
  pointwise [k0_pay44]
  simp only [h10 _ _, h108 _ _, h134 _ _, h136 _ _, p43 h108 h134 h136 _ _, ups]
  all_goals rfl

theorem p45 {j : Fin 4} {v10 : FVec Ideal S1x1024 .f32} {v108 : FVec Ideal S256x1 .f32} {v134 : FVec Ideal S256x1024 .f32} {v136 : FVec Ideal S256x1024 .f32} {v147 : FVec Ideal S1x1024x1024 .bf16} {v150 : FVec Ideal S1x256x1024 .f32} (h10 : Vec1 v10 P.g) (h108 : Is2 v108 fun r _ => rstd (res P (X r))) (h134 : Blk v134 fun r c => dn P (X r) (TG r) c - (∑ k, dn P (X r) (TG r) k) / 1024) (h136 : Blk v136 fun r c => xhat (res P (X r)) c * ((∑ k, dn P (X r) (TG r) k * xhat (res P (X r)) k) / 1024)) (h147 : Wo P v147 j) (h150 : Is3 v150 fun _ r q => act P (X r) (kx j q)) :
    Is2 (k0_pay45 v10 v108 v134 v136 v147 v150) fun r q => da P (X r) (TG r) (kx j q) := by
  intro r l
  pointwise [k0_pay45]
  simp only [h10 _ _, h108 _ _, h134 _ _, h136 _ _, h147 _ _ _, h150 _ _ _, p44 h10 h108 h134 h136 _ _, ups]
  all_goals rfl

theorem p46 {j : Fin 4} {v10 : FVec Ideal S1x1024 .f32} {v108 : FVec Ideal S256x1 .f32} {v134 : FVec Ideal S256x1024 .f32} {v136 : FVec Ideal S256x1024 .f32} {v147 : FVec Ideal S1x1024x1024 .bf16} {v150 : FVec Ideal S1x256x1024 .f32} (h10 : Vec1 v10 P.g) (h108 : Is2 v108 fun r _ => rstd (res P (X r))) (h134 : Blk v134 fun r c => dn P (X r) (TG r) c - (∑ k, dn P (X r) (TG r) k) / 1024) (h136 : Blk v136 fun r c => xhat (res P (X r)) c * ((∑ k, dn P (X r) (TG r) k * xhat (res P (X r)) k) / 1024)) (h147 : Wo P v147 j) (h150 : Is3 v150 fun _ r q => act P (X r) (kx j q)) :
    Is3 (k0_pay46 v10 v108 v134 v136 v147 v150) fun _ r q => da P (X r) (TG r) (kx j q) := by
  intro i r l
  pointwise [k0_pay46]
  simp only [h10 _ _, h108 _ _, h134 _ _, h136 _ _, h147 _ _ _, h150 _ _ _, p45 h10 h108 h134 h136 h147 h150 _ _, ups]
  all_goals rfl

theorem p47 {j : Fin 4} {v10 : FVec Ideal S1x1024 .f32} {v108 : FVec Ideal S256x1 .f32} {v134 : FVec Ideal S256x1024 .f32} {v136 : FVec Ideal S256x1024 .f32} {v147 : FVec Ideal S1x1024x1024 .bf16} {v150 : FVec Ideal S1x256x1024 .f32} {v159 : FVec Ideal S1x1024x1024 .bf16} (h10 : Vec1 v10 P.g) (h108 : Is2 v108 fun r _ => rstd (res P (X r))) (h134 : Blk v134 fun r c => dn P (X r) (TG r) c - (∑ k, dn P (X r) (TG r) k) / 1024) (h136 : Blk v136 fun r c => xhat (res P (X r)) c * ((∑ k, dn P (X r) (TG r) k * xhat (res P (X r)) k) / 1024)) (h147 : Wo P v147 j) (h150 : Is3 v150 fun _ r q => act P (X r) (kx j q)) (h159 : Wi P v159 j) :
    Blk (k0_pay47 v10 v108 v134 v136 v147 v150 v159) fun r => dc P (X r) (TG r) j := by
  intro r l
  pointwise [k0_pay47]
  simp only [h10 _ _, h108 _ _, h134 _ _, h136 _ _, h147 _ _ _, h150 _ _ _, h159 _ _ _, p45 h10 h108 h134 h136 h147 h150 _ _, ups]
  all_goals rfl

theorem p48 {j : Fin 4} {v10 : FVec Ideal S1x1024 .f32} {v108 : FVec Ideal S256x1 .f32} {v134 : FVec Ideal S256x1024 .f32} {v136 : FVec Ideal S256x1024 .f32} {v163 : FVec Ideal S1x1024x1024 .bf16} (h10 : Vec1 v10 P.g) (h108 : Is2 v108 fun r _ => rstd (res P (X r))) (h134 : Blk v134 fun r c => dn P (X r) (TG r) c - (∑ k, dn P (X r) (TG r) k) / 1024) (h136 : Blk v136 fun r c => xhat (res P (X r)) c * ((∑ k, dn P (X r) (TG r) k * xhat (res P (X r)) k) / 1024)) (h163 : Wo P v163 j) :
    Is2 (k0_pay48 v10 v108 v134 v136 v163) fun r q => ∑ c, df P (X r) (TG r) c * P.wo (kx j q) c := by
  intro r l
  pointwise [k0_pay48]
  simp only [h10 _ _, h108 _ _, h134 _ _, h136 _ _, h163 _ _ _, p44 h10 h108 h134 h136 _ _, ups]
  all_goals rfl

theorem p49 {w : Fin 256 → Fin 1024 → ℝ} {v166 : FVec Ideal S1x256x1024 .f32} (h166 : Is3 v166 fun _ => w) :
    Is2 (k0_pay49 v166) w := by
  intro r l
  pointwise [k0_pay49]
  simp only [h166 _ _ _, ups]
  all_goals rfl

theorem p50 {j : Fin 4} {v165 : FVec Ideal S256x1024 .f32} {v167 : FVec Ideal S256x1024 .f32} {z : Ideal .f32} (hz : z = ((2 : ℝ) : EReal)) (h165 : Is2 v165 fun r q => ∑ c, df P (X r) (TG r) c * P.wo (kx j q) c) (h167 : Is2 v167 fun r q => act P (X r) (kx j q)) :
    Is2 (k0_pay50 v165 v167 z) fun r q => da P (X r) (TG r) (kx j q) := by
  intro r l
  pointwise [k0_pay50]
  simp only [h165 _ _, h167 _ _, hz, ups]
  all_goals rfl

theorem p51 {j : Fin 4} {v165 : FVec Ideal S256x1024 .f32} {v167 : FVec Ideal S256x1024 .f32} {z : Ideal .f32} (hz : z = ((2 : ℝ) : EReal)) (h165 : Is2 v165 fun r q => ∑ c, df P (X r) (TG r) c * P.wo (kx j q) c) (h167 : Is2 v167 fun r q => act P (X r) (kx j q)) :
    Is3 (k0_pay51 v165 v167 z) fun _ r q => da P (X r) (TG r) (kx j q) := by
  intro i r l
  pointwise [k0_pay51]
  simp only [h165 _ _, h167 _ _, p50 hz h165 h167 _ _, ups]
  all_goals rfl

theorem p52 {j : Fin 4} {v144 : FVec Ideal S256x1024 .bf16} {v179 : FVec Ideal S1x1024x1024 .bf16} {v182 : FVec Ideal S1x256x1024 .f32} (h144 : Blk v144 fun r => df P (X r) (TG r)) (h179 : Wo P v179 j) (h182 : Is3 v182 fun _ r q => act P (X r) (kx j q)) :
    Is2 (k0_pay52 v144 v179 v182) fun r q => da P (X r) (TG r) (kx j q) := by
  intro r l
  pointwise [k0_pay52]
  simp only [h144 _ _, h179 _ _ _, h182 _ _ _, ups]
  all_goals rfl

theorem p53 {j : Fin 4} {v144 : FVec Ideal S256x1024 .bf16} {v179 : FVec Ideal S1x1024x1024 .bf16} {v182 : FVec Ideal S1x256x1024 .f32} (h144 : Blk v144 fun r => df P (X r) (TG r)) (h179 : Wo P v179 j) (h182 : Is3 v182 fun _ r q => act P (X r) (kx j q)) :
    Is3 (k0_pay53 v144 v179 v182) fun _ r q => da P (X r) (TG r) (kx j q) := by
  intro i r l
  pointwise [k0_pay53]
  simp only [h144 _ _, h179 _ _ _, h182 _ _ _, p52 h144 h179 h182 _ _, ups]
  all_goals rfl

theorem p54 {v144 : FVec Ideal S256x1024 .bf16} {v162 : FVec Ideal S256x1024 .f32} {v165 : FVec Ideal S256x1024 .f32} {v167 : FVec Ideal S256x1024 .f32} {v175 : FVec Ideal S1x1024x1024 .bf16} {v179 : FVec Ideal S1x1024x1024 .bf16} {v182 : FVec Ideal S1x256x1024 .f32} {v191 : FVec Ideal S1x1024x1024 .bf16} (h144 : Blk v144 fun r => df P (X r) (TG r)) (h162 : Blk v162 fun r => dc P (X r) (TG r) 0) {z : Ideal .f32} (hz : z = ((2 : ℝ) : EReal)) (h165 : Is2 v165 fun r q => ∑ c, df P (X r) (TG r) c * P.wo (kx 1 q) c) (h167 : Is2 v167 fun r q => act P (X r) (kx 1 q)) (h175 : Wi P v175 1) (h179 : Wo P v179 2) (h182 : Is3 v182 fun _ r q => act P (X r) (kx 2 q)) (h191 : Wi P v191 2) :
    Blk (k0_pay54 v144 v162 v165 v167 z v175 v179 v182 v191) fun r c => dc P (X r) (TG r) 0 c + dc P (X r) (TG r) 1 c + dc P (X r) (TG r) 2 c := by
  intro r l
  pointwise [k0_pay54]
  simp only [h144 _ _, h162 _ _, h165 _ _, h167 _ _, h175 _ _ _, h179 _ _ _, h182 _ _ _, h191 _ _ _, p50 hz h165 h167 _ _, p52 h144 h179 h182 _ _, ups]
  all_goals rfl

theorem p55 {j : Fin 4} {v144 : FVec Ideal S256x1024 .bf16} {v195 : FVec Ideal S1x1024x1024 .bf16} (h144 : Blk v144 fun r => df P (X r) (TG r)) (h195 : Wo P v195 j) :
    Is2 (k0_pay55 v144 v195) fun r q => ∑ c, df P (X r) (TG r) c * P.wo (kx j q) c := by
  intro r l
  pointwise [k0_pay55]
  simp only [h144 _ _, h195 _ _ _, ups]
  all_goals rfl

theorem p56 {j : Fin 4} {v197 : FVec Ideal S256x1024 .f32} {v198 : FVec Ideal S1x256x1024 .f32} (h197 : Is2 v197 fun r q => ∑ c, df P (X r) (TG r) c * P.wo (kx j q) c) (h198 : Is3 v198 fun _ r q => act P (X r) (kx j q)) :
    Is2 (k0_pay56 v197 v198) fun r q => da P (X r) (TG r) (kx j q) := by
  intro r l
  pointwise [k0_pay56]
  simp only [h197 _ _, h198 _ _ _, ups]
  all_goals rfl

theorem p57 {j : Fin 4} {v197 : FVec Ideal S256x1024 .f32} {v198 : FVec Ideal S1x256x1024 .f32} (h197 : Is2 v197 fun r q => ∑ c, df P (X r) (TG r) c * P.wo (kx j q) c) (h198 : Is3 v198 fun _ r q => act P (X r) (kx j q)) :
    Is3 (k0_pay57 v197 v198) fun _ r q => da P (X r) (TG r) (kx j q) := by
  intro i r l
  pointwise [k0_pay57]
  simp only [h197 _ _, h198 _ _ _, p56 h197 h198 _ _, ups]
  all_goals rfl

theorem p58 {v194 : FVec Ideal S256x1024 .f32} {v197 : FVec Ideal S256x1024 .f32} {v198 : FVec Ideal S1x256x1024 .f32} {v207 : FVec Ideal S1x1024x1024 .bf16} (h194 : Blk v194 fun r c => dc P (X r) (TG r) 0 c + dc P (X r) (TG r) 1 c + dc P (X r) (TG r) 2 c) (h197 : Is2 v197 fun r q => ∑ c, df P (X r) (TG r) c * P.wo (kx 3 q) c) (h198 : Is3 v198 fun _ r q => act P (X r) (kx 3 q)) (h207 : Wi P v207 3) :
    Blk (k0_pay58 v194 v197 v198 v207) fun r => dh P (X r) (TG r) := by
  intro r l
  pointwise [k0_pay58]
  simp only [h194 _ _, h197 _ _, h198 _ _ _, h207 _ _ _, dh_chunks, p56 h197 h198 _ _, ups]
  all_goals rfl

theorem p59 {v8 : FVec Ideal S1x1024 .f32} {v139 : FVec Ideal S256x1024 .f32} {v194 : FVec Ideal S256x1024 .f32} {v197 : FVec Ideal S256x1024 .f32} {v198 : FVec Ideal S1x256x1024 .f32} {v207 : FVec Ideal S1x1024x1024 .bf16} (h8 : Vec1 v8 P.sc) (h139 : Blk v139 fun r => dr P (X r) (TG r)) (h194 : Blk v194 fun r c => dc P (X r) (TG r) 0 c + dc P (X r) (TG r) 1 c + dc P (X r) (TG r) 2 c) (h197 : Is2 v197 fun r q => ∑ c, df P (X r) (TG r) c * P.wo (kx 3 q) c) (h198 : Is3 v198 fun _ r q => act P (X r) (kx 3 q)) (h207 : Wi P v207 3) :
    Blk (k0_pay59 v8 v139 v194 v197 v198 v207) fun r => dx P (X r) (TG r) := by
  intro r l
  pointwise [k0_pay59]
  simp only [h8 _ _, h139 _ _, h194 _ _, h197 _ _, h198 _ _ _, h207 _ _ _, p58 h194 h197 h198 h207 _ _, ups]
  all_goals rfl

theorem p60 {A : Fin 8 → Row} {U W : Fin 256 → Row} {v110 : FVec Ideal S256x1024 .f32} {v121 : FVec Ideal S256x1024 .f32} {v219 : FVec Ideal S1x8x1024 .f32} (h110 : Blk v110 U) (h121 : Blk v121 W) (h219 : Is3 v219 fun _ => A) :
    Is3 (k0_pay60 v110 v121 v219) fun _ s c => A s c + ∑ u : Fin 32, W ⟨u.val * 8 + s.val, by omega⟩ c * U ⟨u.val * 8 + s.val, by omega⟩ c := by
  intro i r l
  pointwise [k0_pay60]
  simp only [h110 _ _, h121 _ _, h219 _ _ _, ups]
  all_goals rfl

theorem p61 {A : Fin 8 → Row} {v228 : FVec Ideal S1x8x1024 .f32} (h228 : Is3 v228 fun _ => A) :
    Is2 (k0_pay61 v228) A := by
  intro r l
  pointwise [k0_pay61]
  simp only [h228 _ _ _, ups]
  all_goals rfl

theorem p62 {W : Fin 256 → Row} {v121 : FVec Ideal S256x1024 .f32} (h121 : Blk v121 W) :
    Is3 (k0_pay62 v121) fun (u : Fin 32) (s : Fin 8) c => W ⟨u.val * 8 + s.val, by omega⟩ c := by
  intro i r l
  pointwise [k0_pay62]
  simp only [h121 _ _, ups]
  all_goals rfl

theorem p63 {A : Fin 8 → Row} {W : Fin 256 → Row} {v229 : FVec Ideal S8x1024 .f32} {v230 : FVec Ideal S32x8x1024 .f32} (h229 : Is2 v229 A) (h230 : Is3 v230 fun (u : Fin 32) (s : Fin 8) c => W ⟨u.val * 8 + s.val, by omega⟩ c) :
    Is3 (k0_pay63 v229 v230) fun _ s c => A s c + ∑ u : Fin 32, W ⟨u.val * 8 + s.val, by omega⟩ c := by
  intro i r l
  pointwise [k0_pay63]
  simp only [h229 _ _, h230 _ _ _, ups]
  all_goals rfl

theorem p64 {A : Fin 8 → Row} {U W : Fin 256 → Row} {v87 : FVec Ideal S256x1024 .f32} {v139 : FVec Ideal S256x1024 .f32} {v236 : FVec Ideal S1x8x1024 .f32} (h87 : Blk v87 U) (h139 : Blk v139 W) (h236 : Is3 v236 fun _ => A) :
    Is3 (k0_pay64 v87 v139 v236) fun _ s c => A s c + ∑ u : Fin 32, W ⟨u.val * 8 + s.val, by omega⟩ c * U ⟨u.val * 8 + s.val, by omega⟩ c := by
  intro i r l
  pointwise [k0_pay64]
  simp only [h87 _ _, h139 _ _, h236 _ _ _, ups]
  all_goals rfl

theorem p65 {A : Fin 8 → Row} {U W : Fin 256 → Row} {v4 : FVec Ideal S256x1024 .f32} {v210 : FVec Ideal S256x1024 .f32} {v245 : FVec Ideal S1x8x1024 .f32} (h4 : Blk v4 U) (h210 : Blk v210 W) (h245 : Is3 v245 fun _ => A) :
    Is3 (k0_pay65 v4 v210 v245) fun _ s c => A s c + ∑ u : Fin 32, W ⟨u.val * 8 + s.val, by omega⟩ c * U ⟨u.val * 8 + s.val, by omega⟩ c := by
  intro i r l
  pointwise [k0_pay65]
  simp only [h4 _ _, h210 _ _, h245 _ _ _, ups]
  all_goals rfl

theorem p66 {A : Fin 8 → Row} {W : Fin 256 → Row} {v210 : FVec Ideal S256x1024 .f32} {v254 : FVec Ideal S1x8x1024 .f32} (h210 : Blk v210 W) (h254 : Is3 v254 fun _ => A) :
    Is3 (k0_pay66 v210 v254) fun _ s c => A s c + ∑ u : Fin 32, W ⟨u.val * 8 + s.val, by omega⟩ c := by
  intro i r l
  pointwise [k0_pay66]
  simp only [h210 _ _, h254 _ _ _, ups]
  all_goals rfl

theorem p1 {A : Fin 8 → Row} {W : Fin 256 → Row} {v119 : FVec Ideal S256x1024 .f32} {v262 : FVec Ideal S1x8x1024 .f32} (h119 : Blk v119 W) (h262 : Is3 v262 fun _ => A) :
    Is3 (k0_pay1 v119 v262) fun _ s c => A s c + ∑ u : Fin 32, W ⟨u.val * 8 + s.val, by omega⟩ c * W ⟨u.val * 8 + s.val, by omega⟩ c := by
  intro i r l
  pointwise [k0_pay1]
  simp only [h119 _ _, h262 _ _ _, ups]
  all_goals rfl

theorem p4 {A : Fin 8 → Row} {v274 : FVec Ideal S1x8x1024 .f32} (h274 : Is3 v274 fun _ => A) :
    Vec1 (k0_pay4 v274) fun c => ∑ s, A s c := by
  intro r l
  pointwise [k0_pay4]
  simp only [h274 _ _ _, ups]
  all_goals rfl

theorem p5 {A : Fin 8 → Row} {v279 : FVec Ideal S1x8x1024 .f32} (h279 : Is3 v279 fun _ => A) :
    Vec1 (k0_pay5 v279) fun c => ∑ s, A s c := by
  intro r l
  pointwise [k0_pay5]
  simp only [h279 _ _ _, ups]
  all_goals rfl

theorem p6 {A : Fin 8 → Row} {v284 : FVec Ideal S1x8x1024 .f32} (h284 : Is3 v284 fun _ => A) :
    Vec1 (k0_pay6 v284) fun c => ∑ s, A s c := by
  intro r l
  pointwise [k0_pay6]
  simp only [h284 _ _ _, ups]
  all_goals rfl

theorem p7 {A : Fin 8 → Row} {v289 : FVec Ideal S1x8x1024 .f32} (h289 : Is3 v289 fun _ => A) :
    Vec1 (k0_pay7 v289) fun c => ∑ s, A s c := by
  intro r l
  pointwise [k0_pay7]
  simp only [h289 _ _ _, ups]
  all_goals rfl

theorem p8 {A : Fin 8 → Row} {v294 : FVec Ideal S1x8x1024 .f32} (h294 : Is3 v294 fun _ => A) :
    Vec1 (k0_pay8 v294) fun c => ∑ s, A s c := by
  intro r l
  pointwise [k0_pay8]
  simp only [h294 _ _ _, ups]
  all_goals rfl

theorem p2 {A : Fin 8 → Row} {v299 : FVec Ideal S1x8x1024 .f32} (h299 : Is3 v299 fun _ => A) :
    Vec1 (k0_pay2 v299) fun _ => (∑ s, ∑ c, A s c) * (1 / 2048) := by
  intro r l
  pointwise [k0_pay2]
  simp only [h299 _ _ _, ups]
  all_goals rfl

theorem p3 :
    Is2 (k0_pay3 (F := Ideal)) fun _ _ => 0 := by
  intro r l
  pointwise [k0_pay3]
  simp only [ups]
  all_goals rfl

theorem p9 :
    Is3 (k0_pay9 (F := Ideal)) fun _ _ _ => 0 := by
  intro i r l
  pointwise [k0_pay9]
  simp only [ups]
  all_goals rfl

end Cert.MlpIdeal.Pay

end
-- ==== Proof.MlpBody.lean ====
/- The steps of one grid point of the MLP body, composed from what its loads hold. -/
module

public import proofs.«01_k».proof.Proof.Gen.MlpIdeal.Value
public import Idealize.ShloMosaic.Lib.Pipeline.ValueKit
public import Idealize.ShloMosaic.Lib.Pipeline.ReadBack
public import Idealize.ShloMosaic.Lib.Pointwise
public import proofs.«01_k».proof.Proof.MlpPay

@[expose] public section

set_option maxRecDepth 16384

noncomputable section

open Idealize.ShloMosaic Idealize.ShloMosaic.TcCoe Idealize.SL.Sem
open Idealize.ShloMosaic.Pipeline (Dat)

namespace Cert.MlpIdeal.Pay

open Cert.MlpIdeal Cert.MlpIdeal.Gen Cert.RealLift Cert.MlpMath

variable {P : Par} {X TG : Fin 256 → Row}

/-- What the loads of one grid point hold: the two token blocks, three parts of the modulation, the chunks of the two weights,
    the normalisation's scale and shift. -/
structure Leaf (P : Par) (X TG : Fin 256 → Row) (b0 b1 : FVec Ideal S256x1024 .f32) (m3 m4 m5 : FVec Ideal S1x1024 .f32) (a0 a1 a2 a3 o0 o1 o2 o3 : FVec Ideal S1x1024x1024 .bf16) (lg lb : FVec Ideal S1x1024 .f32) : Prop where
  b0 : Blk b0 X
  b1 : Blk b1 TG
  m3 : Vec1 m3 P.sh
  m4 : Vec1 m4 P.sc
  m5 : Vec1 m5 P.g
  a0 : Wi P a0 0
  a1 : Wi P a1 1
  a2 : Wi P a2 2
  a3 : Wi P a3 3
  o0 : Wo P o0 0
  o1 : Wo P o1 1
  o2 : Wo P o2 2
  o3 : Wo P o3 3
  lg : Vec1 lg P.lg
  lb : Vec1 lb P.lb

abbrev Body.v17 (b0 b1 : FVec Ideal S256x1024 .f32) (m3 m4 m5 : FVec Ideal S1x1024 .f32) (a0 a1 a2 a3 o0 o1 o2 o3 : FVec Ideal S1x1024x1024 .bf16) (lg lb : FVec Ideal S1x1024 .f32) : FVec Ideal S256x1024 .bf16 := k0_pay13 b0 m3 m4
abbrev Body.v29 (b0 b1 : FVec Ideal S256x1024 .f32) (m3 m4 m5 : FVec Ideal S1x1024 .f32) (a0 a1 a2 a3 o0 o1 o2 o3 : FVec Ideal S1x1024x1024 .bf16) (lg lb : FVec Ideal S1x1024 .f32) : FVec Ideal S256x1024 .bf16 := k0_pay17 b0 m3 m4 a0
abbrev Body.v53 (b0 b1 : FVec Ideal S256x1024 .f32) (m3 m4 m5 : FVec Ideal S1x1024 .f32) (a0 a1 a2 a3 o0 o1 o2 o3 : FVec Ideal S1x1024x1024 .bf16) (lg lb : FVec Ideal S1x1024 .f32) : FVec Ideal S256x1024 .f32 := k0_pay23 (Body.v17 b0 b1 m3 m4 m5 a0 a1 a2 a3 o0 o1 o2 o3 lg lb) (k0_pay14 (F := Ideal)) (Body.v29 b0 b1 m3 m4 m5 a0 a1 a2 a3 o0 o1 o2 o3 lg lb) o0 a1 o1
abbrev Body.v58 (b0 b1 : FVec Ideal S256x1024 .f32) (m3 m4 m5 : FVec Ideal S1x1024 .f32) (a0 a1 a2 a3 o0 o1 o2 o3 : FVec Ideal S1x1024x1024 .bf16) (lg lb : FVec Ideal S1x1024 .f32) : FVec Ideal S256x1024 .f32 := k0_pay24 (Body.v17 b0 b1 m3 m4 m5 a0 a1 a2 a3 o0 o1 o2 o3 lg lb) a2
abbrev Body.v87 (b0 b1 : FVec Ideal S256x1024 .f32) (m3 m4 m5 : FVec Ideal S1x1024 .f32) (a0 a1 a2 a3 o0 o1 o2 o3 : FVec Ideal S1x1024x1024 .bf16) (lg lb : FVec Ideal S1x1024 .f32) : FVec Ideal S256x1024 .f32 := k0_pay32 (Body.v17 b0 b1 m3 m4 m5 a0 a1 a2 a3 o0 o1 o2 o3 lg lb) (Body.v53 b0 b1 m3 m4 m5 a0 a1 a2 a3 o0 o1 o2 o3 lg lb) (Body.v58 b0 b1 m3 m4 m5 a0 a1 a2 a3 o0 o1 o2 o3 lg lb) o2 a3 o3
abbrev Body.v89 (b0 b1 : FVec Ideal S256x1024 .f32) (m3 m4 m5 : FVec Ideal S1x1024 .f32) (a0 a1 a2 a3 o0 o1 o2 o3 : FVec Ideal S1x1024x1024 .bf16) (lg lb : FVec Ideal S1x1024 .f32) : FVec Ideal S256x1024 .f32 := k0_pay33 (k0_pay10 b0)
abbrev Body.v92 (b0 b1 : FVec Ideal S256x1024 .f32) (m3 m4 m5 : FVec Ideal S1x1024 .f32) (a0 a1 a2 a3 o0 o1 o2 o3 : FVec Ideal S1x1024x1024 .bf16) (lg lb : FVec Ideal S1x1024 .f32) : FVec Ideal S256x1024 .f32 := k0_pay34 (k0_pay12 m5)
abbrev Body.v108 (b0 b1 : FVec Ideal S256x1024 .f32) (m3 m4 m5 : FVec Ideal S1x1024 .f32) (a0 a1 a2 a3 o0 o1 o2 o3 : FVec Ideal S1x1024x1024 .bf16) (lg lb : FVec Ideal S1x1024 .f32) : FVec Ideal S256x1 .f32 := k0_pay36 (Body.v87 b0 b1 m3 m4 m5 a0 a1 a2 a3 o0 o1 o2 o3 lg lb) (Body.v89 b0 b1 m3 m4 m5 a0 a1 a2 a3 o0 o1 o2 o3 lg lb) (Body.v92 b0 b1 m3 m4 m5 a0 a1 a2 a3 o0 o1 o2 o3 lg lb)
abbrev Body.v110 (b0 b1 : FVec Ideal S256x1024 .f32) (m3 m4 m5 : FVec Ideal S1x1024 .f32) (a0 a1 a2 a3 o0 o1 o2 o3 : FVec Ideal S1x1024x1024 .bf16) (lg lb : FVec Ideal S1x1024 .f32) : FVec Ideal S256x1024 .f32 := k0_pay37 (Body.v87 b0 b1 m3 m4 m5 a0 a1 a2 a3 o0 o1 o2 o3 lg lb) (Body.v89 b0 b1 m3 m4 m5 a0 a1 a2 a3 o0 o1 o2 o3 lg lb) (Body.v92 b0 b1 m3 m4 m5 a0 a1 a2 a3 o0 o1 o2 o3 lg lb)
abbrev Body.v119 (b0 b1 : FVec Ideal S256x1024 .f32) (m3 m4 m5 : FVec Ideal S1x1024 .f32) (a0 a1 a2 a3 o0 o1 o2 o3 : FVec Ideal S1x1024x1024 .bf16) (lg lb : FVec Ideal S1x1024 .f32) : FVec Ideal S256x1024 .f32 := k0_pay38 (Body.v87 b0 b1 m3 m4 m5 a0 a1 a2 a3 o0 o1 o2 o3 lg lb) (Body.v89 b0 b1 m3 m4 m5 a0 a1 a2 a3 o0 o1 o2 o3 lg lb) (Body.v92 b0 b1 m3 m4 m5 a0 a1 a2 a3 o0 o1 o2 o3 lg lb) lg lb b1
abbrev Body.v121 (b0 b1 : FVec Ideal S256x1024 .f32) (m3 m4 m5 : FVec Ideal S1x1024 .f32) (a0 a1 a2 a3 o0 o1 o2 o3 : FVec Ideal S1x1024x1024 .bf16) (lg lb : FVec Ideal S1x1024 .f32) : FVec Ideal S256x1024 .f32 := k0_pay39 (Body.v87 b0 b1 m3 m4 m5 a0 a1 a2 a3 o0 o1 o2 o3 lg lb) (Body.v89 b0 b1 m3 m4 m5 a0 a1 a2 a3 o0 o1 o2 o3 lg lb) (Body.v92 b0 b1 m3 m4 m5 a0 a1 a2 a3 o0 o1 o2 o3 lg lb) lg lb b1
abbrev Body.v134 (b0 b1 : FVec Ideal S256x1024 .f32) (m3 m4 m5 : FVec Ideal S1x1024 .f32) (a0 a1 a2 a3 o0 o1 o2 o3 : FVec Ideal S1x1024x1024 .bf16) (lg lb : FVec Ideal S1x1024 .f32) : FVec Ideal S256x1024 .f32 := k0_pay41 (Body.v87 b0 b1 m3 m4 m5 a0 a1 a2 a3 o0 o1 o2 o3 lg lb) (Body.v89 b0 b1 m3 m4 m5 a0 a1 a2 a3 o0 o1 o2 o3 lg lb) (Body.v92 b0 b1 m3 m4 m5 a0 a1 a2 a3 o0 o1 o2 o3 lg lb) lg lb b1
abbrev Body.v136 (b0 b1 : FVec Ideal S256x1024 .f32) (m3 m4 m5 : FVec Ideal S1x1024 .f32) (a0 a1 a2 a3 o0 o1 o2 o3 : FVec Ideal S1x1024x1024 .bf16) (lg lb : FVec Ideal S1x1024 .f32) : FVec Ideal S256x1024 .f32 := k0_pay42 (Body.v87 b0 b1 m3 m4 m5 a0 a1 a2 a3 o0 o1 o2 o3 lg lb) (Body.v89 b0 b1 m3 m4 m5 a0 a1 a2 a3 o0 o1 o2 o3 lg lb) (Body.v92 b0 b1 m3 m4 m5 a0 a1 a2 a3 o0 o1 o2 o3 lg lb) lg lb b1
abbrev Body.v139 (b0 b1 : FVec Ideal S256x1024 .f32) (m3 m4 m5 : FVec Ideal S1x1024 .f32) (a0 a1 a2 a3 o0 o1 o2 o3 : FVec Ideal S1x1024x1024 .bf16) (lg lb : FVec Ideal S1x1024 .f32) : FVec Ideal S256x1024 .f32 := k0_pay43 (Body.v108 b0 b1 m3 m4 m5 a0 a1 a2 a3 o0 o1 o2 o3 lg lb) (Body.v134 b0 b1 m3 m4 m5 a0 a1 a2 a3 o0 o1 o2 o3 lg lb) (Body.v136 b0 b1 m3 m4 m5 a0 a1 a2 a3 o0 o1 o2 o3 lg lb)
abbrev Body.v144 (b0 b1 : FVec Ideal S256x1024 .f32) (m3 m4 m5 : FVec Ideal S1x1024 .f32) (a0 a1 a2 a3 o0 o1 o2 o3 : FVec Ideal S1x1024x1024 .bf16) (lg lb : FVec Ideal S1x1024 .f32) : FVec Ideal S256x1024 .bf16 := k0_pay44 (k0_pay12 m5) (Body.v108 b0 b1 m3 m4 m5 a0 a1 a2 a3 o0 o1 o2 o3 lg lb) (Body.v134 b0 b1 m3 m4 m5 a0 a1 a2 a3 o0 o1 o2 o3 lg lb) (Body.v136 b0 b1 m3 m4 m5 a0 a1 a2 a3 o0 o1 o2 o3 lg lb)
abbrev Body.r0 (b0 b1 : FVec Ideal S256x1024 .f32) (m3 m4 m5 : FVec Ideal S1x1024 .f32) (a0 a1 a2 a3 o0 o1 o2 o3 : FVec Ideal S1x1024x1024 .bf16) (lg lb : FVec Ideal S1x1024 .f32) : FVec Ideal S1x256x1024 .f32 := k0_pay16 b0 m3 m4 a0
abbrev Body.r1 (b0 b1 : FVec Ideal S256x1024 .f32) (m3 m4 m5 : FVec Ideal S1x1024 .f32) (a0 a1 a2 a3 o0 o1 o2 o3 : FVec Ideal S1x1024x1024 .bf16) (lg lb : FVec Ideal S1x1024 .f32) : FVec Ideal S1x256x1024 .f32 := k0_pay20 (Body.v17 b0 b1 m3 m4 m5 a0 a1 a2 a3 o0 o1 o2 o3 lg lb) a1
abbrev Body.r2 (b0 b1 : FVec Ideal S256x1024 .f32) (m3 m4 m5 : FVec Ideal S1x1024 .f32) (a0 a1 a2 a3 o0 o1 o2 o3 : FVec Ideal S1x1024x1024 .bf16) (lg lb : FVec Ideal S1x1024 .f32) : FVec Ideal S1x256x1024 .f32 := k0_pay25 (Body.v58 b0 b1 m3 m4 m5 a0 a1 a2 a3 o0 o1 o2 o3 lg lb)
abbrev Body.r3 (b0 b1 : FVec Ideal S256x1024 .f32) (m3 m4 m5 : FVec Ideal S1x1024 .f32) (a0 a1 a2 a3 o0 o1 o2 o3 : FVec Ideal S1x1024x1024 .bf16) (lg lb : FVec Ideal S1x1024 .f32) : FVec Ideal S1x256x1024 .f32 := k0_pay29 (Body.v17 b0 b1 m3 m4 m5 a0 a1 a2 a3 o0 o1 o2 o3 lg lb) a3
abbrev Body.v162 (b0 b1 : FVec Ideal S256x1024 .f32) (m3 m4 m5 : FVec Ideal S1x1024 .f32) (a0 a1 a2 a3 o0 o1 o2 o3 : FVec Ideal S1x1024x1024 .bf16) (lg lb : FVec Ideal S1x1024 .f32) : FVec Ideal S256x1024 .f32 := k0_pay47 (k0_pay12 m5) (Body.v108 b0 b1 m3 m4 m5 a0 a1 a2 a3 o0 o1 o2 o3 lg lb) (Body.v134 b0 b1 m3 m4 m5 a0 a1 a2 a3 o0 o1 o2 o3 lg lb) (Body.v136 b0 b1 m3 m4 m5 a0 a1 a2 a3 o0 o1 o2 o3 lg lb) o0 (Body.r0 b0 b1 m3 m4 m5 a0 a1 a2 a3 o0 o1 o2 o3 lg lb) a0
abbrev Body.v165 (b0 b1 : FVec Ideal S256x1024 .f32) (m3 m4 m5 : FVec Ideal S1x1024 .f32) (a0 a1 a2 a3 o0 o1 o2 o3 : FVec Ideal S1x1024x1024 .bf16) (lg lb : FVec Ideal S1x1024 .f32) : FVec Ideal S256x1024 .f32 := k0_pay48 (k0_pay12 m5) (Body.v108 b0 b1 m3 m4 m5 a0 a1 a2 a3 o0 o1 o2 o3 lg lb) (Body.v134 b0 b1 m3 m4 m5 a0 a1 a2 a3 o0 o1 o2 o3 lg lb) (Body.v136 b0 b1 m3 m4 m5 a0 a1 a2 a3 o0 o1 o2 o3 lg lb) o1
abbrev Body.v167 (b0 b1 : FVec Ideal S256x1024 .f32) (m3 m4 m5 : FVec Ideal S1x1024 .f32) (a0 a1 a2 a3 o0 o1 o2 o3 : FVec Ideal S1x1024x1024 .bf16) (lg lb : FVec Ideal S1x1024 .f32) : FVec Ideal S256x1024 .f32 := k0_pay49 (Body.r1 b0 b1 m3 m4 m5 a0 a1 a2 a3 o0 o1 o2 o3 lg lb)
abbrev Body.v194 (b0 b1 : FVec Ideal S256x1024 .f32) (m3 m4 m5 : FVec Ideal S1x1024 .f32) (a0 a1 a2 a3 o0 o1 o2 o3 : FVec Ideal S1x1024x1024 .bf16) (lg lb : FVec Ideal S1x1024 .f32) : FVec Ideal S256x1024 .f32 := k0_pay54 (Body.v144 b0 b1 m3 m4 m5 a0 a1 a2 a3 o0 o1 o2 o3 lg lb) (Body.v162 b0 b1 m3 m4 m5 a0 a1 a2 a3 o0 o1 o2 o3 lg lb) (Body.v165 b0 b1 m3 m4 m5 a0 a1 a2 a3 o0 o1 o2 o3 lg lb) (Body.v167 b0 b1 m3 m4 m5 a0 a1 a2 a3 o0 o1 o2 o3 lg lb) (FloatOps.ofBits (F := Ideal) .f32 0x40000000#32) a1 o2 (Body.r2 b0 b1 m3 m4 m5 a0 a1 a2 a3 o0 o1 o2 o3 lg lb) a2
abbrev Body.v197 (b0 b1 : FVec Ideal S256x1024 .f32) (m3 m4 m5 : FVec Ideal S1x1024 .f32) (a0 a1 a2 a3 o0 o1 o2 o3 : FVec Ideal S1x1024x1024 .bf16) (lg lb : FVec Ideal S1x1024 .f32) : FVec Ideal S256x1024 .f32 := k0_pay55 (Body.v144 b0 b1 m3 m4 m5 a0 a1 a2 a3 o0 o1 o2 o3 lg lb) o3
abbrev Body.v210 (b0 b1 : FVec Ideal S256x1024 .f32) (m3 m4 m5 : FVec Ideal S1x1024 .f32) (a0 a1 a2 a3 o0 o1 o2 o3 : FVec Ideal S1x1024x1024 .bf16) (lg lb : FVec Ideal S1x1024 .f32) : FVec Ideal S256x1024 .f32 := k0_pay58 (Body.v194 b0 b1 m3 m4 m5 a0 a1 a2 a3 o0 o1 o2 o3 lg lb) (Body.v197 b0 b1 m3 m4 m5 a0 a1 a2 a3 o0 o1 o2 o3 lg lb) (Body.r3 b0 b1 m3 m4 m5 a0 a1 a2 a3 o0 o1 o2 o3 lg lb) a3
abbrev Body.w7 (b0 b1 : FVec Ideal S256x1024 .f32) (m3 m4 m5 : FVec Ideal S1x1024 .f32) (a0 a1 a2 a3 o0 o1 o2 o3 : FVec Ideal S1x1024x1024 .bf16) (lg lb : FVec Ideal S1x1024 .f32) : FVec Ideal S256x1024 .f32 := k0_pay59 (k0_pay11 m4) (Body.v139 b0 b1 m3 m4 m5 a0 a1 a2 a3 o0 o1 o2 o3 lg lb) (Body.v194 b0 b1 m3 m4 m5 a0 a1 a2 a3 o0 o1 o2 o3 lg lb) (Body.v197 b0 b1 m3 m4 m5 a0 a1 a2 a3 o0 o1 o2 o3 lg lb) (Body.r3 b0 b1 m3 m4 m5 a0 a1 a2 a3 o0 o1 o2 o3 lg lb) a3
abbrev Body.w80 (b0 b1 : FVec Ideal S256x1024 .f32) (m3 m4 m5 : FVec Ideal S1x1024 .f32) (a0 a1 a2 a3 o0 o1 o2 o3 : FVec Ideal S1x1024x1024 .bf16) (lg lb : FVec Ideal S1x1024 .f32) : FVec Ideal S1x256x1024 .bf16 := k0_pay46 (k0_pay12 m5) (Body.v108 b0 b1 m3 m4 m5 a0 a1 a2 a3 o0 o1 o2 o3 lg lb) (Body.v134 b0 b1 m3 m4 m5 a0 a1 a2 a3 o0 o1 o2 o3 lg lb) (Body.v136 b0 b1 m3 m4 m5 a0 a1 a2 a3 o0 o1 o2 o3 lg lb) o0 (Body.r0 b0 b1 m3 m4 m5 a0 a1 a2 a3 o0 o1 o2 o3 lg lb)
abbrev Body.w81 (b0 b1 : FVec Ideal S256x1024 .f32) (m3 m4 m5 : FVec Ideal S1x1024 .f32) (a0 a1 a2 a3 o0 o1 o2 o3 : FVec Ideal S1x1024x1024 .bf16) (lg lb : FVec Ideal S1x1024 .f32) : FVec Ideal S1x256x1024 .bf16 := k0_pay51 (Body.v165 b0 b1 m3 m4 m5 a0 a1 a2 a3 o0 o1 o2 o3 lg lb) (Body.v167 b0 b1 m3 m4 m5 a0 a1 a2 a3 o0 o1 o2 o3 lg lb) (FloatOps.ofBits (F := Ideal) .f32 0x40000000#32)
abbrev Body.w82 (b0 b1 : FVec Ideal S256x1024 .f32) (m3 m4 m5 : FVec Ideal S1x1024 .f32) (a0 a1 a2 a3 o0 o1 o2 o3 : FVec Ideal S1x1024x1024 .bf16) (lg lb : FVec Ideal S1x1024 .f32) : FVec Ideal S1x256x1024 .bf16 := k0_pay53 (Body.v144 b0 b1 m3 m4 m5 a0 a1 a2 a3 o0 o1 o2 o3 lg lb) o2 (Body.r2 b0 b1 m3 m4 m5 a0 a1 a2 a3 o0 o1 o2 o3 lg lb)
abbrev Body.w83 (b0 b1 : FVec Ideal S256x1024 .f32) (m3 m4 m5 : FVec Ideal S1x1024 .f32) (a0 a1 a2 a3 o0 o1 o2 o3 : FVec Ideal S1x1024x1024 .bf16) (lg lb : FVec Ideal S1x1024 .f32) : FVec Ideal S1x256x1024 .bf16 := k0_pay57 (Body.v197 b0 b1 m3 m4 m5 a0 a1 a2 a3 o0 o1 o2 o3 lg lb) (Body.r3 b0 b1 m3 m4 m5 a0 a1 a2 a3 o0 o1 o2 o3 lg lb)
abbrev Body.w90 (b0 b1 : FVec Ideal S256x1024 .f32) (m3 m4 m5 : FVec Ideal S1x1024 .f32) (a0 a1 a2 a3 o0 o1 o2 o3 : FVec Ideal S1x1024x1024 .bf16) (lg lb : FVec Ideal S1x1024 .f32) : FVec Ideal S1x256x1024 .bf16 := k0_pay18 (Body.v29 b0 b1 m3 m4 m5 a0 a1 a2 a3 o0 o1 o2 o3 lg lb)
abbrev Body.w91 (b0 b1 : FVec Ideal S256x1024 .f32) (m3 m4 m5 : FVec Ideal S1x1024 .f32) (a0 a1 a2 a3 o0 o1 o2 o3 : FVec Ideal S1x1024x1024 .bf16) (lg lb : FVec Ideal S1x1024 .f32) : FVec Ideal S1x256x1024 .bf16 := k0_pay22 (Body.v17 b0 b1 m3 m4 m5 a0 a1 a2 a3 o0 o1 o2 o3 lg lb) a1
abbrev Body.w92 (b0 b1 : FVec Ideal S256x1024 .f32) (m3 m4 m5 : FVec Ideal S1x1024 .f32) (a0 a1 a2 a3 o0 o1 o2 o3 : FVec Ideal S1x1024x1024 .bf16) (lg lb : FVec Ideal S1x1024 .f32) : FVec Ideal S1x256x1024 .bf16 := k0_pay27 (Body.v58 b0 b1 m3 m4 m5 a0 a1 a2 a3 o0 o1 o2 o3 lg lb)
abbrev Body.w93 (b0 b1 : FVec Ideal S256x1024 .f32) (m3 m4 m5 : FVec Ideal S1x1024 .f32) (a0 a1 a2 a3 o0 o1 o2 o3 : FVec Ideal S1x1024x1024 .bf16) (lg lb : FVec Ideal S1x1024 .f32) : FVec Ideal S1x256x1024 .bf16 := k0_pay31 (Body.v17 b0 b1 m3 m4 m5 a0 a1 a2 a3 o0 o1 o2 o3 lg lb) a3

section
variable {b0 b1 : FVec Ideal S256x1024 .f32} {m3 m4 m5 : FVec Ideal S1x1024 .f32} {a0 a1 a2 a3 o0 o1 o2 o3 : FVec Ideal S1x1024x1024 .bf16} {lg lb : FVec Ideal S1x1024 .f32} (L : Leaf P X TG b0 b1 m3 m4 m5 a0 a1 a2 a3 o0 o1 o2 o3 lg lb)
include L
theorem Leaf.v17 : Blk (Body.v17 b0 b1 m3 m4 m5 a0 a1 a2 a3 o0 o1 o2 o3 lg lb) fun r => h P (X r) := p13 L.b0 L.m3 L.m4
theorem Leaf.v29 : Is2 (Body.v29 b0 b1 m3 m4 m5 a0 a1 a2 a3 o0 o1 o2 o3 lg lb) fun r q => sq P (X r) (kx 0 q) := p17 L.b0 L.m3 L.m4 L.a0
theorem Leaf.v53 : Blk (Body.v53 b0 b1 m3 m4 m5 a0 a1 a2 a3 o0 o1 o2 o3 lg lb) fun r c => fc P (X r) 0 c + fc P (X r) 1 c := p23 L.v17 p14 L.v29 L.o0 L.a1 L.o1
theorem Leaf.v58 : Is2 (Body.v58 b0 b1 m3 m4 m5 a0 a1 a2 a3 o0 o1 o2 o3 lg lb) fun r q => act P (X r) (kx 2 q) := p24 L.v17 L.a2
theorem Leaf.v87 : Blk (Body.v87 b0 b1 m3 m4 m5 a0 a1 a2 a3 o0 o1 o2 o3 lg lb) fun r => f P (X r) := p32 L.v17 L.v53 L.v58 L.o2 L.a3 L.o3
theorem Leaf.v89 : Blk (Body.v89 b0 b1 m3 m4 m5 a0 a1 a2 a3 o0 o1 o2 o3 lg lb) fun r c => alpha * X r c := p33 (p10 L.b0)
theorem Leaf.v92 : Blk (Body.v92 b0 b1 m3 m4 m5 a0 a1 a2 a3 o0 o1 o2 o3 lg lb) fun _ c => 1 + P.g c := p34 (p12 L.m5)
theorem Leaf.v108 : Is2 (Body.v108 b0 b1 m3 m4 m5 a0 a1 a2 a3 o0 o1 o2 o3 lg lb) fun r _ => rstd (res P (X r)) := p36 L.v87 L.v89 L.v92
theorem Leaf.v110 : Blk (Body.v110 b0 b1 m3 m4 m5 a0 a1 a2 a3 o0 o1 o2 o3 lg lb) fun r => xhat (res P (X r)) := p37 L.v87 L.v89 L.v92
theorem Leaf.v119 : Blk (Body.v119 b0 b1 m3 m4 m5 a0 a1 a2 a3 o0 o1 o2 o3 lg lb) fun r => err P (X r) (TG r) := p38 L.v87 L.v89 L.v92 L.lg L.lb L.b1
theorem Leaf.v121 : Blk (Body.v121 b0 b1 m3 m4 m5 a0 a1 a2 a3 o0 o1 o2 o3 lg lb) fun r => dy P (X r) (TG r) := p39 L.v87 L.v89 L.v92 L.lg L.lb L.b1
theorem Leaf.v134 : Blk (Body.v134 b0 b1 m3 m4 m5 a0 a1 a2 a3 o0 o1 o2 o3 lg lb) fun r c => dn P (X r) (TG r) c - (∑ k, dn P (X r) (TG r) k) / 1024 := p41 L.v87 L.v89 L.v92 L.lg L.lb L.b1
theorem Leaf.v136 : Blk (Body.v136 b0 b1 m3 m4 m5 a0 a1 a2 a3 o0 o1 o2 o3 lg lb) fun r c => xhat (res P (X r)) c * ((∑ k, dn P (X r) (TG r) k * xhat (res P (X r)) k) / 1024) := p42 L.v87 L.v89 L.v92 L.lg L.lb L.b1
theorem Leaf.v139 : Blk (Body.v139 b0 b1 m3 m4 m5 a0 a1 a2 a3 o0 o1 o2 o3 lg lb) fun r => dr P (X r) (TG r) := p43 L.v108 L.v134 L.v136
theorem Leaf.v144 : Blk (Body.v144 b0 b1 m3 m4 m5 a0 a1 a2 a3 o0 o1 o2 o3 lg lb) fun r => df P (X r) (TG r) := p44 (p12 L.m5) L.v108 L.v134 L.v136
theorem Leaf.r0 : Is3 (Body.r0 b0 b1 m3 m4 m5 a0 a1 a2 a3 o0 o1 o2 o3 lg lb) fun _ r q => act P (X r) (kx 0 q) := p16 L.b0 L.m3 L.m4 L.a0
theorem Leaf.r1 : Is3 (Body.r1 b0 b1 m3 m4 m5 a0 a1 a2 a3 o0 o1 o2 o3 lg lb) fun _ r q => act P (X r) (kx 1 q) := p20 L.v17 L.a1
theorem Leaf.r2 : Is3 (Body.r2 b0 b1 m3 m4 m5 a0 a1 a2 a3 o0 o1 o2 o3 lg lb) fun _ r q => act P (X r) (kx 2 q) := p25 L.v58
theorem Leaf.r3 : Is3 (Body.r3 b0 b1 m3 m4 m5 a0 a1 a2 a3 o0 o1 o2 o3 lg lb) fun _ r q => act P (X r) (kx 3 q) := p29 L.v17 L.a3
theorem Leaf.v162 : Blk (Body.v162 b0 b1 m3 m4 m5 a0 a1 a2 a3 o0 o1 o2 o3 lg lb) fun r => dc P (X r) (TG r) 0 := p47 (p12 L.m5) L.v108 L.v134 L.v136 L.o0 L.r0 L.a0
theorem Leaf.v165 : Is2 (Body.v165 b0 b1 m3 m4 m5 a0 a1 a2 a3 o0 o1 o2 o3 lg lb) fun r q => ∑ c, df P (X r) (TG r) c * P.wo (kx 1 q) c := p48 (p12 L.m5) L.v108 L.v134 L.v136 L.o1
theorem Leaf.v167 : Is2 (Body.v167 b0 b1 m3 m4 m5 a0 a1 a2 a3 o0 o1 o2 o3 lg lb) fun r q => act P (X r) (kx 1 q) := p49 L.r1
theorem Leaf.v194 : Blk (Body.v194 b0 b1 m3 m4 m5 a0 a1 a2 a3 o0 o1 o2 o3 lg lb) fun r c => dc P (X r) (TG r) 0 c + dc P (X r) (TG r) 1 c + dc P (X r) (TG r) 2 c := p54 L.v144 L.v162 c_2 L.v165 L.v167 L.a1 L.o2 L.r2 L.a2
theorem Leaf.v197 : Is2 (Body.v197 b0 b1 m3 m4 m5 a0 a1 a2 a3 o0 o1 o2 o3 lg lb) fun r q => ∑ c, df P (X r) (TG r) c * P.wo (kx 3 q) c := p55 L.v144 L.o3
theorem Leaf.v210 : Blk (Body.v210 b0 b1 m3 m4 m5 a0 a1 a2 a3 o0 o1 o2 o3 lg lb) fun r => dh P (X r) (TG r) := p58 L.v194 L.v197 L.r3 L.a3
theorem Leaf.w7 : Blk (Body.w7 b0 b1 m3 m4 m5 a0 a1 a2 a3 o0 o1 o2 o3 lg lb) fun r => dx P (X r) (TG r) := p59 (p11 L.m4) L.v139 L.v194 L.v197 L.r3 L.a3
theorem Leaf.w80 : Is3 (Body.w80 b0 b1 m3 m4 m5 a0 a1 a2 a3 o0 o1 o2 o3 lg lb) fun _ r q => da P (X r) (TG r) (kx 0 q) := p46 (p12 L.m5) L.v108 L.v134 L.v136 L.o0 L.r0
theorem Leaf.w81 : Is3 (Body.w81 b0 b1 m3 m4 m5 a0 a1 a2 a3 o0 o1 o2 o3 lg lb) fun _ r q => da P (X r) (TG r) (kx 1 q) := p51 c_2 L.v165 L.v167
theorem Leaf.w82 : Is3 (Body.w82 b0 b1 m3 m4 m5 a0 a1 a2 a3 o0 o1 o2 o3 lg lb) fun _ r q => da P (X r) (TG r) (kx 2 q) := p53 L.v144 L.o2 L.r2
theorem Leaf.w83 : Is3 (Body.w83 b0 b1 m3 m4 m5 a0 a1 a2 a3 o0 o1 o2 o3 lg lb) fun _ r q => da P (X r) (TG r) (kx 3 q) := p57 L.v197 L.r3
theorem Leaf.w90 : Is3 (Body.w90 b0 b1 m3 m4 m5 a0 a1 a2 a3 o0 o1 o2 o3 lg lb) fun _ r q => sq P (X r) (kx 0 q) := p18 L.v29
theorem Leaf.w91 : Is3 (Body.w91 b0 b1 m3 m4 m5 a0 a1 a2 a3 o0 o1 o2 o3 lg lb) fun _ r q => sq P (X r) (kx 1 q) := p22 L.v17 L.a1
theorem Leaf.w92 : Is3 (Body.w92 b0 b1 m3 m4 m5 a0 a1 a2 a3 o0 o1 o2 o3 lg lb) fun _ r q => sq P (X r) (kx 2 q) := p27 L.v58
theorem Leaf.w93 : Is3 (Body.w93 b0 b1 m3 m4 m5 a0 a1 a2 a3 o0 o1 o2 o3 lg lb) fun _ r q => sq P (X r) (kx 3 q) := p31 L.v17 L.a3
end

end Cert.MlpIdeal.Pay

end
-- ==== Proof.MlpIns.lean ====
/- What the blocks of a grid point hold, and how rows of partial sums lie in their buffers. -/
module

public import proofs.«01_k».proof.Proof.Gen.MlpIdeal.Value
public import Idealize.ShloMosaic.Lib.Pipeline.ValueKit
public import Idealize.ShloMosaic.Lib.Pipeline.ReadBack
public import Idealize.ShloMosaic.Lib.Pointwise
public import proofs.«01_k».proof.Proof.MlpBody

@[expose] public section

set_option maxRecDepth 16384

noncomputable section

open Idealize.ShloMosaic Idealize.ShloMosaic.TcCoe Idealize.SL.Sem
open Idealize.ShloMosaic.Pipeline (Dat)

namespace Cert.MlpIdeal.Pay

open Cert.MlpIdeal Cert.MlpIdeal.Gen Cert.RealLift Cert.MlpMath

variable {m : (ℓ : Loc nD τ sig) → Buf (Elt Ideal) ℓ} {P : Par} {X TG : Fin 256 → Row}

/-- What the input blocks of a grid point hold. -/
structure Ins (m : (ℓ : Loc nD τ sig) → Buf (Elt Ideal) ℓ) (c : Dev nD) (t : Fin cfg0.N) (P : Par) (X TG : Fin 256 → Row) : Prop where
  x0 : Blk (φ := .f32) (iblk m c 0 t) X
  x1 : Blk (φ := .f32) (iblk m c 1 t) TG
  sh : ∀ k : Fin 1024, (iblk m c 2 t : FVec Ideal S8x6144 .f32) (ix2 0 ⟨3072 + k.val, by omega⟩) = ((P.sh k : ℝ) : EReal)
  sc : ∀ k : Fin 1024, (iblk m c 2 t : FVec Ideal S8x6144 .f32) (ix2 0 ⟨4096 + k.val, by omega⟩) = ((P.sc k : ℝ) : EReal)
  g : ∀ k : Fin 1024, (iblk m c 2 t : FVec Ideal S8x6144 .f32) (ix2 0 ⟨5120 + k.val, by omega⟩) = ((P.g k : ℝ) : EReal)
  wi : Is3 (φ := .bf16) (iblk m c 3 t) fun j c q => P.wi c (kx j q)
  wo : Is3 (φ := .bf16) (iblk m c 4 t) fun j q c => P.wo (kx j q) c
  lg : Vec1 (iblk m c 5 t) P.lg
  lb : Vec1 (iblk m c 6 t) P.lb

/-- Six rows of eight partial sums, as one array. -/
def rows6 (F : Fin 6 → Fin 8 → Row) : FVec Ideal S6x8x1024 .f32 := fun y => ((F (y 0) (y 1) (y 2) : ℝ) : EReal)

/-- A store of row `j` is a block of the array of rows. -/
theorem row_piece (F : Fin 6 → Fin 8 → Row) {j : ℕ} (hj : j < 6) {v : FVec Ideal S1x8x1024 .f32} (inb : ∀ a, ![j, 0, 0] a + ![1, 8, 1024] a ≤ S6x8x1024.size a)
    (h : Is3 (φ := .f32) v fun _ s c => F ⟨j, hj⟩ s c) (x : S1x8x1024.Idx) :
    v x = rows6 F ((Rect.unit (s := S6x8x1024) ![j, 0, 0] ![1, 8, 1024] inb).emb x) := by
  have h1 : (x 1 : ℕ) < 8 := (x 1).isLt
  have h2 : (x 2 : ℕ) < 1024 := (x 2).isLt
  have h0 : (x 0 : ℕ) < 1 := (x 0).isLt
  rw [h.at x (j := 0) (r := ⟨x 1, h1⟩) (c := ⟨x 2, h2⟩) (by dsimp; omega) rfl rfl]
  have e0 : (Rect.unit (s := S6x8x1024) ![j, 0, 0] ![1, 8, 1024] inb).emb x 0 = (⟨j, hj⟩ : Fin 6) := Fin.ext (by show (_ + _ * _ : ℕ) = _; simp; try omega)
  have e1 : (Rect.unit (s := S6x8x1024) ![j, 0, 0] ![1, 8, 1024] inb).emb x 1 = (⟨x 1, h1⟩ : Fin 8) := Fin.ext (by show (_ + _ * _ : ℕ) = _; simp; try omega)
  have e2 : (Rect.unit (s := S6x8x1024) ![j, 0, 0] ![1, 8, 1024] inb).emb x 2 = (⟨x 2, h2⟩ : Fin 1024) := Fin.ext (by show (_ + _ * _ : ℕ) = _; simp; try omega)
  unfold rows6
  rw [e0, e1, e2]

/-- A row index between `o` and `o + n` is in the block of those rows. -/
theorem mem_row {o n : ℕ} {inb : ∀ a, ![o, 0] a + ![n, 1024] a ≤ S8x1024.size a} {y : S8x1024.Idx} (h : o ≤ (y 0 : ℕ)) (h' : (y 0 : ℕ) < o + n) :
    y ∈ (Rect.unit (s := S8x1024) ![o, 0] ![n, 1024] inb).set := by
  refine Rect.mem_set_unit.2 fun a => ?_
  have h1 : (y 1 : ℕ) < 1024 := (y 1).isLt
  match a with
  | 0 => exact ⟨h, h'⟩
  | 1 => exact ⟨Nat.zero_le _, by simpa using h1⟩

/-- Two rows and six single rows cover the eight. -/
theorem cover_rows (i6 w6) (i5 w5) (i4 w4) (i3 w3) (i2 w2) (i1 w1) (i0 w0) (y : S8x1024.Idx) :
    ∃ p ∈ ([⟨Rect.unit (s := S8x1024) ![6, 0] ![2, 1024] i6, w6⟩,
    ⟨Rect.unit (s := S8x1024) ![5, 0] ![1, 1024] i5, w5⟩,
    ⟨Rect.unit (s := S8x1024) ![4, 0] ![1, 1024] i4, w4⟩,
    ⟨Rect.unit (s := S8x1024) ![3, 0] ![1, 1024] i3, w3⟩,
    ⟨Rect.unit (s := S8x1024) ![2, 0] ![1, 1024] i2, w2⟩,
    ⟨Rect.unit (s := S8x1024) ![1, 0] ![1, 1024] i1, w1⟩,
    ⟨Rect.unit (s := S8x1024) ![0, 0] ![1, 1024] i0, w0⟩] : List (View.Piece (Elt Ideal) S8x1024 .f32)), y ∈ p.1.set := by
  have h0 : (y 0 : ℕ) < 8 := (y 0).isLt
  have hk : 6 ≤ (y 0 : ℕ) ∨ (y 0 : ℕ) = 5 ∨ (y 0 : ℕ) = 4 ∨ (y 0 : ℕ) = 3 ∨ (y 0 : ℕ) = 2 ∨ (y 0 : ℕ) = 1 ∨ (y 0 : ℕ) = 0 := by omega
  rcases hk with h | h | h | h | h | h | h
  · exact ⟨_, List.Mem.head _, mem_row (inb := i6) (by omega) (by omega)⟩
  · exact ⟨_, List.Mem.tail _ (List.Mem.head _), mem_row (inb := i5) (by omega) (by omega)⟩
  · exact ⟨_, List.Mem.tail _ (List.Mem.tail _ (List.Mem.head _)), mem_row (inb := i4) (by omega) (by omega)⟩
  · exact ⟨_, List.Mem.tail _ (List.Mem.tail _ (List.Mem.tail _ (List.Mem.head _))), mem_row (inb := i3) (by omega) (by omega)⟩
  · exact ⟨_, List.Mem.tail _ (List.Mem.tail _ (List.Mem.tail _ (List.Mem.tail _ (List.Mem.head _)))), mem_row (inb := i2) (by omega) (by omega)⟩
  · exact ⟨_, List.Mem.tail _ (List.Mem.tail _ (List.Mem.tail _ (List.Mem.tail _ (List.Mem.tail _ (List.Mem.head _))))), mem_row (inb := i1) (by omega) (by omega)⟩
  · exact ⟨_, List.Mem.tail _ (List.Mem.tail _ (List.Mem.tail _ (List.Mem.tail _ (List.Mem.tail _ (List.Mem.tail _ (List.Mem.head _)))))), mem_row (inb := i0) (by omega) (by omega)⟩

/-- What the last grid point makes of the six rows of partial sums. -/
def statsOf (F : Fin 6 → Fin 8 → Row) : Fin 8 → Row := ![fun c => ∑ s, F 0 s c, fun c => ∑ s, F 1 s c, fun c => ∑ s, F 2 s c, fun c => ∑ s, F 3 s c, fun c => ∑ s, F 4 s c,
  fun _ => (∑ s, ∑ c, F 5 s c) * (1 / 2048), fun _ => 0, fun _ => 0]

end Cert.MlpIdeal.Pay

end
-- ==== Proof.MlpBlocksA.lean ====
/- The first grid point of the MLP call: what it writes into each window and into the partial sums. -/
module

public import proofs.«01_k».proof.Proof.Gen.MlpIdeal.Value
public import Idealize.ShloMosaic.Lib.Pipeline.ValueKit
public import Idealize.ShloMosaic.Lib.Pipeline.ReadBack
public import Idealize.ShloMosaic.Lib.Pointwise
public import proofs.«01_k».proof.Proof.MlpIns

@[expose] public section

set_option maxRecDepth 16384

noncomputable section

open Idealize.ShloMosaic Idealize.ShloMosaic.TcCoe Idealize.SL.Sem
open Idealize.ShloMosaic.Pipeline (Dat)

namespace Cert.MlpIdeal.Pay

open Cert.MlpIdeal Cert.MlpIdeal.Gen Cert.RealLift Cert.MlpMath

variable {m : (ℓ : Loc nD τ sig) → Buf (Elt Ideal) ℓ} {P : Par} {X TG : Fin 256 → Row}

set_option maxHeartbeats 2000000 in
theorem w7_A {c : Dev nD} {t : Fin cfg0.N} (I : Ins m c t P X TG) (h0 : t.val % 32 = 0) (h1 : ¬t.val % 32 = 31) :
    Blk (φ := .f32) (outsAt0 m c t.val t.isLt).1 fun r => dx P (X r) (TG r) := by
  rw [outsAt0_A m c t h0 h1]
  frame_open
  simp (disch := decide) only [↓ View.readCov_skip, ↓ View.readCov_cons_toLoadRect, ↓ View.readCov_fill]
  frame_out
  refine Leaf.w7 ⟨I.x0, I.x1, ?_, ?_, ?_, ?_, ?_, ?_, ?_, ?_, ?_, ?_, ?_, I.lg, I.lb⟩
  · intro r l; pointwise []; exact I.sh l
  · intro r l; pointwise []; exact I.sc l
  · intro r l; pointwise []; exact I.g l
  all_goals (intro i r l; pointwise []; first | exact I.wi _ _ _ | exact I.wo _ _ _)

set_option maxHeartbeats 2000000 in
theorem w8_A {c : Dev nD} {t : Fin cfg0.N} (I : Ins m c t P X TG) (h0 : t.val % 32 = 0) (h1 : ¬t.val % 32 = 31) :
    Is3 (φ := .bf16) (outsAt0 m c t.val t.isLt).2.1 fun j r q => da P (X r) (TG r) (kx j q) := by
  rw [outsAt0_A m c t h0 h1]
  frame_open
  simp (disch := decide) only [↓ View.readCov_skip, ↓ View.readCov_cons_toLoadRect, ↓ View.readCov_fill]
  frame_out
  intro j r q
  canon_tiles x k
  · have hx : (x 0 : ℕ) < 1 := (x 0).isLt
    obtain rfl : j = 3 := Fin.ext (by dsimp at k0; omega)
    refine (Leaf.w83 ⟨I.x0, I.x1, ?_, ?_, ?_, ?_, ?_, ?_, ?_, ?_, ?_, ?_, ?_, I.lg, I.lb⟩).at x (j := 0) (r := r) (c := q) (by dsimp; omega) (by dsimp at k1; omega) (by dsimp at k2; omega)
    · intro r l; pointwise []; exact I.sh l
    · intro r l; pointwise []; exact I.sc l
    · intro r l; pointwise []; exact I.g l
    all_goals (intro i r l; pointwise []; first | exact I.wi _ _ _ | exact I.wo _ _ _)
  · have hx : (x 0 : ℕ) < 1 := (x 0).isLt
    obtain rfl : j = 2 := Fin.ext (by dsimp at k0; omega)
    refine (Leaf.w82 ⟨I.x0, I.x1, ?_, ?_, ?_, ?_, ?_, ?_, ?_, ?_, ?_, ?_, ?_, I.lg, I.lb⟩).at x (j := 0) (r := r) (c := q) (by dsimp; omega) (by dsimp at k1; omega) (by dsimp at k2; omega)
    · intro r l; pointwise []; exact I.sh l
    · intro r l; pointwise []; exact I.sc l
    · intro r l; pointwise []; exact I.g l
    all_goals (intro i r l; pointwise []; first | exact I.wi _ _ _ | exact I.wo _ _ _)
  · have hx : (x 0 : ℕ) < 1 := (x 0).isLt
    obtain rfl : j = 1 := Fin.ext (by dsimp at k0; omega)
    refine (Leaf.w81 ⟨I.x0, I.x1, ?_, ?_, ?_, ?_, ?_, ?_, ?_, ?_, ?_, ?_, ?_, I.lg, I.lb⟩).at x (j := 0) (r := r) (c := q) (by dsimp; omega) (by dsimp at k1; omega) (by dsimp at k2; omega)
    · intro r l; pointwise []; exact I.sh l
    · intro r l; pointwise []; exact I.sc l
    · intro r l; pointwise []; exact I.g l
    all_goals (intro i r l; pointwise []; first | exact I.wi _ _ _ | exact I.wo _ _ _)
  · have hx : (x 0 : ℕ) < 1 := (x 0).isLt
    obtain rfl : j = 0 := Fin.ext (by dsimp at k0; omega)
    refine (Leaf.w80 ⟨I.x0, I.x1, ?_, ?_, ?_, ?_, ?_, ?_, ?_, ?_, ?_, ?_, ?_, I.lg, I.lb⟩).at x (j := 0) (r := r) (c := q) (by dsimp; omega) (by dsimp at k1; omega) (by dsimp at k2; omega)
    · intro r l; pointwise []; exact I.sh l
    · intro r l; pointwise []; exact I.sc l
    · intro r l; pointwise []; exact I.g l
    all_goals (intro i r l; pointwise []; first | exact I.wi _ _ _ | exact I.wo _ _ _)

set_option maxHeartbeats 2000000 in
theorem w9_A {c : Dev nD} {t : Fin cfg0.N} (I : Ins m c t P X TG) (h0 : t.val % 32 = 0) (h1 : ¬t.val % 32 = 31) :
    Is3 (φ := .bf16) (outsAt0 m c t.val t.isLt).2.2.1 fun j r q => sq P (X r) (kx j q) := by
  rw [outsAt0_A m c t h0 h1]
  frame_open
  simp (disch := decide) only [↓ View.readCov_skip, ↓ View.readCov_cons_toLoadRect, ↓ View.readCov_fill]
  frame_out
  intro j r q
  canon_tiles x k
  · have hx : (x 0 : ℕ) < 1 := (x 0).isLt
    obtain rfl : j = 3 := Fin.ext (by dsimp at k0; omega)
    refine (p31 (p13 I.x0 ?_ ?_) ?_).at x (j := 0) (r := r) (c := q) (by dsimp; omega) (by dsimp at k1; omega) (by dsimp at k2; omega)
    · intro r l; pointwise []; exact I.sh l
    · intro r l; pointwise []; exact I.sc l
    all_goals (intro i r l; pointwise []; exact I.wi _ _ _)
  · have hx : (x 0 : ℕ) < 1 := (x 0).isLt
    obtain rfl : j = 2 := Fin.ext (by dsimp at k0; omega)
    refine (p27 (p24 (p13 I.x0 ?_ ?_) ?_)).at x (j := 0) (r := r) (c := q) (by dsimp; omega) (by dsimp at k1; omega) (by dsimp at k2; omega)
    · intro r l; pointwise []; exact I.sh l
    · intro r l; pointwise []; exact I.sc l
    all_goals (intro i r l; pointwise []; exact I.wi _ _ _)
  · have hx : (x 0 : ℕ) < 1 := (x 0).isLt
    obtain rfl : j = 1 := Fin.ext (by dsimp at k0; omega)
    refine (p22 (p13 I.x0 ?_ ?_) ?_).at x (j := 0) (r := r) (c := q) (by dsimp; omega) (by dsimp at k1; omega) (by dsimp at k2; omega)
    · intro r l; pointwise []; exact I.sh l
    · intro r l; pointwise []; exact I.sc l
    all_goals (intro i r l; pointwise []; exact I.wi _ _ _)
  · have hx : (x 0 : ℕ) < 1 := (x 0).isLt
    obtain rfl : j = 0 := Fin.ext (by dsimp at k0; omega)
    refine (p18 (p17 I.x0 ?_ ?_ ?_)).at x (j := 0) (r := r) (c := q) (by dsimp; omega) (by dsimp at k1; omega) (by dsimp at k2; omega)
    · intro r l; pointwise []; exact I.sh l
    · intro r l; pointwise []; exact I.sc l
    all_goals (intro i r l; pointwise []; exact I.wi _ _ _)

set_option maxHeartbeats 2000000 in
theorem w10_A {c : Dev nD} {t : Fin cfg0.N} (I : Ins m c t P X TG) (h0 : t.val % 32 = 0) (h1 : ¬t.val % 32 = 31) :
    Blk (φ := .bf16) (outsAt0 m c t.val t.isLt).2.2.2.1 fun r => df P (X r) (TG r) := by
  rw [outsAt0_A m c t h0 h1]
  frame_open
  simp (disch := decide) only [↓ View.readCov_skip, ↓ View.readCov_cons_toLoadRect, ↓ View.readCov_fill]
  frame_out
  refine Leaf.v144 ⟨I.x0, I.x1, ?_, ?_, ?_, ?_, ?_, ?_, ?_, ?_, ?_, ?_, ?_, I.lg, I.lb⟩
  · intro r l; pointwise []; exact I.sh l
  · intro r l; pointwise []; exact I.sc l
  · intro r l; pointwise []; exact I.g l
  all_goals (intro i r l; pointwise []; first | exact I.wi _ _ _ | exact I.wo _ _ _)

set_option maxHeartbeats 2000000 in
theorem w11_A {c : Dev nD} {t : Fin cfg0.N} (I : Ins m c t P X TG) (h0 : t.val % 32 = 0) (h1 : ¬t.val % 32 = 31) :
    Blk (φ := .bf16) (outsAt0 m c t.val t.isLt).2.2.2.2.1 fun r => h P (X r) := by
  rw [outsAt0_A m c t h0 h1]
  frame_open
  simp (disch := decide) only [↓ View.readCov_skip, ↓ View.readCov_cons_toLoadRect, ↓ View.readCov_fill]
  frame_out
  refine p13 I.x0 ?_ ?_
  · intro r l; pointwise []; exact I.sh l
  · intro r l; pointwise []; exact I.sc l
  all_goals (intro i r l; pointwise []; exact I.wi _ _ _)

set_option maxHeartbeats 2000000 in
theorem acc_A {c : Dev nD} {t : Fin cfg0.N} (I : Ins m c t P X TG) (h0 : t.val % 32 = 0) (h1 : ¬t.val % 32 = 31) :
    Is3 (φ := .f32) (outsAt0 m c t.val t.isLt).2.2.2.2.2.2
      fun k s c => 0 + ∑ u : Fin 32, quant P (X ⟨u.val * 8 + s.val, by omega⟩) (TG ⟨u.val * 8 + s.val, by omega⟩) k c := by
  rw [outsAt0_A m c t h0 h1]
  frame_open
  simp (disch := decide) only [↓ View.readCov_skip, ↓ View.readCov_cons_toLoadRect, ↓ View.readCov_fill]
  frame_out
  intro j s q
  refine View.canon_append_of_piecesOf (Val := Elt Ideal) (s := S6x8x1024) (e := .f32)
    (rows6 fun k s c => 0 + ∑ u : Fin 32, quant P (X ⟨u.val * 8 + s.val, by omega⟩) (TG ⟨u.val * 8 + s.val, by omega⟩) k c)
    [_] [_, _, _, _, _, _] ⟨?_, ?_, ?_, ?_, ?_, ?_, trivial⟩ (ix3 j s q) (View.cover_of_tiledL _ ![1, 8, 1024] (by sl_kernel_rfl) _)
  · refine row_piece _ (j := 5) (by decide) inb_S6x8x1024_S1x8x1024_5_0_0 ((p1 (Leaf.v119 ⟨I.x0, I.x1, ?_, ?_, ?_, ?_, ?_, ?_, ?_, ?_, ?_, ?_, ?_, I.lg, I.lb⟩) ?_ : Is3 (φ := .f32) _ fun _ s c => ((fun _ _ => 0 : Fin 8 → Row) s c) + ∑ u : Fin 32, quant P (X ⟨u.val * 8 + s.val, by omega⟩) (TG ⟨u.val * 8 + s.val, by omega⟩) 5 c))
    all_goals first
      | (intro r l; pointwise []; with_reducible first | exact I.sh l | exact I.sc l | exact I.g l)
      | (intro i r l; pointwise []; first | exact I.wi _ _ _ | exact I.wo _ _ _)
      | (intro i r l; pointwise [k0_pay9]; exact ups.2.2.2.2.2.2.2.2.2.2.2.2.2.2.2.2.2)
  · refine row_piece _ (j := 4) (by decide) inb_S6x8x1024_S1x8x1024_4_0_0 ((p66 (Leaf.v210 ⟨I.x0, I.x1, ?_, ?_, ?_, ?_, ?_, ?_, ?_, ?_, ?_, ?_, ?_, I.lg, I.lb⟩) ?_ : Is3 (φ := .f32) _ fun _ s c => ((fun _ _ => 0 : Fin 8 → Row) s c) + ∑ u : Fin 32, quant P (X ⟨u.val * 8 + s.val, by omega⟩) (TG ⟨u.val * 8 + s.val, by omega⟩) 4 c))
    all_goals first
      | (intro r l; pointwise []; with_reducible first | exact I.sh l | exact I.sc l | exact I.g l)
      | (intro i r l; pointwise []; first | exact I.wi _ _ _ | exact I.wo _ _ _)
      | (intro i r l; pointwise [k0_pay9]; exact ups.2.2.2.2.2.2.2.2.2.2.2.2.2.2.2.2.2)
  · refine row_piece _ (j := 3) (by decide) inb_S6x8x1024_S1x8x1024_3_0_0 ((p65 (p10 I.x0) (Leaf.v210 ⟨I.x0, I.x1, ?_, ?_, ?_, ?_, ?_, ?_, ?_, ?_, ?_, ?_, ?_, I.lg, I.lb⟩) ?_ : Is3 (φ := .f32) _ fun _ s c => ((fun _ _ => 0 : Fin 8 → Row) s c) + ∑ u : Fin 32, quant P (X ⟨u.val * 8 + s.val, by omega⟩) (TG ⟨u.val * 8 + s.val, by omega⟩) 3 c))
    all_goals first
      | (intro r l; pointwise []; with_reducible first | exact I.sh l | exact I.sc l | exact I.g l)
      | (intro i r l; pointwise []; first | exact I.wi _ _ _ | exact I.wo _ _ _)
      | (intro i r l; pointwise [k0_pay9]; exact ups.2.2.2.2.2.2.2.2.2.2.2.2.2.2.2.2.2)
  · refine row_piece _ (j := 2) (by decide) inb_S6x8x1024_S1x8x1024_2_0_0 ((p64 (p32 (p13 I.x0 ?_ ?_) (p23 (p13 I.x0 ?_ ?_) p14 (p17 I.x0 ?_ ?_ ?_) ?_ ?_ ?_) (p24 (p13 I.x0 ?_ ?_) ?_) ?_ ?_ ?_) (Leaf.v139 ⟨I.x0, I.x1, ?_, ?_, ?_, ?_, ?_, ?_, ?_, ?_, ?_, ?_, ?_, I.lg, I.lb⟩) ?_ : Is3 (φ := .f32) _ fun _ s c => ((fun _ _ => 0 : Fin 8 → Row) s c) + ∑ u : Fin 32, quant P (X ⟨u.val * 8 + s.val, by omega⟩) (TG ⟨u.val * 8 + s.val, by omega⟩) 2 c))
    all_goals first
      | (intro r l; pointwise []; with_reducible first | exact I.sh l | exact I.sc l | exact I.g l)
      | (intro i r l; pointwise []; first | exact I.wi _ _ _ | exact I.wo _ _ _)
      | (intro i r l; pointwise [k0_pay9]; exact ups.2.2.2.2.2.2.2.2.2.2.2.2.2.2.2.2.2)
  · refine row_piece _ (j := 1) (by decide) inb_S6x8x1024_S1x8x1024_1_0_0 ((p63 (p61 ?_) (p62 (Leaf.v121 ⟨I.x0, I.x1, ?_, ?_, ?_, ?_, ?_, ?_, ?_, ?_, ?_, ?_, ?_, I.lg, I.lb⟩)) : Is3 (φ := .f32) _ fun _ s c => ((fun _ _ => 0 : Fin 8 → Row) s c) + ∑ u : Fin 32, quant P (X ⟨u.val * 8 + s.val, by omega⟩) (TG ⟨u.val * 8 + s.val, by omega⟩) 1 c))
    all_goals first
      | (intro r l; pointwise []; with_reducible first | exact I.sh l | exact I.sc l | exact I.g l)
      | (intro i r l; pointwise []; first | exact I.wi _ _ _ | exact I.wo _ _ _)
      | (intro i r l; pointwise [k0_pay9]; exact ups.2.2.2.2.2.2.2.2.2.2.2.2.2.2.2.2.2)
  · refine row_piece _ (j := 0) (by decide) inb_S6x8x1024_S1x8x1024_0_0_0 ((p60 (Leaf.v110 ⟨I.x0, I.x1, ?_, ?_, ?_, ?_, ?_, ?_, ?_, ?_, ?_, ?_, ?_, I.lg, I.lb⟩) (Leaf.v121 ⟨I.x0, I.x1, ?_, ?_, ?_, ?_, ?_, ?_, ?_, ?_, ?_, ?_, ?_, I.lg, I.lb⟩) ?_ : Is3 (φ := .f32) _ fun _ s c => ((fun _ _ => 0 : Fin 8 → Row) s c) + ∑ u : Fin 32, quant P (X ⟨u.val * 8 + s.val, by omega⟩) (TG ⟨u.val * 8 + s.val, by omega⟩) 0 c))
    all_goals first
      | (intro r l; pointwise []; with_reducible first | exact I.sh l | exact I.sc l | exact I.g l)
      | (intro i r l; pointwise []; first | exact I.wi _ _ _ | exact I.wo _ _ _)
      | (intro i r l; pointwise [k0_pay9]; exact ups.2.2.2.2.2.2.2.2.2.2.2.2.2.2.2.2.2)

end Cert.MlpIdeal.Pay

end
-- ==== Proof.MlpBlocksB.lean ====
/- A middle grid point of the MLP call: what it writes into each window and into the partial sums. -/
module

public import proofs.«01_k».proof.Proof.Gen.MlpIdeal.Value
public import Idealize.ShloMosaic.Lib.Pipeline.ValueKit
public import Idealize.ShloMosaic.Lib.Pipeline.ReadBack
public import Idealize.ShloMosaic.Lib.Pointwise
public import proofs.«01_k».proof.Proof.MlpIns

@[expose] public section

set_option maxRecDepth 16384

noncomputable section

open Idealize.ShloMosaic Idealize.ShloMosaic.TcCoe Idealize.SL.Sem
open Idealize.ShloMosaic.Pipeline (Dat)

namespace Cert.MlpIdeal.Pay

open Cert.MlpIdeal Cert.MlpIdeal.Gen Cert.RealLift Cert.MlpMath

variable {m : (ℓ : Loc nD τ sig) → Buf (Elt Ideal) ℓ} {P : Par} {X TG : Fin 256 → Row}

set_option maxHeartbeats 2000000 in
theorem w7_B {c : Dev nD} {t : Fin cfg0.N} (I : Ins m c t P X TG) (h0 : ¬t.val % 32 = 0) (h1 : ¬t.val % 32 = 31) :
    Blk (φ := .f32) (outsAt0 m c t.val t.isLt).1 fun r => dx P (X r) (TG r) := by
  rw [outsAt0_B m c t h0 h1]
  frame_open
  simp (disch := decide) only [↓ View.readCov_skip, ↓ View.readCov_cons_toLoadRect, ↓ View.readCov_fill]
  frame_out
  refine Leaf.w7 ⟨I.x0, I.x1, ?_, ?_, ?_, ?_, ?_, ?_, ?_, ?_, ?_, ?_, ?_, I.lg, I.lb⟩
  · intro r l; pointwise []; exact I.sh l
  · intro r l; pointwise []; exact I.sc l
  · intro r l; pointwise []; exact I.g l
  all_goals (intro i r l; pointwise []; first | exact I.wi _ _ _ | exact I.wo _ _ _)

set_option maxHeartbeats 2000000 in
theorem w8_B {c : Dev nD} {t : Fin cfg0.N} (I : Ins m c t P X TG) (h0 : ¬t.val % 32 = 0) (h1 : ¬t.val % 32 = 31) :
    Is3 (φ := .bf16) (outsAt0 m c t.val t.isLt).2.1 fun j r q => da P (X r) (TG r) (kx j q) := by
  rw [outsAt0_B m c t h0 h1]
  frame_open
  simp (disch := decide) only [↓ View.readCov_skip, ↓ View.readCov_cons_toLoadRect, ↓ View.readCov_fill]
  frame_out
  intro j r q
  canon_tiles x k
  · have hx : (x 0 : ℕ) < 1 := (x 0).isLt
    obtain rfl : j = 3 := Fin.ext (by dsimp at k0; omega)
    refine (Leaf.w83 ⟨I.x0, I.x1, ?_, ?_, ?_, ?_, ?_, ?_, ?_, ?_, ?_, ?_, ?_, I.lg, I.lb⟩).at x (j := 0) (r := r) (c := q) (by dsimp; omega) (by dsimp at k1; omega) (by dsimp at k2; omega)
    · intro r l; pointwise []; exact I.sh l
    · intro r l; pointwise []; exact I.sc l
    · intro r l; pointwise []; exact I.g l
    all_goals (intro i r l; pointwise []; first | exact I.wi _ _ _ | exact I.wo _ _ _)
  · have hx : (x 0 : ℕ) < 1 := (x 0).isLt
    obtain rfl : j = 2 := Fin.ext (by dsimp at k0; omega)
    refine (Leaf.w82 ⟨I.x0, I.x1, ?_, ?_, ?_, ?_, ?_, ?_, ?_, ?_, ?_, ?_, ?_, I.lg, I.lb⟩).at x (j := 0) (r := r) (c := q) (by dsimp; omega) (by dsimp at k1; omega) (by dsimp at k2; omega)
    · intro r l; pointwise []; exact I.sh l
    · intro r l; pointwise []; exact I.sc l
    · intro r l; pointwise []; exact I.g l
    all_goals (intro i r l; pointwise []; first | exact I.wi _ _ _ | exact I.wo _ _ _)
  · have hx : (x 0 : ℕ) < 1 := (x 0).isLt
    obtain rfl : j = 1 := Fin.ext (by dsimp at k0; omega)
    refine (Leaf.w81 ⟨I.x0, I.x1, ?_, ?_, ?_, ?_, ?_, ?_, ?_, ?_, ?_, ?_, ?_, I.lg, I.lb⟩).at x (j := 0) (r := r) (c := q) (by dsimp; omega) (by dsimp at k1; omega) (by dsimp at k2; omega)
    · intro r l; pointwise []; exact I.sh l
    · intro r l; pointwise []; exact I.sc l
    · intro r l; pointwise []; exact I.g l
    all_goals (intro i r l; pointwise []; first | exact I.wi _ _ _ | exact I.wo _ _ _)
  · have hx : (x 0 : ℕ) < 1 := (x 0).isLt
    obtain rfl : j = 0 := Fin.ext (by dsimp at k0; omega)
    refine (Leaf.w80 ⟨I.x0, I.x1, ?_, ?_, ?_, ?_, ?_, ?_, ?_, ?_, ?_, ?_, ?_, I.lg, I.lb⟩).at x (j := 0) (r := r) (c := q) (by dsimp; omega) (by dsimp at k1; omega) (by dsimp at k2; omega)
    · intro r l; pointwise []; exact I.sh l
    · intro r l; pointwise []; exact I.sc l
    · intro r l; pointwise []; exact I.g l
    all_goals (intro i r l; pointwise []; first | exact I.wi _ _ _ | exact I.wo _ _ _)

set_option maxHeartbeats 2000000 in
theorem w9_B {c : Dev nD} {t : Fin cfg0.N} (I : Ins m c t P X TG) (h0 : ¬t.val % 32 = 0) (h1 : ¬t.val % 32 = 31) :
    Is3 (φ := .bf16) (outsAt0 m c t.val t.isLt).2.2.1 fun j r q => sq P (X r) (kx j q) := by
  rw [outsAt0_B m c t h0 h1]
  frame_open
  simp (disch := decide) only [↓ View.readCov_skip, ↓ View.readCov_cons_toLoadRect, ↓ View.readCov_fill]
  frame_out
  intro j r q
  canon_tiles x k
  · have hx : (x 0 : ℕ) < 1 := (x 0).isLt
    obtain rfl : j = 3 := Fin.ext (by dsimp at k0; omega)
    refine (p31 (p13 I.x0 ?_ ?_) ?_).at x (j := 0) (r := r) (c := q) (by dsimp; omega) (by dsimp at k1; omega) (by dsimp at k2; omega)
    · intro r l; pointwise []; exact I.sh l
    · intro r l; pointwise []; exact I.sc l
    all_goals (intro i r l; pointwise []; exact I.wi _ _ _)
  · have hx : (x 0 : ℕ) < 1 := (x 0).isLt
    obtain rfl : j = 2 := Fin.ext (by dsimp at k0; omega)
    refine (p27 (p24 (p13 I.x0 ?_ ?_) ?_)).at x (j := 0) (r := r) (c := q) (by dsimp; omega) (by dsimp at k1; omega) (by dsimp at k2; omega)
    · intro r l; pointwise []; exact I.sh l
    · intro r l; pointwise []; exact I.sc l
    all_goals (intro i r l; pointwise []; exact I.wi _ _ _)
  · have hx : (x 0 : ℕ) < 1 := (x 0).isLt
    obtain rfl : j = 1 := Fin.ext (by dsimp at k0; omega)
    refine (p22 (p13 I.x0 ?_ ?_) ?_).at x (j := 0) (r := r) (c := q) (by dsimp; omega) (by dsimp at k1; omega) (by dsimp at k2; omega)
    · intro r l; pointwise []; exact I.sh l
    · intro r l; pointwise []; exact I.sc l
    all_goals (intro i r l; pointwise []; exact I.wi _ _ _)
  · have hx : (x 0 : ℕ) < 1 := (x 0).isLt
    obtain rfl : j = 0 := Fin.ext (by dsimp at k0; omega)
    refine (p18 (p17 I.x0 ?_ ?_ ?_)).at x (j := 0) (r := r) (c := q) (by dsimp; omega) (by dsimp at k1; omega) (by dsimp at k2; omega)
    · intro r l; pointwise []; exact I.sh l
    · intro r l; pointwise []; exact I.sc l
    all_goals (intro i r l; pointwise []; exact I.wi _ _ _)

set_option maxHeartbeats 2000000 in
theorem w10_B {c : Dev nD} {t : Fin cfg0.N} (I : Ins m c t P X TG) (h0 : ¬t.val % 32 = 0) (h1 : ¬t.val % 32 = 31) :
    Blk (φ := .bf16) (outsAt0 m c t.val t.isLt).2.2.2.1 fun r => df P (X r) (TG r) := by
  rw [outsAt0_B m c t h0 h1]
  frame_open
  simp (disch := decide) only [↓ View.readCov_skip, ↓ View.readCov_cons_toLoadRect, ↓ View.readCov_fill]
  frame_out
  refine Leaf.v144 ⟨I.x0, I.x1, ?_, ?_, ?_, ?_, ?_, ?_, ?_, ?_, ?_, ?_, ?_, I.lg, I.lb⟩
  · intro r l; pointwise []; exact I.sh l
  · intro r l; pointwise []; exact I.sc l
  · intro r l; pointwise []; exact I.g l
  all_goals (intro i r l; pointwise []; first | exact I.wi _ _ _ | exact I.wo _ _ _)

set_option maxHeartbeats 2000000 in
theorem w11_B {c : Dev nD} {t : Fin cfg0.N} (I : Ins m c t P X TG) (h0 : ¬t.val % 32 = 0) (h1 : ¬t.val % 32 = 31) :
    Blk (φ := .bf16) (outsAt0 m c t.val t.isLt).2.2.2.2.1 fun r => h P (X r) := by
  rw [outsAt0_B m c t h0 h1]
  frame_open
  simp (disch := decide) only [↓ View.readCov_skip, ↓ View.readCov_cons_toLoadRect, ↓ View.readCov_fill]
  frame_out
  refine p13 I.x0 ?_ ?_
  · intro r l; pointwise []; exact I.sh l
  · intro r l; pointwise []; exact I.sc l
  all_goals (intro i r l; pointwise []; exact I.wi _ _ _)

set_option maxHeartbeats 2000000 in
theorem acc_B {A : Fin 6 → Fin 8 → Row} {c : Dev nD} {t : Fin cfg0.N} (I : Ins m c t P X TG) (h0 : ¬t.val % 32 = 0) (h1 : ¬t.val % 32 = 31)
    (hA : Is3 (φ := .f32) (outsAt0 m c (t.val - 1) (Nat.lt_of_le_of_lt (Nat.sub_le _ _) t.isLt)).2.2.2.2.2.2 A) :
    Is3 (φ := .f32) (outsAt0 m c t.val t.isLt).2.2.2.2.2.2
      fun k s c => A k s c + ∑ u : Fin 32, quant P (X ⟨u.val * 8 + s.val, by omega⟩) (TG ⟨u.val * 8 + s.val, by omega⟩) k c := by
  rw [outsAt0_B m c t h0 h1]
  frame_open
  simp (disch := decide) only [↓ View.readCov_skip, ↓ View.readCov_cons_toLoadRect, ↓ View.readCov_fill]
  frame_out
  intro j s q
  canon_tiles x k
  · have hx : (x 0 : ℕ) < 1 := (x 0).isLt
    obtain rfl : j = 5 := Fin.ext (by dsimp at k0; omega)
    refine Is3.at (f := fun _ s c => ((A 5 : Fin 8 → Row) s c) + ∑ u : Fin 32, quant P (X ⟨u.val * 8 + s.val, by omega⟩) (TG ⟨u.val * 8 + s.val, by omega⟩) 5 c) (p1 (Leaf.v119 ⟨I.x0, I.x1, ?_, ?_, ?_, ?_, ?_, ?_, ?_, ?_, ?_, ?_, ?_, I.lg, I.lb⟩) ?_) x (j := 0) (r := s) (c := q) (by dsimp; omega) (by dsimp at k1; omega) (by dsimp at k2; omega)
    all_goals first
      | (intro r l; pointwise []; with_reducible first | exact I.sh l | exact I.sc l | exact I.g l)
      | (intro i r l; pointwise []; first | exact I.wi _ _ _ | exact I.wo _ _ _)
      | (simp only [read_unread_whole]; intro i r l; pointwise []; exact hA _ _ _)
  · have hx : (x 0 : ℕ) < 1 := (x 0).isLt
    obtain rfl : j = 4 := Fin.ext (by dsimp at k0; omega)
    refine Is3.at (f := fun _ s c => ((A 4 : Fin 8 → Row) s c) + ∑ u : Fin 32, quant P (X ⟨u.val * 8 + s.val, by omega⟩) (TG ⟨u.val * 8 + s.val, by omega⟩) 4 c) (p66 (Leaf.v210 ⟨I.x0, I.x1, ?_, ?_, ?_, ?_, ?_, ?_, ?_, ?_, ?_, ?_, ?_, I.lg, I.lb⟩) ?_) x (j := 0) (r := s) (c := q) (by dsimp; omega) (by dsimp at k1; omega) (by dsimp at k2; omega)
    all_goals first
      | (intro r l; pointwise []; with_reducible first | exact I.sh l | exact I.sc l | exact I.g l)
      | (intro i r l; pointwise []; first | exact I.wi _ _ _ | exact I.wo _ _ _)
      | (simp only [read_unread_whole]; intro i r l; pointwise []; exact hA _ _ _)
  · have hx : (x 0 : ℕ) < 1 := (x 0).isLt
    obtain rfl : j = 3 := Fin.ext (by dsimp at k0; omega)
    refine Is3.at (f := fun _ s c => ((A 3 : Fin 8 → Row) s c) + ∑ u : Fin 32, quant P (X ⟨u.val * 8 + s.val, by omega⟩) (TG ⟨u.val * 8 + s.val, by omega⟩) 3 c) (p65 (p10 I.x0) (Leaf.v210 ⟨I.x0, I.x1, ?_, ?_, ?_, ?_, ?_, ?_, ?_, ?_, ?_, ?_, ?_, I.lg, I.lb⟩) ?_) x (j := 0) (r := s) (c := q) (by dsimp; omega) (by dsimp at k1; omega) (by dsimp at k2; omega)
    all_goals first
      | (intro r l; pointwise []; with_reducible first | exact I.sh l | exact I.sc l | exact I.g l)
      | (intro i r l; pointwise []; first | exact I.wi _ _ _ | exact I.wo _ _ _)
      | (simp only [read_unread_whole]; intro i r l; pointwise []; exact hA _ _ _)
  · have hx : (x 0 : ℕ) < 1 := (x 0).isLt
    obtain rfl : j = 2 := Fin.ext (by dsimp at k0; omega)
    refine Is3.at (f := fun _ s c => ((A 2 : Fin 8 → Row) s c) + ∑ u : Fin 32, quant P (X ⟨u.val * 8 + s.val, by omega⟩) (TG ⟨u.val * 8 + s.val, by omega⟩) 2 c) (p64 (p32 (p13 I.x0 ?_ ?_) (p23 (p13 I.x0 ?_ ?_) p14 (p17 I.x0 ?_ ?_ ?_) ?_ ?_ ?_) (p24 (p13 I.x0 ?_ ?_) ?_) ?_ ?_ ?_) (Leaf.v139 ⟨I.x0, I.x1, ?_, ?_, ?_, ?_, ?_, ?_, ?_, ?_, ?_, ?_, ?_, I.lg, I.lb⟩) ?_) x (j := 0) (r := s) (c := q) (by dsimp; omega) (by dsimp at k1; omega) (by dsimp at k2; omega)
    all_goals first
      | (intro r l; pointwise []; with_reducible first | exact I.sh l | exact I.sc l | exact I.g l)
      | (intro i r l; pointwise []; first | exact I.wi _ _ _ | exact I.wo _ _ _)
      | (simp only [read_unread_whole]; intro i r l; pointwise []; exact hA _ _ _)
  · have hx : (x 0 : ℕ) < 1 := (x 0).isLt
    obtain rfl : j = 1 := Fin.ext (by dsimp at k0; omega)
    refine Is3.at (f := fun _ s c => ((A 1 : Fin 8 → Row) s c) + ∑ u : Fin 32, quant P (X ⟨u.val * 8 + s.val, by omega⟩) (TG ⟨u.val * 8 + s.val, by omega⟩) 1 c) (p63 (p61 ?_) (p62 (Leaf.v121 ⟨I.x0, I.x1, ?_, ?_, ?_, ?_, ?_, ?_, ?_, ?_, ?_, ?_, ?_, I.lg, I.lb⟩))) x (j := 0) (r := s) (c := q) (by dsimp; omega) (by dsimp at k1; omega) (by dsimp at k2; omega)
    all_goals first
      | (intro r l; pointwise []; with_reducible first | exact I.sh l | exact I.sc l | exact I.g l)
      | (intro i r l; pointwise []; first | exact I.wi _ _ _ | exact I.wo _ _ _)
      | (simp only [read_unread_whole]; intro i r l; pointwise []; exact hA _ _ _)
  · have hx : (x 0 : ℕ) < 1 := (x 0).isLt
    obtain rfl : j = 0 := Fin.ext (by dsimp at k0; omega)
    refine Is3.at (f := fun _ s c => ((A 0 : Fin 8 → Row) s c) + ∑ u : Fin 32, quant P (X ⟨u.val * 8 + s.val, by omega⟩) (TG ⟨u.val * 8 + s.val, by omega⟩) 0 c) (p60 (Leaf.v110 ⟨I.x0, I.x1, ?_, ?_, ?_, ?_, ?_, ?_, ?_, ?_, ?_, ?_, ?_, I.lg, I.lb⟩) (Leaf.v121 ⟨I.x0, I.x1, ?_, ?_, ?_, ?_, ?_, ?_, ?_, ?_, ?_, ?_, ?_, I.lg, I.lb⟩) ?_) x (j := 0) (r := s) (c := q) (by dsimp; omega) (by dsimp at k1; omega) (by dsimp at k2; omega)
    all_goals first
      | (intro r l; pointwise []; with_reducible first | exact I.sh l | exact I.sc l | exact I.g l)
      | (intro i r l; pointwise []; first | exact I.wi _ _ _ | exact I.wo _ _ _)
      | (simp only [read_unread_whole]; intro i r l; pointwise []; exact hA _ _ _)

end Cert.MlpIdeal.Pay

end
-- ==== Proof.MlpBlocksC.lean ====
/- The last grid point of the MLP call: what it writes into each window and into the partial sums. -/
module

public import proofs.«01_k».proof.Proof.Gen.MlpIdeal.Value
public import Idealize.ShloMosaic.Lib.Pipeline.ValueKit
public import Idealize.ShloMosaic.Lib.Pipeline.ReadBack
public import Idealize.ShloMosaic.Lib.Pointwise
public import proofs.«01_k».proof.Proof.MlpIns

@[expose] public section

set_option maxRecDepth 16384

noncomputable section

open Idealize.ShloMosaic Idealize.ShloMosaic.TcCoe Idealize.SL.Sem
open Idealize.ShloMosaic.Pipeline (Dat)

namespace Cert.MlpIdeal.Pay

open Cert.MlpIdeal Cert.MlpIdeal.Gen Cert.RealLift Cert.MlpMath

variable {m : (ℓ : Loc nD τ sig) → Buf (Elt Ideal) ℓ} {P : Par} {X TG : Fin 256 → Row}

set_option maxHeartbeats 2000000 in
theorem w7_C {c : Dev nD} {t : Fin cfg0.N} (I : Ins m c t P X TG) (h0 : ¬t.val % 32 = 0) (h1 : t.val % 32 = 31) :
    Blk (φ := .f32) (outsAt0 m c t.val t.isLt).1 fun r => dx P (X r) (TG r) := by
  rw [outsAt0_C m c t h0 h1]
  frame_open
  simp (disch := decide) only [↓ View.readCov_skip, ↓ View.readCov_cons_toLoadRect, ↓ View.readCov_fill]
  frame_out
  refine Leaf.w7 ⟨I.x0, I.x1, ?_, ?_, ?_, ?_, ?_, ?_, ?_, ?_, ?_, ?_, ?_, I.lg, I.lb⟩
  · intro r l; pointwise []; exact I.sh l
  · intro r l; pointwise []; exact I.sc l
  · intro r l; pointwise []; exact I.g l
  all_goals (intro i r l; pointwise []; first | exact I.wi _ _ _ | exact I.wo _ _ _)

set_option maxHeartbeats 2000000 in
theorem w8_C {c : Dev nD} {t : Fin cfg0.N} (I : Ins m c t P X TG) (h0 : ¬t.val % 32 = 0) (h1 : t.val % 32 = 31) :
    Is3 (φ := .bf16) (outsAt0 m c t.val t.isLt).2.1 fun j r q => da P (X r) (TG r) (kx j q) := by
  rw [outsAt0_C m c t h0 h1]
  frame_open
  simp (disch := decide) only [↓ View.readCov_skip, ↓ View.readCov_cons_toLoadRect, ↓ View.readCov_fill]
  frame_out
  intro j r q
  canon_tiles x k
  · have hx : (x 0 : ℕ) < 1 := (x 0).isLt
    obtain rfl : j = 3 := Fin.ext (by dsimp at k0; omega)
    refine (Leaf.w83 ⟨I.x0, I.x1, ?_, ?_, ?_, ?_, ?_, ?_, ?_, ?_, ?_, ?_, ?_, I.lg, I.lb⟩).at x (j := 0) (r := r) (c := q) (by dsimp; omega) (by dsimp at k1; omega) (by dsimp at k2; omega)
    · intro r l; pointwise []; exact I.sh l
    · intro r l; pointwise []; exact I.sc l
    · intro r l; pointwise []; exact I.g l
    all_goals (intro i r l; pointwise []; first | exact I.wi _ _ _ | exact I.wo _ _ _)
  · have hx : (x 0 : ℕ) < 1 := (x 0).isLt
    obtain rfl : j = 2 := Fin.ext (by dsimp at k0; omega)
    refine (Leaf.w82 ⟨I.x0, I.x1, ?_, ?_, ?_, ?_, ?_, ?_, ?_, ?_, ?_, ?_, ?_, I.lg, I.lb⟩).at x (j := 0) (r := r) (c := q) (by dsimp; omega) (by dsimp at k1; omega) (by dsimp at k2; omega)
    · intro r l; pointwise []; exact I.sh l
    · intro r l; pointwise []; exact I.sc l
    · intro r l; pointwise []; exact I.g l
    all_goals (intro i r l; pointwise []; first | exact I.wi _ _ _ | exact I.wo _ _ _)
  · have hx : (x 0 : ℕ) < 1 := (x 0).isLt
    obtain rfl : j = 1 := Fin.ext (by dsimp at k0; omega)
    refine (Leaf.w81 ⟨I.x0, I.x1, ?_, ?_, ?_, ?_, ?_, ?_, ?_, ?_, ?_, ?_, ?_, I.lg, I.lb⟩).at x (j := 0) (r := r) (c := q) (by dsimp; omega) (by dsimp at k1; omega) (by dsimp at k2; omega)
    · intro r l; pointwise []; exact I.sh l
    · intro r l; pointwise []; exact I.sc l
    · intro r l; pointwise []; exact I.g l
    all_goals (intro i r l; pointwise []; first | exact I.wi _ _ _ | exact I.wo _ _ _)
  · have hx : (x 0 : ℕ) < 1 := (x 0).isLt
    obtain rfl : j = 0 := Fin.ext (by dsimp at k0; omega)
    refine (Leaf.w80 ⟨I.x0, I.x1, ?_, ?_, ?_, ?_, ?_, ?_, ?_, ?_, ?_, ?_, ?_, I.lg, I.lb⟩).at x (j := 0) (r := r) (c := q) (by dsimp; omega) (by dsimp at k1; omega) (by dsimp at k2; omega)
    · intro r l; pointwise []; exact I.sh l
    · intro r l; pointwise []; exact I.sc l
    · intro r l; pointwise []; exact I.g l
    all_goals (intro i r l; pointwise []; first | exact I.wi _ _ _ | exact I.wo _ _ _)

set_option maxHeartbeats 2000000 in
theorem w9_C {c : Dev nD} {t : Fin cfg0.N} (I : Ins m c t P X TG) (h0 : ¬t.val % 32 = 0) (h1 : t.val % 32 = 31) :
    Is3 (φ := .bf16) (outsAt0 m c t.val t.isLt).2.2.1 fun j r q => sq P (X r) (kx j q) := by
  rw [outsAt0_C m c t h0 h1]
  frame_open
  simp (disch := decide) only [↓ View.readCov_skip, ↓ View.readCov_cons_toLoadRect, ↓ View.readCov_fill]
  frame_out
  intro j r q
  canon_tiles x k
  · have hx : (x 0 : ℕ) < 1 := (x 0).isLt
    obtain rfl : j = 3 := Fin.ext (by dsimp at k0; omega)
    refine (p31 (p13 I.x0 ?_ ?_) ?_).at x (j := 0) (r := r) (c := q) (by dsimp; omega) (by dsimp at k1; omega) (by dsimp at k2; omega)
    · intro r l; pointwise []; exact I.sh l
    · intro r l; pointwise []; exact I.sc l
    all_goals (intro i r l; pointwise []; exact I.wi _ _ _)
  · have hx : (x 0 : ℕ) < 1 := (x 0).isLt
    obtain rfl : j = 2 := Fin.ext (by dsimp at k0; omega)
    refine (p27 (p24 (p13 I.x0 ?_ ?_) ?_)).at x (j := 0) (r := r) (c := q) (by dsimp; omega) (by dsimp at k1; omega) (by dsimp at k2; omega)
    · intro r l; pointwise []; exact I.sh l
    · intro r l; pointwise []; exact I.sc l
    all_goals (intro i r l; pointwise []; exact I.wi _ _ _)
  · have hx : (x 0 : ℕ) < 1 := (x 0).isLt
    obtain rfl : j = 1 := Fin.ext (by dsimp at k0; omega)
    refine (p22 (p13 I.x0 ?_ ?_) ?_).at x (j := 0) (r := r) (c := q) (by dsimp; omega) (by dsimp at k1; omega) (by dsimp at k2; omega)
    · intro r l; pointwise []; exact I.sh l
    · intro r l; pointwise []; exact I.sc l
    all_goals (intro i r l; pointwise []; exact I.wi _ _ _)
  · have hx : (x 0 : ℕ) < 1 := (x 0).isLt
    obtain rfl : j = 0 := Fin.ext (by dsimp at k0; omega)
    refine (p18 (p17 I.x0 ?_ ?_ ?_)).at x (j := 0) (r := r) (c := q) (by dsimp; omega) (by dsimp at k1; omega) (by dsimp at k2; omega)
    · intro r l; pointwise []; exact I.sh l
    · intro r l; pointwise []; exact I.sc l
    all_goals (intro i r l; pointwise []; exact I.wi _ _ _)

set_option maxHeartbeats 2000000 in
theorem w10_C {c : Dev nD} {t : Fin cfg0.N} (I : Ins m c t P X TG) (h0 : ¬t.val % 32 = 0) (h1 : t.val % 32 = 31) :
    Blk (φ := .bf16) (outsAt0 m c t.val t.isLt).2.2.2.1 fun r => df P (X r) (TG r) := by
  rw [outsAt0_C m c t h0 h1]
  frame_open
  simp (disch := decide) only [↓ View.readCov_skip, ↓ View.readCov_cons_toLoadRect, ↓ View.readCov_fill]
  frame_out
  refine Leaf.v144 ⟨I.x0, I.x1, ?_, ?_, ?_, ?_, ?_, ?_, ?_, ?_, ?_, ?_, ?_, I.lg, I.lb⟩
  · intro r l; pointwise []; exact I.sh l
  · intro r l; pointwise []; exact I.sc l
  · intro r l; pointwise []; exact I.g l
  all_goals (intro i r l; pointwise []; first | exact I.wi _ _ _ | exact I.wo _ _ _)

set_option maxHeartbeats 2000000 in
theorem w11_C {c : Dev nD} {t : Fin cfg0.N} (I : Ins m c t P X TG) (h0 : ¬t.val % 32 = 0) (h1 : t.val % 32 = 31) :
    Blk (φ := .bf16) (outsAt0 m c t.val t.isLt).2.2.2.2.1 fun r => h P (X r) := by
  rw [outsAt0_C m c t h0 h1]
  frame_open
  simp (disch := decide) only [↓ View.readCov_skip, ↓ View.readCov_cons_toLoadRect, ↓ View.readCov_fill]
  frame_out
  refine p13 I.x0 ?_ ?_
  · intro r l; pointwise []; exact I.sh l
  · intro r l; pointwise []; exact I.sc l
  all_goals (intro i r l; pointwise []; exact I.wi _ _ _)

set_option maxHeartbeats 2000000 in
theorem acc_C {A : Fin 6 → Fin 8 → Row} {c : Dev nD} {t : Fin cfg0.N} (I : Ins m c t P X TG) (h0 : ¬t.val % 32 = 0) (h1 : t.val % 32 = 31)
    (hA : Is3 (φ := .f32) (outsAt0 m c (t.val - 1) (Nat.lt_of_le_of_lt (Nat.sub_le _ _) t.isLt)).2.2.2.2.2.2 A) :
    Is3 (φ := .f32) (outsAt0 m c t.val t.isLt).2.2.2.2.2.2
      fun k s c => A k s c + ∑ u : Fin 32, quant P (X ⟨u.val * 8 + s.val, by omega⟩) (TG ⟨u.val * 8 + s.val, by omega⟩) k c := by
  rw [outsAt0_C m c t h0 h1]
  frame_open
  simp (disch := decide) only [↓ View.readCov_skip, ↓ View.readCov_cons_toLoadRect, ↓ View.readCov_fill]
  frame_out
  intro j s q
  canon_tiles x k
  · have hx : (x 0 : ℕ) < 1 := (x 0).isLt
    obtain rfl : j = 5 := Fin.ext (by dsimp at k0; omega)
    refine Is3.at (f := fun _ s c => ((A 5 : Fin 8 → Row) s c) + ∑ u : Fin 32, quant P (X ⟨u.val * 8 + s.val, by omega⟩) (TG ⟨u.val * 8 + s.val, by omega⟩) 5 c) (p1 (Leaf.v119 ⟨I.x0, I.x1, ?_, ?_, ?_, ?_, ?_, ?_, ?_, ?_, ?_, ?_, ?_, I.lg, I.lb⟩) ?_) x (j := 0) (r := s) (c := q) (by dsimp; omega) (by dsimp at k1; omega) (by dsimp at k2; omega)
    all_goals first
      | (intro r l; pointwise []; with_reducible first | exact I.sh l | exact I.sc l | exact I.g l)
      | (intro i r l; pointwise []; first | exact I.wi _ _ _ | exact I.wo _ _ _)
      | (simp only [read_unread_whole]; intro i r l; pointwise []; exact hA _ _ _)
  · have hx : (x 0 : ℕ) < 1 := (x 0).isLt
    obtain rfl : j = 4 := Fin.ext (by dsimp at k0; omega)
    refine Is3.at (f := fun _ s c => ((A 4 : Fin 8 → Row) s c) + ∑ u : Fin 32, quant P (X ⟨u.val * 8 + s.val, by omega⟩) (TG ⟨u.val * 8 + s.val, by omega⟩) 4 c) (p66 (Leaf.v210 ⟨I.x0, I.x1, ?_, ?_, ?_, ?_, ?_, ?_, ?_, ?_, ?_, ?_, ?_, I.lg, I.lb⟩) ?_) x (j := 0) (r := s) (c := q) (by dsimp; omega) (by dsimp at k1; omega) (by dsimp at k2; omega)
    all_goals first
      | (intro r l; pointwise []; with_reducible first | exact I.sh l | exact I.sc l | exact I.g l)
      | (intro i r l; pointwise []; first | exact I.wi _ _ _ | exact I.wo _ _ _)
      | (simp only [read_unread_whole]; intro i r l; pointwise []; exact hA _ _ _)
  · have hx : (x 0 : ℕ) < 1 := (x 0).isLt
    obtain rfl : j = 3 := Fin.ext (by dsimp at k0; omega)
    refine Is3.at (f := fun _ s c => ((A 3 : Fin 8 → Row) s c) + ∑ u : Fin 32, quant P (X ⟨u.val * 8 + s.val, by omega⟩) (TG ⟨u.val * 8 + s.val, by omega⟩) 3 c) (p65 (p10 I.x0) (Leaf.v210 ⟨I.x0, I.x1, ?_, ?_, ?_, ?_, ?_, ?_, ?_, ?_, ?_, ?_, ?_, I.lg, I.lb⟩) ?_) x (j := 0) (r := s) (c := q) (by dsimp; omega) (by dsimp at k1; omega) (by dsimp at k2; omega)
    all_goals first
      | (intro r l; pointwise []; with_reducible first | exact I.sh l | exact I.sc l | exact I.g l)
      | (intro i r l; pointwise []; first | exact I.wi _ _ _ | exact I.wo _ _ _)
      | (simp only [read_unread_whole]; intro i r l; pointwise []; exact hA _ _ _)
  · have hx : (x 0 : ℕ) < 1 := (x 0).isLt
    obtain rfl : j = 2 := Fin.ext (by dsimp at k0; omega)
    refine Is3.at (f := fun _ s c => ((A 2 : Fin 8 → Row) s c) + ∑ u : Fin 32, quant P (X ⟨u.val * 8 + s.val, by omega⟩) (TG ⟨u.val * 8 + s.val, by omega⟩) 2 c) (p64 (p32 (p13 I.x0 ?_ ?_) (p23 (p13 I.x0 ?_ ?_) p14 (p17 I.x0 ?_ ?_ ?_) ?_ ?_ ?_) (p24 (p13 I.x0 ?_ ?_) ?_) ?_ ?_ ?_) (Leaf.v139 ⟨I.x0, I.x1, ?_, ?_, ?_, ?_, ?_, ?_, ?_, ?_, ?_, ?_, ?_, I.lg, I.lb⟩) ?_) x (j := 0) (r := s) (c := q) (by dsimp; omega) (by dsimp at k1; omega) (by dsimp at k2; omega)
    all_goals first
      | (intro r l; pointwise []; with_reducible first | exact I.sh l | exact I.sc l | exact I.g l)
      | (intro i r l; pointwise []; first | exact I.wi _ _ _ | exact I.wo _ _ _)
      | (simp only [read_unread_whole]; intro i r l; pointwise []; exact hA _ _ _)
  · have hx : (x 0 : ℕ) < 1 := (x 0).isLt
    obtain rfl : j = 1 := Fin.ext (by dsimp at k0; omega)
    refine Is3.at (f := fun _ s c => ((A 1 : Fin 8 → Row) s c) + ∑ u : Fin 32, quant P (X ⟨u.val * 8 + s.val, by omega⟩) (TG ⟨u.val * 8 + s.val, by omega⟩) 1 c) (p63 (p61 ?_) (p62 (Leaf.v121 ⟨I.x0, I.x1, ?_, ?_, ?_, ?_, ?_, ?_, ?_, ?_, ?_, ?_, ?_, I.lg, I.lb⟩))) x (j := 0) (r := s) (c := q) (by dsimp; omega) (by dsimp at k1; omega) (by dsimp at k2; omega)
    all_goals first
      | (intro r l; pointwise []; with_reducible first | exact I.sh l | exact I.sc l | exact I.g l)
      | (intro i r l; pointwise []; first | exact I.wi _ _ _ | exact I.wo _ _ _)
      | (simp only [read_unread_whole]; intro i r l; pointwise []; exact hA _ _ _)
  · have hx : (x 0 : ℕ) < 1 := (x 0).isLt
    obtain rfl : j = 0 := Fin.ext (by dsimp at k0; omega)
    refine Is3.at (f := fun _ s c => ((A 0 : Fin 8 → Row) s c) + ∑ u : Fin 32, quant P (X ⟨u.val * 8 + s.val, by omega⟩) (TG ⟨u.val * 8 + s.val, by omega⟩) 0 c) (p60 (Leaf.v110 ⟨I.x0, I.x1, ?_, ?_, ?_, ?_, ?_, ?_, ?_, ?_, ?_, ?_, ?_, I.lg, I.lb⟩) (Leaf.v121 ⟨I.x0, I.x1, ?_, ?_, ?_, ?_, ?_, ?_, ?_, ?_, ?_, ?_, ?_, I.lg, I.lb⟩) ?_) x (j := 0) (r := s) (c := q) (by dsimp; omega) (by dsimp at k1; omega) (by dsimp at k2; omega)
    all_goals first
      | (intro r l; pointwise []; with_reducible first | exact I.sh l | exact I.sc l | exact I.g l)
      | (intro i r l; pointwise []; first | exact I.wi _ _ _ | exact I.wo _ _ _)
      | (simp only [read_unread_whole]; intro i r l; pointwise []; exact hA _ _ _)

set_option maxHeartbeats 2000000 in
theorem w12_C {A : Fin 6 → Fin 8 → Row} {c : Dev nD} {t : Fin cfg0.N} (I : Ins m c t P X TG) (h0 : ¬t.val % 32 = 0) (h1 : t.val % 32 = 31)
    (hA : Is3 (φ := .f32) (outsAt0 m c (t.val - 1) (Nat.lt_of_le_of_lt (Nat.sub_le _ _) t.isLt)).2.2.2.2.2.2 A) :
    Is2 (φ := .f32) (outsAt0 m c t.val t.isLt).2.2.2.2.2.1 (statsOf
      fun k s c => A k s c + ∑ u : Fin 32, quant P (X ⟨u.val * 8 + s.val, by omega⟩) (TG ⟨u.val * 8 + s.val, by omega⟩) k c) := by
  rw [outsAt0_C m c t h0 h1]
  frame_open
  simp (disch := decide) only [↓ View.readCov_skip, ↓ View.readCov_cons_toLoadRect, ↓ View.readCov_fill]
  frame_out
  intro r q
  canon_tiles x k using (cover_rows _ _ _ _ _ _ _ _ _ _ _ _ _ _ (ix2 r q))
  · have hx : (x 0 : ℕ) < 2 := (x 0).isLt
    rw [p3.at x (r := ⟨x 0, hx⟩) (c := q) rfl (by dsimp at k1; omega)]
    have hr : r = 6 ∨ r = 7 := by
      have : r.val = 6 ∨ r.val = 7 := by dsimp at k0; omega
      exact this.imp (fun h => Fin.ext h) (fun h => Fin.ext h)
    rcases hr with rfl | rfl <;> rfl
  · have hx : (x 0 : ℕ) < 1 := (x 0).isLt
    obtain rfl : r = 5 := Fin.ext (by dsimp at k0; omega)
    refine Is2.at (f := fun _ => fun _ => (∑ s, ∑ c, (((A 5 : Fin 8 → Row) s c) + ∑ u : Fin 32, quant P (X ⟨u.val * 8 + s.val, by omega⟩) (TG ⟨u.val * 8 + s.val, by omega⟩) 5 c)) * (1 / 2048)) (p2 (p1 (Leaf.v119 ⟨I.x0, I.x1, ?_, ?_, ?_, ?_, ?_, ?_, ?_, ?_, ?_, ?_, ?_, I.lg, I.lb⟩) ?_ : Is3 (φ := .f32) _ fun _ s c => ((A 5 : Fin 8 → Row) s c) + ∑ u : Fin 32, quant P (X ⟨u.val * 8 + s.val, by omega⟩) (TG ⟨u.val * 8 + s.val, by omega⟩) 5 c)) x (r := 0) (c := q) (by dsimp; omega) (by dsimp at k1; omega)
    all_goals first
      | (intro r l; pointwise []; with_reducible first | exact I.sh l | exact I.sc l | exact I.g l)
      | (intro i r l; pointwise []; first | exact I.wi _ _ _ | exact I.wo _ _ _)
      | (simp only [read_unread_whole]; intro i r l; pointwise []; exact hA _ _ _)
  · have hx : (x 0 : ℕ) < 1 := (x 0).isLt
    obtain rfl : r = 4 := Fin.ext (by dsimp at k0; omega)
    refine Is2.at (f := fun _ => fun c => ∑ s : Fin 8, (((A 4 : Fin 8 → Row) s c) + ∑ u : Fin 32, quant P (X ⟨u.val * 8 + s.val, by omega⟩) (TG ⟨u.val * 8 + s.val, by omega⟩) 4 c)) (p8 (p66 (Leaf.v210 ⟨I.x0, I.x1, ?_, ?_, ?_, ?_, ?_, ?_, ?_, ?_, ?_, ?_, ?_, I.lg, I.lb⟩) ?_ : Is3 (φ := .f32) _ fun _ s c => ((A 4 : Fin 8 → Row) s c) + ∑ u : Fin 32, quant P (X ⟨u.val * 8 + s.val, by omega⟩) (TG ⟨u.val * 8 + s.val, by omega⟩) 4 c)) x (r := 0) (c := q) (by dsimp; omega) (by dsimp at k1; omega)
    all_goals first
      | (intro r l; pointwise []; with_reducible first | exact I.sh l | exact I.sc l | exact I.g l)
      | (intro i r l; pointwise []; first | exact I.wi _ _ _ | exact I.wo _ _ _)
      | (simp only [read_unread_whole]; intro i r l; pointwise []; exact hA _ _ _)
  · have hx : (x 0 : ℕ) < 1 := (x 0).isLt
    obtain rfl : r = 3 := Fin.ext (by dsimp at k0; omega)
    refine Is2.at (f := fun _ => fun c => ∑ s : Fin 8, (((A 3 : Fin 8 → Row) s c) + ∑ u : Fin 32, quant P (X ⟨u.val * 8 + s.val, by omega⟩) (TG ⟨u.val * 8 + s.val, by omega⟩) 3 c)) (p7 (p65 (p10 I.x0) (Leaf.v210 ⟨I.x0, I.x1, ?_, ?_, ?_, ?_, ?_, ?_, ?_, ?_, ?_, ?_, ?_, I.lg, I.lb⟩) ?_ : Is3 (φ := .f32) _ fun _ s c => ((A 3 : Fin 8 → Row) s c) + ∑ u : Fin 32, quant P (X ⟨u.val * 8 + s.val, by omega⟩) (TG ⟨u.val * 8 + s.val, by omega⟩) 3 c)) x (r := 0) (c := q) (by dsimp; omega) (by dsimp at k1; omega)
    all_goals first
      | (intro r l; pointwise []; with_reducible first | exact I.sh l | exact I.sc l | exact I.g l)
      | (intro i r l; pointwise []; first | exact I.wi _ _ _ | exact I.wo _ _ _)
      | (simp only [read_unread_whole]; intro i r l; pointwise []; exact hA _ _ _)
  · have hx : (x 0 : ℕ) < 1 := (x 0).isLt
    obtain rfl : r = 2 := Fin.ext (by dsimp at k0; omega)
    refine Is2.at (f := fun _ => fun c => ∑ s : Fin 8, (((A 2 : Fin 8 → Row) s c) + ∑ u : Fin 32, quant P (X ⟨u.val * 8 + s.val, by omega⟩) (TG ⟨u.val * 8 + s.val, by omega⟩) 2 c)) (p6 (p64 (p32 (p13 I.x0 ?_ ?_) (p23 (p13 I.x0 ?_ ?_) p14 (p17 I.x0 ?_ ?_ ?_) ?_ ?_ ?_) (p24 (p13 I.x0 ?_ ?_) ?_) ?_ ?_ ?_) (Leaf.v139 ⟨I.x0, I.x1, ?_, ?_, ?_, ?_, ?_, ?_, ?_, ?_, ?_, ?_, ?_, I.lg, I.lb⟩) ?_ : Is3 (φ := .f32) _ fun _ s c => ((A 2 : Fin 8 → Row) s c) + ∑ u : Fin 32, quant P (X ⟨u.val * 8 + s.val, by omega⟩) (TG ⟨u.val * 8 + s.val, by omega⟩) 2 c)) x (r := 0) (c := q) (by dsimp; omega) (by dsimp at k1; omega)
    all_goals first
      | (intro r l; pointwise []; with_reducible first | exact I.sh l | exact I.sc l | exact I.g l)
      | (intro i r l; pointwise []; first | exact I.wi _ _ _ | exact I.wo _ _ _)
      | (simp only [read_unread_whole]; intro i r l; pointwise []; exact hA _ _ _)
  · have hx : (x 0 : ℕ) < 1 := (x 0).isLt
    obtain rfl : r = 1 := Fin.ext (by dsimp at k0; omega)
    refine Is2.at (f := fun _ => fun c => ∑ s : Fin 8, (((A 1 : Fin 8 → Row) s c) + ∑ u : Fin 32, quant P (X ⟨u.val * 8 + s.val, by omega⟩) (TG ⟨u.val * 8 + s.val, by omega⟩) 1 c)) (p5 (p63 (p61 ?_) (p62 (Leaf.v121 ⟨I.x0, I.x1, ?_, ?_, ?_, ?_, ?_, ?_, ?_, ?_, ?_, ?_, ?_, I.lg, I.lb⟩)) : Is3 (φ := .f32) _ fun _ s c => ((A 1 : Fin 8 → Row) s c) + ∑ u : Fin 32, quant P (X ⟨u.val * 8 + s.val, by omega⟩) (TG ⟨u.val * 8 + s.val, by omega⟩) 1 c)) x (r := 0) (c := q) (by dsimp; omega) (by dsimp at k1; omega)
    all_goals first
      | (intro r l; pointwise []; with_reducible first | exact I.sh l | exact I.sc l | exact I.g l)
      | (intro i r l; pointwise []; first | exact I.wi _ _ _ | exact I.wo _ _ _)
      | (simp only [read_unread_whole]; intro i r l; pointwise []; exact hA _ _ _)
  · have hx : (x 0 : ℕ) < 1 := (x 0).isLt
    obtain rfl : r = 0 := Fin.ext (by dsimp at k0; omega)
    refine Is2.at (f := fun _ => fun c => ∑ s : Fin 8, (((A 0 : Fin 8 → Row) s c) + ∑ u : Fin 32, quant P (X ⟨u.val * 8 + s.val, by omega⟩) (TG ⟨u.val * 8 + s.val, by omega⟩) 0 c)) (p4 (p60 (Leaf.v110 ⟨I.x0, I.x1, ?_, ?_, ?_, ?_, ?_, ?_, ?_, ?_, ?_, ?_, ?_, I.lg, I.lb⟩) (Leaf.v121 ⟨I.x0, I.x1, ?_, ?_, ?_, ?_, ?_, ?_, ?_, ?_, ?_, ?_, ?_, I.lg, I.lb⟩) ?_ : Is3 (φ := .f32) _ fun _ s c => ((A 0 : Fin 8 → Row) s c) + ∑ u : Fin 32, quant P (X ⟨u.val * 8 + s.val, by omega⟩) (TG ⟨u.val * 8 + s.val, by omega⟩) 0 c)) x (r := 0) (c := q) (by dsimp; omega) (by dsimp at k1; omega)
    all_goals first
      | (intro r l; pointwise []; with_reducible first | exact I.sh l | exact I.sc l | exact I.g l)
      | (intro i r l; pointwise []; first | exact I.wi _ _ _ | exact I.wo _ _ _)
      | (simp only [read_unread_whole]; intro i r l; pointwise []; exact hA _ _ _)

end Cert.MlpIdeal.Pay

end
-- ==== Proof.MlpFinal.lean ====
/- The arrays the MLP call leaves, over the real numbers: every grid point's blocks put together, and the partial sums added up over the points. -/
module

public import proofs.«01_k».proof.Proof.MlpBlocksA
public import proofs.«01_k».proof.Proof.MlpBlocksB
public import proofs.«01_k».proof.Proof.MlpBlocksC
public import Idealize.ShloMosaic.Lib.Claim

@[expose] public section

noncomputable section

namespace Cert.MlpIdeal.Pay

open Idealize.ShloMosaic Idealize.SL.Sem Cert.MlpIdeal Cert.MlpIdeal.Gen Cert.RealLift Cert.MlpMath

variable (m : (ℓ : Loc nD τ sig) → Buf (Elt Ideal) ℓ)

/-- Where each window's block lies, at every grid point. -/
theorem idx : ∀ t : Fin cfg0.N, win0_0.index t = ![t.val, 0] ∧ win0_1.index t = ![t.val, 0] ∧ win0_2.index t = ![0, 0] ∧ win0_3.index t = ![0, 0, 0] ∧ win0_4.index t = ![0, 0, 0]
    ∧ win0_5.index t = ![0, 0] ∧ win0_6.index t = ![0, 0] ∧ win0_7.index t = ![t.val, 0] ∧ win0_8.index t = ![0, t.val, 0] ∧ win0_9.index t = ![0, t.val, 0]
    ∧ win0_10.index t = ![t.val, 0] ∧ win0_11.index t = ![t.val, 0] ∧ win0_12.index t = ![0, 0] :=
  (by decide +kernel : ∀ t : Fin grid0.N, _)
theorem lt_N (t : Fin cfg0.N) : t.val < 32 := lt_of_lt_of_eq t.isLt N_0
/-- Row `r` of grid point `t`'s block. -/
def tok (t : Fin cfg0.N) (r : Fin 256) : Fin 8192 := ⟨t.val * 256 + r.val, by have := lt_N t; omega⟩

theorem e0 (c : Dev nD) (t : Fin cfg0.N) (r : Fin 256) (k : Fin 1024): (iblk m c 0 t : FVec Ideal S256x1024 .f32) (ix2 r k) = m (c, Proc.tc.devRef main_arg0) (ix3 0 (tok t r) k) := by
  blk_simp [iblk]
  entry_read
  pointwise []
  unfold tok
  blk_ext [idx t]
theorem e1 (c : Dev nD) (t : Fin cfg0.N) (r : Fin 256) (k : Fin 1024): (iblk m c 1 t : FVec Ideal S256x1024 .f32) (ix2 r k) = m (c, Proc.tc.devRef main_arg6) (ix3 0 (tok t r) k) := by
  blk_simp [iblk]
  entry_read
  pointwise []
  unfold tok
  blk_ext [idx t]
theorem e2 (c : Dev nD) (t : Fin cfg0.N) (r : Fin 8) (k : Fin 6144): (iblk m c 2 t : FVec Ideal S8x6144 .f32) (ix2 r k) = m (c, Proc.tc.devRef main_arg1) (ix2 0 k) := by
  blk_simp [iblk]
  entry_read
  pointwise []
  blk_ext [idx t]
theorem e3 (c : Dev nD) (t : Fin cfg0.N) (j : Fin 4) (r : Fin 1024) (k : Fin 1024): (iblk m c 3 t : FVec Ideal S4x1024x1024 .bf16) (ix3 j r k) = m (c, Proc.tc.devRef main_arg2) (ix3 0 r (kx j k)) := by
  blk_simp [iblk]
  entry_read
  pointwise []
  unfold kx
  blk_ext [idx t]
theorem e4 (c : Dev nD) (t : Fin cfg0.N) (j : Fin 4) (r : Fin 1024) (k : Fin 1024): (iblk m c 4 t : FVec Ideal S4x1024x1024 .bf16) (ix3 j r k) = m (c, Proc.tc.devRef main_arg3) (ix3 0 (kx j r) k) := by
  blk_simp [iblk]
  entry_read
  pointwise []
  unfold kx
  blk_ext [idx t]
theorem e5 (c : Dev nD) (t : Fin cfg0.N) (r : Fin 1) (k : Fin 1024): (iblk m c 5 t : FVec Ideal S1x1024 .f32) (ix2 r k) = m (c, Proc.tc.devRef main_arg4) (ix2 r k) := by
  blk_simp [iblk]
  entry_read
  blk_ext [idx t]
theorem e6 (c : Dev nD) (t : Fin cfg0.N) (r : Fin 1) (k : Fin 1024): (iblk m c 6 t : FVec Ideal S1x1024 .f32) (ix2 r k) = m (c, Proc.tc.devRef main_arg5) (ix2 r k) := by
  blk_simp [iblk]
  entry_read
  blk_ext [idx t]

/-- What the arguments hold: the tokens' rows `X`, the targets' rows `TG`, and the shared parameters. -/
structure Args (m : (ℓ : Loc nD τ sig) → Buf (Elt Ideal) ℓ) (c : Dev nD) (P : Par) (X TG : Fin 8192 → Row) : Prop where
  x : ∀ r k, m (c, Proc.tc.devRef main_arg0) (ix3 0 r k) = ((X r k : ℝ) : EReal)
  sh : ∀ k : Fin 1024, m (c, Proc.tc.devRef main_arg1) (ix2 0 ⟨3072 + k.val, by omega⟩) = ((P.sh k : ℝ) : EReal)
  sc : ∀ k : Fin 1024, m (c, Proc.tc.devRef main_arg1) (ix2 0 ⟨4096 + k.val, by omega⟩) = ((P.sc k : ℝ) : EReal)
  g : ∀ k : Fin 1024, m (c, Proc.tc.devRef main_arg1) (ix2 0 ⟨5120 + k.val, by omega⟩) = ((P.g k : ℝ) : EReal)
  wi : ∀ r k, m (c, Proc.tc.devRef main_arg2) (ix3 0 r k) = ((P.wi r k : ℝ) : EReal)
  wo : ∀ r k, m (c, Proc.tc.devRef main_arg3) (ix3 0 r k) = ((P.wo r k : ℝ) : EReal)
  lg : ∀ k, m (c, Proc.tc.devRef main_arg4) (ix2 0 k) = ((P.lg k : ℝ) : EReal)
  lb : ∀ k, m (c, Proc.tc.devRef main_arg5) (ix2 0 k) = ((P.lb k : ℝ) : EReal)
  tg : ∀ r k, m (c, Proc.tc.devRef main_arg6) (ix3 0 r k) = ((TG r k : ℝ) : EReal)

variable {m} {c : Dev nD} {P : Par} {X TG : Fin 8192 → Row}

theorem Args.ins (hA : Args m c P X TG) (t : Fin cfg0.N) : Ins m c t P (fun r => X (tok t r)) (fun r => TG (tok t r)) where
  x0 r k := (e0 m c t r k).trans (hA.x _ _)
  x1 r k := (e1 m c t r k).trans (hA.tg _ _)
  sh k := (e2 m c t 0 _).trans (hA.sh k)
  sc k := (e2 m c t 0 _).trans (hA.sc k)
  g k := (e2 m c t 0 _).trans (hA.g k)
  wi j r k := (e3 m c t j r k).trans (hA.wi _ _)
  wo j r k := (e4 m c t j r k).trans (hA.wo _ _)
  lg r k := by obtain rfl : r = 0 := Subsingleton.elim _ _; exact (e5 m c t 0 k).trans (hA.lg k)
  lb r k := by obtain rfl : r = 0 := Subsingleton.elim _ _; exact (e6 m c t 0 k).trans (hA.lb k)

theorem cases3 (t : Fin cfg0.N) : (t.val % 32 = 0 ∧ ¬t.val % 32 = 31) ∨ (¬t.val % 32 = 0 ∧ ¬t.val % 32 = 31) ∨ (¬t.val % 32 = 0 ∧ t.val % 32 = 31) := by
  omega

theorem blk7 (hA : Args m c P X TG) (t : Fin cfg0.N) : Blk (φ := .f32) (outsAt0 m c t.val t.isLt).1 fun r k => dx P (X (tok t r)) (TG (tok t r)) k := by
  rcases cases3 t with ⟨h0, h1⟩ | ⟨h0, h1⟩ | ⟨h0, h1⟩
  · exact w7_A (hA.ins t) h0 h1
  · exact w7_B (hA.ins t) h0 h1
  · exact w7_C (hA.ins t) h0 h1

theorem out7 (hA : Args m c P X TG) :
    (dats m 0 c).arrAt 7 cfg0.N = (fun y => (((fun (r : Fin 8192) (k : Fin 1024) => dx P (X r) (TG r) k) (y 0) (y 1) : ℝ) : EReal) : FVec Ideal S8192x1024 .f32) := by
  refine (dats m 0 c).arrAt_eq_of_covers 7 _ (by decide +kernel) fun t hf y => ?_
  have hb := blk7 hA t
  blk_simp
  rw [after0_7]
  have h1 : (y 1 : ℕ) < 1024 := (y 1).isLt
  have h0 : (y 0 : ℕ) < 256 := (y 0).isLt
  refine (Is2.at hb y (r := ⟨y 0, h0⟩) (c := ⟨y 1, h1⟩) rfl rfl).trans ?_
  refine congrArg (fun x : ℝ => (x : EReal)) ?_
  have ea : (((cfg0.win 7).blk t).view.emb y 0 : Fin 8192) = tok t ⟨y 0, h0⟩ := Fin.ext (by unfold tok; blk_simp [idx t]; done)
  have eb : (((cfg0.win 7).blk t).view.emb y 1 : Fin 1024) = ⟨y 1, h1⟩ := Fin.ext (by blk_simp [idx t])
  exact (congrArg₂ (fun (r : Fin 8192) (k : Fin 1024) => dx P (X r) (TG r) k) ea eb).symm

theorem blk10 (hA : Args m c P X TG) (t : Fin cfg0.N) : Blk (φ := .bf16) (outsAt0 m c t.val t.isLt).2.2.2.1 fun r k => df P (X (tok t r)) (TG (tok t r)) k := by
  rcases cases3 t with ⟨h0, h1⟩ | ⟨h0, h1⟩ | ⟨h0, h1⟩
  · exact w10_A (hA.ins t) h0 h1
  · exact w10_B (hA.ins t) h0 h1
  · exact w10_C (hA.ins t) h0 h1

theorem out10 (hA : Args m c P X TG) :
    (dats m 0 c).arrAt 10 cfg0.N = (fun y => (((fun (r : Fin 8192) (k : Fin 1024) => df P (X r) (TG r) k) (y 0) (y 1) : ℝ) : EReal) : FVec Ideal S8192x1024 .bf16) := by
  refine (dats m 0 c).arrAt_eq_of_covers 10 _ (by decide +kernel) fun t hf y => ?_
  have hb := blk10 hA t
  blk_simp
  rw [after0_10]
  have h1 : (y 1 : ℕ) < 1024 := (y 1).isLt
  have h0 : (y 0 : ℕ) < 256 := (y 0).isLt
  refine (Is2.at hb y (r := ⟨y 0, h0⟩) (c := ⟨y 1, h1⟩) rfl rfl).trans ?_
  refine congrArg (fun x : ℝ => (x : EReal)) ?_
  have ea : (((cfg0.win 10).blk t).view.emb y 0 : Fin 8192) = tok t ⟨y 0, h0⟩ := Fin.ext (by unfold tok; blk_simp [idx t]; done)
  have eb : (((cfg0.win 10).blk t).view.emb y 1 : Fin 1024) = ⟨y 1, h1⟩ := Fin.ext (by blk_simp [idx t])
  exact (congrArg₂ (fun (r : Fin 8192) (k : Fin 1024) => df P (X r) (TG r) k) ea eb).symm

theorem blk11 (hA : Args m c P X TG) (t : Fin cfg0.N) : Blk (φ := .bf16) (outsAt0 m c t.val t.isLt).2.2.2.2.1 fun r k => h P (X (tok t r)) k := by
  rcases cases3 t with ⟨h0, h1⟩ | ⟨h0, h1⟩ | ⟨h0, h1⟩
  · exact w11_A (hA.ins t) h0 h1
  · exact w11_B (hA.ins t) h0 h1
  · exact w11_C (hA.ins t) h0 h1

theorem out11 (hA : Args m c P X TG) :
    (dats m 0 c).arrAt 11 cfg0.N = (fun y => (((fun (r : Fin 8192) (k : Fin 1024) => h P (X r) k) (y 0) (y 1) : ℝ) : EReal) : FVec Ideal S8192x1024 .bf16) := by
  refine (dats m 0 c).arrAt_eq_of_covers 11 _ (by decide +kernel) fun t hf y => ?_
  have hb := blk11 hA t
  blk_simp
  rw [after0_11]
  have h1 : (y 1 : ℕ) < 1024 := (y 1).isLt
  have h0 : (y 0 : ℕ) < 256 := (y 0).isLt
  refine (Is2.at hb y (r := ⟨y 0, h0⟩) (c := ⟨y 1, h1⟩) rfl rfl).trans ?_
  refine congrArg (fun x : ℝ => (x : EReal)) ?_
  have ea : (((cfg0.win 11).blk t).view.emb y 0 : Fin 8192) = tok t ⟨y 0, h0⟩ := Fin.ext (by unfold tok; blk_simp [idx t]; done)
  have eb : (((cfg0.win 11).blk t).view.emb y 1 : Fin 1024) = ⟨y 1, h1⟩ := Fin.ext (by blk_simp [idx t])
  exact (congrArg₂ (fun (r : Fin 8192) (k : Fin 1024) => h P (X r) k) ea eb).symm

theorem blk8 (hA : Args m c P X TG) (t : Fin cfg0.N) : Is3 (φ := .bf16) (outsAt0 m c t.val t.isLt).2.1 fun j r k => da P (X (tok t r)) (TG (tok t r)) (kx j k) := by
  rcases cases3 t with ⟨h0, h1⟩ | ⟨h0, h1⟩ | ⟨h0, h1⟩
  · exact w8_A (hA.ins t) h0 h1
  · exact w8_B (hA.ins t) h0 h1
  · exact w8_C (hA.ins t) h0 h1

theorem out8 (hA : Args m c P X TG) :
    (dats m 0 c).arrAt 8 cfg0.N = (fun y => (((fun (j : Fin 4) (r : Fin 8192) (k : Fin 1024) => da P (X r) (TG r) (kx j k)) (y 0) (y 1) (y 2) : ℝ) : EReal) : FVec Ideal S4x8192x1024 .bf16) := by
  refine (dats m 0 c).arrAt_eq_of_covers 8 _ (by decide +kernel) fun t hf y => ?_
  have hb := blk8 hA t
  blk_simp
  rw [after0_8]
  have h0 : (y 0 : ℕ) < 4 := (y 0).isLt
  have h1 : (y 1 : ℕ) < 256 := (y 1).isLt
  have h2 : (y 2 : ℕ) < 1024 := (y 2).isLt
  refine (Is3.at hb y (j := ⟨y 0, h0⟩) (r := ⟨y 1, h1⟩) (c := ⟨y 2, h2⟩) rfl rfl rfl).trans ?_
  refine congrArg (fun x : ℝ => (x : EReal)) ?_
  have e0 : (((cfg0.win 8).blk t).view.emb y 0 : Fin 4) = ⟨y 0, h0⟩ := Fin.ext (by blk_simp [idx t])
  have ea : (((cfg0.win 8).blk t).view.emb y 1 : Fin 8192) = tok t ⟨y 1, h1⟩ := Fin.ext (by unfold tok; blk_simp [idx t]; done)
  have eb : (((cfg0.win 8).blk t).view.emb y 2 : Fin 1024) = ⟨y 2, h2⟩ := Fin.ext (by blk_simp [idx t])
  refine Eq.trans ?_ (congrArg₂ (fun (r : Fin 8192) (k : Fin 1024) => (fun (j : Fin 4) => da P (X r) (TG r) (kx j k)) (((cfg0.win 8).blk t).view.emb y 0)) ea eb).symm
  exact (congrArg (fun (j : Fin 4) => (fun (r : Fin 8192) (k : Fin 1024) => da P (X r) (TG r) (kx j k)) (tok t ⟨y 1, h1⟩) ⟨y 2, h2⟩) e0).symm

theorem blk9 (hA : Args m c P X TG) (t : Fin cfg0.N) : Is3 (φ := .bf16) (outsAt0 m c t.val t.isLt).2.2.1 fun j r k => sq P (X (tok t r)) (kx j k) := by
  rcases cases3 t with ⟨h0, h1⟩ | ⟨h0, h1⟩ | ⟨h0, h1⟩
  · exact w9_A (hA.ins t) h0 h1
  · exact w9_B (hA.ins t) h0 h1
  · exact w9_C (hA.ins t) h0 h1

theorem out9 (hA : Args m c P X TG) :
    (dats m 0 c).arrAt 9 cfg0.N = (fun y => (((fun (j : Fin 4) (r : Fin 8192) (k : Fin 1024) => sq P (X r) (kx j k)) (y 0) (y 1) (y 2) : ℝ) : EReal) : FVec Ideal S4x8192x1024 .bf16) := by
  refine (dats m 0 c).arrAt_eq_of_covers 9 _ (by decide +kernel) fun t hf y => ?_
  have hb := blk9 hA t
  blk_simp
  rw [after0_9]
  have h0 : (y 0 : ℕ) < 4 := (y 0).isLt
  have h1 : (y 1 : ℕ) < 256 := (y 1).isLt
  have h2 : (y 2 : ℕ) < 1024 := (y 2).isLt
  refine (Is3.at hb y (j := ⟨y 0, h0⟩) (r := ⟨y 1, h1⟩) (c := ⟨y 2, h2⟩) rfl rfl rfl).trans ?_
  refine congrArg (fun x : ℝ => (x : EReal)) ?_
  have e0 : (((cfg0.win 9).blk t).view.emb y 0 : Fin 4) = ⟨y 0, h0⟩ := Fin.ext (by blk_simp [idx t])
  have ea : (((cfg0.win 9).blk t).view.emb y 1 : Fin 8192) = tok t ⟨y 1, h1⟩ := Fin.ext (by unfold tok; blk_simp [idx t]; done)
  have eb : (((cfg0.win 9).blk t).view.emb y 2 : Fin 1024) = ⟨y 2, h2⟩ := Fin.ext (by blk_simp [idx t])
  refine Eq.trans ?_ (congrArg₂ (fun (r : Fin 8192) (k : Fin 1024) => (fun (j : Fin 4) => sq P (X r) (kx j k)) (((cfg0.win 9).blk t).view.emb y 0)) ea eb).symm
  exact (congrArg (fun (j : Fin 4) => (fun (r : Fin 8192) (k : Fin 1024) => sq P (X r) (kx j k)) (tok t ⟨y 1, h1⟩) ⟨y 2, h2⟩) e0).symm

/-- What grid point `t` adds to row `s` of the `k`-th partial sums. -/
def part (P : Par) (X TG : Fin 8192 → Row) (t : ℕ) (k : Fin 6) (s : Fin 8) : Row := fun q =>
  if ht : t < 32 then ∑ u : Fin 32, quant P (X ⟨t * 256 + (u.val * 8 + s.val), by omega⟩) (TG ⟨t * 256 + (u.val * 8 + s.val), by omega⟩) k q else 0

theorem part_eq (t : Fin cfg0.N) (k : Fin 6) (s : Fin 8) (q : Fin 1024) :
    ∑ u : Fin 32, quant P ((fun r => X (tok t r)) ⟨u.val * 8 + s.val, by omega⟩) ((fun r => TG (tok t r)) ⟨u.val * 8 + s.val, by omega⟩) k q = part P X TG t.val k s q := by
  unfold part
  rw [dif_pos (lt_N t)]
  rfl

theorem Is3.congr {φ : FTy} {a b d : ℕ} {v : FVec Ideal ⟨3, ![a, b, d]⟩ φ} {f g : Fin a → Fin b → Fin d → ℝ} (h : Is3 v f) (e : ∀ i j k, f i j k = g i j k) : Is3 v g :=
  fun i j k => (h i j k).trans (by rw [e])

/-- The partial sums after point `n`: what the points up to it added. -/
theorem acc_at (hA : Args m c P X TG) : ∀ (n : ℕ) (hn : n < cfg0.N),
    Is3 (φ := .f32) (outsAt0 m c n hn).2.2.2.2.2.2 fun k s q => ∑ t ∈ Finset.range (n + 1), part P X TG t k s q
  | 0, hn => by
    refine Is3.congr (acc_A (t := ⟨0, hn⟩) (hA.ins _) (Nat.zero_mod _) (by simp)) fun k s q => ?_
    rw [part_eq, Finset.sum_range_one, zero_add]
  | n + 1, hn => by
    have h32 : n + 1 < 32 := lt_of_lt_of_eq hn N_0
    have ih := acc_at hA n (by omega)
    rw [show n + 1 + 1 = (n + 1) + 1 from rfl]
    rcases cases3 ⟨n + 1, hn⟩ with ⟨h0, h1⟩ | ⟨h0, h1⟩ | ⟨h0, h1⟩
    · exfalso; dsimp at h0; omega
    · refine Is3.congr (acc_B (t := ⟨n + 1, hn⟩) (hA.ins _) h0 h1 ih) fun k s q => ?_
      rw [part_eq, Finset.sum_range_succ _ (n + 1)]
    · refine Is3.congr (acc_C (t := ⟨n + 1, hn⟩) (hA.ins _) h0 h1 ih) fun k s q => ?_
      rw [part_eq, Finset.sum_range_succ _ (n + 1)]

theorem sum_parts (k : Fin 6) (q : Fin 1024) :
    ∑ s : Fin 8, ∑ t ∈ Finset.range 32, part P X TG t k s q = ∑ r, quant P (X r) (TG r) k q := by
  rw [Fin.sum_univ_tiles 32 256 rfl (fun r => quant P (X r) (TG r) k q), Finset.sum_comm, Finset.sum_range]
  refine Finset.sum_congr rfl fun t _ => ?_
  rw [Fin.sum_univ_tiles 32 8 rfl, Finset.sum_comm]
  refine Finset.sum_congr rfl fun s _ => ?_
  unfold part
  rw [dif_pos t.isLt]

theorem statsOf_eq {F : Fin 6 → Fin 8 → Row} (hF : ∀ k s q, F k s q = ∑ t ∈ Finset.range 32, part P X TG t k s q) : statsOf F = stats P X TG := by
  obtain rfl : F = fun k s q => ∑ t ∈ Finset.range 32, part P X TG t k s q := by funext k s q; exact hF k s q
  unfold statsOf stats
  simp only [sum_parts]
  rw [show (∑ s : Fin 8, ∑ q : Fin 1024, ∑ t ∈ Finset.range 32, part P X TG t 5 s q) = ∑ r, ∑ q, quant P (X r) (TG r) 5 q from by
    rw [Finset.sum_comm, Finset.sum_comm (s := (Finset.univ : Finset (Fin 8192)))]
    exact Finset.sum_congr rfl fun q _ => sum_parts 5 q]

theorem out12 (hA : Args m c P X TG) :
    (dats m 0 c).arrAt 12 cfg0.N = (fun y => ((stats P X TG (y 0) (y 1) : ℝ) : EReal) : FVec Ideal S8x1024 .f32) := by
  refine (dats m 0 c).arrAt_eq_of_covers 12 _ (by decide +kernel) fun t hf y => ?_
  have hm : t.val % 32 = 31 := (flush0_12 t).mp hf
  have h32 := lt_N t
  have hb := w12_C (hA.ins t) (by omega) hm (acc_at hA (t.val - 1) (Nat.lt_of_le_of_lt (Nat.sub_le _ _) t.isLt))
  rw [statsOf_eq (X := X) (TG := TG) (fun k s q => by
    rw [part_eq, show t.val - 1 + 1 = t.val by omega, ← Finset.sum_range_succ, show t.val + 1 = 32 by omega])] at hb
  blk_simp
  rw [after0_12]
  have h1 : (y 1 : ℕ) < 1024 := (y 1).isLt
  have h0 : (y 0 : ℕ) < 8 := (y 0).isLt
  refine (Is2.at hb y (r := ⟨y 0, h0⟩) (c := ⟨y 1, h1⟩) rfl rfl).trans ?_
  refine congrArg (fun x : ℝ => (x : EReal)) ?_
  have ea : (((cfg0.win 12).blk t).view.emb y 0 : Fin 8) = ⟨y 0, h0⟩ := Fin.ext (by blk_simp [idx t])
  have eb : (((cfg0.win 12).blk t).view.emb y 1 : Fin 1024) = ⟨y 1, h1⟩ := Fin.ext (by blk_simp [idx t])
  rw [ea, eb]
  rfl

end Cert.MlpIdeal.Pay

end
-- ==== Proof.MlpRef.lean ====
/- The reference of the MLP call, operation by operation, over the real numbers. -/
module

public import proofs.«01_k».proof.Proof.Gen.MlpRefIdeal.Read
public import Idealize.ShloMosaic.Lib.Pipeline.ValueKit
public import Idealize.ShloMosaic.Lib.Pointwise
public import proofs.«01_k».proof.Proof.MlpMath

@[expose] public section

set_option maxRecDepth 16384

noncomputable section

open Idealize.ShloMosaic Idealize.ShloMosaic.TcCoe Idealize.SL.Sem

namespace Cert.MlpRefIdeal.Real

open Cert.MlpRefIdeal Cert.MlpRefIdeal.Gen Cert.MlpRefIdeal.Read Cert.RealLift Cert.MlpMath

/-- What the arguments hold: the tokens' rows `X`, the targets' rows `TG`, and the shared parameters. -/
structure RArgs (x0 : FVec Ideal S1x8192x1024 .f32) (x1 : FVec Ideal S1x6144 .f32) (x2 : FVec Ideal S1x1024x4096 .f32) (x3 : FVec Ideal S1x4096x1024 .f32)
    (x4 x5 : FVec Ideal S1x1024 .f32) (x6 : FVec Ideal S1x8192x1024 .f32) (P : Par) (X TG : Fin 8192 → Row) : Prop where
  x : ∀ i r k, x0 (ix3 i r k) = ((X r k : ℝ) : EReal)
  sh : ∀ (i : Fin 1) (k : Fin 1024) h, x1 (ix2 i ⟨3072 + k.val, h⟩) = ((P.sh k : ℝ) : EReal)
  sc : ∀ (i : Fin 1) (k : Fin 1024) h, x1 (ix2 i ⟨4096 + k.val, h⟩) = ((P.sc k : ℝ) : EReal)
  g : ∀ (i : Fin 1) (k : Fin 1024) h, x1 (ix2 i ⟨5120 + k.val, h⟩) = ((P.g k : ℝ) : EReal)
  wi : ∀ i r k, x2 (ix3 i r k) = ((P.wi r k : ℝ) : EReal)
  wo : ∀ i r k, x3 (ix3 i r k) = ((P.wo r k : ℝ) : EReal)
  lg : ∀ i k, x4 (ix2 i k) = ((P.lg k : ℝ) : EReal)
  lb : ∀ i k, x5 (ix2 i k) = ((P.lb k : ℝ) : EReal)
  tg : ∀ i r k, x6 (ix3 i r k) = ((TG r k : ℝ) : EReal)

variable {x0 : FVec Ideal S1x8192x1024 .f32} {x1 : FVec Ideal S1x6144 .f32} {x2 : FVec Ideal S1x1024x4096 .f32} {x3 : FVec Ideal S1x4096x1024 .f32}
  {x4 x5 : FVec Ideal S1x1024 .f32} {x6 : FVec Ideal S1x8192x1024 .f32} {P : Par} {X TG : Fin 8192 → Row}

/-- A sum over the two outer unit axes picks the one element there. -/
theorem sum_unit01 {n : ℕ} (hr : (⟨3, ![1, 1, n]⟩ : Shape).ReducesTo [0, 1] ⟨1, ![n]⟩) (v : (⟨3, ![1, 1, n]⟩ : Shape).Idx → EReal) (z : EReal) (r : Fin n) :
    Ideal.hostReduceAdd hr v z (ix1 r) = z + v (ix3 0 0 r) := by
  have hd : ∀ i : (⟨3, ![1, 1, n]⟩ : Shape).Idx, (hr.drop i 0 : ℕ) = (i 2 : ℕ) := fun i => rfl
  have e : ∀ i : (⟨3, ![1, 1, n]⟩ : Shape).Idx, hr.drop i = ix1 r → i = ix3 0 0 r := fun i hi => by
    have h2 : (i 2 : ℕ) = r := by rw [← hd i, hi]; rfl
    funext k
    match k with
    | ⟨0, _⟩ => exact Subsingleton.elim (α := Fin 1) _ _
    | ⟨1, _⟩ => exact Subsingleton.elim (α := Fin 1) _ _
    | ⟨2, _⟩ => exact Fin.ext h2
  unfold Ideal.hostReduceAdd
  refine congrArg (z + ·) (Finset.sum_eq_single (ix3 0 0 r) (fun b hb hne => absurd (e b (Finset.mem_filter.1 hb).2) hne) fun hn => absurd ?_ hn)
  refine Finset.mem_filter.2 ⟨Finset.mem_univ _, ?_⟩
  funext b
  match b with
  | ⟨0, _⟩ => exact Fin.ext (hd _)

/-- A sum over the outer and the inner unit axis picks the one element there. -/
theorem sum_unit02 {n : ℕ} (hr : (⟨3, ![1, n, 1]⟩ : Shape).ReducesTo [0, 2] ⟨1, ![n]⟩) (v : (⟨3, ![1, n, 1]⟩ : Shape).Idx → EReal) (z : EReal) (r : Fin n) :
    Ideal.hostReduceAdd hr v z (ix1 r) = z + v (ix3 0 r 0) := by
  have hd : ∀ i : (⟨3, ![1, n, 1]⟩ : Shape).Idx, (hr.drop i 0 : ℕ) = (i 1 : ℕ) := fun i => rfl
  have e : ∀ i : (⟨3, ![1, n, 1]⟩ : Shape).Idx, hr.drop i = ix1 r → i = ix3 0 r 0 := fun i hi => by
    have h2 : (i 1 : ℕ) = r := by rw [← hd i, hi]; rfl
    funext k
    match k with
    | ⟨0, _⟩ => exact Subsingleton.elim (α := Fin 1) _ _
    | ⟨1, _⟩ => exact Fin.ext h2
    | ⟨2, _⟩ => exact Subsingleton.elim (α := Fin 1) _ _
  unfold Ideal.hostReduceAdd
  refine congrArg (z + ·) (Finset.sum_eq_single (ix3 0 r 0) (fun b hb hne => absurd (e b (Finset.mem_filter.1 hb).2) hne) fun hn => absurd ?_ hn)
  refine Finset.mem_filter.2 ⟨Finset.mem_univ _, ?_⟩
  funext b
  match b with
  | ⟨0, _⟩ => exact Fin.ext (hd _)

/-- A token's sum against the centred row, through the gradient of the inverse root. -/
def uu (P : Par) (x tg : Row) : ℝ := (∑ k, cen (res P x) k * dn P x tg k) * (-(1 / 2) * (rstd (res P x) / (var (res P x) + eps))) / 1024

/-- What the arguments hold, in one statement. -/
theorem RArgs.all (A : RArgs x0 x1 x2 x3 x4 x5 x6 P X TG) :
    (∀ i r k, x0 (ix3 i r k) = ((X r k : ℝ) : EReal))
    ∧ (∀ (i : Fin 1) (k : Fin 1024) h, x1 (ix2 i ⟨3072 + k.val, h⟩) = ((P.sh k : ℝ) : EReal))
    ∧ (∀ (i : Fin 1) (k : Fin 1024) h, x1 (ix2 i ⟨4096 + k.val, h⟩) = ((P.sc k : ℝ) : EReal))
    ∧ (∀ (i : Fin 1) (k : Fin 1024) h, x1 (ix2 i ⟨5120 + k.val, h⟩) = ((P.g k : ℝ) : EReal))
    ∧ (∀ i r k, x2 (ix3 i r k) = ((P.wi r k : ℝ) : EReal))
    ∧ (∀ i r k, x3 (ix3 i r k) = ((P.wo r k : ℝ) : EReal))
    ∧ (∀ i k, x4 (ix2 i k) = ((P.lg k : ℝ) : EReal))
    ∧ (∀ i k, x5 (ix2 i k) = ((P.lb k : ℝ) : EReal))
    ∧ (∀ i r k, x6 (ix3 i r k) = ((TG r k : ℝ) : EReal)) :=
  ⟨A.x, A.sh, A.sc, A.g, A.wi, A.wo, A.lg, A.lb, A.tg⟩

variable (A : RArgs x0 x1 x2 x3 x4 x5 x6 P X TG)
include A

theorem r14 : Is3 (φ := .f32) (val_main_v14 (F := Ideal) x0 x1) (fun _ r => h P (X r)) := by
  intro i r l
  pointwise [val_main_v14, val_main_v12, val_main_v11, val_main_v10, val_main_v9, val_main_cst_1, val_main_v5, val_main_v0, val_main_v13, val_main_v4]
  simp only [A.all, sum_unit01, sum_unit02, zero_add, ups]
  all_goals rfl

theorem r17 : Is3 (φ := .f32) (val_main_v17 (F := Ideal) x0 x1 x2) (fun _ r k => ∑ c, h P (X r) c * P.wi c k) := by
  intro i r l
  pointwise [val_main_v17, val_main_v16, val_main_v15, val_main_v7, val_main_cst]
  simp only [r14 A _ _ _, A.all, sum_unit01, sum_unit02, zero_add, ups]
  all_goals rfl

theorem r18 : Is3 (φ := .f32) (val_main_v18 (F := Ideal) x0 x1 x2) (fun _ r => act P (X r)) := by
  intro i r l
  pointwise [val_main_v18, val_main_call0_v0, val_main_call0_cst]
  simp only [r17 A _ _ _, A.all, sum_unit01, sum_unit02, zero_add, ups]
  all_goals rfl

theorem r22 : Is3 (φ := .f32) (val_main_v22 (F := Ideal) x0 x1 x2) (fun _ r => sq P (X r)) := by
  intro i r l
  pointwise [val_main_v22]
  simp only [r18 A _ _ _, A.all, sum_unit01, sum_unit02, zero_add, ups]
  all_goals rfl

theorem r24 : Is3 (φ := .f32) (val_main_v24 (F := Ideal) x0 x1 x2) (fun _ r k => 2 * act P (X r) k) := by
  intro i r l
  pointwise [val_main_v24, val_main_v23, val_main_cst_4]
  simp only [r18 A _ _ _, A.all, sum_unit01, sum_unit02, zero_add, ups]
  all_goals rfl

theorem r31 : Is3 (φ := .f32) (val_main_v31 (F := Ideal) x0 x1 x2 x3) (fun _ r => f P (X r)) := by
  intro i r l
  pointwise [val_main_v31, val_main_v30, val_main_v29, val_main_v8, val_main_cst_0]
  simp only [r22 A _ _ _, A.all, sum_unit01, sum_unit02, zero_add, ups]
  all_goals rfl

theorem r34 : Is3 (φ := .f32) (val_main_v34 (F := Ideal) x0 x1 x2 x3) (fun _ r => res P (X r)) := by
  intro i r l
  pointwise [val_main_v34, val_main_v26, val_main_v25, val_main_cst_5, val_main_v33, val_main_v32, val_main_v28, val_main_v27, val_main_cst_6, val_main_v6, val_main_v0]
  simp only [r31 A _ _ _, A.all, sum_unit01, sum_unit02, zero_add, ups]
  all_goals rfl

theorem r40 : Is3 (φ := .f32) (val_main_v40 (F := Ideal) x0 x1 x2 x3) (fun _ r _ => mean (res P (X r))) := by
  intro i r l
  pointwise [val_main_v40, val_main_v38, val_main_v37, val_main_cst_7, val_main_v39, val_main_cst_8]
  simp only [r34 A _ _ _, A.all, sum_unit01, sum_unit02, zero_add, ups]
  all_goals rfl

theorem r42 : Is3 (φ := .f32) (val_main_v42 (F := Ideal) x0 x1 x2 x3) (fun _ r => cen (res P (X r))) := by
  intro i r l
  pointwise [val_main_v42, val_main_v41]
  simp only [r34 A _ _ _, r40 A _ _ _, A.all, sum_unit01, sum_unit02, zero_add, ups]
  all_goals rfl

theorem r51 : Is3 (φ := .f32) (val_main_v51 (F := Ideal) x0 x1 x2 x3) (fun _ r => cen (res P (X r))) := by
  intro i r l
  pointwise [val_main_v51, val_main_v50]
  simp only [r34 A _ _ _, r40 A _ _ _, A.all, sum_unit01, sum_unit02, zero_add, ups]
  all_goals rfl

theorem r45 : Is3 (φ := .f32) (val_main_v45 (F := Ideal) x0 x1 x2 x3) (fun _ r l => 2 * cen (res P (X r)) l) := by
  intro i r l
  pointwise [val_main_v45, val_main_v44, val_main_cst_9]
  simp only [r42 A _ _ _, A.all, sum_unit01, sum_unit02, zero_add, ups]
  all_goals rfl

theorem r53 : Is3 (φ := .f32) (val_main_v53 (F := Ideal) x0 x1 x2 x3) (fun _ r _ => var (res P (X r)) + eps) := by
  intro i r l
  pointwise [val_main_v53, val_main_v49, val_main_v47, val_main_v46, val_main_v43, val_main_cst_10, val_main_v48, val_main_cst_11, val_main_v52, val_main_cst_12]
  simp only [r42 A _ _ _, A.all, sum_unit01, sum_unit02, zero_add, ups]
  all_goals rfl

theorem r54 : Is3 (φ := .f32) (val_main_v54 (F := Ideal) x0 x1 x2 x3) (fun _ r _ => rstd (res P (X r))) := by
  intro i r l
  pointwise [val_main_v54]
  simp only [r53 A _ _ _, A.all, sum_unit01, sum_unit02, zero_add, ups]
  exact coe_rsqrt _ (var_eps_pos _)

theorem r57 : Is3 (φ := .f32) (val_main_v57 (F := Ideal) x0 x1 x2 x3) (fun _ r _ => -(1 / 2) * (rstd (res P (X r)) / (var (res P (X r)) + eps))) := by
  intro i r l
  pointwise [val_main_v57, val_main_v56, val_main_cst_13, val_main_v55]
  simp only [r54 A _ _ _, r53 A _ _ _, A.all, sum_unit01, sum_unit02, zero_add, ups]
  rw [coe_div _ _ (var_eps_pos _).ne', ups.2.1]

theorem r59 : Is3 (φ := .f32) (val_main_v59 (F := Ideal) x0 x1 x2 x3) (fun _ r => xhat (res P (X r))) := by
  intro i r l
  pointwise [val_main_v59, val_main_v58]
  simp only [r51 A _ _ _, r54 A _ _ _, A.all, sum_unit01, sum_unit02, zero_add, ups]
  all_goals rfl

theorem r66 : Is3 (φ := .f32) (val_main_v66 (F := Ideal) x0 x1 x2 x3 x4 x5 x6) (fun _ r => err P (X r) (TG r)) := by
  intro i r l
  pointwise [val_main_v66, val_main_v65, val_main_v62, val_main_v61, val_main_v60, val_main_v35, val_main_v64, val_main_v63, val_main_v36]
  simp only [r59 A _ _ _, A.all, sum_unit01, sum_unit02, zero_add, ups]
  all_goals rfl

theorem r72 : Is2 (φ := .f32) (val_main_v72 (F := Ideal) x0 x1 x2 x3 x4 x5 x6) (fun _ r => (∑ q, err P (X r) (TG r) q * err P (X r) (TG r) q) / 1024) := by
  intro i l
  pointwise [val_main_v72, val_main_v70, val_main_v67, val_main_cst_15, val_main_v71, val_main_cst_16]
  simp only [r66 A _ _ _, A.all, sum_unit01, sum_unit02, zero_add, ups]
  all_goals rfl

theorem r80 : Is3 (φ := .f32) (val_main_v80 (F := Ideal) x0 x1 x2 x3 x4 x5 x6) (fun _ r => dy P (X r) (TG r)) := by
  intro i r l
  pointwise [val_main_v80, val_main_v79, val_main_v78, val_main_v76, val_main_v75, val_main_cst_19, val_main_cst_20, val_main_v77, val_main_cst_21, val_main_v69, val_main_v68, val_main_cst_14]
  simp only [r66 A _ _ _, A.all, sum_unit01, sum_unit02, zero_add, ups]
  refine congrArg (fun x : ℝ => (x : EReal)) ?_
  unfold dy; ring

theorem r81 : Is2 (φ := .f32) (val_main_v81 (F := Ideal) x0 x1 x2 x3 x4 x5 x6) (fun _ l => ∑ r, dy P (X r) (TG r) l) := by
  intro i l
  pointwise [val_main_v81, val_main_cst_22]
  simp only [r80 A _ _ _, A.all, sum_unit01, sum_unit02, zero_add, ups]
  all_goals rfl

theorem r85 : Is2 (φ := .f32) (val_main_v85 (F := Ideal) x0 x1 x2 x3 x4 x5 x6) (fun _ l => ∑ r, xhat (res P (X r)) l * dy P (X r) (TG r) l) := by
  intro i l
  pointwise [val_main_v85, val_main_v84, val_main_cst_24]
  simp only [r59 A _ _ _, r80 A _ _ _, A.all, sum_unit01, sum_unit02, zero_add, ups]
  all_goals rfl

theorem r82 : Is3 (φ := .f32) (val_main_v82 (F := Ideal) x0 x1 x2 x3 x4 x5 x6) (fun _ _ l => ∑ r, dy P (X r) (TG r) l) := by
  intro i r l
  pointwise [val_main_v82]
  simp only [r81 A _ _, A.all, sum_unit01, sum_unit02, zero_add, ups]
  all_goals rfl

theorem r86 : Is3 (φ := .f32) (val_main_v86 (F := Ideal) x0 x1 x2 x3 x4 x5 x6) (fun _ _ l => ∑ r, xhat (res P (X r)) l * dy P (X r) (TG r) l) := by
  intro i r l
  pointwise [val_main_v86]
  simp only [r85 A _ _, A.all, sum_unit01, sum_unit02, zero_add, ups]
  all_goals rfl

theorem r88 : Is3 (φ := .f32) (val_main_v88 (F := Ideal) x0 x1 x2 x3 x4 x5 x6) (fun _ r => dn P (X r) (TG r)) := by
  intro i r l
  pointwise [val_main_v88, val_main_v87, val_main_v60, val_main_v35]
  simp only [r80 A _ _ _, A.all, sum_unit01, sum_unit02, zero_add, ups]
  all_goals rfl

theorem r94 : Is3 (φ := .f32) (val_main_v94 (F := Ideal) x0 x1 x2 x3 x4 x5 x6) (fun _ r l => dn P (X r) (TG r) l * rstd (res P (X r))) := by
  intro i r l
  pointwise [val_main_v94, val_main_v93]
  simp only [r88 A _ _ _, r54 A _ _ _, A.all, sum_unit01, sum_unit02, zero_add, ups]
  all_goals rfl

theorem r100 : Is3 (φ := .f32) (val_main_v100 (F := Ideal) x0 x1 x2 x3 x4 x5 x6) (fun _ r _ => uu P (X r) (TG r)) := by
  intro i r l
  pointwise [val_main_v100, val_main_v95, val_main_v92, val_main_v91, val_main_v90, val_main_cst_26, val_main_v99, val_main_cst_28]
  simp only [r51 A _ _ _, r88 A _ _ _, r57 A _ _ _, A.all, sum_unit01, sum_unit02, zero_add, ups]
  all_goals rfl

theorem r104 : Is3 (φ := .f32) (val_main_v104 (F := Ideal) x0 x1 x2 x3 x4 x5 x6) (fun _ r l => uu P (X r) (TG r) * (2 * cen (res P (X r)) l)) := by
  intro i r l
  pointwise [val_main_v104, val_main_v103, val_main_v102, val_main_v101, val_main_cst_29]
  simp only [r100 A _ _ _, r45 A _ _ _, A.all, sum_unit01, sum_unit02, zero_add, ups]
  all_goals rfl

theorem r111 : Is3 (φ := .f32) (val_main_v111 (F := Ideal) x0 x1 x2 x3 x4 x5 x6) (fun _ r _ => (-(∑ k, (dn P (X r) (TG r) k * rstd (res P (X r)) + uu P (X r) (TG r) * (2 * cen (res P (X r)) k)))) / 1024) := by
  intro i r l
  pointwise [val_main_v111, val_main_v109, val_main_v98, val_main_v97, val_main_v96, val_main_cst_27, val_main_v107, val_main_v106, val_main_v105, val_main_cst_30, val_main_v110, val_main_cst_31]
  simp only [r94 A _ _ _, r104 A _ _ _, A.all, sum_unit01, sum_unit02, zero_add, ups]
  refine congrArg (fun x : ℝ => (x : EReal)) ?_
  rw [Finset.sum_neg_distrib, Finset.sum_neg_distrib, ← neg_add, ← Finset.sum_add_distrib]

theorem r115 : Is3 (φ := .f32) (val_main_v115 (F := Ideal) x0 x1 x2 x3 x4 x5 x6) (fun _ r => dr P (X r) (TG r)) := by
  intro i r l
  pointwise [val_main_v115, val_main_v108, val_main_v114, val_main_v113, val_main_v112, val_main_cst_32]
  simp only [r94 A _ _ _, r104 A _ _ _, r111 A _ _ _, A.all, sum_unit01, sum_unit02, zero_add, ups]
  refine congrArg (fun x : ℝ => (x : EReal)) (lnBwd_eq _ _ _)

theorem r119 : Is3 (φ := .f32) (val_main_v119 (F := Ideal) x0 x1 x2 x3 x4 x5 x6) (fun _ r => df P (X r) (TG r)) := by
  intro i r l
  pointwise [val_main_v119, val_main_v118, val_main_v28, val_main_v27, val_main_cst_6, val_main_v6, val_main_v0]
  simp only [r115 A _ _ _, A.all, sum_unit01, sum_unit02, zero_add, ups]
  all_goals rfl

theorem r121 : Is2 (φ := .f32) (val_main_v121 (F := Ideal) x0 x1 x2 x3 x4 x5 x6) (fun _ l => ∑ r, dr P (X r) (TG r) l * f P (X r) l) := by
  intro i l
  pointwise [val_main_v121, val_main_v120, val_main_cst_33]
  simp only [r115 A _ _ _, r31 A _ _ _, A.all, sum_unit01, sum_unit02, zero_add, ups]
  all_goals rfl

theorem r128 : Is3 (φ := .f32) (val_main_v128 (F := Ideal) x0 x1 x2 x3 x4 x5 x6) (fun _ r => da P (X r) (TG r)) := by
  intro i r l
  pointwise [val_main_v128, val_main_v20, val_main_v19, val_main_cst_2, val_main_v126, val_main_v123, val_main_v29, val_main_v127, val_main_cst_35]
  simp only [r17 A _ _ _, r119 A _ _ _, r24 A _ _ _, A.all, sum_unit01, sum_unit02, zero_add, ups]
  unfold da act
  simp only [EReal.coe_lt_coe_iff]
  split_ifs with h
  · rfl
  · rw [max_eq_right (not_lt.1 h), mul_zero, mul_zero]

theorem r129 : Is3 (φ := .f32) (val_main_v129 (F := Ideal) x0 x1 x2 x3 x4 x5 x6) (fun _ r => dh P (X r) (TG r)) := by
  intro i r l
  pointwise [val_main_v129, val_main_v15]
  simp only [r128 A _ _ _, A.all, sum_unit01, sum_unit02, zero_add, ups]
  all_goals rfl

theorem r130 : Is2 (φ := .f32) (val_main_v130 (F := Ideal) x0 x1 x2 x3 x4 x5 x6) (fun _ l => ∑ r, dh P (X r) (TG r) l) := by
  intro i l
  pointwise [val_main_v130, val_main_cst_36]
  simp only [r129 A _ _ _, A.all, sum_unit01, sum_unit02, zero_add, ups]
  all_goals rfl

theorem r133 : Is2 (φ := .f32) (val_main_v133 (F := Ideal) x0 x1 x2 x3 x4 x5 x6) (fun _ l => ∑ r, X r l * dh P (X r) (TG r) l) := by
  intro i l
  pointwise [val_main_v133, val_main_v132, val_main_cst_37]
  simp only [r129 A _ _ _, A.all, sum_unit01, sum_unit02, zero_add, ups]
  all_goals rfl

theorem r137 : Is3 (φ := .f32) (val_main_v137 (F := Ideal) x0 x1 x2 x3 x4 x5 x6) (fun _ r => dx P (X r) (TG r)) := by
  intro i r l
  pointwise [val_main_v137, val_main_v125, val_main_v124, val_main_cst_34, val_main_v136, val_main_v135, val_main_v10, val_main_v9, val_main_cst_1, val_main_v5, val_main_v0]
  simp only [r115 A _ _ _, r129 A _ _ _, A.all, sum_unit01, sum_unit02, zero_add, ups]
  all_goals rfl
theorem r144 : Is2 (φ := .f32) (val_main_v144 (F := Ideal) x0 x1 x2 x3 x4 x5 x6) (fun r => dx P (X r) (TG r)) := by
  intro i l
  pointwise [val_main_v144]
  simp only [r137 A _ _ _, sum_unit01, zero_add, A.x, ups]
  all_goals rfl

theorem r154 : Is2 (φ := .bf16) (val_main_v154 (F := Ideal) x0 x1 x2 x3 x4 x5 x6) (fun r => df P (X r) (TG r)) := by
  intro i l
  pointwise [val_main_v154, val_main_v153]
  simp only [r119 A _ _ _, sum_unit01, zero_add, A.x, ups]
  all_goals rfl

theorem r156 : Is2 (φ := .bf16) (val_main_v156 (F := Ideal) x0 x1) (fun r => h P (X r)) := by
  intro i l
  pointwise [val_main_v156, val_main_v155]
  simp only [r14 A _ _ _, sum_unit01, zero_add, A.x, ups]
  all_goals rfl

theorem r148 : Is3 (φ := .bf16) (val_main_v148 (F := Ideal) x0 x1 x2 x3 x4 x5 x6) (fun j r k => da P (X r) (TG r) (kx j k)) := by
  intro j r k
  pointwise [val_main_v148, val_main_v147, val_main_v146, val_main_v145]
  simp only [r128 A _ _ _, sum_unit01, zero_add, A.x, ups]
  all_goals rfl

theorem r152 : Is3 (φ := .bf16) (val_main_v152 (F := Ideal) x0 x1 x2) (fun j r k => sq P (X r) (kx j k)) := by
  intro j r k
  pointwise [val_main_v152, val_main_v151, val_main_v150, val_main_v149]
  simp only [r22 A _ _ _, sum_unit01, zero_add, A.x, ups]
  all_goals rfl

theorem r117 : Is2 (φ := .f32) (val_main_v117 (F := Ideal) x0 x1 x2 x3 x4 x5 x6) (fun _ => stats P X TG 0) := by
  intro i l
  pointwise [val_main_v117, val_main_v89, val_main_cst_25]
  simp only [r86 A _ _ _, sum_unit01, zero_add, A.x, ups]
  all_goals exact congrArg (fun x : ℝ => (x : EReal)) (Finset.sum_congr rfl fun r _ => mul_comm _ _)

theorem r116 : Is2 (φ := .f32) (val_main_v116 (F := Ideal) x0 x1 x2 x3 x4 x5 x6) (fun _ => stats P X TG 1) := by
  intro i l
  pointwise [val_main_v116, val_main_v83, val_main_cst_23]
  simp only [r82 A _ _ _, sum_unit01, zero_add, A.x, ups]
  all_goals rfl

theorem r138 : Is2 (φ := .f32) (val_main_v138 (F := Ideal) x0 x1 x2 x3 x4 x5 x6) (fun _ => stats P X TG 2) := by
  intro i l
  pointwise [val_main_v138, val_main_v122]
  simp only [r121 A _ _, sum_unit01, zero_add, A.x, ups]
  all_goals rfl

theorem r139 : Is2 (φ := .f32) (val_main_v139 (F := Ideal) x0 x1 x2 x3 x4 x5 x6) (fun _ => stats P X TG 3) := by
  intro i l
  pointwise [val_main_v139, val_main_v134]
  simp only [r133 A _ _, sum_unit01, zero_add, A.x, ups]
  all_goals exact congrArg (fun x : ℝ => (x : EReal)) (Finset.sum_congr rfl fun r _ => mul_comm _ _)

theorem r140 : Is2 (φ := .f32) (val_main_v140 (F := Ideal) x0 x1 x2 x3 x4 x5 x6) (fun _ => stats P X TG 4) := by
  intro i l
  pointwise [val_main_v140, val_main_v131]
  simp only [r130 A _ _, sum_unit01, zero_add, A.x, ups]
  all_goals rfl

theorem r141 : Is2 (φ := .f32) (val_main_v141 (F := Ideal) x0 x1 x2 x3 x4 x5 x6) (fun _ => stats P X TG 5) := by
  intro i l
  pointwise [val_main_v141, val_main_v74, val_main_cst_18, val_main_v73, val_main_cst_17]
  simp only [r72 A _ _, sum_unit01, zero_add, A.x, ups]
  refine congrArg (fun x : ℝ => (x : EReal)) ?_
  show _ = (∑ r, ∑ q, err P (X r) (TG r) q * err P (X r) (TG r) q) * (1 / 2048)
  simp only [Fin.sum_univ_one, div_eq_mul_inv, ← Finset.sum_mul]
  ring

omit A in
theorem r142 : Is2 (φ := .f32) (val_main_v142 (F := Ideal)) fun _ _ => 0 := by
  intro i l
  pointwise [val_main_v142, val_main_cst_38]
  rfl

theorem r143 : Is2 (φ := .f32) (val_main_v143 (F := Ideal) x0 x1 x2 x3 x4 x5 x6) (stats P X TG) := by
  intro r l
  obtain ⟨r, hr⟩ := r
  interval_cases r
  all_goals pointwise [val_main_v143]
  · exact r117 A _ _
  · exact r116 A _ _
  · exact r138 A _ _
  · exact r139 A _ _
  · exact r140 A _ _
  · exact r141 A _ _
  · exact r142 _ _
  · exact r142 _ _

end Cert.MlpRefIdeal.Real

end
-- ==== Proof.MlpAlg.lean ====
/- The MLP call and its reference leave the same arrays, on finite arguments. -/
module

public import proofs.«01_k».proof.Defs
public import proofs.«01_k».proof.Proof.Gen.Pre_mlp_finite
public import proofs.«01_k».proof.Proof.MlpFinal
public import proofs.«01_k».proof.Proof.MlpRef

@[expose] public section

noncomputable section

namespace Cert.MlpAlg

open Idealize.ShloMosaic Idealize.ShloMosaic.TcCoe Idealize.SL.Sem Cert.RealLift Cert.MlpMath

/-- A number whose size is flagged below infinity is real. -/
theorem real_of_flag {s : Shape} {v : FVec Ideal s .f32} {i : s.Idx} {hb : (⟨0, ![]⟩ : Shape).BroadcastsInDim s ![]}
    (h : cmpf .olt (Host.absf v) (broadcastInDim s ![] hb (constant (F := Ideal) ⟨0, ![]⟩ .f32 0x7F800000#32)) i = 1#1) : ∃ r : ℝ, v i = (r : EReal) := by
  pointwise [] at h
  have hinf : Ideal.ofBits .f32 0x7F800000#32 = ⊤ := by simp [Ideal.ofBits, Ideal.ieee]
  rw [hinf] at h
  have hlt : (FloatOps.absf (F := Ideal) (φ := .f32) (v i) : EReal) < ⊤ := by
    by_contra hn
    rw [decide_eq_false hn] at h
    exact absurd h (by decide)
  have h1 : v i ≠ ⊤ := fun e => by rw [e] at hlt; exact absurd hlt (by simp [Ideal.absf_def])
  have h2 : v i ≠ ⊥ := fun e => by rw [e] at hlt; exact absurd hlt (by simp [Ideal.absf_def])
  exact ⟨_, (exists_real _ h1 h2).symm⟩

/-- Finite arguments are real arrays. -/
theorem args_of_pre (m : (ℓ : Loc Cert.MlpIdeal.nD Cert.MlpIdeal.τ Cert.MlpIdeal.sig) → Buf (Elt Ideal) ℓ)
    (h : Cert.Pre_MlpIdeal_mlp_finite m) (c : Dev Cert.MlpIdeal.nD) : ∃ P X TG, Cert.MlpIdeal.Pay.Args m c P X TG := by
  obtain ⟨h0, h1, h2, h3, h4, h5, h6⟩ := h c
  choose X hX using fun (r : Fin 8192) (k : Fin 1024) => real_of_flag (congrFun h0 (ix3 0 r k))
  choose TG hTG using fun (r : Fin 8192) (k : Fin 1024) => real_of_flag (congrFun h6 (ix3 0 r k))
  choose wi hwi using fun (r : Fin 1024) (k : Fin 4096) => real_of_flag (congrFun h2 (ix3 0 r k))
  choose wo hwo using fun (r : Fin 4096) (k : Fin 1024) => real_of_flag (congrFun h3 (ix3 0 r k))
  choose lg hlg using fun (k : Fin 1024) => real_of_flag (congrFun h4 (ix2 0 k))
  choose lb hlb using fun (k : Fin 1024) => real_of_flag (congrFun h5 (ix2 0 k))
  choose md hmd using fun (k : Fin 3072) => real_of_flag (congrFun h1 (ix2 0 k))
  have hmd' : ∀ k : Fin 3072, m (c, Proc.tc.devRef Cert.MlpIdeal.main_arg1) (ix2 0 ⟨3072 + k.val, by omega⟩) = ((md k : ℝ) : EReal) := fun k => by
    rw [← hmd k]
    pointwise []
  exact ⟨⟨fun k => md ⟨k.val, by omega⟩, fun k => md ⟨1024 + k.val, by omega⟩, fun k => md ⟨2048 + k.val, by omega⟩, lg, lb, wi, wo⟩, X, TG,
    ⟨hX, fun k => hmd' ⟨k.val, by omega⟩, fun k => (congrArg (fun j => m (c, Proc.tc.devRef Cert.MlpIdeal.main_arg1) (ix2 0 j)) (Fin.ext (by dsimp; omega))).trans (hmd' ⟨1024 + k.val, by omega⟩),
      fun k => (congrArg (fun j => m (c, Proc.tc.devRef Cert.MlpIdeal.main_arg1) (ix2 0 j)) (Fin.ext (by dsimp; omega))).trans (hmd' ⟨2048 + k.val, by omega⟩), hwi, hwo, hlg, hlb, hTG⟩⟩

open Cert.MlpRefIdeal.Real in
/-- The reference, run on the same arguments, reads the same real arrays. -/
theorem ref_of_args {m : (ℓ : Loc Cert.MlpIdeal.nD Cert.MlpIdeal.τ Cert.MlpIdeal.sig) → Buf (Elt Ideal) ℓ} {c : Dev Cert.MlpIdeal.nD} {P : Par} {X TG : Fin 8192 → Row}
    (A : Cert.MlpIdeal.Pay.Args m c P X TG) :
    RArgs (m (c, Proc.tc.devRef Cert.MlpIdeal.main_arg0)) (m (c, Proc.tc.devRef Cert.MlpIdeal.main_arg1)) (m (c, Proc.tc.devRef Cert.MlpIdeal.main_arg2)) (m (c, Proc.tc.devRef Cert.MlpIdeal.main_arg3)) (m (c, Proc.tc.devRef Cert.MlpIdeal.main_arg4)) (m (c, Proc.tc.devRef Cert.MlpIdeal.main_arg5)) (m (c, Proc.tc.devRef Cert.MlpIdeal.main_arg6)) P X TG where
  x i r k := by obtain rfl : i = 0 := Subsingleton.elim _ _; exact A.x r k
  sh i k _ := by obtain rfl : i = 0 := Subsingleton.elim _ _; exact A.sh k
  sc i k _ := by obtain rfl : i = 0 := Subsingleton.elim _ _; exact A.sc k
  g i k _ := by obtain rfl : i = 0 := Subsingleton.elim _ _; exact A.g k
  wi i r k := by obtain rfl : i = 0 := Subsingleton.elim _ _; exact A.wi r k
  wo i r k := by obtain rfl : i = 0 := Subsingleton.elim _ _; exact A.wo r k
  lg i k := by obtain rfl : i = 0 := Subsingleton.elim _ _; exact A.lg k
  lb i k := by obtain rfl : i = 0 := Subsingleton.elim _ _; exact A.lb k
  tg i r k := by obtain rfl : i = 0 := Subsingleton.elim _ _; exact A.tg r k

set_option maxHeartbeats 4000000 in
open Cert.MlpIdeal.Pay Cert.MlpRefIdeal.Real in
/-- On finite arguments the call and its reference leave equal arrays. -/
theorem algebraic : Cert.algebraic_MlpIdeal_MlpRefIdeal_pre_mlp_finite := by
  pair_intro
  · run_from Cert.MlpIdeal.Gen.run_main m g
  · have key : ∀ c : Dev Cert.MlpIdeal.nD, ∃ P X TG, Args m c P X TG ∧ RArgs (m' (c.tc.loc Cert.MlpRefIdeal.main_arg0)) (m' (c.tc.loc Cert.MlpRefIdeal.main_arg1)) (m' (c.tc.loc Cert.MlpRefIdeal.main_arg2)) (m' (c.tc.loc Cert.MlpRefIdeal.main_arg3)) (m' (c.tc.loc Cert.MlpRefIdeal.main_arg4)) (m' (c.tc.loc Cert.MlpRefIdeal.main_arg5)) (m' (c.tc.loc Cert.MlpRefIdeal.main_arg6)) P X TG := fun c => by
      obtain ⟨P, X, TG, A⟩ := args_of_pre m hpre c
      obtain ⟨e0, e1, e2, e3, e4, e5, e6⟩ := hagree c
      refine ⟨P, X, TG, A, ?_⟩
      rw [e0, e1, e2, e3, e4, e5, e6]
      exact ref_of_args A
    clear hagree
    run_from Cert.MlpRefIdeal.Value.run m' g'
    all_goals obtain ⟨P, X, TG, A, R⟩ := key c
    · exact (show _ = _ from funext fun y => Is2.at (r144 R) y rfl rfl).trans (out7 A).symm
    · exact (show _ = _ from funext fun y => Is3.at (r148 R) y rfl rfl rfl).trans (out8 A).symm
    · exact (show _ = _ from funext fun y => Is3.at (r152 R) y rfl rfl rfl).trans (out9 A).symm
    · exact (show _ = _ from funext fun y => Is2.at (r154 R) y rfl rfl).trans (out10 A).symm
    · exact (show _ = _ from funext fun y => Is2.at (r156 R) y rfl rfl).trans (out11 A).symm
    · exact (show _ = _ from funext fun y => Is2.at (r143 R) y rfl rfl).trans (out12 A).symm

end Cert.MlpAlg

end
-- ==== Proof.BwdMath.lean ====
/- The gradient of the token mixer, over the real numbers, token by token: the projections of a row, the short convolution and
   the pooled means run over neighbouring tokens, a token outside the sequence counting as zero. -/
module

public import proofs.«01_k».proof.Proof.RealLift

@[expose] public section

noncomputable section

namespace Cert.BwdMath

open Idealize.ShloMosaic Cert.RealLift

/-- What every token shares: scale and gate, the normalisation's scale, the projection to gates, values and pool input, the
    three taps of the convolution, the pool's weights and scale, the projection back. -/
structure Par where
  sc : Row
  g : Row
  lg : Row
  wi : Fin 1024 → Fin 2048 → ℝ
  cw : Fin 3 → Fin 512 → ℝ
  wp : Fin 4 → Fin 128 → Fin 128 → ℝ
  ps : Fin 512 → ℝ
  wo : Fin 1024 → Fin 1024 → ℝ

/-- What the gradient reads of a token: its input, the mixer's output, the gradient from above, and the saved gates, values,
    convolution and pooled means. -/
structure Tok where
  x : Fin 8192 → Row
  mix : Fin 8192 → Row
  dx : Fin 8192 → Row
  zb : Fin 8192 → Fin 512 → ℝ
  zc : Fin 8192 → Fin 512 → ℝ
  zv : Fin 8192 → Fin 512 → ℝ
  cv : Fin 8192 → Fin 512 → ℝ
  pl : Fin 8192 → Fin 512 → ℝ

/-- Token `r` of tile `T`. -/
def tk (T : Fin 16) (r : Fin 512) : Fin 8192 := ⟨T.val * 512 + r.val, by omega⟩
/-- Channel `k` of group `j`. -/
def gx (j : Fin 4) (k : Fin 128) : Fin 512 := ⟨j.val * 128 + k.val, by omega⟩
/-- The lower and the upper half of a row of 1024. -/
def lo (l : Fin 512) : Fin 1024 := ⟨l.val, by omega⟩
def hi (l : Fin 512) : Fin 1024 := ⟨512 + l.val, by omega⟩
/-- Column `l` of block `j` of the projection. -/
def zx (j : Fin 4) (l : Fin 512) : Fin 2048 := ⟨j.val * 512 + l.val, by omega⟩
/-- The group of a channel and its place there. -/
def gq (l : Fin 512) : Fin 4 := ⟨l.val / 128, by omega⟩
def gr (l : Fin 512) : Fin 128 := ⟨l.val % 128, by omega⟩
/-- The width of a group's pool. -/
def win : Fin 4 → ℕ := ![2, 4, 8, 16]
/-- The value `s` tokens ahead; zero after the last token. -/
def nx {α : Type*} (f : Fin 8192 → α → ℝ) (t : Fin 8192) (s : ℕ) (l : α) : ℝ := if h : t.val + s < 8192 then f ⟨t.val + s, h⟩ l else 0

variable (P : Par) (K : Tok)

def res (t : Fin 8192) : Row := fun c => alpha * K.x t c + (1 + P.g c) * K.mix t c
def en (t : Fin 8192) : Row := fun c => K.dx t c * P.lg c
def dr (t : Fin 8192) : Row := lnBwd (res P K t) (en P K t)
def dm (t : Fin 8192) : Row := fun c => (1 + P.g c) * dr P K t c
def dcat (t : Fin 8192) : Row := fun k => ∑ c, dm P K t c * P.wo k c
def dyc (t : Fin 8192) (l : Fin 512) : ℝ := dcat P K t (lo l)
def dyp (t : Fin 8192) (l : Fin 512) : ℝ := dcat P K t (hi l)
def dzb (t : Fin 8192) (l : Fin 512) : ℝ := dyc P K t l * K.cv t l
def dcv (t : Fin 8192) (l : Fin 512) : ℝ := dyc P K t l * K.zb t l
def du (t : Fin 8192) (l : Fin 512) : ℝ := P.cw 2 l * dcv P K t l + P.cw 1 l * nx (dcv P K) t 1 l + P.cw 0 l * nx (dcv P K) t 2 l
def u (t : Fin 8192) (l : Fin 512) : ℝ := K.zc t l * K.zv t l
def dzc (t : Fin 8192) (l : Fin 512) : ℝ := du P K t l * K.zv t l
def dzv (t : Fin 8192) (l : Fin 512) : ℝ := du P K t l * K.zc t l
def dpw (t : Fin 8192) (l : Fin 512) : ℝ := dyp P K t l * P.ps l
def pm (j : Fin 4) (t : Fin 8192) (k : Fin 128) : ℝ := ∑ q, K.pl t (gx j q) * P.wp j q k
def dp (j : Fin 4) (t : Fin 8192) (k : Fin 128) : ℝ := ∑ q, dpw P K t (gx j q) * P.wp j k q
/-- The number of tokens a mean runs over. -/
def cnt (j : Fin 4) (t : Fin 8192) : ℝ := min ((t.val : ℝ) + 1) (win j)
def qn (j : Fin 4) (t : Fin 8192) (k : Fin 128) : ℝ := dp P K j t k * (1 / cnt j t)
def dzp (j : Fin 4) (t : Fin 8192) (k : Fin 128) : ℝ := (∑ s ∈ Finset.range (win j), nx (qn P K j) t s k) - dp P K j t k
/-- The gradient of the projection's four blocks. -/
def dz : Fin 4 → Fin 8192 → Fin 512 → ℝ := ![dzb P K, dzc P K, dzv P K, fun t l => dzp P K (gq l) t (gr l)]
/-- Block `j`'s part of the gradient of the modulated input. -/
def dhj (j : Fin 4) (t : Fin 8192) : Row := fun c => ∑ l, dz P K j t l * P.wi c (zx j l)
def dh (t : Fin 8192) : Row := fun c => dhj P K 0 t c + dhj P K 1 t c + dhj P K 2 t c + dhj P K 3 t c
def gxo (t : Fin 8192) : Row := fun c => alpha * dr P K t c + dh P K t c * (1 + P.sc c)
/-- What a token adds to the sums over the tokens: five rows of 1024, four rows of 512, the pool's weights. -/
def qd : Fin 5 → Fin 8192 → Row := ![fun t c => K.dx t c * xhat (res P K t) c, K.dx, fun t c => dr P K t c * K.mix t c, fun t c => dh P K t c * K.x t c, dh P K]
def qc : Fin 4 → Fin 8192 → Fin 512 → ℝ := ![fun t l => u K t l * nx (dcv P K) t 2 l, fun t l => u K t l * nx (dcv P K) t 1 l, fun t l => u K t l * dcv P K t l,
  fun t l => dyp P K t l * pm P K (gq l) t (gr l)]
def qp (j : Fin 4) (t : Fin 8192) (a b : Fin 128) : ℝ := K.pl t (gx j a) * dpw P K t (gx j b)

def sd : Fin 8 → Row := fun r c => if h : r.val < 5 then ∑ t, qd P K ⟨r.val, h⟩ t c else 0
def scs : Fin 8 → Fin 512 → ℝ := fun r c => if h : r.val < 4 then ∑ t, qc P K ⟨r.val, h⟩ t c else 0
def dwp (j : Fin 4) (a b : Fin 128) : ℝ := ∑ t, qp P K j t a b

end Cert.BwdMath

end
-- ==== Proof.BwdPay.lean ====
/- What each step of the token mixer's gradient computes, over the real numbers: one lemma per step. A step's operands are given
   by what they hold; the step then holds the named function of the tokens. -/
module

public import proofs.«01_k».proof.Proof.Gen.BwdIdeal.Skeleton
public import Idealize.ShloMosaic.Lib.Pointwise
public import proofs.«01_k».proof.Proof.BwdMath

@[expose] public section

set_option maxRecDepth 16384

noncomputable section

open Idealize.ShloMosaic Idealize.ShloMosaic.TcCoe Idealize.SL.Sem

namespace Cert.BwdIdeal.Pay

open Cert.BwdIdeal Cert.BwdIdeal.Gen Cert.RealLift Cert.BwdMath

variable {P : Par} {K : Tok} {T : Fin 16}

/-- A block of one row per token of tile `T`. -/
abbrev Tl {n : ℕ} {φ : FTy} (T : Fin 16) (v : FVec Ideal ⟨2, ![512, n]⟩ φ) (f : Fin 8192 → Fin n → ℝ) : Prop := Is2 v fun r c => f (tk T r) c
/-- Eight rows of partial sums. -/
abbrev Sm {n : ℕ} (v : FVec Ideal ⟨3, ![1, 8, n]⟩ .f32) (A : Fin 8 → Fin n → ℝ) : Prop := Is3 v fun _ s c => A s c
/-- The partial sums after a tile: `A` and what the tile's tokens add. -/
abbrev add8 {n : ℕ} (T : Fin 16) (A : Fin 8 → Fin n → ℝ) (f : Fin 8192 → Fin n → ℝ) : Fin 8 → Fin n → ℝ :=
  fun s c => A s c + ∑ u : Fin 64, f (tk T ⟨u.val * 8 + s.val, by omega⟩) c

theorem gx0 (k : Fin 128) : gx 0 k = ⟨k.val, by omega⟩ := Fin.ext (by simp [gx])

theorem c_4 : Ideal.ofBits .f32 0x40800000#32 = ((4 : ℝ) : EReal) := by
  simp [Ideal.ofBits, Ideal.ieee, -EReal.coe_mul]; norm_num
theorem c_8 : Ideal.ofBits .f32 0x41000000#32 = ((8 : ℝ) : EReal) := by
  simp [Ideal.ofBits, Ideal.ieee, -EReal.coe_mul]; norm_num
theorem c_16 : Ideal.ofBits .f32 0x41800000#32 = ((16 : ℝ) : EReal) := by
  simp [Ideal.ofBits, Ideal.ieee, -EReal.coe_mul]; norm_num

/-- The number of the token, as the kernel computes it. -/
theorem tok_count (T : Fin 16) (r : Fin 512) :
    (FloatOps.sitofp .f32 (IntOp.addi (IntOp.addi (Scalar.muli (BitVec.ofNat 32 T.val) 512#32) (BitVec.ofNat 32 r.val)) 1#32) : Ideal .f32)
      = ((((tk T r).val : ℝ) + 1 : ℝ) : EReal) := by
  have h1 : T.val < 16 := T.isLt
  have h2 : r.val < 512 := r.isLt
  have e : IntOp.addi (IntOp.addi (Scalar.muli (BitVec.ofNat 32 T.val) 512#32) (BitVec.ofNat 32 r.val)) 1#32 = BitVec.ofNat 32 (T.val * 512 + r.val + 1) := by
    show BitVec.ofNat 32 T.val * 512#32 + BitVec.ofNat 32 r.val + 1#32 = _
    apply BitVec.eq_of_toNat_eq
    simp [BitVec.toNat_add, BitVec.toNat_mul]
  rw [e]
  have ei : (BitVec.ofNat 32 (T.val * 512 + r.val + 1)).toInt = ((T.val * 512 + r.val + 1 : ℕ) : ℤ) := by
    rw [BitVec.toInt_eq_toNat_of_lt (by simp; omega)]; simp; omega
  show (((BitVec.ofNat 32 (T.val * 512 + r.val + 1)).toInt : ℝ) : EReal) = _
  rw [ei]
  simp [tk]

theorem coe_min (a b : ℝ) : min (a : EReal) (b : EReal) = ((min a b : ℝ) : EReal) :=
  ((EReal.coe_strictMono.monotone).map_min).symm

/-- The reciprocal of the number of tokens of a mean. -/
theorem inv_cnt (j : Fin 4) (t : Fin 8192) : Ideal.div ((1 : ℝ) : EReal) (min ((((t.val : ℝ) + 1 : ℝ)) : EReal) ((win j : ℝ) : EReal)) = ((1 / cnt j t : ℝ) : EReal) := by
  rw [coe_min, coe_div]
  · rfl
  · have : (0 : ℝ) < win j := by fin_cases j <;> norm_num [win]
    have h : (0 : ℝ) < (t.val : ℝ) + 1 := by positivity
    exact (lt_min h this).ne'

/-- Four blocks of 128 side by side. -/
theorem cat4 (f : Fin 4 → Fin 128 → ℝ) (l : Fin 512) :
    (if h : l.val < 128 then ((f 0 ⟨l.val, h⟩ : ℝ) : EReal) else if h : l.val - 128 < 128 then ((f 1 ⟨l.val - 128, h⟩ : ℝ) : EReal)
      else if h : l.val - 128 - 128 < 128 then ((f 2 ⟨l.val - 128 - 128, h⟩ : ℝ) : EReal) else ((f 3 ⟨l.val - 128 - 128 - 128, by omega⟩ : ℝ) : EReal))
      = ((f (gq l) (gr l) : ℝ) : EReal) := by
  have hl := l.isLt
  have key : ∀ (j : Fin 4) (n : ℕ) (hn : n < 128), l.val = j.val * 128 + n → ((f j ⟨n, hn⟩ : ℝ) : EReal) = ((f (gq l) (gr l) : ℝ) : EReal) := by
    intro j n hn e
    rw [show gq l = j from Fin.ext (by show l.val / 128 = j.val; omega), show gr l = ⟨n, hn⟩ from Fin.ext (by show l.val % 128 = n; omega)]
  split_ifs
  · exact key 0 _ _ (by simp)
  · exact key 1 _ _ (by simp; omega)
  · exact key 2 _ _ (by simp; omega)
  · exact key 3 _ _ (by simp; omega)

theorem dzp3 (t : Fin 8192) (k : Fin 128) :
    (∑ s ∈ Finset.range 8, nx (qn P K 3) t s k) + nx (qn P K 3) t 8 k + nx (qn P K 3) t 9 k + nx (qn P K 3) t 10 k + nx (qn P K 3) t 11 k
      + nx (qn P K 3) t 12 k + nx (qn P K 3) t 13 k + nx (qn P K 3) t 14 k + nx (qn P K 3) t 15 k - dp P K 3 t k = dzp P K 3 t k := by
  unfold dzp
  rw [show win 3 = 16 from rfl]
  simp only [Finset.sum_range_succ, Finset.sum_range_zero, zero_add]

theorem p8 : Is2 (k0_pay8 (F := Ideal)) (fun _ _ => 0) := by
  intro r l
  pointwise [k0_pay8]
  simp only [ups]
  all_goals rfl

theorem p13 : Is2 (k0_pay13 (F := Ideal)) (fun _ _ => 0) := by
  intro r l
  pointwise [k0_pay13]
  simp only [ups]
  all_goals rfl

theorem p14 : Is2 (k0_pay14 (F := Ideal)) (fun _ _ => 0) := by
  intro r l
  pointwise [k0_pay14]
  simp only [ups]
  all_goals rfl

theorem p15 : Is2 (k0_pay15 (F := Ideal)) (fun _ _ => 0) := by
  intro r l
  pointwise [k0_pay15]
  simp only [ups]
  all_goals rfl

theorem p16 : Is3 (k0_pay16 (F := Ideal)) (fun _ _ _ => 0) := by
  intro i r l
  pointwise [k0_pay16]
  simp only [ups]
  all_goals rfl

theorem p17 : Is3 (k0_pay17 (F := Ideal)) (fun _ _ _ => 0) := by
  intro i r l
  pointwise [k0_pay17]
  simp only [ups]
  all_goals rfl

theorem p18 : Is3 (k0_pay18 (F := Ideal)) (fun _ _ _ => 0) := by
  intro i r l
  pointwise [k0_pay18]
  simp only [ups]
  all_goals rfl

theorem p1 {W : Fin 8 → Fin 1024 → ℝ} {v410 : FVec Ideal S8x1024 .f32} (h410 : Is2 v410 (W)) :
    Sm (k0_pay1 v410) (W) := by
  intro i r l
  pointwise [k0_pay1]
  simp only [h410 _ _, ups]
  all_goals rfl

theorem p2 {A : Fin 8 → Fin 1024 → ℝ} {v370 : FVec Ideal S512x1024 .f32} {v414 : FVec Ideal S1x8x1024 .f32} (h370 : Tl T v370 (dh P K)) (h414 : Sm v414 (A)) :
    Sm (k0_pay2 v370 v414) (add8 T A (qd P K 4)) := by
  intro i r l
  pointwise [k0_pay2]
  simp only [h370 _ _, h414 _ _ _, ups]
  all_goals rfl

theorem p3 {A : Fin 8 → Fin 1024 → ℝ} {v425 : FVec Ideal S1x8x1024 .f32} (h425 : Sm v425 (A)) :
    Is2 (k0_pay3 v425) (fun _ c => ∑ s, A s c) := by
  intro r l
  pointwise [k0_pay3]
  simp only [h425 _ _ _, ups]
  all_goals rfl

theorem p4 {A : Fin 8 → Fin 1024 → ℝ} {v430 : FVec Ideal S1x8x1024 .f32} (h430 : Sm v430 (A)) :
    Is2 (k0_pay4 v430) (fun _ c => ∑ s, A s c) := by
  intro r l
  pointwise [k0_pay4]
  simp only [h430 _ _ _, ups]
  all_goals rfl

theorem p5 {A : Fin 8 → Fin 1024 → ℝ} {v435 : FVec Ideal S1x8x1024 .f32} (h435 : Sm v435 (A)) :
    Is2 (k0_pay5 v435) (fun _ c => ∑ s, A s c) := by
  intro r l
  pointwise [k0_pay5]
  simp only [h435 _ _ _, ups]
  all_goals rfl

theorem p6 {A : Fin 8 → Fin 1024 → ℝ} {v440 : FVec Ideal S1x8x1024 .f32} (h440 : Sm v440 (A)) :
    Is2 (k0_pay6 v440) (fun _ c => ∑ s, A s c) := by
  intro r l
  pointwise [k0_pay6]
  simp only [h440 _ _ _, ups]
  all_goals rfl

theorem p7 {A : Fin 8 → Fin 1024 → ℝ} {v445 : FVec Ideal S1x8x1024 .f32} (h445 : Sm v445 (A)) :
    Is2 (k0_pay7 v445) (fun _ c => ∑ s, A s c) := by
  intro r l
  pointwise [k0_pay7]
  simp only [h445 _ _ _, ups]
  all_goals rfl

theorem p9 {A : Fin 8 → Fin 512 → ℝ} {v452 : FVec Ideal S1x8x512 .f32} (h452 : Sm v452 (A)) :
    Is2 (k0_pay9 v452) (fun _ c => ∑ s, A s c) := by
  intro r l
  pointwise [k0_pay9]
  simp only [h452 _ _ _, ups]
  all_goals rfl

theorem p10 {A : Fin 8 → Fin 512 → ℝ} {v457 : FVec Ideal S1x8x512 .f32} (h457 : Sm v457 (A)) :
    Is2 (k0_pay10 v457) (fun _ c => ∑ s, A s c) := by
  intro r l
  pointwise [k0_pay10]
  simp only [h457 _ _ _, ups]
  all_goals rfl

theorem p11 {A : Fin 8 → Fin 512 → ℝ} {v462 : FVec Ideal S1x8x512 .f32} (h462 : Sm v462 (A)) :
    Is2 (k0_pay11 v462) (fun _ c => ∑ s, A s c) := by
  intro r l
  pointwise [k0_pay11]
  simp only [h462 _ _ _, ups]
  all_goals rfl

theorem p12 {A : Fin 8 → Fin 512 → ℝ} {v467 : FVec Ideal S1x8x512 .f32} (h467 : Sm v467 (A)) :
    Is2 (k0_pay12 v467) (fun _ c => ∑ s, A s c) := by
  intro r l
  pointwise [k0_pay12]
  simp only [h467 _ _ _, ups]
  all_goals rfl

theorem p19 {v4 : FVec Ideal S512x1024 .f32} (h4 : Tl T v4 (K.x)) :
    Tl T (k0_pay19 v4) (K.x) := by
  intro r l
  pointwise [k0_pay19]
  simp only [h4 _ _, ups]
  all_goals rfl

theorem p20 {v6 : FVec Ideal S512x1024 .f32} (h6 : Tl T v6 (K.mix)) :
    Tl T (k0_pay20 v6) (K.mix) := by
  intro r l
  pointwise [k0_pay20]
  simp only [h6 _ _, ups]
  all_goals rfl

theorem p21 {v8 : FVec Ideal S512x1024 .f32} (h8 : Tl T v8 (K.dx)) :
    Tl T (k0_pay21 v8) (K.dx) := by
  intro r l
  pointwise [k0_pay21]
  simp only [h8 _ _, ups]
  all_goals rfl

theorem p22 {v10 : FVec Ideal S1x1024 .f32} (h10 : Is2 v10 (fun _ c => P.sc c)) :
    Is2 (k0_pay22 v10) (fun _ c => P.sc c) := by
  intro r l
  pointwise [k0_pay22]
  simp only [h10 _ _, ups]
  all_goals rfl

theorem p23 {v12 : FVec Ideal S1x1024 .f32} (h12 : Is2 v12 (fun _ c => P.g c)) :
    Is2 (k0_pay23 v12) (fun _ c => P.g c) := by
  intro r l
  pointwise [k0_pay23]
  simp only [h12 _ _, ups]
  all_goals rfl

theorem p24 {v4 : FVec Ideal S512x1024 .f32} {v6 : FVec Ideal S512x1024 .f32} {v12 : FVec Ideal S1x1024 .f32} (h4 : Tl T v4 (K.x)) (h6 : Tl T v6 (K.mix)) (h12 : Is2 v12 (fun _ c => P.g c)) :
    Tl T (k0_pay24 v4 v6 v12) (fun t => cen (res P K t)) := by
  intro r l
  pointwise [k0_pay24]
  simp only [(p19 h4) _ _, (p23 h12) _ _, (p20 h6) _ _, h4 _ _, h6 _ _, h12 _ _, ups]
  all_goals rfl

theorem p25 {v4 : FVec Ideal S512x1024 .f32} {v6 : FVec Ideal S512x1024 .f32} {v12 : FVec Ideal S1x1024 .f32} (h4 : Tl T v4 (K.x)) (h6 : Tl T v6 (K.mix)) (h12 : Is2 v12 (fun _ c => P.g c)) :
    Tl T (k0_pay25 v4 v6 v12) (fun t _ => rstd (res P K t)) := by
  intro r l
  pointwise [k0_pay25]
  simp only [(p24 h4 h6 h12) _ _, h4 _ _, h6 _ _, h12 _ _, ups]
  all_goals exact coe_rsqrt _ (var_eps_pos _)

theorem p26 {v4 : FVec Ideal S512x1024 .f32} {v6 : FVec Ideal S512x1024 .f32} {v12 : FVec Ideal S1x1024 .f32} (h4 : Tl T v4 (K.x)) (h6 : Tl T v6 (K.mix)) (h12 : Is2 v12 (fun _ c => P.g c)) :
    Tl T (k0_pay26 v4 v6 v12) (fun t => xhat (res P K t)) := by
  intro r l
  pointwise [k0_pay26]
  simp only [(p25 h4 h6 h12) _ _, (p24 h4 h6 h12) _ _, h4 _ _, h6 _ _, h12 _ _, ups]
  all_goals rfl

theorem p27 {v9 : FVec Ideal S512x1024 .f32} {v34 : FVec Ideal S512x1 .f32} {v36 : FVec Ideal S512x1024 .f32} {v37 : FVec Ideal S1x1024 .f32} (h9 : Tl T v9 (K.dx)) (h34 : Tl T v34 (fun t _ => rstd (res P K t))) (h36 : Tl T v36 (fun t => xhat (res P K t))) (h37 : Is2 v37 (fun _ c => P.lg c)) :
    Tl T (k0_pay27 v9 v34 v36 v37) (dr P K) := by
  intro r l
  pointwise [k0_pay27]
  simp only [h9 _ _, h34 _ _, h36 _ _, h37 _ _, ups]
  all_goals rfl

theorem p28 {v9 : FVec Ideal S512x1024 .f32} {v13 : FVec Ideal S1x1024 .f32} {v34 : FVec Ideal S512x1 .f32} {v36 : FVec Ideal S512x1024 .f32} {v37 : FVec Ideal S1x1024 .f32} (h9 : Tl T v9 (K.dx)) (h13 : Is2 v13 (fun _ c => P.g c)) (h34 : Tl T v34 (fun t _ => rstd (res P K t))) (h36 : Tl T v36 (fun t => xhat (res P K t))) (h37 : Is2 v37 (fun _ c => P.lg c)) :
    Tl T (k0_pay28 v9 v13 v34 v36 v37) (dm P K) := by
  intro r l
  pointwise [k0_pay28]
  simp only [(p27 h9 h34 h36 h37) _ _, h9 _ _, h13 _ _, h34 _ _, h36 _ _, h37 _ _, ups]
  all_goals rfl

theorem p29 {v9 : FVec Ideal S512x1024 .f32} {v13 : FVec Ideal S1x1024 .f32} {v34 : FVec Ideal S512x1 .f32} {v36 : FVec Ideal S512x1024 .f32} {v37 : FVec Ideal S1x1024 .f32} {v62 : FVec Ideal S1024x1024 .bf16} (h9 : Tl T v9 (K.dx)) (h13 : Is2 v13 (fun _ c => P.g c)) (h34 : Tl T v34 (fun t _ => rstd (res P K t))) (h36 : Tl T v36 (fun t => xhat (res P K t))) (h37 : Is2 v37 (fun _ c => P.lg c)) (h62 : Is2 v62 (P.wo)) :
    Tl T (k0_pay29 v9 v13 v34 v36 v37 v62) (dcat P K) := by
  intro r l
  pointwise [k0_pay29]
  simp only [(p28 h9 h13 h34 h36 h37) _ _, h9 _ _, h13 _ _, h34 _ _, h36 _ _, h37 _ _, h62 _ _, ups]
  all_goals rfl

theorem p30 {v9 : FVec Ideal S512x1024 .f32} {v13 : FVec Ideal S1x1024 .f32} {v34 : FVec Ideal S512x1 .f32} {v36 : FVec Ideal S512x1024 .f32} {v37 : FVec Ideal S1x1024 .f32} {v62 : FVec Ideal S1024x1024 .bf16} (h9 : Tl T v9 (K.dx)) (h13 : Is2 v13 (fun _ c => P.g c)) (h34 : Tl T v34 (fun t _ => rstd (res P K t))) (h36 : Tl T v36 (fun t => xhat (res P K t))) (h37 : Is2 v37 (fun _ c => P.lg c)) (h62 : Is2 v62 (P.wo)) :
    Tl T (k0_pay30 v9 v13 v34 v36 v37 v62) (dyc P K) := by
  intro r l
  pointwise [k0_pay30]
  simp only [(p29 h9 h13 h34 h36 h37 h62) _ _, h9 _ _, h13 _ _, h34 _ _, h36 _ _, h37 _ _, h62 _ _, ups]
  all_goals rfl

theorem p31 {v9 : FVec Ideal S512x1024 .f32} {v13 : FVec Ideal S1x1024 .f32} {v34 : FVec Ideal S512x1 .f32} {v36 : FVec Ideal S512x1024 .f32} {v37 : FVec Ideal S1x1024 .f32} {v62 : FVec Ideal S1024x1024 .bf16} (h9 : Tl T v9 (K.dx)) (h13 : Is2 v13 (fun _ c => P.g c)) (h34 : Tl T v34 (fun t _ => rstd (res P K t))) (h36 : Tl T v36 (fun t => xhat (res P K t))) (h37 : Is2 v37 (fun _ c => P.lg c)) (h62 : Is2 v62 (P.wo)) :
    Tl T (k0_pay31 v9 v13 v34 v36 v37 v62) (dyp P K) := by
  intro r l
  pointwise [k0_pay31]
  simp only [(p29 h9 h13 h34 h36 h37 h62) _ _, h9 _ _, h13 _ _, h34 _ _, h36 _ _, h37 _ _, h62 _ _, ups]
  all_goals rfl

theorem p32 {v67 : FVec Ideal S512x512 .bf16} (h67 : Tl T v67 (K.zb)) :
    Tl T (k0_pay32 v67) (K.zb) := by
  intro r l
  pointwise [k0_pay32]
  simp only [h67 _ _, ups]
  all_goals rfl

theorem p33 {v70 : FVec Ideal S512x512 .bf16} (h70 : Tl T v70 (K.zc)) :
    Tl T (k0_pay33 v70) (K.zc) := by
  intro r l
  pointwise [k0_pay33]
  simp only [h70 _ _, ups]
  all_goals rfl

theorem p34 {v73 : FVec Ideal S512x512 .bf16} (h73 : Tl T v73 (K.zv)) :
    Tl T (k0_pay34 v73) (K.zv) := by
  intro r l
  pointwise [k0_pay34]
  simp only [h73 _ _, ups]
  all_goals rfl

theorem p35 {v79 : FVec Ideal S512x512 .bf16} (h79 : Tl T v79 (K.pl)) :
    Tl T (k0_pay35 v79) (K.pl) := by
  intro r l
  pointwise [k0_pay35]
  simp only [h79 _ _, ups]
  all_goals rfl

theorem p36 {v65 : FVec Ideal S512x512 .f32} {v76 : FVec Ideal S512x512 .bf16} (h65 : Tl T v65 (dyc P K)) (h76 : Tl T v76 (K.cv)) :
    Tl T (k0_pay36 v65 v76) (dzb P K) := by
  intro r l
  pointwise [k0_pay36]
  simp only [h65 _ _, h76 _ _, ups]
  all_goals rfl

theorem p37 {v65 : FVec Ideal S512x512 .f32} {v69 : FVec Ideal S512x512 .f32} (h65 : Tl T v65 (dyc P K)) (h69 : Tl T v69 (K.zb)) :
    Tl T (k0_pay37 v65 v69) (dcv P K) := by
  intro r l
  pointwise [k0_pay37]
  simp only [h65 _ _, h69 _ _, ups]
  all_goals rfl

theorem p38 {v65 : FVec Ideal S512x512 .f32} {v69 : FVec Ideal S512x512 .f32} (h65 : Tl T v65 (dyc P K)) (h69 : Tl T v69 (K.zb)) :
    Tl T (k0_pay38 v65 v69) (dcv P K) := by
  intro r l
  pointwise [k0_pay38]
  simp only [(p37 h65 h69) _ _, h65 _ _, h69 _ _, ups]
  all_goals rfl

theorem p39 {v65 : FVec Ideal S512x512 .f32} {v69 : FVec Ideal S512x512 .f32} {v86 : FVec Ideal S512x512 .f32} {v87 : FVec Ideal S512x512 .f32} {v88 : FVec Ideal S1x512 .f32} {v92 : FVec Ideal S1x512 .f32} {v97 : FVec Ideal S1x512 .f32} (h65 : Tl T v65 (dyc P K)) (h69 : Tl T v69 (K.zb)) (h86 : Tl T v86 (fun t => nx (dcv P K) t 1)) (h87 : Tl T v87 (fun t => nx (dcv P K) t 2)) (h88 : Is2 v88 (fun _ c => P.cw 2 c)) (h92 : Is2 v92 (fun _ c => P.cw 1 c)) (h97 : Is2 v97 (fun _ c => P.cw 0 c)) :
    Tl T (k0_pay39 v65 v69 v86 v87 v88 v92 v97) (du P K) := by
  intro r l
  pointwise [k0_pay39]
  simp only [(p37 h65 h69) _ _, h65 _ _, h69 _ _, h86 _ _, h87 _ _, h88 _ _, h92 _ _, h97 _ _, ups]
  all_goals rfl

theorem p40 {w : Fin 16 → Fin 512 → ℝ} {v102 : FVec Ideal S16x512 .f32} (h102 : Is2 v102 (w)) :
    Is2 (k0_pay40 v102) (w) := by
  intro r l
  pointwise [k0_pay40]
  simp only [h102 _ _, ups]
  all_goals rfl

theorem p41 {v72 : FVec Ideal S512x512 .f32} {v75 : FVec Ideal S512x512 .f32} (h72 : Tl T v72 (K.zc)) (h75 : Tl T v75 (K.zv)) :
    Tl T (k0_pay41 v72 v75) (u K) := by
  intro r l
  pointwise [k0_pay41]
  simp only [h72 _ _, h75 _ _, ups]
  all_goals rfl

theorem p42 {A : Fin 8 → Fin 512 → ℝ} {v72 : FVec Ideal S512x512 .f32} {v75 : FVec Ideal S512x512 .f32} {v87 : FVec Ideal S512x512 .f32} {v107 : FVec Ideal S1x8x512 .f32} (h72 : Tl T v72 (K.zc)) (h75 : Tl T v75 (K.zv)) (h87 : Tl T v87 (fun t => nx (dcv P K) t 2)) (h107 : Sm v107 (A)) :
    Is2 (k0_pay42 v72 v75 v87 v107) (add8 T A (qc P K 0)) := by
  intro r l
  pointwise [k0_pay42]
  simp only [(p41 h72 h75) _ _, h72 _ _, h75 _ _, h87 _ _, h107 _ _ _, ups]
  all_goals rfl

theorem p43 {W : Fin 8 → Fin 512 → ℝ} {v112 : FVec Ideal S8x512 .f32} (h112 : Is2 v112 (W)) :
    Sm (k0_pay43 v112) (W) := by
  intro i r l
  pointwise [k0_pay43]
  simp only [h112 _ _, ups]
  all_goals rfl

theorem p44 {A : Fin 8 → Fin 512 → ℝ} {v86 : FVec Ideal S512x512 .f32} {v106 : FVec Ideal S512x512 .f32} {v116 : FVec Ideal S1x8x512 .f32} (h86 : Tl T v86 (fun t => nx (dcv P K) t 1)) (h106 : Tl T v106 (u K)) (h116 : Sm v116 (A)) :
    Sm (k0_pay44 v86 v106 v116) (add8 T A (qc P K 1)) := by
  intro i r l
  pointwise [k0_pay44]
  simp only [h86 _ _, h106 _ _, h116 _ _ _, ups]
  all_goals rfl

theorem p45 {A : Fin 8 → Fin 512 → ℝ} {v82 : FVec Ideal S512x512 .f32} {v106 : FVec Ideal S512x512 .f32} {v125 : FVec Ideal S1x8x512 .f32} (h82 : Tl T v82 (dcv P K)) (h106 : Tl T v106 (u K)) (h125 : Sm v125 (A)) :
    Sm (k0_pay45 v82 v106 v125) (add8 T A (qc P K 2)) := by
  intro i r l
  pointwise [k0_pay45]
  simp only [h82 _ _, h106 _ _, h125 _ _ _, ups]
  all_goals rfl

theorem p46 {v75 : FVec Ideal S512x512 .f32} {v101 : FVec Ideal S512x512 .f32} (h75 : Tl T v75 (K.zv)) (h101 : Tl T v101 (du P K)) :
    Tl T (k0_pay46 v75 v101) (dzc P K) := by
  intro r l
  pointwise [k0_pay46]
  simp only [h75 _ _, h101 _ _, ups]
  all_goals rfl

theorem p47 {v72 : FVec Ideal S512x512 .f32} {v101 : FVec Ideal S512x512 .f32} (h72 : Tl T v72 (K.zc)) (h101 : Tl T v101 (du P K)) :
    Tl T (k0_pay47 v72 v101) (dzv P K) := by
  intro r l
  pointwise [k0_pay47]
  simp only [h72 _ _, h101 _ _, ups]
  all_goals rfl

theorem p48 {v66 : FVec Ideal S512x512 .f32} {v136 : FVec Ideal S1x512 .f32} (h66 : Tl T v66 (dyp P K)) (h136 : Is2 v136 (fun _ c => P.ps c)) :
    Tl T (k0_pay48 v66 v136) (dpw P K) := by
  intro r l
  pointwise [k0_pay48]
  simp only [h66 _ _, h136 _ _, ups]
  all_goals rfl

theorem p49 {v80 : FVec Ideal S512x512 .bf16} (h80 : Tl T v80 (K.pl)) :
    Tl T (k0_pay49 v80) (fun t k => K.pl t (gx 0 k)) := by
  intro r l
  pointwise [k0_pay49]
  simp only [h80 _ _, ups]
  all_goals rw [gx0]

theorem p50 {v66 : FVec Ideal S512x512 .f32} {v136 : FVec Ideal S1x512 .f32} (h66 : Tl T v66 (dyp P K)) (h136 : Is2 v136 (fun _ c => P.ps c)) :
    Tl T (k0_pay50 v66 v136) (fun t k => dpw P K t (gx 0 k)) := by
  intro r l
  pointwise [k0_pay50]
  simp only [(p48 h66 h136) _ _, h66 _ _, h136 _ _, ups]
  all_goals rw [gx0]

theorem p51 {v142 : FVec Ideal S1x128x128 .f32} (h142 : Is3 v142 (fun _ => P.wp 0)) :
    Is2 (k0_pay51 v142) (P.wp 0) := by
  intro r l
  pointwise [k0_pay51]
  simp only [h142 _ _ _, ups]
  all_goals rfl

theorem p52 {v80 : FVec Ideal S512x512 .bf16} {v142 : FVec Ideal S1x128x128 .f32} (h80 : Tl T v80 (K.pl)) (h142 : Is3 v142 (fun _ => P.wp 0)) :
    Tl T (k0_pay52 v80 v142) (pm P K 0) := by
  intro r l
  pointwise [k0_pay52]
  simp only [(p49 h80) _ _, (p51 h142) _ _, h80 _ _, h142 _ _ _, ups]
  all_goals rfl

theorem p53 {B : Fin 128 → Fin 128 → ℝ} {v139 : FVec Ideal S512x128 .bf16} {v141 : FVec Ideal S512x128 .bf16} {v146 : FVec Ideal S1x128x128 .f32} (h139 : Tl T v139 (fun t k => K.pl t (gx 0 k))) (h141 : Tl T v141 (fun t k => dpw P K t (gx 0 k))) (h146 : Is3 v146 (fun _ => B)) :
    Is3 (k0_pay53 v139 v141 v146) (fun _ => fun a b => B a b + ∑ r, qp P K 0 (tk T r) a b) := by
  intro i r l
  pointwise [k0_pay53]
  simp only [h139 _ _, h141 _ _, h146 _ _ _, ups]
  all_goals rfl

theorem p54 {v141 : FVec Ideal S512x128 .bf16} {v144 : FVec Ideal S128x128 .bf16} (h141 : Tl T v141 (fun t k => dpw P K t (gx 0 k))) (h144 : Is2 v144 (P.wp 0)) :
    Tl T (k0_pay54 v141 v144) (dp P K 0) := by
  intro r l
  pointwise [k0_pay54]
  simp only [h141 _ _, h144 _ _, ups]
  all_goals rfl

theorem p55 {v0 : BitVec 32} (h0 : v0 = BitVec.ofNat 32 T.val) {v141 : FVec Ideal S512x128 .bf16} {v144 : FVec Ideal S128x128 .bf16} (h141 : Tl T v141 (fun t k => dpw P K t (gx 0 k))) (h144 : Is2 v144 (P.wp 0)) :
    Tl T (k0_pay55 v0 v141 v144) (qn P K 0) := by
  intro r l
  pointwise [k0_pay55]
  simp only [(p54 h141 h144) _ _, h141 _ _, h144 _ _, ups]
  rw [h0, tok_count, show ((2 : ℝ) : EReal) = ((win 0 : ℝ) : EReal) from by rw [show win 0 = 2 from rfl]; norm_num, inv_cnt, ← EReal.coe_mul]
  rfl

theorem p56 {v80 : FVec Ideal S512x512 .bf16} (h80 : Tl T v80 (K.pl)) :
    Tl T (k0_pay56 v80) (fun t k => K.pl t (gx 1 k)) := by
  intro r l
  pointwise [k0_pay56]
  simp only [h80 _ _, ups]
  all_goals rfl

theorem p57 {v138 : FVec Ideal S512x512 .f32} (h138 : Tl T v138 (dpw P K)) :
    Tl T (k0_pay57 v138) (fun t k => dpw P K t (gx 1 k)) := by
  intro r l
  pointwise [k0_pay57]
  simp only [h138 _ _, ups]
  all_goals rfl

theorem p58 {v173 : FVec Ideal S1x128x128 .f32} (h173 : Is3 v173 (fun _ => P.wp 1)) :
    Is2 (k0_pay58 v173) (P.wp 1) := by
  intro r l
  pointwise [k0_pay58]
  simp only [h173 _ _ _, ups]
  all_goals rfl

theorem p59 {v80 : FVec Ideal S512x512 .bf16} {v173 : FVec Ideal S1x128x128 .f32} (h80 : Tl T v80 (K.pl)) (h173 : Is3 v173 (fun _ => P.wp 1)) :
    Tl T (k0_pay59 v80 v173) (pm P K 1) := by
  intro r l
  pointwise [k0_pay59]
  simp only [(p56 h80) _ _, (p58 h173) _ _, h80 _ _, h173 _ _ _, ups]
  all_goals rfl

theorem p60 {B : Fin 128 → Fin 128 → ℝ} {v80 : FVec Ideal S512x512 .bf16} {v138 : FVec Ideal S512x512 .f32} {v177 : FVec Ideal S1x128x128 .f32} (h80 : Tl T v80 (K.pl)) (h138 : Tl T v138 (dpw P K)) (h177 : Is3 v177 (fun _ => B)) :
    Is2 (k0_pay60 v80 v138 v177) (fun a b => B a b + ∑ r, qp P K 1 (tk T r) a b) := by
  intro r l
  pointwise [k0_pay60]
  simp only [(p56 h80) _ _, (p57 h138) _ _, h80 _ _, h138 _ _, h177 _ _ _, ups]
  all_goals rfl

theorem p61 {B : Fin 128 → Fin 128 → ℝ} {v180 : FVec Ideal S128x128 .f32} (h180 : Is2 v180 (B)) :
    Is3 (k0_pay61 v180) (fun _ => B) := by
  intro i r l
  pointwise [k0_pay61]
  simp only [h180 _ _, ups]
  all_goals rfl

theorem p62 {v172 : FVec Ideal S512x128 .bf16} {v175 : FVec Ideal S128x128 .bf16} (h172 : Tl T v172 (fun t k => dpw P K t (gx 1 k))) (h175 : Is2 v175 (P.wp 1)) :
    Tl T (k0_pay62 v172 v175) (dp P K 1) := by
  intro r l
  pointwise [k0_pay62]
  simp only [h172 _ _, h175 _ _, ups]
  all_goals rfl

theorem p63 {v0 : BitVec 32} (h0 : v0 = BitVec.ofNat 32 T.val) {v172 : FVec Ideal S512x128 .bf16} {v175 : FVec Ideal S128x128 .bf16} (h172 : Tl T v172 (fun t k => dpw P K t (gx 1 k))) (h175 : Is2 v175 (P.wp 1)) :
    Tl T (k0_pay63 v0 v172 v175) (qn P K 1) := by
  intro r l
  pointwise [k0_pay63]
  simp only [(p62 h172 h175) _ _, h172 _ _, h175 _ _, ups]
  rw [h0, tok_count, c_4, show ((4 : ℝ) : EReal) = ((win 1 : ℝ) : EReal) from by rw [show win 1 = 4 from rfl]; norm_num, inv_cnt, ← EReal.coe_mul]
  rfl

theorem p64 {v80 : FVec Ideal S512x512 .bf16} (h80 : Tl T v80 (K.pl)) :
    Tl T (k0_pay64 v80) (fun t k => K.pl t (gx 2 k)) := by
  intro r l
  pointwise [k0_pay64]
  simp only [h80 _ _, ups]
  all_goals rfl

theorem p65 {v138 : FVec Ideal S512x512 .f32} (h138 : Tl T v138 (dpw P K)) :
    Tl T (k0_pay65 v138) (fun t k => dpw P K t (gx 2 k)) := by
  intro r l
  pointwise [k0_pay65]
  simp only [h138 _ _, ups]
  all_goals rfl

theorem p66 {v204 : FVec Ideal S1x128x128 .f32} (h204 : Is3 v204 (fun _ => P.wp 2)) :
    Is2 (k0_pay66 v204) (P.wp 2) := by
  intro r l
  pointwise [k0_pay66]
  simp only [h204 _ _ _, ups]
  all_goals rfl

theorem p67 {v80 : FVec Ideal S512x512 .bf16} {v204 : FVec Ideal S1x128x128 .f32} (h80 : Tl T v80 (K.pl)) (h204 : Is3 v204 (fun _ => P.wp 2)) :
    Tl T (k0_pay67 v80 v204) (pm P K 2) := by
  intro r l
  pointwise [k0_pay67]
  simp only [(p64 h80) _ _, (p66 h204) _ _, h80 _ _, h204 _ _ _, ups]
  all_goals rfl

theorem p68 {B : Fin 128 → Fin 128 → ℝ} {v80 : FVec Ideal S512x512 .bf16} {v138 : FVec Ideal S512x512 .f32} {v208 : FVec Ideal S1x128x128 .f32} (h80 : Tl T v80 (K.pl)) (h138 : Tl T v138 (dpw P K)) (h208 : Is3 v208 (fun _ => B)) :
    Is3 (k0_pay68 v80 v138 v208) (fun _ => fun a b => B a b + ∑ r, qp P K 2 (tk T r) a b) := by
  intro i r l
  pointwise [k0_pay68]
  simp only [(p64 h80) _ _, (p65 h138) _ _, h80 _ _, h138 _ _, h208 _ _ _, ups]
  all_goals rfl

theorem p69 {v138 : FVec Ideal S512x512 .f32} {v204 : FVec Ideal S1x128x128 .f32} (h138 : Tl T v138 (dpw P K)) (h204 : Is3 v204 (fun _ => P.wp 2)) :
    Tl T (k0_pay69 v138 v204) (dp P K 2) := by
  intro r l
  pointwise [k0_pay69]
  simp only [(p65 h138) _ _, (p66 h204) _ _, h138 _ _, h204 _ _ _, ups]
  all_goals rfl

theorem p70 {v215 : FVec Ideal S512x128 .f32} {v216 : BitVec 32} (h216 : v216 = Scalar.muli (BitVec.ofNat 32 T.val) 512#32) (h215 : Tl T v215 (dp P K 2)) :
    Tl T (k0_pay70 v215 v216) (qn P K 2) := by
  intro r l
  pointwise [k0_pay70]
  simp only [h215 _ _, ups]
  rw [h216, tok_count, c_8, show ((8 : ℝ) : EReal) = ((win 2 : ℝ) : EReal) from by rw [show win 2 = 8 from rfl]; norm_num, inv_cnt, ← EReal.coe_mul]
  rfl

theorem p71 {v80 : FVec Ideal S512x512 .bf16} (h80 : Tl T v80 (K.pl)) :
    Tl T (k0_pay71 v80) (fun t k => K.pl t (gx 3 k)) := by
  intro r l
  pointwise [k0_pay71]
  simp only [h80 _ _, ups]
  all_goals rfl

theorem p72 {v138 : FVec Ideal S512x512 .f32} (h138 : Tl T v138 (dpw P K)) :
    Tl T (k0_pay72 v138) (fun t k => dpw P K t (gx 3 k)) := by
  intro r l
  pointwise [k0_pay72]
  simp only [h138 _ _, ups]
  all_goals rfl

theorem p73 {v235 : FVec Ideal S1x128x128 .f32} (h235 : Is3 v235 (fun _ => P.wp 3)) :
    Is2 (k0_pay73 v235) (P.wp 3) := by
  intro r l
  pointwise [k0_pay73]
  simp only [h235 _ _ _, ups]
  all_goals rfl

theorem p74 {v80 : FVec Ideal S512x512 .bf16} {v235 : FVec Ideal S1x128x128 .f32} (h80 : Tl T v80 (K.pl)) (h235 : Is3 v235 (fun _ => P.wp 3)) :
    Tl T (k0_pay74 v80 v235) (pm P K 3) := by
  intro r l
  pointwise [k0_pay74]
  simp only [(p71 h80) _ _, (p73 h235) _ _, h80 _ _, h235 _ _ _, ups]
  all_goals rfl

theorem p75 {B : Fin 128 → Fin 128 → ℝ} {v80 : FVec Ideal S512x512 .bf16} {v138 : FVec Ideal S512x512 .f32} {v239 : FVec Ideal S1x128x128 .f32} (h80 : Tl T v80 (K.pl)) (h138 : Tl T v138 (dpw P K)) (h239 : Is3 v239 (fun _ => B)) :
    Is3 (k0_pay75 v80 v138 v239) (fun _ => fun a b => B a b + ∑ r, qp P K 3 (tk T r) a b) := by
  intro i r l
  pointwise [k0_pay75]
  simp only [(p71 h80) _ _, (p72 h138) _ _, h80 _ _, h138 _ _, h239 _ _ _, ups]
  all_goals rfl

theorem p76 {v138 : FVec Ideal S512x512 .f32} {v235 : FVec Ideal S1x128x128 .f32} (h138 : Tl T v138 (dpw P K)) (h235 : Is3 v235 (fun _ => P.wp 3)) :
    Tl T (k0_pay76 v138 v235) (dp P K 3) := by
  intro r l
  pointwise [k0_pay76]
  simp only [(p72 h138) _ _, (p73 h235) _ _, h138 _ _, h235 _ _ _, ups]
  all_goals rfl

theorem p77 {v0 : BitVec 32} (h0 : v0 = BitVec.ofNat 32 T.val) :
    Is2 (k0_pay77 v0) (fun r _ => ((tk T r).val : ℝ) + 1) := by
  intro r l
  pointwise [k0_pay77]
  rw [h0, tok_count]

theorem p78 :
    Is2 (k0_pay78 (F := Ideal)) (fun _ _ => 16) := by
  intro r l
  pointwise [k0_pay78]
  exact c_16

theorem p79 {v246 : FVec Ideal S512x128 .f32} {v253 : FVec Ideal S512x1 .f32} {v254 : FVec Ideal S512x1 .f32} (h246 : Tl T v246 (dp P K 3)) (h253 : Is2 v253 (fun r _ => ((tk T r).val : ℝ) + 1)) (h254 : Is2 v254 (fun _ _ => 16)) :
    Tl T (k0_pay79 v246 v253 v254) (qn P K 3) := by
  intro r l
  pointwise [k0_pay79]
  simp only [h246 _ _, h253 _ _, h254 _ _, ups]
  rw [show ((16 : ℝ) : EReal) = ((win 3 : ℝ) : EReal) from by rw [show win 3 = 16 from rfl]; norm_num, inv_cnt, ← EReal.coe_mul]
  rfl

theorem p80 {A : Fin 8 → Fin 512 → ℝ} {v66 : FVec Ideal S512x512 .f32} {v145 : FVec Ideal S512x128 .f32} {v176 : FVec Ideal S512x128 .f32} {v207 : FVec Ideal S512x128 .f32} {v238 : FVec Ideal S512x128 .f32} {v263 : FVec Ideal S1x8x512 .f32} (h66 : Tl T v66 (dyp P K)) (h145 : Tl T v145 (pm P K 0)) (h176 : Tl T v176 (pm P K 1)) (h207 : Tl T v207 (pm P K 2)) (h238 : Tl T v238 (pm P K 3)) (h263 : Sm v263 (A)) :
    Sm (k0_pay80 v66 v145 v176 v207 v238 v263) (add8 T A (qc P K 3)) := by
  intro i r l
  pointwise [k0_pay80]
  simp only [h66 _ _, h145 _ _, h176 _ _, h207 _ _, h238 _ _, h263 _ _ _, ups]
  rw [Finset.sum_congr rfl fun x _ => congrArg _ (cat4 (fun j k => pm P K j (tk T ⟨x.val * 8 + r.val, by omega⟩) k) l)]
  simp only [ups]
  all_goals rfl

theorem p81 {v153 : FVec Ideal S512x128 .f32} {v273 : FVec Ideal S512x128 .f32} {v274 : FVec Ideal S512x128 .f32} (h153 : Tl T v153 (dp P K 0)) (h273 : Tl T v273 (fun t => nx (qn P K 0) t 0)) (h274 : Tl T v274 (fun t => nx (qn P K 0) t 1)) :
    Tl T (k0_pay81 v153 v273 v274) (dzp P K 0) := by
  intro r l
  pointwise [k0_pay81]
  simp only [h153 _ _, h273 _ _, h274 _ _, ups]
  all_goals (unfold dzp; rw [show win 0 = 2 from rfl]; simp only [Finset.sum_range_succ, Finset.sum_range_zero, zero_add])

theorem p82 {v184 : FVec Ideal S512x128 .f32} {v277 : FVec Ideal S512x128 .f32} {v278 : FVec Ideal S512x128 .f32} {v280 : FVec Ideal S512x128 .f32} {v282 : FVec Ideal S512x128 .f32} (h184 : Tl T v184 (dp P K 1)) (h277 : Tl T v277 (fun t => nx (qn P K 1) t 0)) (h278 : Tl T v278 (fun t => nx (qn P K 1) t 1)) (h280 : Tl T v280 (fun t => nx (qn P K 1) t 2)) (h282 : Tl T v282 (fun t => nx (qn P K 1) t 3)) :
    Tl T (k0_pay82 v184 v277 v278 v280 v282) (dzp P K 1) := by
  intro r l
  pointwise [k0_pay82]
  simp only [h184 _ _, h277 _ _, h278 _ _, h280 _ _, h282 _ _, ups]
  all_goals (unfold dzp; rw [show win 1 = 4 from rfl]; simp only [Finset.sum_range_succ, Finset.sum_range_zero, zero_add])

theorem p83 {v215 : FVec Ideal S512x128 .f32} {v285 : FVec Ideal S512x128 .f32} {v286 : FVec Ideal S512x128 .f32} {v288 : FVec Ideal S512x128 .f32} {v290 : FVec Ideal S512x128 .f32} {v292 : FVec Ideal S512x128 .f32} {v294 : FVec Ideal S512x128 .f32} {v296 : FVec Ideal S512x128 .f32} {v298 : FVec Ideal S512x128 .f32} (h215 : Tl T v215 (dp P K 2)) (h285 : Tl T v285 (fun t => nx (qn P K 2) t 0)) (h286 : Tl T v286 (fun t => nx (qn P K 2) t 1)) (h288 : Tl T v288 (fun t => nx (qn P K 2) t 2)) (h290 : Tl T v290 (fun t => nx (qn P K 2) t 3)) (h292 : Tl T v292 (fun t => nx (qn P K 2) t 4)) (h294 : Tl T v294 (fun t => nx (qn P K 2) t 5)) (h296 : Tl T v296 (fun t => nx (qn P K 2) t 6)) (h298 : Tl T v298 (fun t => nx (qn P K 2) t 7)) :
    Tl T (k0_pay83 v215 v285 v286 v288 v290 v292 v294 v296 v298) (dzp P K 2) := by
  intro r l
  pointwise [k0_pay83]
  simp only [h215 _ _, h285 _ _, h286 _ _, h288 _ _, h290 _ _, h292 _ _, h294 _ _, h296 _ _, h298 _ _, ups]
  all_goals (unfold dzp; rw [show win 2 = 8 from rfl]; simp only [Finset.sum_range_succ, Finset.sum_range_zero, zero_add])

theorem p84 {v301 : FVec Ideal S512x128 .f32} {v302 : FVec Ideal S512x128 .f32} {v304 : FVec Ideal S512x128 .f32} {v306 : FVec Ideal S512x128 .f32} {v308 : FVec Ideal S512x128 .f32} {v310 : FVec Ideal S512x128 .f32} {v312 : FVec Ideal S512x128 .f32} {v314 : FVec Ideal S512x128 .f32} (h301 : Tl T v301 (fun t => nx (qn P K 3) t 0)) (h302 : Tl T v302 (fun t => nx (qn P K 3) t 1)) (h304 : Tl T v304 (fun t => nx (qn P K 3) t 2)) (h306 : Tl T v306 (fun t => nx (qn P K 3) t 3)) (h308 : Tl T v308 (fun t => nx (qn P K 3) t 4)) (h310 : Tl T v310 (fun t => nx (qn P K 3) t 5)) (h312 : Tl T v312 (fun t => nx (qn P K 3) t 6)) (h314 : Tl T v314 (fun t => nx (qn P K 3) t 7)) :
    Tl T (k0_pay84 v301 v302 v304 v306 v308 v310 v312 v314) (fun t k => ∑ s ∈ Finset.range 8, nx (qn P K 3) t s k) := by
  intro r l
  pointwise [k0_pay84]
  simp only [h301 _ _, h302 _ _, h304 _ _, h306 _ _, h308 _ _, h310 _ _, h312 _ _, h314 _ _, ups]
  all_goals simp only [Finset.sum_range_succ, Finset.sum_range_zero, zero_add]

theorem p85 {w : Fin 16 → Fin 512 → ℝ} {v333 : FVec Ideal S16x512 .f32} (h333 : Is2 v333 (w)) :
    Is2 (k0_pay85 v333) (w) := by
  intro r l
  pointwise [k0_pay85]
  simp only [h333 _ _, ups]
  all_goals rfl

theorem p86 {v81 : FVec Ideal S512x512 .f32} (h81 : Tl T v81 (dzb P K)) :
    Tl T (k0_pay86 v81) (dz P K 0) := by
  intro r l
  pointwise [k0_pay86]
  simp only [h81 _ _, ups]
  all_goals rfl

theorem p87 {v134 : FVec Ideal S512x512 .f32} (h134 : Tl T v134 (dzc P K)) :
    Tl T (k0_pay87 v134) (dz P K 1) := by
  intro r l
  pointwise [k0_pay87]
  simp only [h134 _ _, ups]
  all_goals rfl

theorem p88 {v135 : FVec Ideal S512x512 .f32} (h135 : Tl T v135 (dzv P K)) :
    Tl T (k0_pay88 v135) (dz P K 2) := by
  intro r l
  pointwise [k0_pay88]
  simp only [h135 _ _, ups]
  all_goals rfl

theorem p89 {v246 : FVec Ideal S512x128 .f32} {v276 : FVec Ideal S512x128 .f32} {v284 : FVec Ideal S512x128 .f32} {v300 : FVec Ideal S512x128 .f32} {v315 : FVec Ideal S512x128 .f32} {v316 : FVec Ideal S512x128 .f32} {v318 : FVec Ideal S512x128 .f32} {v320 : FVec Ideal S512x128 .f32} {v322 : FVec Ideal S512x128 .f32} {v324 : FVec Ideal S512x128 .f32} {v326 : FVec Ideal S512x128 .f32} {v328 : FVec Ideal S512x128 .f32} {v330 : FVec Ideal S512x128 .f32} (h246 : Tl T v246 (dp P K 3)) (h276 : Tl T v276 (dzp P K 0)) (h284 : Tl T v284 (dzp P K 1)) (h300 : Tl T v300 (dzp P K 2)) (h315 : Tl T v315 (fun t k => ∑ s ∈ Finset.range 8, nx (qn P K 3) t s k)) (h316 : Tl T v316 (fun t => nx (qn P K 3) t 8)) (h318 : Tl T v318 (fun t => nx (qn P K 3) t 9)) (h320 : Tl T v320 (fun t => nx (qn P K 3) t 10)) (h322 : Tl T v322 (fun t => nx (qn P K 3) t 11)) (h324 : Tl T v324 (fun t => nx (qn P K 3) t 12)) (h326 : Tl T v326 (fun t => nx (qn P K 3) t 13)) (h328 : Tl T v328 (fun t => nx (qn P K 3) t 14)) (h330 : Tl T v330 (fun t => nx (qn P K 3) t 15)) :
    Tl T (k0_pay89 v246 v276 v284 v300 v315 v316 v318 v320 v322 v324 v326 v328 v330) (dz P K 3) := by
  intro r l
  pointwise [k0_pay89]
  simp only [h246 _ _, h276 _ _, h284 _ _, h300 _ _, h315 _ _, h316 _ _, h318 _ _, h320 _ _, h322 _ _, h324 _ _, h326 _ _, h328 _ _, h330 _ _, ups]
  simp only [dzp3]
  exact cat4 (fun j k => dzp P K j (tk T r) k) l

theorem p90 :
    Is2 (k0_pay90 (F := Ideal)) (fun _ _ => 0) := by
  intro r l
  pointwise [k0_pay90]
  simp only [ups]
  all_goals rfl

theorem p91 {v81 : FVec Ideal S512x512 .f32} (h81 : Tl T v81 (dzb P K)) :
    Is3 (k0_pay91 v81) (fun _ r l => dz P K 0 (tk T r) l) := by
  intro i r l
  pointwise [k0_pay91]
  simp only [(p86 h81) _ _, h81 _ _, ups]
  all_goals rfl

theorem p92 {v81 : FVec Ideal S512x512 .f32} {v346 : FVec Ideal S1x1024x512 .bf16} (h81 : Tl T v81 (dzb P K)) (h346 : Is3 v346 (fun _ c l => P.wi c (zx 0 l))) :
    Tl T (k0_pay92 v81 v346) (dhj P K 0) := by
  intro r l
  pointwise [k0_pay92]
  simp only [(p86 h81) _ _, h81 _ _, h346 _ _ _, ups]
  all_goals rfl

theorem p93 {v338 : FVec Ideal S512x512 .bf16} (h338 : Tl T v338 (dz P K 1)) :
    Is3 (k0_pay93 v338) (fun _ r l => dz P K 1 (tk T r) l) := by
  intro i r l
  pointwise [k0_pay93]
  simp only [h338 _ _, ups]
  all_goals rfl

theorem p94 {v339 : FVec Ideal S512x512 .bf16} (h339 : Tl T v339 (dz P K 2)) :
    Is3 (k0_pay94 v339) (fun _ r l => dz P K 2 (tk T r) l) := by
  intro i r l
  pointwise [k0_pay94]
  simp only [h339 _ _, ups]
  all_goals rfl

theorem p95 {v341 : FVec Ideal S512x512 .bf16} (h341 : Tl T v341 (dz P K 3)) :
    Is3 (k0_pay95 v341) (fun _ r l => dz P K 3 (tk T r) l) := by
  intro i r l
  pointwise [k0_pay95]
  simp only [h341 _ _, ups]
  all_goals rfl

theorem p96 {v338 : FVec Ideal S512x512 .bf16} {v339 : FVec Ideal S512x512 .bf16} {v341 : FVec Ideal S512x512 .bf16} {v342 : FVec Ideal S512x1024 .f32} {v348 : FVec Ideal S512x1024 .f32} {v353 : FVec Ideal S1x1024x512 .bf16} {v360 : FVec Ideal S1x1024x512 .bf16} {v367 : FVec Ideal S1x1024x512 .bf16} (h338 : Tl T v338 (dz P K 1)) (h339 : Tl T v339 (dz P K 2)) (h341 : Tl T v341 (dz P K 3)) (h342 : Is2 v342 (fun _ _ => 0)) (h348 : Tl T v348 (dhj P K 0)) (h353 : Is3 v353 (fun _ c l => P.wi c (zx 1 l))) (h360 : Is3 v360 (fun _ c l => P.wi c (zx 2 l))) (h367 : Is3 v367 (fun _ c l => P.wi c (zx 3 l))) :
    Tl T (k0_pay96 v338 v339 v341 v342 v348 v353 v360 v367) (dh P K) := by
  intro r l
  pointwise [k0_pay96]
  simp only [h338 _ _, h339 _ _, h341 _ _, h342 _ _, h348 _ _, h353 _ _ _, h360 _ _ _, h367 _ _ _, ups]
  all_goals (rw [zero_add]; rfl)

theorem p97 {v11 : FVec Ideal S1x1024 .f32} {v55 : FVec Ideal S512x1024 .f32} {v338 : FVec Ideal S512x512 .bf16} {v339 : FVec Ideal S512x512 .bf16} {v341 : FVec Ideal S512x512 .bf16} {v342 : FVec Ideal S512x1024 .f32} {v348 : FVec Ideal S512x1024 .f32} {v353 : FVec Ideal S1x1024x512 .bf16} {v360 : FVec Ideal S1x1024x512 .bf16} {v367 : FVec Ideal S1x1024x512 .bf16} (h11 : Is2 v11 (fun _ c => P.sc c)) (h55 : Tl T v55 (dr P K)) (h338 : Tl T v338 (dz P K 1)) (h339 : Tl T v339 (dz P K 2)) (h341 : Tl T v341 (dz P K 3)) (h342 : Is2 v342 (fun _ _ => 0)) (h348 : Tl T v348 (dhj P K 0)) (h353 : Is3 v353 (fun _ c l => P.wi c (zx 1 l))) (h360 : Is3 v360 (fun _ c l => P.wi c (zx 2 l))) (h367 : Is3 v367 (fun _ c l => P.wi c (zx 3 l))) :
    Tl T (k0_pay97 v11 v55 v338 v339 v341 v342 v348 v353 v360 v367) (gxo P K) := by
  intro r l
  pointwise [k0_pay97]
  simp only [(p96 h338 h339 h341 h342 h348 h353 h360 h367) _ _, h11 _ _, h55 _ _, h338 _ _, h339 _ _, h341 _ _, h342 _ _, h348 _ _, h353 _ _ _, h360 _ _ _, h367 _ _ _, ups]
  all_goals rfl

theorem p98 {A : Fin 8 → Fin 1024 → ℝ} {v9 : FVec Ideal S512x1024 .f32} {v36 : FVec Ideal S512x1024 .f32} {v379 : FVec Ideal S1x8x1024 .f32} (h9 : Tl T v9 (K.dx)) (h36 : Tl T v36 (fun t => xhat (res P K t))) (h379 : Sm v379 (A)) :
    Sm (k0_pay98 v9 v36 v379) (add8 T A (qd P K 0)) := by
  intro i r l
  pointwise [k0_pay98]
  simp only [h9 _ _, h36 _ _, h379 _ _ _, ups]
  all_goals rfl

theorem p99 {A : Fin 8 → Fin 1024 → ℝ} {v9 : FVec Ideal S512x1024 .f32} {v388 : FVec Ideal S1x8x1024 .f32} (h9 : Tl T v9 (K.dx)) (h388 : Sm v388 (A)) :
    Sm (k0_pay99 v9 v388) (add8 T A (qd P K 1)) := by
  intro i r l
  pointwise [k0_pay99]
  simp only [h9 _ _, h388 _ _ _, ups]
  all_goals rfl

theorem p100 {A : Fin 8 → Fin 1024 → ℝ} {v7 : FVec Ideal S512x1024 .f32} {v55 : FVec Ideal S512x1024 .f32} {v396 : FVec Ideal S1x8x1024 .f32} (h7 : Tl T v7 (K.mix)) (h55 : Tl T v55 (dr P K)) (h396 : Sm v396 (A)) :
    Sm (k0_pay100 v7 v55 v396) (add8 T A (qd P K 2)) := by
  intro i r l
  pointwise [k0_pay100]
  simp only [h7 _ _, h55 _ _, h396 _ _ _, ups]
  all_goals rfl

theorem p101 {A : Fin 8 → Fin 1024 → ℝ} {v5 : FVec Ideal S512x1024 .f32} {v370 : FVec Ideal S512x1024 .f32} {v405 : FVec Ideal S1x8x1024 .f32} (h5 : Tl T v5 (K.x)) (h370 : Tl T v370 (dh P K)) (h405 : Sm v405 (A)) :
    Is2 (k0_pay101 v5 v370 v405) (add8 T A (qd P K 3)) := by
  intro r l
  pointwise [k0_pay101]
  simp only [h5 _ _, h370 _ _, h405 _ _ _, ups]
  all_goals rfl

end Cert.BwdIdeal.Pay

end
-- ==== Proof.BwdBuf.lean ====
/- How a tile's rows lie in a buffer of 528 rows: 512 of the tile and the first 16 of the tile after it. -/
module

public import Idealize.ShloMosaic.Lib.WritesUnit
public import Idealize.ShloMosaic.Lib.Pipeline.ReadBack
public import proofs.«01_k».proof.Proof.BwdPay

@[expose] public section

noncomputable section

open Idealize.ShloMosaic Idealize.ShloMosaic.TcCoe Idealize.SL.Sem

namespace Cert.BwdIdeal.Pay

open Cert.BwdIdeal Cert.BwdIdeal.Gen Cert.RealLift Cert.BwdMath

variable {P : Par} {K : Tok} {T : Fin 16} {F : Fin 8192 → Fin 512 → ℝ}

/-- The scaled pool gradients of the four groups side by side. -/
def qa (P : Par) (K : Tok) : Fin 8192 → Fin 512 → ℝ := fun t l => qn P K (gq l) t (gr l)

theorem nx_tk {n : ℕ} {f : Fin 8192 → Fin n → ℝ} (r : Fin 512) (s : ℕ) (l : Fin n) : nx f (tk T 0) (r.val + s) l = nx f (tk T r) s l := by
  unfold nx tk
  simp only [Fin.val_zero, add_zero, add_assoc]

theorem nx_zero {n : ℕ} {f : Fin 8192 → Fin n → ℝ} (t : Fin 8192) (l : Fin n) : nx f t 0 l = f t l := by
  unfold nx
  rw [dif_pos (by omega)]; rfl

theorem nx_qa (g : Fin 4) (k : Fin 128) (t : Fin 8192) (s : ℕ) : nx (qa P K) t s (gx g k) = nx (qn P K g) t s k := by
  have e1 : gq (gx g k) = g := Fin.ext (by simp only [gq, gx]; omega)
  have e2 : gr (gx g k) = k := Fin.ext (by simp only [gr, gx]; omega)
  unfold nx qa
  rw [e1, e2]

/-- The sixteen rows past the tile's own. -/
def Halo (T : Fin 16) (F : Fin 8192 → Fin 512 → ℝ) (X : FVec Ideal S528x512 .f32) : Prop :=
  ∀ (r : Fin 16) (l : Fin 512), X (ix2 ⟨512 + r.val, by omega⟩ l) = ((nx F (tk T 0) (512 + r.val) l : ℝ) : EReal)
/-- The tile's own rows. -/
def Low (T : Fin 16) (F : Fin 8192 → Fin 512 → ℝ) (X : FVec Ideal S528x512 .f32) : Prop :=
  ∀ (r : Fin 528) (_ : r.val < 512) (l : Fin 512), X (ix2 r l) = ((nx F (tk T 0) r.val l : ℝ) : EReal)
/-- What a point leaves in those rows for the next. -/
def Next (T : Fin 16) (F : Fin 8192 → Fin 512 → ℝ) (X : FVec Ideal S528x512 .f32) : Prop :=
  ∀ (r : Fin 16) (l : Fin 512), X (ix2 ⟨512 + r.val, by omega⟩ l) = ((nx F (tk T 0) r.val l : ℝ) : EReal)

theorem Next.halo {T' : Fin 16} (h : T'.val + 1 = T.val) {X : FVec Ideal S528x512 .f32} (H : Next T F X) : Halo T' F X := fun r l =>
  (H r l).trans (congrArg (fun x : ℝ => (x : EReal)) (by
    unfold nx tk
    simp only [Fin.val_zero, add_zero, show T.val * 512 + r.val = T'.val * 512 + (512 + r.val) by omega]))

section

variable {κ : Kind} {sp : Space} (v : View sig κ sp S528x512 .f32) (f : v.ty.Contents (Elt Ideal))

/-- A tile's rows stored over a buffer. -/
theorem low1 {L : List (View.Piece (Elt Ideal) S528x512 .f32)} {w : FVec Ideal S512x512 .f32} (hw : Tl T w F) {inb : ∀ a, ![0, 0] a + ![512, 512] a ≤ S528x512.size a} :
    Low T F (v.read (Elt Ideal) (v.writes (Elt Ideal) f ((⟨Rect.unit ![0, 0] ![512, 512] inb, w⟩ : View.Piece (Elt Ideal) S528x512 .f32) :: L))) := by
  intro r h l
  refine (View.read_writes_cons_rows_of_mem v f inb w L (ix2 r l) (ix2 ⟨r.val, h⟩ l) rfl (Nat.zero_add _).symm rfl).trans ?_
  rw [hw]
  exact congrArg (fun x : ℝ => (x : EReal)) ((nx_zero _ _).symm.trans (nx_tk (⟨r.val, h⟩ : Fin 512) 0 l).symm)

/-- A tile's rows stored over a buffer that holds the rows past them. -/
theorem over1 {L : List (View.Piece (Elt Ideal) S528x512 .f32)} (hf : Halo T F (v.read (Elt Ideal) (v.writes (Elt Ideal) f L)))
    {w : FVec Ideal S512x512 .f32} (hw : Tl T w F) {inb : ∀ a, ![0, 0] a + ![512, 512] a ≤ S528x512.size a} :
    Is2 (φ := .f32) (v.read (Elt Ideal) (v.writes (Elt Ideal) f ((⟨Rect.unit ![0, 0] ![512, 512] inb, w⟩ : View.Piece (Elt Ideal) S528x512 .f32) :: L)))
      fun r l => nx F (tk T 0) r.val l := by
  intro r l
  by_cases h : r.val < 512
  · exact low1 v f hw r h l
  · refine (View.read_writes_cons_rows_of_not_mem v f inb w L (ix2 r l) rfl rfl (.inr (by show 0 + 512 ≤ r.val; omega))).trans ?_
    have e : r = ⟨512 + (⟨r.val - 512, by omega⟩ : Fin 16).val, by omega⟩ := Fin.ext (by show r.val = 512 + (r.val - 512); omega)
    have := hf ⟨r.val - 512, by omega⟩ l
    rw [e]; exact this

/-- One group's columns of a tile's rows, stored over a buffer. -/
theorem over_col {L : List (View.Piece (Elt Ideal) S528x512 .f32)} {w : FVec Ideal S512x128 .f32} {o : ℕ}
    {inb : ∀ a, ![0, o] a + ![512, 128] a ≤ S528x512.size a} (r : Fin 528) (l : Fin 512) :
    (∀ (h : r.val < 512) (h' : o ≤ l.val ∧ l.val < o + 128), v.read (Elt Ideal) (v.writes (Elt Ideal) f ((⟨Rect.unit ![0, o] ![512, 128] inb, w⟩ : View.Piece (Elt Ideal) S528x512 .f32) :: L)) (ix2 r l) = w (ix2 ⟨r.val, h⟩ ⟨l.val - o, by omega⟩))
    ∧ ((512 ≤ r.val ∨ l.val < o ∨ o + 128 ≤ l.val) → v.read (Elt Ideal) (v.writes (Elt Ideal) f ((⟨Rect.unit ![0, o] ![512, 128] inb, w⟩ : View.Piece (Elt Ideal) S528x512 .f32) :: L)) (ix2 r l) = v.read (Elt Ideal) (v.writes (Elt Ideal) f L) (ix2 r l)) := by
  refine ⟨fun h h' => ?_, fun h => ?_⟩
  · refine View.read_writes_cons_unit_of_mem v f inb w L (ix2 r l) (ix2 ⟨r.val, h⟩ ⟨l.val - o, by omega⟩) rfl (Fin.forall_fin_two.mpr ⟨(Nat.zero_add _).symm, ?_⟩)
    show l.val = o + (l.val - o); omega
  · rcases h with h | h
    · exact View.read_writes_cons_unit_of_not_mem v f inb w L (ix2 r l) rfl (0 : Fin 2) (.inr (by show 0 + 512 ≤ r.val; omega))
    · exact View.read_writes_cons_unit_of_not_mem v f inb w L (ix2 r l) rfl (1 : Fin 2) h

/-- The four groups' columns stored over a buffer. -/
theorem low4 {L : List (View.Piece (Elt Ideal) S528x512 .f32)}
    {w0 w1 w2 w3 : FVec Ideal S512x128 .f32} (h0 : Tl T w0 (qn P K 0)) (h1 : Tl T w1 (qn P K 1)) (h2 : Tl T w2 (qn P K 2)) (h3 : Tl T w3 (qn P K 3))
    {i0 : ∀ a, ![0, 0] a + ![512, 128] a ≤ S528x512.size a} {i1 : ∀ a, ![0, 128] a + ![512, 128] a ≤ S528x512.size a}
    {i2 : ∀ a, ![0, 256] a + ![512, 128] a ≤ S528x512.size a} {i3 : ∀ a, ![0, 384] a + ![512, 128] a ≤ S528x512.size a} :
    Low T (qa P K) (v.read (Elt Ideal) (v.writes (Elt Ideal) f ((⟨Rect.unit ![0, 384] ![512, 128] i3, w3⟩ : View.Piece (Elt Ideal) S528x512 .f32)
      :: ⟨Rect.unit ![0, 256] ![512, 128] i2, w2⟩ :: ⟨Rect.unit ![0, 128] ![512, 128] i1, w1⟩ :: ⟨Rect.unit ![0, 0] ![512, 128] i0, w0⟩ :: L))) := by
  intro r h l
  have e (g : Fin 4) (hg : g.val * 128 ≤ l.val ∧ l.val < g.val * 128 + 128) :
      nx (qa P K) (tk T 0) r.val l = qn P K g (tk T ⟨r.val, h⟩) ⟨l.val - g.val * 128, by omega⟩ := by
    have el : l = gx g ⟨l.val - g.val * 128, by omega⟩ := Fin.ext (by simp only [gx]; omega)
    conv_lhs => rw [el, show r.val = (⟨r.val, h⟩ : Fin 512).val + 0 from rfl, nx_tk, nx_qa, nx_zero]
  have hl : l.val < 512 := l.isLt
  rcases (by omega : 384 ≤ l.val ∨ (256 ≤ l.val ∧ l.val < 384) ∨ (128 ≤ l.val ∧ l.val < 256) ∨ l.val < 128) with k | k | k | k
  · rw [(over_col v f (o := 384) (inb := i3) r l).1 h (by omega), h3]
    exact congrArg (fun x : ℝ => (x : EReal)) (e 3 (by show 384 ≤ l.val ∧ l.val < 384 + 128; omega)).symm
  · rw [(over_col v f (o := 384) (inb := i3) r l).2 (by omega), (over_col v f (o := 256) (inb := i2) r l).1 h (by omega), h2]
    exact congrArg (fun x : ℝ => (x : EReal)) (e 2 (by show 256 ≤ l.val ∧ l.val < 256 + 128; omega)).symm
  · rw [(over_col v f (o := 384) (inb := i3) r l).2 (by omega), (over_col v f (o := 256) (inb := i2) r l).2 (by omega),
      (over_col v f (o := 128) (inb := i1) r l).1 h (by omega), h1]
    exact congrArg (fun x : ℝ => (x : EReal)) (e 1 (by show 128 ≤ l.val ∧ l.val < 128 + 128; omega)).symm
  · rw [(over_col v f (o := 384) (inb := i3) r l).2 (by omega), (over_col v f (o := 256) (inb := i2) r l).2 (by omega),
      (over_col v f (o := 128) (inb := i1) r l).2 (by omega), (over_col v f (o := 0) (inb := i0) r l).1 h (by omega), h0]
    exact congrArg (fun x : ℝ => (x : EReal)) (e 0 (by show 0 ≤ l.val ∧ l.val < 0 + 128; omega)).symm

/-- The four groups' columns stored over a buffer that holds the rows past the tile's. -/
theorem over4 {L : List (View.Piece (Elt Ideal) S528x512 .f32)} (hf : Halo T (qa P K) (v.read (Elt Ideal) (v.writes (Elt Ideal) f L)))
    {w0 w1 w2 w3 : FVec Ideal S512x128 .f32} (h0 : Tl T w0 (qn P K 0)) (h1 : Tl T w1 (qn P K 1)) (h2 : Tl T w2 (qn P K 2)) (h3 : Tl T w3 (qn P K 3))
    {i0 : ∀ a, ![0, 0] a + ![512, 128] a ≤ S528x512.size a} {i1 : ∀ a, ![0, 128] a + ![512, 128] a ≤ S528x512.size a}
    {i2 : ∀ a, ![0, 256] a + ![512, 128] a ≤ S528x512.size a} {i3 : ∀ a, ![0, 384] a + ![512, 128] a ≤ S528x512.size a} :
    Is2 (φ := .f32) (v.read (Elt Ideal) (v.writes (Elt Ideal) f ((⟨Rect.unit ![0, 384] ![512, 128] i3, w3⟩ : View.Piece (Elt Ideal) S528x512 .f32)
      :: ⟨Rect.unit ![0, 256] ![512, 128] i2, w2⟩ :: ⟨Rect.unit ![0, 128] ![512, 128] i1, w1⟩ :: ⟨Rect.unit ![0, 0] ![512, 128] i0, w0⟩ :: L)))
      fun r l => nx (qa P K) (tk T 0) r.val l := by
  intro r l
  by_cases h : r.val < 512
  · exact low4 v f h0 h1 h2 h3 r h l
  · rw [(over_col v f (o := 384) (inb := i3) r l).2 (by omega), (over_col v f (o := 256) (inb := i2) r l).2 (by omega),
      (over_col v f (o := 128) (inb := i1) r l).2 (by omega), (over_col v f (o := 0) (inb := i0) r l).2 (by omega)]
    have e : r = ⟨512 + (⟨r.val - 512, by omega⟩ : Fin 16).val, by omega⟩ := Fin.ext (by show r.val = 512 + (r.val - 512); omega)
    have := hf ⟨r.val - 512, by omega⟩ l
    rw [e]; exact this

/-- Sixteen rows stored past the tile's. -/
theorem over_halo {L : List (View.Piece (Elt Ideal) S528x512 .f32)} {w : FVec Ideal S16x512 .f32} {inb : ∀ a, ![512, 0] a + ![16, 512] a ≤ S528x512.size a}
    (r : Fin 16) (l : Fin 512) :
    v.read (Elt Ideal) (v.writes (Elt Ideal) f ((⟨Rect.unit ![512, 0] ![16, 512] inb, w⟩ : View.Piece (Elt Ideal) S528x512 .f32) :: L)) (ix2 ⟨512 + r.val, by omega⟩ l) = w (ix2 r l) :=
  View.read_writes_cons_rows_of_mem v f inb w L (ix2 ⟨512 + r.val, by omega⟩ l) (ix2 r l) rfl rfl rfl

/-- Past the last tile there is nothing. -/
theorem over_zero {L : List (View.Piece (Elt Ideal) S528x512 .f32)} {w : FVec Ideal S16x512 .f32} {inb : ∀ a, ![512, 0] a + ![16, 512] a ≤ S528x512.size a}
    (hT : T.val = 15) (hw : Is2 w fun _ _ => 0) :
    Halo T F (v.read (Elt Ideal) (v.writes (Elt Ideal) f ((⟨Rect.unit ![512, 0] ![16, 512] inb, w⟩ : View.Piece (Elt Ideal) S528x512 .f32) :: L))) := fun r l => by
  rw [over_halo v f, hw]
  unfold nx
  rw [dif_neg]
  simp only [tk, hT]; omega

end

theorem canon_halo {L : List (View.Piece (Elt Ideal) S528x512 .f32)} {w : FVec Ideal S16x512 .f32} {inb : ∀ a, ![512, 0] a + ![16, 512] a ≤ S528x512.size a}
    (hw : Is2 w fun r l => nx F (tk T 0) r.val l) :
    Next T F (View.canon ((⟨Rect.unit ![512, 0] ![16, 512] inb, w⟩ : View.Piece (Elt Ideal) S528x512 .f32) :: L)) := fun r l => by
  rw [← View.read_writes_junk_eq_canon (View.whole cc0_scratch0), over_halo, hw]

/-- The first point's buffers. -/
theorem canon1 {w : FVec Ideal S512x512 .f32} {z : FVec Ideal S16x512 .f32} (hT : T.val = 15) (hw : Tl T w F) (hz : Is2 z fun _ _ => 0)
    {inb : ∀ a, ![0, 0] a + ![512, 512] a ≤ S528x512.size a} {inz : ∀ a, ![512, 0] a + ![16, 512] a ≤ S528x512.size a} :
    Is2 (φ := .f32) (View.canon [(⟨Rect.unit ![0, 0] ![512, 512] inb, w⟩ : View.Piece (Elt Ideal) S528x512 .f32), ⟨Rect.unit ![512, 0] ![16, 512] inz, z⟩])
      fun r l => nx F (tk T 0) r.val l := by
  rw [← View.read_writes_junk_eq_canon (View.whole cc0_scratch0)]
  exact over1 _ _ (over_zero _ _ hT hz) hw

theorem canon4 {w0 w1 w2 w3 : FVec Ideal S512x128 .f32} {z : FVec Ideal S16x512 .f32} (hT : T.val = 15)
    (h0 : Tl T w0 (qn P K 0)) (h1 : Tl T w1 (qn P K 1)) (h2 : Tl T w2 (qn P K 2)) (h3 : Tl T w3 (qn P K 3)) (hz : Is2 z fun _ _ => 0)
    {i0 : ∀ a, ![0, 0] a + ![512, 128] a ≤ S528x512.size a} {i1 : ∀ a, ![0, 128] a + ![512, 128] a ≤ S528x512.size a}
    {i2 : ∀ a, ![0, 256] a + ![512, 128] a ≤ S528x512.size a} {i3 : ∀ a, ![0, 384] a + ![512, 128] a ≤ S528x512.size a}
    {inz : ∀ a, ![512, 0] a + ![16, 512] a ≤ S528x512.size a} :
    Is2 (φ := .f32) (View.canon [(⟨Rect.unit ![0, 384] ![512, 128] i3, w3⟩ : View.Piece (Elt Ideal) S528x512 .f32), ⟨Rect.unit ![0, 256] ![512, 128] i2, w2⟩,
      ⟨Rect.unit ![0, 128] ![512, 128] i1, w1⟩, ⟨Rect.unit ![0, 0] ![512, 128] i0, w0⟩, ⟨Rect.unit ![512, 0] ![16, 512] inz, z⟩])
      fun r l => nx (qa P K) (tk T 0) r.val l := by
  rw [← View.read_writes_junk_eq_canon (View.whole cc0_scratch0)]
  exact over4 _ _ (over_zero _ _ hT hz) h0 h1 h2 h3

theorem canon1' {L : List (View.Piece (Elt Ideal) S528x512 .f32)} {w : FVec Ideal S512x512 .f32} (hw : Tl T w F) {inb : ∀ a, ![0, 0] a + ![512, 512] a ≤ S528x512.size a} :
    Low T F (View.canon ((⟨Rect.unit ![0, 0] ![512, 512] inb, w⟩ : View.Piece (Elt Ideal) S528x512 .f32) :: L)) := by
  rw [← View.read_writes_junk_eq_canon (View.whole cc0_scratch0)]
  exact low1 _ _ hw

theorem canon4' {L : List (View.Piece (Elt Ideal) S528x512 .f32)}
    {w0 w1 w2 w3 : FVec Ideal S512x128 .f32} (h0 : Tl T w0 (qn P K 0)) (h1 : Tl T w1 (qn P K 1)) (h2 : Tl T w2 (qn P K 2)) (h3 : Tl T w3 (qn P K 3))
    {i0 : ∀ a, ![0, 0] a + ![512, 128] a ≤ S528x512.size a} {i1 : ∀ a, ![0, 128] a + ![512, 128] a ≤ S528x512.size a}
    {i2 : ∀ a, ![0, 256] a + ![512, 128] a ≤ S528x512.size a} {i3 : ∀ a, ![0, 384] a + ![512, 128] a ≤ S528x512.size a} :
    Low T (qa P K) (View.canon ((⟨Rect.unit ![0, 384] ![512, 128] i3, w3⟩ : View.Piece (Elt Ideal) S528x512 .f32)
      :: ⟨Rect.unit ![0, 256] ![512, 128] i2, w2⟩ :: ⟨Rect.unit ![0, 128] ![512, 128] i1, w1⟩ :: ⟨Rect.unit ![0, 0] ![512, 128] i0, w0⟩ :: L)) := by
  rw [← View.read_writes_junk_eq_canon (View.whole cc0_scratch0)]
  exact low4 _ _ h0 h1 h2 h3

theorem low_of {X : FVec Ideal S528x512 .f32} (d : Is2 X fun r l => nx F (tk T 0) r.val l) : Low T F X := fun r _ l => d r l

/-- A load from a buffer, `s` rows on. -/
theorem ldD {X : FVec Ideal S528x512 .f32} (d : Is2 X fun r l => nx F (tk T 0) r.val l) (s : ℕ) (hs : s ≤ 16)
    (inb : ∀ a, ![s, 0] a + ![512, 512] a ≤ S528x512.size a) : Tl (φ := .f32) T (View.ld (Val := Elt Ideal) (e' := .f32) (X : FVec Ideal S528x512 .f32) (Rect.unit (s := S528x512) ![s, 0] ![512, 512] inb) : FVec Ideal S512x512 .f32) fun t => nx F t s := fun r l => by
  have e : (Rect.unit (s := S528x512) ![s, 0] ![512, 512] inb).idx (ix2 r l) = ix2 ⟨r.val + s, by omega⟩ l :=
    funext (Fin.forall_fin_two.mpr ⟨Fin.ext (by show (_ + _ * _ : ℕ) = _; simp; omega), Fin.ext (by show (_ + _ * _ : ℕ) = _; simp)⟩)
  show X _ = _
  rw [e, d]
  exact congrArg (fun x : ℝ => (x : EReal)) (nx_tk r s l)

theorem ldQ {X : FVec Ideal S528x512 .f32} (q : Is2 X fun r l => nx (qa P K) (tk T 0) r.val l) (g : Fin 4) (s : ℕ) (hs : s ≤ 16) {o : ℕ}
    (inb : ∀ a, ![s, o] a + ![512, 128] a ≤ S528x512.size a) (ho : g.val * 128 = o) : Tl (φ := .f32) T (View.ld (Val := Elt Ideal) (e' := .f32) (X : FVec Ideal S528x512 .f32) (Rect.unit (s := S528x512) ![s, o] ![512, 128] inb) : FVec Ideal S512x128 .f32) fun t => nx (qn P K g) t s := fun r l => by
  subst ho
  have e : (Rect.unit (s := S528x512) ![s, g.val * 128] ![512, 128] inb).idx (ix2 r l) = ix2 ⟨r.val + s, by omega⟩ (gx g l) :=
    funext (Fin.forall_fin_two.mpr ⟨Fin.ext (by show (_ + _ * _ : ℕ) = _; simp; omega), Fin.ext (by show (_ + _ * _ : ℕ) = _; simp [gx])⟩)
  show X _ = _
  rw [e, q]
  exact congrArg (fun x : ℝ => (x : EReal)) ((nx_tk r s (gx g l)).trans (nx_qa g l _ s))

theorem ldQ0 {X : FVec Ideal S528x512 .f32} (q : Low T (qa P K) X) (g : Fin 4) {o : ℕ}
    (inb : ∀ a, ![0, o] a + ![512, 128] a ≤ S528x512.size a) (ho : g.val * 128 = o) : Tl (φ := .f32) T (View.ld (Val := Elt Ideal) (e' := .f32) (X : FVec Ideal S528x512 .f32) (Rect.unit (s := S528x512) ![0, o] ![512, 128] inb) : FVec Ideal S512x128 .f32) fun t => nx (qn P K g) t 0 := fun r l => by
  subst ho
  have e : (Rect.unit (s := S528x512) ![0, g.val * 128] ![512, 128] inb).idx (ix2 r l) = ix2 ⟨r.val + 0, by omega⟩ (gx g l) :=
    funext (Fin.forall_fin_two.mpr ⟨Fin.ext (by show (_ + _ * _ : ℕ) = _; simp), Fin.ext (by show (_ + _ * _ : ℕ) = _; simp [gx])⟩)
  show X _ = _
  rw [e, q _ (by show r.val + 0 < 512; omega)]
  exact congrArg (fun x : ℝ => (x : EReal)) ((nx_tk r 0 (gx g l)).trans (nx_qa g l _ 0))

theorem ldH {X : FVec Ideal S528x512 .f32} (d : Low T F X)
    (inb : ∀ a, ![0, 0] a + ![16, 512] a ≤ S528x512.size a) : Is2 (φ := .f32) (View.ld (Val := Elt Ideal) (e' := .f32) (X : FVec Ideal S528x512 .f32) (Rect.unit (s := S528x512) ![0, 0] ![16, 512] inb) : FVec Ideal S16x512 .f32) fun r l => nx F (tk T 0) r.val l := fun r l => by
  have e : (Rect.unit (s := S528x512) ![0, 0] ![16, 512] inb).idx (ix2 r l) = ix2 ⟨r.val, by omega⟩ l :=
    funext (Fin.forall_fin_two.mpr ⟨Fin.ext (by show (_ + _ * _ : ℕ) = _; simp), Fin.ext (by show (_ + _ * _ : ℕ) = _; simp)⟩)
  show X _ = _
  rw [e, d _ (by show r.val < 512; omega)]

/-- A load after stores, as a load from what they leave. -/
theorem readCov_ld {sp : Space} {κ : Kind} {s : Shape} {e : EltTy} (v : View sig κ sp s e) (L : List (View.Piece (Elt Ideal) s e)) (r : Rect s) :
    v.readCov L r.toLoadRect = View.ld (View.canon L) r := View.readCov_eq_canon' v L _

end Cert.BwdIdeal.Pay

end
-- ==== Proof.BwdIns.lean ====
/- What the blocks of a grid point hold, and what each step of the token mixer's gradient makes of them. -/
module

public import proofs.«01_k».proof.Proof.Gen.BwdIdeal.Value
public import Idealize.ShloMosaic.Lib.Pipeline.ValueKit
public import Idealize.ShloMosaic.Lib.Pipeline.ReadBack
public import Idealize.ShloMosaic.Lib.Pointwise
public import proofs.«01_k».proof.Proof.BwdBuf

@[expose] public section

set_option maxRecDepth 16384

noncomputable section

open Idealize.ShloMosaic Idealize.ShloMosaic.TcCoe Idealize.SL.Sem

namespace Cert.BwdIdeal.Pay

open Cert.BwdIdeal Cert.BwdIdeal.Gen Cert.RealLift Cert.BwdMath

variable {m : (ℓ : Loc nD τ sig) → Buf (Elt Ideal) ℓ} {c : Dev nD} {t : Fin cfg0.N} {P : Par} {K : Tok} {T : Fin 16}

/-- The rows carried from the point before. -/
theorem unread0 {F : Fin 8192 → Fin 512 → ℝ} {X : FVec Ideal S528x512 .f32} (hX : (Memref.whole cc0_scratch0).IsWhole) (D : Halo T F X) :
    Halo T F (View.read (Elt Ideal) (View.whole cc0_scratch0) ((View.whole cc0_scratch0).writes (Elt Ideal) (hX.unread X) [])) := by
  show Halo T F (View.read (Elt Ideal) (View.whole cc0_scratch0) (hX.unread X))
  rw [read_unread_whole]; exact D
theorem unread1 {F : Fin 8192 → Fin 512 → ℝ} {X : FVec Ideal S528x512 .f32} (hX : (Memref.whole cc0_scratch1).IsWhole) (D : Halo T F X) :
    Halo T F (View.read (Elt Ideal) (View.whole cc0_scratch1) ((View.whole cc0_scratch1).writes (Elt Ideal) (hX.unread X) [])) := by
  show Halo T F (View.read (Elt Ideal) (View.whole cc0_scratch1) (hX.unread X))
  rw [read_unread_whole]; exact D

/-- Rows of partial sums, as one array. -/
def rows3 {a n k : ℕ} (F : Fin a → Fin n → Fin k → ℝ) : FVec Ideal ⟨3, ![a, n, k]⟩ .f32 := fun y => ((F (y 0) (y 1) (y 2) : ℝ) : EReal)

/-- A store of row `j` is a block of the array of rows. -/
theorem row3 {a n k : ℕ} (F : Fin a → Fin n → Fin k → ℝ) {j : ℕ} (hj : j < a) {v : FVec Ideal ⟨3, ![1, n, k]⟩ .f32}
    (inb : ∀ x, ![j, 0, 0] x + ![1, n, k] x ≤ (⟨3, ![a, n, k]⟩ : Shape).size x)
    (h : Is3 (φ := .f32) v fun _ => F ⟨j, hj⟩) (x : (⟨3, ![1, n, k]⟩ : Shape).Idx) :
    v x = rows3 F ((Rect.unit (s := ⟨3, ![a, n, k]⟩) ![j, 0, 0] ![1, n, k] inb).emb x) := by
  have h1 : (x 1 : ℕ) < n := (x 1).isLt
  have h2 : (x 2 : ℕ) < k := (x 2).isLt
  have h0 : (x 0 : ℕ) < 1 := (x 0).isLt
  rw [h.at x (j := 0) (r := ⟨x 1, h1⟩) (c := ⟨x 2, h2⟩) (by dsimp; omega) rfl rfl]
  have e0 : (Rect.unit (s := ⟨3, ![a, n, k]⟩) ![j, 0, 0] ![1, n, k] inb).emb x 0 = (⟨j, hj⟩ : Fin a) := Fin.ext (by show (_ + _ * _ : ℕ) = _; simp; try omega)
  have e1 : (Rect.unit (s := ⟨3, ![a, n, k]⟩) ![j, 0, 0] ![1, n, k] inb).emb x 1 = (⟨x 1, h1⟩ : Fin n) := Fin.ext (by show (_ + _ * _ : ℕ) = _; simp; try omega)
  have e2 : (Rect.unit (s := ⟨3, ![a, n, k]⟩) ![j, 0, 0] ![1, n, k] inb).emb x 2 = (⟨x 2, h2⟩ : Fin k) := Fin.ext (by show (_ + _ * _ : ℕ) = _; simp; try omega)
  unfold rows3
  rw [e0, e1, e2]

/-- A load of row `j`. -/
theorem ldRow {a n k : ℕ} {F : Fin a → Fin n → Fin k → ℝ} {X : FVec Ideal ⟨3, ![a, n, k]⟩ .f32} (h : Is3 (φ := .f32) X F) (j : ℕ) (hj : j < a)
    (inb : ∀ x, ![j, 0, 0] x + ![1, n, k] x ≤ (⟨3, ![a, n, k]⟩ : Shape).size x) :
    Is3 (φ := .f32) (View.ld (Val := Elt Ideal) (e' := .f32) (X : FVec Ideal ⟨3, ![a, n, k]⟩ .f32) (Rect.unit (s := ⟨3, ![a, n, k]⟩) ![j, 0, 0] ![1, n, k] inb) : FVec Ideal ⟨3, ![1, n, k]⟩ .f32) fun _ => F ⟨j, hj⟩ := fun i r l =>
  h.at _ (j := ⟨j, hj⟩) (r := r) (c := l) (by
    have h0 : i.val = 0 := by omega
    show j = (j + 1 * i.val : ℕ); omega) (by show r.val = (0 + 1 * r.val : ℕ); omega) (by show l.val = (0 + 1 * l.val : ℕ); omega)

/-- What the input blocks of the grid point that runs tile `T` hold. -/
structure Ins (m : (ℓ : Loc nD τ sig) → Buf (Elt Ideal) ℓ) (c : Dev nD) (t : Fin cfg0.N) (P : Par) (K : Tok) (T : Fin 16) : Prop where
  x : Tl (φ := .f32) T (iblk m c 0 t) K.x
  mix : Tl (φ := .f32) T (iblk m c 1 t) K.mix
  dx : Tl (φ := .f32) T (iblk m c 2 t) K.dx
  zs : ∀ (j : Fin 5) (r l : Fin 512), (iblk m c 3 t : FVec Ideal S512x2560 .bf16) (ix2 r ⟨512 * j.val + l.val, by omega⟩)
    = (((![K.zb, K.zc, K.zv, K.cv, K.pl] : Fin 5 → Fin 8192 → Fin 512 → ℝ) j (tk T r) l : ℝ) : EReal)
  sc : ∀ k : Fin 1024, (iblk m c 4 t : FVec Ideal S8x6144 .f32) (ix2 0 ⟨1024 + k.val, by omega⟩) = ((P.sc k : ℝ) : EReal)
  g : ∀ k : Fin 1024, (iblk m c 4 t : FVec Ideal S8x6144 .f32) (ix2 0 ⟨2048 + k.val, by omega⟩) = ((P.g k : ℝ) : EReal)
  cw : ∀ (j : Fin 3) (l : Fin 512), (iblk m c 5 t : FVec Ideal S8x512 .f32) (ix2 ⟨j.val, by omega⟩ l) = ((P.cw j l : ℝ) : EReal)
  wi : Is3 (φ := .bf16) (iblk m c 6 t) fun j c q => P.wi c (zx j q)
  wp : Is3 (φ := .f32) (iblk m c 7 t) fun j a b => P.wp j a b
  ps : Is2 (φ := .f32) (iblk m c 8 t) fun _ l => P.ps l
  wo : Is2 (φ := .bf16) (iblk m c 9 t) fun k c => P.wo k c
  lg : Is2 (φ := .f32) (iblk m c 10 t) fun _ k => P.lg k
  v0 : Scalar.subi 15#32 (BitVec.ofNat 32 (grid0.coords t 0).val) = BitVec.ofNat 32 T.val

namespace Ins

theorem l4 (I : Ins m c t P K T) : Tl (φ := .f32) T (iblk m c 0 t : FVec Ideal S512x1024 .f32) (K.x) := I.x
theorem l6 (I : Ins m c t P K T) : Tl (φ := .f32) T (iblk m c 1 t : FVec Ideal S512x1024 .f32) (K.mix) := I.mix
theorem l8 (I : Ins m c t P K T) : Tl (φ := .f32) T (iblk m c 2 t : FVec Ideal S512x1024 .f32) (K.dx) := I.dx
theorem l10 (I : Ins m c t P K T) : Is2 (φ := .f32) (View.ld (Val := Elt Ideal) (e' := .f32) (iblk m c 4 t : FVec Ideal S8x6144 .f32) (Rect.unit (s := S8x6144) ![0, 1024] ![1, 1024] inb_S8x6144_S1x1024_0_1024) : FVec Ideal S1x1024 .f32) (fun _ c => P.sc c) := by
  intro r c; obtain rfl : r = 0 := Subsingleton.elim _ _; pointwise []; exact I.sc c
theorem l12 (I : Ins m c t P K T) : Is2 (φ := .f32) (View.ld (Val := Elt Ideal) (e' := .f32) (iblk m c 4 t : FVec Ideal S8x6144 .f32) (Rect.unit (s := S8x6144) ![0, 2048] ![1, 1024] inb_S8x6144_S1x1024_0_2048) : FVec Ideal S1x1024 .f32) (fun _ c => P.g c) := by
  intro r c; obtain rfl : r = 0 := Subsingleton.elim _ _; pointwise []; exact I.g c
theorem l37 (I : Ins m c t P K T) : Is2 (φ := .f32) (iblk m c 10 t : FVec Ideal S1x1024 .f32) (fun _ c => P.lg c) := I.lg
theorem l62 (I : Ins m c t P K T) : Is2 (φ := .bf16) (iblk m c 9 t : FVec Ideal S1024x1024 .bf16) (P.wo) := I.wo
theorem l67 (I : Ins m c t P K T) : Tl (φ := .bf16) T (View.ld (Val := Elt Ideal) (e' := .bf16) (iblk m c 3 t : FVec Ideal S512x2560 .bf16) (Rect.unit (s := S512x2560) ![0, 0] ![512, 512] inb_S512x2560_S512x512_0_0) : FVec Ideal S512x512 .bf16) (K.zb) := by
  intro r l; pointwise []; exact (congrArg (fun y => (iblk m c 3 t : FVec Ideal S512x2560 .bf16) y) (by simp)).trans (I.zs 0 r l)
theorem l70 (I : Ins m c t P K T) : Tl (φ := .bf16) T (View.ld (Val := Elt Ideal) (e' := .bf16) (iblk m c 3 t : FVec Ideal S512x2560 .bf16) (Rect.unit (s := S512x2560) ![0, 512] ![512, 512] inb_S512x2560_S512x512_0_512) : FVec Ideal S512x512 .bf16) (K.zc) := by
  intro r l; pointwise []; exact (congrArg (fun y => (iblk m c 3 t : FVec Ideal S512x2560 .bf16) y) (by rfl)).trans (I.zs 1 r l)
theorem l73 (I : Ins m c t P K T) : Tl (φ := .bf16) T (View.ld (Val := Elt Ideal) (e' := .bf16) (iblk m c 3 t : FVec Ideal S512x2560 .bf16) (Rect.unit (s := S512x2560) ![0, 1024] ![512, 512] inb_S512x2560_S512x512_0_1024) : FVec Ideal S512x512 .bf16) (K.zv) := by
  intro r l; pointwise []; exact (congrArg (fun y => (iblk m c 3 t : FVec Ideal S512x2560 .bf16) y) (by rfl)).trans (I.zs 2 r l)
theorem l76 (I : Ins m c t P K T) : Tl (φ := .bf16) T (View.ld (Val := Elt Ideal) (e' := .bf16) (iblk m c 3 t : FVec Ideal S512x2560 .bf16) (Rect.unit (s := S512x2560) ![0, 1536] ![512, 512] inb_S512x2560_S512x512_0_1536) : FVec Ideal S512x512 .bf16) (K.cv) := by
  intro r l; pointwise []; exact (congrArg (fun y => (iblk m c 3 t : FVec Ideal S512x2560 .bf16) y) (by rfl)).trans (I.zs 3 r l)
theorem l79 (I : Ins m c t P K T) : Tl (φ := .bf16) T (View.ld (Val := Elt Ideal) (e' := .bf16) (iblk m c 3 t : FVec Ideal S512x2560 .bf16) (Rect.unit (s := S512x2560) ![0, 2048] ![512, 512] inb_S512x2560_S512x512_0_2048) : FVec Ideal S512x512 .bf16) (K.pl) := by
  intro r l; pointwise []; exact (congrArg (fun y => (iblk m c 3 t : FVec Ideal S512x2560 .bf16) y) (by rfl)).trans (I.zs 4 r l)
theorem l88 (I : Ins m c t P K T) : Is2 (φ := .f32) (View.ld (Val := Elt Ideal) (e' := .f32) (iblk m c 5 t : FVec Ideal S8x512 .f32) (Rect.unit (s := S8x512) ![2, 0] ![1, 512] inb_S8x512_S1x512_2_0) : FVec Ideal S1x512 .f32) (fun _ c => P.cw 2 c) := by
  intro r l; obtain rfl : r = 0 := Subsingleton.elim _ _; pointwise []; exact I.cw 2 l
theorem l92 (I : Ins m c t P K T) : Is2 (φ := .f32) (View.ld (Val := Elt Ideal) (e' := .f32) (iblk m c 5 t : FVec Ideal S8x512 .f32) (Rect.unit (s := S8x512) ![1, 0] ![1, 512] inb_S8x512_S1x512_1_0) : FVec Ideal S1x512 .f32) (fun _ c => P.cw 1 c) := by
  intro r l; obtain rfl : r = 0 := Subsingleton.elim _ _; pointwise []; exact I.cw 1 l
theorem l97 (I : Ins m c t P K T) : Is2 (φ := .f32) (View.ld (Val := Elt Ideal) (e' := .f32) (iblk m c 5 t : FVec Ideal S8x512 .f32) (Rect.unit (s := S8x512) ![0, 0] ![1, 512] inb_S8x512_S1x512_0_0) : FVec Ideal S1x512 .f32) (fun _ c => P.cw 0 c) := by
  intro r l; obtain rfl : r = 0 := Subsingleton.elim _ _; pointwise []; exact I.cw 0 l
theorem l136 (I : Ins m c t P K T) : Is2 (φ := .f32) (iblk m c 8 t : FVec Ideal S1x512 .f32) (fun _ c => P.ps c) := I.ps
theorem l142 (I : Ins m c t P K T) : Is3 (φ := .f32) (View.ld (Val := Elt Ideal) (e' := .f32) (iblk m c 7 t : FVec Ideal S4x128x128 .f32) (Rect.unit (s := S4x128x128) ![0, 0, 0] ![1, 128, 128] inb_S4x128x128_S1x128x128_0_0_0) : FVec Ideal S1x128x128 .f32) (fun _ => P.wp 0) := by
  intro i r l; obtain rfl : i = 0 := Subsingleton.elim _ _; pointwise []; exact I.wp _ _ _
theorem l173 (I : Ins m c t P K T) : Is3 (φ := .f32) (View.ld (Val := Elt Ideal) (e' := .f32) (iblk m c 7 t : FVec Ideal S4x128x128 .f32) (Rect.unit (s := S4x128x128) ![1, 0, 0] ![1, 128, 128] inb_S4x128x128_S1x128x128_1_0_0) : FVec Ideal S1x128x128 .f32) (fun _ => P.wp 1) := by
  intro i r l; obtain rfl : i = 0 := Subsingleton.elim _ _; pointwise []; exact I.wp _ _ _
theorem l204 (I : Ins m c t P K T) : Is3 (φ := .f32) (View.ld (Val := Elt Ideal) (e' := .f32) (iblk m c 7 t : FVec Ideal S4x128x128 .f32) (Rect.unit (s := S4x128x128) ![2, 0, 0] ![1, 128, 128] inb_S4x128x128_S1x128x128_2_0_0) : FVec Ideal S1x128x128 .f32) (fun _ => P.wp 2) := by
  intro i r l; obtain rfl : i = 0 := Subsingleton.elim _ _; pointwise []; exact I.wp _ _ _
theorem l235 (I : Ins m c t P K T) : Is3 (φ := .f32) (View.ld (Val := Elt Ideal) (e' := .f32) (iblk m c 7 t : FVec Ideal S4x128x128 .f32) (Rect.unit (s := S4x128x128) ![3, 0, 0] ![1, 128, 128] inb_S4x128x128_S1x128x128_3_0_0) : FVec Ideal S1x128x128 .f32) (fun _ => P.wp 3) := by
  intro i r l; obtain rfl : i = 0 := Subsingleton.elim _ _; pointwise []; exact I.wp _ _ _
theorem l346 (I : Ins m c t P K T) : Is3 (φ := .bf16) (View.ld (Val := Elt Ideal) (e' := .bf16) (iblk m c 6 t : FVec Ideal S4x1024x512 .bf16) (Rect.unit (s := S4x1024x512) ![0, 0, 0] ![1, 1024, 512] inb_S4x1024x512_S1x1024x512_0_0_0) : FVec Ideal S1x1024x512 .bf16) (fun _ c l => P.wi c (zx 0 l)) := by
  intro i r l; obtain rfl : i = 0 := Subsingleton.elim _ _; pointwise []; exact I.wi _ _ _
theorem l353 (I : Ins m c t P K T) : Is3 (φ := .bf16) (View.ld (Val := Elt Ideal) (e' := .bf16) (iblk m c 6 t : FVec Ideal S4x1024x512 .bf16) (Rect.unit (s := S4x1024x512) ![1, 0, 0] ![1, 1024, 512] inb_S4x1024x512_S1x1024x512_1_0_0) : FVec Ideal S1x1024x512 .bf16) (fun _ c l => P.wi c (zx 1 l)) := by
  intro i r l; obtain rfl : i = 0 := Subsingleton.elim _ _; pointwise []; exact I.wi _ _ _
theorem l360 (I : Ins m c t P K T) : Is3 (φ := .bf16) (View.ld (Val := Elt Ideal) (e' := .bf16) (iblk m c 6 t : FVec Ideal S4x1024x512 .bf16) (Rect.unit (s := S4x1024x512) ![2, 0, 0] ![1, 1024, 512] inb_S4x1024x512_S1x1024x512_2_0_0) : FVec Ideal S1x1024x512 .bf16) (fun _ c l => P.wi c (zx 2 l)) := by
  intro i r l; obtain rfl : i = 0 := Subsingleton.elim _ _; pointwise []; exact I.wi _ _ _
theorem l367 (I : Ins m c t P K T) : Is3 (φ := .bf16) (View.ld (Val := Elt Ideal) (e' := .bf16) (iblk m c 6 t : FVec Ideal S4x1024x512 .bf16) (Rect.unit (s := S4x1024x512) ![3, 0, 0] ![1, 1024, 512] inb_S4x1024x512_S1x1024x512_3_0_0) : FVec Ideal S1x1024x512 .bf16) (fun _ c l => P.wi c (zx 3 l)) := by
  intro i r l; obtain rfl : i = 0 := Subsingleton.elim _ _; pointwise []; exact I.wi _ _ _

variable {X0 X1 Y0 Y1 : FVec Ideal S528x512 .f32}

theorem m0 (I : Ins m c t P K T) : Scalar.muli (Scalar.subi 15#32 (BitVec.ofNat 32 (grid0.coords t 0).val)) 512#32 = Scalar.muli (BitVec.ofNat 32 T.val) 512#32 := by rw [I.v0]
def e19 (I : Ins m c t P K T) := p19 (K := K) (T := T) I.l4
def e20 (I : Ins m c t P K T) := p20 (K := K) (T := T) I.l6
def e21 (I : Ins m c t P K T) := p21 (K := K) (T := T) I.l8
def e22 (I : Ins m c t P K T) := p22 (P := P) I.l10
def e23 (I : Ins m c t P K T) := p23 (P := P) I.l12
def e24 (I : Ins m c t P K T) := p24 (P := P) (K := K) (T := T) I.l4 I.l6 I.l12
def e25 (I : Ins m c t P K T) := p25 (P := P) (K := K) (T := T) I.l4 I.l6 I.l12
def e26 (I : Ins m c t P K T) := p26 (P := P) (K := K) (T := T) I.l4 I.l6 I.l12
def e27 (I : Ins m c t P K T) := p27 (P := P) (K := K) (T := T) I.e21 I.e25 I.e26 I.l37
def e28 (I : Ins m c t P K T) := p28 (P := P) (K := K) (T := T) I.e21 I.e23 I.e25 I.e26 I.l37
def e29 (I : Ins m c t P K T) := p29 (P := P) (K := K) (T := T) I.e21 I.e23 I.e25 I.e26 I.l37 I.l62
def e30 (I : Ins m c t P K T) := p30 (P := P) (K := K) (T := T) I.e21 I.e23 I.e25 I.e26 I.l37 I.l62
def e31 (I : Ins m c t P K T) := p31 (P := P) (K := K) (T := T) I.e21 I.e23 I.e25 I.e26 I.l37 I.l62
def e32 (I : Ins m c t P K T) := p32 (K := K) (T := T) I.l67
def e33 (I : Ins m c t P K T) := p33 (K := K) (T := T) I.l70
def e34 (I : Ins m c t P K T) := p34 (K := K) (T := T) I.l73
def e35 (I : Ins m c t P K T) := p35 (K := K) (T := T) I.l79
def e36 (I : Ins m c t P K T) := p36 (P := P) (K := K) (T := T) I.e30 I.l76
def e37 (I : Ins m c t P K T) := p37 (P := P) (K := K) (T := T) I.e30 I.e32
def e38 (I : Ins m c t P K T) := p38 (P := P) (K := K) (T := T) I.e30 I.e32
def e39 (I : Ins m c t P K T) (d : Is2 X0 fun r l => nx (dcv P K) (tk T 0) r.val l) := p39 (P := P) (K := K) (T := T) I.e30 I.e32 (ldD d 1 (by omega) inb_S528x512_S512x512_1_0) (ldD d 2 (by omega) inb_S528x512_S512x512_2_0) I.l88 I.l92 I.l97
def e40 (I : Ins m c t P K T) (d0 : Low T (dcv P K) Y0) := p40  (ldH d0 inb_S528x512_S16x512_0_0)
def e41 (I : Ins m c t P K T) := p41 (K := K) (T := T) I.e33 I.e34
def e42 (I : Ins m c t P K T) (d : Is2 X0 fun r l => nx (dcv P K) (tk T 0) r.val l) {A : Fin 8 → Fin 512 → ℝ} {v107 : FVec Ideal S1x8x512 .f32} (h107 : Sm v107 A) := p42 (P := P) (K := K) (T := T) I.e33 I.e34 (ldD d 2 (by omega) inb_S528x512_S512x512_2_0) h107
def e43 (I : Ins m c t P K T) (d : Is2 X0 fun r l => nx (dcv P K) (tk T 0) r.val l) {A : Fin 8 → Fin 512 → ℝ} {v107 : FVec Ideal S1x8x512 .f32} (h107 : Sm v107 A) := p43  (I.e42 d h107)
def e44 (I : Ins m c t P K T) (d : Is2 X0 fun r l => nx (dcv P K) (tk T 0) r.val l) {A : Fin 8 → Fin 512 → ℝ} {v116 : FVec Ideal S1x8x512 .f32} (h116 : Sm v116 A) := p44 (P := P) (K := K) (T := T) (ldD d 1 (by omega) inb_S528x512_S512x512_1_0) I.e41 h116
def e45 (I : Ins m c t P K T) {A : Fin 8 → Fin 512 → ℝ} {v125 : FVec Ideal S1x8x512 .f32} (h125 : Sm v125 A) := p45 (P := P) (K := K) (T := T) I.e37 I.e41 h125
def e46 (I : Ins m c t P K T) (d : Is2 X0 fun r l => nx (dcv P K) (tk T 0) r.val l) := p46 (P := P) (K := K) (T := T) I.e34 (I.e39 d)
def e47 (I : Ins m c t P K T) (d : Is2 X0 fun r l => nx (dcv P K) (tk T 0) r.val l) := p47 (P := P) (K := K) (T := T) I.e33 (I.e39 d)
def e48 (I : Ins m c t P K T) := p48 (P := P) (K := K) (T := T) I.e31 I.l136
def e49 (I : Ins m c t P K T) := p49 (K := K) (T := T) I.e35
def e50 (I : Ins m c t P K T) := p50 (P := P) (K := K) (T := T) I.e31 I.l136
def e51 (I : Ins m c t P K T) := p51 (P := P) I.l142
def e52 (I : Ins m c t P K T) := p52 (P := P) (K := K) (T := T) I.e35 I.l142
def e53 (I : Ins m c t P K T) {B : Fin 128 → Fin 128 → ℝ} {v146 : FVec Ideal S1x128x128 .f32} (h146 : Is3 v146 fun _ => B) := p53 (P := P) (K := K) (T := T) I.e49 I.e50 h146
def e54 (I : Ins m c t P K T) := p54 (P := P) (K := K) (T := T) I.e50 I.e51
def e55 (I : Ins m c t P K T) := p55 (P := P) (K := K) (T := T) I.v0 I.e50 I.e51
def e56 (I : Ins m c t P K T) := p56 (K := K) (T := T) I.e35
def e57 (I : Ins m c t P K T) := p57 (P := P) (K := K) (T := T) I.e48
def e58 (I : Ins m c t P K T) := p58 (P := P) I.l173
def e59 (I : Ins m c t P K T) := p59 (P := P) (K := K) (T := T) I.e35 I.l173
def e60 (I : Ins m c t P K T) {B : Fin 128 → Fin 128 → ℝ} {v177 : FVec Ideal S1x128x128 .f32} (h177 : Is3 v177 fun _ => B) := p60 (P := P) (K := K) (T := T) I.e35 I.e48 h177
def e61 (I : Ins m c t P K T) {B : Fin 128 → Fin 128 → ℝ} {v177 : FVec Ideal S1x128x128 .f32} (h177 : Is3 v177 fun _ => B) := p61  (I.e60 h177)
def e62 (I : Ins m c t P K T) := p62 (P := P) (K := K) (T := T) I.e57 I.e58
def e63 (I : Ins m c t P K T) := p63 (P := P) (K := K) (T := T) I.v0 I.e57 I.e58
def e64 (I : Ins m c t P K T) := p64 (K := K) (T := T) I.e35
def e65 (I : Ins m c t P K T) := p65 (P := P) (K := K) (T := T) I.e48
def e66 (I : Ins m c t P K T) := p66 (P := P) I.l204
def e67 (I : Ins m c t P K T) := p67 (P := P) (K := K) (T := T) I.e35 I.l204
def e68 (I : Ins m c t P K T) {B : Fin 128 → Fin 128 → ℝ} {v208 : FVec Ideal S1x128x128 .f32} (h208 : Is3 v208 fun _ => B) := p68 (P := P) (K := K) (T := T) I.e35 I.e48 h208
def e69 (I : Ins m c t P K T) := p69 (P := P) (K := K) (T := T) I.e48 I.l204
def e70 (I : Ins m c t P K T) := p70 (P := P) (K := K) (T := T) I.m0 I.e69
def e71 (I : Ins m c t P K T) := p71 (K := K) (T := T) I.e35
def e72 (I : Ins m c t P K T) := p72 (P := P) (K := K) (T := T) I.e48
def e73 (I : Ins m c t P K T) := p73 (P := P) I.l235
def e74 (I : Ins m c t P K T) := p74 (P := P) (K := K) (T := T) I.e35 I.l235
def e75 (I : Ins m c t P K T) {B : Fin 128 → Fin 128 → ℝ} {v239 : FVec Ideal S1x128x128 .f32} (h239 : Is3 v239 fun _ => B) := p75 (P := P) (K := K) (T := T) I.e35 I.e48 h239
def e76 (I : Ins m c t P K T) := p76 (P := P) (K := K) (T := T) I.e48 I.l235
def e77 (I : Ins m c t P K T) := p77 (T := T) I.v0
def e79 (I : Ins m c t P K T) := p79 (P := P) (K := K) (T := T) I.e76 I.e77 p78
def e80 (I : Ins m c t P K T) {A : Fin 8 → Fin 512 → ℝ} {v263 : FVec Ideal S1x8x512 .f32} (h263 : Sm v263 A) := p80 (P := P) (K := K) (T := T) I.e31 I.e52 I.e59 I.e67 I.e74 h263
def e81 (I : Ins m c t P K T) (q : Is2 X1 fun r l => nx (qa P K) (tk T 0) r.val l) (q0 : Low T (qa P K) Y1) := p81 (P := P) (K := K) (T := T) I.e54 (ldQ0 q0 0 inb_S528x512_S512x128_0_0 rfl) (ldQ q 0 1 (by omega) inb_S528x512_S512x128_1_0 rfl)
def e82 (I : Ins m c t P K T) (q : Is2 X1 fun r l => nx (qa P K) (tk T 0) r.val l) (q0 : Low T (qa P K) Y1) := p82 (P := P) (K := K) (T := T) I.e62 (ldQ0 q0 1 inb_S528x512_S512x128_0_128 rfl) (ldQ q 1 1 (by omega) inb_S528x512_S512x128_1_128 rfl) (ldQ q 1 2 (by omega) inb_S528x512_S512x128_2_128 rfl) (ldQ q 1 3 (by omega) inb_S528x512_S512x128_3_128 rfl)
def e83 (I : Ins m c t P K T) (q : Is2 X1 fun r l => nx (qa P K) (tk T 0) r.val l) (q0 : Low T (qa P K) Y1) := p83 (P := P) (K := K) (T := T) I.e69 (ldQ0 q0 2 inb_S528x512_S512x128_0_256 rfl) (ldQ q 2 1 (by omega) inb_S528x512_S512x128_1_256 rfl) (ldQ q 2 2 (by omega) inb_S528x512_S512x128_2_256 rfl) (ldQ q 2 3 (by omega) inb_S528x512_S512x128_3_256 rfl) (ldQ q 2 4 (by omega) inb_S528x512_S512x128_4_256 rfl) (ldQ q 2 5 (by omega) inb_S528x512_S512x128_5_256 rfl) (ldQ q 2 6 (by omega) inb_S528x512_S512x128_6_256 rfl) (ldQ q 2 7 (by omega) inb_S528x512_S512x128_7_256 rfl)
def e84 (I : Ins m c t P K T) (q : Is2 X1 fun r l => nx (qa P K) (tk T 0) r.val l) (q0 : Low T (qa P K) Y1) := p84 (P := P) (K := K) (T := T) (ldQ0 q0 3 inb_S528x512_S512x128_0_384 rfl) (ldQ q 3 1 (by omega) inb_S528x512_S512x128_1_384 rfl) (ldQ q 3 2 (by omega) inb_S528x512_S512x128_2_384 rfl) (ldQ q 3 3 (by omega) inb_S528x512_S512x128_3_384 rfl) (ldQ q 3 4 (by omega) inb_S528x512_S512x128_4_384 rfl) (ldQ q 3 5 (by omega) inb_S528x512_S512x128_5_384 rfl) (ldQ q 3 6 (by omega) inb_S528x512_S512x128_6_384 rfl) (ldQ q 3 7 (by omega) inb_S528x512_S512x128_7_384 rfl)
def e85 (I : Ins m c t P K T) (q0 : Low T (qa P K) Y1) := p85  (ldH q0 inb_S528x512_S16x512_0_0)
def e86 (I : Ins m c t P K T) := p86 (P := P) (K := K) (T := T) I.e36
def e87 (I : Ins m c t P K T) (d : Is2 X0 fun r l => nx (dcv P K) (tk T 0) r.val l) := p87 (P := P) (K := K) (T := T) (I.e46 d)
def e88 (I : Ins m c t P K T) (d : Is2 X0 fun r l => nx (dcv P K) (tk T 0) r.val l) := p88 (P := P) (K := K) (T := T) (I.e47 d)
def e89 (I : Ins m c t P K T) (q : Is2 X1 fun r l => nx (qa P K) (tk T 0) r.val l) (q0 : Low T (qa P K) Y1) := p89 (P := P) (K := K) (T := T) I.e76 (I.e81 q q0) (I.e82 q q0) (I.e83 q q0) (I.e84 q q0) (ldQ q 3 8 (by omega) inb_S528x512_S512x128_8_384 rfl) (ldQ q 3 9 (by omega) inb_S528x512_S512x128_9_384 rfl) (ldQ q 3 10 (by omega) inb_S528x512_S512x128_10_384 rfl) (ldQ q 3 11 (by omega) inb_S528x512_S512x128_11_384 rfl) (ldQ q 3 12 (by omega) inb_S528x512_S512x128_12_384 rfl) (ldQ q 3 13 (by omega) inb_S528x512_S512x128_13_384 rfl) (ldQ q 3 14 (by omega) inb_S528x512_S512x128_14_384 rfl) (ldQ q 3 15 (by omega) inb_S528x512_S512x128_15_384 rfl)
def e91 (I : Ins m c t P K T) := p91 (P := P) (K := K) (T := T) I.e36
def e92 (I : Ins m c t P K T) := p92 (P := P) (K := K) (T := T) I.e36 I.l346
def e93 (I : Ins m c t P K T) (d : Is2 X0 fun r l => nx (dcv P K) (tk T 0) r.val l) := p93 (P := P) (K := K) (T := T) (I.e87 d)
def e94 (I : Ins m c t P K T) (d : Is2 X0 fun r l => nx (dcv P K) (tk T 0) r.val l) := p94 (P := P) (K := K) (T := T) (I.e88 d)
def e95 (I : Ins m c t P K T) (q : Is2 X1 fun r l => nx (qa P K) (tk T 0) r.val l) (q0 : Low T (qa P K) Y1) := p95 (P := P) (K := K) (T := T) (I.e89 q q0)
def e96 (I : Ins m c t P K T) (d : Is2 X0 fun r l => nx (dcv P K) (tk T 0) r.val l) (q : Is2 X1 fun r l => nx (qa P K) (tk T 0) r.val l) (q0 : Low T (qa P K) Y1) := p96 (P := P) (K := K) (T := T) (I.e87 d) (I.e88 d) (I.e89 q q0) p90 I.e92 I.l353 I.l360 I.l367
def e97 (I : Ins m c t P K T) (d : Is2 X0 fun r l => nx (dcv P K) (tk T 0) r.val l) (q : Is2 X1 fun r l => nx (qa P K) (tk T 0) r.val l) (q0 : Low T (qa P K) Y1) := p97 (P := P) (K := K) (T := T) I.e22 I.e27 (I.e87 d) (I.e88 d) (I.e89 q q0) p90 I.e92 I.l353 I.l360 I.l367
def e98 (I : Ins m c t P K T) {A : Fin 8 → Fin 1024 → ℝ} {v379 : FVec Ideal S1x8x1024 .f32} (h379 : Sm v379 A) := p98 (P := P) (K := K) (T := T) I.e21 I.e26 h379
def e99 (I : Ins m c t P K T) {A : Fin 8 → Fin 1024 → ℝ} {v388 : FVec Ideal S1x8x1024 .f32} (h388 : Sm v388 A) := p99 (P := P) (K := K) (T := T) I.e21 h388
def e100 (I : Ins m c t P K T) {A : Fin 8 → Fin 1024 → ℝ} {v396 : FVec Ideal S1x8x1024 .f32} (h396 : Sm v396 A) := p100 (P := P) (K := K) (T := T) I.e20 I.e27 h396
def e101 (I : Ins m c t P K T) (d : Is2 X0 fun r l => nx (dcv P K) (tk T 0) r.val l) (q : Is2 X1 fun r l => nx (qa P K) (tk T 0) r.val l) (q0 : Low T (qa P K) Y1) {A : Fin 8 → Fin 1024 → ℝ} {v405 : FVec Ideal S1x8x1024 .f32} (h405 : Sm v405 A) := p101 (P := P) (K := K) (T := T) I.e19 (I.e96 d q q0) h405
def e1 (I : Ins m c t P K T) (d : Is2 X0 fun r l => nx (dcv P K) (tk T 0) r.val l) (q : Is2 X1 fun r l => nx (qa P K) (tk T 0) r.val l) (q0 : Low T (qa P K) Y1) {A : Fin 8 → Fin 1024 → ℝ} {v405 : FVec Ideal S1x8x1024 .f32} (h405 : Sm v405 A) := p1  (I.e101 d q q0 h405)
def e2 (I : Ins m c t P K T) (d : Is2 X0 fun r l => nx (dcv P K) (tk T 0) r.val l) (q : Is2 X1 fun r l => nx (qa P K) (tk T 0) r.val l) (q0 : Low T (qa P K) Y1) {A : Fin 8 → Fin 1024 → ℝ} {v414 : FVec Ideal S1x8x1024 .f32} (h414 : Sm v414 A) := p2 (P := P) (K := K) (T := T) (I.e96 d q q0) h414

def dA (I : Ins m c t P K T) (hT : T.val = 15) := canon1 hT I.e38 p14 (inb := inb_S528x512_S512x512_0_0) (inz := inb_S528x512_S16x512_512_0)
def qA (I : Ins m c t P K T) (hT : T.val = 15) := canon4 hT I.e55 I.e63 I.e70 I.e79 p15 (i0 := inb_S528x512_S512x128_0_0) (i1 := inb_S528x512_S512x128_0_128)
  (i2 := inb_S528x512_S512x128_0_256) (i3 := inb_S528x512_S512x128_0_384) (inz := inb_S528x512_S16x512_512_0)
def dL (I : Ins m c t P K T) := canon1' (L := []) I.e38 (inb := inb_S528x512_S512x512_0_0)
def qL (I : Ins m c t P K T) := canon4' (L := []) I.e55 I.e63 I.e70 I.e79 (i0 := inb_S528x512_S512x128_0_0) (i1 := inb_S528x512_S512x128_0_128)
  (i2 := inb_S528x512_S512x128_0_256) (i3 := inb_S528x512_S512x128_0_384)
def dB (I : Ins m c t P K T) (hX : (Memref.whole cc0_scratch0).IsWhole) (D : Halo T (dcv P K) X0) :=
  over1 (View.whole cc0_scratch0) (hX.unread (Val := Elt Ideal) X0) (L := []) (unread0 hX D) I.e38 (inb := inb_S528x512_S512x512_0_0)
def qB (I : Ins m c t P K T) (hX : (Memref.whole cc0_scratch1).IsWhole) (D : Halo T (qa P K) X1) :=
  over4 (View.whole cc0_scratch1) (hX.unread (Val := Elt Ideal) X1) (L := []) (unread1 hX D) I.e55 I.e63 I.e70 I.e79 (i0 := inb_S528x512_S512x128_0_0) (i1 := inb_S528x512_S512x128_0_128)
  (i2 := inb_S528x512_S512x128_0_256) (i3 := inb_S528x512_S512x128_0_384)

end Ins

end Cert.BwdIdeal.Pay

end
-- ==== Proof.BwdBlocksA.lean ====
/- The first grid point of the token mixer call: what it writes into each window, into the carried rows and into the partial sums. -/
module

public import proofs.«01_k».proof.Proof.BwdIns

@[expose] public section

set_option maxRecDepth 16384

noncomputable section

open Idealize.ShloMosaic Idealize.ShloMosaic.TcCoe Idealize.SL.Sem
open Idealize.ShloMosaic.Pipeline (Dat)

namespace Cert.BwdIdeal.Pay

open Cert.BwdIdeal Cert.BwdIdeal.Gen Cert.RealLift Cert.BwdMath

variable {m : (ℓ : Loc nD τ sig) → Buf (Elt Ideal) ℓ} {c : Dev nD} {t : Fin cfg0.N} {P : Par} {K : Tok} {T : Fin 16}

set_option maxHeartbeats 2000000 in
theorem w11_A (I : Ins m c t P K T) (h0 : t.val % 16 = 0) (h1 : ¬t.val % 16 = 15) (hT : T.val = 15) :
    Is2 (φ := .f32) (outsAt0 m c t.val t.isLt).1 fun r k => gxo P K (tk T r) k := by
  rw [outsAt0_A m c t h0 h1]
  frame_open
  frame_out
  simp only [readCov_ld (View.whole cc0_scratch0), readCov_ld (View.whole cc0_scratch1)]
  exact I.e97 (I.dA hT) (I.qA hT) (low_of (I.qA hT))

set_option maxHeartbeats 2000000 in
theorem w12_A (I : Ins m c t P K T) (h0 : t.val % 16 = 0) (h1 : ¬t.val % 16 = 15) (hT : T.val = 15) :
    Is3 (φ := .bf16) (outsAt0 m c t.val t.isLt).2.1 fun j r l => dz P K j (tk T r) l := by
  rw [outsAt0_A m c t h0 h1]
  frame_open
  frame_out
  simp only [readCov_ld (View.whole cc0_scratch0), readCov_ld (View.whole cc0_scratch1)]
  intro j r q
  canon_tiles x k
  · have hx : (x 0 : ℕ) < 1 := (x 0).isLt
    obtain rfl : j = 3 := Fin.ext (by dsimp at k0; omega)
    exact (I.e95 (I.qA hT) (low_of (I.qA hT))).at x (j := 0) (r := r) (c := q) (by dsimp; omega) (by dsimp at k1; omega) (by dsimp at k2; omega)
  · have hx : (x 0 : ℕ) < 1 := (x 0).isLt
    obtain rfl : j = 2 := Fin.ext (by dsimp at k0; omega)
    exact (I.e94 (I.dA hT)).at x (j := 0) (r := r) (c := q) (by dsimp; omega) (by dsimp at k1; omega) (by dsimp at k2; omega)
  · have hx : (x 0 : ℕ) < 1 := (x 0).isLt
    obtain rfl : j = 1 := Fin.ext (by dsimp at k0; omega)
    exact (I.e93 (I.dA hT)).at x (j := 0) (r := r) (c := q) (by dsimp; omega) (by dsimp at k1; omega) (by dsimp at k2; omega)
  · have hx : (x 0 : ℕ) < 1 := (x 0).isLt
    obtain rfl : j = 0 := Fin.ext (by dsimp at k0; omega)
    exact (I.e91).at x (j := 0) (r := r) (c := q) (by dsimp; omega) (by dsimp at k1; omega) (by dsimp at k2; omega)

set_option maxHeartbeats 2000000 in
theorem w13_A (I : Ins m c t P K T) (h0 : t.val % 16 = 0) (h1 : ¬t.val % 16 = 15) :
    Is2 (φ := .bf16) (outsAt0 m c t.val t.isLt).2.2.1 fun r k => dm P K (tk T r) k := by
  rw [outsAt0_A m c t h0 h1]
  frame_open
  frame_out
  exact I.e28

set_option maxHeartbeats 2000000 in
theorem s0_A (I : Ins m c t P K T) (h0 : t.val % 16 = 0) (h1 : ¬t.val % 16 = 15) (hT : T.val = 15) :
    Next T (dcv P K) (outsAt0 m c t.val t.isLt).2.2.2.2.2.2.1 := by
  rw [outsAt0_A m c t h0 h1]
  frame_open
  frame_out
  simp only [readCov_ld (View.whole cc0_scratch0)]
  exact canon_halo (I.e40 (low_of (I.dA hT)))

set_option maxHeartbeats 2000000 in
theorem s1_A (I : Ins m c t P K T) (h0 : t.val % 16 = 0) (h1 : ¬t.val % 16 = 15) (hT : T.val = 15) :
    Next T (qa P K) (outsAt0 m c t.val t.isLt).2.2.2.2.2.2.2.1 := by
  rw [outsAt0_A m c t h0 h1]
  frame_open
  frame_out
  simp only [readCov_ld (View.whole cc0_scratch1)]
  exact canon_halo (I.e85 (low_of (I.qA hT)))

set_option maxHeartbeats 2000000 in
theorem acc_d_A (I : Ins m c t P K T) (h0 : t.val % 16 = 0) (h1 : ¬t.val % 16 = 15) (hT : T.val = 15) :
    Is3 (φ := .f32) (outsAt0 m c t.val t.isLt).2.2.2.2.2.2.2.2.1 (fun j => add8 T ((0 : Fin 5 → Fin 8 → Fin 1024 → ℝ) j) (qd P K j)) := by
  rw [outsAt0_A m c t h0 h1]
  frame_open
  frame_out
  simp only [readCov_ld (View.whole cc0_scratch0), readCov_ld (View.whole cc0_scratch1)]
  simp (disch := decide) only [↓ View.readCov_skip, ↓ View.readCov_cons_toLoadRect, ↓ View.readCov_fill]
  intro j s q
  refine View.canon_append_of_piecesOf (Val := Elt Ideal) (s := S5x8x1024) (e := .f32) (rows3 (fun j => add8 T ((0 : Fin 5 → Fin 8 → Fin 1024 → ℝ) j) (qd P K j)))
    [_] [_, _, _, _, _] ⟨?_, ?_, ?_, ?_, ?_, trivial⟩ (ix3 j s q) (View.cover_of_tiledL _ ![1, 8, 1024] (by sl_kernel_rfl) _)
  · exact row3 (fun j => add8 T ((0 : Fin 5 → Fin 8 → Fin 1024 → ℝ) j) (qd P K j)) (j := 4) (by decide) inb_S5x8x1024_S1x8x1024_4_0_0 (I.e2 (I.dA hT) (I.qA hT) (low_of (I.qA hT)) (ldRow (F := 0) p16 4 (by decide) inb_S5x8x1024_S1x8x1024_4_0_0))
  · exact row3 (fun j => add8 T ((0 : Fin 5 → Fin 8 → Fin 1024 → ℝ) j) (qd P K j)) (j := 3) (by decide) inb_S5x8x1024_S1x8x1024_3_0_0 (I.e1 (I.dA hT) (I.qA hT) (low_of (I.qA hT)) (ldRow (F := 0) p16 3 (by decide) inb_S5x8x1024_S1x8x1024_3_0_0))
  · exact row3 (fun j => add8 T ((0 : Fin 5 → Fin 8 → Fin 1024 → ℝ) j) (qd P K j)) (j := 2) (by decide) inb_S5x8x1024_S1x8x1024_2_0_0 (I.e100 (ldRow (F := 0) p16 2 (by decide) inb_S5x8x1024_S1x8x1024_2_0_0))
  · exact row3 (fun j => add8 T ((0 : Fin 5 → Fin 8 → Fin 1024 → ℝ) j) (qd P K j)) (j := 1) (by decide) inb_S5x8x1024_S1x8x1024_1_0_0 (I.e99 (ldRow (F := 0) p16 1 (by decide) inb_S5x8x1024_S1x8x1024_1_0_0))
  · exact row3 (fun j => add8 T ((0 : Fin 5 → Fin 8 → Fin 1024 → ℝ) j) (qd P K j)) (j := 0) (by decide) inb_S5x8x1024_S1x8x1024_0_0_0 (I.e98 (ldRow (F := 0) p16 0 (by decide) inb_S5x8x1024_S1x8x1024_0_0_0))

set_option maxHeartbeats 2000000 in
theorem acc_c_A (I : Ins m c t P K T) (h0 : t.val % 16 = 0) (h1 : ¬t.val % 16 = 15) (hT : T.val = 15) :
    Is3 (φ := .f32) (outsAt0 m c t.val t.isLt).2.2.2.2.2.2.2.2.2.1 (fun j => add8 T ((0 : Fin 4 → Fin 8 → Fin 512 → ℝ) j) (qc P K j)) := by
  rw [outsAt0_A m c t h0 h1]
  frame_open
  frame_out
  simp only [readCov_ld (View.whole cc0_scratch0)]
  simp (disch := decide) only [↓ View.readCov_skip, ↓ View.readCov_cons_toLoadRect, ↓ View.readCov_fill]
  intro j s q
  refine View.canon_append_of_piecesOf (Val := Elt Ideal) (s := S4x8x512) (e := .f32) (rows3 (fun j => add8 T ((0 : Fin 4 → Fin 8 → Fin 512 → ℝ) j) (qc P K j)))
    [_] [_, _, _, _] ⟨?_, ?_, ?_, ?_, trivial⟩ (ix3 j s q) (View.cover_of_tiledL _ ![1, 8, 512] (by sl_kernel_rfl) _)
  · exact row3 (fun j => add8 T ((0 : Fin 4 → Fin 8 → Fin 512 → ℝ) j) (qc P K j)) (j := 3) (by decide) inb_S4x8x512_S1x8x512_3_0_0 (I.e80 (ldRow (F := 0) p17 3 (by decide) inb_S4x8x512_S1x8x512_3_0_0))
  · exact row3 (fun j => add8 T ((0 : Fin 4 → Fin 8 → Fin 512 → ℝ) j) (qc P K j)) (j := 2) (by decide) inb_S4x8x512_S1x8x512_2_0_0 (I.e45 (ldRow (F := 0) p17 2 (by decide) inb_S4x8x512_S1x8x512_2_0_0))
  · exact row3 (fun j => add8 T ((0 : Fin 4 → Fin 8 → Fin 512 → ℝ) j) (qc P K j)) (j := 1) (by decide) inb_S4x8x512_S1x8x512_1_0_0 (I.e44 (I.dA hT) (ldRow (F := 0) p17 1 (by decide) inb_S4x8x512_S1x8x512_1_0_0))
  · exact row3 (fun j => add8 T ((0 : Fin 4 → Fin 8 → Fin 512 → ℝ) j) (qc P K j)) (j := 0) (by decide) inb_S4x8x512_S1x8x512_0_0_0 (I.e43 (I.dA hT) (ldRow (F := 0) p17 0 (by decide) inb_S4x8x512_S1x8x512_0_0_0))

set_option maxHeartbeats 2000000 in
theorem acc_p_A (I : Ins m c t P K T) (h0 : t.val % 16 = 0) (h1 : ¬t.val % 16 = 15) :
    Is3 (φ := .f32) (outsAt0 m c t.val t.isLt).2.2.2.2.2.2.2.2.2.2 (fun j a b => (0 : Fin 4 → Fin 128 → Fin 128 → ℝ) j a b + ∑ r, qp P K j (tk T r) a b) := by
  rw [outsAt0_A m c t h0 h1]
  frame_open
  frame_out
  simp (disch := decide) only [↓ View.readCov_skip, ↓ View.readCov_cons_toLoadRect, ↓ View.readCov_fill]
  intro j s q
  refine View.canon_append_of_piecesOf (Val := Elt Ideal) (s := S4x128x128) (e := .f32) (rows3 (fun j a b => (0 : Fin 4 → Fin 128 → Fin 128 → ℝ) j a b + ∑ r, qp P K j (tk T r) a b))
    [_] [_, _, _, _] ⟨?_, ?_, ?_, ?_, trivial⟩ (ix3 j s q) (View.cover_of_tiledL _ ![1, 128, 128] (by sl_kernel_rfl) _)
  · exact row3 (fun j a b => (0 : Fin 4 → Fin 128 → Fin 128 → ℝ) j a b + ∑ r, qp P K j (tk T r) a b) (j := 3) (by decide) inb_S4x128x128_S1x128x128_3_0_0 (I.e75 (ldRow (F := 0) p18 3 (by decide) inb_S4x128x128_S1x128x128_3_0_0))
  · exact row3 (fun j a b => (0 : Fin 4 → Fin 128 → Fin 128 → ℝ) j a b + ∑ r, qp P K j (tk T r) a b) (j := 2) (by decide) inb_S4x128x128_S1x128x128_2_0_0 (I.e68 (ldRow (F := 0) p18 2 (by decide) inb_S4x128x128_S1x128x128_2_0_0))
  · exact row3 (fun j a b => (0 : Fin 4 → Fin 128 → Fin 128 → ℝ) j a b + ∑ r, qp P K j (tk T r) a b) (j := 1) (by decide) inb_S4x128x128_S1x128x128_1_0_0 (I.e61 (ldRow (F := 0) p18 1 (by decide) inb_S4x128x128_S1x128x128_1_0_0))
  · exact row3 (fun j a b => (0 : Fin 4 → Fin 128 → Fin 128 → ℝ) j a b + ∑ r, qp P K j (tk T r) a b) (j := 0) (by decide) inb_S4x128x128_S1x128x128_0_0_0 (I.e53 (ldRow (F := 0) p18 0 (by decide) inb_S4x128x128_S1x128x128_0_0_0))

end Cert.BwdIdeal.Pay

end
-- ==== Proof.BwdBlocksB.lean ====
/- A grid point of the token mixer call that is neither the first nor the last: what it writes into each window, into the carried rows and into the partial sums. -/
module

public import proofs.«01_k».proof.Proof.BwdIns

@[expose] public section

set_option maxRecDepth 16384

noncomputable section

open Idealize.ShloMosaic Idealize.ShloMosaic.TcCoe Idealize.SL.Sem
open Idealize.ShloMosaic.Pipeline (Dat)

namespace Cert.BwdIdeal.Pay

open Cert.BwdIdeal Cert.BwdIdeal.Gen Cert.RealLift Cert.BwdMath

variable {m : (ℓ : Loc nD τ sig) → Buf (Elt Ideal) ℓ} {c : Dev nD} {t : Fin cfg0.N} {P : Par} {K : Tok} {T : Fin 16}

set_option maxHeartbeats 2000000 in
theorem w11_B (I : Ins m c t P K T) (h0 : ¬t.val % 16 = 0) (h1 : ¬t.val % 16 = 15)
    (D : Halo T (dcv P K) (outsAt0 m c (t.val - 1) (Nat.lt_of_le_of_lt (Nat.sub_le _ _) t.isLt)).2.2.2.2.2.2.1)
    (Q : Halo T (qa P K) (outsAt0 m c (t.val - 1) (Nat.lt_of_le_of_lt (Nat.sub_le _ _) t.isLt)).2.2.2.2.2.2.2.1) :
    Is2 (φ := .f32) (outsAt0 m c t.val t.isLt).1 fun r k => gxo P K (tk T r) k := by
  rw [outsAt0_B m c t h0 h1]
  frame_open
  frame_out
  simp only [readCov_ld (View.whole cc0_scratch1)]
  exact I.e97 (I.dB _ D) (I.qB _ Q) I.qL

set_option maxHeartbeats 2000000 in
theorem w12_B (I : Ins m c t P K T) (h0 : ¬t.val % 16 = 0) (h1 : ¬t.val % 16 = 15)
    (D : Halo T (dcv P K) (outsAt0 m c (t.val - 1) (Nat.lt_of_le_of_lt (Nat.sub_le _ _) t.isLt)).2.2.2.2.2.2.1)
    (Q : Halo T (qa P K) (outsAt0 m c (t.val - 1) (Nat.lt_of_le_of_lt (Nat.sub_le _ _) t.isLt)).2.2.2.2.2.2.2.1) :
    Is3 (φ := .bf16) (outsAt0 m c t.val t.isLt).2.1 fun j r l => dz P K j (tk T r) l := by
  rw [outsAt0_B m c t h0 h1]
  frame_open
  frame_out
  simp only [readCov_ld (View.whole cc0_scratch1)]
  intro j r q
  canon_tiles x k
  · have hx : (x 0 : ℕ) < 1 := (x 0).isLt
    obtain rfl : j = 3 := Fin.ext (by dsimp at k0; omega)
    exact (I.e95 (I.qB _ Q) I.qL).at x (j := 0) (r := r) (c := q) (by dsimp; omega) (by dsimp at k1; omega) (by dsimp at k2; omega)
  · have hx : (x 0 : ℕ) < 1 := (x 0).isLt
    obtain rfl : j = 2 := Fin.ext (by dsimp at k0; omega)
    exact (I.e94 (I.dB _ D)).at x (j := 0) (r := r) (c := q) (by dsimp; omega) (by dsimp at k1; omega) (by dsimp at k2; omega)
  · have hx : (x 0 : ℕ) < 1 := (x 0).isLt
    obtain rfl : j = 1 := Fin.ext (by dsimp at k0; omega)
    exact (I.e93 (I.dB _ D)).at x (j := 0) (r := r) (c := q) (by dsimp; omega) (by dsimp at k1; omega) (by dsimp at k2; omega)
  · have hx : (x 0 : ℕ) < 1 := (x 0).isLt
    obtain rfl : j = 0 := Fin.ext (by dsimp at k0; omega)
    exact (I.e91).at x (j := 0) (r := r) (c := q) (by dsimp; omega) (by dsimp at k1; omega) (by dsimp at k2; omega)

set_option maxHeartbeats 2000000 in
theorem w13_B (I : Ins m c t P K T) (h0 : ¬t.val % 16 = 0) (h1 : ¬t.val % 16 = 15) :
    Is2 (φ := .bf16) (outsAt0 m c t.val t.isLt).2.2.1 fun r k => dm P K (tk T r) k := by
  rw [outsAt0_B m c t h0 h1]
  frame_open
  frame_out
  exact I.e28

set_option maxHeartbeats 2000000 in
theorem s0_B (I : Ins m c t P K T) (h0 : ¬t.val % 16 = 0) (h1 : ¬t.val % 16 = 15)
    (D : Halo T (dcv P K) (outsAt0 m c (t.val - 1) (Nat.lt_of_le_of_lt (Nat.sub_le _ _) t.isLt)).2.2.2.2.2.2.1) :
    Next T (dcv P K) (outsAt0 m c t.val t.isLt).2.2.2.2.2.2.1 := by
  rw [outsAt0_B m c t h0 h1]
  frame_open
  frame_out
  simp only [readCov_ld (View.whole cc0_scratch0)]
  exact canon_halo (I.e40 I.dL)

set_option maxHeartbeats 2000000 in
theorem s1_B (I : Ins m c t P K T) (h0 : ¬t.val % 16 = 0) (h1 : ¬t.val % 16 = 15)
    (Q : Halo T (qa P K) (outsAt0 m c (t.val - 1) (Nat.lt_of_le_of_lt (Nat.sub_le _ _) t.isLt)).2.2.2.2.2.2.2.1) :
    Next T (qa P K) (outsAt0 m c t.val t.isLt).2.2.2.2.2.2.2.1 := by
  rw [outsAt0_B m c t h0 h1]
  frame_open
  frame_out
  simp only [readCov_ld (View.whole cc0_scratch1)]
  exact canon_halo (I.e85 I.qL)

set_option maxHeartbeats 2000000 in
theorem acc_d_B (I : Ins m c t P K T) (h0 : ¬t.val % 16 = 0) (h1 : ¬t.val % 16 = 15)
    (D : Halo T (dcv P K) (outsAt0 m c (t.val - 1) (Nat.lt_of_le_of_lt (Nat.sub_le _ _) t.isLt)).2.2.2.2.2.2.1)
    (Q : Halo T (qa P K) (outsAt0 m c (t.val - 1) (Nat.lt_of_le_of_lt (Nat.sub_le _ _) t.isLt)).2.2.2.2.2.2.2.1)
    {A : Fin 5 → Fin 8 → Fin 1024 → ℝ} (hA : Is3 (φ := .f32) (outsAt0 m c (t.val - 1) (Nat.lt_of_le_of_lt (Nat.sub_le _ _) t.isLt)).2.2.2.2.2.2.2.2.1 A) :
    Is3 (φ := .f32) (outsAt0 m c t.val t.isLt).2.2.2.2.2.2.2.2.1 (fun j => add8 T (A j) (qd P K j)) := by
  rw [outsAt0_B m c t h0 h1]
  frame_open
  frame_out
  simp only [readCov_ld (View.whole cc0_scratch1)]
  simp only [read_unread_whole]
  intro j s q
  refine View.canon_append_of_piecesOf (Val := Elt Ideal) (s := S5x8x1024) (e := .f32) (rows3 (fun j => add8 T (A j) (qd P K j)))
    [] [_, _, _, _, _] ⟨?_, ?_, ?_, ?_, ?_, trivial⟩ (ix3 j s q) (View.cover_of_tiledL _ ![1, 8, 1024] (by sl_kernel_rfl) _)
  · exact row3 (fun j => add8 T (A j) (qd P K j)) (j := 4) (by decide) inb_S5x8x1024_S1x8x1024_4_0_0 (I.e2 (I.dB _ D) (I.qB _ Q) I.qL (ldRow hA 4 (by decide) inb_S5x8x1024_S1x8x1024_4_0_0))
  · exact row3 (fun j => add8 T (A j) (qd P K j)) (j := 3) (by decide) inb_S5x8x1024_S1x8x1024_3_0_0 (I.e1 (I.dB _ D) (I.qB _ Q) I.qL (ldRow hA 3 (by decide) inb_S5x8x1024_S1x8x1024_3_0_0))
  · exact row3 (fun j => add8 T (A j) (qd P K j)) (j := 2) (by decide) inb_S5x8x1024_S1x8x1024_2_0_0 (I.e100 (ldRow hA 2 (by decide) inb_S5x8x1024_S1x8x1024_2_0_0))
  · exact row3 (fun j => add8 T (A j) (qd P K j)) (j := 1) (by decide) inb_S5x8x1024_S1x8x1024_1_0_0 (I.e99 (ldRow hA 1 (by decide) inb_S5x8x1024_S1x8x1024_1_0_0))
  · exact row3 (fun j => add8 T (A j) (qd P K j)) (j := 0) (by decide) inb_S5x8x1024_S1x8x1024_0_0_0 (I.e98 (ldRow hA 0 (by decide) inb_S5x8x1024_S1x8x1024_0_0_0))

set_option maxHeartbeats 2000000 in
theorem acc_c_B (I : Ins m c t P K T) (h0 : ¬t.val % 16 = 0) (h1 : ¬t.val % 16 = 15)
    (D : Halo T (dcv P K) (outsAt0 m c (t.val - 1) (Nat.lt_of_le_of_lt (Nat.sub_le _ _) t.isLt)).2.2.2.2.2.2.1)
    {A : Fin 4 → Fin 8 → Fin 512 → ℝ} (hA : Is3 (φ := .f32) (outsAt0 m c (t.val - 1) (Nat.lt_of_le_of_lt (Nat.sub_le _ _) t.isLt)).2.2.2.2.2.2.2.2.2.1 A) :
    Is3 (φ := .f32) (outsAt0 m c t.val t.isLt).2.2.2.2.2.2.2.2.2.1 (fun j => add8 T (A j) (qc P K j)) := by
  rw [outsAt0_B m c t h0 h1]
  frame_open
  frame_out
  simp only [read_unread_whole]
  intro j s q
  refine View.canon_append_of_piecesOf (Val := Elt Ideal) (s := S4x8x512) (e := .f32) (rows3 (fun j => add8 T (A j) (qc P K j)))
    [] [_, _, _, _] ⟨?_, ?_, ?_, ?_, trivial⟩ (ix3 j s q) (View.cover_of_tiledL _ ![1, 8, 512] (by sl_kernel_rfl) _)
  · exact row3 (fun j => add8 T (A j) (qc P K j)) (j := 3) (by decide) inb_S4x8x512_S1x8x512_3_0_0 (I.e80 (ldRow hA 3 (by decide) inb_S4x8x512_S1x8x512_3_0_0))
  · exact row3 (fun j => add8 T (A j) (qc P K j)) (j := 2) (by decide) inb_S4x8x512_S1x8x512_2_0_0 (I.e45 (ldRow hA 2 (by decide) inb_S4x8x512_S1x8x512_2_0_0))
  · exact row3 (fun j => add8 T (A j) (qc P K j)) (j := 1) (by decide) inb_S4x8x512_S1x8x512_1_0_0 (I.e44 (I.dB _ D) (ldRow hA 1 (by decide) inb_S4x8x512_S1x8x512_1_0_0))
  · exact row3 (fun j => add8 T (A j) (qc P K j)) (j := 0) (by decide) inb_S4x8x512_S1x8x512_0_0_0 (I.e43 (I.dB _ D) (ldRow hA 0 (by decide) inb_S4x8x512_S1x8x512_0_0_0))

set_option maxHeartbeats 2000000 in
theorem acc_p_B (I : Ins m c t P K T) (h0 : ¬t.val % 16 = 0) (h1 : ¬t.val % 16 = 15)
    {A : Fin 4 → Fin 128 → Fin 128 → ℝ} (hA : Is3 (φ := .f32) (outsAt0 m c (t.val - 1) (Nat.lt_of_le_of_lt (Nat.sub_le _ _) t.isLt)).2.2.2.2.2.2.2.2.2.2 A) :
    Is3 (φ := .f32) (outsAt0 m c t.val t.isLt).2.2.2.2.2.2.2.2.2.2 (fun j a b => A j a b + ∑ r, qp P K j (tk T r) a b) := by
  rw [outsAt0_B m c t h0 h1]
  frame_open
  frame_out
  simp only [read_unread_whole]
  intro j s q
  refine View.canon_append_of_piecesOf (Val := Elt Ideal) (s := S4x128x128) (e := .f32) (rows3 (fun j a b => A j a b + ∑ r, qp P K j (tk T r) a b))
    [] [_, _, _, _] ⟨?_, ?_, ?_, ?_, trivial⟩ (ix3 j s q) (View.cover_of_tiledL _ ![1, 128, 128] (by sl_kernel_rfl) _)
  · exact row3 (fun j a b => A j a b + ∑ r, qp P K j (tk T r) a b) (j := 3) (by decide) inb_S4x128x128_S1x128x128_3_0_0 (I.e75 (ldRow hA 3 (by decide) inb_S4x128x128_S1x128x128_3_0_0))
  · exact row3 (fun j a b => A j a b + ∑ r, qp P K j (tk T r) a b) (j := 2) (by decide) inb_S4x128x128_S1x128x128_2_0_0 (I.e68 (ldRow hA 2 (by decide) inb_S4x128x128_S1x128x128_2_0_0))
  · exact row3 (fun j a b => A j a b + ∑ r, qp P K j (tk T r) a b) (j := 1) (by decide) inb_S4x128x128_S1x128x128_1_0_0 (I.e61 (ldRow hA 1 (by decide) inb_S4x128x128_S1x128x128_1_0_0))
  · exact row3 (fun j a b => A j a b + ∑ r, qp P K j (tk T r) a b) (j := 0) (by decide) inb_S4x128x128_S1x128x128_0_0_0 (I.e53 (ldRow hA 0 (by decide) inb_S4x128x128_S1x128x128_0_0_0))

end Cert.BwdIdeal.Pay

end
-- ==== Proof.BwdBlocksC.lean ====
/- The last grid point of the token mixer call: what it writes into each window. -/
module

public import proofs.«01_k».proof.Proof.BwdIns

@[expose] public section

set_option maxRecDepth 16384

noncomputable section

open Idealize.ShloMosaic Idealize.ShloMosaic.TcCoe Idealize.SL.Sem
open Idealize.ShloMosaic.Pipeline (Dat)

namespace Cert.BwdIdeal.Pay

open Cert.BwdIdeal Cert.BwdIdeal.Gen Cert.RealLift Cert.BwdMath

variable {m : (ℓ : Loc nD τ sig) → Buf (Elt Ideal) ℓ} {c : Dev nD} {t : Fin cfg0.N} {P : Par} {K : Tok} {T : Fin 16}

/-- Row `r` of a table: the sum of the eight partial sums of quantity `r`; zero past the last. -/
def tot {n k : ℕ} (G : Fin n → Fin 8 → Fin k → ℝ) : Fin 8 → Fin k → ℝ := fun r c => if h : r.val < n then ∑ s, G ⟨r.val, h⟩ s c else 0
theorem tot_lt {n k : ℕ} (G : Fin n → Fin 8 → Fin k → ℝ) {j : ℕ} (h : j < n) (h8 : j < 8) (c : Fin k) : tot G ⟨j, h8⟩ c = ∑ s, G ⟨j, h⟩ s c := dif_pos h
theorem tot_ge {n k : ℕ} (G : Fin n → Fin 8 → Fin k → ℝ) {j : ℕ} (h : n ≤ j) (h8 : j < 8) (c : Fin k) : tot G ⟨j, h8⟩ c = 0 := dif_neg (Nat.not_lt.2 h)

/-- Rows of a table. -/
def rows2 {a k : ℕ} (F : Fin a → Fin k → ℝ) : FVec Ideal ⟨2, ![a, k]⟩ .f32 := fun y => ((F (y 0) (y 1) : ℝ) : EReal)

/-- A store of `w` rows from row `o` on is a block of the table. -/
theorem row2 {a k o w : ℕ} (F : Fin a → Fin k → ℝ) (how : o + w ≤ a) {v : FVec Ideal ⟨2, ![w, k]⟩ .f32} {f : Fin w → Fin k → ℝ}
    (inb : ∀ x, ![o, 0] x + ![w, k] x ≤ (⟨2, ![a, k]⟩ : Shape).size x)
    (h : Is2 (φ := .f32) v f) (e : ∀ r l, f r l = F ⟨o + r.val, by omega⟩ l) (x : (⟨2, ![w, k]⟩ : Shape).Idx) :
    v x = rows2 F ((Rect.unit (s := ⟨2, ![a, k]⟩) ![o, 0] ![w, k] inb).emb x) := by
  have h0 : (x 0 : ℕ) < w := (x 0).isLt
  have h1 : (x 1 : ℕ) < k := (x 1).isLt
  rw [h.at x (r := ⟨x 0, h0⟩) (c := ⟨x 1, h1⟩) rfl rfl, e]
  have e0 : (Rect.unit (s := ⟨2, ![a, k]⟩) ![o, 0] ![w, k] inb).emb x 0 = (⟨o + (x 0 : ℕ), by omega⟩ : Fin a) := Fin.ext (by show (_ + _ * _ : ℕ) = _; simp)
  have e1 : (Rect.unit (s := ⟨2, ![a, k]⟩) ![o, 0] ![w, k] inb).emb x 1 = (⟨x 1, h1⟩ : Fin k) := Fin.ext (by show (_ + _ * _ : ℕ) = _; simp)
  unfold rows2
  rw [e0, e1]

/-- A row index between `o` and `o + n` is in the block of those rows. -/
theorem mem_row {a k o n : ℕ} {inb : ∀ x, ![o, 0] x + ![n, k] x ≤ (⟨2, ![a, k]⟩ : Shape).size x} {y : (⟨2, ![a, k]⟩ : Shape).Idx} (h : o ≤ (y 0 : ℕ)) (h' : (y 0 : ℕ) < o + n) :
    y ∈ (Rect.unit (s := ⟨2, ![a, k]⟩) ![o, 0] ![n, k] inb).set := by
  refine Rect.mem_set_unit.2 fun i => ?_
  have h1 : (y 1 : ℕ) < k := (y 1).isLt
  match i with
  | 0 => exact ⟨h, h'⟩
  | 1 => exact ⟨Nat.zero_le _, by simpa using h1⟩

/-- A store of `w` rows above a list of single rows. -/
theorem cover_cons {a k o w : ℕ} {i} {v} {L : List (View.Piece (Elt Ideal) (⟨2, ![a, k]⟩ : Shape) .f32)} {y : (⟨2, ![a, k]⟩ : Shape).Idx} (hy : (y 0 : ℕ) < o + w)
    (h : (y 0 : ℕ) < o → ∃ p ∈ L, y ∈ p.1.set) : ∃ p ∈ (⟨Rect.unit (s := ⟨2, ![a, k]⟩) ![o, 0] ![w, k] i, v⟩ : View.Piece (Elt Ideal) (⟨2, ![a, k]⟩ : Shape) .f32) :: L, y ∈ p.1.set := by
  by_cases hk : (y 0 : ℕ) < o
  · obtain ⟨p, hp, hm⟩ := h hk
    exact ⟨p, List.Mem.tail _ hp, hm⟩
  · exact ⟨_, List.Mem.head _, mem_row (inb := i) (by omega) hy⟩

set_option maxHeartbeats 2000000 in
theorem w11_C (I : Ins m c t P K T) (h0 : ¬t.val % 16 = 0) (h1 : t.val % 16 = 15)
    (D : Halo T (dcv P K) (outsAt0 m c (t.val - 1) (Nat.lt_of_le_of_lt (Nat.sub_le _ _) t.isLt)).2.2.2.2.2.2.1)
    (Q : Halo T (qa P K) (outsAt0 m c (t.val - 1) (Nat.lt_of_le_of_lt (Nat.sub_le _ _) t.isLt)).2.2.2.2.2.2.2.1) :
    Is2 (φ := .f32) (outsAt0 m c t.val t.isLt).1 fun r k => gxo P K (tk T r) k := by
  rw [outsAt0_C m c t h0 h1]
  frame_open
  frame_out
  simp only [readCov_ld (View.whole cc0_scratch1)]
  exact I.e97 (I.dB _ D) (I.qB _ Q) I.qL

set_option maxHeartbeats 2000000 in
theorem w12_C (I : Ins m c t P K T) (h0 : ¬t.val % 16 = 0) (h1 : t.val % 16 = 15)
    (D : Halo T (dcv P K) (outsAt0 m c (t.val - 1) (Nat.lt_of_le_of_lt (Nat.sub_le _ _) t.isLt)).2.2.2.2.2.2.1)
    (Q : Halo T (qa P K) (outsAt0 m c (t.val - 1) (Nat.lt_of_le_of_lt (Nat.sub_le _ _) t.isLt)).2.2.2.2.2.2.2.1) :
    Is3 (φ := .bf16) (outsAt0 m c t.val t.isLt).2.1 fun j r l => dz P K j (tk T r) l := by
  rw [outsAt0_C m c t h0 h1]
  frame_open
  frame_out
  simp only [readCov_ld (View.whole cc0_scratch1)]
  intro j r q
  canon_tiles x k
  · have hx : (x 0 : ℕ) < 1 := (x 0).isLt
    obtain rfl : j = 3 := Fin.ext (by dsimp at k0; omega)
    exact (I.e95 (I.qB _ Q) I.qL).at x (j := 0) (r := r) (c := q) (by dsimp; omega) (by dsimp at k1; omega) (by dsimp at k2; omega)
  · have hx : (x 0 : ℕ) < 1 := (x 0).isLt
    obtain rfl : j = 2 := Fin.ext (by dsimp at k0; omega)
    exact (I.e94 (I.dB _ D)).at x (j := 0) (r := r) (c := q) (by dsimp; omega) (by dsimp at k1; omega) (by dsimp at k2; omega)
  · have hx : (x 0 : ℕ) < 1 := (x 0).isLt
    obtain rfl : j = 1 := Fin.ext (by dsimp at k0; omega)
    exact (I.e93 (I.dB _ D)).at x (j := 0) (r := r) (c := q) (by dsimp; omega) (by dsimp at k1; omega) (by dsimp at k2; omega)
  · have hx : (x 0 : ℕ) < 1 := (x 0).isLt
    obtain rfl : j = 0 := Fin.ext (by dsimp at k0; omega)
    exact (I.e91).at x (j := 0) (r := r) (c := q) (by dsimp; omega) (by dsimp at k1; omega) (by dsimp at k2; omega)

set_option maxHeartbeats 2000000 in
theorem w13_C (I : Ins m c t P K T) (h0 : ¬t.val % 16 = 0) (h1 : t.val % 16 = 15) :
    Is2 (φ := .bf16) (outsAt0 m c t.val t.isLt).2.2.1 fun r k => dm P K (tk T r) k := by
  rw [outsAt0_C m c t h0 h1]
  frame_open
  frame_out
  exact I.e28

set_option maxHeartbeats 2000000 in
theorem w14_C (I : Ins m c t P K T) (h0 : ¬t.val % 16 = 0) (h1 : t.val % 16 = 15)
    (D : Halo T (dcv P K) (outsAt0 m c (t.val - 1) (Nat.lt_of_le_of_lt (Nat.sub_le _ _) t.isLt)).2.2.2.2.2.2.1)
    (Q : Halo T (qa P K) (outsAt0 m c (t.val - 1) (Nat.lt_of_le_of_lt (Nat.sub_le _ _) t.isLt)).2.2.2.2.2.2.2.1)
    {A : Fin 5 → Fin 8 → Fin 1024 → ℝ} (hA : Is3 (φ := .f32) (outsAt0 m c (t.val - 1) (Nat.lt_of_le_of_lt (Nat.sub_le _ _) t.isLt)).2.2.2.2.2.2.2.2.1 A) :
    Is2 (φ := .f32) (outsAt0 m c t.val t.isLt).2.2.2.1 (tot fun j => add8 T (A j) (qd P K j)) := by
  rw [outsAt0_C m c t h0 h1]
  frame_open
  frame_out
  simp only [readCov_ld (View.whole cc0_scratch1)]
  simp (disch := decide) only [↓ View.readCov_skip, ↓ View.readCov_cons_toLoadRect, ↓ View.readCov_fill]
  simp only [read_unread_whole]
  intro r q
  refine View.canon_append_of_piecesOf (Val := Elt Ideal) (s := S8x1024) (e := .f32) (rows2 (tot fun j => add8 T (A j) (qd P K j)))
    [] [_, _, _, _, _, _] ⟨?_, ?_, ?_, ?_, ?_, ?_, trivial⟩ (ix2 r q) ?_
  · exact row2 (tot fun j => add8 T (A j) (qd P K j)) (o := 5) (w := 3) (by decide) inb_S8x1024_S3x1024_5_0 p8 fun r l => (tot_ge _ (by omega) (by omega) l).symm
  · exact row2 (tot fun j => add8 T (A j) (qd P K j)) (o := 4) (w := 1) (by decide) inb_S8x1024_S1x1024_4_0 (p7 (I.e2 (I.dB _ D) (I.qB _ Q) I.qL (ldRow hA 4 (by decide) inb_S5x8x1024_S1x8x1024_4_0_0))) fun r l => by
      obtain rfl : r = 0 := Subsingleton.elim _ _
      exact (tot_lt (fun j => add8 T (A j) (qd P K j)) (j := 4) (by decide) (by decide) l).symm
  · exact row2 (tot fun j => add8 T (A j) (qd P K j)) (o := 3) (w := 1) (by decide) inb_S8x1024_S1x1024_3_0 (p6 (I.e1 (I.dB _ D) (I.qB _ Q) I.qL (ldRow hA 3 (by decide) inb_S5x8x1024_S1x8x1024_3_0_0))) fun r l => by
      obtain rfl : r = 0 := Subsingleton.elim _ _
      exact (tot_lt (fun j => add8 T (A j) (qd P K j)) (j := 3) (by decide) (by decide) l).symm
  · exact row2 (tot fun j => add8 T (A j) (qd P K j)) (o := 2) (w := 1) (by decide) inb_S8x1024_S1x1024_2_0 (p5 (I.e100 (ldRow hA 2 (by decide) inb_S5x8x1024_S1x8x1024_2_0_0))) fun r l => by
      obtain rfl : r = 0 := Subsingleton.elim _ _
      exact (tot_lt (fun j => add8 T (A j) (qd P K j)) (j := 2) (by decide) (by decide) l).symm
  · exact row2 (tot fun j => add8 T (A j) (qd P K j)) (o := 1) (w := 1) (by decide) inb_S8x1024_S1x1024_1_0 (p4 (I.e99 (ldRow hA 1 (by decide) inb_S5x8x1024_S1x8x1024_1_0_0))) fun r l => by
      obtain rfl : r = 0 := Subsingleton.elim _ _
      exact (tot_lt (fun j => add8 T (A j) (qd P K j)) (j := 1) (by decide) (by decide) l).symm
  · exact row2 (tot fun j => add8 T (A j) (qd P K j)) (o := 0) (w := 1) (by decide) inb_S8x1024_S1x1024_0_0 (p3 (I.e98 (ldRow hA 0 (by decide) inb_S5x8x1024_S1x8x1024_0_0_0))) fun r l => by
      obtain rfl : r = 0 := Subsingleton.elim _ _
      exact (tot_lt (fun j => add8 T (A j) (qd P K j)) (j := 0) (by decide) (by decide) l).symm
  · have hr : r.val < 8 := r.isLt
    refine cover_cons (o := 5) (w := 3) (by show r.val < 8; omega) fun h => ?_
    refine cover_cons (o := 4) (w := 1) (by have : r.val < 5 := h; show r.val < 4 + 1; omega) fun h => ?_
    refine cover_cons (o := 3) (w := 1) (by have : r.val < 4 := h; show r.val < 3 + 1; omega) fun h => ?_
    refine cover_cons (o := 2) (w := 1) (by have : r.val < 3 := h; show r.val < 2 + 1; omega) fun h => ?_
    refine cover_cons (o := 1) (w := 1) (by have : r.val < 2 := h; show r.val < 1 + 1; omega) fun h => ?_
    refine cover_cons (o := 0) (w := 1) (by have : r.val < 1 := h; show r.val < 0 + 1; omega) fun h => ?_
    exact absurd h (Nat.not_lt_zero _)

set_option maxHeartbeats 2000000 in
theorem w15_C (I : Ins m c t P K T) (h0 : ¬t.val % 16 = 0) (h1 : t.val % 16 = 15)
    (D : Halo T (dcv P K) (outsAt0 m c (t.val - 1) (Nat.lt_of_le_of_lt (Nat.sub_le _ _) t.isLt)).2.2.2.2.2.2.1)
    {A : Fin 4 → Fin 8 → Fin 512 → ℝ} (hA : Is3 (φ := .f32) (outsAt0 m c (t.val - 1) (Nat.lt_of_le_of_lt (Nat.sub_le _ _) t.isLt)).2.2.2.2.2.2.2.2.2.1 A) :
    Is2 (φ := .f32) (outsAt0 m c t.val t.isLt).2.2.2.2.1 (tot fun j => add8 T (A j) (qc P K j)) := by
  rw [outsAt0_C m c t h0 h1]
  frame_open
  frame_out
  simp (disch := decide) only [↓ View.readCov_skip, ↓ View.readCov_cons_toLoadRect, ↓ View.readCov_fill]
  simp only [read_unread_whole]
  intro r q
  refine View.canon_append_of_piecesOf (Val := Elt Ideal) (s := S8x512) (e := .f32) (rows2 (tot fun j => add8 T (A j) (qc P K j)))
    [] [_, _, _, _, _] ⟨?_, ?_, ?_, ?_, ?_, trivial⟩ (ix2 r q) ?_
  · exact row2 (tot fun j => add8 T (A j) (qc P K j)) (o := 4) (w := 4) (by decide) inb_S8x512_S4x512_4_0 p13 fun r l => (tot_ge _ (by omega) (by omega) l).symm
  · exact row2 (tot fun j => add8 T (A j) (qc P K j)) (o := 3) (w := 1) (by decide) inb_S8x512_S1x512_3_0 (p12 (I.e80 (ldRow hA 3 (by decide) inb_S4x8x512_S1x8x512_3_0_0))) fun r l => by
      obtain rfl : r = 0 := Subsingleton.elim _ _
      exact (tot_lt (fun j => add8 T (A j) (qc P K j)) (j := 3) (by decide) (by decide) l).symm
  · exact row2 (tot fun j => add8 T (A j) (qc P K j)) (o := 2) (w := 1) (by decide) inb_S8x512_S1x512_2_0 (p11 (I.e45 (ldRow hA 2 (by decide) inb_S4x8x512_S1x8x512_2_0_0))) fun r l => by
      obtain rfl : r = 0 := Subsingleton.elim _ _
      exact (tot_lt (fun j => add8 T (A j) (qc P K j)) (j := 2) (by decide) (by decide) l).symm
  · exact row2 (tot fun j => add8 T (A j) (qc P K j)) (o := 1) (w := 1) (by decide) inb_S8x512_S1x512_1_0 (p10 (I.e44 (I.dB _ D) (ldRow hA 1 (by decide) inb_S4x8x512_S1x8x512_1_0_0))) fun r l => by
      obtain rfl : r = 0 := Subsingleton.elim _ _
      exact (tot_lt (fun j => add8 T (A j) (qc P K j)) (j := 1) (by decide) (by decide) l).symm
  · exact row2 (tot fun j => add8 T (A j) (qc P K j)) (o := 0) (w := 1) (by decide) inb_S8x512_S1x512_0_0 (p9 (I.e43 (I.dB _ D) (ldRow hA 0 (by decide) inb_S4x8x512_S1x8x512_0_0_0))) fun r l => by
      obtain rfl : r = 0 := Subsingleton.elim _ _
      exact (tot_lt (fun j => add8 T (A j) (qc P K j)) (j := 0) (by decide) (by decide) l).symm
  · have hr : r.val < 8 := r.isLt
    refine cover_cons (o := 4) (w := 4) (by show r.val < 8; omega) fun h => ?_
    refine cover_cons (o := 3) (w := 1) (by have : r.val < 4 := h; show r.val < 3 + 1; omega) fun h => ?_
    refine cover_cons (o := 2) (w := 1) (by have : r.val < 3 := h; show r.val < 2 + 1; omega) fun h => ?_
    refine cover_cons (o := 1) (w := 1) (by have : r.val < 2 := h; show r.val < 1 + 1; omega) fun h => ?_
    refine cover_cons (o := 0) (w := 1) (by have : r.val < 1 := h; show r.val < 0 + 1; omega) fun h => ?_
    exact absurd h (Nat.not_lt_zero _)

set_option maxHeartbeats 2000000 in
theorem w16_C (I : Ins m c t P K T) (h0 : ¬t.val % 16 = 0) (h1 : t.val % 16 = 15)
    {A : Fin 4 → Fin 128 → Fin 128 → ℝ} (hA : Is3 (φ := .f32) (outsAt0 m c (t.val - 1) (Nat.lt_of_le_of_lt (Nat.sub_le _ _) t.isLt)).2.2.2.2.2.2.2.2.2.2 A) :
    Is3 (φ := .f32) (outsAt0 m c t.val t.isLt).2.2.2.2.2.1 (fun j a b => A j a b + ∑ r, qp P K j (tk T r) a b) := by
  rw [outsAt0_C m c t h0 h1]
  frame_open
  frame_out
  rw [readCov_ld (View.whole cc0_scratch4)]
  simp only [read_unread_whole]
  intro j s q
  have e : (Rect.unit (s := S4x128x128) ![0, 0, 0] ![4, 128, 128] inb_S4x128x128_S4x128x128_0_0_0).idx (ix3 j s q) = ix3 j s q :=
    funext fun a => Fin.ext (by match a with | 0 => exact (by show (0 + 1 * j.val : ℕ) = j.val; omega) | 1 => exact (by show (0 + 1 * s.val : ℕ) = s.val; omega) | 2 => exact (by show (0 + 1 * q.val : ℕ) = q.val; omega))
  refine (congrArg (View.canon (Val := Elt Ideal) (s := S4x128x128) (e := .f32) _) e).trans ?_
  refine View.canon_append_of_piecesOf (Val := Elt Ideal) (s := S4x128x128) (e := .f32) (rows3 (fun j a b => A j a b + ∑ r, qp P K j (tk T r) a b))
    [] [_, _, _, _] ⟨?_, ?_, ?_, ?_, trivial⟩ (ix3 j s q) (View.cover_of_tiledL _ ![1, 128, 128] (by sl_kernel_rfl) _)
  · exact row3 (fun j a b => A j a b + ∑ r, qp P K j (tk T r) a b) (j := 3) (by decide) inb_S4x128x128_S1x128x128_3_0_0 (I.e75 (ldRow hA 3 (by decide) inb_S4x128x128_S1x128x128_3_0_0))
  · exact row3 (fun j a b => A j a b + ∑ r, qp P K j (tk T r) a b) (j := 2) (by decide) inb_S4x128x128_S1x128x128_2_0_0 (I.e68 (ldRow hA 2 (by decide) inb_S4x128x128_S1x128x128_2_0_0))
  · exact row3 (fun j a b => A j a b + ∑ r, qp P K j (tk T r) a b) (j := 1) (by decide) inb_S4x128x128_S1x128x128_1_0_0 (I.e61 (ldRow hA 1 (by decide) inb_S4x128x128_S1x128x128_1_0_0))
  · exact row3 (fun j a b => A j a b + ∑ r, qp P K j (tk T r) a b) (j := 0) (by decide) inb_S4x128x128_S1x128x128_0_0_0 (I.e53 (ldRow hA 0 (by decide) inb_S4x128x128_S1x128x128_0_0_0))

end Cert.BwdIdeal.Pay

end
-- ==== Proof.BwdFinal.lean ====
/- The arrays the token mixer call leaves, over the real numbers: the grid runs over the tiles from the last to the first, each point handing the
   rows its neighbour needs and the partial sums to the next one. -/
module

public import proofs.«01_k».proof.Proof.BwdBlocksA
public import proofs.«01_k».proof.Proof.BwdBlocksB
public import proofs.«01_k».proof.Proof.BwdBlocksC
public import Idealize.ShloMosaic.Lib.Claim

@[expose] public section

noncomputable section

namespace Cert.BwdIdeal.Pay

open Idealize.ShloMosaic Idealize.SL.Sem Cert.BwdIdeal Cert.BwdIdeal.Gen Cert.RealLift Cert.BwdMath

/-- Where each result's block lies, at every grid point. -/
theorem odx : ∀ t : Fin cfg0.N, win0_11.index t = ![15 - t.val, 0] ∧ win0_12.index t = ![0, 15 - t.val, 0] ∧ win0_13.index t = ![15 - t.val, 0]
    ∧ win0_14.index t = ![0, 0] ∧ win0_15.index t = ![0, 0] ∧ win0_16.index t = ![0, 0, 0] :=
  (by decide +kernel : ∀ t : Fin grid0.N, _)
theorem lt_N (t : Fin cfg0.N) : t.val < 16 := lt_of_lt_of_eq t.isLt N_0
/-- The tile of a grid point. -/
def tl (t : Fin cfg0.N) : Fin 16 := ⟨15 - t.val, by omega⟩
theorem cases3 (t : Fin cfg0.N) : (t.val % 16 = 0 ∧ ¬t.val % 16 = 15) ∨ (¬t.val % 16 = 0 ∧ ¬t.val % 16 = 15) ∨ (¬t.val % 16 = 0 ∧ t.val % 16 = 15) := by
  omega

theorem Is3.congr {φ : FTy} {a b d : ℕ} {v : FVec Ideal ⟨3, ![a, b, d]⟩ φ} {f g : Fin a → Fin b → Fin d → ℝ} (h : Is3 v f) (e : ∀ i j k, f i j k = g i j k) : Is3 v g :=
  fun i j k => (h i j k).trans (by rw [e])

/-- What grid point `i` adds to row `s` of a partial sum of eight rows, and to a sum over all its tokens. -/
def part {k : ℕ} (f : Fin 8192 → Fin k → ℝ) (i : ℕ) (s : Fin 8) (q : Fin k) : ℝ :=
  if h : i < 16 then ∑ u : Fin 64, f (tk ⟨15 - i, by omega⟩ ⟨u.val * 8 + s.val, by omega⟩) q else 0
def ptot (f : Fin 8192 → ℝ) (i : ℕ) : ℝ := if h : i < 16 then ∑ r : Fin 512, f (tk ⟨15 - i, by omega⟩ r) else 0

theorem add8_eq {k : ℕ} (A : Fin 8 → Fin k → ℝ) (f : Fin 8192 → Fin k → ℝ) (t : Fin cfg0.N) (s : Fin 8) (q : Fin k) : add8 (tl t) A f s q = A s q + part f t.val s q := by
  unfold part
  rw [dif_pos (lt_N t)]
  rfl
theorem ptot_eq (f : Fin 8192 → ℝ) (t : Fin cfg0.N) : ∑ r, f (tk (tl t) r) = ptot f t.val := by
  unfold ptot
  rw [dif_pos (lt_N t)]
  rfl

/-- The points run over the tiles backwards, which no sum sees. -/
theorem sum_rev (g : Fin 16 → ℝ) : ∑ i : Fin 16, g ⟨15 - i.val, by omega⟩ = ∑ i, g i :=
  (Fintype.sum_congr _ _ fun i => congrArg g (Fin.ext (by simp [Fin.revPerm_apply, Fin.val_rev]))).trans (Equiv.sum_comp Fin.revPerm g)

theorem sum_ptot (f : Fin 8192 → ℝ) : ∑ i ∈ Finset.range 16, ptot f i = ∑ t, f t := by
  refine Eq.trans ?_ ((sum_rev fun T => ∑ r, f (tk T r)).trans (Fin.sum_univ_tiles 16 512 rfl f).symm)
  rw [Finset.sum_range]
  refine Finset.sum_congr rfl fun i _ => ?_
  unfold ptot
  rw [dif_pos i.isLt]

theorem sum_part {k : ℕ} (f : Fin 8192 → Fin k → ℝ) (q : Fin k) : ∑ s : Fin 8, ∑ i ∈ Finset.range 16, part f i s q = ∑ t, f t q := by
  rw [← sum_ptot fun t => f t q, Finset.sum_comm]
  refine Finset.sum_congr rfl fun i hi => ?_
  have h : i < 16 := Finset.mem_range.mp hi
  unfold part ptot
  simp only [dif_pos h]
  rw [Fin.sum_univ_tiles 64 8 rfl, Finset.sum_comm]

variable {m : (ℓ : Loc nD τ sig) → Buf (Elt Ideal) ℓ} {c : Dev nD} {P : Par} {K : Tok}

/-- The rows handed on by point `n`. -/
theorem carry (I : ∀ t : Fin cfg0.N, Ins m c t P K (tl t)) : ∀ (n : ℕ) (hn : n < cfg0.N), n < 15 →
    Next (tl ⟨n, hn⟩) (dcv P K) (outsAt0 m c n hn).2.2.2.2.2.2.1 ∧ Next (tl ⟨n, hn⟩) (qa P K) (outsAt0 m c n hn).2.2.2.2.2.2.2.1
  | 0, hn, _ => ⟨s0_A (t := ⟨0, hn⟩) (I _) (Nat.zero_mod _) (by simp) rfl, s1_A (t := ⟨0, hn⟩) (I _) (Nat.zero_mod _) (by simp) rfl⟩
  | n + 1, hn, h15 => by
    obtain ⟨d, q⟩ := carry I n (by omega) (by omega)
    have e : (tl ⟨n + 1, hn⟩).val + 1 = (tl ⟨n, by omega⟩).val := by unfold tl; dsimp; omega
    rcases cases3 ⟨n + 1, hn⟩ with ⟨h0, h1⟩ | ⟨h0, h1⟩ | ⟨h0, h1⟩
    · exfalso; dsimp at h0; omega
    · exact ⟨s0_B (t := ⟨n + 1, hn⟩) (I _) h0 h1 (d.halo e), s1_B (t := ⟨n + 1, hn⟩) (I _) h0 h1 (q.halo e)⟩
    · exfalso; dsimp at h1; omega

/-- The rows a later point finds. -/
theorem halos (I : ∀ t : Fin cfg0.N, Ins m c t P K (tl t)) (t : Fin cfg0.N) (h0 : ¬t.val % 16 = 0) :
    Halo (tl t) (dcv P K) (outsAt0 m c (t.val - 1) (Nat.lt_of_le_of_lt (Nat.sub_le _ _) t.isLt)).2.2.2.2.2.2.1
      ∧ Halo (tl t) (qa P K) (outsAt0 m c (t.val - 1) (Nat.lt_of_le_of_lt (Nat.sub_le _ _) t.isLt)).2.2.2.2.2.2.2.1 := by
  have h16 := lt_N t
  obtain ⟨d, q⟩ := carry I (t.val - 1) (Nat.lt_of_le_of_lt (Nat.sub_le _ _) t.isLt) (by omega)
  have e : (tl t).val + 1 = (tl ⟨t.val - 1, Nat.lt_of_le_of_lt (Nat.sub_le _ _) t.isLt⟩).val := by unfold tl; dsimp; omega
  exact ⟨d.halo e, q.halo e⟩

/-- A partial sum after point `n`: what the points up to it added. -/
theorem acc_d (I : ∀ t : Fin cfg0.N, Ins m c t P K (tl t)) : ∀ (n : ℕ) (hn : n < cfg0.N), n < 15 →
    Is3 (φ := .f32) (outsAt0 m c n hn).2.2.2.2.2.2.2.2.1 fun j s q => ∑ i ∈ Finset.range (n + 1), part (qd P K j) i s q
  | 0, hn, _ => by
    refine Is3.congr (acc_d_A (t := ⟨0, hn⟩) (I _) (Nat.zero_mod _) (by simp) rfl) fun j s q => ?_
    rw [Finset.sum_range_one]
    exact (add8_eq _ (qd P K j) ⟨0, hn⟩ s q).trans (zero_add _)
  | n + 1, hn, h15 => by
    have ih := acc_d I n (by omega) (by omega)
    rcases cases3 ⟨n + 1, hn⟩ with ⟨h0, h1⟩ | ⟨h0, h1⟩ | ⟨h0, h1⟩
    · exfalso; dsimp at h0; omega
    · obtain ⟨d, q⟩ := halos I ⟨n + 1, hn⟩ h0
      refine Is3.congr (acc_d_B (t := ⟨n + 1, hn⟩) (I _) h0 h1 d q ih) fun j s q => ?_
      rw [Finset.sum_range_succ _ (n + 1)]
      exact (add8_eq _ (qd P K j) ⟨n + 1, hn⟩ s q)
    · exfalso; dsimp at h1; omega

/-- A partial sum after point `n`: what the points up to it added. -/
theorem acc_c (I : ∀ t : Fin cfg0.N, Ins m c t P K (tl t)) : ∀ (n : ℕ) (hn : n < cfg0.N), n < 15 →
    Is3 (φ := .f32) (outsAt0 m c n hn).2.2.2.2.2.2.2.2.2.1 fun j s q => ∑ i ∈ Finset.range (n + 1), part (qc P K j) i s q
  | 0, hn, _ => by
    refine Is3.congr (acc_c_A (t := ⟨0, hn⟩) (I _) (Nat.zero_mod _) (by simp) rfl) fun j s q => ?_
    rw [Finset.sum_range_one]
    exact (add8_eq _ (qc P K j) ⟨0, hn⟩ s q).trans (zero_add _)
  | n + 1, hn, h15 => by
    have ih := acc_c I n (by omega) (by omega)
    rcases cases3 ⟨n + 1, hn⟩ with ⟨h0, h1⟩ | ⟨h0, h1⟩ | ⟨h0, h1⟩
    · exfalso; dsimp at h0; omega
    · obtain ⟨d, q⟩ := halos I ⟨n + 1, hn⟩ h0
      refine Is3.congr (acc_c_B (t := ⟨n + 1, hn⟩) (I _) h0 h1 d ih) fun j s q => ?_
      rw [Finset.sum_range_succ _ (n + 1)]
      exact (add8_eq _ (qc P K j) ⟨n + 1, hn⟩ s q)
    · exfalso; dsimp at h1; omega

/-- A partial sum after point `n`: what the points up to it added. -/
theorem acc_p (I : ∀ t : Fin cfg0.N, Ins m c t P K (tl t)) : ∀ (n : ℕ) (hn : n < cfg0.N), n < 15 →
    Is3 (φ := .f32) (outsAt0 m c n hn).2.2.2.2.2.2.2.2.2.2 fun j s q => ∑ i ∈ Finset.range (n + 1), ptot (fun t => qp P K j t s q) i
  | 0, hn, _ => by
    refine Is3.congr (acc_p_A (t := ⟨0, hn⟩) (I _) (Nat.zero_mod _) (by simp)) fun j s q => ?_
    rw [Finset.sum_range_one]
    exact (congrArg (_ + ·) (ptot_eq (fun t => qp P K j t s q) ⟨0, hn⟩)).trans (zero_add _)
  | n + 1, hn, h15 => by
    have ih := acc_p I n (by omega) (by omega)
    rcases cases3 ⟨n + 1, hn⟩ with ⟨h0, h1⟩ | ⟨h0, h1⟩ | ⟨h0, h1⟩
    · exfalso; dsimp at h0; omega
    · obtain ⟨d, q⟩ := halos I ⟨n + 1, hn⟩ h0
      refine Is3.congr (acc_p_B (t := ⟨n + 1, hn⟩) (I _) h0 h1 ih) fun j s q => ?_
      rw [Finset.sum_range_succ _ (n + 1)]
      exact (congrArg (_ + ·) (ptot_eq (fun t => qp P K j t s q) ⟨n + 1, hn⟩))
    · exfalso; dsimp at h1; omega

theorem blk11 (I : ∀ t : Fin cfg0.N, Ins m c t P K (tl t)) (t : Fin cfg0.N) : Is2 (φ := .f32) (outsAt0 m c t.val t.isLt).1 fun r k => gxo P K (tk (tl t) r) k := by
  have h16 := lt_N t
  rcases cases3 t with ⟨h0, h1⟩ | ⟨h0, h1⟩ | ⟨h0, h1⟩
  · exact w11_A (I t) h0 h1 (by unfold tl; dsimp; omega)
  · obtain ⟨d, q⟩ := halos I t h0
    exact w11_B (I t) h0 h1 d q
  · obtain ⟨d, q⟩ := halos I t h0
    exact w11_C (I t) h0 h1 d q

theorem blk12 (I : ∀ t : Fin cfg0.N, Ins m c t P K (tl t)) (t : Fin cfg0.N) : Is3 (φ := .bf16) (outsAt0 m c t.val t.isLt).2.1 fun j r l => dz P K j (tk (tl t) r) l := by
  have h16 := lt_N t
  rcases cases3 t with ⟨h0, h1⟩ | ⟨h0, h1⟩ | ⟨h0, h1⟩
  · exact w12_A (I t) h0 h1 (by unfold tl; dsimp; omega)
  · obtain ⟨d, q⟩ := halos I t h0
    exact w12_B (I t) h0 h1 d q
  · obtain ⟨d, q⟩ := halos I t h0
    exact w12_C (I t) h0 h1 d q

theorem blk13 (I : ∀ t : Fin cfg0.N, Ins m c t P K (tl t)) (t : Fin cfg0.N) : Is2 (φ := .bf16) (outsAt0 m c t.val t.isLt).2.2.1 fun r k => dm P K (tk (tl t) r) k := by
  have h16 := lt_N t
  rcases cases3 t with ⟨h0, h1⟩ | ⟨h0, h1⟩ | ⟨h0, h1⟩
  · exact w13_A (I t) h0 h1
  · obtain ⟨d, q⟩ := halos I t h0
    exact w13_B (I t) h0 h1
  · obtain ⟨d, q⟩ := halos I t h0
    exact w13_C (I t) h0 h1

theorem out11 (I : ∀ t : Fin cfg0.N, Ins m c t P K (tl t)) :
    (dats m 0 c).arrAt 11 cfg0.N = (fun y => ((gxo P K (y 0) (y 1) : ℝ) : EReal) : FVec Ideal S8192x1024 .f32) := by
  refine (dats m 0 c).arrAt_eq_of_covers 11 _ (by decide +kernel) fun t hf y => ?_
  have hb := blk11 I t
  blk_simp
  rw [after0_11]
  have h1 : (y 1 : ℕ) < 1024 := (y 1).isLt
  have h0 : (y 0 : ℕ) < 512 := (y 0).isLt
  refine (Is2.at hb y (r := ⟨y 0, h0⟩) (c := ⟨y 1, h1⟩) rfl rfl).trans ?_
  refine congrArg (fun x : ℝ => (x : EReal)) ?_
  have ea : (((cfg0.win 11).blk t).view.emb y 0 : Fin 8192) = tk (tl t) ⟨y 0, h0⟩ := Fin.ext (by unfold tk tl; blk_simp [odx t]; done)
  have eb : (((cfg0.win 11).blk t).view.emb y 1 : Fin 1024) = ⟨y 1, h1⟩ := Fin.ext (by blk_simp [odx t])
  exact (congrArg₂ (gxo P K) ea eb).symm

theorem out13 (I : ∀ t : Fin cfg0.N, Ins m c t P K (tl t)) :
    (dats m 0 c).arrAt 13 cfg0.N = (fun y => ((dm P K (y 0) (y 1) : ℝ) : EReal) : FVec Ideal S8192x1024 .bf16) := by
  refine (dats m 0 c).arrAt_eq_of_covers 13 _ (by decide +kernel) fun t hf y => ?_
  have hb := blk13 I t
  blk_simp
  rw [after0_13]
  have h1 : (y 1 : ℕ) < 1024 := (y 1).isLt
  have h0 : (y 0 : ℕ) < 512 := (y 0).isLt
  refine (Is2.at hb y (r := ⟨y 0, h0⟩) (c := ⟨y 1, h1⟩) rfl rfl).trans ?_
  refine congrArg (fun x : ℝ => (x : EReal)) ?_
  have ea : (((cfg0.win 13).blk t).view.emb y 0 : Fin 8192) = tk (tl t) ⟨y 0, h0⟩ := Fin.ext (by unfold tk tl; blk_simp [odx t]; done)
  have eb : (((cfg0.win 13).blk t).view.emb y 1 : Fin 1024) = ⟨y 1, h1⟩ := Fin.ext (by blk_simp [odx t])
  exact (congrArg₂ (dm P K) ea eb).symm

theorem out12 (I : ∀ t : Fin cfg0.N, Ins m c t P K (tl t)) :
    (dats m 0 c).arrAt 12 cfg0.N = (fun y => ((dz P K (y 0) (y 1) (y 2) : ℝ) : EReal) : FVec Ideal S4x8192x512 .bf16) := by
  refine (dats m 0 c).arrAt_eq_of_covers 12 _ (by decide +kernel) fun t hf y => ?_
  have hb := blk12 I t
  blk_simp
  rw [after0_12]
  have h0 : (y 0 : ℕ) < 4 := (y 0).isLt
  have h1 : (y 1 : ℕ) < 512 := (y 1).isLt
  have h2 : (y 2 : ℕ) < 512 := (y 2).isLt
  refine (Is3.at hb y (j := ⟨y 0, h0⟩) (r := ⟨y 1, h1⟩) (c := ⟨y 2, h2⟩) rfl rfl rfl).trans ?_
  refine congrArg (fun x : ℝ => (x : EReal)) ?_
  have e0 : (((cfg0.win 12).blk t).view.emb y 0 : Fin 4) = ⟨y 0, h0⟩ := Fin.ext (by blk_simp [odx t])
  have ea : (((cfg0.win 12).blk t).view.emb y 1 : Fin 8192) = tk (tl t) ⟨y 1, h1⟩ := Fin.ext (by unfold tk tl; blk_simp [odx t]; done)
  have eb : (((cfg0.win 12).blk t).view.emb y 2 : Fin 512) = ⟨y 2, h2⟩ := Fin.ext (by blk_simp [odx t])
  refine Eq.trans ?_ (congrArg₂ (fun (r : Fin 8192) (k : Fin 512) => dz P K (((cfg0.win 12).blk t).view.emb y 0) r k) ea eb).symm
  exact (congrArg (fun (j : Fin 4) => dz P K j (tk (tl t) ⟨y 1, h1⟩) ⟨y 2, h2⟩) e0).symm

theorem tot_eq {n k : ℕ} (F : Fin n → Fin 8192 → Fin k → ℝ) {A : Fin n → Fin 8 → Fin k → ℝ} {t : Fin cfg0.N} (ht : t.val = 15)
    (hA : ∀ j s q, A j s q = ∑ i ∈ Finset.range t.val, part (F j) i s q) (r : Fin 8) (q : Fin k) :
    tot (fun j => add8 (tl t) (A j) (F j)) r q = if h : r.val < n then ∑ t, F ⟨r.val, h⟩ t q else 0 := by
  unfold tot
  by_cases h : r.val < n
  · rw [dif_pos h, dif_pos h, ← sum_part]
    refine Finset.sum_congr rfl fun s _ => ?_
    refine (add8_eq (A ⟨r.val, h⟩) (F ⟨r.val, h⟩) t s q).trans ?_
    rw [hA, ← Finset.sum_range_succ, ht]
  · rw [dif_neg h, dif_neg h]

theorem out14 (I : ∀ t : Fin cfg0.N, Ins m c t P K (tl t)) :
    (dats m 0 c).arrAt 14 cfg0.N = (fun y => ((sd P K (y 0) (y 1) : ℝ) : EReal) : FVec Ideal S8x1024 .f32) := by
  refine (dats m 0 c).arrAt_eq_of_covers 14 _ (by decide +kernel) fun t hf y => ?_
  have hm : t.val % 16 = 15 := (flush0_14 t).mp hf
  have h16 := lt_N t
  have ht : t.val = 15 := by omega
  obtain ⟨d, q⟩ := halos I t (by omega)
  have hb := w14_C (I t) (by omega) hm d q (acc_d I (t.val - 1) (Nat.lt_of_le_of_lt (Nat.sub_le _ _) t.isLt) (by omega))
  rw [show (tot fun j => add8 (tl t) ((fun j s q => ∑ i ∈ Finset.range (t.val - 1 + 1), part (qd P K j) i s q) j) (qd P K j)) = sd P K from
    funext fun r => funext fun q => tot_eq (qd P K) ht (fun j s q => by rw [show t.val - 1 + 1 = t.val by omega]) r q] at hb
  blk_simp
  rw [after0_14]
  have h1 : (y 1 : ℕ) < 1024 := (y 1).isLt
  have h0 : (y 0 : ℕ) < 8 := (y 0).isLt
  refine (Is2.at hb y (r := ⟨y 0, h0⟩) (c := ⟨y 1, h1⟩) rfl rfl).trans ?_
  refine congrArg (fun x : ℝ => (x : EReal)) ?_
  have ea : (((cfg0.win 14).blk t).view.emb y 0 : Fin 8) = ⟨y 0, h0⟩ := Fin.ext (by blk_simp [odx t])
  have eb : (((cfg0.win 14).blk t).view.emb y 1 : Fin 1024) = ⟨y 1, h1⟩ := Fin.ext (by blk_simp [odx t])
  exact (congrArg₂ (sd P K) ea eb).symm

theorem out15 (I : ∀ t : Fin cfg0.N, Ins m c t P K (tl t)) :
    (dats m 0 c).arrAt 15 cfg0.N = (fun y => ((scs P K (y 0) (y 1) : ℝ) : EReal) : FVec Ideal S8x512 .f32) := by
  refine (dats m 0 c).arrAt_eq_of_covers 15 _ (by decide +kernel) fun t hf y => ?_
  have hm : t.val % 16 = 15 := (flush0_15 t).mp hf
  have h16 := lt_N t
  have ht : t.val = 15 := by omega
  obtain ⟨d, q⟩ := halos I t (by omega)
  have hb := w15_C (I t) (by omega) hm d (acc_c I (t.val - 1) (Nat.lt_of_le_of_lt (Nat.sub_le _ _) t.isLt) (by omega))
  rw [show (tot fun j => add8 (tl t) ((fun j s q => ∑ i ∈ Finset.range (t.val - 1 + 1), part (qc P K j) i s q) j) (qc P K j)) = scs P K from
    funext fun r => funext fun q => tot_eq (qc P K) ht (fun j s q => by rw [show t.val - 1 + 1 = t.val by omega]) r q] at hb
  blk_simp
  rw [after0_15]
  have h1 : (y 1 : ℕ) < 512 := (y 1).isLt
  have h0 : (y 0 : ℕ) < 8 := (y 0).isLt
  refine (Is2.at hb y (r := ⟨y 0, h0⟩) (c := ⟨y 1, h1⟩) rfl rfl).trans ?_
  refine congrArg (fun x : ℝ => (x : EReal)) ?_
  have ea : (((cfg0.win 15).blk t).view.emb y 0 : Fin 8) = ⟨y 0, h0⟩ := Fin.ext (by blk_simp [odx t])
  have eb : (((cfg0.win 15).blk t).view.emb y 1 : Fin 512) = ⟨y 1, h1⟩ := Fin.ext (by blk_simp [odx t])
  exact (congrArg₂ (scs P K) ea eb).symm

theorem out16 (I : ∀ t : Fin cfg0.N, Ins m c t P K (tl t)) :
    (dats m 0 c).arrAt 16 cfg0.N = (fun y => ((dwp P K (y 0) (y 1) (y 2) : ℝ) : EReal) : FVec Ideal S4x128x128 .f32) := by
  refine (dats m 0 c).arrAt_eq_of_covers 16 _ (by decide +kernel) fun t hf y => ?_
  have hm : t.val % 16 = 15 := (flush0_16 t).mp hf
  have h16 := lt_N t
  have ht : t.val = 15 := by omega
  have hb : Is3 (φ := .f32) (outsAt0 m c t.val t.isLt).2.2.2.2.2.1 (dwp P K) :=
    Is3.congr (w16_C (I t) (by omega) hm (acc_p I (t.val - 1) (Nat.lt_of_le_of_lt (Nat.sub_le _ _) t.isLt) (by omega))) fun j a b => by
      refine (congrArg (_ + ·) (ptot_eq (fun t => qp P K j t a b) t)).trans ?_
      rw [show t.val - 1 + 1 = t.val by omega, ← Finset.sum_range_succ, ht]
      exact sum_ptot fun t => qp P K j t a b
  blk_simp
  rw [after0_16]
  have h0 : (y 0 : ℕ) < 4 := (y 0).isLt
  have h1 : (y 1 : ℕ) < 128 := (y 1).isLt
  have h2 : (y 2 : ℕ) < 128 := (y 2).isLt
  refine (Is3.at hb y (j := ⟨y 0, h0⟩) (r := ⟨y 1, h1⟩) (c := ⟨y 2, h2⟩) rfl rfl rfl).trans ?_
  refine congrArg (fun x : ℝ => (x : EReal)) ?_
  have e0 : (((cfg0.win 16).blk t).view.emb y 0 : Fin 4) = ⟨y 0, h0⟩ := Fin.ext (by blk_simp [odx t])
  have ea : (((cfg0.win 16).blk t).view.emb y 1 : Fin 128) = ⟨y 1, h1⟩ := Fin.ext (by blk_simp [odx t])
  have eb : (((cfg0.win 16).blk t).view.emb y 2 : Fin 128) = ⟨y 2, h2⟩ := Fin.ext (by blk_simp [odx t])
  refine Eq.trans ?_ (congrArg₂ (fun (r : Fin 128) (k : Fin 128) => dwp P K (((cfg0.win 16).blk t).view.emb y 0) r k) ea eb).symm
  exact (congrArg (fun (j : Fin 4) => dwp P K j (⟨y 1, h1⟩) ⟨y 2, h2⟩) e0).symm

end Cert.BwdIdeal.Pay

end
-- ==== Proof.BwdWin.lean ====
/- Sums over a window of tokens: the running sum of a column and its reverse, as a window of the whole height. -/
module

public import proofs.«01_k».proof.Proof.BwdMath
public import Idealize.ShloMosaic.Lib.ShapeFacts

@[expose] public section

noncomputable section

namespace Cert.BwdWin

open Idealize.ShloMosaic Cert.RealLift Cert.BwdMath

theorem foldl_sum {ι : Type*} (g : ι → EReal) : ∀ (L : List ι) (a : EReal), L.foldl (fun r n => r + g n) a = a + (L.map g).sum
  | [], a => (add_zero a).symm
  | n :: L, a => by rw [List.foldl_cons, foldl_sum g L, List.map_cons, List.sum_cons, add_assoc]

theorem numel_col (N : ℕ) : (⟨3, ![1, N, 1]⟩ : Shape).numel = N := by
  rw [Shape.numel_rank3]; show 1 * N * 1 = N; omega

/-- Position `n` of a column is its index `(0, n, 0)`. -/
theorem symm_col {N : ℕ} (n : Fin (⟨3, ![1, N, 1]⟩ : Shape).numel) : (⟨3, ![1, N, 1]⟩ : Shape).rowMajor.symm n = ix3 (0 : Fin 1) (n.cast (numel_col N)) (0 : Fin 1) :=
  ((⟨3, ![1, N, 1]⟩ : Shape).rowMajor.symm_apply_eq).2 (Fin.ext (by
    rw [Shape.rowMajor_val_three]
    show n.val = (0 * N + n.val) * 1 + 0
    omega))

/-- A window of the whole height, padded by `lo` in front: every position inside the column counts once. -/
theorem window {N C : ℕ} (lo hi : ℕ) (x : FVec Ideal ⟨3, ![1, N, C]⟩ .f32) {u : Shape} (v : u.Idx → Ideal .f32)
    (h : (⟨3, ![1, N, C]⟩ : Shape).ReduceWindows (![1, N, 1] : Fin 3 → ℕ) ![1, 1, 1] ![0, lo, 0] ![0, hi, 0] ⟨3, ![1, N, C]⟩) (hu : 0 < u.numel)
    (hv : v (Shape.Idx.first hu) = (0 : EReal)) (t : Fin N) (l : Fin C) :
    Host.reduceWindowAdd ![1, N, 1] ![1, 1, 1] ![0, lo, 0] ![0, hi, 0] x v h hu (ix3 0 t l)
      = ∑ n : Fin N, if hn : lo ≤ t.val + n.val ∧ t.val + n.val - lo < N then x (ix3 0 ⟨t.val + n.val - lo, hn.2⟩ l) else (0 : EReal) := by
  show Ideal.hostReduceWindowAdd ![1, N, 1] ![1, 1, 1] ![0, lo, 0] ![0, hi, 0] h x (v (Shape.Idx.first hu)) (ix3 0 t l) = _
  rw [hv]
  unfold Ideal.hostReduceWindowAdd Host.reduceWindow
  dsimp only
  refine (foldl_sum _ _ _).trans ?_
  rw [zero_add]
  refine (congrArg List.sum (List.ofFn_eq_map (f := _)).symm).trans ((List.sum_ofFn).trans ?_)
  refine Fintype.sum_equiv (finCongr (numel_col N)) _ _ fun n => ?_
  have hl := l.isLt
  have hw0 : ((⟨3, ![1, N, 1]⟩ : Shape).rowMajor.symm n 0).val = 0 := by rw [symm_col]; rfl
  have hw1 : ((⟨3, ![1, N, 1]⟩ : Shape).rowMajor.symm n 1).val = n.val := by rw [symm_col]; rfl
  have hw2 : ((⟨3, ![1, N, 1]⟩ : Shape).rowMajor.symm n 2).val = 0 := by rw [symm_col]; rfl
  show _ = if hn : lo ≤ t.val + n.val ∧ t.val + n.val - lo < N then x (ix3 0 ⟨t.val + n.val - lo, hn.2⟩ l) else (0 : EReal)
  split
  · next hin =>
    have h1 := hin 1
    change lo ≤ t.val * 1 + ((⟨3, ![1, N, 1]⟩ : Shape).rowMajor.symm n 1).val ∧ t.val * 1 + ((⟨3, ![1, N, 1]⟩ : Shape).rowMajor.symm n 1).val - lo < N at h1
    rw [hw1, Nat.mul_one] at h1
    rw [dif_pos h1]
    refine congrArg x (funext fun a => Fin.ext ?_)
    match a with
    | ⟨0, _⟩ =>
      show 0 * 1 + ((⟨3, ![1, N, 1]⟩ : Shape).rowMajor.symm n 0).val - 0 = 0
      rw [hw0]
    | ⟨1, _⟩ =>
      show t.val * 1 + ((⟨3, ![1, N, 1]⟩ : Shape).rowMajor.symm n 1).val - lo = t.val + n.val - lo
      rw [hw1, Nat.mul_one]
    | ⟨2, _⟩ =>
      show l.val * 1 + ((⟨3, ![1, N, 1]⟩ : Shape).rowMajor.symm n 2).val - 0 = l.val
      rw [hw2]; omega
  · next hin =>
    rw [dif_neg fun hn => hin fun a => by
      match a with
      | ⟨0, _⟩ =>
        show 0 ≤ 0 * 1 + ((⟨3, ![1, N, 1]⟩ : Shape).rowMajor.symm n 0).val ∧ 0 * 1 + ((⟨3, ![1, N, 1]⟩ : Shape).rowMajor.symm n 0).val - 0 < 1
        rw [hw0]; omega
      | ⟨1, _⟩ =>
        show lo ≤ t.val * 1 + ((⟨3, ![1, N, 1]⟩ : Shape).rowMajor.symm n 1).val ∧ t.val * 1 + ((⟨3, ![1, N, 1]⟩ : Shape).rowMajor.symm n 1).val - lo < N
        rw [hw1, Nat.mul_one]; exact hn
      | ⟨2, _⟩ =>
        show 0 ≤ l.val * 1 + ((⟨3, ![1, N, 1]⟩ : Shape).rowMajor.symm n 2).val ∧ l.val * 1 + ((⟨3, ![1, N, 1]⟩ : Shape).rowMajor.symm n 2).val - 0 < C
        rw [hw2]; omega]

theorem coe_dite (p : Prop) [Decidable p] (a : p → ℝ) : (if h : p then ((a h : ℝ) : EReal) else 0) = ((if h : p then a h else 0 : ℝ) : EReal) := by split_ifs <;> rfl
theorem coe_dite' (p : Prop) [Decidable p] (a : ¬p → ℝ) : (if h : p then (0 : EReal) else ((a h : ℝ) : EReal)) = ((if h : p then 0 else a h : ℝ) : EReal) := by split_ifs <;> rfl

/-- The sum over the tokens up to `t`: the `k`-th term is the token `8191 - k` before `t`. -/
def upto {C : ℕ} (f : Fin 8192 → Fin C → ℝ) (t : Fin 8192) (l : Fin C) : ℝ :=
  ∑ k : Fin 8192, if h : 8191 ≤ t.val + k.val ∧ t.val + k.val - 8191 < 8192 then f ⟨t.val + k.val - 8191, h.2⟩ l else 0

theorem running {C : ℕ} {x : FVec Ideal ⟨3, ![1, 8192, C]⟩ .f32} {f : Fin 8192 → Fin C → ℝ} (hx : Is3 x fun _ => f) {u : Shape} (v : u.Idx → Ideal .f32)
    (h : (⟨3, ![1, 8192, C]⟩ : Shape).ReduceWindows (![1, 8192, 1] : Fin 3 → ℕ) ![1, 1, 1] ![0, 8191, 0] ![0, 0, 0] ⟨3, ![1, 8192, C]⟩) (hu : 0 < u.numel)
    (hv : v (Shape.Idx.first hu) = (0 : EReal)) : Is3 (Host.reduceWindowAdd ![1, 8192, 1] ![1, 1, 1] ![0, 8191, 0] ![0, 0, 0] x v h hu) fun _ => upto f := by
  intro i t l
  obtain rfl : i = 0 := Subsingleton.elim _ _
  rw [window 8191 0 x v h hu hv t l]
  simp only [hx _ _ _, coe_dite, coe_sum]
  rfl

/-- The reversed running sum adds what lies ahead of a token. -/
theorem onward {C : ℕ} {x : FVec Ideal ⟨3, ![1, 8192, C]⟩ .f32} {f : Fin 8192 → Fin C → ℝ} (hx : Is3 x fun _ => f) {u : Shape} (v : u.Idx → Ideal .f32)
    (h : (⟨3, ![1, 8192, C]⟩ : Shape).ReduceWindows (![1, 8192, 1] : Fin 3 → ℕ) ![1, 1, 1] ![0, 0, 0] ![0, 8191, 0] ⟨3, ![1, 8192, C]⟩) (hu : 0 < u.numel)
    (hv : v (Shape.Idx.first hu) = (0 : EReal)) :
    Is3 (Host.reduceWindowAdd ![1, 8192, 1] ![1, 1, 1] ![0, 0, 0] ![0, 8191, 0] x v h hu) fun _ t l => ∑ s ∈ Finset.range 8192, nx f t s l := by
  intro i t l
  obtain rfl : i = 0 := Subsingleton.elim _ _
  rw [window 0 8191 x v h hu hv t l]
  simp only [hx _ _ _, coe_dite, coe_sum]
  refine congrArg (fun x : ℝ => (x : EReal)) ?_
  rw [Finset.sum_range]
  refine Finset.sum_congr rfl fun k _ => ?_
  unfold nx
  by_cases hk : t.val + k.val < 8192
  · rw [dif_pos hk, dif_pos ⟨Nat.zero_le _, by omega⟩]; rfl
  · rw [dif_neg hk, dif_neg fun q => hk (by omega)]

/-- Of a value less the one `w` tokens ahead, summed from `t` on, the first `w` values are left. -/
theorem ahead {α : Type*} (f : Fin 8192 → α → ℝ) (w : ℕ) (t : Fin 8192) (l : α) :
    ∑ s ∈ Finset.range 8192, nx (fun t l => f t l - nx f t w l) t s l = ∑ s ∈ Finset.range w, nx f t s l := by
  have far : ∀ s, 8192 ≤ s → nx f t s l = 0 := fun s hs => by unfold nx; rw [dif_neg (by omega)]
  have e : ∀ s, nx (fun t l => f t l - nx f t w l) t s l = nx f t s l - nx f t (w + s) l := fun s => by
    by_cases h : t.val + s < 8192
    · unfold nx
      simp only [dif_pos h]
      congr 1
      simp only [show t.val + s + w = t.val + (w + s) by omega]
    · unfold nx
      rw [dif_neg h, dif_neg h, dif_neg (by omega), sub_zero]
  simp only [e, Finset.sum_sub_distrib]
  have h1 := Finset.sum_range_add (fun s => nx f t s l) w 8192
  have h2 := Finset.sum_range_add (fun s => nx f t s l) 8192 w
  rw [add_comm 8192 w, Finset.sum_eq_zero fun s _ => far (8192 + s) (by omega), add_zero] at h2
  rw [← h2, h1]
  ring

end Cert.BwdWin

end
-- ==== Proof.BwdFwd.lean ====
/- The token mixer itself over the real numbers, from the step's input to its output projection: what its gradient reads. -/
module

public import proofs.«01_k».proof.Proof.BwdWin

@[expose] public section

noncomputable section

namespace Cert.BwdMath

open Idealize.ShloMosaic Cert.RealLift Cert.BwdWin

/-- The step's input, the shift of its modulation, and the gradient from above. -/
structure Src where
  x : Fin 8192 → Row
  sh : Row
  dx : Fin 8192 → Row

/-- The value `s` tokens back; zero before the first token. -/
def pv {α : Type*} (f : Fin 8192 → α → ℝ) (t : Fin 8192) (s : ℕ) (l : α) : ℝ := if t.val < s then 0 else f ⟨t.val - s, by omega⟩ l

variable (P : Par) (S : Src)

def hm (t : Fin 8192) : Row := fun c => S.x t c * (1 + P.sc c) + S.sh c
def zf (t : Fin 8192) (k : Fin 2048) : ℝ := ∑ c, hm P S t c * P.wi c k
/-- Block `j` of the projection. -/
def zj (j : Fin 4) (t : Fin 8192) (l : Fin 512) : ℝ := zf P S t (zx j l)
def uf (t : Fin 8192) (l : Fin 512) : ℝ := zj P S 1 t l * zj P S 2 t l
def cvf (t : Fin 8192) (l : Fin 512) : ℝ := pv (uf P S) t 2 l * P.cw 0 l + pv (uf P S) t 1 l * P.cw 1 l + uf P S t l * P.cw 2 l
/-- Group `j`'s pooled mean, less the value itself. -/
def plg (j : Fin 4) (t : Fin 8192) (k : Fin 128) : ℝ :=
  (upto (zj P S 3) t (gx j k) - pv (fun t k => upto (zj P S 3) t (gx j k)) t (win j) k) / cnt j t - zj P S 3 t (gx j k)
def plf (t : Fin 8192) (l : Fin 512) : ℝ := plg P S (gq l) t (gr l)
/-- The pooled means through the pool's weights. -/
def pmf (t : Fin 8192) (l : Fin 512) : ℝ := ∑ q, P.wp (gq l) q (gr l) * plg P S (gq l) t q
def catf (t : Fin 8192) (k : Fin 1024) : ℝ :=
  if h : k.val < 512 then zj P S 0 t ⟨k.val, h⟩ * cvf P S t ⟨k.val, h⟩ else pmf P S t ⟨k.val - 512, by omega⟩ * P.ps ⟨k.val - 512, by omega⟩
def mixf (t : Fin 8192) : Row := fun c => ∑ k, catf P S t k * P.wo k c

/-- What the gradient reads of the tokens. -/
def saved : Tok := ⟨S.x, mixf P S, S.dx, zj P S 0, zj P S 1, zj P S 2, cvf P S, plf P S⟩

theorem gq_gx (j : Fin 4) (k : Fin 128) : gq (gx j k) = j := Fin.ext (by unfold gq gx; dsimp; omega)
theorem gr_gx (j : Fin 4) (k : Fin 128) : gr (gx j k) = k := Fin.ext (by unfold gr gx; dsimp; omega)
theorem gx_gq (l : Fin 512) : gx (gq l) (gr l) = l := Fin.ext (by unfold gq gr gx; dsimp; omega)
theorem plf_gx (j : Fin 4) (t : Fin 8192) (k : Fin 128) : plf P S t (gx j k) = plg P S j t k := by unfold plf; rw [gq_gx, gr_gx]

theorem pmf_eq (t : Fin 8192) (l : Fin 512) : pmf P S t l = pm P (saved P S) (gq l) t (gr l) := by
  unfold pmf pm
  refine Finset.sum_congr rfl fun q _ => ?_
  show _ = plf P S t (gx (gq l) q) * _
  rw [plf_gx, mul_comm]

theorem cnt_pos (j : Fin 4) (t : Fin 8192) : 0 < cnt j t := by
  have : (0 : ℝ) < win j := by fin_cases j <;> norm_num [win]
  have h : (0 : ℝ) < (t.val : ℝ) + 1 := by positivity
  exact lt_min h this

/-- A sum of values `s` tokens back times weights is the sum of the values times the weights `s` tokens ahead. -/
theorem sum_shift {α : Type*} (f d : Fin 8192 → α → ℝ) (s : ℕ) (hs : s ≤ 8192) (l : α) : ∑ t, pv f t s l * d t l = ∑ t, f t l * nx d t s l := by
  have e1 : ∀ t : Fin 8192, pv f t s l * d t l = (fun n : ℕ => if h : n < 8192 then pv f ⟨n, h⟩ s l * d ⟨n, h⟩ l else 0) t.val := fun t => by dsimp only; rw [dif_pos t.isLt]
  have e2 : ∀ t : Fin 8192, f t l * nx d t s l = (fun n : ℕ => if h : n < 8192 then f ⟨n, h⟩ l * nx d ⟨n, h⟩ s l else 0) t.val := fun t => by dsimp only; rw [dif_pos t.isLt]
  rw [Fintype.sum_congr _ _ e1, Fintype.sum_congr _ _ e2, ← Finset.sum_range (fun n : ℕ => if h : n < 8192 then pv f ⟨n, h⟩ s l * d ⟨n, h⟩ l else 0),
    ← Finset.sum_range (fun n : ℕ => if h : n < 8192 then f ⟨n, h⟩ l * nx d ⟨n, h⟩ s l else 0)]
  obtain ⟨w, hw⟩ := Nat.exists_eq_add_of_le hs
  have lo : ∀ n ∈ Finset.range s, (fun n : ℕ => if h : n < 8192 then pv f ⟨n, h⟩ s l * d ⟨n, h⟩ l else 0) n = 0 := fun n hn => by
    have := Finset.mem_range.mp hn
    dsimp only
    rw [dif_pos (by omega)]
    unfold pv
    rw [if_pos this, zero_mul]
  have hi : ∀ n ∈ Finset.range s, (fun n : ℕ => if h : n < 8192 then f ⟨n, h⟩ l * nx d ⟨n, h⟩ s l else 0) (w + n) = 0 := fun n hn => by
    have := Finset.mem_range.mp hn
    dsimp only
    rw [dif_pos (by omega)]
    unfold nx
    rw [dif_neg (by dsimp only; omega), mul_zero]
  have a1 := Finset.sum_range_add (fun n : ℕ => if h : n < 8192 then pv f ⟨n, h⟩ s l * d ⟨n, h⟩ l else 0) s w
  have a2 := Finset.sum_range_add (fun n : ℕ => if h : n < 8192 then f ⟨n, h⟩ l * nx d ⟨n, h⟩ s l else 0) w s
  rw [Finset.sum_eq_zero lo, zero_add] at a1
  rw [Finset.sum_eq_zero hi, add_zero] at a2
  rw [← hw] at a1
  rw [add_comm w s, ← hw] at a2
  rw [a1, a2]
  refine Finset.sum_congr rfl fun n hn => ?_
  have := Finset.mem_range.mp hn
  rw [dif_pos (by omega : s + n < 8192), dif_pos (by omega : n < 8192)]
  unfold pv nx
  rw [if_neg (by dsimp only; omega), dif_pos (by dsimp only; omega)]
  simp only [Nat.add_sub_cancel_left, Nat.add_comm s n, Nat.add_sub_cancel]

end Cert.BwdMath

end
-- ==== Proof.BwdRef.lean ====
/- The reference of the mixer's gradient, operation by operation, over the real numbers: the forward lines and the normalisation. -/
module

public import proofs.«01_k».proof.Proof.Gen.BwdRefIdeal.Read
public import Idealize.ShloMosaic.Lib.Pipeline.ValueKit
public import Idealize.ShloMosaic.Lib.Pointwise
public import proofs.«01_k».proof.Proof.BwdPay
public import proofs.«01_k».proof.Proof.BwdFwd

@[expose] public section

set_option maxRecDepth 16384

noncomputable section

open Idealize.ShloMosaic Idealize.ShloMosaic.TcCoe Idealize.SL.Sem

namespace Cert.BwdRefIdeal.Real

open Cert.BwdRefIdeal Cert.BwdRefIdeal.Gen Cert.BwdRefIdeal.Read Cert.RealLift Cert.BwdMath Cert.BwdWin
open Cert.BwdIdeal.Pay (coe_min c_4 c_8 c_16)

/-- Rank four, element by element a real. -/
def Is4 {a b d e : ℕ} {φ : FTy} (v : FVec Ideal ⟨4, ![a, b, d, e]⟩ φ) (f : Fin a → Fin b → Fin d → Fin e → ℝ) : Prop :=
  ∀ i j k l, v (ix4 i j k l) = ((f i j k l : ℝ) : EReal)

/-- What the arguments hold: the parameters and the tokens, the modulation in its first three parts. -/
structure RArgs (x0 : FVec Ideal S1x8192x1024 .f32) (x1 : FVec Ideal S1x6144 .f32) (x2 : FVec Ideal S1x1024x2048 .f32) (x3 : FVec Ideal S1x3x512 .f32)
    (x4 : FVec Ideal S1x4x128x128 .f32) (x5 : FVec Ideal S1x512 .f32) (x6 : FVec Ideal S1x1024x1024 .f32) (x7 : FVec Ideal S1x1024 .f32)
    (x9 : FVec Ideal S1x8192x1024 .f32) (P : Par) (S : Src) : Prop where
  x : ∀ i r k, x0 (ix3 i r k) = ((S.x r k : ℝ) : EReal)
  sh : ∀ (i : Fin 1) (k : Fin 1024) h, x1 (ix2 i ⟨k.val, h⟩) = ((S.sh k : ℝ) : EReal)
  sc : ∀ (i : Fin 1) (k : Fin 1024) h, x1 (ix2 i ⟨1024 + k.val, h⟩) = ((P.sc k : ℝ) : EReal)
  g : ∀ (i : Fin 1) (k : Fin 1024) h, x1 (ix2 i ⟨2048 + k.val, h⟩) = ((P.g k : ℝ) : EReal)
  wi : ∀ i r k, x2 (ix3 i r k) = ((P.wi r k : ℝ) : EReal)
  cw : ∀ i r k, x3 (ix3 i r k) = ((P.cw r k : ℝ) : EReal)
  wp : ∀ i j r k, x4 (ix4 i j r k) = ((P.wp j r k : ℝ) : EReal)
  ps : ∀ i k, x5 (ix2 i k) = ((P.ps k : ℝ) : EReal)
  wo : ∀ i r k, x6 (ix3 i r k) = ((P.wo r k : ℝ) : EReal)
  lg : ∀ i k, x7 (ix2 i k) = ((P.lg k : ℝ) : EReal)
  dx : ∀ i r k, x9 (ix3 i r k) = ((S.dx r k : ℝ) : EReal)

variable {x0 : FVec Ideal S1x8192x1024 .f32} {x1 : FVec Ideal S1x6144 .f32} {x2 : FVec Ideal S1x1024x2048 .f32} {x3 : FVec Ideal S1x3x512 .f32}
  {x4 : FVec Ideal S1x4x128x128 .f32} {x5 : FVec Ideal S1x512 .f32} {x6 : FVec Ideal S1x1024x1024 .f32} {x7 : FVec Ideal S1x1024 .f32}
  {x9 : FVec Ideal S1x8192x1024 .f32} {P : Par} {S : Src}

/-- A sum over the two outer unit axes picks the one element there. -/
theorem sum_unit01 {n : ℕ} (hr : (⟨3, ![1, 1, n]⟩ : Shape).ReducesTo [0, 1] ⟨1, ![n]⟩) (v : (⟨3, ![1, 1, n]⟩ : Shape).Idx → EReal) (z : EReal) (r : Fin n) :
    Ideal.hostReduceAdd hr v z (ix1 r) = z + v (ix3 0 0 r) := by
  have hd : ∀ i : (⟨3, ![1, 1, n]⟩ : Shape).Idx, (hr.drop i 0 : ℕ) = (i 2 : ℕ) := fun i => rfl
  have e : ∀ i : (⟨3, ![1, 1, n]⟩ : Shape).Idx, hr.drop i = ix1 r → i = ix3 0 0 r := fun i hi => by
    have h2 : (i 2 : ℕ) = r := by rw [← hd i, hi]; rfl
    funext k
    match k with
    | ⟨0, _⟩ => exact Subsingleton.elim (α := Fin 1) _ _
    | ⟨1, _⟩ => exact Subsingleton.elim (α := Fin 1) _ _
    | ⟨2, _⟩ => exact Fin.ext h2
  unfold Ideal.hostReduceAdd
  refine congrArg (z + ·) (Finset.sum_eq_single (ix3 0 0 r) (fun b hb hne => absurd (e b (Finset.mem_filter.1 hb).2) hne) fun hn => absurd ?_ hn)
  refine Finset.mem_filter.2 ⟨Finset.mem_univ _, ?_⟩
  funext b
  match b with
  | ⟨0, _⟩ => exact Fin.ext (hd _)

/-- A sum over the outer and the inner unit axis picks the one element there. -/
theorem sum_unit02 {n : ℕ} (hr : (⟨3, ![1, n, 1]⟩ : Shape).ReducesTo [0, 2] ⟨1, ![n]⟩) (v : (⟨3, ![1, n, 1]⟩ : Shape).Idx → EReal) (z : EReal) (r : Fin n) :
    Ideal.hostReduceAdd hr v z (ix1 r) = z + v (ix3 0 r 0) := by
  have hd : ∀ i : (⟨3, ![1, n, 1]⟩ : Shape).Idx, (hr.drop i 0 : ℕ) = (i 1 : ℕ) := fun i => rfl
  have e : ∀ i : (⟨3, ![1, n, 1]⟩ : Shape).Idx, hr.drop i = ix1 r → i = ix3 0 r 0 := fun i hi => by
    have h2 : (i 1 : ℕ) = r := by rw [← hd i, hi]; rfl
    funext k
    match k with
    | ⟨0, _⟩ => exact Subsingleton.elim (α := Fin 1) _ _
    | ⟨1, _⟩ => exact Fin.ext h2
    | ⟨2, _⟩ => exact Subsingleton.elim (α := Fin 1) _ _
  unfold Ideal.hostReduceAdd
  refine congrArg (z + ·) (Finset.sum_eq_single (ix3 0 r 0) (fun b hb hne => absurd (e b (Finset.mem_filter.1 hb).2) hne) fun hn => absurd ?_ hn)
  refine Finset.mem_filter.2 ⟨Finset.mem_univ _, ?_⟩
  funext b
  match b with
  | ⟨0, _⟩ => exact Fin.ext (hd _)

theorem coe_dite2 (p : Prop) [Decidable p] (a : p → ℝ) (b : ¬p → ℝ) :
    (if h : p then ((a h : ℝ) : EReal) else ((b h : ℝ) : EReal)) = ((if h : p then a h else b h : ℝ) : EReal) := by split_ifs <;> rfl

/-- The number of a token as a value. -/
theorem tok (r : Fin 8192) : (FloatOps.sitofp .f32 (BitVec.ofNat 32 r.val) : Ideal .f32) = ((r.val : ℝ) : EReal) := by
  have h := r.isLt
  have e : (BitVec.ofNat 32 r.val).toInt = (r.val : ℤ) := by
    rw [BitVec.toInt_eq_toNat_of_lt (by simp; omega)]; simp
    try omega
  show (((BitVec.ofNat 32 r.val).toInt : ℝ) : EReal) = _
  rw [e]
  simp

/-- A token's sum against the centred row, through the gradient of the inverse root. -/
def uu (P : Par) (S : Src) (t : Fin 8192) : ℝ :=
  (∑ k, cen (res P (saved P S) t) k * en P (saved P S) t k) * (-(1 / 2) * (rstd (res P (saved P S) t) / (var (res P (saved P S) t) + eps))) / 1024

/-- What the arguments hold, in one statement. -/
theorem RArgs.all (A : RArgs x0 x1 x2 x3 x4 x5 x6 x7 x9 P S) :
    (∀ i r k, x0 (ix3 i r k) = ((S.x r k : ℝ) : EReal))
    ∧ (∀ (i : Fin 1) (k : Fin 1024) h, x1 (ix2 i ⟨k.val, h⟩) = ((S.sh k : ℝ) : EReal))
    ∧ (∀ (i : Fin 1) (k : Fin 1024) h, x1 (ix2 i ⟨1024 + k.val, h⟩) = ((P.sc k : ℝ) : EReal))
    ∧ (∀ (i : Fin 1) (k : Fin 1024) h, x1 (ix2 i ⟨2048 + k.val, h⟩) = ((P.g k : ℝ) : EReal))
    ∧ (∀ i r k, x2 (ix3 i r k) = ((P.wi r k : ℝ) : EReal))
    ∧ (∀ i r k, x3 (ix3 i r k) = ((P.cw r k : ℝ) : EReal))
    ∧ (∀ i j r k, x4 (ix4 i j r k) = ((P.wp j r k : ℝ) : EReal))
    ∧ (∀ i k, x5 (ix2 i k) = ((P.ps k : ℝ) : EReal))
    ∧ (∀ i r k, x6 (ix3 i r k) = ((P.wo r k : ℝ) : EReal))
    ∧ (∀ i k, x7 (ix2 i k) = ((P.lg k : ℝ) : EReal))
    ∧ (∀ i r k, x9 (ix3 i r k) = ((S.dx r k : ℝ) : EReal)) :=
  ⟨A.x, A.sh, A.sc, A.g, A.wi, A.cw, A.wp, A.ps, A.wo, A.lg, A.dx⟩

/-- The sums over unit axes, the window's cases, the counts and the constants of the lines below, read upwards. -/
theorem kit :
    (∀ (n : ℕ) (hr : (⟨3, ![1, 1, n]⟩ : Shape).ReducesTo [0, 1] ⟨1, ![n]⟩) (v : (⟨3, ![1, 1, n]⟩ : Shape).Idx → EReal) (z : EReal) (r : Fin n),
      Ideal.hostReduceAdd hr v z (ix1 r) = z + v (ix3 0 0 r))
    ∧ (∀ (n : ℕ) (hr : (⟨3, ![1, n, 1]⟩ : Shape).ReducesTo [0, 2] ⟨1, ![n]⟩) (v : (⟨3, ![1, n, 1]⟩ : Shape).Idx → EReal) (z : EReal) (r : Fin n),
      Ideal.hostReduceAdd hr v z (ix1 r) = z + v (ix3 0 r 0))
    ∧ (∀ (p : Prop) [Decidable p] (a : p → ℝ) (b : ¬p → ℝ),
      (if h : p then ((a h : ℝ) : EReal) else ((b h : ℝ) : EReal)) = ((if h : p then a h else b h : ℝ) : EReal))
    ∧ (∀ a b : ℝ, min (a : EReal) (b : EReal) = ((min a b : ℝ) : EReal))
    ∧ Ideal.ofBits .f32 0x40800000#32 = ((4 : ℝ) : EReal) ∧ Ideal.ofBits .f32 0x41000000#32 = ((8 : ℝ) : EReal) ∧ Ideal.ofBits .f32 0x41800000#32 = ((16 : ℝ) : EReal)
    ∧ (∀ r : Fin 8192, (FloatOps.sitofp .f32 (BitVec.ofNat 32 r.val) : Ideal .f32) = ((r.val : ℝ) : EReal)) :=
  ⟨fun _ => sum_unit01, fun _ => sum_unit02, coe_dite2, coe_min, c_4, c_8, c_16, tok⟩

variable (A : RArgs x0 x1 x2 x3 x4 x5 x6 x7 x9 P S)
include A

theorem r19 : Is3 (φ := .f32) (val_main_v19 (F := Ideal) x0 x1) (fun _ => hm P S) := by
  intro i r l
  pointwise [val_main_v19, val_main_v17, val_main_v16, val_main_v15, val_main_v14, val_main_cst_1, val_main_v2, val_main_v0, val_main_v18, val_main_v1]
  simp only [A.all, kit, zero_add, add_zero, ups]
  all_goals rfl

theorem r21 : Is3 (φ := .f32) (val_main_v21 (F := Ideal) x0 x1 x2) (fun _ => zf P S) := by
  intro i r l
  pointwise [val_main_v21, val_main_v20, val_main_v9, val_main_v7, val_main_cst]
  simp only [r19 A _ _ _, A.all, kit, zero_add, add_zero, ups]
  all_goals rfl

theorem r22 : Is3 (φ := .f32) (val_main_v22 (F := Ideal) x0 x1 x2) (fun _ => zj P S 0) := by
  intro i r l
  pointwise [val_main_v22]
  simp only [r21 A _ _ _, A.all, kit, zero_add, add_zero, ups]
  all_goals exact congrArg (fun x : ℝ => (x : EReal)) (congrArg (zf P S r) (Fin.ext (by simp [zx]; try omega)))

theorem r23 : Is3 (φ := .f32) (val_main_v23 (F := Ideal) x0 x1 x2) (fun _ => zj P S 1) := by
  intro i r l
  pointwise [val_main_v23]
  simp only [r21 A _ _ _, A.all, kit, zero_add, add_zero, ups]
  all_goals exact congrArg (fun x : ℝ => (x : EReal)) (congrArg (zf P S r) (Fin.ext (by simp [zx]; try omega)))

theorem r24 : Is3 (φ := .f32) (val_main_v24 (F := Ideal) x0 x1 x2) (fun _ => zj P S 2) := by
  intro i r l
  pointwise [val_main_v24]
  simp only [r21 A _ _ _, A.all, kit, zero_add, add_zero, ups]
  all_goals exact congrArg (fun x : ℝ => (x : EReal)) (congrArg (zf P S r) (Fin.ext (by simp [zx]; try omega)))

theorem r25 : Is3 (φ := .f32) (val_main_v25 (F := Ideal) x0 x1 x2) (fun _ => zj P S 3) := by
  intro i r l
  pointwise [val_main_v25]
  simp only [r21 A _ _ _, A.all, kit, zero_add, add_zero, ups]
  all_goals exact congrArg (fun x : ℝ => (x : EReal)) (congrArg (zf P S r) (Fin.ext (by simp [zx]; try omega)))

theorem r26 : Is3 (φ := .f32) (val_main_v26 (F := Ideal) x0 x1 x2) (fun _ => uf P S) := by
  intro i r l
  pointwise [val_main_v26]
  simp only [r23 A _ _ _, r24 A _ _ _, A.all, kit, zero_add, add_zero, ups]
  all_goals rfl

theorem r30 : Is3 (φ := .f32) (val_main_v30 (F := Ideal) x0 x1 x2) (fun _ t l => pv (uf P S) t 2 l) := by
  intro i r l
  pointwise [val_main_v30, val_main_v28, val_main_v27, val_main_cst_2]
  simp only [r26 A _ _ _, A.all, kit, zero_add, add_zero, ups]
  unfold pv
  refine congrArg (fun x : ℝ => (x : EReal)) ?_
  by_cases h : r.val < 2
  · rw [if_pos h, dif_pos (by omega)]
  · rw [if_neg h, dif_neg (by omega)]
    all_goals exact congrArg (fun n => uf P S n l) (Fin.ext (by dsimp only; try omega))

theorem r36 : Is3 (φ := .f32) (val_main_v36 (F := Ideal) x0 x1 x2) (fun _ t l => pv (uf P S) t 1 l) := by
  intro i r l
  pointwise [val_main_v36, val_main_v28, val_main_v27, val_main_cst_2]
  simp only [r26 A _ _ _, A.all, kit, zero_add, add_zero, ups]
  unfold pv
  refine congrArg (fun x : ℝ => (x : EReal)) ?_
  by_cases h : r.val < 1
  · rw [if_pos h, dif_pos (by omega)]
  · rw [if_neg h, dif_neg (by omega)]
    all_goals exact congrArg (fun n => uf P S n l) (Fin.ext (by dsimp only; try omega))

theorem r43 : Is3 (φ := .f32) (val_main_v43 (F := Ideal) x0 x1 x2) (fun _ => uf P S) := by
  intro i r l
  pointwise [val_main_v43, val_main_v28, val_main_v27, val_main_cst_2]
  simp only [r26 A _ _ _, A.all, kit, zero_add, add_zero, ups]
  all_goals rfl

theorem r49 : Is3 (φ := .f32) (val_main_v49 (F := Ideal) x0 x1 x2 x3) (fun _ => cvf P S) := by
  intro i r l
  pointwise [val_main_v49, val_main_v42, val_main_v35, val_main_v34, val_main_v33, val_main_v32, val_main_v31, val_main_v10, val_main_v41, val_main_v40, val_main_v39, val_main_v38, val_main_v37, val_main_v48, val_main_v47, val_main_v46, val_main_v45, val_main_v44]
  simp only [r30 A _ _ _, r36 A _ _ _, r43 A _ _ _, A.all, kit, zero_add, add_zero, ups]
  all_goals rfl

theorem r50 : Is3 (φ := .f32) (val_main_v50 (F := Ideal) x0 x1 x2) (fun _ => upto (zj P S 3)) := by
  unfold val_main_v50
  exact running (r25 A) _ _ _ (by show (Ideal.ofBits .f32 0x00000000#32 : EReal) = 0; simp [Ideal.ofBits, Ideal.ieee])

theorem r54 : Is3 (φ := .f32) (val_main_v54 (F := Ideal) ) (fun _ t _ => (t.val : ℝ) + 1) := by
  intro i r l
  pointwise [val_main_v54, val_main_v53, val_main_v52, val_main_cst_4, val_main_v51]
  simp only [A.all, kit, zero_add, add_zero, ups]
  exact congrArg (fun x : ℝ => (x : EReal)) (add_comm _ _)

theorem r55 : Is3 (φ := .f32) (val_main_v55 (F := Ideal) x0 x1 x2) (fun _ t k => upto (zj P S 3) t (gx 0 k)) := by
  intro i r l
  pointwise [val_main_v55]
  simp only [r50 A _ _ _, A.all, kit, zero_add, add_zero, ups]
  all_goals exact congrArg (fun x : ℝ => (x : EReal)) (congrArg (upto (zj P S 3) r) (Fin.ext (by simp [gx]; try omega)))

theorem r59 : Is3 (φ := .f32) (val_main_v59 (F := Ideal) x0 x1 x2) (fun _ t k => pv (fun t k => upto (zj P S 3) t (gx 0 k)) t (win 0) k) := by
  intro i r l
  pointwise [val_main_v59, val_main_v57, val_main_v56, val_main_cst_5]
  simp only [r55 A _ _ _, A.all, kit, zero_add, add_zero, ups]
  rw [show win 0 = 2 from rfl]
  unfold pv
  refine congrArg (fun x : ℝ => (x : EReal)) ?_
  by_cases h : r.val < 2
  · rw [if_pos h, dif_pos (by omega)]
  · rw [if_neg h, dif_neg (by omega)]
    all_goals exact congrArg (fun n => upto (zj P S 3) n (gx 0 l)) (Fin.ext (by dsimp only; try omega))

theorem r62 : Is3 (φ := .f32) (val_main_v62 (F := Ideal) ) (fun _ t _ => cnt 0 t) := by
  intro i r l
  pointwise [val_main_v62, val_main_v61, val_main_cst_7]
  simp only [r54 A _ _ _, A.all, kit, zero_add, add_zero, ups]
  refine congrArg (fun x : ℝ => (x : EReal)) ?_
  unfold cnt
  rw [show win 0 = 2 from rfl]
  norm_num

theorem r65 : Is3 (φ := .f32) (val_main_v65 (F := Ideal) x0 x1 x2) (fun _ t k => zj P S 3 t (gx 0 k)) := by
  intro i r l
  pointwise [val_main_v65]
  simp only [r25 A _ _ _, A.all, kit, zero_add, add_zero, ups]
  all_goals exact congrArg (fun x : ℝ => (x : EReal)) (congrArg (zj P S 3 r) (Fin.ext (by simp [gx]; try omega)))

theorem r66 : Is3 (φ := .f32) (val_main_v66 (F := Ideal) x0 x1 x2) (fun _ => plg P S 0) := by
  intro i r l
  pointwise [val_main_v66, val_main_v64, val_main_v60, val_main_v63]
  simp only [r55 A _ _ _, r59 A _ _ _, r62 A _ _ _, r65 A _ _ _, A.all, kit, zero_add, add_zero, coe_div _ _ (cnt_pos _ _).ne', ups]
  all_goals rfl

theorem r67 : Is3 (φ := .f32) (val_main_v67 (F := Ideal) x0 x1 x2) (fun _ t k => upto (zj P S 3) t (gx 1 k)) := by
  intro i r l
  pointwise [val_main_v67]
  simp only [r50 A _ _ _, A.all, kit, zero_add, add_zero, ups]
  all_goals exact congrArg (fun x : ℝ => (x : EReal)) (congrArg (upto (zj P S 3) r) (Fin.ext (by simp [gx]; try omega)))

theorem r71 : Is3 (φ := .f32) (val_main_v71 (F := Ideal) x0 x1 x2) (fun _ t k => pv (fun t k => upto (zj P S 3) t (gx 1 k)) t (win 1) k) := by
  intro i r l
  pointwise [val_main_v71, val_main_v69, val_main_v68, val_main_cst_8]
  simp only [r67 A _ _ _, A.all, kit, zero_add, add_zero, ups]
  rw [show win 1 = 4 from rfl]
  unfold pv
  refine congrArg (fun x : ℝ => (x : EReal)) ?_
  by_cases h : r.val < 4
  · rw [if_pos h, dif_pos (by omega)]
  · rw [if_neg h, dif_neg (by omega)]
    all_goals exact congrArg (fun n => upto (zj P S 3) n (gx 1 l)) (Fin.ext (by dsimp only; try omega))

theorem r74 : Is3 (φ := .f32) (val_main_v74 (F := Ideal) ) (fun _ t _ => cnt 1 t) := by
  intro i r l
  pointwise [val_main_v74, val_main_v73, val_main_cst_10]
  simp only [r54 A _ _ _, A.all, kit, zero_add, add_zero, ups]
  refine congrArg (fun x : ℝ => (x : EReal)) ?_
  unfold cnt
  rw [show win 1 = 4 from rfl]
  norm_num

theorem r77 : Is3 (φ := .f32) (val_main_v77 (F := Ideal) x0 x1 x2) (fun _ t k => zj P S 3 t (gx 1 k)) := by
  intro i r l
  pointwise [val_main_v77]
  simp only [r25 A _ _ _, A.all, kit, zero_add, add_zero, ups]
  all_goals exact congrArg (fun x : ℝ => (x : EReal)) (congrArg (zj P S 3 r) (Fin.ext (by simp [gx]; try omega)))

theorem r78 : Is3 (φ := .f32) (val_main_v78 (F := Ideal) x0 x1 x2) (fun _ => plg P S 1) := by
  intro i r l
  pointwise [val_main_v78, val_main_v76, val_main_v72, val_main_v75]
  simp only [r67 A _ _ _, r71 A _ _ _, r74 A _ _ _, r77 A _ _ _, A.all, kit, zero_add, add_zero, coe_div _ _ (cnt_pos _ _).ne', ups]
  all_goals rfl

theorem r79 : Is3 (φ := .f32) (val_main_v79 (F := Ideal) x0 x1 x2) (fun _ t k => upto (zj P S 3) t (gx 2 k)) := by
  intro i r l
  pointwise [val_main_v79]
  simp only [r50 A _ _ _, A.all, kit, zero_add, add_zero, ups]
  all_goals exact congrArg (fun x : ℝ => (x : EReal)) (congrArg (upto (zj P S 3) r) (Fin.ext (by simp [gx]; try omega)))

theorem r83 : Is3 (φ := .f32) (val_main_v83 (F := Ideal) x0 x1 x2) (fun _ t k => pv (fun t k => upto (zj P S 3) t (gx 2 k)) t (win 2) k) := by
  intro i r l
  pointwise [val_main_v83, val_main_v81, val_main_v80, val_main_cst_11]
  simp only [r79 A _ _ _, A.all, kit, zero_add, add_zero, ups]
  rw [show win 2 = 8 from rfl]
  unfold pv
  refine congrArg (fun x : ℝ => (x : EReal)) ?_
  by_cases h : r.val < 8
  · rw [if_pos h, dif_pos (by omega)]
  · rw [if_neg h, dif_neg (by omega)]
    all_goals exact congrArg (fun n => upto (zj P S 3) n (gx 2 l)) (Fin.ext (by dsimp only; try omega))

theorem r86 : Is3 (φ := .f32) (val_main_v86 (F := Ideal) ) (fun _ t _ => cnt 2 t) := by
  intro i r l
  pointwise [val_main_v86, val_main_v85, val_main_cst_13]
  simp only [r54 A _ _ _, A.all, kit, zero_add, add_zero, ups]
  refine congrArg (fun x : ℝ => (x : EReal)) ?_
  unfold cnt
  rw [show win 2 = 8 from rfl]
  norm_num

theorem r89 : Is3 (φ := .f32) (val_main_v89 (F := Ideal) x0 x1 x2) (fun _ t k => zj P S 3 t (gx 2 k)) := by
  intro i r l
  pointwise [val_main_v89]
  simp only [r25 A _ _ _, A.all, kit, zero_add, add_zero, ups]
  all_goals exact congrArg (fun x : ℝ => (x : EReal)) (congrArg (zj P S 3 r) (Fin.ext (by simp [gx]; try omega)))

theorem r90 : Is3 (φ := .f32) (val_main_v90 (F := Ideal) x0 x1 x2) (fun _ => plg P S 2) := by
  intro i r l
  pointwise [val_main_v90, val_main_v88, val_main_v84, val_main_v87]
  simp only [r79 A _ _ _, r83 A _ _ _, r86 A _ _ _, r89 A _ _ _, A.all, kit, zero_add, add_zero, coe_div _ _ (cnt_pos _ _).ne', ups]
  all_goals rfl

theorem r91 : Is3 (φ := .f32) (val_main_v91 (F := Ideal) x0 x1 x2) (fun _ t k => upto (zj P S 3) t (gx 3 k)) := by
  intro i r l
  pointwise [val_main_v91]
  simp only [r50 A _ _ _, A.all, kit, zero_add, add_zero, ups]
  all_goals exact congrArg (fun x : ℝ => (x : EReal)) (congrArg (upto (zj P S 3) r) (Fin.ext (by simp [gx]; try omega)))

theorem r95 : Is3 (φ := .f32) (val_main_v95 (F := Ideal) x0 x1 x2) (fun _ t k => pv (fun t k => upto (zj P S 3) t (gx 3 k)) t (win 3) k) := by
  intro i r l
  pointwise [val_main_v95, val_main_v93, val_main_v92, val_main_cst_14]
  simp only [r91 A _ _ _, A.all, kit, zero_add, add_zero, ups]
  rw [show win 3 = 16 from rfl]
  unfold pv
  refine congrArg (fun x : ℝ => (x : EReal)) ?_
  by_cases h : r.val < 16
  · rw [if_pos h, dif_pos (by omega)]
  · rw [if_neg h, dif_neg (by omega)]
    all_goals exact congrArg (fun n => upto (zj P S 3) n (gx 3 l)) (Fin.ext (by dsimp only; try omega))

theorem r98 : Is3 (φ := .f32) (val_main_v98 (F := Ideal) ) (fun _ t _ => cnt 3 t) := by
  intro i r l
  pointwise [val_main_v98, val_main_v97, val_main_cst_16]
  simp only [r54 A _ _ _, A.all, kit, zero_add, add_zero, ups]
  refine congrArg (fun x : ℝ => (x : EReal)) ?_
  unfold cnt
  rw [show win 3 = 16 from rfl]
  norm_num

theorem r101 : Is3 (φ := .f32) (val_main_v101 (F := Ideal) x0 x1 x2) (fun _ t k => zj P S 3 t (gx 3 k)) := by
  intro i r l
  pointwise [val_main_v101]
  simp only [r25 A _ _ _, A.all, kit, zero_add, add_zero, ups]
  all_goals exact congrArg (fun x : ℝ => (x : EReal)) (congrArg (zj P S 3 r) (Fin.ext (by simp [gx]; try omega)))

theorem r102 : Is3 (φ := .f32) (val_main_v102 (F := Ideal) x0 x1 x2) (fun _ => plg P S 3) := by
  intro i r l
  pointwise [val_main_v102, val_main_v100, val_main_v96, val_main_v99]
  simp only [r91 A _ _ _, r95 A _ _ _, r98 A _ _ _, r101 A _ _ _, A.all, kit, zero_add, add_zero, coe_div _ _ (cnt_pos _ _).ne', ups]
  all_goals rfl

theorem r107 : Is4 (φ := .f32) (val_main_v107 (F := Ideal) x0 x1 x2) (fun _ t j q => plg P S j t q) := by
  intro i r j l
  obtain ⟨j, hj⟩ := j
  interval_cases j
  all_goals pointwise [val_main_v107, val_main_v103, val_main_v104, val_main_v105, val_main_v106]
  · exact r66 A _ _ _
  · exact r78 A _ _ _
  · exact r90 A _ _ _
  · exact r102 A _ _ _

theorem r110 : Is3 (φ := .f32) (val_main_v110 (F := Ideal) x0 x1 x2 x4) (fun _ => pmf P S) := by
  intro i r l
  pointwise [val_main_v110, val_main_v109, val_main_v108, val_main_v11]
  simp only [r107 A _ _ _ _, A.all, kit, zero_add, add_zero, ups]
  all_goals rfl

theorem r115 : Is3 (φ := .f32) (val_main_v115 (F := Ideal) x0 x1 x2 x3 x4 x5) (fun _ => catf P S) := by
  intro i r l
  pointwise [val_main_v115, val_main_v114, val_main_v113, val_main_v112, val_main_v111, val_main_v12]
  simp only [r22 A _ _ _, r49 A _ _ _, r110 A _ _ _, A.all, kit, zero_add, add_zero, ups]
  unfold catf
  split_ifs <;> rfl

theorem r116 : Is3 (φ := .f32) (val_main_v116 (F := Ideal) x0 x1 x2 x3 x4 x5 x6) (fun _ => mixf P S) := by
  intro i r l
  pointwise [val_main_v116, val_main_v13]
  simp only [r115 A _ _ _, A.all, kit, zero_add, add_zero, ups]
  all_goals rfl

theorem r117 : Is3 (φ := .f32) (val_main_v117 (F := Ideal) x0 x1 x2 x3 x4 x5 x6) (fun _ => mixf P S) := by
  intro i r l
  pointwise [val_main_v117, val_main_v8, val_main_cst_0]
  simp only [r116 A _ _ _, A.all, kit, zero_add, add_zero, ups]
  all_goals rfl

theorem r125 : Is3 (φ := .f32) (val_main_v125 (F := Ideal) x0 x1 x2 x3 x4 x5 x6) (fun _ => res P (saved P S)) := by
  intro i r l
  pointwise [val_main_v125, val_main_v120, val_main_v119, val_main_cst_17, val_main_v124, val_main_v123, val_main_v122, val_main_v121, val_main_cst_18, val_main_v3, val_main_v0]
  simp only [r117 A _ _ _, A.all, kit, zero_add, add_zero, ups]
  all_goals rfl

theorem r131 : Is3 (φ := .f32) (val_main_v131 (F := Ideal) x0 x1 x2 x3 x4 x5 x6) (fun _ t _ => mean (res P (saved P S) t)) := by
  intro i r l
  pointwise [val_main_v131, val_main_v129, val_main_v128, val_main_cst_19, val_main_v130, val_main_cst_20]
  simp only [r125 A _ _ _, A.all, kit, zero_add, add_zero, ups]
  all_goals rfl

theorem r133 : Is3 (φ := .f32) (val_main_v133 (F := Ideal) x0 x1 x2 x3 x4 x5 x6) (fun _ t => cen (res P (saved P S) t)) := by
  intro i r l
  pointwise [val_main_v133, val_main_v132]
  simp only [r125 A _ _ _, r131 A _ _ _, A.all, kit, zero_add, add_zero, ups]
  all_goals rfl

theorem r142 : Is3 (φ := .f32) (val_main_v142 (F := Ideal) x0 x1 x2 x3 x4 x5 x6) (fun _ t => cen (res P (saved P S) t)) := by
  intro i r l
  pointwise [val_main_v142, val_main_v141]
  simp only [r125 A _ _ _, r131 A _ _ _, A.all, kit, zero_add, add_zero, ups]
  all_goals rfl

theorem r136 : Is3 (φ := .f32) (val_main_v136 (F := Ideal) x0 x1 x2 x3 x4 x5 x6) (fun _ t l => 2 * cen (res P (saved P S) t) l) := by
  intro i r l
  pointwise [val_main_v136, val_main_v135, val_main_cst_21]
  simp only [r133 A _ _ _, A.all, kit, zero_add, add_zero, ups]
  all_goals rfl

theorem r144 : Is3 (φ := .f32) (val_main_v144 (F := Ideal) x0 x1 x2 x3 x4 x5 x6) (fun _ t _ => var (res P (saved P S) t) + eps) := by
  intro i r l
  pointwise [val_main_v144, val_main_v140, val_main_v138, val_main_v137, val_main_v134, val_main_cst_22, val_main_v139, val_main_cst_23, val_main_v143, val_main_cst_24]
  simp only [r133 A _ _ _, A.all, kit, zero_add, add_zero, ups]
  all_goals rfl

theorem r145 : Is3 (φ := .f32) (val_main_v145 (F := Ideal) x0 x1 x2 x3 x4 x5 x6) (fun _ t _ => rstd (res P (saved P S) t)) := by
  intro i r l
  pointwise [val_main_v145]
  simp only [r144 A _ _ _, A.all, kit, zero_add, add_zero, ups]
  exact coe_rsqrt _ (var_eps_pos _)

theorem r148 : Is3 (φ := .f32) (val_main_v148 (F := Ideal) x0 x1 x2 x3 x4 x5 x6) (fun _ t _ => -(1 / 2) * (rstd (res P (saved P S) t) / (var (res P (saved P S) t) + eps))) := by
  intro i r l
  pointwise [val_main_v148, val_main_v147, val_main_cst_25, val_main_v146]
  simp only [r145 A _ _ _, r144 A _ _ _, A.all, kit, zero_add, add_zero, ups]
  rw [coe_div _ _ (var_eps_pos _).ne', ups.2.1]

theorem r150 : Is3 (φ := .f32) (val_main_v150 (F := Ideal) x0 x1 x2 x3 x4 x5 x6) (fun _ t => xhat (res P (saved P S) t)) := by
  intro i r l
  pointwise [val_main_v150, val_main_v149]
  simp only [r142 A _ _ _, r145 A _ _ _, A.all, kit, zero_add, add_zero, ups]
  all_goals rfl

theorem r158 : Is2 (φ := .f32) (val_main_v158 (F := Ideal) x9) (fun _ l => ∑ t, S.dx t l) := by
  intro i l
  pointwise [val_main_v158, val_main_cst_26]
  simp only [A.all, kit, zero_add, add_zero, ups]
  all_goals rfl

theorem r159 : Is3 (φ := .f32) (val_main_v159 (F := Ideal) x9) (fun _ _ l => ∑ t, S.dx t l) := by
  intro i r l
  pointwise [val_main_v159]
  simp only [r158 A _ _, A.all, kit, zero_add, add_zero, ups]
  all_goals rfl

theorem r193 : Is2 (φ := .f32) (val_main_v193 (F := Ideal) x9) (fun _ l => ∑ t, qd P (saved P S) 1 t l) := by
  intro i l
  pointwise [val_main_v193, val_main_v160, val_main_cst_27]
  simp only [r159 A _ _ _, A.all, kit, zero_add, add_zero, ups]
  all_goals rfl

theorem r162 : Is2 (φ := .f32) (val_main_v162 (F := Ideal) x0 x1 x2 x3 x4 x5 x6 x9) (fun _ l => ∑ t, xhat (res P (saved P S) t) l * S.dx t l) := by
  intro i l
  pointwise [val_main_v162, val_main_v161, val_main_v157, val_main_cst_28]
  simp only [r150 A _ _ _, A.all, kit, zero_add, add_zero, ups]
  all_goals rfl

theorem r163 : Is3 (φ := .f32) (val_main_v163 (F := Ideal) x0 x1 x2 x3 x4 x5 x6 x9) (fun _ _ l => ∑ t, xhat (res P (saved P S) t) l * S.dx t l) := by
  intro i r l
  pointwise [val_main_v163]
  simp only [r162 A _ _, A.all, kit, zero_add, add_zero, ups]
  all_goals rfl

theorem r194 : Is2 (φ := .f32) (val_main_v194 (F := Ideal) x0 x1 x2 x3 x4 x5 x6 x9) (fun _ l => ∑ t, qd P (saved P S) 0 t l) := by
  intro i l
  pointwise [val_main_v194, val_main_v166, val_main_cst_29]
  simp only [r163 A _ _ _, A.all, kit, zero_add, add_zero, ups]
  all_goals exact congrArg (fun x : ℝ => (x : EReal)) (Finset.sum_congr rfl fun t _ => mul_comm _ _)

theorem r165 : Is3 (φ := .f32) (val_main_v165 (F := Ideal) x7 x9) (fun _ => en P (saved P S)) := by
  intro i r l
  pointwise [val_main_v165, val_main_v157, val_main_v164, val_main_v151, val_main_v126]
  simp only [A.all, kit, zero_add, add_zero, ups]
  all_goals rfl

theorem r171 : Is3 (φ := .f32) (val_main_v171 (F := Ideal) x0 x1 x2 x3 x4 x5 x6 x7 x9) (fun _ t l => en P (saved P S) t l * rstd (res P (saved P S) t)) := by
  intro i r l
  pointwise [val_main_v171, val_main_v170]
  simp only [r165 A _ _ _, r145 A _ _ _, A.all, kit, zero_add, add_zero, ups]
  all_goals rfl

theorem r177 : Is3 (φ := .f32) (val_main_v177 (F := Ideal) x0 x1 x2 x3 x4 x5 x6 x7 x9) (fun _ t _ => uu P S t) := by
  intro i r l
  pointwise [val_main_v177, val_main_v172, val_main_v169, val_main_v168, val_main_v167, val_main_cst_30, val_main_v176, val_main_cst_32]
  simp only [r142 A _ _ _, r165 A _ _ _, r148 A _ _ _, A.all, kit, zero_add, add_zero, ups]
  all_goals rfl

theorem r181 : Is3 (φ := .f32) (val_main_v181 (F := Ideal) x0 x1 x2 x3 x4 x5 x6 x7 x9) (fun _ t l => uu P S t * (2 * cen (res P (saved P S) t) l)) := by
  intro i r l
  pointwise [val_main_v181, val_main_v180, val_main_v179, val_main_v178, val_main_cst_33]
  simp only [r177 A _ _ _, r136 A _ _ _, A.all, kit, zero_add, add_zero, ups]
  all_goals rfl

theorem r188 : Is3 (φ := .f32) (val_main_v188 (F := Ideal) x0 x1 x2 x3 x4 x5 x6 x7 x9) (fun _ t _ => (-(∑ k, (en P (saved P S) t k * rstd (res P (saved P S) t) + uu P S t * (2 * cen (res P (saved P S) t) k)))) / 1024) := by
  intro i r l
  pointwise [val_main_v188, val_main_v186, val_main_v175, val_main_v174, val_main_v173, val_main_cst_31, val_main_v184, val_main_v183, val_main_v182, val_main_cst_34, val_main_v187, val_main_cst_35]
  simp only [r171 A _ _ _, r181 A _ _ _, A.all, kit, zero_add, add_zero, ups]
  refine congrArg (fun x : ℝ => (x : EReal)) ?_
  rw [Finset.sum_neg_distrib, Finset.sum_neg_distrib, ← neg_add, ← Finset.sum_add_distrib]

theorem r192 : Is3 (φ := .f32) (val_main_v192 (F := Ideal) x0 x1 x2 x3 x4 x5 x6 x7 x9) (fun _ => dr P (saved P S)) := by
  intro i r l
  pointwise [val_main_v192, val_main_v185, val_main_v191, val_main_v190, val_main_v189, val_main_cst_36]
  simp only [r171 A _ _ _, r181 A _ _ _, r188 A _ _ _, A.all, kit, zero_add, add_zero, ups]
  refine congrArg (fun x : ℝ => (x : EReal)) (lnBwd_eq _ _ _)

theorem r196 : Is3 (φ := .f32) (val_main_v196 (F := Ideal) x0 x1 x2 x3 x4 x5 x6 x7 x9) (fun _ => dm P (saved P S)) := by
  intro i r l
  pointwise [val_main_v196, val_main_v195, val_main_v122, val_main_v121, val_main_cst_18, val_main_v3, val_main_v0]
  simp only [r192 A _ _ _, A.all, kit, zero_add, add_zero, ups]
  all_goals rfl

end Cert.BwdRefIdeal.Real

end
-- ==== Proof.BwdRefB.lean ====
/- The reference of the mixer's gradient, operation by operation, over the real numbers: from the mixer's output back to its input. -/
module

public import proofs.«01_k».proof.Proof.Gen.BwdRefIdeal.Read
public import Idealize.ShloMosaic.Lib.Pipeline.ValueKit
public import Idealize.ShloMosaic.Lib.Pointwise
public import proofs.«01_k».proof.Proof.BwdRef

@[expose] public section

set_option maxRecDepth 16384

noncomputable section

open Idealize.ShloMosaic Idealize.ShloMosaic.TcCoe Idealize.SL.Sem

namespace Cert.BwdRefIdeal.Real

open Cert.BwdRefIdeal Cert.BwdRefIdeal.Gen Cert.BwdRefIdeal.Read Cert.RealLift Cert.BwdMath Cert.BwdWin
open Cert.BwdIdeal.Pay (coe_min c_4 c_8 c_16)

variable {x0 : FVec Ideal S1x8192x1024 .f32} {x1 : FVec Ideal S1x6144 .f32} {x2 : FVec Ideal S1x1024x2048 .f32} {x3 : FVec Ideal S1x3x512 .f32}
  {x4 : FVec Ideal S1x4x128x128 .f32} {x5 : FVec Ideal S1x512 .f32} {x6 : FVec Ideal S1x1024x1024 .f32} {x7 : FVec Ideal S1x1024 .f32}
  {x9 : FVec Ideal S1x8192x1024 .f32} {P : Par} {S : Src}

/-- The block of a column of the projection and its place there. -/
def zq (l : Fin 2048) : Fin 4 := ⟨l.val / 512, by omega⟩
def zr (l : Fin 2048) : Fin 512 := ⟨l.val % 512, by omega⟩
theorem zq_zx (j : Fin 4) (l : Fin 512) : zq (zx j l) = j := Fin.ext (by unfold zq zx; dsimp; omega)
theorem zr_zx (j : Fin 4) (l : Fin 512) : zr (zx j l) = l := Fin.ext (by unfold zr zx; dsimp; omega)

/-- Four groups, each padded with zeros to its place in the row, added. -/
theorem pads4 (f : Fin 4 → Fin 128 → ℝ) (l : Fin 512) :
    (((if h : 384 ≤ l.val ∧ l.val - 384 < 128 then f 3 ⟨l.val - 384, h.2⟩ else 0) + if h : 256 ≤ l.val ∧ l.val - 256 < 128 then f 2 ⟨l.val - 256, h.2⟩ else 0)
      + if h : 128 ≤ l.val ∧ l.val - 128 < 128 then f 1 ⟨l.val - 128, h.2⟩ else 0) + (if h : l.val < 128 then f 0 ⟨l.val, h⟩ else 0) = f (gq l) (gr l) := by
  have hl := l.isLt
  have key : ∀ (j : Fin 4) (n : ℕ) (hn : n < 128), l.val = j.val * 128 + n → f j ⟨n, hn⟩ = f (gq l) (gr l) := by
    intro j n hn e
    rw [show gq l = j from Fin.ext (by show l.val / 128 = j.val; omega), show gr l = ⟨n, hn⟩ from Fin.ext (by show l.val % 128 = n; omega)]
  rcases (by omega : l.val < 128 ∨ (128 ≤ l.val ∧ l.val < 256) ∨ (256 ≤ l.val ∧ l.val < 384) ∨ 384 ≤ l.val) with h | h | h | h
  · rw [dif_neg (by omega), dif_neg (by omega), dif_neg (by omega), dif_pos h, zero_add, zero_add, zero_add]
    exact key 0 _ _ (by simp)
  · rw [dif_neg (by omega), dif_neg (by omega), dif_pos (by omega), dif_neg (by omega), zero_add, zero_add, add_zero]
    exact key 1 _ _ (by simp; omega)
  · rw [dif_neg (by omega), dif_pos (by omega), dif_neg (by omega), dif_neg (by omega), zero_add, add_zero, add_zero]
    exact key 2 _ _ (by simp; omega)
  · rw [dif_pos (by omega), dif_neg (by omega), dif_neg (by omega), dif_neg (by omega), add_zero, add_zero, add_zero]
    exact key 3 _ _ (by simp; omega)

/-- Four blocks of 512 side by side. -/
theorem cat512 (f : Fin 4 → Fin 512 → ℝ) (l : Fin 2048) :
    (if h : l.val < 512 then f 0 ⟨l.val, h⟩ else if h : l.val - 512 < 512 then f 1 ⟨l.val - 512, h⟩
      else if h : l.val - 512 - 512 < 512 then f 2 ⟨l.val - 512 - 512, h⟩ else f 3 ⟨l.val - 512 - 512 - 512, by omega⟩) = f (zq l) (zr l) := by
  have hl := l.isLt
  have key : ∀ (j : Fin 4) (n : ℕ) (hn : n < 512), l.val = j.val * 512 + n → f j ⟨n, hn⟩ = f (zq l) (zr l) := by
    intro j n hn e
    rw [show zq l = j from Fin.ext (by show l.val / 512 = j.val; omega), show zr l = ⟨n, hn⟩ from Fin.ext (by show l.val % 512 = n; omega)]
  split_ifs
  · exact key 0 _ _ (by simp)
  · exact key 1 _ _ (by simp; omega)
  · exact key 2 _ _ (by simp; omega)
  · exact key 3 _ _ (by simp; omega)

variable (A : RArgs x0 x1 x2 x3 x4 x5 x6 x7 x9 P S)
include A

theorem r198 : Is2 (φ := .f32) (val_main_v198 (F := Ideal) x0 x1 x2 x3 x4 x5 x6 x7 x9) (fun _ l => ∑ t, qd P (saved P S) 2 t l) := by
  intro i l
  pointwise [val_main_v198, val_main_v197, val_main_cst_37]
  simp only [r192 A _ _ _, r117 A _ _ _, A.all, kit, zero_add, add_zero, ups]
  all_goals rfl

theorem r201 : Is3 (φ := .f32) (val_main_v201 (F := Ideal) x0 x1 x2 x3 x4 x5 x6 x7 x9) (fun _ t l => alpha * dr P (saved P S) t l) := by
  intro i r l
  pointwise [val_main_v201, val_main_v200, val_main_cst_38]
  simp only [r192 A _ _ _, A.all, kit, zero_add, add_zero, ups]
  all_goals rfl

theorem r202 : Is3 (φ := .f32) (val_main_v202 (F := Ideal) x0 x1 x2 x3 x4 x5 x6 x7 x9) (fun _ => dcat P (saved P S)) := by
  intro i r l
  pointwise [val_main_v202, val_main_v13]
  simp only [r196 A _ _ _, A.all, kit, zero_add, add_zero, ups]
  all_goals rfl

theorem r203 : Is3 (φ := .f32) (val_main_v203 (F := Ideal) x0 x1 x2 x3 x4 x5 x6 x7 x9) (fun _ => dyc P (saved P S)) := by
  intro i r l
  pointwise [val_main_v203]
  simp only [r202 A _ _ _, A.all, kit, zero_add, add_zero, ups]
  all_goals rfl

theorem r204 : Is3 (φ := .f32) (val_main_v204 (F := Ideal) x0 x1 x2 x3 x4 x5 x6 x7 x9) (fun _ => dyp P (saved P S)) := by
  intro i r l
  pointwise [val_main_v204]
  simp only [r202 A _ _ _, A.all, kit, zero_add, add_zero, ups]
  all_goals rfl

theorem r205 : Is3 (φ := .f32) (val_main_v205 (F := Ideal) x0 x1 x2 x3 x4 x5 x6 x7 x9) (fun _ => dcv P (saved P S)) := by
  intro i r l
  pointwise [val_main_v205]
  simp only [r22 A _ _ _, r203 A _ _ _, A.all, kit, zero_add, add_zero, ups]
  all_goals exact congrArg (fun x : ℝ => (x : EReal)) (mul_comm _ _)

theorem r206 : Is3 (φ := .f32) (val_main_v206 (F := Ideal) x0 x1 x2 x3 x4 x5 x6 x7 x9) (fun _ => dzb P (saved P S)) := by
  intro i r l
  pointwise [val_main_v206]
  simp only [r203 A _ _ _, r49 A _ _ _, A.all, kit, zero_add, add_zero, ups]
  all_goals rfl

theorem r208 : Is2 (φ := .f32) (val_main_v208 (F := Ideal) x0 x1 x2 x3 x4 x5 x6 x7 x9) (fun _ l => ∑ t, qc P (saved P S) 3 t l) := by
  intro i l
  pointwise [val_main_v208, val_main_v207, val_main_cst_39]
  simp only [r110 A _ _ _, r204 A _ _ _, A.all, kit, zero_add, add_zero, ups]
  refine congrArg (fun x : ℝ => (x : EReal)) (Finset.sum_congr rfl fun t _ => ?_)
  rw [pmf_eq, mul_comm]
  rfl

theorem r209 : Is3 (φ := .f32) (val_main_v209 (F := Ideal) x0 x1 x2 x3 x4 x5 x6 x7 x9) (fun _ _ l => ∑ t, qc P (saved P S) 3 t l) := by
  intro i r l
  pointwise [val_main_v209]
  simp only [r208 A _ _, A.all, kit, zero_add, add_zero, ups]
  all_goals rfl

theorem r211 : Is3 (φ := .f32) (val_main_v211 (F := Ideal) x0 x1 x2 x3 x4 x5 x6 x7 x9) (fun _ => dpw P (saved P S)) := by
  intro i r l
  pointwise [val_main_v211, val_main_v210, val_main_v111, val_main_v12]
  simp only [r204 A _ _ _, A.all, kit, zero_add, add_zero, ups]
  all_goals rfl

theorem r216 : Is4 (φ := .f32) (val_main_v216 (F := Ideal) x0 x1 x2 x3 x4 x5 x6 x7 x9) (fun _ t j k => dp P (saved P S) j t k) := by
  intro i r j l
  pointwise [val_main_v216, val_main_v215, val_main_v214, val_main_v213, val_main_v11]
  simp only [r211 A _ _ _, A.all, kit, zero_add, add_zero, ups]
  all_goals refine congrArg (fun x : ℝ => (x : EReal)) (Finset.sum_congr rfl fun q _ => ?_)
  all_goals exact congrArg (fun n => dpw P (saved P S) r n * P.wp j l q) (Fin.ext (by simp [gx]; try omega))

theorem r218 : Is3 (φ := .f32) (val_main_v218 (F := Ideal) x0 x1 x2 x3 x4 x5 x6 x7 x9) (fun j a b => dwp P (saved P S) j a b) := by
  intro i r l
  pointwise [val_main_v218, val_main_v217, val_main_v214, val_main_v213]
  simp only [r211 A _ _ _, r107 A _ _ _ _, A.all, kit, zero_add, add_zero, ups]
  refine congrArg (fun x : ℝ => (x : EReal)) ?_
  rw [Fin.sum_univ_one]
  exact Finset.sum_congr rfl fun t _ => (mul_comm _ _).trans (congrArg (fun y : ℝ => y * dpw P (saved P S) t (gx i l)) (plf_gx P S i t r).symm)

theorem r220 : Is3 (φ := .f32) (val_main_v220 (F := Ideal) x0 x1 x2 x3 x4 x5 x6 x7 x9) (fun _ => dp P (saved P S) 0) := by
  intro i r l
  pointwise [val_main_v220, val_main_v219]
  simp only [r216 A _ _ _ _, A.all, kit, zero_add, add_zero, ups]
  all_goals rfl

theorem r222 : Is3 (φ := .f32) (val_main_v222 (F := Ideal) x0 x1 x2 x3 x4 x5 x6 x7 x9) (fun _ => dp P (saved P S) 1) := by
  intro i r l
  pointwise [val_main_v222, val_main_v221]
  simp only [r216 A _ _ _ _, A.all, kit, zero_add, add_zero, ups]
  all_goals rfl

theorem r224 : Is3 (φ := .f32) (val_main_v224 (F := Ideal) x0 x1 x2 x3 x4 x5 x6 x7 x9) (fun _ => dp P (saved P S) 2) := by
  intro i r l
  pointwise [val_main_v224, val_main_v223]
  simp only [r216 A _ _ _ _, A.all, kit, zero_add, add_zero, ups]
  all_goals rfl

theorem r226 : Is3 (φ := .f32) (val_main_v226 (F := Ideal) x0 x1 x2 x3 x4 x5 x6 x7 x9) (fun _ => dp P (saved P S) 3) := by
  intro i r l
  pointwise [val_main_v226, val_main_v225]
  simp only [r216 A _ _ _ _, A.all, kit, zero_add, add_zero, ups]
  all_goals rfl

theorem r265 : Is3 (φ := .f32) (val_main_v265 (F := Ideal) x0 x1 x2 x3 x4 x5 x6 x7 x9) (fun _ => qn P (saved P S) 0) := by
  intro i r l
  pointwise [val_main_v265, val_main_v264]
  simp only [r220 A _ _ _, r62 A _ _ _, A.all, kit, zero_add, add_zero, coe_div _ _ (cnt_pos _ _).ne', ups]
  refine congrArg (fun x : ℝ => (x : EReal)) (div_eq_mul_one_div _ _)

theorem r269 : Is3 (φ := .f32) (val_main_v269 (F := Ideal) x0 x1 x2 x3 x4 x5 x6 x7 x9) (fun _ t k => -nx (qn P (saved P S) 0) t (win 0) k) := by
  intro i r l
  pointwise [val_main_v269, val_main_v267, val_main_v266, val_main_cst_51]
  simp only [r265 A _ _ _, A.all, kit, zero_add, add_zero, ups]
  rw [show win 0 = 2 from rfl]
  unfold nx
  refine congrArg (fun x : ℝ => (x : EReal)) ?_
  by_cases h : r.val + 2 < 8192
  · rw [dif_pos h, dif_pos (by omega)]
    exact congrArg (fun n => -qn P (saved P S) 0 n l) (Fin.ext (by dsimp only; omega))
  · rw [dif_neg h, dif_neg (by omega), neg_zero]

theorem r270 : Is3 (φ := .f32) (val_main_v270 (F := Ideal) x0 x1 x2 x3 x4 x5 x6 x7 x9) (fun _ t k => qn P (saved P S) 0 t k - nx (qn P (saved P S) 0) t (win 0) k) := by
  intro i r l
  pointwise [val_main_v270]
  simp only [r265 A _ _ _, r269 A _ _ _, A.all, kit, zero_add, add_zero, ups]
  refine congrArg (fun x : ℝ => (x : EReal)) (sub_eq_add_neg _ _).symm

theorem r253 : Is3 (φ := .f32) (val_main_v253 (F := Ideal) x0 x1 x2 x3 x4 x5 x6 x7 x9) (fun _ => qn P (saved P S) 1) := by
  intro i r l
  pointwise [val_main_v253, val_main_v252]
  simp only [r222 A _ _ _, r74 A _ _ _, A.all, kit, zero_add, add_zero, coe_div _ _ (cnt_pos _ _).ne', ups]
  refine congrArg (fun x : ℝ => (x : EReal)) (div_eq_mul_one_div _ _)

theorem r257 : Is3 (φ := .f32) (val_main_v257 (F := Ideal) x0 x1 x2 x3 x4 x5 x6 x7 x9) (fun _ t k => -nx (qn P (saved P S) 1) t (win 1) k) := by
  intro i r l
  pointwise [val_main_v257, val_main_v255, val_main_v254, val_main_cst_48]
  simp only [r253 A _ _ _, A.all, kit, zero_add, add_zero, ups]
  rw [show win 1 = 4 from rfl]
  unfold nx
  refine congrArg (fun x : ℝ => (x : EReal)) ?_
  by_cases h : r.val + 4 < 8192
  · rw [dif_pos h, dif_pos (by omega)]
    exact congrArg (fun n => -qn P (saved P S) 1 n l) (Fin.ext (by dsimp only; omega))
  · rw [dif_neg h, dif_neg (by omega), neg_zero]

theorem r258 : Is3 (φ := .f32) (val_main_v258 (F := Ideal) x0 x1 x2 x3 x4 x5 x6 x7 x9) (fun _ t k => qn P (saved P S) 1 t k - nx (qn P (saved P S) 1) t (win 1) k) := by
  intro i r l
  pointwise [val_main_v258]
  simp only [r253 A _ _ _, r257 A _ _ _, A.all, kit, zero_add, add_zero, ups]
  refine congrArg (fun x : ℝ => (x : EReal)) (sub_eq_add_neg _ _).symm

theorem r241 : Is3 (φ := .f32) (val_main_v241 (F := Ideal) x0 x1 x2 x3 x4 x5 x6 x7 x9) (fun _ => qn P (saved P S) 2) := by
  intro i r l
  pointwise [val_main_v241, val_main_v240]
  simp only [r224 A _ _ _, r86 A _ _ _, A.all, kit, zero_add, add_zero, coe_div _ _ (cnt_pos _ _).ne', ups]
  refine congrArg (fun x : ℝ => (x : EReal)) (div_eq_mul_one_div _ _)

theorem r245 : Is3 (φ := .f32) (val_main_v245 (F := Ideal) x0 x1 x2 x3 x4 x5 x6 x7 x9) (fun _ t k => -nx (qn P (saved P S) 2) t (win 2) k) := by
  intro i r l
  pointwise [val_main_v245, val_main_v243, val_main_v242, val_main_cst_45]
  simp only [r241 A _ _ _, A.all, kit, zero_add, add_zero, ups]
  rw [show win 2 = 8 from rfl]
  unfold nx
  refine congrArg (fun x : ℝ => (x : EReal)) ?_
  by_cases h : r.val + 8 < 8192
  · rw [dif_pos h, dif_pos (by omega)]
    exact congrArg (fun n => -qn P (saved P S) 2 n l) (Fin.ext (by dsimp only; omega))
  · rw [dif_neg h, dif_neg (by omega), neg_zero]

theorem r246 : Is3 (φ := .f32) (val_main_v246 (F := Ideal) x0 x1 x2 x3 x4 x5 x6 x7 x9) (fun _ t k => qn P (saved P S) 2 t k - nx (qn P (saved P S) 2) t (win 2) k) := by
  intro i r l
  pointwise [val_main_v246]
  simp only [r241 A _ _ _, r245 A _ _ _, A.all, kit, zero_add, add_zero, ups]
  refine congrArg (fun x : ℝ => (x : EReal)) (sub_eq_add_neg _ _).symm

theorem r230 : Is3 (φ := .f32) (val_main_v230 (F := Ideal) x0 x1 x2 x3 x4 x5 x6 x7 x9) (fun _ => qn P (saved P S) 3) := by
  intro i r l
  pointwise [val_main_v230, val_main_v229]
  simp only [r226 A _ _ _, r98 A _ _ _, A.all, kit, zero_add, add_zero, coe_div _ _ (cnt_pos _ _).ne', ups]
  refine congrArg (fun x : ℝ => (x : EReal)) (div_eq_mul_one_div _ _)

theorem r234 : Is3 (φ := .f32) (val_main_v234 (F := Ideal) x0 x1 x2 x3 x4 x5 x6 x7 x9) (fun _ t k => -nx (qn P (saved P S) 3) t (win 3) k) := by
  intro i r l
  pointwise [val_main_v234, val_main_v232, val_main_v231, val_main_cst_42]
  simp only [r230 A _ _ _, A.all, kit, zero_add, add_zero, ups]
  rw [show win 3 = 16 from rfl]
  unfold nx
  refine congrArg (fun x : ℝ => (x : EReal)) ?_
  by_cases h : r.val + 16 < 8192
  · rw [dif_pos h, dif_pos (by omega)]
    exact congrArg (fun n => -qn P (saved P S) 3 n l) (Fin.ext (by dsimp only; omega))
  · rw [dif_neg h, dif_neg (by omega), neg_zero]

theorem r235 : Is3 (φ := .f32) (val_main_v235 (F := Ideal) x0 x1 x2 x3 x4 x5 x6 x7 x9) (fun _ t k => qn P (saved P S) 3 t k - nx (qn P (saved P S) 3) t (win 3) k) := by
  intro i r l
  pointwise [val_main_v235]
  simp only [r230 A _ _ _, r234 A _ _ _, A.all, kit, zero_add, add_zero, ups]
  refine congrArg (fun x : ℝ => (x : EReal)) (sub_eq_add_neg _ _).symm

theorem r263 : Is3 (φ := .f32) (val_main_v263 (F := Ideal) x0 x1 x2 x3 x4 x5 x6 x7 x9) (fun _ t l => -dp P (saved P S) (gq l) t (gr l)) := by
  intro i r l
  pointwise [val_main_v263, val_main_v251, val_main_v239, val_main_v228, val_main_v227, val_main_cst_41, val_main_v238, val_main_v237, val_main_cst_44, val_main_v250, val_main_v249, val_main_cst_47, val_main_v262, val_main_v261, val_main_cst_50]
  simp only [r226 A _ _ _, r224 A _ _ _, r222 A _ _ _, r220 A _ _ _, A.all, kit, zero_add, add_zero, ups]
  exact congrArg (fun x : ℝ => (x : EReal)) (pads4 (fun j k => -dp P (saved P S) j r k) l)

theorem r272 : Is3 (φ := .f32) (val_main_v272 (F := Ideal) x0 x1 x2 x3 x4 x5 x6 x7 x9) (fun _ t l => qn P (saved P S) (gq l) t (gr l) - nx (qn P (saved P S) (gq l)) t (win (gq l)) (gr l)) := by
  intro i r l
  pointwise [val_main_v272, val_main_v260, val_main_v248, val_main_v236, val_main_cst_43, val_main_v247, val_main_cst_46, val_main_v259, val_main_cst_49, val_main_v271, val_main_cst_52]
  simp only [r235 A _ _ _, r246 A _ _ _, r258 A _ _ _, r270 A _ _ _, A.all, kit, zero_add, add_zero, ups]
  exact congrArg (fun x : ℝ => (x : EReal)) (pads4 (fun j k => qn P (saved P S) j r k - nx (qn P (saved P S) j) r (win j) k) l)

theorem r273 : Is3 (φ := .f32) (val_main_v273 (F := Ideal) x0 x1 x2 x3 x4 x5 x6 x7 x9) (fun _ t l => ∑ s ∈ Finset.range 8192, nx (fun t (l : Fin 512) => qn P (saved P S) (gq l) t (gr l) - nx (qn P (saved P S) (gq l)) t (win (gq l)) (gr l)) t s l) := by
  unfold val_main_v273
  exact onward (r272 A) _ _ _ (by show (Ideal.ofBits .f32 0x00000000#32 : EReal) = 0; simp [Ideal.ofBits, Ideal.ieee])

theorem r274 : Is3 (φ := .f32) (val_main_v274 (F := Ideal) x0 x1 x2 x3 x4 x5 x6 x7 x9) (fun _ t l => dzp P (saved P S) (gq l) t (gr l)) := by
  intro i r l
  pointwise [val_main_v274]
  simp only [r263 A _ _ _, r273 A _ _ _, A.all, kit, zero_add, add_zero, ups]
  refine congrArg (fun x : ℝ => (x : EReal)) ?_
  have h := ahead (fun (t : Fin 8192) (l : Fin 512) => qn P (saved P S) (gq l) t (gr l)) (win (gq l)) r l
  unfold dzp
  rw [add_comm, ← sub_eq_add_neg]
  exact congrArg (fun y : ℝ => y - dp P (saved P S) (gq l) r (gr l)) h

theorem r276 : Is2 (φ := .f32) (val_main_v276 (F := Ideal) x0 x1 x2 x3 x4 x5 x6 x7 x9) (fun _ l => ∑ t, qc P (saved P S) 2 t l) := by
  intro i l
  pointwise [val_main_v276, val_main_v275, val_main_cst_53]
  simp only [r43 A _ _ _, r205 A _ _ _, A.all, kit, zero_add, add_zero, ups]
  all_goals rfl

theorem r285 : Is2 (φ := .f32) (val_main_v285 (F := Ideal) x0 x1 x2 x3 x4 x5 x6 x7 x9) (fun _ l => ∑ t, qc P (saved P S) 1 t l) := by
  intro i l
  pointwise [val_main_v285, val_main_v284, val_main_cst_57]
  simp only [r36 A _ _ _, r205 A _ _ _, A.all, kit, zero_add, add_zero, ups]
  exact congrArg (fun x : ℝ => (x : EReal)) (sum_shift (uf P S) (dcv P (saved P S)) 1 (by norm_num) l)

theorem r296 : Is2 (φ := .f32) (val_main_v296 (F := Ideal) x0 x1 x2 x3 x4 x5 x6 x7 x9) (fun _ l => ∑ t, qc P (saved P S) 0 t l) := by
  intro i l
  pointwise [val_main_v296, val_main_v295, val_main_cst_61]
  simp only [r30 A _ _ _, r205 A _ _ _, A.all, kit, zero_add, add_zero, ups]
  exact congrArg (fun x : ℝ => (x : EReal)) (sum_shift (uf P S) (dcv P (saved P S)) 2 (by norm_num) l)

theorem r277 : Is3 (φ := .f32) (val_main_v277 (F := Ideal) x0 x1 x2 x3 x4 x5 x6 x7 x9) (fun _ _ l => ∑ t, qc P (saved P S) 2 t l) := by
  intro i r l
  pointwise [val_main_v277]
  simp only [r276 A _ _, A.all, kit, zero_add, add_zero, ups]
  all_goals rfl

theorem r286 : Is3 (φ := .f32) (val_main_v286 (F := Ideal) x0 x1 x2 x3 x4 x5 x6 x7 x9) (fun _ _ l => ∑ t, qc P (saved P S) 1 t l) := by
  intro i r l
  pointwise [val_main_v286]
  simp only [r285 A _ _, A.all, kit, zero_add, add_zero, ups]
  all_goals rfl

theorem r297 : Is3 (φ := .f32) (val_main_v297 (F := Ideal) x0 x1 x2 x3 x4 x5 x6 x7 x9) (fun _ _ l => ∑ t, qc P (saved P S) 0 t l) := by
  intro i r l
  pointwise [val_main_v297]
  simp only [r296 A _ _, A.all, kit, zero_add, add_zero, ups]
  all_goals rfl

theorem r303 : Is2 (φ := .f32) (val_main_v303 (F := Ideal) x0 x1 x2 x3 x4 x5 x6 x7 x9) (fun r l => ∑ t, qc P (saved P S) ⟨r.val, by omega⟩ t l) := by
  intro r l
  obtain ⟨r, hr⟩ := r
  interval_cases r
  all_goals pointwise [val_main_v303, val_main_v292, val_main_v282, val_main_v281, val_main_v280, val_main_cst_54, val_main_cst_55, val_main_v291, val_main_v290, val_main_v289, val_main_cst_58, val_main_cst_59, val_main_v302, val_main_v301, val_main_v300, val_main_cst_62, val_main_cst_63]
  all_goals simp only [r277 A _ _ _, r286 A _ _ _, r297 A _ _ _, A.all, kit, zero_add, add_zero, ups]
  all_goals simp
  all_goals rfl

theorem r307 : Is3 (φ := .f32) (val_main_v307 (F := Ideal) x0 x1 x2 x3 x4 x5 x6 x7 x9) (fun _ => du P (saved P S)) := by
  intro i r l
  pointwise [val_main_v307, val_main_v305, val_main_v294, val_main_v283, val_main_v279, val_main_v278, val_main_v46, val_main_v45, val_main_v44, val_main_v10, val_main_cst_56, val_main_v293, val_main_v288, val_main_v287, val_main_v39, val_main_v38, val_main_v37, val_main_cst_60, val_main_v304, val_main_v299, val_main_v298, val_main_v33, val_main_v32, val_main_v31, val_main_cst_64]
  simp only [r205 A _ _ _, A.all, kit, zero_add, add_zero, ups]
  refine congrArg (fun x : ℝ => (x : EReal)) ?_
  unfold du nx
  congr 1
  · congr 1
    · exact mul_comm _ _
    · by_cases h : r.val + 1 < 8192
      · rw [dif_pos (by omega), dif_pos h, mul_comm]
        exact congrArg (fun n => P.cw 1 l * dcv P (saved P S) n l) (Fin.ext (by dsimp only; omega))
      · rw [dif_neg (by omega), dif_neg h, mul_zero]
  · by_cases h : r.val + 2 < 8192
    · rw [dif_pos (by omega), dif_pos h, mul_comm]
      exact congrArg (fun n => P.cw 0 l * dcv P (saved P S) n l) (Fin.ext (by dsimp only; omega))
    · rw [dif_neg (by omega), dif_neg h, mul_zero]

theorem r308 : Is3 (φ := .f32) (val_main_v308 (F := Ideal) x0 x1 x2 x3 x4 x5 x6 x7 x9) (fun _ => dzv P (saved P S)) := by
  intro i r l
  pointwise [val_main_v308]
  simp only [r23 A _ _ _, r307 A _ _ _, A.all, kit, zero_add, add_zero, ups]
  all_goals exact congrArg (fun x : ℝ => (x : EReal)) (mul_comm _ _)

theorem r309 : Is3 (φ := .f32) (val_main_v309 (F := Ideal) x0 x1 x2 x3 x4 x5 x6 x7 x9) (fun _ => dzc P (saved P S)) := by
  intro i r l
  pointwise [val_main_v309]
  simp only [r307 A _ _ _, r24 A _ _ _, A.all, kit, zero_add, add_zero, ups]
  all_goals rfl

theorem r310 : Is3 (φ := .f32) (val_main_v310 (F := Ideal) x0 x1 x2 x3 x4 x5 x6 x7 x9) (fun _ t k => dz P (saved P S) (zq k) t (zr k)) := by
  intro i r l
  pointwise [val_main_v310]
  simp only [r206 A _ _ _, r309 A _ _ _, r308 A _ _ _, r274 A _ _ _, A.all, kit, zero_add, add_zero, ups]
  exact congrArg (fun x : ℝ => (x : EReal)) (cat512 (fun j k => dz P (saved P S) j r k) l)

theorem r311 : Is3 (φ := .f32) (val_main_v311 (F := Ideal) x0 x1 x2 x3 x4 x5 x6 x7 x9) (fun _ => dh P (saved P S)) := by
  intro i r l
  pointwise [val_main_v311, val_main_v9]
  simp only [r310 A _ _ _, A.all, kit, zero_add, add_zero, ups]
  refine congrArg (fun x : ℝ => (x : EReal)) ?_
  rw [Fin.sum_univ_tiles 4 512 rfl, Fin.sum_univ_four]
  have e : ∀ (j : Fin 4) (t : Fin 512) (h : j.val * 512 + t.val < 2048), dz P (saved P S) (zq ⟨j.val * 512 + t.val, h⟩) r (zr ⟨j.val * 512 + t.val, h⟩)
      = dz P (saved P S) j r t := fun j t h => by
    rw [show zq ⟨j.val * 512 + t.val, h⟩ = j from zq_zx j t, show zr ⟨j.val * 512 + t.val, h⟩ = t from zr_zx j t]
  simp only [e]
  rfl

theorem r312 : Is2 (φ := .f32) (val_main_v312 (F := Ideal) x0 x1 x2 x3 x4 x5 x6 x7 x9) (fun _ l => ∑ t, qd P (saved P S) 4 t l) := by
  intro i l
  pointwise [val_main_v312, val_main_cst_65]
  simp only [r311 A _ _ _, A.all, kit, zero_add, add_zero, ups]
  all_goals rfl

theorem r315 : Is2 (φ := .f32) (val_main_v315 (F := Ideal) x0 x1 x2 x3 x4 x5 x6 x7 x9) (fun _ l => ∑ t, qd P (saved P S) 3 t l) := by
  intro i l
  pointwise [val_main_v315, val_main_v314, val_main_cst_66]
  simp only [r311 A _ _ _, A.all, kit, zero_add, add_zero, ups]
  all_goals exact congrArg (fun x : ℝ => (x : EReal)) (Finset.sum_congr rfl fun t _ => mul_comm _ _)

theorem r319 : Is3 (φ := .f32) (val_main_v319 (F := Ideal) x0 x1 x2 x3 x4 x5 x6 x7 x9) (fun _ => gxo P (saved P S)) := by
  intro i r l
  pointwise [val_main_v319, val_main_v318, val_main_v317, val_main_v15, val_main_v14, val_main_cst_1, val_main_v2, val_main_v0]
  simp only [r201 A _ _ _, r311 A _ _ _, A.all, kit, zero_add, add_zero, ups]
  all_goals rfl

theorem r328 : Is2 (φ := .f32) (val_main_v328 (F := Ideal) x0 x1 x2 x3 x4 x5 x6 x7 x9) (fun r l => ∑ t, qc P (saved P S) ⟨r.val, by omega⟩ t l) := by
  intro i l
  pointwise [val_main_v328, val_main_v322]
  simp only [r303 A _ _, A.all, kit, zero_add, add_zero, ups]
  all_goals rfl

theorem r320 : Is2 (φ := .f32) (val_main_v320 (F := Ideal) x0 x1 x2 x3 x4 x5 x6 x7 x9) (fun _ l => ∑ t, qc P (saved P S) 3 t l) := by
  intro i l
  pointwise [val_main_v320, val_main_v212, val_main_cst_40]
  simp only [r209 A _ _ _, A.all, kit, zero_add, add_zero, ups]
  all_goals rfl

theorem r199 : Is3 (φ := .f32) (val_main_v199 (F := Ideal) x0 x1 x2 x3 x4 x5 x6 x7 x9) (fun _ _ l => ∑ t, qd P (saved P S) 2 t l) := by
  intro i r l
  pointwise [val_main_v199]
  simp only [r198 A _ _, A.all, kit, zero_add, add_zero, ups]
  all_goals rfl

theorem r316 : Is3 (φ := .f32) (val_main_v316 (F := Ideal) x0 x1 x2 x3 x4 x5 x6 x7 x9) (fun _ _ l => ∑ t, qd P (saved P S) 3 t l) := by
  intro i r l
  pointwise [val_main_v316]
  simp only [r315 A _ _, A.all, kit, zero_add, add_zero, ups]
  all_goals rfl

theorem r313 : Is3 (φ := .f32) (val_main_v313 (F := Ideal) x0 x1 x2 x3 x4 x5 x6 x7 x9) (fun _ _ l => ∑ t, qd P (saved P S) 4 t l) := by
  intro i r l
  pointwise [val_main_v313]
  simp only [r312 A _ _, A.all, kit, zero_add, add_zero, ups]
  all_goals rfl

theorem r323 : Is2 (φ := .f32) (val_main_v323 (F := Ideal) x0 x1 x2 x3 x4 x5 x6 x7 x9) (fun _ l => ∑ t, qd P (saved P S) 2 t l) := by
  intro i l
  pointwise [val_main_v323]
  simp only [r199 A _ _ _, A.all, kit, zero_add, add_zero, ups]
  all_goals rfl

theorem r324 : Is2 (φ := .f32) (val_main_v324 (F := Ideal) x0 x1 x2 x3 x4 x5 x6 x7 x9) (fun _ l => ∑ t, qd P (saved P S) 3 t l) := by
  intro i l
  pointwise [val_main_v324]
  simp only [r316 A _ _ _, A.all, kit, zero_add, add_zero, ups]
  all_goals rfl

theorem r325 : Is2 (φ := .f32) (val_main_v325 (F := Ideal) x0 x1 x2 x3 x4 x5 x6 x7 x9) (fun _ l => ∑ t, qd P (saved P S) 4 t l) := by
  intro i l
  pointwise [val_main_v325]
  simp only [r313 A _ _ _, A.all, kit, zero_add, add_zero, ups]
  all_goals rfl

theorem r335 : Is2 (φ := .f32) (val_main_v335 (F := Ideal) x0 x1 x2 x3 x4 x5 x6 x7 x9) (gxo P (saved P S)) := by
  intro i l
  pointwise [val_main_v335]
  simp only [r319 A _ _ _, A.all, kit, zero_add, add_zero, ups]
  all_goals rfl

theorem r337 : Is2 (φ := .bf16) (val_main_v337 (F := Ideal) x0 x1 x2 x3 x4 x5 x6 x7 x9) (dm P (saved P S)) := by
  intro i l
  pointwise [val_main_v337, val_main_v336]
  simp only [r196 A _ _ _, A.all, kit, zero_add, add_zero, ups]
  all_goals rfl

theorem r338 : Is3 (φ := .f32) (val_main_v338 (F := Ideal) x0 x1 x2 x3 x4 x5 x6 x7 x9) (dwp P (saved P S)) := by
  intro i r l
  pointwise [val_main_v338, val_main_v321]
  simp only [r218 A _ _ _, A.all, kit, zero_add, add_zero, ups]
  all_goals rfl

theorem r334 : Is3 (φ := .bf16) (val_main_v334 (F := Ideal) x0 x1 x2 x3 x4 x5 x6 x7 x9) (dz P (saved P S)) := by
  intro i r l
  pointwise [val_main_v334, val_main_v333, val_main_v332, val_main_v331]
  simp only [r310 A _ _ _, A.all, kit, zero_add, add_zero, ups]
  all_goals refine congrArg (fun x : ℝ => (x : EReal)) ?_
  all_goals exact congrArg₂ (fun a b => dz P (saved P S) a r b) (zq_zx i l) (zr_zx i l)

theorem r118 : Is3 (φ := .f32) (val_main_v118 (F := Ideal) x0 x1 x2) (fun _ => plf P S) := by
  intro i r l
  pointwise [val_main_v118]
  simp only [r107 A _ _ _ _, A.all, kit, zero_add, add_zero, ups]
  all_goals rfl

theorem r327 : Is2 (φ := .f32) (val_main_v327 (F := Ideal) x0 x1 x2 x3 x4 x5 x6 x7 x9) (sd P (saved P S)) := by
  intro r l
  obtain ⟨r, hr⟩ := r
  interval_cases r
  all_goals pointwise [val_main_v327, val_main_v326, val_main_cst_67]
  · exact (r194 A _ _).trans rfl
  · exact (r193 A _ _).trans rfl
  · exact (r323 A _ _).trans rfl
  · exact (r324 A _ _).trans rfl
  · exact (r325 A _ _).trans rfl
  · rfl
  · rfl
  · rfl

theorem r330 : Is2 (φ := .f32) (val_main_v330 (F := Ideal) x0 x1 x2 x3 x4 x5 x6 x7 x9) (scs P (saved P S)) := by
  intro r l
  obtain ⟨r, hr⟩ := r
  interval_cases r
  all_goals pointwise [val_main_v330, val_main_v329, val_main_cst_68]
  · exact (r328 A _ _).trans rfl
  · exact (r328 A _ _).trans rfl
  · exact (r328 A _ _).trans rfl
  · exact (r320 A _ _).trans rfl
  · rfl
  · rfl
  · rfl
  · rfl

end Cert.BwdRefIdeal.Real

end
-- ==== Proof.BwdHost.lean ====
/- The forward lines the host runs before the gradient's kernel: each is the reference's line on the same arguments. -/
module

public import proofs.«01_k».proof.Proof.BwdFinal
public import proofs.«01_k».proof.Proof.BwdRefB

@[expose] public section

set_option maxRecDepth 65536
set_option maxHeartbeats 4000000

noncomputable section

open Idealize.ShloMosaic Idealize.ShloMosaic.TcCoe Idealize.SL.Sem

namespace Cert.BwdIdeal.Pay

open Cert.BwdIdeal.Gen Cert.RealLift Cert.BwdMath
open Cert.BwdIdeal (τ sig nD main_arg0 main_arg1 main_arg2 main_arg3 main_arg4 main_arg5 main_arg6 main_arg7 main_arg8 main_arg9 main_v0 main_v1 main_v2 main_v3 main_v4 main_v5 main_v6 main_v7 main_v8 main_v9 main_v10 main_v11 main_v12 main_v13 main_v14 main_v15 main_v16 main_v17 main_v18 main_v19 main_v20 main_v21 main_v22 main_v23 main_v24 main_v25 main_v26 main_v27 main_v28 main_v29 main_v30 main_v31 main_v32 main_v33 main_v34 main_v35 main_v36 main_v37 main_v38 main_v39 main_v40 main_v41 main_v42 main_v43 main_v44 main_v45 main_v46 main_v47 main_v48 main_v49 main_v50 main_v51 main_v52 main_v53 main_v54 main_v55 main_v56 main_v57 main_v58 main_v59 main_v60 main_v61 main_v62 main_v63 main_v64 main_v65 main_v66 main_v67 main_v68 main_v69 main_v70 main_v71 main_v72 main_v73 main_v74 main_v75 main_v76 main_v77 main_v78 main_v79 main_v80 main_v81 main_v82 main_v83 main_v84 main_v85 main_v86 main_v87 main_v88 main_v89 main_v90 main_v91 main_v92 main_v93 main_v94 main_v95 main_v96 main_v97 main_v98 main_v99 main_v100 main_v101 main_v102 main_v103 main_v104 main_v105 main_v106 main_v107 main_v108 main_v109 main_v110 main_v111 main_v112 main_v113 main_v114 main_v115 main_v116 main_v117 main_v118 main_v119 main_v120 main_v121 main_v122 main_v123 main_v124 main_v125 main_v126)
open Cert.BwdRefIdeal Cert.BwdRefIdeal.Read

variable (m : (ℓ : Loc nD τ sig) → Buf (Elt Ideal) ℓ) (c : Dev nD)

/-- The arrays of single floats of a shape, and the arguments. -/
abbrev Ar (s : Shape) : Type := FVec Ideal s .f32
abbrev X0 := m (c, Proc.tc.devRef main_arg0)
abbrev X1 := m (c, Proc.tc.devRef main_arg1)
abbrev X2 := m (c, Proc.tc.devRef main_arg2)
abbrev X3 := m (c, Proc.tc.devRef main_arg3)
abbrev X4 := m (c, Proc.tc.devRef main_arg4)
abbrev X5 := m (c, Proc.tc.devRef main_arg5)
abbrev X6 := m (c, Proc.tc.devRef main_arg6)

theorem h18a : (V m c main_v18 : Ar S1x8192x2048) = (val_main_v20 (F := Ideal) (X0 m c) (X1 m c) (X2 m c)) := by
  entry_read
  rfl

/-- Adding zeros changes nothing. -/
theorem h18 : (V m c main_v18 : Ar S1x8192x2048) = (val_main_v21 (F := Ideal) (X0 m c) (X1 m c) (X2 m c)) := by
  rw [h18a]
  funext y
  obtain ⟨i, r, l, rfl⟩ : ∃ i r l, y = ix3 i r l := ⟨y 0, y 1, y 2, eq_ix3 y⟩
  pointwise [val_main_v21, val_main_v7, val_main_cst]

theorem h19 : (V m c main_v19 : Ar S1x8192x512) = (val_main_v22 (F := Ideal) (X0 m c) (X1 m c) (X2 m c)) :=
  (show (V m c main_v19 : Ar S1x8192x512) = (extractStridedSlice S1x8192x512 ![0, 0, 0] (V m c main_v18 : Ar S1x8192x2048) slices_S1x8192x2048_S1x8192x512_0_0_0 : Ar S1x8192x512) from by
    entry_read
    rfl).trans (by rw [h18 m c]; try rfl)

theorem h20 : (V m c main_v20 : Ar S1x8192x512) = (val_main_v23 (F := Ideal) (X0 m c) (X1 m c) (X2 m c)) :=
  (show (V m c main_v20 : Ar S1x8192x512) = (extractStridedSlice S1x8192x512 ![0, 0, 512] (V m c main_v18 : Ar S1x8192x2048) slices_S1x8192x2048_S1x8192x512_0_0_512 : Ar S1x8192x512) from by
    entry_read
    rfl).trans (by rw [h18 m c]; try rfl)

theorem h21 : (V m c main_v21 : Ar S1x8192x512) = (val_main_v24 (F := Ideal) (X0 m c) (X1 m c) (X2 m c)) :=
  (show (V m c main_v21 : Ar S1x8192x512) = (extractStridedSlice S1x8192x512 ![0, 0, 1024] (V m c main_v18 : Ar S1x8192x2048) slices_S1x8192x2048_S1x8192x512_0_0_1024 : Ar S1x8192x512) from by
    entry_read
    rfl).trans (by rw [h18 m c]; try rfl)

theorem h22 : (V m c main_v22 : Ar S1x8192x512) = (val_main_v25 (F := Ideal) (X0 m c) (X1 m c) (X2 m c)) :=
  (show (V m c main_v22 : Ar S1x8192x512) = (extractStridedSlice S1x8192x512 ![0, 0, 1536] (V m c main_v18 : Ar S1x8192x2048) slices_S1x8192x2048_S1x8192x512_0_0_1536 : Ar S1x8192x512) from by
    entry_read
    rfl).trans (by rw [h18 m c]; try rfl)

theorem h23 : (V m c main_v23 : Ar S1x8192x512) = (val_main_v26 (F := Ideal) (X0 m c) (X1 m c) (X2 m c)) :=
  (show (V m c main_v23 : Ar S1x8192x512) = (mulf (V m c main_v20 : Ar S1x8192x512) (V m c main_v21 : Ar S1x8192x512) : Ar S1x8192x512) from by
    entry_read
    rfl).trans (by rw [h20 m c, h21 m c]; try rfl)

theorem h24 : (V m c main_v24 : Ar S1x2x512) = (val_main_v27 (F := Ideal)) := by
  entry_read
  rfl

theorem h25 : (V m c main_v25 : Ar S1x8194x512) = (val_main_v28 (F := Ideal) (X0 m c) (X1 m c) (X2 m c)) :=
  (show (V m c main_v25 : Ar S1x8194x512) = (concatenate S1x8194x512 1 [⟨S1x2x512, (V m c main_v24 : Ar S1x2x512)⟩, ⟨S1x8192x512, (V m c main_v23 : Ar S1x8192x512)⟩] concatenates_S1x2x512_S1x8192x512_S1x8194x512_d1 : Ar S1x8194x512) from by
    entry_read
    rfl).trans (by rw [h24 m c, h23 m c]; try rfl)

theorem h26 : (V m c main_v26 : Ar S1x8192x512) = (val_main_v30 (F := Ideal) (X0 m c) (X1 m c) (X2 m c)) :=
  (show (V m c main_v26 : Ar S1x8192x512) = (extractStridedSlice S1x8192x512 ![0, 0, 0] (V m c main_v25 : Ar S1x8194x512) slices_S1x8194x512_S1x8192x512_0_0_0 : Ar S1x8192x512) from by
    entry_read
    rfl).trans (by rw [h25 m c]; try rfl)

theorem h27 : (V m c main_v27 : Ar S1x512) = (val_main_v31 (F := Ideal) (X3 m c)) := by
  entry_read
  rfl

theorem h28 : (V m c main_v28 : Ar S512) = (val_main_v32 (F := Ideal) (X3 m c)) :=
  (show (V m c main_v28 : Ar S512) = (shapeCast _ (V m c main_v27 : Ar S1x512) shapeCasts_S1x512_S512 : Ar S512) from by
    entry_read
    rfl).trans (by rw [h27 m c]; try rfl)

theorem h29 : (V m c main_v29 : Ar S1x1x512) = (val_main_v33 (F := Ideal) (X3 m c)) :=
  (show (V m c main_v29 : Ar S1x1x512) = (broadcastInDim S1x1x512 ![2] bcast_S512_S1x1x512_2 (V m c main_v28 : Ar S512) : Ar S1x1x512) from by
    entry_read
    rfl).trans (by rw [h28 m c]; try rfl)

theorem h30 : (V m c main_v30 : Ar S1x8192x512) = (val_main_v34 (F := Ideal) (X3 m c)) :=
  (show (V m c main_v30 : Ar S1x8192x512) = (broadcastInDim S1x8192x512 ![0, 1, 2] bcast_S1x1x512_S1x8192x512_0_1_2 (V m c main_v29 : Ar S1x1x512) : Ar S1x8192x512) from by
    entry_read
    rfl).trans (by rw [h29 m c]; try rfl)

theorem h31 : (V m c main_v31 : Ar S1x8192x512) = (val_main_v35 (F := Ideal) (X0 m c) (X1 m c) (X2 m c) (X3 m c)) :=
  (show (V m c main_v31 : Ar S1x8192x512) = (mulf (V m c main_v26 : Ar S1x8192x512) (V m c main_v30 : Ar S1x8192x512) : Ar S1x8192x512) from by
    entry_read
    rfl).trans (by rw [h26 m c, h30 m c]; try rfl)

theorem h32 : (V m c main_v32 : Ar S1x8192x512) = (val_main_v36 (F := Ideal) (X0 m c) (X1 m c) (X2 m c)) :=
  (show (V m c main_v32 : Ar S1x8192x512) = (extractStridedSlice S1x8192x512 ![0, 1, 0] (V m c main_v25 : Ar S1x8194x512) slices_S1x8194x512_S1x8192x512_0_1_0 : Ar S1x8192x512) from by
    entry_read
    rfl).trans (by rw [h25 m c]; try rfl)

theorem h33 : (V m c main_v33 : Ar S1x512) = (val_main_v37 (F := Ideal) (X3 m c)) := by
  entry_read
  rfl

theorem h34 : (V m c main_v34 : Ar S512) = (val_main_v38 (F := Ideal) (X3 m c)) :=
  (show (V m c main_v34 : Ar S512) = (shapeCast _ (V m c main_v33 : Ar S1x512) shapeCasts_S1x512_S512 : Ar S512) from by
    entry_read
    rfl).trans (by rw [h33 m c]; try rfl)

theorem h35 : (V m c main_v35 : Ar S1x1x512) = (val_main_v39 (F := Ideal) (X3 m c)) :=
  (show (V m c main_v35 : Ar S1x1x512) = (broadcastInDim S1x1x512 ![2] bcast_S512_S1x1x512_2 (V m c main_v34 : Ar S512) : Ar S1x1x512) from by
    entry_read
    rfl).trans (by rw [h34 m c]; try rfl)

theorem h36 : (V m c main_v36 : Ar S1x8192x512) = (val_main_v40 (F := Ideal) (X3 m c)) :=
  (show (V m c main_v36 : Ar S1x8192x512) = (broadcastInDim S1x8192x512 ![0, 1, 2] bcast_S1x1x512_S1x8192x512_0_1_2 (V m c main_v35 : Ar S1x1x512) : Ar S1x8192x512) from by
    entry_read
    rfl).trans (by rw [h35 m c]; try rfl)

theorem h37 : (V m c main_v37 : Ar S1x8192x512) = (val_main_v41 (F := Ideal) (X0 m c) (X1 m c) (X2 m c) (X3 m c)) :=
  (show (V m c main_v37 : Ar S1x8192x512) = (mulf (V m c main_v32 : Ar S1x8192x512) (V m c main_v36 : Ar S1x8192x512) : Ar S1x8192x512) from by
    entry_read
    rfl).trans (by rw [h32 m c, h36 m c]; try rfl)

theorem h38 : (V m c main_v38 : Ar S1x8192x512) = (val_main_v42 (F := Ideal) (X0 m c) (X1 m c) (X2 m c) (X3 m c)) :=
  (show (V m c main_v38 : Ar S1x8192x512) = (addf (V m c main_v31 : Ar S1x8192x512) (V m c main_v37 : Ar S1x8192x512) : Ar S1x8192x512) from by
    entry_read
    rfl).trans (by rw [h31 m c, h37 m c]; try rfl)

theorem h39 : (V m c main_v39 : Ar S1x8192x512) = (val_main_v43 (F := Ideal) (X0 m c) (X1 m c) (X2 m c)) :=
  (show (V m c main_v39 : Ar S1x8192x512) = (extractStridedSlice S1x8192x512 ![0, 2, 0] (V m c main_v25 : Ar S1x8194x512) slices_S1x8194x512_S1x8192x512_0_2_0 : Ar S1x8192x512) from by
    entry_read
    rfl).trans (by rw [h25 m c]; try rfl)

theorem h40 : (V m c main_v40 : Ar S1x512) = (val_main_v44 (F := Ideal) (X3 m c)) := by
  entry_read
  rfl

theorem h41 : (V m c main_v41 : Ar S512) = (val_main_v45 (F := Ideal) (X3 m c)) :=
  (show (V m c main_v41 : Ar S512) = (shapeCast _ (V m c main_v40 : Ar S1x512) shapeCasts_S1x512_S512 : Ar S512) from by
    entry_read
    rfl).trans (by rw [h40 m c]; try rfl)

theorem h42 : (V m c main_v42 : Ar S1x1x512) = (val_main_v46 (F := Ideal) (X3 m c)) :=
  (show (V m c main_v42 : Ar S1x1x512) = (broadcastInDim S1x1x512 ![2] bcast_S512_S1x1x512_2 (V m c main_v41 : Ar S512) : Ar S1x1x512) from by
    entry_read
    rfl).trans (by rw [h41 m c]; try rfl)

theorem h43 : (V m c main_v43 : Ar S1x8192x512) = (val_main_v47 (F := Ideal) (X3 m c)) :=
  (show (V m c main_v43 : Ar S1x8192x512) = (broadcastInDim S1x8192x512 ![0, 1, 2] bcast_S1x1x512_S1x8192x512_0_1_2 (V m c main_v42 : Ar S1x1x512) : Ar S1x8192x512) from by
    entry_read
    rfl).trans (by rw [h42 m c]; try rfl)

theorem h44 : (V m c main_v44 : Ar S1x8192x512) = (val_main_v48 (F := Ideal) (X0 m c) (X1 m c) (X2 m c) (X3 m c)) :=
  (show (V m c main_v44 : Ar S1x8192x512) = (mulf (V m c main_v39 : Ar S1x8192x512) (V m c main_v43 : Ar S1x8192x512) : Ar S1x8192x512) from by
    entry_read
    rfl).trans (by rw [h39 m c, h43 m c]; try rfl)

theorem h45 : (V m c main_v45 : Ar S1x8192x512) = (val_main_v49 (F := Ideal) (X0 m c) (X1 m c) (X2 m c) (X3 m c)) :=
  (show (V m c main_v45 : Ar S1x8192x512) = (addf (V m c main_v38 : Ar S1x8192x512) (V m c main_v44 : Ar S1x8192x512) : Ar S1x8192x512) from by
    entry_read
    rfl).trans (by rw [h38 m c, h44 m c]; try rfl)

theorem h46 : (V m c main_v46 : Ar S1x8192x512) = (val_main_v50 (F := Ideal) (X0 m c) (X1 m c) (X2 m c)) :=
  (show (V m c main_v46 : Ar S1x8192x512) = (Host.reduceWindowAdd ![1, 8192, 1] ![1, 1, 1] ![0, 8191, 0] ![0, 0, 0] (V m c main_v22 : Ar S1x8192x512) (val_main_call0_call0_v0 (F := Ideal)) reduceWindows_S1x8192x512_S1x8192x512_w1s1p0_0_w8192s1p8191_0_w1s1p0_0 h_S_ : Ar S1x8192x512) from by
    entry_read
    rfl).trans (by rw [h22 m c]; try rfl)

theorem h47 : (V m c main_v47 : Ar S8192) = (val_main_v51 (F := Ideal)) := by
  entry_read
  rfl

theorem h48 : (V m c main_v48 : Ar S8192) = (val_main_v52 (F := Ideal)) := by
  entry_read
  rfl

theorem h49 : (V m c main_v49 : Ar S8192) = (val_main_v53 (F := Ideal)) :=
  (show (V m c main_v49 : Ar S8192) = (addf (V m c main_v48 : Ar S8192) (V m c main_v47 : Ar S8192) : Ar S8192) from by
    entry_read
    rfl).trans (by rw [h48 m c, h47 m c]; try rfl)

theorem h50 : (V m c main_v50 : Ar S1x8192x1) = (val_main_v54 (F := Ideal)) :=
  (show (V m c main_v50 : Ar S1x8192x1) = (broadcastInDim S1x8192x1 ![1] bcast_S8192_S1x8192x1_1 (V m c main_v49 : Ar S8192) : Ar S1x8192x1) from by
    entry_read
    rfl).trans (by rw [h49 m c]; try rfl)

theorem h51 : (V m c main_v51 : Ar S1x8192x128) = (val_main_v55 (F := Ideal) (X0 m c) (X1 m c) (X2 m c)) :=
  (show (V m c main_v51 : Ar S1x8192x128) = (extractStridedSlice S1x8192x128 ![0, 0, 0] (V m c main_v46 : Ar S1x8192x512) slices_S1x8192x512_S1x8192x128_0_0_0 : Ar S1x8192x128) from by
    entry_read
    rfl).trans (by rw [h46 m c]; try rfl)

theorem h52 : (V m c main_v52 : Ar S1x2x128) = (val_main_v56 (F := Ideal)) := by
  entry_read
  rfl

theorem h53 : (V m c main_v53 : Ar S1x8194x128) = (val_main_v57 (F := Ideal) (X0 m c) (X1 m c) (X2 m c)) :=
  (show (V m c main_v53 : Ar S1x8194x128) = (concatenate S1x8194x128 1 [⟨S1x2x128, (V m c main_v52 : Ar S1x2x128)⟩, ⟨S1x8192x128, (V m c main_v51 : Ar S1x8192x128)⟩] concatenates_S1x2x128_S1x8192x128_S1x8194x128_d1 : Ar S1x8194x128) from by
    entry_read
    rfl).trans (by rw [h52 m c, h51 m c]; try rfl)

theorem h54 : (V m c main_v54 : Ar S1x8192x128) = (val_main_v59 (F := Ideal) (X0 m c) (X1 m c) (X2 m c)) :=
  (show (V m c main_v54 : Ar S1x8192x128) = (extractStridedSlice S1x8192x128 ![0, 0, 0] (V m c main_v53 : Ar S1x8194x128) slices_S1x8194x128_S1x8192x128_0_0_0 : Ar S1x8192x128) from by
    entry_read
    rfl).trans (by rw [h53 m c]; try rfl)

theorem h55 : (V m c main_v55 : Ar S1x8192x128) = (val_main_v60 (F := Ideal) (X0 m c) (X1 m c) (X2 m c)) :=
  (show (V m c main_v55 : Ar S1x8192x128) = (subf (V m c main_v51 : Ar S1x8192x128) (V m c main_v54 : Ar S1x8192x128) : Ar S1x8192x128) from by
    entry_read
    rfl).trans (by rw [h51 m c, h54 m c]; try rfl)

theorem h56 : (V m c main_v56 : Ar S1x8192x1) = (val_main_v61 (F := Ideal)) := by
  entry_read
  rfl

theorem h57 : (V m c main_v57 : Ar S1x8192x1) = (val_main_v62 (F := Ideal)) :=
  (show (V m c main_v57 : Ar S1x8192x1) = (minimumf (V m c main_v50 : Ar S1x8192x1) (V m c main_v56 : Ar S1x8192x1) : Ar S1x8192x1) from by
    entry_read
    rfl).trans (by rw [h50 m c, h56 m c]; try rfl)

theorem h58 : (V m c main_v58 : Ar S1x8192x128) = (val_main_v63 (F := Ideal)) :=
  (show (V m c main_v58 : Ar S1x8192x128) = (broadcastInDim S1x8192x128 ![0, 1, 2] bcast_S1x8192x1_S1x8192x128_0_1_2 (V m c main_v57 : Ar S1x8192x1) : Ar S1x8192x128) from by
    entry_read
    rfl).trans (by rw [h57 m c]; try rfl)

theorem h59 : (V m c main_v59 : Ar S1x8192x128) = (val_main_v64 (F := Ideal) (X0 m c) (X1 m c) (X2 m c)) :=
  (show (V m c main_v59 : Ar S1x8192x128) = (Host.divf (V m c main_v55 : Ar S1x8192x128) (V m c main_v58 : Ar S1x8192x128) : Ar S1x8192x128) from by
    entry_read
    rfl).trans (by rw [h55 m c, h58 m c]; try rfl)

theorem h60 : (V m c main_v60 : Ar S1x8192x128) = (val_main_v65 (F := Ideal) (X0 m c) (X1 m c) (X2 m c)) :=
  (show (V m c main_v60 : Ar S1x8192x128) = (extractStridedSlice S1x8192x128 ![0, 0, 0] (V m c main_v22 : Ar S1x8192x512) slices_S1x8192x512_S1x8192x128_0_0_0 : Ar S1x8192x128) from by
    entry_read
    rfl).trans (by rw [h22 m c]; try rfl)

theorem h61 : (V m c main_v61 : Ar S1x8192x128) = (val_main_v66 (F := Ideal) (X0 m c) (X1 m c) (X2 m c)) :=
  (show (V m c main_v61 : Ar S1x8192x128) = (subf (V m c main_v59 : Ar S1x8192x128) (V m c main_v60 : Ar S1x8192x128) : Ar S1x8192x128) from by
    entry_read
    rfl).trans (by rw [h59 m c, h60 m c]; try rfl)

theorem h62 : (V m c main_v62 : Ar S1x8192x128) = (val_main_v67 (F := Ideal) (X0 m c) (X1 m c) (X2 m c)) :=
  (show (V m c main_v62 : Ar S1x8192x128) = (extractStridedSlice S1x8192x128 ![0, 0, 128] (V m c main_v46 : Ar S1x8192x512) slices_S1x8192x512_S1x8192x128_0_0_128 : Ar S1x8192x128) from by
    entry_read
    rfl).trans (by rw [h46 m c]; try rfl)

theorem h63 : (V m c main_v63 : Ar S1x4x128) = (val_main_v68 (F := Ideal)) := by
  entry_read
  rfl

theorem h64 : (V m c main_v64 : Ar S1x8196x128) = (val_main_v69 (F := Ideal) (X0 m c) (X1 m c) (X2 m c)) :=
  (show (V m c main_v64 : Ar S1x8196x128) = (concatenate S1x8196x128 1 [⟨S1x4x128, (V m c main_v63 : Ar S1x4x128)⟩, ⟨S1x8192x128, (V m c main_v62 : Ar S1x8192x128)⟩] concatenates_S1x4x128_S1x8192x128_S1x8196x128_d1 : Ar S1x8196x128) from by
    entry_read
    rfl).trans (by rw [h63 m c, h62 m c]; try rfl)

theorem h65 : (V m c main_v65 : Ar S1x8192x128) = (val_main_v71 (F := Ideal) (X0 m c) (X1 m c) (X2 m c)) :=
  (show (V m c main_v65 : Ar S1x8192x128) = (extractStridedSlice S1x8192x128 ![0, 0, 0] (V m c main_v64 : Ar S1x8196x128) slices_S1x8196x128_S1x8192x128_0_0_0 : Ar S1x8192x128) from by
    entry_read
    rfl).trans (by rw [h64 m c]; try rfl)

theorem h66 : (V m c main_v66 : Ar S1x8192x128) = (val_main_v72 (F := Ideal) (X0 m c) (X1 m c) (X2 m c)) :=
  (show (V m c main_v66 : Ar S1x8192x128) = (subf (V m c main_v62 : Ar S1x8192x128) (V m c main_v65 : Ar S1x8192x128) : Ar S1x8192x128) from by
    entry_read
    rfl).trans (by rw [h62 m c, h65 m c]; try rfl)

theorem h67 : (V m c main_v67 : Ar S1x8192x1) = (val_main_v73 (F := Ideal)) := by
  entry_read
  rfl

theorem h68 : (V m c main_v68 : Ar S1x8192x1) = (val_main_v74 (F := Ideal)) :=
  (show (V m c main_v68 : Ar S1x8192x1) = (minimumf (V m c main_v50 : Ar S1x8192x1) (V m c main_v67 : Ar S1x8192x1) : Ar S1x8192x1) from by
    entry_read
    rfl).trans (by rw [h50 m c, h67 m c]; try rfl)

theorem h69 : (V m c main_v69 : Ar S1x8192x128) = (val_main_v75 (F := Ideal)) :=
  (show (V m c main_v69 : Ar S1x8192x128) = (broadcastInDim S1x8192x128 ![0, 1, 2] bcast_S1x8192x1_S1x8192x128_0_1_2 (V m c main_v68 : Ar S1x8192x1) : Ar S1x8192x128) from by
    entry_read
    rfl).trans (by rw [h68 m c]; try rfl)

theorem h70 : (V m c main_v70 : Ar S1x8192x128) = (val_main_v76 (F := Ideal) (X0 m c) (X1 m c) (X2 m c)) :=
  (show (V m c main_v70 : Ar S1x8192x128) = (Host.divf (V m c main_v66 : Ar S1x8192x128) (V m c main_v69 : Ar S1x8192x128) : Ar S1x8192x128) from by
    entry_read
    rfl).trans (by rw [h66 m c, h69 m c]; try rfl)

theorem h71 : (V m c main_v71 : Ar S1x8192x128) = (val_main_v77 (F := Ideal) (X0 m c) (X1 m c) (X2 m c)) :=
  (show (V m c main_v71 : Ar S1x8192x128) = (extractStridedSlice S1x8192x128 ![0, 0, 128] (V m c main_v22 : Ar S1x8192x512) slices_S1x8192x512_S1x8192x128_0_0_128 : Ar S1x8192x128) from by
    entry_read
    rfl).trans (by rw [h22 m c]; try rfl)

theorem h72 : (V m c main_v72 : Ar S1x8192x128) = (val_main_v78 (F := Ideal) (X0 m c) (X1 m c) (X2 m c)) :=
  (show (V m c main_v72 : Ar S1x8192x128) = (subf (V m c main_v70 : Ar S1x8192x128) (V m c main_v71 : Ar S1x8192x128) : Ar S1x8192x128) from by
    entry_read
    rfl).trans (by rw [h70 m c, h71 m c]; try rfl)

theorem h73 : (V m c main_v73 : Ar S1x8192x128) = (val_main_v79 (F := Ideal) (X0 m c) (X1 m c) (X2 m c)) :=
  (show (V m c main_v73 : Ar S1x8192x128) = (extractStridedSlice S1x8192x128 ![0, 0, 256] (V m c main_v46 : Ar S1x8192x512) slices_S1x8192x512_S1x8192x128_0_0_256 : Ar S1x8192x128) from by
    entry_read
    rfl).trans (by rw [h46 m c]; try rfl)

theorem h74 : (V m c main_v74 : Ar S1x8x128) = (val_main_v80 (F := Ideal)) := by
  entry_read
  rfl

theorem h75 : (V m c main_v75 : Ar S1x8200x128) = (val_main_v81 (F := Ideal) (X0 m c) (X1 m c) (X2 m c)) :=
  (show (V m c main_v75 : Ar S1x8200x128) = (concatenate S1x8200x128 1 [⟨S1x8x128, (V m c main_v74 : Ar S1x8x128)⟩, ⟨S1x8192x128, (V m c main_v73 : Ar S1x8192x128)⟩] concatenates_S1x8x128_S1x8192x128_S1x8200x128_d1 : Ar S1x8200x128) from by
    entry_read
    rfl).trans (by rw [h74 m c, h73 m c]; try rfl)

theorem h76 : (V m c main_v76 : Ar S1x8192x128) = (val_main_v83 (F := Ideal) (X0 m c) (X1 m c) (X2 m c)) :=
  (show (V m c main_v76 : Ar S1x8192x128) = (extractStridedSlice S1x8192x128 ![0, 0, 0] (V m c main_v75 : Ar S1x8200x128) slices_S1x8200x128_S1x8192x128_0_0_0 : Ar S1x8192x128) from by
    entry_read
    rfl).trans (by rw [h75 m c]; try rfl)

theorem h77 : (V m c main_v77 : Ar S1x8192x128) = (val_main_v84 (F := Ideal) (X0 m c) (X1 m c) (X2 m c)) :=
  (show (V m c main_v77 : Ar S1x8192x128) = (subf (V m c main_v73 : Ar S1x8192x128) (V m c main_v76 : Ar S1x8192x128) : Ar S1x8192x128) from by
    entry_read
    rfl).trans (by rw [h73 m c, h76 m c]; try rfl)

theorem h78 : (V m c main_v78 : Ar S1x8192x1) = (val_main_v85 (F := Ideal)) := by
  entry_read
  rfl

theorem h79 : (V m c main_v79 : Ar S1x8192x1) = (val_main_v86 (F := Ideal)) :=
  (show (V m c main_v79 : Ar S1x8192x1) = (minimumf (V m c main_v50 : Ar S1x8192x1) (V m c main_v78 : Ar S1x8192x1) : Ar S1x8192x1) from by
    entry_read
    rfl).trans (by rw [h50 m c, h78 m c]; try rfl)

theorem h80 : (V m c main_v80 : Ar S1x8192x128) = (val_main_v87 (F := Ideal)) :=
  (show (V m c main_v80 : Ar S1x8192x128) = (broadcastInDim S1x8192x128 ![0, 1, 2] bcast_S1x8192x1_S1x8192x128_0_1_2 (V m c main_v79 : Ar S1x8192x1) : Ar S1x8192x128) from by
    entry_read
    rfl).trans (by rw [h79 m c]; try rfl)

theorem h81 : (V m c main_v81 : Ar S1x8192x128) = (val_main_v88 (F := Ideal) (X0 m c) (X1 m c) (X2 m c)) :=
  (show (V m c main_v81 : Ar S1x8192x128) = (Host.divf (V m c main_v77 : Ar S1x8192x128) (V m c main_v80 : Ar S1x8192x128) : Ar S1x8192x128) from by
    entry_read
    rfl).trans (by rw [h77 m c, h80 m c]; try rfl)

theorem h82 : (V m c main_v82 : Ar S1x8192x128) = (val_main_v89 (F := Ideal) (X0 m c) (X1 m c) (X2 m c)) :=
  (show (V m c main_v82 : Ar S1x8192x128) = (extractStridedSlice S1x8192x128 ![0, 0, 256] (V m c main_v22 : Ar S1x8192x512) slices_S1x8192x512_S1x8192x128_0_0_256 : Ar S1x8192x128) from by
    entry_read
    rfl).trans (by rw [h22 m c]; try rfl)

theorem h83 : (V m c main_v83 : Ar S1x8192x128) = (val_main_v90 (F := Ideal) (X0 m c) (X1 m c) (X2 m c)) :=
  (show (V m c main_v83 : Ar S1x8192x128) = (subf (V m c main_v81 : Ar S1x8192x128) (V m c main_v82 : Ar S1x8192x128) : Ar S1x8192x128) from by
    entry_read
    rfl).trans (by rw [h81 m c, h82 m c]; try rfl)

theorem h84 : (V m c main_v84 : Ar S1x8192x128) = (val_main_v91 (F := Ideal) (X0 m c) (X1 m c) (X2 m c)) :=
  (show (V m c main_v84 : Ar S1x8192x128) = (extractStridedSlice S1x8192x128 ![0, 0, 384] (V m c main_v46 : Ar S1x8192x512) slices_S1x8192x512_S1x8192x128_0_0_384 : Ar S1x8192x128) from by
    entry_read
    rfl).trans (by rw [h46 m c]; try rfl)

theorem h85 : (V m c main_v85 : Ar S1x16x128) = (val_main_v92 (F := Ideal)) := by
  entry_read
  rfl

theorem h86 : (V m c main_v86 : Ar S1x8208x128) = (val_main_v93 (F := Ideal) (X0 m c) (X1 m c) (X2 m c)) :=
  (show (V m c main_v86 : Ar S1x8208x128) = (concatenate S1x8208x128 1 [⟨S1x16x128, (V m c main_v85 : Ar S1x16x128)⟩, ⟨S1x8192x128, (V m c main_v84 : Ar S1x8192x128)⟩] concatenates_S1x16x128_S1x8192x128_S1x8208x128_d1 : Ar S1x8208x128) from by
    entry_read
    rfl).trans (by rw [h85 m c, h84 m c]; try rfl)

theorem h87 : (V m c main_v87 : Ar S1x8192x128) = (val_main_v95 (F := Ideal) (X0 m c) (X1 m c) (X2 m c)) :=
  (show (V m c main_v87 : Ar S1x8192x128) = (extractStridedSlice S1x8192x128 ![0, 0, 0] (V m c main_v86 : Ar S1x8208x128) slices_S1x8208x128_S1x8192x128_0_0_0 : Ar S1x8192x128) from by
    entry_read
    rfl).trans (by rw [h86 m c]; try rfl)

theorem h88 : (V m c main_v88 : Ar S1x8192x128) = (val_main_v96 (F := Ideal) (X0 m c) (X1 m c) (X2 m c)) :=
  (show (V m c main_v88 : Ar S1x8192x128) = (subf (V m c main_v84 : Ar S1x8192x128) (V m c main_v87 : Ar S1x8192x128) : Ar S1x8192x128) from by
    entry_read
    rfl).trans (by rw [h84 m c, h87 m c]; try rfl)

theorem h89 : (V m c main_v89 : Ar S1x8192x1) = (val_main_v97 (F := Ideal)) := by
  entry_read
  rfl

theorem h90 : (V m c main_v90 : Ar S1x8192x1) = (val_main_v98 (F := Ideal)) :=
  (show (V m c main_v90 : Ar S1x8192x1) = (minimumf (V m c main_v50 : Ar S1x8192x1) (V m c main_v89 : Ar S1x8192x1) : Ar S1x8192x1) from by
    entry_read
    rfl).trans (by rw [h50 m c, h89 m c]; try rfl)

theorem h91 : (V m c main_v91 : Ar S1x8192x128) = (val_main_v99 (F := Ideal)) :=
  (show (V m c main_v91 : Ar S1x8192x128) = (broadcastInDim S1x8192x128 ![0, 1, 2] bcast_S1x8192x1_S1x8192x128_0_1_2 (V m c main_v90 : Ar S1x8192x1) : Ar S1x8192x128) from by
    entry_read
    rfl).trans (by rw [h90 m c]; try rfl)

theorem h92 : (V m c main_v92 : Ar S1x8192x128) = (val_main_v100 (F := Ideal) (X0 m c) (X1 m c) (X2 m c)) :=
  (show (V m c main_v92 : Ar S1x8192x128) = (Host.divf (V m c main_v88 : Ar S1x8192x128) (V m c main_v91 : Ar S1x8192x128) : Ar S1x8192x128) from by
    entry_read
    rfl).trans (by rw [h88 m c, h91 m c]; try rfl)

theorem h93 : (V m c main_v93 : Ar S1x8192x128) = (val_main_v101 (F := Ideal) (X0 m c) (X1 m c) (X2 m c)) :=
  (show (V m c main_v93 : Ar S1x8192x128) = (extractStridedSlice S1x8192x128 ![0, 0, 384] (V m c main_v22 : Ar S1x8192x512) slices_S1x8192x512_S1x8192x128_0_0_384 : Ar S1x8192x128) from by
    entry_read
    rfl).trans (by rw [h22 m c]; try rfl)

theorem h94 : (V m c main_v94 : Ar S1x8192x128) = (val_main_v102 (F := Ideal) (X0 m c) (X1 m c) (X2 m c)) :=
  (show (V m c main_v94 : Ar S1x8192x128) = (subf (V m c main_v92 : Ar S1x8192x128) (V m c main_v93 : Ar S1x8192x128) : Ar S1x8192x128) from by
    entry_read
    rfl).trans (by rw [h92 m c, h93 m c]; try rfl)

theorem h95 : (V m c main_v95 : Ar S1x8192x1x128) = (val_main_v103 (F := Ideal) (X0 m c) (X1 m c) (X2 m c)) :=
  (show (V m c main_v95 : Ar S1x8192x1x128) = (broadcastInDim S1x8192x1x128 ![0, 1, 3] bcast_S1x8192x128_S1x8192x1x128_0_1_3 (V m c main_v61 : Ar S1x8192x128) : Ar S1x8192x1x128) from by
    entry_read
    rfl).trans (by rw [h61 m c]; try rfl)

theorem h96 : (V m c main_v96 : Ar S1x8192x1x128) = (val_main_v104 (F := Ideal) (X0 m c) (X1 m c) (X2 m c)) :=
  (show (V m c main_v96 : Ar S1x8192x1x128) = (broadcastInDim S1x8192x1x128 ![0, 1, 3] bcast_S1x8192x128_S1x8192x1x128_0_1_3 (V m c main_v72 : Ar S1x8192x128) : Ar S1x8192x1x128) from by
    entry_read
    rfl).trans (by rw [h72 m c]; try rfl)

theorem h97 : (V m c main_v97 : Ar S1x8192x1x128) = (val_main_v105 (F := Ideal) (X0 m c) (X1 m c) (X2 m c)) :=
  (show (V m c main_v97 : Ar S1x8192x1x128) = (broadcastInDim S1x8192x1x128 ![0, 1, 3] bcast_S1x8192x128_S1x8192x1x128_0_1_3 (V m c main_v83 : Ar S1x8192x128) : Ar S1x8192x1x128) from by
    entry_read
    rfl).trans (by rw [h83 m c]; try rfl)

theorem h98 : (V m c main_v98 : Ar S1x8192x1x128) = (val_main_v106 (F := Ideal) (X0 m c) (X1 m c) (X2 m c)) :=
  (show (V m c main_v98 : Ar S1x8192x1x128) = (broadcastInDim S1x8192x1x128 ![0, 1, 3] bcast_S1x8192x128_S1x8192x1x128_0_1_3 (V m c main_v94 : Ar S1x8192x128) : Ar S1x8192x1x128) from by
    entry_read
    rfl).trans (by rw [h94 m c]; try rfl)

theorem h99 : (V m c main_v99 : Ar S1x8192x4x128) = (val_main_v107 (F := Ideal) (X0 m c) (X1 m c) (X2 m c)) :=
  (show (V m c main_v99 : Ar S1x8192x4x128) = ((concatenate S1x8192x4x128 2 [⟨S1x8192x1x128, ((V m c main_v95 : Ar S1x8192x1x128) : Ar S1x8192x1x128)⟩, ⟨S1x8192x1x128, ((V m c main_v96 : Ar S1x8192x1x128) : Ar S1x8192x1x128)⟩, ⟨S1x8192x1x128, ((V m c main_v97 : Ar S1x8192x1x128) : Ar S1x8192x1x128)⟩, ⟨S1x8192x1x128, ((V m c main_v98 : Ar S1x8192x1x128) : Ar S1x8192x1x128)⟩] concatenates_S1x8192x1x128_S1x8192x1x128_S1x8192x1x128_S1x8192x1x128_S1x8192x4x128_d2 : Ar S1x8192x4x128) : Ar S1x8192x4x128) from by
    entry_read
    rfl).trans (by rw [h95 m c, h96 m c, h97 m c, h98 m c]; try rfl)

theorem h100 : (V m c main_v100 : Ar S4x128x1x8192) = (val_main_v108 (F := Ideal) (X0 m c) (X1 m c) (X2 m c) (X4 m c)) :=
  (show (V m c main_v100 : Ar S4x128x1x8192) = (Host.dotGeneral dot_S4x128x128_S1x8192x4x128_S4x128x1x8192_1_3_2_01_0_2 none (val_main_v11 (F := Ideal) (X4 m c)) (V m c main_v99 : Ar S1x8192x4x128) : Ar S4x128x1x8192) from by
    entry_read
    rfl).trans (by rw [h99 m c]; try rfl)

theorem h101 : (V m c main_v101 : Ar S1x8192x4x128) = (val_main_v109 (F := Ideal) (X0 m c) (X1 m c) (X2 m c) (X4 m c)) :=
  (show (V m c main_v101 : Ar S1x8192x4x128) = (transpose S1x8192x4x128 [2, 3, 0, 1] (V m c main_v100 : Ar S4x128x1x8192) transposes_S4x128x1x8192_S1x8192x4x128_2_3_0_1 : Ar S1x8192x4x128) from by
    entry_read
    rfl).trans (by rw [h100 m c]; try rfl)

theorem h102 : (V m c main_v102 : Ar S1x8192x512) = (val_main_v110 (F := Ideal) (X0 m c) (X1 m c) (X2 m c) (X4 m c)) :=
  (show (V m c main_v102 : Ar S1x8192x512) = (shapeCast _ (V m c main_v101 : Ar S1x8192x4x128) shapeCasts_S1x8192x4x128_S1x8192x512 : Ar S1x8192x512) from by
    entry_read
    rfl).trans (by rw [h101 m c]; try rfl)

theorem h103 : (V m c main_v103 : Ar S1x1x512) = (val_main_v111 (F := Ideal) (X5 m c)) := by
  entry_read
  rfl

theorem h104 : (V m c main_v104 : Ar S1x8192x512) = (val_main_v112 (F := Ideal) (X5 m c)) :=
  (show (V m c main_v104 : Ar S1x8192x512) = (broadcastInDim S1x8192x512 ![0, 1, 2] bcast_S1x1x512_S1x8192x512_0_1_2 (V m c main_v103 : Ar S1x1x512) : Ar S1x8192x512) from by
    entry_read
    rfl).trans (by rw [h103 m c]; try rfl)

theorem h105 : (V m c main_v105 : Ar S1x8192x512) = (val_main_v113 (F := Ideal) (X0 m c) (X1 m c) (X2 m c) (X4 m c) (X5 m c)) :=
  (show (V m c main_v105 : Ar S1x8192x512) = (mulf (V m c main_v102 : Ar S1x8192x512) (V m c main_v104 : Ar S1x8192x512) : Ar S1x8192x512) from by
    entry_read
    rfl).trans (by rw [h102 m c, h104 m c]; try rfl)

theorem h106 : (V m c main_v106 : Ar S1x8192x512) = (val_main_v114 (F := Ideal) (X0 m c) (X1 m c) (X2 m c) (X3 m c)) :=
  (show (V m c main_v106 : Ar S1x8192x512) = (mulf (V m c main_v19 : Ar S1x8192x512) (V m c main_v45 : Ar S1x8192x512) : Ar S1x8192x512) from by
    entry_read
    rfl).trans (by rw [h19 m c, h45 m c]; try rfl)

theorem h107 : (V m c main_v107 : Ar S1x8192x1024) = (val_main_v115 (F := Ideal) (X0 m c) (X1 m c) (X2 m c) (X3 m c) (X4 m c) (X5 m c)) :=
  (show (V m c main_v107 : Ar S1x8192x1024) = (concatenate S1x8192x1024 2 [⟨S1x8192x512, (V m c main_v106 : Ar S1x8192x512)⟩, ⟨S1x8192x512, (V m c main_v105 : Ar S1x8192x512)⟩] concatenates_S1x8192x512_S1x8192x512_S1x8192x1024_d2 : Ar S1x8192x1024) from by
    entry_read
    rfl).trans (by rw [h106 m c, h105 m c]; try rfl)

theorem h108 : (V m c main_v108 : Ar S1x8192x1024) = (val_main_v116 (F := Ideal) (X0 m c) (X1 m c) (X2 m c) (X3 m c) (X4 m c) (X5 m c) (X6 m c)) :=
  (show (V m c main_v108 : Ar S1x8192x1024) = (Host.dotGeneral dot_S1x8192x1024_S1024x1024_S1x8192x1024_2_0_01_1_n_n none (V m c main_v107 : Ar S1x8192x1024) (val_main_v13 (F := Ideal) (X6 m c)) : Ar S1x8192x1024) from by
    entry_read
    rfl).trans (by rw [h107 m c]; try rfl)

theorem h109 : (V m c main_v109 : Ar S1x8192x512) = (val_main_v118 (F := Ideal) (X0 m c) (X1 m c) (X2 m c)) :=
  (show (V m c main_v109 : Ar S1x8192x512) = (shapeCast _ (V m c main_v99 : Ar S1x8192x4x128) shapeCasts_S1x8192x4x128_S1x8192x512 : Ar S1x8192x512) from by
    entry_read
    rfl).trans (by rw [h99 m c]; try rfl)

end Cert.BwdIdeal.Pay

end
-- ==== Proof.BwdEnt.lean ====
/- What each grid point of the mixer's gradient reads: the arguments, and what the host's forward lines saved. -/
module

public import proofs.«01_k».proof.Proof.BwdHost

@[expose] public section

set_option maxRecDepth 65536

noncomputable section

open Idealize.ShloMosaic Idealize.ShloMosaic.TcCoe Idealize.SL.Sem

namespace Cert.BwdIdeal.Pay

open Cert.BwdIdeal Cert.BwdIdeal.Gen Cert.RealLift Cert.BwdMath Cert.BwdRefIdeal.Read Cert.BwdRefIdeal.Real

variable (m : (ℓ : Loc nD τ sig) → Buf (Elt Ideal) ℓ)

/-- Where each window's block lies, at every grid point. -/
theorem idx : ∀ t : Fin cfg0.N, win0_0.index t = ![15 - t.val, 0] ∧ win0_1.index t = ![15 - t.val, 0] ∧ win0_2.index t = ![15 - t.val, 0] ∧ win0_3.index t = ![15 - t.val, 0]
    ∧ win0_4.index t = ![0, 0] ∧ win0_5.index t = ![0, 0] ∧ win0_6.index t = ![0, 0, 0] ∧ win0_7.index t = ![0, 0, 0] ∧ win0_8.index t = ![0, 0]
    ∧ win0_9.index t = ![0, 0] ∧ win0_10.index t = ![0, 0] :=
  (by decide +kernel : ∀ t : Fin grid0.N, _)
theorem tile : ∀ t : Fin cfg0.N, Scalar.subi 15#32 (BitVec.ofNat 32 (grid0.coords t 0).val) = BitVec.ofNat 32 (15 - t.val) :=
  (by decide +kernel : ∀ t : Fin grid0.N, _)

theorem q121 (x : FVec Ideal S1x8192x1024 .f32) (r : Fin 8192) (k : Fin 1024) : (shapeCast S8192x1024 x shapeCasts_S1x8192x1024_S8192x1024 : FVec Ideal S8192x1024 .f32) (ix2 r k) = x (ix3 0 r k) := by
  pointwise []
theorem q113 (x : FVec Ideal S1x6144 .f32) (r : Fin 8) (k : Fin 6144) : (broadcastInDim S8x6144 ![0, 1] bcast_S1x6144_S8x6144_0_1 x : FVec Ideal S8x6144 .f32) (ix2 r k) = x (ix2 0 k) := by
  pointwise []
theorem q119 (x : FVec Ideal S1x3x512 .f32) (j : Fin 3) (k : Fin 512) : (pad S8x512 ![0, 0] ![5, 0] ![0, 0] (shapeCast S3x512 x shapeCasts_S1x3x512_S3x512 : FVec Ideal S3x512 .f32) (sitofp .f32 (constantI S_ 32 0#32) : FVec Ideal S_ .f32) pads_S3x512_S8x512_050_000 h_S_ : FVec Ideal S8x512 .f32) (ix2 ⟨j.val, by omega⟩ k) = x (ix3 0 j k) := by
  pointwise []
theorem q117 (x : FVec Ideal S1x1024x2048 .f32) (j : Fin 4) (r : Fin 1024) (k : Fin 512) : (truncf .bf16 (transpose S4x1024x512 [1, 0, 2] (shapeCast S1024x4x512 (shapeCast S1024x2048 x shapeCasts_S1x1024x2048_S1024x2048 : FVec Ideal S1024x2048 .f32) shapeCasts_S1024x2048_S1024x4x512 : FVec Ideal S1024x4x512 .f32) transposes_S1024x4x512_S4x1024x512_1_0_2 : FVec Ideal S4x1024x512 .f32) bitsLt_bf16_f32 : FVec Ideal S4x1024x512 .bf16) (ix3 j r k) = x (ix3 0 r (zx j k)) := by
  pointwise []
  rfl
theorem q124 (x : FVec Ideal S1x4x128x128 .f32) (j : Fin 4) (r k : Fin 128) : (shapeCast S4x128x128 x shapeCasts_S1x4x128x128_S4x128x128 : FVec Ideal S4x128x128 .f32) (ix3 j r k) = x (ix4 0 j r k) := by
  pointwise []
theorem q126 (x : FVec Ideal S1x1024x1024 .f32) (r k : Fin 1024) : (truncf .bf16 (shapeCast S1024x1024 x shapeCasts_S1x1024x1024_S1024x1024 : FVec Ideal S1024x1024 .f32) bitsLt_bf16_f32 : FVec Ideal S1024x1024 .bf16) (ix2 r k) = x (ix3 0 r k) := by
  pointwise []

set_option maxHeartbeats 4000000 in
theorem s121 (c : Dev nD) : (V m c main_v121 : FVec Ideal S8192x1024 .f32) = (shapeCast S8192x1024 (m (c, Proc.tc.devRef main_arg0) : FVec Ideal S1x8192x1024 .f32) shapeCasts_S1x8192x1024_S8192x1024 : FVec Ideal S8192x1024 .f32) := by
  entry_read
  rfl
set_option maxHeartbeats 4000000 in
theorem s123 (c : Dev nD) : (V m c main_v123 : FVec Ideal S8192x1024 .f32) = (shapeCast S8192x1024 (m (c, Proc.tc.devRef main_arg9) : FVec Ideal S1x8192x1024 .f32) shapeCasts_S1x8192x1024_S8192x1024 : FVec Ideal S8192x1024 .f32) := by
  entry_read
  rfl
set_option maxHeartbeats 4000000 in
theorem s113 (c : Dev nD) : (V m c main_v113 : FVec Ideal S8x6144 .f32) = (broadcastInDim S8x6144 ![0, 1] bcast_S1x6144_S8x6144_0_1 (m (c, Proc.tc.devRef main_arg1) : FVec Ideal S1x6144 .f32) : FVec Ideal S8x6144 .f32) := by
  entry_read
  rfl
set_option maxHeartbeats 4000000 in
theorem s119 (c : Dev nD) : (V m c main_v119 : FVec Ideal S8x512 .f32) = (pad S8x512 ![0, 0] ![5, 0] ![0, 0] (shapeCast S3x512 (m (c, Proc.tc.devRef main_arg3) : FVec Ideal S1x3x512 .f32) shapeCasts_S1x3x512_S3x512 : FVec Ideal S3x512 .f32) (sitofp .f32 (constantI S_ 32 0#32) : FVec Ideal S_ .f32) pads_S3x512_S8x512_050_000 h_S_ : FVec Ideal S8x512 .f32) := by
  entry_read
  rfl
set_option maxHeartbeats 4000000 in
theorem s117 (c : Dev nD) : (V m c main_v117 : FVec Ideal S4x1024x512 .bf16) = (truncf .bf16 (transpose S4x1024x512 [1, 0, 2] (shapeCast S1024x4x512 (shapeCast S1024x2048 (m (c, Proc.tc.devRef main_arg2) : FVec Ideal S1x1024x2048 .f32) shapeCasts_S1x1024x2048_S1024x2048 : FVec Ideal S1024x2048 .f32) shapeCasts_S1024x2048_S1024x4x512 : FVec Ideal S1024x4x512 .f32) transposes_S1024x4x512_S4x1024x512_1_0_2 : FVec Ideal S4x1024x512 .f32) bitsLt_bf16_f32 : FVec Ideal S4x1024x512 .bf16) := by
  entry_read
  rfl
set_option maxHeartbeats 4000000 in
theorem s124 (c : Dev nD) : (V m c main_v124 : FVec Ideal S4x128x128 .f32) = (shapeCast S4x128x128 (m (c, Proc.tc.devRef main_arg4) : FVec Ideal S1x4x128x128 .f32) shapeCasts_S1x4x128x128_S4x128x128 : FVec Ideal S4x128x128 .f32) := by
  entry_read
  rfl
set_option maxHeartbeats 4000000 in
theorem s126 (c : Dev nD) : (V m c main_v126 : FVec Ideal S1024x1024 .bf16) = (truncf .bf16 (shapeCast S1024x1024 (m (c, Proc.tc.devRef main_arg6) : FVec Ideal S1x1024x1024 .f32) shapeCasts_S1x1024x1024_S1024x1024 : FVec Ideal S1024x1024 .f32) bitsLt_bf16_f32 : FVec Ideal S1024x1024 .bf16) := by
  entry_read
  rfl
theorem e0 (c : Dev nD) (t : Fin cfg0.N) (r : Fin 512) (k : Fin 1024) : (iblk m c 0 t : FVec Ideal S512x1024 .f32) (ix2 r k) = m (c, Proc.tc.devRef main_arg0) (ix3 0 (tk (tl t) r) k) := by
  refine (show _ = (V m c main_v121 : FVec Ideal S8192x1024 .f32) (ix2 (tk (tl t) r) k) from ?_).trans ?_
  · blk_simp [iblk]
    unfold tk tl
    blk_ext [idx t]
  · exact (congrFun (s121 m c) _).trans (q121 _ (tk (tl t) r) k)
theorem e2 (c : Dev nD) (t : Fin cfg0.N) (r : Fin 512) (k : Fin 1024) : (iblk m c 2 t : FVec Ideal S512x1024 .f32) (ix2 r k) = m (c, Proc.tc.devRef main_arg9) (ix3 0 (tk (tl t) r) k) := by
  refine (show _ = (V m c main_v123 : FVec Ideal S8192x1024 .f32) (ix2 (tk (tl t) r) k) from ?_).trans ?_
  · blk_simp [iblk]
    unfold tk tl
    blk_ext [idx t]
  · exact (congrFun (s123 m c) _).trans (q121 _ (tk (tl t) r) k)
theorem e1 (c : Dev nD) (t : Fin cfg0.N) (r : Fin 512) (k : Fin 1024) : (iblk m c 1 t : FVec Ideal S512x1024 .f32) (ix2 r k) = (V m c main_v122 : FVec Ideal S8192x1024 .f32) (ix2 (tk (tl t) r) k) := by
  blk_simp [iblk]
  unfold tk tl
  blk_ext [idx t]
theorem e3 (c : Dev nD) (t : Fin cfg0.N) (r : Fin 512) (k : Fin 2560) : (iblk m c 3 t : FVec Ideal S512x2560 .bf16) (ix2 r k) = (V m c main_v112 : FVec Ideal S8192x2560 .bf16) (ix2 (tk (tl t) r) k) := by
  blk_simp [iblk]
  unfold tk tl
  blk_ext [idx t]
theorem e4 (c : Dev nD) (t : Fin cfg0.N) (r : Fin 8) (k : Fin 6144) : (iblk m c 4 t : FVec Ideal S8x6144 .f32) (ix2 r k) = m (c, Proc.tc.devRef main_arg1) (ix2 0 k) := by
  refine (show _ = (V m c main_v113 : FVec Ideal S8x6144 .f32) (ix2 r k) from ?_).trans ?_
  · blk_simp [iblk]
    blk_ext [idx t]
  · exact (congrFun (s113 m c) _).trans (q113 _ r k)
theorem e5 (c : Dev nD) (t : Fin cfg0.N) (j : Fin 3) (k : Fin 512) : (iblk m c 5 t : FVec Ideal S8x512 .f32) (ix2 ⟨j.val, by omega⟩ k) = m (c, Proc.tc.devRef main_arg3) (ix3 0 j k) := by
  refine (show _ = (V m c main_v119 : FVec Ideal S8x512 .f32) (ix2 ⟨j.val, by omega⟩ k) from ?_).trans ?_
  · blk_simp [iblk]
    blk_ext [idx t]
  · exact (congrFun (s119 m c) _).trans (q119 _ j k)
theorem e6 (c : Dev nD) (t : Fin cfg0.N) (j : Fin 4) (r : Fin 1024) (k : Fin 512) : (iblk m c 6 t : FVec Ideal S4x1024x512 .bf16) (ix3 j r k) = m (c, Proc.tc.devRef main_arg2) (ix3 0 r (zx j k)) := by
  refine (show _ = (V m c main_v117 : FVec Ideal S4x1024x512 .bf16) (ix3 j r k) from ?_).trans ?_
  · blk_simp [iblk]
    blk_ext [idx t]
  · exact (congrFun (s117 m c) _).trans (q117 _ j r k)
theorem e7 (c : Dev nD) (t : Fin cfg0.N) (j : Fin 4) (r k : Fin 128) : (iblk m c 7 t : FVec Ideal S4x128x128 .f32) (ix3 j r k) = m (c, Proc.tc.devRef main_arg4) (ix4 0 j r k) := by
  refine (show _ = (V m c main_v124 : FVec Ideal S4x128x128 .f32) (ix3 j r k) from ?_).trans ?_
  · blk_simp [iblk]
    blk_ext [idx t]
  · exact (congrFun (s124 m c) _).trans (q124 _ j r k)
theorem e9 (c : Dev nD) (t : Fin cfg0.N) (r k : Fin 1024) : (iblk m c 9 t : FVec Ideal S1024x1024 .bf16) (ix2 r k) = m (c, Proc.tc.devRef main_arg6) (ix3 0 r k) := by
  refine (show _ = (V m c main_v126 : FVec Ideal S1024x1024 .bf16) (ix2 r k) from ?_).trans ?_
  · blk_simp [iblk]
    blk_ext [idx t]
  · exact (congrFun (s126 m c) _).trans (q126 _ r k)
theorem e8 (c : Dev nD) (t : Fin cfg0.N) (r : Fin 1) (k : Fin 512) : (iblk m c 8 t : FVec Ideal S1x512 .f32) (ix2 r k) = m (c, Proc.tc.devRef main_arg5) (ix2 r k) := by
  blk_simp [iblk]
  entry_read
  blk_ext [idx t]
theorem e10 (c : Dev nD) (t : Fin cfg0.N) (r : Fin 1) (k : Fin 1024) : (iblk m c 10 t : FVec Ideal S1x1024 .f32) (ix2 r k) = m (c, Proc.tc.devRef main_arg7) (ix2 r k) := by
  blk_simp [iblk]
  entry_read
  blk_ext [idx t]

/-- The arguments are the real arrays `P` and `S`. -/
abbrev Args (c : Dev nD) (P : Par) (S : Src) : Prop :=
  RArgs (m (c, Proc.tc.devRef main_arg0)) (m (c, Proc.tc.devRef main_arg1)) (m (c, Proc.tc.devRef main_arg2)) (m (c, Proc.tc.devRef main_arg3))
    (m (c, Proc.tc.devRef main_arg4)) (m (c, Proc.tc.devRef main_arg5)) (m (c, Proc.tc.devRef main_arg6)) (m (c, Proc.tc.devRef main_arg7))
    (m (c, Proc.tc.devRef main_arg9)) P S

set_option maxHeartbeats 4000000 in
theorem s122 (c : Dev nD) : (V m c main_v122 : FVec Ideal S8192x1024 .f32) = (shapeCast S8192x1024 (V m c main_v108 : FVec Ideal S1x8192x1024 .f32) shapeCasts_S1x8192x1024_S8192x1024 : FVec Ideal S8192x1024 .f32) := by
  entry_read
  rfl
set_option maxHeartbeats 4000000 in
theorem s112 (c : Dev nD) : (V m c main_v112 : FVec Ideal S8192x2560 .bf16) = (truncf .bf16 (shapeCast S8192x2560 (concatenate S1x8192x2560 2
    [⟨S1x8192x512, (V m c main_v19 : FVec Ideal S1x8192x512 .f32)⟩, ⟨S1x8192x512, (V m c main_v20 : FVec Ideal S1x8192x512 .f32)⟩, ⟨S1x8192x512, (V m c main_v21 : FVec Ideal S1x8192x512 .f32)⟩,
      ⟨S1x8192x512, (V m c main_v45 : FVec Ideal S1x8192x512 .f32)⟩, ⟨S1x8192x512, (V m c main_v109 : FVec Ideal S1x8192x512 .f32)⟩]
    concatenates_S1x8192x512_S1x8192x512_S1x8192x512_S1x8192x512_S1x8192x512_S1x8192x2560_d2 : FVec Ideal S1x8192x2560 .f32) shapeCasts_S1x8192x2560_S8192x2560 : FVec Ideal S8192x2560 .f32) bitsLt_bf16_f32 : FVec Ideal S8192x2560 .bf16) := by
  entry_read
  rfl

variable {m} {c : Dev nD} {P : Par} {S : Src}

/-- One row per token, the leading axis dropped. -/
theorem flat {v : FVec Ideal S1x8192x1024 .f32} {f : Fin 8192 → Row} (h : Is3 v fun _ => f) (r : Fin 8192) (k : Fin 1024) :
    (shapeCast S8192x1024 v shapeCasts_S1x8192x1024_S8192x1024 : FVec Ideal S8192x1024 .f32) (ix2 r k) = ((f r k : ℝ) : EReal) := by
  pointwise []
  exact h _ _ _

set_option maxHeartbeats 4000000 in
/-- Five blocks of 512 side by side. -/
theorem side {v0 v1 v2 v3 v4 : FVec Ideal S1x8192x512 .f32} {f0 f1 f2 f3 f4 : Fin 8192 → Fin 512 → ℝ} (g0 : Is3 v0 fun _ => f0) (g1 : Is3 v1 fun _ => f1)
    (g2 : Is3 v2 fun _ => f2) (g3 : Is3 v3 fun _ => f3) (g4 : Is3 v4 fun _ => f4) (j : Fin 5) (r : Fin 8192) (l : Fin 512) :
    (truncf .bf16 (shapeCast S8192x2560 (concatenate S1x8192x2560 2 [⟨S1x8192x512, v0⟩, ⟨S1x8192x512, v1⟩, ⟨S1x8192x512, v2⟩, ⟨S1x8192x512, v3⟩, ⟨S1x8192x512, v4⟩]
      concatenates_S1x8192x512_S1x8192x512_S1x8192x512_S1x8192x512_S1x8192x512_S1x8192x2560_d2 : FVec Ideal S1x8192x2560 .f32) shapeCasts_S1x8192x2560_S8192x2560 : FVec Ideal S8192x2560 .f32)
      bitsLt_bf16_f32 : FVec Ideal S8192x2560 .bf16) (ix2 r ⟨512 * j.val + l.val, by omega⟩) = (((![f0, f1, f2, f3, f4] : Fin 5 → Fin 8192 → Fin 512 → ℝ) j r l : ℝ) : EReal) := by
  obtain ⟨j, hj⟩ := j
  interval_cases j
  all_goals pointwise []
  · first | exact g0 0 r l | (split_ifs <;> first | (exfalso; omega) | exact (congrArg (fun n => v0 (ix3 0 r n)) (Fin.ext (by dsimp only; omega))).trans (g0 0 r l))
  · first | exact g1 0 r l | (split_ifs <;> first | (exfalso; omega) | exact (congrArg (fun n => v1 (ix3 0 r n)) (Fin.ext (by dsimp only; omega))).trans (g1 0 r l))
  · first | exact g2 0 r l | (split_ifs <;> first | (exfalso; omega) | exact (congrArg (fun n => v2 (ix3 0 r n)) (Fin.ext (by dsimp only; omega))).trans (g2 0 r l))
  · first | exact g3 0 r l | (split_ifs <;> first | (exfalso; omega) | exact (congrArg (fun n => v3 (ix3 0 r n)) (Fin.ext (by dsimp only; omega))).trans (g3 0 r l))
  · first | exact g4 0 r l | (split_ifs <;> first | (exfalso; omega) | exact (congrArg (fun n => v4 (ix3 0 r n)) (Fin.ext (by dsimp only; omega))).trans (g4 0 r l))

/-- The mixer's output, as the host computes it. -/
theorem host_mix (A : Args m c P S) (r : Fin 8192) (k : Fin 1024) : (V m c main_v122 : FVec Ideal S8192x1024 .f32) (ix2 r k) = ((mixf P S r k : ℝ) : EReal) := by
  have g : Is3 (φ := .f32) (V m c main_v108 : FVec Ideal S1x8192x1024 .f32) fun _ => mixf P S := by rw [h108]; exact r116 A
  exact (congrFun (s122 m c) _).trans (flat g r k)

/-- What the host saved of the forward pass. -/
theorem host_zs (A : Args m c P S) (j : Fin 5) (r : Fin 8192) (l : Fin 512) : (V m c main_v112 : FVec Ideal S8192x2560 .bf16) (ix2 r ⟨512 * j.val + l.val, by omega⟩)
    = (((![(saved P S).zb, (saved P S).zc, (saved P S).zv, (saved P S).cv, (saved P S).pl] : Fin 5 → Fin 8192 → Fin 512 → ℝ) j r l : ℝ) : EReal) := by
  have g0 : Is3 (φ := .f32) (V m c main_v19 : FVec Ideal S1x8192x512 .f32) fun _ => zj P S 0 := by rw [h19]; exact r22 A
  have g1 : Is3 (φ := .f32) (V m c main_v20 : FVec Ideal S1x8192x512 .f32) fun _ => zj P S 1 := by rw [h20]; exact r23 A
  have g2 : Is3 (φ := .f32) (V m c main_v21 : FVec Ideal S1x8192x512 .f32) fun _ => zj P S 2 := by rw [h21]; exact r24 A
  have g3 : Is3 (φ := .f32) (V m c main_v45 : FVec Ideal S1x8192x512 .f32) fun _ => cvf P S := by rw [h45]; exact r49 A
  have g4 : Is3 (φ := .f32) (V m c main_v109 : FVec Ideal S1x8192x512 .f32) fun _ => plf P S := by rw [h109]; exact r118 A
  exact (congrFun (s112 m c) _).trans (side g0 g1 g2 g3 g4 j r l)

theorem Args.ins (A : Args m c P S) (t : Fin cfg0.N) : Ins m c t P (saved P S) (tl t) where
  x r k := (e0 m c t r k).trans (A.x _ _ _)
  mix r k := (e1 m c t r k).trans (host_mix A _ _)
  dx r k := (e2 m c t r k).trans (A.dx _ _ _)
  zs j r l := (e3 m c t r _).trans (host_zs A j _ l)
  sc k := (e4 m c t 0 _).trans (A.sc 0 k _)
  g k := (e4 m c t 0 _).trans (A.g 0 k _)
  cw j l := (e5 m c t j l).trans (A.cw _ _ _)
  wi j r k := (e6 m c t j r k).trans (A.wi _ _ _)
  wp j r k := (e7 m c t j r k).trans (A.wp _ _ _ _)
  ps r k := (e8 m c t r k).trans (A.ps _ _)
  wo r k := (e9 m c t r k).trans (A.wo _ _ _)
  lg r k := (e10 m c t r k).trans (A.lg _ _)
  v0 := tile t

end Cert.BwdIdeal.Pay

end
-- ==== Proof.BwdAlg.lean ====
/- The mixer's gradient and its reference leave the same arrays, on finite arguments. -/
module

public import proofs.«01_k».proof.Defs
public import proofs.«01_k».proof.Proof.Gen.Pre_bwd_finite
public import proofs.«01_k».proof.Proof.BwdEnt
public import proofs.«01_k».proof.Proof.MlpAlg

@[expose] public section

noncomputable section

namespace Cert.BwdAlg

open Idealize.ShloMosaic Idealize.ShloMosaic.TcCoe Idealize.SL.Sem Cert.RealLift Cert.BwdMath Cert.BwdRefIdeal.Real
open Cert.MlpAlg (real_of_flag)

/-- Finite arguments are real arrays. -/
theorem args_of_pre (m : (ℓ : Loc Cert.BwdIdeal.nD Cert.BwdIdeal.τ Cert.BwdIdeal.sig) → Buf (Elt Ideal) ℓ)
    (h : Cert.Pre_BwdIdeal_bwd_finite m) (c : Dev Cert.BwdIdeal.nD) : ∃ P S, Cert.BwdIdeal.Pay.Args m c P S := by
  obtain ⟨h0, h1, h2, h3, h4, h5, h6, h7, h9⟩ := h c
  choose X hX using fun (i : Fin 1) (r : Fin 8192) (k : Fin 1024) => real_of_flag (congrFun h0 (ix3 i r k))
  choose DX hDX using fun (i : Fin 1) (r : Fin 8192) (k : Fin 1024) => real_of_flag (congrFun h9 (ix3 i r k))
  choose wi hwi using fun (i : Fin 1) (r : Fin 1024) (k : Fin 2048) => real_of_flag (congrFun h2 (ix3 i r k))
  choose cw hcw using fun (i : Fin 1) (r : Fin 3) (k : Fin 512) => real_of_flag (congrFun h3 (ix3 i r k))
  choose wp hwp using fun (i : Fin 1) (j : Fin 4) (r : Fin 128) (k : Fin 128) => real_of_flag (congrFun h4 (ix4 i j r k))
  choose ps hps using fun (i : Fin 1) (k : Fin 512) => real_of_flag (congrFun h5 (ix2 i k))
  choose wo hwo using fun (i : Fin 1) (r : Fin 1024) (k : Fin 1024) => real_of_flag (congrFun h6 (ix3 i r k))
  choose lg hlg using fun (i : Fin 1) (k : Fin 1024) => real_of_flag (congrFun h7 (ix2 i k))
  choose md hmd using fun (i : Fin 1) (k : Fin 3072) => real_of_flag (congrFun h1 (ix2 i k))
  have hmd' : ∀ (i : Fin 1) (k : Fin 3072), m (c, Proc.tc.devRef Cert.BwdIdeal.main_arg1) (ix2 i ⟨k.val, by omega⟩) = ((md i k : ℝ) : EReal) := fun i k => by
    obtain rfl : i = 0 := Subsingleton.elim _ _
    rw [← hmd 0 k]
    pointwise []
  have z : ∀ i : Fin 1, i = 0 := fun i => Subsingleton.elim _ _
  refine ⟨⟨fun k => md 0 ⟨1024 + k.val, by omega⟩, fun k => md 0 ⟨2048 + k.val, by omega⟩, lg 0, wi 0, cw 0, wp 0, ps 0, wo 0⟩, ⟨X 0, fun k => md 0 ⟨k.val, by omega⟩, DX 0⟩, ?_⟩
  exact { x := fun i r k => by rw [z i]; exact hX 0 r k, sh := fun i k _ => by rw [z i]; exact hmd' 0 ⟨k.val, by omega⟩,
           sc := fun i k _ => by rw [z i]; exact hmd' 0 ⟨1024 + k.val, by omega⟩, g := fun i k _ => by rw [z i]; exact hmd' 0 ⟨2048 + k.val, by omega⟩,
           wi := fun i r k => by rw [z i]; exact hwi 0 r k, cw := fun i r k => by rw [z i]; exact hcw 0 r k, wp := fun i j r k => by rw [z i]; exact hwp 0 j r k,
           ps := fun i k => by rw [z i]; exact hps 0 k, wo := fun i r k => by rw [z i]; exact hwo 0 r k, lg := fun i k => by rw [z i]; exact hlg 0 k,
           dx := fun i r k => by rw [z i]; exact hDX 0 r k }

set_option maxHeartbeats 4000000 in
open Cert.BwdIdeal.Pay in
/-- On finite arguments the call and its reference leave equal arrays. -/
theorem algebraic : Cert.algebraic_BwdIdeal_BwdRefIdeal_pre_bwd_finite := by
  intro m g m' g' hpre hagree
  refine ⟨_, _, _, _, _, _, Cert.BwdIdeal.Value.run_blocks m g, ?_⟩
  have key : ∀ c : Dev Cert.BwdIdeal.nD, ∃ P S, Args m c P S ∧ RArgs (m' (c.tc.loc Cert.BwdRefIdeal.main_arg0)) (m' (c.tc.loc Cert.BwdRefIdeal.main_arg1)) (m' (c.tc.loc Cert.BwdRefIdeal.main_arg2)) (m' (c.tc.loc Cert.BwdRefIdeal.main_arg3)) (m' (c.tc.loc Cert.BwdRefIdeal.main_arg4)) (m' (c.tc.loc Cert.BwdRefIdeal.main_arg5)) (m' (c.tc.loc Cert.BwdRefIdeal.main_arg6)) (m' (c.tc.loc Cert.BwdRefIdeal.main_arg7)) (m' (c.tc.loc Cert.BwdRefIdeal.main_arg9)) P S := fun c => by
    obtain ⟨P, S, A⟩ := args_of_pre m hpre c
    obtain ⟨e0, e1, e2, e3, e4, e5, e6, e7, e8, e9⟩ := hagree c
    refine ⟨P, S, A, ?_⟩
    rw [e0, e1, e2, e3, e4, e5, e6, e7, e9]
    exact A
  clear hagree
  refine (θ_run Cert.BwdRefIdeal.defs _ _).mono (fun r h c => ?_) (Cert.BwdRefIdeal.Value.run m' g')
  obtain ⟨P, S, A, R⟩ := key c
  obtain ⟨h0, h1, h2, h3, h4, h5, hk⟩ := h c
  refine ⟨h0.trans ?_, h1.trans ?_, h2.trans ?_, h3.trans ?_, h4.trans ?_, h5.trans ?_, hk⟩
  · exact (show _ = _ from funext fun y => Is2.at (r335 R) y rfl rfl).trans (out11 A.ins).symm
  · exact (show _ = _ from funext fun y => Is3.at (r334 R) y rfl rfl rfl).trans (out12 A.ins).symm
  · exact (show _ = _ from funext fun y => Is2.at (r337 R) y rfl rfl).trans (out13 A.ins).symm
  · exact (show _ = _ from funext fun y => Is2.at (r327 R) y rfl rfl).trans (out14 A.ins).symm
  · exact (show _ = _ from funext fun y => Is2.at (r330 R) y rfl rfl).trans (out15 A.ins).symm
  · exact (show _ = _ from funext fun y => Is3.at (r338 R) y rfl rfl rfl).trans (out16 A.ins).symm

end Cert.BwdAlg

end
-- ==== Proof.FwdMath.lean ====
/- The token mixer with the normalisation after it, over the extended reals: what every element of its results is. Only the pool
   needs real numbers: `zp` is the block of the projection it reads. -/
module

public import proofs.«01_k».proof.Proof.BwdFwd

@[expose] public section

noncomputable section

namespace Cert.FwdMath

open Idealize.ShloMosaic Cert.RealLift Cert.BwdMath Cert.BwdWin

abbrev ERow := Fin 1024 → EReal

/-- The step's input, the modulation's three parts, the parameters, and the block the pool reads, as real numbers. -/
structure Par where
  x : Fin 8192 → ERow
  sh : ERow
  sc : ERow
  ga : ERow
  wi : Fin 1024 → Fin 2048 → EReal
  cw : Fin 3 → Fin 512 → EReal
  wp : Fin 4 → Fin 128 → Fin 128 → EReal
  ps : Fin 512 → EReal
  wo : Fin 1024 → Fin 1024 → EReal
  lg : ERow
  lb : ERow
  zp : Fin 8192 → Fin 512 → ℝ

/-- The value `s` tokens back; zero before the first token. -/
def pe {α : Type*} (f : Fin 8192 → α → EReal) (t : Fin 8192) (s : ℕ) (l : α) : EReal := if t.val < s then 0 else f ⟨t.val - s, by omega⟩ l

theorem pe_coe {α : Type*} (f : Fin 8192 → α → ℝ) (t : Fin 8192) (s : ℕ) (l : α) : pe (fun t l => ((f t l : ℝ) : EReal)) t s l = ((pv f t s l : ℝ) : EReal) := by
  unfold pe pv
  by_cases h : t.val < s
  · rw [if_pos h, if_pos h]; rfl
  · rw [if_neg h, if_neg h]

/-! ## The normalisation of a row -/

def mean (r : ERow) : EReal := Ideal.div (∑ c, r c) (Ideal.ofBits .f32 0x44800000#32)
def cen (r : ERow) : ERow := fun c => r c - mean r
def var (r : ERow) : EReal := Ideal.div (∑ c, cen r c * cen r c) (Ideal.ofBits .f32 0x44800000#32)
def ln (g b r : ERow) : ERow := fun c => cen r c * Ideal.rsqrt (var r + Ideal.ofBits .f32 0x3727C5AC#32) * g c + b c

variable (P : Par)

def h (t : Fin 8192) : ERow := fun c => P.x t c * (1 + P.sc c) + P.sh c
/-- Block `j` of the projection. -/
def zj (j : Fin 4) (t : Fin 8192) (l : Fin 512) : EReal := ∑ c, h P t c * P.wi c (zx j l)
def u (t : Fin 8192) (l : Fin 512) : EReal := zj P 1 t l * zj P 2 t l
def cv (t : Fin 8192) (l : Fin 512) : EReal := P.cw 0 l * pe (u P) t 2 l + P.cw 1 l * pe (u P) t 1 l + P.cw 2 l * u P t l
def yc (t : Fin 8192) (l : Fin 512) : EReal := zj P 0 t l * cv P t l
/-- The sum of a group's window, its first `n` values. -/
def sm (j : Fin 4) (n : ℕ) (t : Fin 8192) (k : Fin 128) : ℝ := ∑ s ∈ Finset.range n, pv P.zp t s (gx j k)
/-- Group `j`'s pooled mean, less the value itself. -/
def plr (j : Fin 4) (t : Fin 8192) (k : Fin 128) : ℝ := sm P j (win j) t k * (1 / cnt j t) - P.zp t (gx j k)
def pl (j : Fin 4) (t : Fin 8192) (k : Fin 128) : EReal := ((plr P j t k : ℝ) : EReal)
def plf (t : Fin 8192) (l : Fin 512) : EReal := pl P (gq l) t (gr l)
/-- The pooled means through the pool's weights. -/
def pm (j : Fin 4) (t : Fin 8192) (k : Fin 128) : EReal := ∑ q, pl P j t q * P.wp j q k
def yp (t : Fin 8192) (l : Fin 512) : EReal := pm P (gq l) t (gr l) * P.ps l
def cat (t : Fin 8192) : ERow := fun k => if h : k.val < 512 then yc P t ⟨k.val, h⟩ else yp P t ⟨k.val - 512, by omega⟩
def mix (t : Fin 8192) : ERow := fun c => ∑ k, cat P t k * P.wo k c
def res (t : Fin 8192) : ERow := fun c => Ideal.ofBits .f32 0x3F9837F0#32 * P.x t c + (1 + P.ga c) * mix P t c
def x1 (t : Fin 8192) : ERow := ln P.lg P.lb (res P t)
/-- The five saved blocks. -/
def zs (j : Fin 5) : Fin 8192 → Fin 512 → EReal := (![zj P 0, zj P 1, zj P 2, cv P, plf P] : Fin 5 → Fin 8192 → Fin 512 → EReal) j

/-- The five blocks of columns side by side. -/
def zc (t : Fin 8192) (k : Fin 2560) : EReal := zs P ⟨k.val / 512, by omega⟩ t ⟨k.val % 512, by omega⟩

/-- A running sum less the one `w` tokens back is the sum of the window. -/
theorem behind {C : ℕ} (f : Fin 8192 → Fin C → ℝ) (w : ℕ) (t : Fin 8192) (l : Fin C) :
    upto f t l - pv (fun t l => upto f t l) t w l = ∑ s ∈ Finset.range w, pv f t s l := by
  have up : ∀ t : Fin 8192, upto f t l = ∑ s ∈ Finset.range (t.val + 1), pv f t s l := fun t => by
    obtain ⟨v, hv⟩ : ∃ v, 8192 = v + (t.val + 1) := ⟨8191 - t.val, by omega⟩
    have e : ∀ k : Fin 8192, (if h : 8191 ≤ t.val + k.val ∧ t.val + k.val - 8191 < 8192 then f ⟨t.val + k.val - 8191, h.2⟩ l else 0)
        = (fun n : ℕ => if h : 8191 ≤ t.val + n ∧ t.val + n - 8191 < 8192 then f ⟨t.val + n - 8191, h.2⟩ l else 0) k.val := fun k => rfl
    unfold upto
    rw [Fintype.sum_congr _ _ e, ← Finset.sum_range (fun n : ℕ => if h : 8191 ≤ t.val + n ∧ t.val + n - 8191 < 8192 then f ⟨t.val + n - 8191, h.2⟩ l else 0)]
    rw [Finset.sum_congr (congrArg Finset.range hv) fun _ _ => rfl, Finset.sum_range_add, Finset.sum_eq_zero, zero_add, ← Finset.sum_range_reflect]
    · refine Finset.sum_congr rfl fun s hs => ?_
      have := Finset.mem_range.mp hs
      unfold pv
      rw [if_neg (by omega), dif_pos (by omega)]
      exact congrArg (fun n => f n l) (Fin.ext (by dsimp only; omega))
    · intro n hn
      have := Finset.mem_range.mp hn
      rw [dif_neg (by omega)]
  by_cases hw : t.val < w
  · unfold pv
    rw [if_pos hw, sub_zero, up t]
    obtain ⟨v, rfl⟩ : ∃ v, w = t.val + 1 + v := ⟨w - (t.val + 1), by omega⟩
    rw [Finset.sum_range_add _ (t.val + 1) v, Finset.sum_eq_zero (s := Finset.range v), add_zero]
    · rfl
    · intro n hn
      rw [if_pos (by omega)]
  · have hp : pv (fun t l => upto f t l) t w l = upto f ⟨t.val - w, by omega⟩ l := by unfold pv; rw [if_neg hw]
    rw [hp, up t, up ⟨t.val - w, by omega⟩, show t.val + 1 = w + (t.val - w + 1) by omega, Finset.sum_range_add, add_sub_assoc]
    conv_rhs => rw [← add_zero (∑ s ∈ Finset.range w, pv f t s l)]
    congr 1
    rw [sub_eq_zero]
    refine Finset.sum_congr rfl fun s hs => ?_
    have : s < t.val - w + 1 := Finset.mem_range.mp hs
    unfold pv
    rw [if_neg (by omega), if_neg (by dsimp only; omega)]
    exact congrArg (fun n => f n l) (Fin.ext (by dsimp only; omega))

/-- The pooled mean by running sums. -/
theorem plr_eq (j : Fin 4) (t : Fin 8192) (k : Fin 128) :
    (upto P.zp t (gx j k) - pv (fun t k => upto P.zp t (gx j k)) t (win j) k) / cnt j t - P.zp t (gx j k) = plr P j t k := by
  have e : pv (fun t k => upto P.zp t (gx j k)) t (win j) k = pv (fun t l => upto P.zp t l) t (win j) (gx j k) := rfl
  unfold plr sm
  rw [e, behind, div_eq_mul_one_div]

/-! ## Blocks element by element -/

def E2 {a b : ℕ} {φ : FTy} (v : FVec Ideal ⟨2, ![a, b]⟩ φ) (f : Fin a → Fin b → EReal) : Prop := ∀ r c, v (ix2 r c) = f r c
def E3 {a b d : ℕ} {φ : FTy} (v : FVec Ideal ⟨3, ![a, b, d]⟩ φ) (f : Fin a → Fin b → Fin d → EReal) : Prop := ∀ j r c, v (ix3 j r c) = f j r c
def E4 {a b d e : ℕ} {φ : FTy} (v : FVec Ideal ⟨4, ![a, b, d, e]⟩ φ) (f : Fin a → Fin b → Fin d → Fin e → EReal) : Prop :=
  ∀ i j k l, v (ix4 i j k l) = f i j k l

theorem E2.at {a b : ℕ} {φ : FTy} {v : FVec Ideal ⟨2, ![a, b]⟩ φ} {f : Fin a → Fin b → EReal} (h : E2 v f) (x : (⟨2, ![a, b]⟩ : Shape).Idx)
    {r : Fin a} {c : Fin b} (h0 : (r : ℕ) = (x 0).val) (h1 : (c : ℕ) = (x 1).val) : v x = f r c := by
  obtain rfl : x = ix2 r c := by
    funext k; match k with
    | ⟨0, _⟩ => exact Fin.ext h0.symm
    | ⟨1, _⟩ => exact Fin.ext h1.symm
  exact h r c

theorem E3.at {a b d : ℕ} {φ : FTy} {v : FVec Ideal ⟨3, ![a, b, d]⟩ φ} {f : Fin a → Fin b → Fin d → EReal} (h : E3 v f) (x : (⟨3, ![a, b, d]⟩ : Shape).Idx)
    {j : Fin a} {r : Fin b} {c : Fin d} (h0 : (j : ℕ) = (x 0).val) (h1 : (r : ℕ) = (x 1).val) (h2 : (c : ℕ) = (x 2).val) : v x = f j r c := by
  obtain rfl : x = ix3 j r c := by
    funext k; match k with
    | ⟨0, _⟩ => exact Fin.ext h0.symm
    | ⟨1, _⟩ => exact Fin.ext h1.symm
    | ⟨2, _⟩ => exact Fin.ext h2.symm
  exact h j r c

/-- A block of one row per token of tile `T`. -/
abbrev Te {n : ℕ} {φ : FTy} (T : Fin 16) (v : FVec Ideal ⟨2, ![512, n]⟩ φ) (f : Fin 8192 → Fin n → EReal) : Prop := E2 v fun r c => f (tk T r) c

theorem E2.of {a b : ℕ} {φ : FTy} {v : FVec Ideal ⟨2, ![a, b]⟩ φ} {f g : Fin a → Fin b → EReal} (h : E2 v f) (e : ∀ r c, f r c = g r c) : E2 v g :=
  fun r c => (h r c).trans (e r c)

/-- Four blocks of 128 side by side. -/
theorem cat4e (f : Fin 4 → Fin 128 → EReal) (l : Fin 512) :
    (if h : l.val < 128 then f 0 ⟨l.val, h⟩ else if h : l.val - 128 < 128 then f 1 ⟨l.val - 128, h⟩
      else if h : l.val - 128 - 128 < 128 then f 2 ⟨l.val - 128 - 128, h⟩ else f 3 ⟨l.val - 128 - 128 - 128, by omega⟩)
      = f (gq l) (gr l) := by
  have hl := l.isLt
  have key : ∀ (j : Fin 4) (n : ℕ) (hn : n < 128), l.val = j.val * 128 + n → f j ⟨n, hn⟩ = f (gq l) (gr l) := by
    intro j n hn e
    rw [show gq l = j from Fin.ext (by show l.val / 128 = j.val; omega), show gr l = ⟨n, hn⟩ from Fin.ext (by show l.val % 128 = n; omega)]
  split_ifs
  · exact key 0 _ _ (by simp)
  · exact key 1 _ _ (by show l.val = 1 * 128 + (l.val - 128); omega)
  · exact key 2 _ _ (by show l.val = 2 * 128 + (l.val - 128 - 128); omega)
  · exact key 3 _ _ (by show l.val = 3 * 128 + (l.val - 128 - 128 - 128); omega)

/-- Five blocks of 512 side by side. -/
theorem cat5e (f : Fin 5 → Fin 512 → EReal) (l : Fin 2560) :
    (if h : l.val < 512 then f 0 ⟨l.val, h⟩ else if h : l.val - 512 < 512 then f 1 ⟨l.val - 512, h⟩
      else if h : l.val - 512 - 512 < 512 then f 2 ⟨l.val - 512 - 512, h⟩ else if h : l.val - 512 - 512 - 512 < 512 then f 3 ⟨l.val - 512 - 512 - 512, h⟩
      else f 4 ⟨l.val - 512 - 512 - 512 - 512, by omega⟩)
      = f ⟨l.val / 512, by omega⟩ ⟨l.val % 512, by omega⟩ := by
  have hl := l.isLt
  have key : ∀ (j : Fin 5) (n : ℕ) (hn : n < 512), l.val = j.val * 512 + n → f j ⟨n, hn⟩ = f ⟨l.val / 512, by omega⟩ ⟨l.val % 512, by omega⟩ := by
    intro j n hn e
    exact congrArg₂ f (Fin.ext (by show j.val = l.val / 512; omega)) (Fin.ext (by show n = l.val % 512; omega))
  split_ifs
  · exact key 0 _ _ (by simp)
  · exact key 1 _ _ (by show l.val = 1 * 512 + (l.val - 512); omega)
  · exact key 2 _ _ (by show l.val = 2 * 512 + (l.val - 512 - 512); omega)
  · exact key 3 _ _ (by show l.val = 3 * 512 + (l.val - 512 - 512 - 512); omega)
  · exact key 4 _ _ (by show l.val = 4 * 512 + (l.val - 512 - 512 - 512 - 512); omega)

/-- The call's arguments, and the real number each entry of the pooled block is. -/
def par (x0 : FVec Ideal ⟨3, ![1, 8192, 1024]⟩ .f32) (x1 : FVec Ideal ⟨2, ![1, 6144]⟩ .f32) (x2 : FVec Ideal ⟨3, ![1, 1024, 2048]⟩ .f32) (x3 : FVec Ideal ⟨3, ![1, 3, 512]⟩ .f32)
    (x4 : FVec Ideal ⟨4, ![1, 4, 128, 128]⟩ .f32) (x5 : FVec Ideal ⟨2, ![1, 512]⟩ .f32) (x6 : FVec Ideal ⟨3, ![1, 1024, 1024]⟩ .f32) (x7 x8 : FVec Ideal ⟨2, ![1, 1024]⟩ .f32)
    (zp : Fin 8192 → Fin 512 → ℝ) : Par where
  x := fun t k => x0 (ix3 0 t k)
  sh := fun k => x1 (ix2 0 ⟨k.val, by omega⟩)
  sc := fun k => x1 (ix2 0 ⟨1024 + k.val, by omega⟩)
  ga := fun k => x1 (ix2 0 ⟨2048 + k.val, by omega⟩)
  wi := fun r k => x2 (ix3 0 r k)
  cw := fun j k => x3 (ix3 0 j k)
  wp := fun j r k => x4 (ix4 0 j r k)
  ps := fun k => x5 (ix2 0 k)
  wo := fun r k => x6 (ix3 0 r k)
  lg := fun k => x7 (ix2 0 k)
  lb := fun k => x8 (ix2 0 k)
  zp := zp

end Cert.FwdMath

end
-- ==== Proof.FwdPay.lean ====
/- What each step of the token mixer computes, over the extended reals: one lemma per step. A step's operands are given by what
   they hold; the step then holds the named function of the tokens. -/
module

public import proofs.«01_k».proof.Proof.Gen.FwdIdeal.Skeleton
public import Idealize.ShloMosaic.Lib.Pointwise
public import proofs.«01_k».proof.Proof.BwdPay
public import proofs.«01_k».proof.Proof.FwdMath

@[expose] public section

set_option maxRecDepth 16384

noncomputable section

open Idealize.ShloMosaic Idealize.ShloMosaic.TcCoe Idealize.SL.Sem

namespace Cert.FwdIdeal.Pay

open Cert.FwdIdeal Cert.FwdIdeal.Gen Cert.RealLift Cert.FwdMath
open Cert.BwdMath (tk gx zx gq gr win cnt pv)
open Cert.BwdIdeal.Pay (tok_count inv_cnt coe_min c_4 c_8 c_16)

variable {P : Par} {T : Fin 16}

theorem gx0 (l : Fin 128) (h : l.val < 512) : (⟨l.val, h⟩ : Fin 512) = gx 0 l := Fin.ext (by show l.val = 0 * 128 + l.val; omega)

theorem pv0 {α : Type*} (f : Fin 8192 → α → ℝ) (t : Fin 8192) (l : α) : pv f t 0 l = f t l := by
  unfold pv
  rw [if_neg (Nat.not_lt_zero _)]
  rfl

theorem p1 {v50 : FVec Ideal S512x512 .f32} (h50 : Te T v50 (cv P)) :
    Te T (k0_pay1 v50) (cv P) := by
  intro r l
  pointwise [k0_pay1]
  simp only [h50 _ _, zero_add]
  all_goals rfl

theorem p2 {v199 : FVec Ideal S512x512 .f32} (h199 : Te T v199 (plf P)) :
    Te T (k0_pay2 v199) (plf P) := by
  intro r l
  pointwise [k0_pay2]
  simp only [h199 _ _, zero_add]
  all_goals rfl

theorem p3 :
    E2 (k0_pay3 (F := Ideal)) (fun _ _ => 0) := by
  intro r l
  pointwise [k0_pay3]

theorem p4 :
    E2 (k0_pay4 (F := Ideal)) (fun _ _ => 0) := by
  intro r l
  pointwise [k0_pay4]

theorem p5 {v3 : FVec Ideal S512x1024 .f32} (h3 : Te T v3 (P.x)) :
    Te T (k0_pay5 v3) (P.x) := by
  intro r l
  pointwise [k0_pay5]
  simp only [h3 _ _, zero_add]
  all_goals rfl

theorem p6 {v9 : FVec Ideal S1x1024 .f32} (h9 : E2 v9 (fun _ c => P.ga c)) :
    E2 (k0_pay6 v9) (fun _ c => P.ga c) := by
  intro r l
  pointwise [k0_pay6]
  simp only [h9 _ _, zero_add]
  all_goals rfl

theorem p7 {v3 : FVec Ideal S512x1024 .f32} (h3 : Te T v3 (P.x)) {v5 : FVec Ideal S1x1024 .f32} (h5 : E2 v5 (fun _ c => P.sh c)) {v7 : FVec Ideal S1x1024 .f32} (h7 : E2 v7 (fun _ c => P.sc c)) :
    Te T (k0_pay7 v3 v5 v7) (h P) := by
  intro r l
  pointwise [k0_pay7]
  simp only [(p5 h3) _ _, h3 _ _, h5 _ _, h7 _ _, zero_add]
  all_goals rfl

theorem p8 {v3 : FVec Ideal S512x1024 .f32} (h3 : Te T v3 (P.x)) {v5 : FVec Ideal S1x1024 .f32} (h5 : E2 v5 (fun _ c => P.sh c)) {v7 : FVec Ideal S1x1024 .f32} (h7 : E2 v7 (fun _ c => P.sc c)) {v19 : FVec Ideal S1x1024x512 .bf16} (h19 : E3 v19 (fun _ k l => P.wi k (zx 0 l))) :
    Te T (k0_pay8 v3 v5 v7 v19) (zj P 0) := by
  intro r l
  pointwise [k0_pay8]
  simp only [(p7 h3 h5 h7) _ _, h3 _ _, h5 _ _, h7 _ _, h19 _ _ _, zero_add]
  all_goals rfl

theorem p9 {v3 : FVec Ideal S512x1024 .f32} (h3 : Te T v3 (P.x)) {v5 : FVec Ideal S1x1024 .f32} (h5 : E2 v5 (fun _ c => P.sh c)) {v7 : FVec Ideal S1x1024 .f32} (h7 : E2 v7 (fun _ c => P.sc c)) {v22 : FVec Ideal S1x1024x512 .bf16} (h22 : E3 v22 (fun _ k l => P.wi k (zx 1 l))) :
    Te T (k0_pay9 v3 v5 v7 v22) (zj P 1) := by
  intro r l
  pointwise [k0_pay9]
  simp only [(p7 h3 h5 h7) _ _, h3 _ _, h5 _ _, h7 _ _, h22 _ _ _, zero_add]
  all_goals rfl

theorem p10 {v3 : FVec Ideal S512x1024 .f32} (h3 : Te T v3 (P.x)) {v5 : FVec Ideal S1x1024 .f32} (h5 : E2 v5 (fun _ c => P.sh c)) {v7 : FVec Ideal S1x1024 .f32} (h7 : E2 v7 (fun _ c => P.sc c)) {v25 : FVec Ideal S1x1024x512 .bf16} (h25 : E3 v25 (fun _ k l => P.wi k (zx 2 l))) :
    Te T (k0_pay10 v3 v5 v7 v25) (zj P 2) := by
  intro r l
  pointwise [k0_pay10]
  simp only [(p7 h3 h5 h7) _ _, h3 _ _, h5 _ _, h7 _ _, h25 _ _ _, zero_add]
  all_goals rfl

theorem p11 (Z : ∀ t l, zj P 3 t l = ((P.zp t l : ℝ) : EReal)) {v17 : FVec Ideal S512x1024 .bf16} (h17 : Te T v17 (h P)) {v28 : FVec Ideal S1x1024x512 .bf16} (h28 : E3 v28 (fun _ k l => P.wi k (zx 3 l))) :
    Te T (k0_pay11 v17 v28) (fun t k => ((P.zp t k : ℝ) : EReal)) := by
  intro r l
  pointwise [k0_pay11]
  simp only [h17 _ _, h28 _ _ _, zero_add]
  exact Z (tk T r) l

theorem p12 {v24 : FVec Ideal S512x512 .f32} (h24 : Te T v24 (zj P 1)) {v27 : FVec Ideal S512x512 .f32} (h27 : Te T v27 (zj P 2)) :
    Te T (k0_pay12 v24 v27) (u P) := by
  intro r l
  pointwise [k0_pay12]
  simp only [h24 _ _, h27 _ _, zero_add]
  all_goals rfl

theorem p13 {v24 : FVec Ideal S512x512 .f32} (h24 : Te T v24 (zj P 1)) {v27 : FVec Ideal S512x512 .f32} (h27 : Te T v27 (zj P 2)) :
    Te T (k0_pay13 v24 v27) (u P) := by
  intro r l
  pointwise [k0_pay13]
  simp only [(p12 h24 h27) _ _, h24 _ _, h27 _ _, zero_add]
  all_goals rfl

theorem p14 {v24 : FVec Ideal S512x512 .f32} (h24 : Te T v24 (zj P 1)) {v27 : FVec Ideal S512x512 .f32} (h27 : Te T v27 (zj P 2)) {v35 : FVec Ideal S512x512 .f32} (h35 : Te T v35 (fun t => pe (u P) t 1)) {v36 : FVec Ideal S512x512 .f32} (h36 : Te T v36 (fun t => pe (u P) t 2)) {v37 : FVec Ideal S1x512 .f32} (h37 : E2 v37 (fun _ c => P.cw 0 c)) {v41 : FVec Ideal S1x512 .f32} (h41 : E2 v41 (fun _ c => P.cw 1 c)) {v46 : FVec Ideal S1x512 .f32} (h46 : E2 v46 (fun _ c => P.cw 2 c)) :
    Te T (k0_pay14 v24 v27 v35 v36 v37 v41 v46) (cv P) := by
  intro r l
  pointwise [k0_pay14]
  simp only [(p12 h24 h27) _ _, h24 _ _, h27 _ _, h35 _ _, h36 _ _, h37 _ _, h41 _ _, h46 _ _, zero_add]
  all_goals rfl

theorem p15 {w : Fin 16 → Fin 512 → EReal} {v51 : FVec Ideal S16x512 .f32} (h51 : E2 v51 (w)) :
    E2 (k0_pay15 v51) (w) := by
  intro r l
  pointwise [k0_pay15]
  simp only [h51 _ _, zero_add]
  all_goals rfl

theorem p16 {v21 : FVec Ideal S512x512 .f32} (h21 : Te T v21 (zj P 0)) {v24 : FVec Ideal S512x512 .f32} (h24 : Te T v24 (zj P 1)) {v27 : FVec Ideal S512x512 .f32} (h27 : Te T v27 (zj P 2)) {v35 : FVec Ideal S512x512 .f32} (h35 : Te T v35 (fun t => pe (u P) t 1)) {v36 : FVec Ideal S512x512 .f32} (h36 : Te T v36 (fun t => pe (u P) t 2)) {v37 : FVec Ideal S1x512 .f32} (h37 : E2 v37 (fun _ c => P.cw 0 c)) {v41 : FVec Ideal S1x512 .f32} (h41 : E2 v41 (fun _ c => P.cw 1 c)) {v46 : FVec Ideal S1x512 .f32} (h46 : E2 v46 (fun _ c => P.cw 2 c)) :
    Te T (k0_pay16 v21 v24 v27 v35 v36 v37 v41 v46) (yc P) := by
  intro r l
  pointwise [k0_pay16]
  simp only [(p14 h24 h27 h35 h36 h37 h41 h46) _ _, h21 _ _, h24 _ _, h27 _ _, h35 _ _, h36 _ _, h37 _ _, h41 _ _, h46 _ _, zero_add]
  all_goals rfl

theorem p17 (Z : ∀ t l, zj P 3 t l = ((P.zp t l : ℝ) : EReal)) {v17 : FVec Ideal S512x1024 .bf16} (h17 : Te T v17 (h P)) {v28 : FVec Ideal S1x1024x512 .bf16} (h28 : E3 v28 (fun _ k l => P.wi k (zx 3 l))) :
    Te T (k0_pay17 v17 v28) (fun t k => ((P.zp t k : ℝ) : EReal)) := by
  intro r l
  pointwise [k0_pay17]
  exact p11 Z h17 h28 _ _

theorem p18 (Z : ∀ t l, zj P 3 t l = ((P.zp t l : ℝ) : EReal)) {v17 : FVec Ideal S512x1024 .bf16} (h17 : Te T v17 (h P)) {v28 : FVec Ideal S1x1024x512 .bf16} (h28 : E3 v28 (fun _ k l => P.wi k (zx 3 l))) {v60 : FVec Ideal S512x128 .f32} (h60 : Te T v60 (fun t k => (((pv P.zp t 1 (gx 0 k) : ℝ)) : EReal))) :
    Te T (k0_pay18 v17 v28 v60) (fun t k => (((sm P 0 2 t k : ℝ)) : EReal)) := by
  intro r l
  pointwise [k0_pay18]
  simp only [(p11 Z h17 h28) _ _, h17 _ _, h28 _ _ _, h60 _ _, zero_add]
  rw [← EReal.coe_add]
  refine congrArg (fun x : ℝ => (x : EReal)) ?_
  unfold sm
  simp only [Finset.sum_range_succ, Finset.sum_range_zero, zero_add, pv0]
  all_goals rw [gx0]

theorem p19 {v30 : FVec Ideal S512x512 .f32} (h30 : Te T v30 (fun t k => (((P.zp t k : ℝ)) : EReal))) {v61 : FVec Ideal S512x128 .f32} (h61 : Te T v61 (fun t k => (((sm P 0 2 t k : ℝ)) : EReal))) {v62 : BitVec 32} (h62 : v62 = Scalar.muli (BitVec.ofNat 32 T.val) 512#32) {v63 : IVec S512x1 32} (h63 : ∀ (r : Fin 512) (k : Fin 1), v63 (ix2 r k) = BitVec.ofNat 32 r.val) :
    Te T (k0_pay19 v30 v61 v62 v63) (pl P 0) := by
  intro r l
  pointwise [k0_pay19]
  simp only [h30 _ _, h61 _ _, zero_add]
  rw [h62, h63, tok_count, c_2, show ((2 : ℝ) : EReal) = ((win 0 : ℝ) : EReal) from by rw [show win 0 = 2 from rfl]; norm_num, show (1 : EReal) = ((1 : ℝ) : EReal) from rfl, inv_cnt]
  simp only [← EReal.coe_add, ← EReal.coe_mul, ← EReal.coe_sub]
  unfold pl plr
  refine congrArg (fun x : ℝ => (x : EReal)) ?_
  rw [show win 0 = 2 from rfl]
  all_goals rw [gx0]

theorem p20 {v30 : FVec Ideal S512x512 .f32} (h30 : Te T v30 (fun t k => (((P.zp t k : ℝ)) : EReal))) {v61 : FVec Ideal S512x128 .f32} (h61 : Te T v61 (fun t k => (((sm P 0 2 t k : ℝ)) : EReal))) {v62 : BitVec 32} (h62 : v62 = Scalar.muli (BitVec.ofNat 32 T.val) 512#32) {v63 : IVec S512x1 32} (h63 : ∀ (r : Fin 512) (k : Fin 1), v63 (ix2 r k) = BitVec.ofNat 32 r.val) {v78 : FVec Ideal S1x128x128 .f32} (h78 : E3 v78 (fun _ => P.wp 0)) :
    Te T (k0_pay20 v30 v61 v62 v63 v78) (pm P 0) := by
  intro r l
  pointwise [k0_pay20]
  simp only [(p19 h30 h61 h62 h63) _ _, h30 _ _, h61 _ _, h78 _ _ _, zero_add]
  all_goals rfl

theorem p21 {arg0 : BitVec 32} (h0 : arg0 = BitVec.ofNat 32 T.val) {v30 : FVec Ideal S512x512 .f32} (h30 : Te T v30 (fun t k => (((P.zp t k : ℝ)) : EReal))) {v83 : FVec Ideal S512x128 .f32} (h83 : Te T v83 (fun t k => (((pv P.zp t 1 (gx 1 k) : ℝ)) : EReal))) {v85 : FVec Ideal S512x128 .f32} (h85 : Te T v85 (fun t k => (((pv P.zp t 2 (gx 1 k) : ℝ)) : EReal))) {v87 : FVec Ideal S512x128 .f32} (h87 : Te T v87 (fun t k => (((pv P.zp t 3 (gx 1 k) : ℝ)) : EReal))) :
    Te T (k0_pay21 arg0 v30 v83 v85 v87) (pl P 1) := by
  intro r l
  pointwise [k0_pay21]
  simp only [h30 _ _, h83 _ _, h85 _ _, h87 _ _, zero_add]
  rw [h0, tok_count, c_4, show ((4 : ℝ) : EReal) = ((win 1 : ℝ) : EReal) from by rw [show win 1 = 4 from rfl]; norm_num, show (1 : EReal) = ((1 : ℝ) : EReal) from rfl, inv_cnt]
  simp only [← EReal.coe_add, ← EReal.coe_mul, ← EReal.coe_sub]
  unfold pl plr
  refine congrArg (fun x : ℝ => (x : EReal)) ?_
  rw [show win 1 = 4 from rfl]
  congr 2
  unfold sm
  simp only [Finset.sum_range_succ, Finset.sum_range_zero, zero_add, pv0]
  all_goals rfl

theorem p22 {arg0 : BitVec 32} (h0 : arg0 = BitVec.ofNat 32 T.val) {v30 : FVec Ideal S512x512 .f32} (h30 : Te T v30 (fun t k => (((P.zp t k : ℝ)) : EReal))) {v83 : FVec Ideal S512x128 .f32} (h83 : Te T v83 (fun t k => (((pv P.zp t 1 (gx 1 k) : ℝ)) : EReal))) {v85 : FVec Ideal S512x128 .f32} (h85 : Te T v85 (fun t k => (((pv P.zp t 2 (gx 1 k) : ℝ)) : EReal))) {v87 : FVec Ideal S512x128 .f32} (h87 : Te T v87 (fun t k => (((pv P.zp t 3 (gx 1 k) : ℝ)) : EReal))) :
    Te T (k0_pay22 arg0 v30 v83 v85 v87) (pl P 1) := by
  intro r l
  pointwise [k0_pay22]
  simp only [(p21 h0 h30 h83 h85 h87) _ _, h30 _ _, h83 _ _, h85 _ _, h87 _ _, zero_add]
  all_goals rfl

theorem p23 {v104 : FVec Ideal S512x128 .bf16} (h104 : Te T v104 (pl P 1)) {v105 : FVec Ideal S1x128x128 .f32} (h105 : E3 v105 (fun _ => P.wp 1)) :
    Te T (k0_pay23 v104 v105) (pm P 1) := by
  intro r l
  pointwise [k0_pay23]
  simp only [h104 _ _, h105 _ _ _, zero_add]
  all_goals rfl

theorem p24 {arg0 : BitVec 32} (h0 : arg0 = BitVec.ofNat 32 T.val) {v30 : FVec Ideal S512x512 .f32} (h30 : Te T v30 (fun t k => (((P.zp t k : ℝ)) : EReal))) {v110 : FVec Ideal S512x128 .f32} (h110 : Te T v110 (fun t k => (((pv P.zp t 1 (gx 2 k) : ℝ)) : EReal))) {v112 : FVec Ideal S512x128 .f32} (h112 : Te T v112 (fun t k => (((pv P.zp t 2 (gx 2 k) : ℝ)) : EReal))) {v114 : FVec Ideal S512x128 .f32} (h114 : Te T v114 (fun t k => (((pv P.zp t 3 (gx 2 k) : ℝ)) : EReal))) {v116 : FVec Ideal S512x128 .f32} (h116 : Te T v116 (fun t k => (((pv P.zp t 4 (gx 2 k) : ℝ)) : EReal))) {v118 : FVec Ideal S512x128 .f32} (h118 : Te T v118 (fun t k => (((pv P.zp t 5 (gx 2 k) : ℝ)) : EReal))) {v120 : FVec Ideal S512x128 .f32} (h120 : Te T v120 (fun t k => (((pv P.zp t 6 (gx 2 k) : ℝ)) : EReal))) {v122 : FVec Ideal S512x128 .f32} (h122 : Te T v122 (fun t k => (((pv P.zp t 7 (gx 2 k) : ℝ)) : EReal))) :
    Te T (k0_pay24 arg0 v30 v110 v112 v114 v116 v118 v120 v122) (pl P 2) := by
  intro r l
  pointwise [k0_pay24]
  simp only [h30 _ _, h110 _ _, h112 _ _, h114 _ _, h116 _ _, h118 _ _, h120 _ _, h122 _ _, zero_add]
  rw [h0, tok_count, c_8, show ((8 : ℝ) : EReal) = ((win 2 : ℝ) : EReal) from by rw [show win 2 = 8 from rfl]; norm_num, show (1 : EReal) = ((1 : ℝ) : EReal) from rfl, inv_cnt]
  simp only [← EReal.coe_add, ← EReal.coe_mul, ← EReal.coe_sub]
  unfold pl plr
  refine congrArg (fun x : ℝ => (x : EReal)) ?_
  rw [show win 2 = 8 from rfl]
  congr 2
  unfold sm
  simp only [Finset.sum_range_succ, Finset.sum_range_zero, zero_add, pv0]
  all_goals rfl

theorem p25 {arg0 : BitVec 32} (h0 : arg0 = BitVec.ofNat 32 T.val) {v30 : FVec Ideal S512x512 .f32} (h30 : Te T v30 (fun t k => (((P.zp t k : ℝ)) : EReal))) {v110 : FVec Ideal S512x128 .f32} (h110 : Te T v110 (fun t k => (((pv P.zp t 1 (gx 2 k) : ℝ)) : EReal))) {v112 : FVec Ideal S512x128 .f32} (h112 : Te T v112 (fun t k => (((pv P.zp t 2 (gx 2 k) : ℝ)) : EReal))) {v114 : FVec Ideal S512x128 .f32} (h114 : Te T v114 (fun t k => (((pv P.zp t 3 (gx 2 k) : ℝ)) : EReal))) {v116 : FVec Ideal S512x128 .f32} (h116 : Te T v116 (fun t k => (((pv P.zp t 4 (gx 2 k) : ℝ)) : EReal))) {v118 : FVec Ideal S512x128 .f32} (h118 : Te T v118 (fun t k => (((pv P.zp t 5 (gx 2 k) : ℝ)) : EReal))) {v120 : FVec Ideal S512x128 .f32} (h120 : Te T v120 (fun t k => (((pv P.zp t 6 (gx 2 k) : ℝ)) : EReal))) {v122 : FVec Ideal S512x128 .f32} (h122 : Te T v122 (fun t k => (((pv P.zp t 7 (gx 2 k) : ℝ)) : EReal))) :
    Te T (k0_pay25 arg0 v30 v110 v112 v114 v116 v118 v120 v122) (pl P 2) := by
  intro r l
  pointwise [k0_pay25]
  simp only [(p24 h0 h30 h110 h112 h114 h116 h118 h120 h122) _ _, h30 _ _, h110 _ _, h112 _ _, h114 _ _, h116 _ _, h118 _ _, h120 _ _, h122 _ _, zero_add]
  all_goals rfl

theorem p26 {v140 : FVec Ideal S1x128x128 .f32} (h140 : E3 v140 (fun _ => P.wp 2)) :
    E2 (k0_pay26 v140) (P.wp 2) := by
  intro r l
  pointwise [k0_pay26]
  simp only [h140 _ _ _, zero_add]
  all_goals rfl

theorem p27 {v139 : FVec Ideal S512x128 .bf16} (h139 : Te T v139 (pl P 2)) {v141 : FVec Ideal S128x128 .f32} (h141 : E2 v141 (P.wp 2)) :
    Te T (k0_pay27 v139 v141) (pm P 2) := by
  intro r l
  pointwise [k0_pay27]
  simp only [h139 _ _, h141 _ _, zero_add]
  all_goals rfl

theorem p28 {v30 : FVec Ideal S512x512 .f32} (h30 : Te T v30 (fun t k => (((P.zp t k : ℝ)) : EReal))) {v145 : FVec Ideal S512x128 .f32} (h145 : Te T v145 (fun t k => (((pv P.zp t 1 (gx 3 k) : ℝ)) : EReal))) {v147 : FVec Ideal S512x128 .f32} (h147 : Te T v147 (fun t k => (((pv P.zp t 2 (gx 3 k) : ℝ)) : EReal))) {v149 : FVec Ideal S512x128 .f32} (h149 : Te T v149 (fun t k => (((pv P.zp t 3 (gx 3 k) : ℝ)) : EReal))) {v151 : FVec Ideal S512x128 .f32} (h151 : Te T v151 (fun t k => (((pv P.zp t 4 (gx 3 k) : ℝ)) : EReal))) {v153 : FVec Ideal S512x128 .f32} (h153 : Te T v153 (fun t k => (((pv P.zp t 5 (gx 3 k) : ℝ)) : EReal))) {v155 : FVec Ideal S512x128 .f32} (h155 : Te T v155 (fun t k => (((pv P.zp t 6 (gx 3 k) : ℝ)) : EReal))) {v157 : FVec Ideal S512x128 .f32} (h157 : Te T v157 (fun t k => (((pv P.zp t 7 (gx 3 k) : ℝ)) : EReal))) {v159 : FVec Ideal S512x128 .f32} (h159 : Te T v159 (fun t k => (((pv P.zp t 8 (gx 3 k) : ℝ)) : EReal))) {v161 : FVec Ideal S512x128 .f32} (h161 : Te T v161 (fun t k => (((pv P.zp t 9 (gx 3 k) : ℝ)) : EReal))) {v163 : FVec Ideal S512x128 .f32} (h163 : Te T v163 (fun t k => (((pv P.zp t 10 (gx 3 k) : ℝ)) : EReal))) {v165 : FVec Ideal S512x128 .f32} (h165 : Te T v165 (fun t k => (((pv P.zp t 11 (gx 3 k) : ℝ)) : EReal))) {v167 : FVec Ideal S512x128 .f32} (h167 : Te T v167 (fun t k => (((pv P.zp t 12 (gx 3 k) : ℝ)) : EReal))) {v169 : FVec Ideal S512x128 .f32} (h169 : Te T v169 (fun t k => (((pv P.zp t 13 (gx 3 k) : ℝ)) : EReal))) {v171 : FVec Ideal S512x128 .f32} (h171 : Te T v171 (fun t k => (((pv P.zp t 14 (gx 3 k) : ℝ)) : EReal))) :
    Te T (k0_pay28 v30 v145 v147 v149 v151 v153 v155 v157 v159 v161 v163 v165 v167 v169 v171) (fun t k => (((sm P 3 15 t k : ℝ)) : EReal)) := by
  intro r l
  pointwise [k0_pay28]
  simp only [h30 _ _, h145 _ _, h147 _ _, h149 _ _, h151 _ _, h153 _ _, h155 _ _, h157 _ _, h159 _ _, h161 _ _, h163 _ _, h165 _ _, h167 _ _, h169 _ _, h171 _ _, zero_add]
  simp only [← EReal.coe_add]
  refine congrArg (fun x : ℝ => (x : EReal)) ?_
  unfold sm
  simp only [Finset.sum_range_succ, Finset.sum_range_zero, zero_add, pv0]
  all_goals rfl

theorem p29 {arg0 : BitVec 32} (h0 : arg0 = BitVec.ofNat 32 T.val) {v30 : FVec Ideal S512x512 .f32} (h30 : Te T v30 (fun t k => (((P.zp t k : ℝ)) : EReal))) {v172 : FVec Ideal S512x128 .f32} (h172 : Te T v172 (fun t k => (((sm P 3 15 t k : ℝ)) : EReal))) {v173 : FVec Ideal S512x128 .f32} (h173 : Te T v173 (fun t k => (((pv P.zp t 15 (gx 3 k) : ℝ)) : EReal))) :
    Te T (k0_pay29 arg0 v30 v172 v173) (pl P 3) := by
  intro r l
  pointwise [k0_pay29]
  simp only [h30 _ _, h172 _ _, h173 _ _, zero_add]
  rw [h0, tok_count, c_16, show ((16 : ℝ) : EReal) = ((win 3 : ℝ) : EReal) from by rw [show win 3 = 16 from rfl]; norm_num, show (1 : EReal) = ((1 : ℝ) : EReal) from rfl, inv_cnt]
  simp only [← EReal.coe_add, ← EReal.coe_mul, ← EReal.coe_sub]
  unfold pl plr
  refine congrArg (fun x : ℝ => (x : EReal)) ?_
  rw [show win 3 = 16 from rfl]
  congr 2
  unfold sm
  rw [Finset.sum_range_succ _ 15]
  all_goals rfl

theorem p30 {w : Fin 16 → Fin 512 → EReal} {v195 : FVec Ideal S16x512 .f32} (h195 : E2 v195 (w)) :
    E2 (k0_pay30 v195) (w) := by
  intro r l
  pointwise [k0_pay30]
  simp only [h195 _ _, zero_add]
  all_goals rfl

theorem p31 {arg0 : BitVec 32} (h0 : arg0 = BitVec.ofNat 32 T.val) {v30 : FVec Ideal S512x512 .f32} (h30 : Te T v30 (fun t k => (((P.zp t k : ℝ)) : EReal))) {v76 : FVec Ideal S512x128 .f32} (h76 : Te T v76 (pl P 0)) {v103 : FVec Ideal S512x128 .f32} (h103 : Te T v103 (pl P 1)) {v138 : FVec Ideal S512x128 .f32} (h138 : Te T v138 (pl P 2)) {v172 : FVec Ideal S512x128 .f32} (h172 : Te T v172 (fun t k => (((sm P 3 15 t k : ℝ)) : EReal))) {v173 : FVec Ideal S512x128 .f32} (h173 : Te T v173 (fun t k => (((pv P.zp t 15 (gx 3 k) : ℝ)) : EReal))) :
    Te T (k0_pay31 arg0 v30 v76 v103 v138 v172 v173) (plf P) := by
  intro r l
  pointwise [k0_pay31]
  simp only [(p29 h0 h30 h172 h173) _ _, h30 _ _, h76 _ _, h103 _ _, h138 _ _, h172 _ _, h173 _ _, zero_add]
  exact cat4e (fun j k => pl P j (tk T r) k) l

theorem p32 {arg0 : BitVec 32} (h0 : arg0 = BitVec.ofNat 32 T.val) {v30 : FVec Ideal S512x512 .f32} (h30 : Te T v30 (fun t k => (((P.zp t k : ℝ)) : EReal))) {v55 : FVec Ideal S512x512 .f32} (h55 : Te T v55 (yc P)) {v81 : FVec Ideal S512x128 .f32} (h81 : Te T v81 (pm P 0)) {v108 : FVec Ideal S512x128 .f32} (h108 : Te T v108 (pm P 1)) {v143 : FVec Ideal S512x128 .f32} (h143 : Te T v143 (pm P 2)) {v172 : FVec Ideal S512x128 .f32} (h172 : Te T v172 (fun t k => (((sm P 3 15 t k : ℝ)) : EReal))) {v173 : FVec Ideal S512x128 .f32} (h173 : Te T v173 (fun t k => (((pv P.zp t 15 (gx 3 k) : ℝ)) : EReal))) {v191 : FVec Ideal S1x128x128 .f32} (h191 : E3 v191 (fun _ => P.wp 3)) {v201 : FVec Ideal S1x512 .f32} (h201 : E2 v201 (fun _ c => P.ps c)) :
    Te T (k0_pay32 arg0 v30 v55 v81 v108 v143 v172 v173 v191 v201) (cat P) := by
  intro r l
  pointwise [k0_pay32]
  simp only [(p29 h0 h30 h172 h173) _ _, h30 _ _, h55 _ _, h81 _ _, h108 _ _, h143 _ _, h172 _ _, h173 _ _, h191 _ _ _, h201 _ _, zero_add]
  unfold FwdMath.cat yp
  by_cases hl : l.val < 512
  · rw [dif_pos hl, dif_pos hl]
  · rw [dif_neg hl, dif_neg hl]
    all_goals exact congrArg (fun y => y * P.ps ⟨l.val - 512, by omega⟩) (cat4e (fun j k => pm P j (tk T r) k) ⟨l.val - 512, by omega⟩)

theorem p33 {arg0 : BitVec 32} (h0 : arg0 = BitVec.ofNat 32 T.val) {v30 : FVec Ideal S512x512 .f32} (h30 : Te T v30 (fun t k => (((P.zp t k : ℝ)) : EReal))) {v55 : FVec Ideal S512x512 .f32} (h55 : Te T v55 (yc P)) {v81 : FVec Ideal S512x128 .f32} (h81 : Te T v81 (pm P 0)) {v108 : FVec Ideal S512x128 .f32} (h108 : Te T v108 (pm P 1)) {v143 : FVec Ideal S512x128 .f32} (h143 : Te T v143 (pm P 2)) {v172 : FVec Ideal S512x128 .f32} (h172 : Te T v172 (fun t k => (((sm P 3 15 t k : ℝ)) : EReal))) {v173 : FVec Ideal S512x128 .f32} (h173 : Te T v173 (fun t k => (((pv P.zp t 15 (gx 3 k) : ℝ)) : EReal))) {v191 : FVec Ideal S1x128x128 .f32} (h191 : E3 v191 (fun _ => P.wp 3)) {v201 : FVec Ideal S1x512 .f32} (h201 : E2 v201 (fun _ c => P.ps c)) {v207 : FVec Ideal S1024x1024 .bf16} (h207 : E2 v207 (P.wo)) :
    Te T (k0_pay33 arg0 v30 v55 v81 v108 v143 v172 v173 v191 v201 v207) (mix P) := by
  intro r l
  pointwise [k0_pay33]
  simp only [(p32 h0 h30 h55 h81 h108 h143 h172 h173 h191 h201) _ _, h30 _ _, h55 _ _, h81 _ _, h108 _ _, h143 _ _, h172 _ _, h173 _ _, h191 _ _ _, h201 _ _, h207 _ _, zero_add]
  all_goals rfl

theorem p34 {v4 : FVec Ideal S512x1024 .f32} (h4 : Te T v4 (P.x)) {v10 : FVec Ideal S1x1024 .f32} (h10 : E2 v10 (fun _ c => P.ga c)) {v209 : FVec Ideal S512x1024 .f32} (h209 : Te T v209 (mix P)) {v234 : FVec Ideal S1x1024 .f32} (h234 : E2 v234 (fun _ c => P.lg c)) {v237 : FVec Ideal S1x1024 .f32} (h237 : E2 v237 (fun _ c => P.lb c)) :
    Te T (k0_pay34 v4 v10 v209 v234 v237) (x1 P) := by
  intro r l
  pointwise [k0_pay34]
  simp only [h4 _ _, h10 _ _, h209 _ _, h234 _ _, h237 _ _, zero_add]
  all_goals rfl

theorem p35 {v21 : FVec Ideal S512x512 .f32} (h21 : Te T v21 (zj P 0)) :
    Te T (k0_pay35 v21) (zj P 0) := by
  intro r l
  pointwise [k0_pay35]
  simp only [h21 _ _, zero_add]
  all_goals rfl

theorem p36 {v24 : FVec Ideal S512x512 .f32} (h24 : Te T v24 (zj P 1)) :
    Te T (k0_pay36 v24) (zj P 1) := by
  intro r l
  pointwise [k0_pay36]
  simp only [h24 _ _, zero_add]
  all_goals rfl

theorem p37 {v27 : FVec Ideal S512x512 .f32} (h27 : Te T v27 (zj P 2)) :
    Te T (k0_pay37 v27) (zj P 2) := by
  intro r l
  pointwise [k0_pay37]
  simp only [h27 _ _, zero_add]
  all_goals rfl

end Cert.FwdIdeal.Pay

end
-- ==== Proof.FwdBuf.lean ====
/- How a tile's rows lie in a buffer of 528 rows: the last 16 of the tile before it, then the 512 of the tile. -/
module

public import Idealize.ShloMosaic.Lib.WritesUnit
public import Idealize.ShloMosaic.Lib.Pipeline.ReadBack
public import proofs.«01_k».proof.Proof.FwdPay

@[expose] public section

noncomputable section

open Idealize.ShloMosaic Idealize.ShloMosaic.TcCoe Idealize.SL.Sem

namespace Cert.FwdIdeal.Pay

open Cert.FwdIdeal Cert.FwdIdeal.Gen Cert.FwdMath
open Cert.BwdMath (tk gx)

variable {T : Fin 16} {F : Fin 8192 → Fin 512 → EReal}

/-- Row `r` of tile `T`'s buffer: the token 16 before token `r` of the tile; zero before the first token. -/
def bk (F : Fin 8192 → Fin 512 → EReal) (T : Fin 16) (r : ℕ) (l : Fin 512) : EReal :=
  if h : 16 ≤ T.val * 512 + r ∧ T.val * 512 + r - 16 < 8192 then F ⟨T.val * 512 + r - 16, h.2⟩ l else 0

theorem bk_tile (r : Fin 512) (l : Fin 512) : bk F T (16 + r.val) l = F (tk T r) l := by
  unfold bk
  rw [dif_pos (by omega)]
  exact congrArg (fun n => F n l) (Fin.ext (by show T.val * 512 + (16 + r.val) - 16 = T.val * 512 + r.val; omega))

theorem bk_back (r : Fin 512) (s : ℕ) (hs : s ≤ 16) (l : Fin 512) : bk F T (r.val + (16 - s)) l = pe F (tk T r) s l := by
  unfold bk pe tk
  by_cases h : T.val * 512 + r.val < s
  · rw [if_pos h, dif_neg (by omega)]
  · rw [if_neg h, dif_pos (by omega)]
    exact congrArg (fun n => F n l) (Fin.ext (by dsimp only; omega))

theorem bk_next {T' : Fin 16} (h : T.val + 1 = T'.val) (r : ℕ) (l : Fin 512) : bk F T (512 + r) l = bk F T' r l := by
  unfold bk
  by_cases g : 16 ≤ T.val * 512 + (512 + r) ∧ T.val * 512 + (512 + r) - 16 < 8192
  · rw [dif_pos g, dif_pos (by omega)]
    exact congrArg (fun n => F n l) (Fin.ext (by dsimp only; omega))
  · rw [dif_neg g, dif_neg (by omega)]

/-- The sixteen rows before the tile's own. -/
def Head (T : Fin 16) (F : Fin 8192 → Fin 512 → EReal) (X : FVec Ideal S528x512 .f32) : Prop :=
  ∀ (r : Fin 16) (l : Fin 512), X (ix2 ⟨r.val, by omega⟩ l) = bk F T r.val l
/-- The tile's own rows. -/
def Body (T : Fin 16) (F : Fin 8192 → Fin 512 → EReal) (X : FVec Ideal S528x512 .f32) : Prop :=
  ∀ (r : Fin 528) (_ : 16 ≤ r.val) (l : Fin 512), X (ix2 r l) = bk F T r.val l
/-- What a point leaves in the first rows for the next. -/
def Next (T : Fin 16) (F : Fin 8192 → Fin 512 → EReal) (X : FVec Ideal S528x512 .f32) : Prop :=
  ∀ (r : Fin 16) (l : Fin 512), X (ix2 ⟨r.val, by omega⟩ l) = bk F T (512 + r.val) l

theorem Next.head {T' : Fin 16} (h : T.val + 1 = T'.val) {X : FVec Ideal S528x512 .f32} (H : Next T F X) : Head T' F X :=
  fun r l => (H r l).trans (bk_next h r.val l)

section

variable {κ : Kind} {sp : Space} (v : View sig κ sp S528x512 .f32) (f : v.ty.Contents (Elt Ideal))

/-- A tile's rows stored over a buffer. -/
theorem body1 {L : List (View.Piece (Elt Ideal) S528x512 .f32)} {w : FVec Ideal S512x512 .f32} (hw : Te T w F) {inb : ∀ a, ![16, 0] a + ![512, 512] a ≤ S528x512.size a} :
    Body T F (v.read (Elt Ideal) (v.writes (Elt Ideal) f ((⟨Rect.unit ![16, 0] ![512, 512] inb, w⟩ : View.Piece (Elt Ideal) S528x512 .f32) :: L))) := by
  intro r h l
  obtain ⟨r, hr⟩ := r
  obtain ⟨k, rfl⟩ : ∃ k, r = 16 + k := ⟨r - 16, by dsimp only at h; omega⟩
  refine (View.read_writes_cons_rows_of_mem v f inb w L (ix2 ⟨16 + k, hr⟩ l) (ix2 ⟨k, by omega⟩ l) rfl rfl rfl).trans ?_
  rw [hw]
  exact (bk_tile ⟨k, by omega⟩ l).symm

/-- A tile's rows stored over a buffer that holds the rows before them. -/
theorem full1 {L : List (View.Piece (Elt Ideal) S528x512 .f32)} (hf : Head T F (v.read (Elt Ideal) (v.writes (Elt Ideal) f L)))
    {w : FVec Ideal S512x512 .f32} (hw : Te T w F) {inb : ∀ a, ![16, 0] a + ![512, 512] a ≤ S528x512.size a} :
    E2 (φ := .f32) (v.read (Elt Ideal) (v.writes (Elt Ideal) f ((⟨Rect.unit ![16, 0] ![512, 512] inb, w⟩ : View.Piece (Elt Ideal) S528x512 .f32) :: L)))
      fun r l => bk F T r.val l := by
  intro r l
  by_cases h : 16 ≤ r.val
  · exact body1 v f hw r h l
  · refine (View.read_writes_cons_rows_of_not_mem v f inb w L (ix2 r l) rfl rfl (.inl (by show r.val < 16; omega))).trans ?_
    exact hf ⟨r.val, by omega⟩ l

/-- Sixteen rows stored before the tile's. -/
theorem top16 {L : List (View.Piece (Elt Ideal) S528x512 .f32)} {w : FVec Ideal S16x512 .f32} {inb : ∀ a, ![0, 0] a + ![16, 512] a ≤ S528x512.size a}
    (r : Fin 16) (l : Fin 512) :
    v.read (Elt Ideal) (v.writes (Elt Ideal) f ((⟨Rect.unit ![0, 0] ![16, 512] inb, w⟩ : View.Piece (Elt Ideal) S528x512 .f32) :: L)) (ix2 ⟨r.val, by omega⟩ l) = w (ix2 r l) :=
  View.read_writes_cons_rows_of_mem v f inb w L (ix2 ⟨r.val, by omega⟩ l) (ix2 r l) rfl (Nat.zero_add _).symm rfl

/-- Before the first tile there is nothing. -/
theorem head0 {L : List (View.Piece (Elt Ideal) S528x512 .f32)} {w : FVec Ideal S16x512 .f32} {inb : ∀ a, ![0, 0] a + ![16, 512] a ≤ S528x512.size a}
    (hT : T.val = 0) (hw : E2 w fun _ _ => 0) :
    Head T F (v.read (Elt Ideal) (v.writes (Elt Ideal) f ((⟨Rect.unit ![0, 0] ![16, 512] inb, w⟩ : View.Piece (Elt Ideal) S528x512 .f32) :: L))) := fun r l => by
  rw [top16 v f, hw]
  unfold bk
  rw [dif_neg (by omega)]

end

theorem canon_next {L : List (View.Piece (Elt Ideal) S528x512 .f32)} {w : FVec Ideal S16x512 .f32} {inb : ∀ a, ![0, 0] a + ![16, 512] a ≤ S528x512.size a}
    (hw : E2 w fun r l => bk F T (512 + r.val) l) :
    Next T F (View.canon ((⟨Rect.unit ![0, 0] ![16, 512] inb, w⟩ : View.Piece (Elt Ideal) S528x512 .f32) :: L)) := fun r l => by
  rw [← View.read_writes_junk_eq_canon (View.whole cc0_scratch0), top16, hw]

/-- The first point's buffer. -/
theorem canonA {w : FVec Ideal S512x512 .f32} {z : FVec Ideal S16x512 .f32} (hT : T.val = 0) (hw : Te T w F) (hz : E2 z fun _ _ => 0)
    {inb : ∀ a, ![16, 0] a + ![512, 512] a ≤ S528x512.size a} {inz : ∀ a, ![0, 0] a + ![16, 512] a ≤ S528x512.size a} :
    E2 (φ := .f32) (View.canon [(⟨Rect.unit ![16, 0] ![512, 512] inb, w⟩ : View.Piece (Elt Ideal) S528x512 .f32), ⟨Rect.unit ![0, 0] ![16, 512] inz, z⟩])
      fun r l => bk F T r.val l := by
  rw [← View.read_writes_junk_eq_canon (View.whole cc0_scratch0)]
  exact full1 _ _ (head0 _ _ hT hz) hw

theorem canonB {L : List (View.Piece (Elt Ideal) S528x512 .f32)} {w : FVec Ideal S512x512 .f32} (hw : Te T w F) {inb : ∀ a, ![16, 0] a + ![512, 512] a ≤ S528x512.size a} :
    Body T F (View.canon ((⟨Rect.unit ![16, 0] ![512, 512] inb, w⟩ : View.Piece (Elt Ideal) S528x512 .f32) :: L)) := by
  rw [← View.read_writes_junk_eq_canon (View.whole cc0_scratch0)]
  exact body1 _ _ hw

theorem body_of {X : FVec Ideal S528x512 .f32} (d : E2 X fun r l => bk F T r.val l) : Body T F X := fun r _ l => d r l

/-- A load from a buffer, `s` rows back. -/
theorem ldD {X : FVec Ideal S528x512 .f32} (d : E2 X fun r l => bk F T r.val l) (s : ℕ) (hs : s ≤ 16) {a : ℕ} (ha : 16 - s = a)
    (inb : ∀ x, ![a, 0] x + ![512, 512] x ≤ S528x512.size x) : Te (φ := .f32) T (View.ld (Val := Elt Ideal) (e' := .f32) (X : FVec Ideal S528x512 .f32) (Rect.unit (s := S528x512) ![a, 0] ![512, 512] inb) : FVec Ideal S512x512 .f32) fun t => pe F t s := fun r l => by
  subst ha
  have e : (Rect.unit (s := S528x512) ![16 - s, 0] ![512, 512] inb).idx (ix2 r l) = ix2 ⟨r.val + (16 - s), by omega⟩ l :=
    funext (Fin.forall_fin_two.mpr ⟨Fin.ext (by show (_ + _ * _ : ℕ) = _; simp; omega), Fin.ext (by show (_ + _ * _ : ℕ) = _; simp)⟩)
  show X _ = _
  rw [e, d]
  exact bk_back r s hs l

/-- One group's columns, `s` rows back. -/
theorem ldQ {G : Fin 8192 → Fin 512 → ℝ} {X : FVec Ideal S528x512 .f32} (q : E2 X fun r l => bk (fun t k => ((G t k : ℝ) : EReal)) T r.val l) (g : Fin 4) (s : ℕ) (hs : s ≤ 16) {a o : ℕ}
    (inb : ∀ x, ![a, o] x + ![512, 128] x ≤ S528x512.size x) (ha : 16 - s = a) (ho : g.val * 128 = o) : Te (φ := .f32) T (View.ld (Val := Elt Ideal) (e' := .f32) (X : FVec Ideal S528x512 .f32) (Rect.unit (s := S528x512) ![a, o] ![512, 128] inb) : FVec Ideal S512x128 .f32) fun t k => ((Cert.BwdMath.pv G t s (gx g k) : ℝ) : EReal) := fun r l => by
  subst ha ho
  have e : (Rect.unit (s := S528x512) ![16 - s, g.val * 128] ![512, 128] inb).idx (ix2 r l) = ix2 ⟨r.val + (16 - s), by omega⟩ (gx g l) :=
    funext (Fin.forall_fin_two.mpr ⟨Fin.ext (by show (_ + _ * _ : ℕ) = _; simp; omega), Fin.ext (by show (_ + _ * _ : ℕ) = _; simp [gx])⟩)
  show X _ = _
  rw [e, q]
  exact (bk_back r s hs (gx g l)).trans (pe_coe G (tk T r) s (gx g l))

/-- The tile's last sixteen rows. -/
theorem ldH {X : FVec Ideal S528x512 .f32} (d : Body T F X)
    (inb : ∀ a, ![512, 0] a + ![16, 512] a ≤ S528x512.size a) : E2 (φ := .f32) (View.ld (Val := Elt Ideal) (e' := .f32) (X : FVec Ideal S528x512 .f32) (Rect.unit (s := S528x512) ![512, 0] ![16, 512] inb) : FVec Ideal S16x512 .f32) fun r l => bk F T (512 + r.val) l := fun r l => by
  have e : (Rect.unit (s := S528x512) ![512, 0] ![16, 512] inb).idx (ix2 r l) = ix2 ⟨512 + r.val, by omega⟩ l :=
    funext (Fin.forall_fin_two.mpr ⟨Fin.ext (by show (_ + _ * _ : ℕ) = _; simp), Fin.ext (by show (_ + _ * _ : ℕ) = _; simp)⟩)
  show X _ = _
  rw [e, d _ (by show 16 ≤ 512 + r.val; omega)]

/-- A load after stores, as a load from what they leave. -/
theorem readCov_ld {sp : Space} {κ : Kind} {s : Shape} {e : EltTy} (v : View sig κ sp s e) (L : List (View.Piece (Elt Ideal) s e)) (r : Rect s) :
    v.readCov L r.toLoadRect = View.ld (View.canon L) r := View.readCov_eq_canon' v L _

end Cert.FwdIdeal.Pay

end
-- ==== Proof.FwdIns.lean ====
/- What the blocks of a grid point hold, and what each step of the token mixer makes of them. -/
module

public import proofs.«01_k».proof.Proof.Gen.FwdIdeal.Value
public import Idealize.ShloMosaic.Lib.Pipeline.ValueKit
public import Idealize.ShloMosaic.Lib.Pipeline.ReadBack
public import Idealize.ShloMosaic.Lib.Pointwise
public import proofs.«01_k».proof.Proof.FwdBuf

@[expose] public section

set_option maxRecDepth 16384

noncomputable section

open Idealize.ShloMosaic Idealize.ShloMosaic.TcCoe Idealize.SL.Sem

namespace Cert.FwdIdeal.Pay

open Cert.FwdIdeal Cert.FwdIdeal.Gen Cert.FwdMath
open Cert.BwdMath (tk gx zx pv)

variable {m : (ℓ : Loc nD τ sig) → Buf (Elt Ideal) ℓ} {c : Dev nD} {t : Fin cfg0.N} {P : Par} {T : Fin 16}

/-- The rows carried from the point before. -/
theorem unread0 {F : Fin 8192 → Fin 512 → EReal} {X : FVec Ideal S528x512 .f32} (hX : (Memref.whole cc0_scratch0).IsWhole) (D : Head T F X) :
    Head T F (View.read (Elt Ideal) (View.whole cc0_scratch0) ((View.whole cc0_scratch0).writes (Elt Ideal) (hX.unread X) [])) := by
  show Head T F (View.read (Elt Ideal) (View.whole cc0_scratch0) (hX.unread X))
  rw [read_unread_whole]; exact D
theorem unread1 {F : Fin 8192 → Fin 512 → EReal} {X : FVec Ideal S528x512 .f32} (hX : (Memref.whole cc0_scratch1).IsWhole) (D : Head T F X) :
    Head T F (View.read (Elt Ideal) (View.whole cc0_scratch1) ((View.whole cc0_scratch1).writes (Elt Ideal) (hX.unread X) [])) := by
  show Head T F (View.read (Elt Ideal) (View.whole cc0_scratch1) (hX.unread X))
  rw [read_unread_whole]; exact D

theorem i63 (r : Fin 512) (k : Fin 1) : iota .tc S512x1 32 [0] iota_S512x1_d0_w32 (ix2 r k) = BitVec.ofNat 32 r.val := by
  pointwise []

/-- The pooled block, as the real number each entry is. -/
abbrev zf (P : Par) : Fin 8192 → Fin 512 → EReal := fun t k => ((P.zp t k : ℝ) : EReal)

/-- What the input blocks of the grid point that runs tile `T` hold. -/
structure Ins (m : (ℓ : Loc nD τ sig) → Buf (Elt Ideal) ℓ) (c : Dev nD) (t : Fin cfg0.N) (P : Par) (T : Fin 16) : Prop where
  x : Te (φ := .f32) T (iblk m c 0 t) P.x
  sh : ∀ k : Fin 1024, (iblk m c 1 t : FVec Ideal S8x6144 .f32) (ix2 0 ⟨k.val, by omega⟩) = P.sh k
  sc : ∀ k : Fin 1024, (iblk m c 1 t : FVec Ideal S8x6144 .f32) (ix2 0 ⟨1024 + k.val, by omega⟩) = P.sc k
  ga : ∀ k : Fin 1024, (iblk m c 1 t : FVec Ideal S8x6144 .f32) (ix2 0 ⟨2048 + k.val, by omega⟩) = P.ga k
  cw : ∀ (j : Fin 3) (l : Fin 512), (iblk m c 2 t : FVec Ideal S8x512 .f32) (ix2 ⟨j.val, by omega⟩ l) = P.cw j l
  wi : E3 (φ := .bf16) (iblk m c 3 t) fun j c q => P.wi c (zx j q)
  wp : E3 (φ := .f32) (iblk m c 4 t) fun j a b => P.wp j a b
  ps : E2 (φ := .f32) (iblk m c 5 t) fun _ l => P.ps l
  wo : E2 (φ := .bf16) (iblk m c 6 t) fun k c => P.wo k c
  lg : E2 (φ := .f32) (iblk m c 7 t) fun _ k => P.lg k
  lb : E2 (φ := .f32) (iblk m c 8 t) fun _ k => P.lb k
  v0 : BitVec.ofNat 32 (grid0.coords t 0).val = BitVec.ofNat 32 T.val
  Z : ∀ t l, zj P 3 t l = ((P.zp t l : ℝ) : EReal)

namespace Ins

theorem l3 (I : Ins m c t P T) : Te (φ := .f32) T (iblk m c 0 t : FVec Ideal S512x1024 .f32) (P.x) := I.x
theorem l5 (I : Ins m c t P T) : E2 (φ := .f32) (View.ld (Val := Elt Ideal) (e' := .f32) (iblk m c 1 t : FVec Ideal S8x6144 .f32) (Rect.unit (s := S8x6144) ![0, 0] ![1, 1024] inb_S8x6144_S1x1024_0_0) : FVec Ideal S1x1024 .f32) (fun _ c => P.sh c) := by
  intro r k; obtain rfl : r = 0 := Subsingleton.elim _ _; pointwise []; exact (congrArg (fun y => (iblk m c 1 t : FVec Ideal S8x6144 .f32) y) (by simp)).trans (I.sh k)
theorem l7 (I : Ins m c t P T) : E2 (φ := .f32) (View.ld (Val := Elt Ideal) (e' := .f32) (iblk m c 1 t : FVec Ideal S8x6144 .f32) (Rect.unit (s := S8x6144) ![0, 1024] ![1, 1024] inb_S8x6144_S1x1024_0_1024) : FVec Ideal S1x1024 .f32) (fun _ c => P.sc c) := by
  intro r c; obtain rfl : r = 0 := Subsingleton.elim _ _; pointwise []; exact I.sc c
theorem l9 (I : Ins m c t P T) : E2 (φ := .f32) (View.ld (Val := Elt Ideal) (e' := .f32) (iblk m c 1 t : FVec Ideal S8x6144 .f32) (Rect.unit (s := S8x6144) ![0, 2048] ![1, 1024] inb_S8x6144_S1x1024_0_2048) : FVec Ideal S1x1024 .f32) (fun _ c => P.ga c) := by
  intro r c; obtain rfl : r = 0 := Subsingleton.elim _ _; pointwise []; exact I.ga c
theorem l37 (I : Ins m c t P T) : E2 (φ := .f32) (View.ld (Val := Elt Ideal) (e' := .f32) (iblk m c 2 t : FVec Ideal S8x512 .f32) (Rect.unit (s := S8x512) ![0, 0] ![1, 512] inb_S8x512_S1x512_0_0) : FVec Ideal S1x512 .f32) (fun _ c => P.cw 0 c) := by
  intro r c; obtain rfl : r = 0 := Subsingleton.elim _ _; pointwise []; exact I.cw 0 c
theorem l41 (I : Ins m c t P T) : E2 (φ := .f32) (View.ld (Val := Elt Ideal) (e' := .f32) (iblk m c 2 t : FVec Ideal S8x512 .f32) (Rect.unit (s := S8x512) ![1, 0] ![1, 512] inb_S8x512_S1x512_1_0) : FVec Ideal S1x512 .f32) (fun _ c => P.cw 1 c) := by
  intro r c; obtain rfl : r = 0 := Subsingleton.elim _ _; pointwise []; exact I.cw 1 c
theorem l46 (I : Ins m c t P T) : E2 (φ := .f32) (View.ld (Val := Elt Ideal) (e' := .f32) (iblk m c 2 t : FVec Ideal S8x512 .f32) (Rect.unit (s := S8x512) ![2, 0] ![1, 512] inb_S8x512_S1x512_2_0) : FVec Ideal S1x512 .f32) (fun _ c => P.cw 2 c) := by
  intro r c; obtain rfl : r = 0 := Subsingleton.elim _ _; pointwise []; exact I.cw 2 c
theorem l19 (I : Ins m c t P T) : E3 (φ := .bf16) (View.ld (Val := Elt Ideal) (e' := .bf16) (iblk m c 3 t : FVec Ideal S4x1024x512 .bf16) (Rect.unit (s := S4x1024x512) ![0, 0, 0] ![1, 1024, 512] inb_S4x1024x512_S1x1024x512_0_0_0) : FVec Ideal S1x1024x512 .bf16) (fun _ k l => P.wi k (zx 0 l)) := by
  intro i r l; obtain rfl : i = 0 := Subsingleton.elim _ _; pointwise []; exact I.wi _ _ _
theorem l22 (I : Ins m c t P T) : E3 (φ := .bf16) (View.ld (Val := Elt Ideal) (e' := .bf16) (iblk m c 3 t : FVec Ideal S4x1024x512 .bf16) (Rect.unit (s := S4x1024x512) ![1, 0, 0] ![1, 1024, 512] inb_S4x1024x512_S1x1024x512_1_0_0) : FVec Ideal S1x1024x512 .bf16) (fun _ k l => P.wi k (zx 1 l)) := by
  intro i r l; obtain rfl : i = 0 := Subsingleton.elim _ _; pointwise []; exact I.wi _ _ _
theorem l25 (I : Ins m c t P T) : E3 (φ := .bf16) (View.ld (Val := Elt Ideal) (e' := .bf16) (iblk m c 3 t : FVec Ideal S4x1024x512 .bf16) (Rect.unit (s := S4x1024x512) ![2, 0, 0] ![1, 1024, 512] inb_S4x1024x512_S1x1024x512_2_0_0) : FVec Ideal S1x1024x512 .bf16) (fun _ k l => P.wi k (zx 2 l)) := by
  intro i r l; obtain rfl : i = 0 := Subsingleton.elim _ _; pointwise []; exact I.wi _ _ _
theorem l28 (I : Ins m c t P T) : E3 (φ := .bf16) (View.ld (Val := Elt Ideal) (e' := .bf16) (iblk m c 3 t : FVec Ideal S4x1024x512 .bf16) (Rect.unit (s := S4x1024x512) ![3, 0, 0] ![1, 1024, 512] inb_S4x1024x512_S1x1024x512_3_0_0) : FVec Ideal S1x1024x512 .bf16) (fun _ k l => P.wi k (zx 3 l)) := by
  intro i r l; obtain rfl : i = 0 := Subsingleton.elim _ _; pointwise []; exact I.wi _ _ _
theorem l78 (I : Ins m c t P T) : E3 (φ := .f32) (View.ld (Val := Elt Ideal) (e' := .f32) (iblk m c 4 t : FVec Ideal S4x128x128 .f32) (Rect.unit (s := S4x128x128) ![0, 0, 0] ![1, 128, 128] inb_S4x128x128_S1x128x128_0_0_0) : FVec Ideal S1x128x128 .f32) (fun _ => P.wp 0) := by
  intro i r l; obtain rfl : i = 0 := Subsingleton.elim _ _; pointwise []; exact I.wp _ _ _
theorem l105 (I : Ins m c t P T) : E3 (φ := .f32) (View.ld (Val := Elt Ideal) (e' := .f32) (iblk m c 4 t : FVec Ideal S4x128x128 .f32) (Rect.unit (s := S4x128x128) ![1, 0, 0] ![1, 128, 128] inb_S4x128x128_S1x128x128_1_0_0) : FVec Ideal S1x128x128 .f32) (fun _ => P.wp 1) := by
  intro i r l; obtain rfl : i = 0 := Subsingleton.elim _ _; pointwise []; exact I.wp _ _ _
theorem l140 (I : Ins m c t P T) : E3 (φ := .f32) (View.ld (Val := Elt Ideal) (e' := .f32) (iblk m c 4 t : FVec Ideal S4x128x128 .f32) (Rect.unit (s := S4x128x128) ![2, 0, 0] ![1, 128, 128] inb_S4x128x128_S1x128x128_2_0_0) : FVec Ideal S1x128x128 .f32) (fun _ => P.wp 2) := by
  intro i r l; obtain rfl : i = 0 := Subsingleton.elim _ _; pointwise []; exact I.wp _ _ _
theorem l191 (I : Ins m c t P T) : E3 (φ := .f32) (View.ld (Val := Elt Ideal) (e' := .f32) (iblk m c 4 t : FVec Ideal S4x128x128 .f32) (Rect.unit (s := S4x128x128) ![3, 0, 0] ![1, 128, 128] inb_S4x128x128_S1x128x128_3_0_0) : FVec Ideal S1x128x128 .f32) (fun _ => P.wp 3) := by
  intro i r l; obtain rfl : i = 0 := Subsingleton.elim _ _; pointwise []; exact I.wp _ _ _
theorem l201 (I : Ins m c t P T) : E2 (φ := .f32) (iblk m c 5 t : FVec Ideal S1x512 .f32) (fun _ c => P.ps c) := I.ps
theorem l207 (I : Ins m c t P T) : E2 (φ := .bf16) (iblk m c 6 t : FVec Ideal S1024x1024 .bf16) (P.wo) := I.wo
theorem l234 (I : Ins m c t P T) : E2 (φ := .f32) (iblk m c 7 t : FVec Ideal S1x1024 .f32) (fun _ c => P.lg c) := I.lg
theorem l237 (I : Ins m c t P T) : E2 (φ := .f32) (iblk m c 8 t : FVec Ideal S1x1024 .f32) (fun _ c => P.lb c) := I.lb

theorem m0 (I : Ins m c t P T) : Scalar.muli (BitVec.ofNat 32 (grid0.coords t 0).val) 512#32 = Scalar.muli (BitVec.ofNat 32 T.val) 512#32 := by rw [I.v0]

variable {X0 X1 Y0 Y1 : FVec Ideal S528x512 .f32}

def e5 (I : Ins m c t P T) := p5 (P := P) (T := T) I.l3
def e6 (I : Ins m c t P T) := p6 (P := P) I.l9
def e7 (I : Ins m c t P T) := p7 (P := P) (T := T) I.l3 I.l5 I.l7
def e8 (I : Ins m c t P T) := p8 (P := P) (T := T) I.l3 I.l5 I.l7 I.l19
def e9 (I : Ins m c t P T) := p9 (P := P) (T := T) I.l3 I.l5 I.l7 I.l22
def e10 (I : Ins m c t P T) := p10 (P := P) (T := T) I.l3 I.l5 I.l7 I.l25
def e11 (I : Ins m c t P T) := p11 (P := P) (T := T) I.Z I.e7 I.l28
def e12 (I : Ins m c t P T) := p12 (P := P) (T := T) I.e9 I.e10
def e13 (I : Ins m c t P T) := p13 (P := P) (T := T) I.e9 I.e10
def e14 (I : Ins m c t P T) (d : E2 X0 fun r l => bk (u P) T r.val l) := p14 (P := P) (T := T) I.e9 I.e10 (ldD d 1 (by decide) (by decide) inb_S528x512_S512x512_15_0) (ldD d 2 (by decide) (by decide) inb_S528x512_S512x512_14_0) I.l37 I.l41 I.l46
def e15 (I : Ins m c t P T) (d0 : Body T (u P) Y0) := p15  (ldH d0 inb_S528x512_S16x512_512_0)
def e16 (I : Ins m c t P T) (d : E2 X0 fun r l => bk (u P) T r.val l) := p16 (P := P) (T := T) I.e8 I.e9 I.e10 (ldD d 1 (by decide) (by decide) inb_S528x512_S512x512_15_0) (ldD d 2 (by decide) (by decide) inb_S528x512_S512x512_14_0) I.l37 I.l41 I.l46
def e17 (I : Ins m c t P T) := p17 (P := P) (T := T) I.Z I.e7 I.l28
def e18 (I : Ins m c t P T) (q : E2 X1 fun r l => bk (zf P) T r.val l) := p18 (P := P) (T := T) I.Z I.e7 I.l28 (ldQ q 0 1 (by decide) inb_S528x512_S512x128_15_0 (by decide) (by decide))
def e19 (I : Ins m c t P T) (q : E2 X1 fun r l => bk (zf P) T r.val l) := p19 (P := P) (T := T) I.e11 (I.e18 q) I.m0 i63
def e20 (I : Ins m c t P T) (q : E2 X1 fun r l => bk (zf P) T r.val l) := p20 (P := P) (T := T) I.e11 (I.e18 q) I.m0 i63 I.l78
def e21 (I : Ins m c t P T) (q : E2 X1 fun r l => bk (zf P) T r.val l) := p21 (P := P) (T := T) I.v0 I.e11 (ldQ q 1 1 (by decide) inb_S528x512_S512x128_15_128 (by decide) (by decide)) (ldQ q 1 2 (by decide) inb_S528x512_S512x128_14_128 (by decide) (by decide)) (ldQ q 1 3 (by decide) inb_S528x512_S512x128_13_128 (by decide) (by decide))
def e22 (I : Ins m c t P T) (q : E2 X1 fun r l => bk (zf P) T r.val l) := p22 (P := P) (T := T) I.v0 I.e11 (ldQ q 1 1 (by decide) inb_S528x512_S512x128_15_128 (by decide) (by decide)) (ldQ q 1 2 (by decide) inb_S528x512_S512x128_14_128 (by decide) (by decide)) (ldQ q 1 3 (by decide) inb_S528x512_S512x128_13_128 (by decide) (by decide))
def e23 (I : Ins m c t P T) (q : E2 X1 fun r l => bk (zf P) T r.val l) := p23 (P := P) (T := T) (I.e22 q) I.l105
def e24 (I : Ins m c t P T) (q : E2 X1 fun r l => bk (zf P) T r.val l) := p24 (P := P) (T := T) I.v0 I.e11 (ldQ q 2 1 (by decide) inb_S528x512_S512x128_15_256 (by decide) (by decide)) (ldQ q 2 2 (by decide) inb_S528x512_S512x128_14_256 (by decide) (by decide)) (ldQ q 2 3 (by decide) inb_S528x512_S512x128_13_256 (by decide) (by decide)) (ldQ q 2 4 (by decide) inb_S528x512_S512x128_12_256 (by decide) (by decide)) (ldQ q 2 5 (by decide) inb_S528x512_S512x128_11_256 (by decide) (by decide)) (ldQ q 2 6 (by decide) inb_S528x512_S512x128_10_256 (by decide) (by decide)) (ldQ q 2 7 (by decide) inb_S528x512_S512x128_9_256 (by decide) (by decide))
def e25 (I : Ins m c t P T) (q : E2 X1 fun r l => bk (zf P) T r.val l) := p25 (P := P) (T := T) I.v0 I.e11 (ldQ q 2 1 (by decide) inb_S528x512_S512x128_15_256 (by decide) (by decide)) (ldQ q 2 2 (by decide) inb_S528x512_S512x128_14_256 (by decide) (by decide)) (ldQ q 2 3 (by decide) inb_S528x512_S512x128_13_256 (by decide) (by decide)) (ldQ q 2 4 (by decide) inb_S528x512_S512x128_12_256 (by decide) (by decide)) (ldQ q 2 5 (by decide) inb_S528x512_S512x128_11_256 (by decide) (by decide)) (ldQ q 2 6 (by decide) inb_S528x512_S512x128_10_256 (by decide) (by decide)) (ldQ q 2 7 (by decide) inb_S528x512_S512x128_9_256 (by decide) (by decide))
def e26 (I : Ins m c t P T) := p26 (P := P) I.l140
def e27 (I : Ins m c t P T) (q : E2 X1 fun r l => bk (zf P) T r.val l) := p27 (P := P) (T := T) (I.e25 q) I.e26
def e28 (I : Ins m c t P T) (q : E2 X1 fun r l => bk (zf P) T r.val l) := p28 (P := P) (T := T) I.e11 (ldQ q 3 1 (by decide) inb_S528x512_S512x128_15_384 (by decide) (by decide)) (ldQ q 3 2 (by decide) inb_S528x512_S512x128_14_384 (by decide) (by decide)) (ldQ q 3 3 (by decide) inb_S528x512_S512x128_13_384 (by decide) (by decide)) (ldQ q 3 4 (by decide) inb_S528x512_S512x128_12_384 (by decide) (by decide)) (ldQ q 3 5 (by decide) inb_S528x512_S512x128_11_384 (by decide) (by decide)) (ldQ q 3 6 (by decide) inb_S528x512_S512x128_10_384 (by decide) (by decide)) (ldQ q 3 7 (by decide) inb_S528x512_S512x128_9_384 (by decide) (by decide)) (ldQ q 3 8 (by decide) inb_S528x512_S512x128_8_384 (by decide) (by decide)) (ldQ q 3 9 (by decide) inb_S528x512_S512x128_7_384 (by decide) (by decide)) (ldQ q 3 10 (by decide) inb_S528x512_S512x128_6_384 (by decide) (by decide)) (ldQ q 3 11 (by decide) inb_S528x512_S512x128_5_384 (by decide) (by decide)) (ldQ q 3 12 (by decide) inb_S528x512_S512x128_4_384 (by decide) (by decide)) (ldQ q 3 13 (by decide) inb_S528x512_S512x128_3_384 (by decide) (by decide)) (ldQ q 3 14 (by decide) inb_S528x512_S512x128_2_384 (by decide) (by decide))
def e29 (I : Ins m c t P T) (q : E2 X1 fun r l => bk (zf P) T r.val l) := p29 (P := P) (T := T) I.v0 I.e11 (I.e28 q) (ldQ q 3 15 (by decide) inb_S528x512_S512x128_1_384 (by decide) (by decide))
def e30 (I : Ins m c t P T) (q0 : Body T (zf P) Y1) := p30  (ldH q0 inb_S528x512_S16x512_512_0)
def e31 (I : Ins m c t P T) (q : E2 X1 fun r l => bk (zf P) T r.val l) := p31 (P := P) (T := T) I.v0 I.e11 (I.e19 q) (I.e21 q) (I.e24 q) (I.e28 q) (ldQ q 3 15 (by decide) inb_S528x512_S512x128_1_384 (by decide) (by decide))
def e32 (I : Ins m c t P T) (d : E2 X0 fun r l => bk (u P) T r.val l) (q : E2 X1 fun r l => bk (zf P) T r.val l) := p32 (P := P) (T := T) I.v0 I.e11 (I.e16 d) (I.e20 q) (I.e23 q) (I.e27 q) (I.e28 q) (ldQ q 3 15 (by decide) inb_S528x512_S512x128_1_384 (by decide) (by decide)) I.l191 I.l201
def e33 (I : Ins m c t P T) (d : E2 X0 fun r l => bk (u P) T r.val l) (q : E2 X1 fun r l => bk (zf P) T r.val l) := p33 (P := P) (T := T) I.v0 I.e11 (I.e16 d) (I.e20 q) (I.e23 q) (I.e27 q) (I.e28 q) (ldQ q 3 15 (by decide) inb_S528x512_S512x128_1_384 (by decide) (by decide)) I.l191 I.l201 I.l207
def e34 (I : Ins m c t P T) (d : E2 X0 fun r l => bk (u P) T r.val l) (q : E2 X1 fun r l => bk (zf P) T r.val l) := p34 (P := P) (T := T) I.e5 I.e6 (I.e33 d q) I.l234 I.l237
def e35 (I : Ins m c t P T) := p35 (P := P) (T := T) I.e8
def e36 (I : Ins m c t P T) := p36 (P := P) (T := T) I.e9
def e37 (I : Ins m c t P T) := p37 (P := P) (T := T) I.e10
def e1 (I : Ins m c t P T) (d : E2 X0 fun r l => bk (u P) T r.val l) := p1 (P := P) (T := T) (I.e14 d)
def e2 (I : Ins m c t P T) (q : E2 X1 fun r l => bk (zf P) T r.val l) := p2 (P := P) (T := T) (I.e31 q)
/-- The convolution's buffer at the first point, at a later one, and its tile's own rows. -/
def dA (I : Ins m c t P T) (hT : T.val = 0) := canonA hT I.e13 p3 (inb := inb_S528x512_S512x512_16_0) (inz := inb_S528x512_S16x512_0_0)
def dL (I : Ins m c t P T) := canonB (L := []) I.e13 (inb := inb_S528x512_S512x512_16_0)
def dB (I : Ins m c t P T) (hX : (Memref.whole cc0_scratch0).IsWhole) (D : Head T (u P) X0) :=
  full1 (View.whole cc0_scratch0) (hX.unread (Val := Elt Ideal) X0) (L := []) (unread0 hX D) I.e13 (inb := inb_S528x512_S512x512_16_0)
/-- The pooled block's buffer. -/
def qA (I : Ins m c t P T) (hT : T.val = 0) := canonA hT I.e17 p4 (inb := inb_S528x512_S512x512_16_0) (inz := inb_S528x512_S16x512_0_0)
def qL (I : Ins m c t P T) := canonB (L := []) I.e17 (inb := inb_S528x512_S512x512_16_0)
def qB (I : Ins m c t P T) (hX : (Memref.whole cc0_scratch1).IsWhole) (D : Head T (zf P) X1) :=
  full1 (View.whole cc0_scratch1) (hX.unread (Val := Elt Ideal) X1) (L := []) (unread1 hX D) I.e17 (inb := inb_S528x512_S512x512_16_0)

end Ins

end Cert.FwdIdeal.Pay

end
-- ==== Proof.FwdBlocksA.lean ====
/- The first grid point of the token mixer: what it writes into each window and into the carried rows. -/
module

public import proofs.«01_k».proof.Proof.FwdIns

@[expose] public section

set_option maxRecDepth 16384

noncomputable section

open Idealize.ShloMosaic Idealize.ShloMosaic.TcCoe Idealize.SL.Sem
open Idealize.ShloMosaic.Pipeline (Dat)

namespace Cert.FwdIdeal.Pay

open Cert.FwdIdeal Cert.FwdIdeal.Gen Cert.FwdMath
open Cert.BwdMath (tk gx zx pv)

variable {m : (ℓ : Loc nD τ sig) → Buf (Elt Ideal) ℓ} {c : Dev nD} {t : Fin cfg0.N} {P : Par} {T : Fin 16}

set_option maxHeartbeats 2000000 in
theorem w9_A (I : Ins m c t P T) (h0 : t.val % 16 = 0) (hT : T.val = 0) :
    Te (φ := .f32) T (outsAt0 m c t.val t.isLt).1 (x1 P) := by
  rw [outsAt0_A m c t h0]
  frame_open
  frame_out
  simp only [readCov_ld (View.whole cc0_scratch0), readCov_ld (View.whole cc0_scratch1)]
  exact I.e34 (I.dA hT) (I.qA hT)

set_option maxHeartbeats 2000000 in
theorem w10_A (I : Ins m c t P T) (h0 : t.val % 16 = 0) (hT : T.val = 0) :
    ∀ (j : Fin 5) (r l : Fin 512), ((outsAt0 m c t.val t.isLt).2.1 : FVec Ideal S512x2560 .bf16) (ix2 r ⟨512 * j.val + l.val, by omega⟩) = zs P j (tk T r) l := by
  rw [outsAt0_A m c t h0]
  frame_open
  frame_out
  simp only [readCov_ld (View.whole cc0_scratch0), readCov_ld (View.whole cc0_scratch1)]
  intro j r q
  canon_tiles x k
  · have hx0 : (x 0 : ℕ) < 512 := (x 0).isLt
    have hx1 : (x 1 : ℕ) < 512 := (x 1).isLt
    obtain rfl : j = 4 := Fin.ext (by dsimp at k1; omega)
    exact (E2.at (I.e2 (I.qA hT)) x (r := r) (c := q) (by dsimp at k0; omega) (by dsimp at k1; omega))
  · have hx0 : (x 0 : ℕ) < 512 := (x 0).isLt
    have hx1 : (x 1 : ℕ) < 512 := (x 1).isLt
    obtain rfl : j = 3 := Fin.ext (by dsimp at k1; omega)
    exact (E2.at (I.e1 (I.dA hT)) x (r := r) (c := q) (by dsimp at k0; omega) (by dsimp at k1; omega))
  · have hx0 : (x 0 : ℕ) < 512 := (x 0).isLt
    have hx1 : (x 1 : ℕ) < 512 := (x 1).isLt
    obtain rfl : j = 2 := Fin.ext (by dsimp at k1; omega)
    exact (E2.at (I.e37) x (r := r) (c := q) (by dsimp at k0; omega) (by dsimp at k1; omega))
  · have hx0 : (x 0 : ℕ) < 512 := (x 0).isLt
    have hx1 : (x 1 : ℕ) < 512 := (x 1).isLt
    obtain rfl : j = 1 := Fin.ext (by dsimp at k1; omega)
    exact (E2.at (I.e36) x (r := r) (c := q) (by dsimp at k0; omega) (by dsimp at k1; omega))
  · have hx0 : (x 0 : ℕ) < 512 := (x 0).isLt
    have hx1 : (x 1 : ℕ) < 512 := (x 1).isLt
    obtain rfl : j = 0 := Fin.ext (by dsimp at k1; omega)
    exact (E2.at (I.e35) x (r := r) (c := q) (by dsimp at k0; omega) (by dsimp at k1; omega))

set_option maxHeartbeats 2000000 in
theorem w11_A (I : Ins m c t P T) (h0 : t.val % 16 = 0) (hT : T.val = 0) :
    Te (φ := .f32) T (outsAt0 m c t.val t.isLt).2.2.1 (mix P) := by
  rw [outsAt0_A m c t h0]
  frame_open
  frame_out
  simp only [readCov_ld (View.whole cc0_scratch0), readCov_ld (View.whole cc0_scratch1)]
  exact I.e33 (I.dA hT) (I.qA hT)

set_option maxHeartbeats 2000000 in
theorem w12_A (I : Ins m c t P T) (h0 : t.val % 16 = 0) :
    Te (φ := .bf16) T (outsAt0 m c t.val t.isLt).2.2.2.1 (h P) := by
  rw [outsAt0_A m c t h0]
  frame_open
  frame_out
  exact I.e7

set_option maxHeartbeats 2000000 in
theorem w13_A (I : Ins m c t P T) (h0 : t.val % 16 = 0) (hT : T.val = 0) :
    Te (φ := .bf16) T (outsAt0 m c t.val t.isLt).2.2.2.2.1 (cat P) := by
  rw [outsAt0_A m c t h0]
  frame_open
  frame_out
  simp only [readCov_ld (View.whole cc0_scratch0), readCov_ld (View.whole cc0_scratch1)]
  exact I.e32 (I.dA hT) (I.qA hT)

set_option maxHeartbeats 2000000 in
theorem s0_A (I : Ins m c t P T) (h0 : t.val % 16 = 0) (hT : T.val = 0) :
    Next T (u P) (outsAt0 m c t.val t.isLt).2.2.2.2.2.1 := by
  rw [outsAt0_A m c t h0]
  frame_open
  frame_out
  simp only [readCov_ld (View.whole cc0_scratch0)]
  exact canon_next (I.e15 (body_of (I.dA hT)))

set_option maxHeartbeats 2000000 in
theorem s1_A (I : Ins m c t P T) (h0 : t.val % 16 = 0) (hT : T.val = 0) :
    Next T (zf P) (outsAt0 m c t.val t.isLt).2.2.2.2.2.2 := by
  rw [outsAt0_A m c t h0]
  frame_open
  frame_out
  simp only [readCov_ld (View.whole cc0_scratch1)]
  exact canon_next (I.e30 (body_of (I.qA hT)))

end Cert.FwdIdeal.Pay

end
-- ==== Proof.FwdBlocksB.lean ====
/- A later grid point of the token mixer: what it writes into each window and into the carried rows. -/
module

public import proofs.«01_k».proof.Proof.FwdIns

@[expose] public section

set_option maxRecDepth 16384

noncomputable section

open Idealize.ShloMosaic Idealize.ShloMosaic.TcCoe Idealize.SL.Sem
open Idealize.ShloMosaic.Pipeline (Dat)

namespace Cert.FwdIdeal.Pay

open Cert.FwdIdeal Cert.FwdIdeal.Gen Cert.FwdMath
open Cert.BwdMath (tk gx zx pv)

variable {m : (ℓ : Loc nD τ sig) → Buf (Elt Ideal) ℓ} {c : Dev nD} {t : Fin cfg0.N} {P : Par} {T : Fin 16}

set_option maxHeartbeats 2000000 in
theorem w9_B (I : Ins m c t P T) (h0 : ¬t.val % 16 = 0)
    (D : Head T (u P) (outsAt0 m c (t.val - 1) (Nat.lt_of_le_of_lt (Nat.sub_le _ _) t.isLt)).2.2.2.2.2.1)
    (Q : Head T (zf P) (outsAt0 m c (t.val - 1) (Nat.lt_of_le_of_lt (Nat.sub_le _ _) t.isLt)).2.2.2.2.2.2) :
    Te (φ := .f32) T (outsAt0 m c t.val t.isLt).1 (x1 P) := by
  rw [outsAt0_B m c t h0]
  frame_open
  frame_out
  exact I.e34 (I.dB _ D) (I.qB _ Q)

set_option maxHeartbeats 2000000 in
theorem w10_B (I : Ins m c t P T) (h0 : ¬t.val % 16 = 0)
    (D : Head T (u P) (outsAt0 m c (t.val - 1) (Nat.lt_of_le_of_lt (Nat.sub_le _ _) t.isLt)).2.2.2.2.2.1)
    (Q : Head T (zf P) (outsAt0 m c (t.val - 1) (Nat.lt_of_le_of_lt (Nat.sub_le _ _) t.isLt)).2.2.2.2.2.2) :
    ∀ (j : Fin 5) (r l : Fin 512), ((outsAt0 m c t.val t.isLt).2.1 : FVec Ideal S512x2560 .bf16) (ix2 r ⟨512 * j.val + l.val, by omega⟩) = zs P j (tk T r) l := by
  rw [outsAt0_B m c t h0]
  frame_open
  frame_out
  intro j r q
  canon_tiles x k
  · have hx0 : (x 0 : ℕ) < 512 := (x 0).isLt
    have hx1 : (x 1 : ℕ) < 512 := (x 1).isLt
    obtain rfl : j = 4 := Fin.ext (by dsimp at k1; omega)
    exact (E2.at (I.e2 (I.qB _ Q)) x (r := r) (c := q) (by dsimp at k0; omega) (by dsimp at k1; omega))
  · have hx0 : (x 0 : ℕ) < 512 := (x 0).isLt
    have hx1 : (x 1 : ℕ) < 512 := (x 1).isLt
    obtain rfl : j = 3 := Fin.ext (by dsimp at k1; omega)
    exact (E2.at (I.e1 (I.dB _ D)) x (r := r) (c := q) (by dsimp at k0; omega) (by dsimp at k1; omega))
  · have hx0 : (x 0 : ℕ) < 512 := (x 0).isLt
    have hx1 : (x 1 : ℕ) < 512 := (x 1).isLt
    obtain rfl : j = 2 := Fin.ext (by dsimp at k1; omega)
    exact (E2.at (I.e37) x (r := r) (c := q) (by dsimp at k0; omega) (by dsimp at k1; omega))
  · have hx0 : (x 0 : ℕ) < 512 := (x 0).isLt
    have hx1 : (x 1 : ℕ) < 512 := (x 1).isLt
    obtain rfl : j = 1 := Fin.ext (by dsimp at k1; omega)
    exact (E2.at (I.e36) x (r := r) (c := q) (by dsimp at k0; omega) (by dsimp at k1; omega))
  · have hx0 : (x 0 : ℕ) < 512 := (x 0).isLt
    have hx1 : (x 1 : ℕ) < 512 := (x 1).isLt
    obtain rfl : j = 0 := Fin.ext (by dsimp at k1; omega)
    exact (E2.at (I.e35) x (r := r) (c := q) (by dsimp at k0; omega) (by dsimp at k1; omega))

set_option maxHeartbeats 2000000 in
theorem w11_B (I : Ins m c t P T) (h0 : ¬t.val % 16 = 0)
    (D : Head T (u P) (outsAt0 m c (t.val - 1) (Nat.lt_of_le_of_lt (Nat.sub_le _ _) t.isLt)).2.2.2.2.2.1)
    (Q : Head T (zf P) (outsAt0 m c (t.val - 1) (Nat.lt_of_le_of_lt (Nat.sub_le _ _) t.isLt)).2.2.2.2.2.2) :
    Te (φ := .f32) T (outsAt0 m c t.val t.isLt).2.2.1 (mix P) := by
  rw [outsAt0_B m c t h0]
  frame_open
  frame_out
  exact I.e33 (I.dB _ D) (I.qB _ Q)

set_option maxHeartbeats 2000000 in
theorem w12_B (I : Ins m c t P T) (h0 : ¬t.val % 16 = 0) :
    Te (φ := .bf16) T (outsAt0 m c t.val t.isLt).2.2.2.1 (h P) := by
  rw [outsAt0_B m c t h0]
  frame_open
  frame_out
  exact I.e7

set_option maxHeartbeats 2000000 in
theorem w13_B (I : Ins m c t P T) (h0 : ¬t.val % 16 = 0)
    (D : Head T (u P) (outsAt0 m c (t.val - 1) (Nat.lt_of_le_of_lt (Nat.sub_le _ _) t.isLt)).2.2.2.2.2.1)
    (Q : Head T (zf P) (outsAt0 m c (t.val - 1) (Nat.lt_of_le_of_lt (Nat.sub_le _ _) t.isLt)).2.2.2.2.2.2) :
    Te (φ := .bf16) T (outsAt0 m c t.val t.isLt).2.2.2.2.1 (cat P) := by
  rw [outsAt0_B m c t h0]
  frame_open
  frame_out
  exact I.e32 (I.dB _ D) (I.qB _ Q)

set_option maxHeartbeats 2000000 in
theorem s0_B (I : Ins m c t P T) (h0 : ¬t.val % 16 = 0)
    (D : Head T (u P) (outsAt0 m c (t.val - 1) (Nat.lt_of_le_of_lt (Nat.sub_le _ _) t.isLt)).2.2.2.2.2.1) :
    Next T (u P) (outsAt0 m c t.val t.isLt).2.2.2.2.2.1 := by
  rw [outsAt0_B m c t h0]
  frame_open
  frame_out
  simp only [readCov_ld (View.whole cc0_scratch0)]
  exact canon_next (I.e15 I.dL)

set_option maxHeartbeats 2000000 in
theorem s1_B (I : Ins m c t P T) (h0 : ¬t.val % 16 = 0)
    (Q : Head T (zf P) (outsAt0 m c (t.val - 1) (Nat.lt_of_le_of_lt (Nat.sub_le _ _) t.isLt)).2.2.2.2.2.2) :
    Next T (zf P) (outsAt0 m c t.val t.isLt).2.2.2.2.2.2 := by
  rw [outsAt0_B m c t h0]
  frame_open
  frame_out
  simp only [readCov_ld (View.whole cc0_scratch1)]
  exact canon_next (I.e30 I.qL)

end Cert.FwdIdeal.Pay

end
-- ==== Proof.FwdFinal.lean ====
/- The arrays the token mixer leaves: the grid runs over the tiles in order, each point handing the next the rows it needs. -/
module

public import proofs.«01_k».proof.Proof.FwdBlocksA
public import proofs.«01_k».proof.Proof.FwdBlocksB
public import Idealize.ShloMosaic.Lib.Claim

@[expose] public section

set_option maxRecDepth 65536

noncomputable section

open Idealize.ShloMosaic Idealize.ShloMosaic.TcCoe Idealize.SL.Sem

namespace Cert.FwdIdeal.Pay

open Cert.FwdIdeal Cert.FwdIdeal.Gen Cert.FwdMath
open Cert.BwdMath (tk gx zx pv)

/-- Where each window's block lies, at every grid point. -/
theorem odx : ∀ t : Fin cfg0.N, win0_9.index t = ![t.val, 0] ∧ win0_10.index t = ![t.val, 0] ∧ win0_11.index t = ![t.val, 0]
    ∧ win0_12.index t = ![t.val, 0] ∧ win0_13.index t = ![t.val, 0] :=
  (by decide +kernel : ∀ t : Fin grid0.N, _)
theorem idx : ∀ t : Fin cfg0.N, win0_0.index t = ![t.val, 0] ∧ win0_1.index t = ![0, 0] ∧ win0_2.index t = ![0, 0] ∧ win0_3.index t = ![0, 0, 0]
    ∧ win0_4.index t = ![0, 0, 0] ∧ win0_5.index t = ![0, 0] ∧ win0_6.index t = ![0, 0] ∧ win0_7.index t = ![0, 0] ∧ win0_8.index t = ![0, 0] :=
  (by decide +kernel : ∀ t : Fin grid0.N, _)
theorem tile : ∀ t : Fin cfg0.N, BitVec.ofNat 32 (grid0.coords t 0).val = BitVec.ofNat 32 t.val :=
  (by decide +kernel : ∀ t : Fin grid0.N, _)
theorem lt_N (t : Fin cfg0.N) : t.val < 16 := lt_of_lt_of_eq t.isLt N_0
/-- The tile of a grid point. -/
def tl (t : Fin cfg0.N) : Fin 16 := ⟨t.val, lt_N t⟩

variable {m : (ℓ : Loc nD τ sig) → Buf (Elt Ideal) ℓ} {c : Dev nD} {P : Par}

/-- The rows handed on by point `n`. -/
theorem carry (I : ∀ t : Fin cfg0.N, Ins m c t P (tl t)) : ∀ (n : ℕ) (hn : n < cfg0.N),
    Next (tl ⟨n, hn⟩) (u P) (outsAt0 m c n hn).2.2.2.2.2.1 ∧ Next (tl ⟨n, hn⟩) (zf P) (outsAt0 m c n hn).2.2.2.2.2.2
  | 0, hn => ⟨s0_A (t := ⟨0, hn⟩) (I _) (Nat.zero_mod _) rfl, s1_A (t := ⟨0, hn⟩) (I _) (Nat.zero_mod _) rfl⟩
  | n + 1, hn => by
    have h16 : n + 1 < 16 := lt_N ⟨n + 1, hn⟩
    obtain ⟨d, q⟩ := carry I n (by omega)
    have e : (tl ⟨n, by omega⟩).val + 1 = (tl ⟨n + 1, hn⟩).val := by unfold tl; dsimp
    have h0 : ¬(n + 1) % 16 = 0 := by omega
    exact ⟨s0_B (t := ⟨n + 1, hn⟩) (I _) h0 (d.head e), s1_B (t := ⟨n + 1, hn⟩) (I _) h0 (q.head e)⟩

/-- The rows a later point finds. -/
theorem heads (I : ∀ t : Fin cfg0.N, Ins m c t P (tl t)) (t : Fin cfg0.N) (h0 : ¬t.val % 16 = 0) :
    Head (tl t) (u P) (outsAt0 m c (t.val - 1) (Nat.lt_of_le_of_lt (Nat.sub_le _ _) t.isLt)).2.2.2.2.2.1
      ∧ Head (tl t) (zf P) (outsAt0 m c (t.val - 1) (Nat.lt_of_le_of_lt (Nat.sub_le _ _) t.isLt)).2.2.2.2.2.2 := by
  have h16 := lt_N t
  obtain ⟨d, q⟩ := carry I (t.val - 1) (Nat.lt_of_le_of_lt (Nat.sub_le _ _) t.isLt)
  have e : (tl ⟨t.val - 1, Nat.lt_of_le_of_lt (Nat.sub_le _ _) t.isLt⟩).val + 1 = (tl t).val := by unfold tl; dsimp; omega
  exact ⟨d.head e, q.head e⟩

theorem blk9 (I : ∀ t : Fin cfg0.N, Ins m c t P (tl t)) (t : Fin cfg0.N) : Te (φ := .f32) (tl t) (outsAt0 m c t.val t.isLt).1 (x1 P) := by
  have h16 := lt_N t
  by_cases h0 : t.val % 16 = 0
  · exact w9_A (I t) h0 (by unfold tl; dsimp; omega)
  · obtain ⟨d, q⟩ := heads I t h0
    exact w9_B (I t) h0 d q

theorem blk10 (I : ∀ t : Fin cfg0.N, Ins m c t P (tl t)) (t : Fin cfg0.N) : ∀ (j : Fin 5) (r l : Fin 512), ((outsAt0 m c t.val t.isLt).2.1 : FVec Ideal S512x2560 .bf16) (ix2 r ⟨512 * j.val + l.val, by omega⟩) = zs P j (tk (tl t) r) l := by
  have h16 := lt_N t
  by_cases h0 : t.val % 16 = 0
  · exact w10_A (I t) h0 (by unfold tl; dsimp; omega)
  · obtain ⟨d, q⟩ := heads I t h0
    exact w10_B (I t) h0 d q

theorem blk11 (I : ∀ t : Fin cfg0.N, Ins m c t P (tl t)) (t : Fin cfg0.N) : Te (φ := .f32) (tl t) (outsAt0 m c t.val t.isLt).2.2.1 (mix P) := by
  have h16 := lt_N t
  by_cases h0 : t.val % 16 = 0
  · exact w11_A (I t) h0 (by unfold tl; dsimp; omega)
  · obtain ⟨d, q⟩ := heads I t h0
    exact w11_B (I t) h0 d q

theorem blk12 (I : ∀ t : Fin cfg0.N, Ins m c t P (tl t)) (t : Fin cfg0.N) : Te (φ := .bf16) (tl t) (outsAt0 m c t.val t.isLt).2.2.2.1 (h P) := by
  have h16 := lt_N t
  by_cases h0 : t.val % 16 = 0
  · exact w12_A (I t) h0
  · obtain ⟨d, q⟩ := heads I t h0
    exact w12_B (I t) h0

theorem blk13 (I : ∀ t : Fin cfg0.N, Ins m c t P (tl t)) (t : Fin cfg0.N) : Te (φ := .bf16) (tl t) (outsAt0 m c t.val t.isLt).2.2.2.2.1 (cat P) := by
  have h16 := lt_N t
  by_cases h0 : t.val % 16 = 0
  · exact w13_A (I t) h0 (by unfold tl; dsimp; omega)
  · obtain ⟨d, q⟩ := heads I t h0
    exact w13_B (I t) h0 d q

theorem out9 (I : ∀ t : Fin cfg0.N, Ins m c t P (tl t)) :
    (dats m 0 c).arrAt 9 cfg0.N = (fun y => x1 P (y 0) (y 1) : FVec Ideal S8192x1024 .f32) := by
  refine (dats m 0 c).arrAt_eq_of_covers 9 _ (by decide +kernel) fun t hf y => ?_
  have hb := blk9 I t
  blk_simp
  rw [after0_9]
  have h1 : (y 1 : ℕ) < 1024 := (y 1).isLt
  have h0 : (y 0 : ℕ) < 512 := (y 0).isLt
  refine (E2.at hb y (r := ⟨y 0, h0⟩) (c := ⟨y 1, h1⟩) rfl rfl).trans ?_
  have ea : (((cfg0.win 9).blk t).view.emb y 0 : Fin 8192) = tk (tl t) ⟨y 0, h0⟩ := Fin.ext (by unfold tk tl; blk_simp [odx t]; done)
  have eb : (((cfg0.win 9).blk t).view.emb y 1 : Fin 1024) = ⟨y 1, h1⟩ := Fin.ext (by blk_simp [odx t])
  exact (congrArg₂ (x1 P) ea eb).symm

theorem out11 (I : ∀ t : Fin cfg0.N, Ins m c t P (tl t)) :
    (dats m 0 c).arrAt 11 cfg0.N = (fun y => mix P (y 0) (y 1) : FVec Ideal S8192x1024 .f32) := by
  refine (dats m 0 c).arrAt_eq_of_covers 11 _ (by decide +kernel) fun t hf y => ?_
  have hb := blk11 I t
  blk_simp
  rw [after0_11]
  have h1 : (y 1 : ℕ) < 1024 := (y 1).isLt
  have h0 : (y 0 : ℕ) < 512 := (y 0).isLt
  refine (E2.at hb y (r := ⟨y 0, h0⟩) (c := ⟨y 1, h1⟩) rfl rfl).trans ?_
  have ea : (((cfg0.win 11).blk t).view.emb y 0 : Fin 8192) = tk (tl t) ⟨y 0, h0⟩ := Fin.ext (by unfold tk tl; blk_simp [odx t]; done)
  have eb : (((cfg0.win 11).blk t).view.emb y 1 : Fin 1024) = ⟨y 1, h1⟩ := Fin.ext (by blk_simp [odx t])
  exact (congrArg₂ (mix P) ea eb).symm

theorem out12 (I : ∀ t : Fin cfg0.N, Ins m c t P (tl t)) :
    (dats m 0 c).arrAt 12 cfg0.N = (fun y => h P (y 0) (y 1) : FVec Ideal S8192x1024 .bf16) := by
  refine (dats m 0 c).arrAt_eq_of_covers 12 _ (by decide +kernel) fun t hf y => ?_
  have hb := blk12 I t
  blk_simp
  rw [after0_12]
  have h1 : (y 1 : ℕ) < 1024 := (y 1).isLt
  have h0 : (y 0 : ℕ) < 512 := (y 0).isLt
  refine (E2.at hb y (r := ⟨y 0, h0⟩) (c := ⟨y 1, h1⟩) rfl rfl).trans ?_
  have ea : (((cfg0.win 12).blk t).view.emb y 0 : Fin 8192) = tk (tl t) ⟨y 0, h0⟩ := Fin.ext (by unfold tk tl; blk_simp [odx t]; done)
  have eb : (((cfg0.win 12).blk t).view.emb y 1 : Fin 1024) = ⟨y 1, h1⟩ := Fin.ext (by blk_simp [odx t])
  exact (congrArg₂ (h P) ea eb).symm

theorem out13 (I : ∀ t : Fin cfg0.N, Ins m c t P (tl t)) :
    (dats m 0 c).arrAt 13 cfg0.N = (fun y => cat P (y 0) (y 1) : FVec Ideal S8192x1024 .bf16) := by
  refine (dats m 0 c).arrAt_eq_of_covers 13 _ (by decide +kernel) fun t hf y => ?_
  have hb := blk13 I t
  blk_simp
  rw [after0_13]
  have h1 : (y 1 : ℕ) < 1024 := (y 1).isLt
  have h0 : (y 0 : ℕ) < 512 := (y 0).isLt
  refine (E2.at hb y (r := ⟨y 0, h0⟩) (c := ⟨y 1, h1⟩) rfl rfl).trans ?_
  have ea : (((cfg0.win 13).blk t).view.emb y 0 : Fin 8192) = tk (tl t) ⟨y 0, h0⟩ := Fin.ext (by unfold tk tl; blk_simp [odx t]; done)
  have eb : (((cfg0.win 13).blk t).view.emb y 1 : Fin 1024) = ⟨y 1, h1⟩ := Fin.ext (by blk_simp [odx t])
  exact (congrArg₂ (cat P) ea eb).symm

theorem out10 (I : ∀ t : Fin cfg0.N, Ins m c t P (tl t)) :
    (dats m 0 c).arrAt 10 cfg0.N = (fun y => zc P (y 0) (y 1) : FVec Ideal S8192x2560 .bf16) := by
  refine (dats m 0 c).arrAt_eq_of_covers 10 _ (by decide +kernel) fun t hf y => ?_
  have hb : E2 (φ := .bf16) ((outsAt0 m c t.val t.isLt).2.1 : FVec Ideal S512x2560 .bf16) fun r k => zc P (tk (tl t) r) k := fun r k => by
    refine Eq.trans (congrArg (fun k => ((outsAt0 m c t.val t.isLt).2.1 : FVec Ideal S512x2560 .bf16) (ix2 r k)) (Fin.ext ?_)) (blk10 I t ⟨k.val / 512, by omega⟩ r ⟨k.val % 512, by omega⟩)
    dsimp only
    omega
  blk_simp
  rw [after0_10]
  have h1 : (y 1 : ℕ) < 2560 := (y 1).isLt
  have h0 : (y 0 : ℕ) < 512 := (y 0).isLt
  refine (E2.at hb y (r := ⟨y 0, h0⟩) (c := ⟨y 1, h1⟩) rfl rfl).trans ?_
  have ea : (((cfg0.win 10).blk t).view.emb y 0 : Fin 8192) = tk (tl t) ⟨y 0, h0⟩ := Fin.ext (by unfold tk tl; blk_simp [odx t]; done)
  have eb : (((cfg0.win 10).blk t).view.emb y 1 : Fin 2560) = ⟨y 1, h1⟩ := Fin.ext (by blk_simp [odx t])
  exact (congrArg₂ (zc P) ea eb).symm

variable (m)

theorem q7 (x : FVec Ideal S1x8192x1024 .f32) (r : Fin 8192) (k : Fin 1024) : (shapeCast S8192x1024 x shapeCasts_S1x8192x1024_S8192x1024 : FVec Ideal S8192x1024 .f32) (ix2 r k) = x (ix3 0 r k) := by
  pointwise []
theorem q0 (x : FVec Ideal S1x6144 .f32) (r : Fin 8) (k : Fin 6144) : (broadcastInDim S8x6144 ![0, 1] bcast_S1x6144_S8x6144_0_1 x : FVec Ideal S8x6144 .f32) (ix2 r k) = x (ix2 0 k) := by
  pointwise []
theorem q6 (x : FVec Ideal S1x3x512 .f32) (j : Fin 3) (k : Fin 512) : (pad S8x512 ![0, 0] ![5, 0] ![0, 0] (shapeCast S3x512 x shapeCasts_S1x3x512_S3x512 : FVec Ideal S3x512 .f32) (sitofp .f32 (constantI S_ 32 0#32) : FVec Ideal S_ .f32) pads_S3x512_S8x512_050_000 h_S_ : FVec Ideal S8x512 .f32) (ix2 ⟨j.val, by omega⟩ k) = x (ix3 0 j k) := by
  pointwise []
theorem q4 (x : FVec Ideal S1x1024x2048 .f32) (j : Fin 4) (r : Fin 1024) (k : Fin 512) : (truncf .bf16 (transpose S4x1024x512 [1, 0, 2] (shapeCast S1024x4x512 (shapeCast S1024x2048 x shapeCasts_S1x1024x2048_S1024x2048 : FVec Ideal S1024x2048 .f32) shapeCasts_S1024x2048_S1024x4x512 : FVec Ideal S1024x4x512 .f32) transposes_S1024x4x512_S4x1024x512_1_0_2 : FVec Ideal S4x1024x512 .f32) bitsLt_bf16_f32 : FVec Ideal S4x1024x512 .bf16) (ix3 j r k) = x (ix3 0 r (zx j k)) := by
  pointwise []
  rfl
theorem q8 (x : FVec Ideal S1x4x128x128 .f32) (j : Fin 4) (r k : Fin 128) : (shapeCast S4x128x128 x shapeCasts_S1x4x128x128_S4x128x128 : FVec Ideal S4x128x128 .f32) (ix3 j r k) = x (ix4 0 j r k) := by
  pointwise []
theorem q10 (x : FVec Ideal S1x1024x1024 .f32) (r k : Fin 1024) : (truncf .bf16 (shapeCast S1024x1024 x shapeCasts_S1x1024x1024_S1024x1024 : FVec Ideal S1024x1024 .f32) bitsLt_bf16_f32 : FVec Ideal S1024x1024 .bf16) (ix2 r k) = x (ix3 0 r k) := by
  pointwise []
set_option maxHeartbeats 4000000 in
theorem s7 (c : Dev nD) : (V m c main_v7 : FVec Ideal S8192x1024 .f32) = (shapeCast S8192x1024 (m (c, Proc.tc.devRef main_arg0) : FVec Ideal S1x8192x1024 .f32) shapeCasts_S1x8192x1024_S8192x1024 : FVec Ideal S8192x1024 .f32) := by
  entry_read
  rfl
set_option maxHeartbeats 4000000 in
theorem s0 (c : Dev nD) : (V m c main_v0 : FVec Ideal S8x6144 .f32) = (broadcastInDim S8x6144 ![0, 1] bcast_S1x6144_S8x6144_0_1 (m (c, Proc.tc.devRef main_arg1) : FVec Ideal S1x6144 .f32) : FVec Ideal S8x6144 .f32) := by
  entry_read
  rfl
set_option maxHeartbeats 4000000 in
theorem s6 (c : Dev nD) : (V m c main_v6 : FVec Ideal S8x512 .f32) = (pad S8x512 ![0, 0] ![5, 0] ![0, 0] (shapeCast S3x512 (m (c, Proc.tc.devRef main_arg3) : FVec Ideal S1x3x512 .f32) shapeCasts_S1x3x512_S3x512 : FVec Ideal S3x512 .f32) (sitofp .f32 (constantI S_ 32 0#32) : FVec Ideal S_ .f32) pads_S3x512_S8x512_050_000 h_S_ : FVec Ideal S8x512 .f32) := by
  entry_read
  rfl
set_option maxHeartbeats 4000000 in
theorem s4 (c : Dev nD) : (V m c main_v4 : FVec Ideal S4x1024x512 .bf16) = (truncf .bf16 (transpose S4x1024x512 [1, 0, 2] (shapeCast S1024x4x512 (shapeCast S1024x2048 (m (c, Proc.tc.devRef main_arg2) : FVec Ideal S1x1024x2048 .f32) shapeCasts_S1x1024x2048_S1024x2048 : FVec Ideal S1024x2048 .f32) shapeCasts_S1024x2048_S1024x4x512 : FVec Ideal S1024x4x512 .f32) transposes_S1024x4x512_S4x1024x512_1_0_2 : FVec Ideal S4x1024x512 .f32) bitsLt_bf16_f32 : FVec Ideal S4x1024x512 .bf16) := by
  entry_read
  rfl
set_option maxHeartbeats 4000000 in
theorem s8 (c : Dev nD) : (V m c main_v8 : FVec Ideal S4x128x128 .f32) = (shapeCast S4x128x128 (m (c, Proc.tc.devRef main_arg4) : FVec Ideal S1x4x128x128 .f32) shapeCasts_S1x4x128x128_S4x128x128 : FVec Ideal S4x128x128 .f32) := by
  entry_read
  rfl
set_option maxHeartbeats 4000000 in
theorem s10 (c : Dev nD) : (V m c main_v10 : FVec Ideal S1024x1024 .bf16) = (truncf .bf16 (shapeCast S1024x1024 (m (c, Proc.tc.devRef main_arg6) : FVec Ideal S1x1024x1024 .f32) shapeCasts_S1x1024x1024_S1024x1024 : FVec Ideal S1024x1024 .f32) bitsLt_bf16_f32 : FVec Ideal S1024x1024 .bf16) := by
  entry_read
  rfl
theorem e0 (c : Dev nD) (t : Fin cfg0.N) (r : Fin 512) (k : Fin 1024) : (iblk m c 0 t : FVec Ideal S512x1024 .f32) (ix2 r k) = m (c, Proc.tc.devRef main_arg0) (ix3 0 (tk (tl t) r) k) := by
  refine (show _ = (V m c main_v7 : FVec Ideal S8192x1024 .f32) (ix2 (tk (tl t) r) k) from ?_).trans ?_
  · blk_simp [iblk]
    unfold tk tl
    blk_ext [idx t]
  · exact (congrFun (s7 m c) _).trans (q7 _ (tk (tl t) r) k)
theorem e1 (c : Dev nD) (t : Fin cfg0.N) (r : Fin 8) (k : Fin 6144) : (iblk m c 1 t : FVec Ideal S8x6144 .f32) (ix2 r k) = m (c, Proc.tc.devRef main_arg1) (ix2 0 k) := by
  refine (show _ = (V m c main_v0 : FVec Ideal S8x6144 .f32) (ix2 r k) from ?_).trans ?_
  · blk_simp [iblk]
    blk_ext [idx t]
  · exact (congrFun (s0 m c) _).trans (q0 _ r k)
theorem e2 (c : Dev nD) (t : Fin cfg0.N) (j : Fin 3) (k : Fin 512) : (iblk m c 2 t : FVec Ideal S8x512 .f32) (ix2 ⟨j.val, by omega⟩ k) = m (c, Proc.tc.devRef main_arg3) (ix3 0 j k) := by
  refine (show _ = (V m c main_v6 : FVec Ideal S8x512 .f32) (ix2 ⟨j.val, by omega⟩ k) from ?_).trans ?_
  · blk_simp [iblk]
    blk_ext [idx t]
  · exact (congrFun (s6 m c) _).trans (q6 _ j k)
theorem e3 (c : Dev nD) (t : Fin cfg0.N) (j : Fin 4) (r : Fin 1024) (k : Fin 512) : (iblk m c 3 t : FVec Ideal S4x1024x512 .bf16) (ix3 j r k) = m (c, Proc.tc.devRef main_arg2) (ix3 0 r (zx j k)) := by
  refine (show _ = (V m c main_v4 : FVec Ideal S4x1024x512 .bf16) (ix3 j r k) from ?_).trans ?_
  · blk_simp [iblk]
    blk_ext [idx t]
  · exact (congrFun (s4 m c) _).trans (q4 _ j r k)
theorem e4 (c : Dev nD) (t : Fin cfg0.N) (j : Fin 4) (r k : Fin 128) : (iblk m c 4 t : FVec Ideal S4x128x128 .f32) (ix3 j r k) = m (c, Proc.tc.devRef main_arg4) (ix4 0 j r k) := by
  refine (show _ = (V m c main_v8 : FVec Ideal S4x128x128 .f32) (ix3 j r k) from ?_).trans ?_
  · blk_simp [iblk]
    blk_ext [idx t]
  · exact (congrFun (s8 m c) _).trans (q8 _ j r k)
theorem e6 (c : Dev nD) (t : Fin cfg0.N) (r k : Fin 1024) : (iblk m c 6 t : FVec Ideal S1024x1024 .bf16) (ix2 r k) = m (c, Proc.tc.devRef main_arg6) (ix3 0 r k) := by
  refine (show _ = (V m c main_v10 : FVec Ideal S1024x1024 .bf16) (ix2 r k) from ?_).trans ?_
  · blk_simp [iblk]
    blk_ext [idx t]
  · exact (congrFun (s10 m c) _).trans (q10 _ r k)
theorem e5 (c : Dev nD) (t : Fin cfg0.N) (r : Fin 1) (k : Fin 512) : (iblk m c 5 t : FVec Ideal S1x512 .f32) (ix2 r k) = m (c, Proc.tc.devRef main_arg5) (ix2 0 k) := by
  obtain rfl : r = 0 := Subsingleton.elim _ _
  blk_simp [iblk]
  entry_read
  blk_ext [idx t]
theorem e7 (c : Dev nD) (t : Fin cfg0.N) (r : Fin 1) (k : Fin 1024) : (iblk m c 7 t : FVec Ideal S1x1024 .f32) (ix2 r k) = m (c, Proc.tc.devRef main_arg7) (ix2 0 k) := by
  obtain rfl : r = 0 := Subsingleton.elim _ _
  blk_simp [iblk]
  entry_read
  blk_ext [idx t]
theorem e8 (c : Dev nD) (t : Fin cfg0.N) (r : Fin 1) (k : Fin 1024) : (iblk m c 8 t : FVec Ideal S1x1024 .f32) (ix2 r k) = m (c, Proc.tc.devRef main_arg8) (ix2 0 k) := by
  obtain rfl : r = 0 := Subsingleton.elim _ _
  blk_simp [iblk]
  entry_read
  blk_ext [idx t]

/-- The arguments of device `c`. -/
abbrev pars (c : Dev nD) (zp : Fin 8192 → Fin 512 → ℝ) : Par := par (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) zp

/-- What each grid point reads. -/
theorem ins (c : Dev nD) {zp : Fin 8192 → Fin 512 → ℝ} (Z : ∀ t l, zj (pars m c zp) 3 t l = ((zp t l : ℝ) : EReal)) (t : Fin cfg0.N) : Ins m c t (pars m c zp) (tl t) where
  x := fun r k => e0 m c t r k
  sh := fun k => e1 m c t 0 _
  sc := fun k => e1 m c t 0 _
  ga := fun k => e1 m c t 0 _
  cw := fun j l => e2 m c t j l
  wi := fun j r k => e3 m c t j r k
  wp := fun j r k => e4 m c t j r k
  ps := fun r k => e5 m c t r k
  wo := fun r k => e6 m c t r k
  lg := fun r k => e7 m c t r k
  lb := fun r k => e8 m c t r k
  v0 := tile t
  Z := Z

end Cert.FwdIdeal.Pay

end
-- ==== Proof.FwdRef.lean ====
/- The reference of the token mixer, operation by operation. -/
module

public import proofs.«01_k».proof.Proof.Gen.FwdRefIdeal.Read
public import Idealize.ShloMosaic.Lib.Pipeline.ValueKit
public import Idealize.ShloMosaic.Lib.Pointwise
public import proofs.«01_k».proof.Proof.FwdMath
public import proofs.«01_k».proof.Proof.BwdRef

@[expose] public section

set_option maxRecDepth 16384

noncomputable section

open Idealize.ShloMosaic Idealize.ShloMosaic.TcCoe Idealize.SL.Sem

namespace Cert.FwdRefIdeal.Real

open Cert.FwdRefIdeal Cert.FwdRefIdeal.Gen Cert.FwdRefIdeal.Read Cert.RealLift Cert.FwdMath Cert.BwdWin
open Cert.BwdMath (tk gx zx gq gr win cnt pv cnt_pos)
open Cert.BwdIdeal.Pay (coe_min c_4 c_8 c_16)
open Cert.BwdRefIdeal.Real (kit tok sum_unit01 coe_dite2)

/-- What the arguments hold; the projection's last block is real. -/
structure RArgs (x0 : FVec Ideal S1x8192x1024 .f32) (x1 : FVec Ideal S1x6144 .f32) (x2 : FVec Ideal S1x1024x2048 .f32) (x3 : FVec Ideal S1x3x512 .f32)
    (x4 : FVec Ideal S1x4x128x128 .f32) (x5 : FVec Ideal S1x512 .f32) (x6 : FVec Ideal S1x1024x1024 .f32) (x7 x8 : FVec Ideal S1x1024 .f32) (P : Par) : Prop where
  x : ∀ i r k, x0 (ix3 i r k) = P.x r k
  sh : ∀ (i : Fin 1) (k : Fin 1024) h, x1 (ix2 i ⟨k.val, h⟩) = P.sh k
  sc : ∀ (i : Fin 1) (k : Fin 1024) h, x1 (ix2 i ⟨1024 + k.val, h⟩) = P.sc k
  ga : ∀ (i : Fin 1) (k : Fin 1024) h, x1 (ix2 i ⟨2048 + k.val, h⟩) = P.ga k
  wi : ∀ i r k, x2 (ix3 i r k) = P.wi r k
  cw : ∀ i r k, x3 (ix3 i r k) = P.cw r k
  wp : ∀ i j r k, x4 (ix4 i j r k) = P.wp j r k
  ps : ∀ i k, x5 (ix2 i k) = P.ps k
  wo : ∀ i r k, x6 (ix3 i r k) = P.wo r k
  lg : ∀ i k, x7 (ix2 i k) = P.lg k
  lb : ∀ i k, x8 (ix2 i k) = P.lb k
  Z : ∀ t l, zj P 3 t l = ((P.zp t l : ℝ) : EReal)

variable {x0 : FVec Ideal S1x8192x1024 .f32} {x1 : FVec Ideal S1x6144 .f32} {x2 : FVec Ideal S1x1024x2048 .f32} {x3 : FVec Ideal S1x3x512 .f32}
  {x4 : FVec Ideal S1x4x128x128 .f32} {x5 : FVec Ideal S1x512 .f32} {x6 : FVec Ideal S1x1024x1024 .f32} {x7 x8 : FVec Ideal S1x1024 .f32} {P : Par}

theorem RArgs.of {zp : Fin 8192 → Fin 512 → ℝ} (Z : ∀ t l, zj (par x0 x1 x2 x3 x4 x5 x6 x7 x8 zp) 3 t l = ((zp t l : ℝ) : EReal)) : RArgs x0 x1 x2 x3 x4 x5 x6 x7 x8 (par x0 x1 x2 x3 x4 x5 x6 x7 x8 zp) where
  x := fun i r k => by obtain rfl : i = 0 := Subsingleton.elim _ _; rfl
  sh := fun i k _ => by obtain rfl : i = 0 := Subsingleton.elim _ _; rfl
  sc := fun i k _ => by obtain rfl : i = 0 := Subsingleton.elim _ _; rfl
  ga := fun i k _ => by obtain rfl : i = 0 := Subsingleton.elim _ _; rfl
  wi := fun i r k => by obtain rfl : i = 0 := Subsingleton.elim _ _; rfl
  cw := fun i r k => by obtain rfl : i = 0 := Subsingleton.elim _ _; rfl
  wp := fun i j r k => by obtain rfl : i = 0 := Subsingleton.elim _ _; rfl
  ps := fun i k => by obtain rfl : i = 0 := Subsingleton.elim _ _; rfl
  wo := fun i r k => by obtain rfl : i = 0 := Subsingleton.elim _ _; rfl
  lg := fun i k => by obtain rfl : i = 0 := Subsingleton.elim _ _; rfl
  lb := fun i k => by obtain rfl : i = 0 := Subsingleton.elim _ _; rfl
  Z := Z

/-- What the arguments hold, in one statement. -/
theorem RArgs.all (A : RArgs x0 x1 x2 x3 x4 x5 x6 x7 x8 P) :
    (∀ i r k, x0 (ix3 i r k) = P.x r k)
    ∧ (∀ (i : Fin 1) (k : Fin 1024) h, x1 (ix2 i ⟨k.val, h⟩) = P.sh k)
    ∧ (∀ (i : Fin 1) (k : Fin 1024) h, x1 (ix2 i ⟨1024 + k.val, h⟩) = P.sc k)
    ∧ (∀ (i : Fin 1) (k : Fin 1024) h, x1 (ix2 i ⟨2048 + k.val, h⟩) = P.ga k)
    ∧ (∀ i r k, x2 (ix3 i r k) = P.wi r k)
    ∧ (∀ i r k, x3 (ix3 i r k) = P.cw r k)
    ∧ (∀ i j r k, x4 (ix4 i j r k) = P.wp j r k)
    ∧ (∀ i k, x5 (ix2 i k) = P.ps k)
    ∧ (∀ i r k, x6 (ix3 i r k) = P.wo r k)
    ∧ (∀ i k, x7 (ix2 i k) = P.lg k)
    ∧ (∀ i k, x8 (ix2 i k) = P.lb k) :=
  ⟨A.x, A.sh, A.sc, A.ga, A.wi, A.cw, A.wp, A.ps, A.wo, A.lg, A.lb⟩

variable (A : RArgs x0 x1 x2 x3 x4 x5 x6 x7 x8 P)
include A

theorem r17 : E3 (φ := .f32) (val_main_v17 (F := Ideal) x0 x1) (fun _ => h P) := by
  intro i r l
  pointwise [val_main_v17, val_main_v15, val_main_v14, val_main_v13, val_main_v12, val_main_cst, val_main_v2, val_main_v0, val_main_v16, val_main_v1]
  simp only [A.all, kit, zero_add, add_zero]
  all_goals rfl

theorem r19 : E3 (φ := .f32) (val_main_v19 (F := Ideal) x0 x1 x2) (fun _ => zj P 0) := by
  intro i r l
  pointwise [val_main_v19, val_main_v18, val_main_v7]
  simp only [r17 A _ _ _, A.all, kit, zero_add, add_zero]
  all_goals exact congrArg (fun n => ∑ c, h P r c * P.wi c n) (Fin.ext (by simp [zx]; try omega))

theorem r20 : E3 (φ := .f32) (val_main_v20 (F := Ideal) x0 x1 x2) (fun _ => zj P 1) := by
  intro i r l
  pointwise [val_main_v20, val_main_v18, val_main_v7]
  simp only [r17 A _ _ _, A.all, kit, zero_add, add_zero]
  all_goals exact congrArg (fun n => ∑ c, h P r c * P.wi c n) (Fin.ext (by simp [zx]; try omega))

theorem r21 : E3 (φ := .f32) (val_main_v21 (F := Ideal) x0 x1 x2) (fun _ => zj P 2) := by
  intro i r l
  pointwise [val_main_v21, val_main_v18, val_main_v7]
  simp only [r17 A _ _ _, A.all, kit, zero_add, add_zero]
  all_goals exact congrArg (fun n => ∑ c, h P r c * P.wi c n) (Fin.ext (by simp [zx]; try omega))

theorem r22 : E3 (φ := .f32) (val_main_v22 (F := Ideal) x0 x1 x2) (fun _ => zj P 3) := by
  intro i r l
  pointwise [val_main_v22, val_main_v18, val_main_v7]
  simp only [r17 A _ _ _, A.all, kit, zero_add, add_zero]
  all_goals exact congrArg (fun n => ∑ c, h P r c * P.wi c n) (Fin.ext (by simp [zx]; try omega))
theorem r22z : Is3 (φ := .f32) (val_main_v22 (F := Ideal) x0 x1 x2) (fun _ => P.zp) := fun i r l => (r22 A i r l).trans (A.Z r l)

theorem r23 : E3 (φ := .f32) (val_main_v23 (F := Ideal) x0 x1 x2) (fun _ => u P) := by
  intro i r l
  pointwise [val_main_v23]
  simp only [r20 A _ _ _, r21 A _ _ _, A.all, kit, zero_add, add_zero]
  all_goals rfl

theorem r26 : E3 (φ := .f32) (val_main_v26 (F := Ideal) x0 x1 x2) (fun _ t l => pe (u P) t 2 l) := by
  intro i r l
  pointwise [val_main_v26, val_main_v25, val_main_v24, val_main_cst_0]
  simp only [r23 A _ _ _, A.all, kit, zero_add, add_zero]
  unfold pe
  by_cases h : r.val < 2
  · rw [if_pos h, dif_pos (by omega)]
  · rw [if_neg h, dif_neg (by omega)]
    all_goals exact congrArg (fun n => u P n l) (Fin.ext (by dsimp only; try omega))

theorem r32 : E3 (φ := .f32) (val_main_v32 (F := Ideal) x0 x1 x2) (fun _ t l => pe (u P) t 1 l) := by
  intro i r l
  pointwise [val_main_v32, val_main_v25, val_main_v24, val_main_cst_0]
  simp only [r23 A _ _ _, A.all, kit, zero_add, add_zero]
  unfold pe
  by_cases h : r.val < 1
  · rw [if_pos h, dif_pos (by omega)]
  · rw [if_neg h, dif_neg (by omega)]
    all_goals exact congrArg (fun n => u P n l) (Fin.ext (by dsimp only; try omega))

theorem r39 : E3 (φ := .f32) (val_main_v39 (F := Ideal) x0 x1 x2) (fun _ => u P) := by
  intro i r l
  pointwise [val_main_v39, val_main_v25, val_main_v24, val_main_cst_0]
  simp only [r23 A _ _ _, A.all, kit, zero_add, add_zero]
  all_goals rfl

theorem r45 : E3 (φ := .f32) (val_main_v45 (F := Ideal) x0 x1 x2 x3) (fun _ => cv P) := by
  intro i r l
  pointwise [val_main_v45, val_main_v38, val_main_v31, val_main_v30, val_main_v29, val_main_v28, val_main_v27, val_main_v8, val_main_v37, val_main_v36, val_main_v35, val_main_v34, val_main_v33, val_main_v44, val_main_v43, val_main_v42, val_main_v41, val_main_v40]
  simp only [r26 A _ _ _, r32 A _ _ _, r39 A _ _ _, A.all, kit, zero_add, add_zero]
  unfold cv
  rw [mul_comm (P.cw 0 l), mul_comm (P.cw 1 l), mul_comm (P.cw 2 l)]

theorem r46 : Is3 (φ := .f32) (val_main_v46 (F := Ideal) x0 x1 x2) (fun _ => upto P.zp) := by
  unfold val_main_v46
  exact running (r22z A) _ _ _ (by show (Ideal.ofBits .f32 0x00000000#32 : EReal) = 0; simp [Ideal.ofBits, Ideal.ieee])

theorem r50 : Is3 (φ := .f32) (val_main_v50 (F := Ideal) ) (fun _ t _ => (t.val : ℝ) + 1) := by
  intro i r l
  pointwise [val_main_v50, val_main_v49, val_main_v48, val_main_cst_1, val_main_v47]
  simp only [A.all, kit, zero_add, add_zero, ups]
  exact congrArg (fun x : ℝ => (x : EReal)) (add_comm _ _)

theorem r51 : Is3 (φ := .f32) (val_main_v51 (F := Ideal) x0 x1 x2) (fun _ t k => upto P.zp t (gx 0 k)) := by
  intro i r l
  pointwise [val_main_v51]
  simp only [r46 A _ _ _, A.all, kit, zero_add, add_zero, ups]
  all_goals exact congrArg (fun x : ℝ => (x : EReal)) (congrArg (upto P.zp r) (Fin.ext (by simp [gx]; try omega)))

theorem r54 : Is3 (φ := .f32) (val_main_v54 (F := Ideal) x0 x1 x2) (fun _ t k => pv (fun t k => upto P.zp t (gx 0 k)) t (win 0) k) := by
  intro i r l
  pointwise [val_main_v54, val_main_v53, val_main_v52, val_main_cst_2]
  simp only [r51 A _ _ _, A.all, kit, zero_add, add_zero, ups]
  rw [show win 0 = 2 from rfl]
  unfold pv
  refine congrArg (fun x : ℝ => (x : EReal)) ?_
  by_cases h : r.val < 2
  · rw [if_pos h, dif_pos (by omega)]
  · rw [if_neg h, dif_neg (by omega)]
    all_goals exact congrArg (fun n => upto P.zp n (gx 0 l)) (Fin.ext (by dsimp only; try omega))

theorem r57 : Is3 (φ := .f32) (val_main_v57 (F := Ideal) ) (fun _ t _ => cnt 0 t) := by
  intro i r l
  pointwise [val_main_v57, val_main_v56, val_main_cst_3]
  simp only [r50 A _ _ _, A.all, kit, zero_add, add_zero, ups]
  refine congrArg (fun x : ℝ => (x : EReal)) ?_
  unfold cnt
  rw [show win 0 = 2 from rfl]
  norm_num

theorem r60 : Is3 (φ := .f32) (val_main_v60 (F := Ideal) x0 x1 x2) (fun _ t k => P.zp t (gx 0 k)) := by
  intro i r l
  pointwise [val_main_v60]
  simp only [r22z A _ _ _, A.all, kit, zero_add, add_zero, ups]
  all_goals exact congrArg (fun x : ℝ => (x : EReal)) (congrArg (P.zp r) (Fin.ext (by simp [gx]; try omega)))

theorem r61 : E3 (φ := .f32) (val_main_v61 (F := Ideal) x0 x1 x2) (fun _ => pl P 0) := by
  intro i r l
  pointwise [val_main_v61, val_main_v59, val_main_v55, val_main_v58]
  simp only [r51 A _ _ _, r54 A _ _ _, r57 A _ _ _, r60 A _ _ _, A.all, kit, zero_add, add_zero, coe_div _ _ (cnt_pos _ _).ne', ups]
  all_goals exact congrArg (fun x : ℝ => (x : EReal)) (plr_eq P 0 r l)

theorem r62 : Is3 (φ := .f32) (val_main_v62 (F := Ideal) x0 x1 x2) (fun _ t k => upto P.zp t (gx 1 k)) := by
  intro i r l
  pointwise [val_main_v62]
  simp only [r46 A _ _ _, A.all, kit, zero_add, add_zero, ups]
  all_goals exact congrArg (fun x : ℝ => (x : EReal)) (congrArg (upto P.zp r) (Fin.ext (by simp [gx]; try omega)))

theorem r65 : Is3 (φ := .f32) (val_main_v65 (F := Ideal) x0 x1 x2) (fun _ t k => pv (fun t k => upto P.zp t (gx 1 k)) t (win 1) k) := by
  intro i r l
  pointwise [val_main_v65, val_main_v64, val_main_v63, val_main_cst_4]
  simp only [r62 A _ _ _, A.all, kit, zero_add, add_zero, ups]
  rw [show win 1 = 4 from rfl]
  unfold pv
  refine congrArg (fun x : ℝ => (x : EReal)) ?_
  by_cases h : r.val < 4
  · rw [if_pos h, dif_pos (by omega)]
  · rw [if_neg h, dif_neg (by omega)]
    all_goals exact congrArg (fun n => upto P.zp n (gx 1 l)) (Fin.ext (by dsimp only; try omega))

theorem r68 : Is3 (φ := .f32) (val_main_v68 (F := Ideal) ) (fun _ t _ => cnt 1 t) := by
  intro i r l
  pointwise [val_main_v68, val_main_v67, val_main_cst_5]
  simp only [r50 A _ _ _, A.all, kit, zero_add, add_zero, ups]
  refine congrArg (fun x : ℝ => (x : EReal)) ?_
  unfold cnt
  rw [show win 1 = 4 from rfl]
  norm_num

theorem r71 : Is3 (φ := .f32) (val_main_v71 (F := Ideal) x0 x1 x2) (fun _ t k => P.zp t (gx 1 k)) := by
  intro i r l
  pointwise [val_main_v71]
  simp only [r22z A _ _ _, A.all, kit, zero_add, add_zero, ups]
  all_goals exact congrArg (fun x : ℝ => (x : EReal)) (congrArg (P.zp r) (Fin.ext (by simp [gx]; try omega)))

theorem r72 : E3 (φ := .f32) (val_main_v72 (F := Ideal) x0 x1 x2) (fun _ => pl P 1) := by
  intro i r l
  pointwise [val_main_v72, val_main_v70, val_main_v66, val_main_v69]
  simp only [r62 A _ _ _, r65 A _ _ _, r68 A _ _ _, r71 A _ _ _, A.all, kit, zero_add, add_zero, coe_div _ _ (cnt_pos _ _).ne', ups]
  all_goals exact congrArg (fun x : ℝ => (x : EReal)) (plr_eq P 1 r l)

theorem r73 : Is3 (φ := .f32) (val_main_v73 (F := Ideal) x0 x1 x2) (fun _ t k => upto P.zp t (gx 2 k)) := by
  intro i r l
  pointwise [val_main_v73]
  simp only [r46 A _ _ _, A.all, kit, zero_add, add_zero, ups]
  all_goals exact congrArg (fun x : ℝ => (x : EReal)) (congrArg (upto P.zp r) (Fin.ext (by simp [gx]; try omega)))

theorem r76 : Is3 (φ := .f32) (val_main_v76 (F := Ideal) x0 x1 x2) (fun _ t k => pv (fun t k => upto P.zp t (gx 2 k)) t (win 2) k) := by
  intro i r l
  pointwise [val_main_v76, val_main_v75, val_main_v74, val_main_cst_6]
  simp only [r73 A _ _ _, A.all, kit, zero_add, add_zero, ups]
  rw [show win 2 = 8 from rfl]
  unfold pv
  refine congrArg (fun x : ℝ => (x : EReal)) ?_
  by_cases h : r.val < 8
  · rw [if_pos h, dif_pos (by omega)]
  · rw [if_neg h, dif_neg (by omega)]
    all_goals exact congrArg (fun n => upto P.zp n (gx 2 l)) (Fin.ext (by dsimp only; try omega))

theorem r79 : Is3 (φ := .f32) (val_main_v79 (F := Ideal) ) (fun _ t _ => cnt 2 t) := by
  intro i r l
  pointwise [val_main_v79, val_main_v78, val_main_cst_7]
  simp only [r50 A _ _ _, A.all, kit, zero_add, add_zero, ups]
  refine congrArg (fun x : ℝ => (x : EReal)) ?_
  unfold cnt
  rw [show win 2 = 8 from rfl]
  norm_num

theorem r82 : Is3 (φ := .f32) (val_main_v82 (F := Ideal) x0 x1 x2) (fun _ t k => P.zp t (gx 2 k)) := by
  intro i r l
  pointwise [val_main_v82]
  simp only [r22z A _ _ _, A.all, kit, zero_add, add_zero, ups]
  all_goals exact congrArg (fun x : ℝ => (x : EReal)) (congrArg (P.zp r) (Fin.ext (by simp [gx]; try omega)))

theorem r83 : E3 (φ := .f32) (val_main_v83 (F := Ideal) x0 x1 x2) (fun _ => pl P 2) := by
  intro i r l
  pointwise [val_main_v83, val_main_v81, val_main_v77, val_main_v80]
  simp only [r73 A _ _ _, r76 A _ _ _, r79 A _ _ _, r82 A _ _ _, A.all, kit, zero_add, add_zero, coe_div _ _ (cnt_pos _ _).ne', ups]
  all_goals exact congrArg (fun x : ℝ => (x : EReal)) (plr_eq P 2 r l)

theorem r84 : Is3 (φ := .f32) (val_main_v84 (F := Ideal) x0 x1 x2) (fun _ t k => upto P.zp t (gx 3 k)) := by
  intro i r l
  pointwise [val_main_v84]
  simp only [r46 A _ _ _, A.all, kit, zero_add, add_zero, ups]
  all_goals exact congrArg (fun x : ℝ => (x : EReal)) (congrArg (upto P.zp r) (Fin.ext (by simp [gx]; try omega)))

theorem r87 : Is3 (φ := .f32) (val_main_v87 (F := Ideal) x0 x1 x2) (fun _ t k => pv (fun t k => upto P.zp t (gx 3 k)) t (win 3) k) := by
  intro i r l
  pointwise [val_main_v87, val_main_v86, val_main_v85, val_main_cst_8]
  simp only [r84 A _ _ _, A.all, kit, zero_add, add_zero, ups]
  rw [show win 3 = 16 from rfl]
  unfold pv
  refine congrArg (fun x : ℝ => (x : EReal)) ?_
  by_cases h : r.val < 16
  · rw [if_pos h, dif_pos (by omega)]
  · rw [if_neg h, dif_neg (by omega)]
    all_goals exact congrArg (fun n => upto P.zp n (gx 3 l)) (Fin.ext (by dsimp only; try omega))

theorem r90 : Is3 (φ := .f32) (val_main_v90 (F := Ideal) ) (fun _ t _ => cnt 3 t) := by
  intro i r l
  pointwise [val_main_v90, val_main_v89, val_main_cst_9]
  simp only [r50 A _ _ _, A.all, kit, zero_add, add_zero, ups]
  refine congrArg (fun x : ℝ => (x : EReal)) ?_
  unfold cnt
  rw [show win 3 = 16 from rfl]
  norm_num

theorem r93 : Is3 (φ := .f32) (val_main_v93 (F := Ideal) x0 x1 x2) (fun _ t k => P.zp t (gx 3 k)) := by
  intro i r l
  pointwise [val_main_v93]
  simp only [r22z A _ _ _, A.all, kit, zero_add, add_zero, ups]
  all_goals exact congrArg (fun x : ℝ => (x : EReal)) (congrArg (P.zp r) (Fin.ext (by simp [gx]; try omega)))

theorem r94 : E3 (φ := .f32) (val_main_v94 (F := Ideal) x0 x1 x2) (fun _ => pl P 3) := by
  intro i r l
  pointwise [val_main_v94, val_main_v92, val_main_v88, val_main_v91]
  simp only [r84 A _ _ _, r87 A _ _ _, r90 A _ _ _, r93 A _ _ _, A.all, kit, zero_add, add_zero, coe_div _ _ (cnt_pos _ _).ne', ups]
  all_goals exact congrArg (fun x : ℝ => (x : EReal)) (plr_eq P 3 r l)

theorem r99 : E4 (φ := .f32) (val_main_v99 (F := Ideal) x0 x1 x2) (fun _ t j q => pl P j t q) := by
  intro i r j l
  obtain ⟨j, hj⟩ := j
  interval_cases j
  all_goals pointwise [val_main_v99, val_main_v95, val_main_v96, val_main_v97, val_main_v98]
  · exact r61 A _ _ _
  · exact r72 A _ _ _
  · exact r83 A _ _ _
  · exact r94 A _ _ _

theorem r102 : E3 (φ := .f32) (val_main_v102 (F := Ideal) x0 x1 x2 x4) (fun _ t l => pm P (gq l) t (gr l)) := by
  intro i r l
  pointwise [val_main_v102, val_main_v101, val_main_v100, val_main_v9]
  simp only [r99 A _ _ _ _, A.all, kit, zero_add, add_zero]
  all_goals exact Finset.sum_congr rfl fun q _ => mul_comm _ _

theorem r107 : E3 (φ := .f32) (val_main_v107 (F := Ideal) x0 x1 x2 x3 x4 x5) (fun _ => cat P) := by
  intro i r l
  pointwise [val_main_v107, val_main_v106, val_main_v105, val_main_v104, val_main_v103, val_main_v10]
  simp only [r19 A _ _ _, r45 A _ _ _, r102 A _ _ _, A.all, kit, zero_add, add_zero]
  unfold cat
  split_ifs <;> rfl

theorem r108 : E3 (φ := .f32) (val_main_v108 (F := Ideal) x0 x1 x2 x3 x4 x5 x6) (fun _ => mix P) := by
  intro i r l
  pointwise [val_main_v108, val_main_v11]
  simp only [r107 A _ _ _, A.all, kit, zero_add, add_zero]
  all_goals rfl

theorem r109 : E3 (φ := .f32) (val_main_v109 (F := Ideal) x0 x1 x2) (fun _ => plf P) := by
  intro i r l
  pointwise [val_main_v109]
  simp only [r99 A _ _ _ _, A.all, kit, zero_add, add_zero]
  all_goals rfl

theorem r116 : E3 (φ := .f32) (val_main_v116 (F := Ideal) x0 x1 x2 x3 x4 x5 x6) (fun _ => res P) := by
  intro i r l
  pointwise [val_main_v116, val_main_v111, val_main_v110, val_main_cst_10, val_main_v115, val_main_v114, val_main_v113, val_main_v112, val_main_cst_11, val_main_v3, val_main_v0]
  simp only [r108 A _ _ _, A.all, kit, zero_add, add_zero]
  all_goals rfl

theorem r122 : E3 (φ := .f32) (val_main_v122 (F := Ideal) x0 x1 x2 x3 x4 x5 x6) (fun _ t _ => mean (res P t)) := by
  intro i r l
  pointwise [val_main_v122, val_main_v120, val_main_v119, val_main_cst_12, val_main_v121, val_main_cst_13]
  simp only [r116 A _ _ _, A.all, kit, zero_add, add_zero]
  all_goals rfl

theorem r124 : E3 (φ := .f32) (val_main_v124 (F := Ideal) x0 x1 x2 x3 x4 x5 x6) (fun _ t => cen (res P t)) := by
  intro i r l
  pointwise [val_main_v124, val_main_v123]
  simp only [r116 A _ _ _, r122 A _ _ _, A.all, kit, zero_add, add_zero]
  all_goals rfl

theorem r131 : E3 (φ := .f32) (val_main_v131 (F := Ideal) x0 x1 x2 x3 x4 x5 x6) (fun _ t => cen (res P t)) := by
  intro i r l
  pointwise [val_main_v131, val_main_v130]
  simp only [r116 A _ _ _, r122 A _ _ _, A.all, kit, zero_add, add_zero]
  all_goals rfl

theorem r129 : E3 (φ := .f32) (val_main_v129 (F := Ideal) x0 x1 x2 x3 x4 x5 x6) (fun _ t _ => var (res P t)) := by
  intro i r l
  pointwise [val_main_v129, val_main_v127, val_main_v126, val_main_v125, val_main_cst_14, val_main_v128, val_main_cst_15]
  simp only [r124 A _ _ _, A.all, kit, zero_add, add_zero]
  all_goals rfl

theorem r134 : E3 (φ := .f32) (val_main_v134 (F := Ideal) x0 x1 x2 x3 x4 x5 x6) (fun _ t _ => Ideal.rsqrt (var (res P t) + Ideal.ofBits .f32 0x3727C5AC#32)) := by
  intro i r l
  pointwise [val_main_v134, val_main_v133, val_main_v132, val_main_cst_16]
  simp only [r129 A _ _ _, A.all, kit, zero_add, add_zero]
  all_goals rfl

theorem r142 : E3 (φ := .f32) (val_main_v142 (F := Ideal) x0 x1 x2 x3 x4 x5 x6 x7 x8) (fun _ => Cert.FwdMath.x1 P) := by
  intro i r l
  pointwise [val_main_v142, val_main_v139, val_main_v136, val_main_v135, val_main_v138, val_main_v137, val_main_v117, val_main_v141, val_main_v140, val_main_v118]
  simp only [r131 A _ _ _, r134 A _ _ _, A.all, kit, zero_add, add_zero]
  all_goals rfl

theorem r143 : E3 (φ := .f32) (val_main_v143 (F := Ideal) x0 x1 x2 x3) (fun _ => zc P) := by
  intro i r l
  pointwise [val_main_v143]
  simp only [r19 A _ _ _, r20 A _ _ _, r21 A _ _ _, r45 A _ _ _, r109 A _ _ _, A.all, kit, zero_add, add_zero]
  exact cat5e (fun j k => zs P j r k) l

theorem r144 : E2 (φ := .f32) (val_main_v144 (F := Ideal) x0 x1 x2 x3 x4 x5 x6 x7 x8) (Cert.FwdMath.x1 P) := by
  intro r l
  pointwise [val_main_v144]
  simp only [r142 A _ _ _, A.all, kit, zero_add, add_zero]
  all_goals rfl

theorem r146 : E2 (φ := .bf16) (val_main_v146 (F := Ideal) x0 x1 x2 x3) (zc P) := by
  intro r l
  pointwise [val_main_v146, val_main_v145]
  simp only [r143 A _ _ _, A.all, kit, zero_add, add_zero]
  all_goals rfl

theorem r147 : E2 (φ := .f32) (val_main_v147 (F := Ideal) x0 x1 x2 x3 x4 x5 x6) (mix P) := by
  intro r l
  pointwise [val_main_v147]
  simp only [r108 A _ _ _, A.all, kit, zero_add, add_zero]
  all_goals rfl

theorem r149 : E2 (φ := .bf16) (val_main_v149 (F := Ideal) x0 x1) (h P) := by
  intro r l
  pointwise [val_main_v149, val_main_v148]
  simp only [r17 A _ _ _, A.all, kit, zero_add, add_zero]
  all_goals rfl

theorem r151 : E2 (φ := .bf16) (val_main_v151 (F := Ideal) x0 x1 x2 x3 x4 x5) (cat P) := by
  intro r l
  pointwise [val_main_v151, val_main_v150]
  simp only [r107 A _ _ _, A.all, kit, zero_add, add_zero]
  all_goals rfl

end Cert.FwdRefIdeal.Real

end
-- ==== Proof.FwdAlg.lean ====
/- The mixer and its reference leave the same arrays, where the pooled channels are finite. -/
module

public import proofs.«01_k».proof.Defs
public import proofs.«01_k».proof.Proof.Gen.Pre_fwd_finite
public import proofs.«01_k».proof.Proof.Gen.FwdRefIdeal.Run
public import proofs.«01_k».proof.Proof.FwdFinal
public import proofs.«01_k».proof.Proof.FwdRef
public import proofs.«01_k».proof.Proof.MlpAlg

@[expose] public section

noncomputable section

namespace Cert.FwdAlg

open Idealize.ShloMosaic Idealize.ShloMosaic.TcCoe Idealize.SL.Sem Cert.RealLift Cert.FwdMath
open Cert.BwdMath (zx)
open Cert.MlpAlg (real_of_flag)

/-- A finite input, modulation and projection make finite pooled channels. -/
theorem pooled_real {P : Par} {X : Fin 8192 → Fin 1024 → ℝ} {sh sc : Fin 1024 → ℝ} {W : Fin 1024 → Fin 512 → ℝ}
    (hx : ∀ t k, P.x t k = ((X t k : ℝ) : EReal)) (hsh : ∀ k, P.sh k = ((sh k : ℝ) : EReal)) (hsc : ∀ k, P.sc k = ((sc k : ℝ) : EReal))
    (hw : ∀ k l, P.wi k (zx 3 l) = ((W k l : ℝ) : EReal)) (t : Fin 8192) (l : Fin 512) :
    zj P 3 t l = ((∑ k, (X t k * (1 + sc k) + sh k) * W k l : ℝ) : EReal) := by
  unfold zj h
  simp only [hx, hsh, hsc, hw, show (1 : EReal) = ((1 : ℝ) : EReal) from rfl, ← EReal.coe_add, ← EReal.coe_mul, coe_sum]

/-- Under the precondition the pooled channels are real. -/
theorem args_of_pre (m : (ℓ : Loc Cert.FwdIdeal.nD Cert.FwdIdeal.τ Cert.FwdIdeal.sig) → Buf (Elt Ideal) ℓ)
    (h : Cert.Pre_FwdIdeal_fwd_finite m) (c : Dev Cert.FwdIdeal.nD) : ∃ zp : Fin 8192 → Fin 512 → ℝ, ∀ t l, zj (Cert.FwdIdeal.Pay.pars m c zp) 3 t l = ((zp t l : ℝ) : EReal) := by
  obtain ⟨h0, h1, h2⟩ := h c
  choose X hX using fun (i : Fin 1) (r : Fin 8192) (k : Fin 1024) => real_of_flag (congrFun h0 (ix3 i r k))
  choose md hmd using fun (i : Fin 1) (k : Fin 2048) => real_of_flag (congrFun h1 (ix2 i k))
  choose W hW using fun (i : Fin 1) (r : Fin 1024) (k : Fin 512) => real_of_flag (congrFun h2 (ix3 i r k))
  have hmd' : ∀ k : Fin 2048, m (c, Proc.tc.devRef Cert.FwdIdeal.main_arg1) (ix2 0 ⟨k.val, by omega⟩) = ((md 0 k : ℝ) : EReal) := fun k => by
    rw [← hmd 0 k]
    pointwise []
  have hW' : ∀ (r : Fin 1024) (k : Fin 512), m (c, Proc.tc.devRef Cert.FwdIdeal.main_arg2) (ix3 0 r (zx 3 k)) = ((W 0 r k : ℝ) : EReal) := fun r k => by
    rw [← hW 0 r k]
    pointwise []
    rfl
  exact ⟨_, fun t l => pooled_real (P := Cert.FwdIdeal.Pay.pars m c _) (fun t k => hX 0 t k) (fun k => hmd' ⟨k.val, by omega⟩) (fun k => hmd' ⟨1024 + k.val, by omega⟩) hW' t l⟩

set_option maxHeartbeats 4000000 in
open Cert.FwdIdeal.Pay Cert.FwdRefIdeal.Real in
/-- Where the pooled channels are finite the call and its reference leave equal arrays. -/
theorem algebraic : Cert.algebraic_FwdIdeal_FwdRefIdeal_pre_fwd_finite := by
  intro m g m' g' hpre hagree
  refine ⟨_, _, _, _, _, Cert.FwdIdeal.Value.run_blocks m g, ?_⟩
  have key : ∀ c : Dev Cert.FwdIdeal.nD, ∃ P, (∀ t, Ins m c t P (tl t)) ∧ RArgs (m' (c.tc.loc Cert.FwdRefIdeal.main_arg0)) (m' (c.tc.loc Cert.FwdRefIdeal.main_arg1)) (m' (c.tc.loc Cert.FwdRefIdeal.main_arg2)) (m' (c.tc.loc Cert.FwdRefIdeal.main_arg3)) (m' (c.tc.loc Cert.FwdRefIdeal.main_arg4)) (m' (c.tc.loc Cert.FwdRefIdeal.main_arg5)) (m' (c.tc.loc Cert.FwdRefIdeal.main_arg6)) (m' (c.tc.loc Cert.FwdRefIdeal.main_arg7)) (m' (c.tc.loc Cert.FwdRefIdeal.main_arg8)) P := fun c => by
    obtain ⟨zp, Z⟩ := args_of_pre m hpre c
    obtain ⟨e0, e1, e2, e3, e4, e5, e6, e7, e8⟩ := hagree c
    refine ⟨pars m c zp, ins m c Z, ?_⟩
    rw [e0, e1, e2, e3, e4, e5, e6, e7, e8]
    exact RArgs.of Z
  clear hagree
  refine (θ_run Cert.FwdRefIdeal.defs _ _).mono (fun r h c => ?_) (Cert.FwdRefIdeal.Value.run m' g')
  obtain ⟨P, I, R⟩ := key c
  obtain ⟨h0, h1, h2, h3, h4, hk⟩ := h c
  refine ⟨h0.trans ?_, h1.trans ?_, h2.trans ?_, h3.trans ?_, h4.trans ?_, hk⟩
  · exact (show _ = _ from funext fun y => E2.at (r144 R) y rfl rfl).trans (out9 I).symm
  · exact (show _ = _ from funext fun y => E2.at (r146 R) y rfl rfl).trans (out10 I).symm
  · exact (show _ = _ from funext fun y => E2.at (r147 R) y rfl rfl).trans (out11 I).symm
  · exact (show _ = _ from funext fun y => E2.at (r149 R) y rfl rfl).trans (out12 I).symm
  · exact (show _ = _ from funext fun y => E2.at (r151 R) y rfl rfl).trans (out13 I).symm

end Cert.FwdAlg

end
-- ==== Proof.AdamMath.lean ====
/- The optimiser's arithmetic over the extended reals, entry by entry: AdamW's first step, with the constants both programs print. -/
module

public import Idealize.ShloMosaic.Lib.Pointwise

@[expose] public section

set_option maxRecDepth 65536

noncomputable section

open Idealize.ShloMosaic

namespace Cert.AdamMath

/-- A constant of the programs, from its bits. -/
abbrev k32 (b : BitVec 32) : EReal := Ideal.ofBits FTy.f32 b
/-- The first moment, from the gradient and the moment before. -/
def nm (g m : EReal) : EReal := k32 0x3F666666#32 * m + k32 0x3DCCCCCD#32 * g
/-- The second moment. -/
def nv (g v : EReal) : EReal := k32 0x3F7FBE77#32 * v + k32 0x3A83126F#32 * (g * g)
/-- The step of the weight `w`. -/
def dl (w g m v : EReal) : EReal :=
  k32 0xBA83126F#32 * (Ideal.div (Ideal.div (nm g m) (k32 0x3F26BD02#32)) (Ideal.sqrt (Ideal.div (nv g v) (k32 0x3C231ACC#32)) + k32 0x322BCC77#32) + k32 0x3C23D70A#32 * w)
/-- The activation of the conditioning vector. -/
def silu (x : EReal) : EReal := x * Ideal.div 1 (1 + Ideal.exp (-x))

end Cert.AdamMath

end
-- ==== Proof.AdaAlg.lean ====
/- The gradient of the modulation's weight and its optimiser step: what the call leaves, and that its reference leaves the same. -/
module

public import Idealize.ShloMosaic.Lib.Claim
public import Idealize.ShloMosaic.Lib.Pipeline.ValueKit
public import Idealize.ShloMosaic.Lib.Pipeline.ReadBack
public import proofs.«01_k».proof.Proof.AdamMath
public import proofs.«01_k».proof.Proof.FwdMath
public import proofs.«01_k».proof.Proof.Gen.AdaIdeal.Value
public import proofs.«01_k».proof.Proof.Gen.AdaRefIdeal.Read
public import proofs.«01_k».proof.Proof.Gen.AdaRefIdeal.Run
public import proofs.«01_k».proof.Defs

@[expose] public section

set_option maxRecDepth 65536

noncomputable section

open Idealize.ShloMosaic Idealize.ShloMosaic.TcCoe Idealize.SL.Sem

namespace Cert.AdaIdeal.Pay

open Cert.AdaIdeal Cert.AdaIdeal.Gen Cert.FwdMath Cert.AdamMath

/-- Entry `(r, k)` of the gradient: over the batch, the activated vector times the modulation's gradient. -/
def gr (x0 : FVec Ideal S8x1024 .f32) (x1 : FVec Ideal S8x1536 .f32) (r : Fin 1024) (k : Fin 1536) : EReal := ∑ b : Fin 8, silu (x0 (ix2 b r)) * x1 (ix2 b k)

variable {cd : FVec Ideal S8x128 .f32} {dm : FVec Ideal S8x1536 .f32} {w mm v : FVec Ideal S128x1536 .f32}
  {fc : Fin 8 → Fin 128 → EReal} {fd : Fin 8 → Fin 1536 → EReal} {fw fm fv : Fin 128 → Fin 1536 → EReal}

theorem p1 (hc : E2 cd fc) (hd : E2 dm fd) : E2 (k0_pay1 (F := Ideal) cd dm) fun r k => ∑ b : Fin 8, fc b r * fd b k := by
  intro r k
  pointwise [k0_pay1]
  simp only [hc _ _, hd _ _, zero_add]
theorem p2 (hc : E2 cd fc) (hd : E2 dm fd) (hm : E2 mm fm) : E2 (k0_pay2 (F := Ideal) cd dm mm) fun r k => nm (∑ b : Fin 8, fc b r * fd b k) (fm r k) := by
  intro r k
  have h := p1 hc hd r k
  pointwise [k0_pay2]
  simp only [h, hm _ _]
  rfl
theorem p3 (hc : E2 cd fc) (hd : E2 dm fd) (hv : E2 v fv) : E2 (k0_pay3 (F := Ideal) cd dm v) fun r k => nv (∑ b : Fin 8, fc b r * fd b k) (fv r k) := by
  intro r k
  have h := p1 hc hd r k
  pointwise [k0_pay3]
  simp only [h, hv _ _]
  rfl
theorem p4 (hc : E2 cd fc) (hd : E2 dm fd) (hw : E2 w fw) (hm : E2 mm fm) (hv : E2 v fv) :
    E2 (k0_pay4 (F := Ideal) cd dm w mm v) fun r k => dl (fw r k) (∑ b : Fin 8, fc b r * fd b k) (fm r k) (fv r k) := by
  intro r k
  have h2 := p2 hc hd hm r k
  have h3 := p3 hc hd hv r k
  pointwise [k0_pay4]
  simp only [h2, h3, hw _ _]
  rfl

/-- Where each window's block lies, at every grid point. -/
theorem odx : ∀ t : Fin cfg0.N, win0_5.index t = ![t.val, 0] ∧ win0_6.index t = ![t.val, 0] ∧ win0_7.index t = ![t.val, 0] ∧ win0_8.index t = ![t.val, 0] :=
  (by decide +kernel : ∀ t : Fin grid0.N, _)
theorem idx : ∀ t : Fin cfg0.N, win0_0.index t = ![0, t.val] ∧ win0_1.index t = ![0, 0] ∧ win0_2.index t = ![t.val, 0] ∧ win0_3.index t = ![t.val, 0] ∧ win0_4.index t = ![t.val, 0] :=
  (by decide +kernel : ∀ t : Fin grid0.N, _)
theorem lt_N (t : Fin cfg0.N) : t.val < 8 := lt_of_lt_of_eq t.isLt N_0
/-- The row of the whole array that row `r` of block `t` is. -/
def row (t : Fin cfg0.N) (r : Fin 128) : Fin 1024 := ⟨t.val * 128 + r.val, by have := lt_N t; omega⟩

variable (m : (ℓ : Loc nD τ sig) → Buf (Elt Ideal) ℓ) (c : Dev nD)

/-- An argument of device `c`, as a matrix. -/
abbrev a3 (x : FVec Ideal S1x1024x1536 .f32) (r : Fin 1024) (k : Fin 1536) : EReal := x (ix3 0 r k)

abbrev ar0 : FVec Ideal S8x1024 .f32 := m (c, Proc.tc.devRef main_arg0)
abbrev ar1 : FVec Ideal S8x1536 .f32 := m (c, Proc.tc.devRef main_arg1)
abbrev ar2 : FVec Ideal S1x1024x1536 .f32 := m (c, Proc.tc.devRef main_arg2)
abbrev ar3 : FVec Ideal S1x1024x1536 .f32 := m (c, Proc.tc.devRef main_arg3)
abbrev ar4 : FVec Ideal S1x1024x1536 .f32 := m (c, Proc.tc.devRef main_arg4)

/-- The activated conditioning vectors, as the host computes them. -/
abbrev act (x : FVec Ideal S8x1024 .f32) : FVec Ideal S8x1024 .f32 :=
  mulf x (Host.divf (broadcastInDim S8x1024 ![] bcast_S_S8x1024 (constant S_ .f32 0x3F800000#32 : FVec Ideal S_ .f32)) (addf (broadcastInDim S8x1024 ![] bcast_S_S8x1024 (constant S_ .f32 0x3F800000#32 : FVec Ideal S_ .f32)) (Host.exp (Host.negf x))))
theorem q1 (x : FVec Ideal S8x1024 .f32) (b : Fin 8) (k : Fin 1024) : act x (ix2 b k) = silu (x (ix2 b k)) := by
  pointwise []
  rfl
theorem q (x : FVec Ideal S1x1024x1536 .f32) (r : Fin 1024) (k : Fin 1536) : (shapeCast S1024x1536 x shapeCasts_S1x1024x1536_S1024x1536 : FVec Ideal S1024x1536 .f32) (ix2 r k) = a3 x r k := by
  pointwise []
theorem s1 : (V m c main_v1 : FVec Ideal S8x1024 .f32) = act (ar0 m c) := by
  entry_read
  rfl
theorem s2 : (V m c main_v2 : FVec Ideal S1024x1536 .f32) = (shapeCast S1024x1536 (ar2 m c) shapeCasts_S1x1024x1536_S1024x1536 : FVec Ideal S1024x1536 .f32) := by
  entry_read
  rfl
theorem s3 : (V m c main_v3 : FVec Ideal S1024x1536 .f32) = (shapeCast S1024x1536 (ar3 m c) shapeCasts_S1x1024x1536_S1024x1536 : FVec Ideal S1024x1536 .f32) := by
  entry_read
  rfl
theorem s4 : (V m c main_v4 : FVec Ideal S1024x1536 .f32) = (shapeCast S1024x1536 (ar4 m c) shapeCasts_S1x1024x1536_S1024x1536 : FVec Ideal S1024x1536 .f32) := by
  entry_read
  rfl
theorem e0 (t : Fin cfg0.N) : E2 (φ := .f32) (iblk m c 0 t : FVec Ideal S8x128 .f32) fun b r => silu (ar0 m c (ix2 b (row t r))) := by
  intro r k
  refine (show _ = (V m c main_v1 : FVec Ideal S8x1024 .f32) (ix2 r (row t k)) from ?_).trans ?_
  · blk_simp [iblk]
    unfold row
    blk_ext [idx t]
  · exact (congrFun (s1 m c) _).trans (q1 _ r (row t k))
theorem e1 (t : Fin cfg0.N) : E2 (φ := .f32) (iblk m c 1 t : FVec Ideal S8x1536 .f32) fun b k => ar1 m c (ix2 b k) := by
  intro r k
  blk_simp [iblk]
  entry_read
  blk_ext [idx t]
theorem e2 (t : Fin cfg0.N) : E2 (φ := .f32) (iblk m c 2 t : FVec Ideal S128x1536 .f32) fun r k => a3 (ar2 m c) (row t r) k := by
  intro r k
  refine (show _ = (V m c main_v2 : FVec Ideal S1024x1536 .f32) (ix2 (row t r) k) from ?_).trans ?_
  · blk_simp [iblk]
    unfold row
    blk_ext [idx t]
  · exact (congrFun (s2 m c) _).trans (q _ (row t r) k)
theorem e3 (t : Fin cfg0.N) : E2 (φ := .f32) (iblk m c 3 t : FVec Ideal S128x1536 .f32) fun r k => a3 (ar3 m c) (row t r) k := by
  intro r k
  refine (show _ = (V m c main_v3 : FVec Ideal S1024x1536 .f32) (ix2 (row t r) k) from ?_).trans ?_
  · blk_simp [iblk]
    unfold row
    blk_ext [idx t]
  · exact (congrFun (s3 m c) _).trans (q _ (row t r) k)
theorem e4 (t : Fin cfg0.N) : E2 (φ := .f32) (iblk m c 4 t : FVec Ideal S128x1536 .f32) fun r k => a3 (ar4 m c) (row t r) k := by
  intro r k
  refine (show _ = (V m c main_v4 : FVec Ideal S1024x1536 .f32) (ix2 (row t r) k) from ?_).trans ?_
  · blk_simp [iblk]
    unfold row
    blk_ext [idx t]
  · exact (congrFun (s4 m c) _).trans (q _ (row t r) k)

theorem blk5 (t : Fin cfg0.N) : E2 (φ := .f32) ((dats m 0 c).after 5 t : FVec Ideal S128x1536 .f32) fun r k => gr (ar0 m c) (ar1 m c) (row t r) k := by
  rw [after0_5]
  frame_open
  frame_out
  exact p1 (e0 m c t) (e1 m c t)
theorem out5 :
    (dats m 0 c).arrAt 5 cfg0.N = (fun y => gr (ar0 m c) (ar1 m c) (y 0) (y 1) : FVec Ideal S1024x1536 .f32) := by
  refine (dats m 0 c).arrAt_eq_of_covers 5 _ (by decide +kernel) fun t hf y => ?_
  have hb := blk5 m c t
  blk_simp
  have h1 : (y 1 : ℕ) < 1536 := (y 1).isLt
  have h0 : (y 0 : ℕ) < 128 := (y 0).isLt
  refine (E2.at hb y (r := ⟨y 0, h0⟩) (c := ⟨y 1, h1⟩) rfl rfl).trans ?_
  have ea : (((cfg0.win 5).blk t).view.emb y 0 : Fin 1024) = row t ⟨y 0, h0⟩ := Fin.ext (by unfold row; blk_simp [odx t]; done)
  have eb : (((cfg0.win 5).blk t).view.emb y 1 : Fin 1536) = ⟨y 1, h1⟩ := Fin.ext (by blk_simp [odx t])
  exact (congrArg₂ (fun r k => gr (ar0 m c) (ar1 m c) r k) ea eb).symm

theorem blk6 (t : Fin cfg0.N) : E2 (φ := .f32) ((dats m 0 c).after 6 t : FVec Ideal S128x1536 .f32) fun r k => dl (a3 (ar2 m c) (row t r) k) (gr (ar0 m c) (ar1 m c) (row t r) k) (a3 (ar3 m c) (row t r) k) (a3 (ar4 m c) (row t r) k) := by
  rw [after0_6]
  frame_open
  frame_out
  exact p4 (e0 m c t) (e1 m c t) (e2 m c t) (e3 m c t) (e4 m c t)
theorem out6 :
    (dats m 0 c).arrAt 6 cfg0.N = (fun y => dl (a3 (ar2 m c) (y 0) (y 1)) (gr (ar0 m c) (ar1 m c) (y 0) (y 1)) (a3 (ar3 m c) (y 0) (y 1)) (a3 (ar4 m c) (y 0) (y 1)) : FVec Ideal S1024x1536 .f32) := by
  refine (dats m 0 c).arrAt_eq_of_covers 6 _ (by decide +kernel) fun t hf y => ?_
  have hb := blk6 m c t
  blk_simp
  have h1 : (y 1 : ℕ) < 1536 := (y 1).isLt
  have h0 : (y 0 : ℕ) < 128 := (y 0).isLt
  refine (E2.at hb y (r := ⟨y 0, h0⟩) (c := ⟨y 1, h1⟩) rfl rfl).trans ?_
  have ea : (((cfg0.win 6).blk t).view.emb y 0 : Fin 1024) = row t ⟨y 0, h0⟩ := Fin.ext (by unfold row; blk_simp [odx t]; done)
  have eb : (((cfg0.win 6).blk t).view.emb y 1 : Fin 1536) = ⟨y 1, h1⟩ := Fin.ext (by blk_simp [odx t])
  exact (congrArg₂ (fun r k => dl (a3 (ar2 m c) r k) (gr (ar0 m c) (ar1 m c) r k) (a3 (ar3 m c) r k) (a3 (ar4 m c) r k)) ea eb).symm

theorem blk7 (t : Fin cfg0.N) : E2 (φ := .f32) ((dats m 0 c).after 7 t : FVec Ideal S128x1536 .f32) fun r k => nm (gr (ar0 m c) (ar1 m c) (row t r) k) (a3 (ar3 m c) (row t r) k) := by
  rw [after0_7]
  frame_open
  frame_out
  exact p2 (e0 m c t) (e1 m c t) (e3 m c t)
theorem out7 :
    (dats m 0 c).arrAt 7 cfg0.N = (fun y => nm (gr (ar0 m c) (ar1 m c) (y 0) (y 1)) (a3 (ar3 m c) (y 0) (y 1)) : FVec Ideal S1024x1536 .f32) := by
  refine (dats m 0 c).arrAt_eq_of_covers 7 _ (by decide +kernel) fun t hf y => ?_
  have hb := blk7 m c t
  blk_simp
  have h1 : (y 1 : ℕ) < 1536 := (y 1).isLt
  have h0 : (y 0 : ℕ) < 128 := (y 0).isLt
  refine (E2.at hb y (r := ⟨y 0, h0⟩) (c := ⟨y 1, h1⟩) rfl rfl).trans ?_
  have ea : (((cfg0.win 7).blk t).view.emb y 0 : Fin 1024) = row t ⟨y 0, h0⟩ := Fin.ext (by unfold row; blk_simp [odx t]; done)
  have eb : (((cfg0.win 7).blk t).view.emb y 1 : Fin 1536) = ⟨y 1, h1⟩ := Fin.ext (by blk_simp [odx t])
  exact (congrArg₂ (fun r k => nm (gr (ar0 m c) (ar1 m c) r k) (a3 (ar3 m c) r k)) ea eb).symm

theorem blk8 (t : Fin cfg0.N) : E2 (φ := .f32) ((dats m 0 c).after 8 t : FVec Ideal S128x1536 .f32) fun r k => nv (gr (ar0 m c) (ar1 m c) (row t r) k) (a3 (ar4 m c) (row t r) k) := by
  rw [after0_8]
  frame_open
  frame_out
  exact p3 (e0 m c t) (e1 m c t) (e4 m c t)
theorem out8 :
    (dats m 0 c).arrAt 8 cfg0.N = (fun y => nv (gr (ar0 m c) (ar1 m c) (y 0) (y 1)) (a3 (ar4 m c) (y 0) (y 1)) : FVec Ideal S1024x1536 .f32) := by
  refine (dats m 0 c).arrAt_eq_of_covers 8 _ (by decide +kernel) fun t hf y => ?_
  have hb := blk8 m c t
  blk_simp
  have h1 : (y 1 : ℕ) < 1536 := (y 1).isLt
  have h0 : (y 0 : ℕ) < 128 := (y 0).isLt
  refine (E2.at hb y (r := ⟨y 0, h0⟩) (c := ⟨y 1, h1⟩) rfl rfl).trans ?_
  have ea : (((cfg0.win 8).blk t).view.emb y 0 : Fin 1024) = row t ⟨y 0, h0⟩ := Fin.ext (by unfold row; blk_simp [odx t]; done)
  have eb : (((cfg0.win 8).blk t).view.emb y 1 : Fin 1536) = ⟨y 1, h1⟩ := Fin.ext (by blk_simp [odx t])
  exact (congrArg₂ (fun r k => nv (gr (ar0 m c) (ar1 m c) r k) (a3 (ar4 m c) r k)) ea eb).symm

end Cert.AdaIdeal.Pay

namespace Cert.AdaRefIdeal.Real

open Cert.AdaRefIdeal Cert.AdaRefIdeal.Gen Cert.AdaRefIdeal.Read Cert.FwdMath Cert.AdamMath
open Cert.AdaIdeal.Pay (gr a3)

variable (x0 : FVec Ideal S8x1024 .f32) (x1 : FVec Ideal S8x1536 .f32) (x2 x3 x4 : FVec Ideal S1x1024x1536 .f32)

theorem r0 : E2 (φ := .f32) (val_main_v0 (F := Ideal) x0) fun b k => silu (x0 (ix2 b k)) := by
  intro r k
  pointwise [val_main_v0, val_main_call0_v5, val_main_call0_v4, val_main_call0_v3, val_main_call0_v2, val_main_call0_v1, val_main_call0_v0, val_main_call0_cst, val_main_call0_cst_0]
  rfl
theorem r5 (i : Fin 1) (r : Fin 1024) (k : Fin 1536) : (val_main_v5 (F := Ideal) x0 x1 : FVec Ideal S1x1024x1536 .f32) (ix3 i r k) = gr x0 x1 r k := by
  have h := r0 x0
  pointwise [val_main_v5, val_main_v4, val_main_v3]
  simp only [h _ _, zero_add]
  exact Finset.sum_congr rfl fun b _ => mul_comm _ _
theorem r30 : E2 (φ := .f32) (val_main_v30 (F := Ideal) x0 x1) fun r k => gr x0 x1 r k := by
  intro r k
  have h := r5 x0 x1
  pointwise [val_main_v30]
  simp only [h _ _ _]
theorem r31 : E2 (φ := .f32) (val_main_v31 (F := Ideal) x0 x1 x2 x3 x4) fun r k => dl (a3 x2 r k) (gr x0 x1 r k) (a3 x3 r k) (a3 x4 r k) := by
  intro r k
  have h := r5 x0 x1
  pointwise [val_main_v31, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_cst, val_main_cst_0, val_main_cst_1, val_main_cst_2, val_main_cst_3, val_main_cst_4, val_main_cst_5, val_main_cst_6, val_main_cst_7]
  simp only [h _ _ _]
  rfl
theorem r32 : E2 (φ := .f32) (val_main_v32 (F := Ideal) x0 x1 x3) fun r k => nm (gr x0 x1 r k) (a3 x3 r k) := by
  intro r k
  have h := r5 x0 x1
  pointwise [val_main_v32, val_main_v10, val_main_v9, val_main_v8, val_main_v7, val_main_v6, val_main_cst, val_main_cst_0]
  simp only [h _ _ _]
  rfl
theorem r33 : E2 (φ := .f32) (val_main_v33 (F := Ideal) x0 x1 x4) fun r k => nv (gr x0 x1 r k) (a3 x4 r k) := by
  intro r k
  have h := r5 x0 x1
  pointwise [val_main_v33, val_main_v16, val_main_v15, val_main_v14, val_main_v13, val_main_v12, val_main_v11, val_main_cst_1, val_main_cst_2]
  simp only [h _ _ _]
  rfl

end Cert.AdaRefIdeal.Real

namespace Cert.AdaAlg

set_option maxHeartbeats 4000000 in
open Cert.AdaIdeal.Pay Cert.AdaRefIdeal.Real Cert.FwdMath in
/-- The call and its reference leave equal arrays, whatever the arguments. -/
theorem algebraic : Cert.algebraic_AdaIdeal_AdaRefIdeal := by
  intro m g m' g' _ hagree
  refine ⟨_, _, _, _, Cert.AdaIdeal.Value.run_blocks m g, ?_⟩
  refine (θ_run Cert.AdaRefIdeal.defs _ _).mono (fun r h c => ?_) (Cert.AdaRefIdeal.Value.run m' g')
  obtain ⟨e0, e1, e2, e3, e4⟩ := hagree c
  obtain ⟨h0, h1, h2, h3, hk⟩ := h c
  simp only [e0, e1, e2, e3, e4] at h0 h1 h2 h3
  refine ⟨h0.trans ?_, h1.trans ?_, h2.trans ?_, h3.trans ?_, hk⟩
  · exact (show _ = _ from funext fun y => E2.at (r30 _ _ ) y rfl rfl).trans (out5 m c).symm
  · exact (show _ = _ from funext fun y => E2.at (r31 _ _ _ _ _ ) y rfl rfl).trans (out6 m c).symm
  · exact (show _ = _ from funext fun y => E2.at (r32 _ _ _ ) y rfl rfl).trans (out7 m c).symm
  · exact (show _ = _ from funext fun y => E2.at (r33 _ _ _ ) y rfl rfl).trans (out8 m c).symm

end Cert.AdaAlg

end
-- ==== Proof.OptAlg.lean ====
/- The optimiser of the two weights of the perceptron: what the call leaves, and that its reference leaves the same. -/
module

public import Idealize.ShloMosaic.Lib.Claim
public import Idealize.ShloMosaic.Lib.Pipeline.ValueKit
public import Idealize.ShloMosaic.Lib.Pipeline.ReadBack
public import proofs.«01_k».proof.Proof.AdamMath
public import proofs.«01_k».proof.Proof.FwdMath
public import proofs.«01_k».proof.Proof.Gen.OptIdeal.Value
public import proofs.«01_k».proof.Proof.Gen.OptRefIdeal.Read
public import proofs.«01_k».proof.Proof.Gen.OptRefIdeal.Run
public import proofs.«01_k».proof.Defs

@[expose] public section

set_option maxRecDepth 65536

noncomputable section

open Idealize.ShloMosaic Idealize.ShloMosaic.TcCoe Idealize.SL.Sem

namespace Cert.OptIdeal.Pay

open Cert.OptIdeal Cert.OptIdeal.Gen Cert.FwdMath Cert.AdamMath

variable {w g mm v : FVec Ideal S256x1024 .f32} {fw fg fm fv : Fin 256 → Fin 1024 → EReal}

theorem p1 (hg : E2 g fg) (hm : E2 mm fm) : E2 (k0_pay1 (F := Ideal) g mm) fun r k => nm (fg r k) (fm r k) := by
  intro r k
  pointwise [k0_pay1]
  simp only [hg _ _, hm _ _]
  rfl
theorem p2 (hg : E2 g fg) (hv : E2 v fv) : E2 (k0_pay2 (F := Ideal) g v) fun r k => nv (fg r k) (fv r k) := by
  intro r k
  pointwise [k0_pay2]
  simp only [hg _ _, hv _ _]
  rfl
theorem p3 (hw : E2 w fw) (hg : E2 g fg) (hm : E2 mm fm) (hv : E2 v fv) :
    E2 (k0_pay3 (F := Ideal) w g mm v) fun r k => dl (fw r k) (fg r k) (fm r k) (fv r k) := by
  intro r k
  pointwise [k0_pay3, k0_pay1, k0_pay2]
  simp only [hw _ _, hg _ _, hm _ _, hv _ _]
  rfl
theorem p4 (hg : E2 g fg) (hm : E2 mm fm) : E2 (k0_pay4 (F := Ideal) g mm) fun r k => nm (fg r k) (fm r k) := by
  intro r k
  pointwise [k0_pay4]
  simp only [hg _ _, hm _ _]
  rfl
theorem p5 (hg : E2 g fg) (hv : E2 v fv) : E2 (k0_pay5 (F := Ideal) g v) fun r k => nv (fg r k) (fv r k) := by
  intro r k
  pointwise [k0_pay5]
  simp only [hg _ _, hv _ _]
  rfl
theorem p6 (hw : E2 w fw) (hg : E2 g fg) (hm : E2 mm fm) (hv : E2 v fv) :
    E2 (k0_pay6 (F := Ideal) w g mm v) fun r k => dl (fw r k) (fg r k) (fm r k) (fv r k) := by
  intro r k
  pointwise [k0_pay6, k0_pay4, k0_pay5]
  simp only [hw _ _, hg _ _, hm _ _, hv _ _]
  rfl

/-- Where each window's block lies, at every grid point. -/
theorem odx : ∀ t : Fin cfg0.N, win0_8.index t = ![t.val, 0] ∧ win0_9.index t = ![t.val, 0] ∧ win0_10.index t = ![t.val, 0] ∧ win0_11.index t = ![t.val, 0] ∧ win0_12.index t = ![t.val, 0] ∧ win0_13.index t = ![t.val, 0] :=
  (by decide +kernel : ∀ t : Fin grid0.N, _)
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)
theorem lt_N (t : Fin cfg0.N) : t.val < 4 := lt_of_lt_of_eq t.isLt N_0
/-- The row of the whole array that row `r` of block `t` is. -/
def row (t : Fin cfg0.N) (r : Fin 256) : Fin 1024 := ⟨t.val * 256 + r.val, by have := lt_N t; omega⟩

variable (m : (ℓ : Loc nD τ sig) → Buf (Elt Ideal) ℓ) (c : Dev nD)

/-- An argument of device `c`, as a matrix. -/
abbrev a2 (x : FVec Ideal S1024x1024 .f32) (r k : Fin 1024) : EReal := x (ix2 r k)
abbrev a3 (x : FVec Ideal S1x1024x1024 .f32) (r k : Fin 1024) : EReal := x (ix3 0 r k)

abbrev ar0 : FVec Ideal S1024x1024 .f32 := m (c, Proc.tc.devRef main_arg0)
abbrev ar1 : FVec Ideal S1024x1024 .f32 := m (c, Proc.tc.devRef main_arg1)
abbrev ar2 : FVec Ideal S1x1024x1024 .f32 := m (c, Proc.tc.devRef main_arg2)
abbrev ar3 : FVec Ideal S1x1024x1024 .f32 := m (c, Proc.tc.devRef main_arg3)
abbrev ar4 : FVec Ideal S1x1024x1024 .f32 := m (c, Proc.tc.devRef main_arg4)
abbrev ar5 : FVec Ideal S1x1024x1024 .f32 := m (c, Proc.tc.devRef main_arg5)
abbrev ar6 : FVec Ideal S1x1024x1024 .f32 := m (c, Proc.tc.devRef main_arg6)
abbrev ar7 : FVec Ideal S1x1024x1024 .f32 := m (c, Proc.tc.devRef main_arg7)

theorem q (x : FVec Ideal S1x1024x1024 .f32) (r k : Fin 1024) : (shapeCast S1024x1024 x shapeCasts_S1x1024x1024_S1024x1024 : FVec Ideal S1024x1024 .f32) (ix2 r k) = a3 x r k := by
  pointwise []
theorem s0 : (V m c main_v0 : FVec Ideal S1024x1024 .f32) = (shapeCast S1024x1024 (ar2 m c) shapeCasts_S1x1024x1024_S1024x1024 : FVec Ideal S1024x1024 .f32) := by
  entry_read
  rfl
theorem s1 : (V m c main_v1 : FVec Ideal S1024x1024 .f32) = (shapeCast S1024x1024 (ar3 m c) shapeCasts_S1x1024x1024_S1024x1024 : FVec Ideal S1024x1024 .f32) := by
  entry_read
  rfl
theorem s2 : (V m c main_v2 : FVec Ideal S1024x1024 .f32) = (shapeCast S1024x1024 (ar4 m c) shapeCasts_S1x1024x1024_S1024x1024 : FVec Ideal S1024x1024 .f32) := by
  entry_read
  rfl
theorem s3 : (V m c main_v3 : FVec Ideal S1024x1024 .f32) = (shapeCast S1024x1024 (ar5 m c) shapeCasts_S1x1024x1024_S1024x1024 : FVec Ideal S1024x1024 .f32) := by
  entry_read
  rfl
theorem s4 : (V m c main_v4 : FVec Ideal S1024x1024 .f32) = (shapeCast S1024x1024 (ar6 m c) shapeCasts_S1x1024x1024_S1024x1024 : FVec Ideal S1024x1024 .f32) := by
  entry_read
  rfl
theorem s5 : (V m c main_v5 : FVec Ideal S1024x1024 .f32) = (shapeCast S1024x1024 (ar7 m c) shapeCasts_S1x1024x1024_S1024x1024 : FVec Ideal S1024x1024 .f32) := by
  entry_read
  rfl
theorem e0 (t : Fin cfg0.N) : E2 (φ := .f32) (iblk m c 0 t : FVec Ideal S256x1024 .f32) fun r k => a2 (ar0 m c) (row t r) k := by
  intro r k
  blk_simp [iblk]
  entry_read
  unfold row
  blk_ext [idx t]
theorem e1 (t : Fin cfg0.N) : E2 (φ := .f32) (iblk m c 1 t : FVec Ideal S256x1024 .f32) fun r k => a2 (ar1 m c) (row t r) k := by
  intro r k
  blk_simp [iblk]
  entry_read
  unfold row
  blk_ext [idx t]
theorem e2 (t : Fin cfg0.N) : E2 (φ := .f32) (iblk m c 2 t : FVec Ideal S256x1024 .f32) fun r k => a3 (ar2 m c) (row t r) k := by
  intro r k
  refine (show _ = (V m c main_v0 : FVec Ideal S1024x1024 .f32) (ix2 (row t r) k) from ?_).trans ?_
  · blk_simp [iblk]
    unfold row
    blk_ext [idx t]
  · exact (congrFun (s0 m c) _).trans (q _ (row t r) k)
theorem e3 (t : Fin cfg0.N) : E2 (φ := .f32) (iblk m c 3 t : FVec Ideal S256x1024 .f32) fun r k => a3 (ar3 m c) (row t r) k := by
  intro r k
  refine (show _ = (V m c main_v1 : FVec Ideal S1024x1024 .f32) (ix2 (row t r) k) from ?_).trans ?_
  · blk_simp [iblk]
    unfold row
    blk_ext [idx t]
  · exact (congrFun (s1 m c) _).trans (q _ (row t r) k)
theorem e4 (t : Fin cfg0.N) : E2 (φ := .f32) (iblk m c 4 t : FVec Ideal S256x1024 .f32) fun r k => a3 (ar4 m c) (row t r) k := by
  intro r k
  refine (show _ = (V m c main_v2 : FVec Ideal S1024x1024 .f32) (ix2 (row t r) k) from ?_).trans ?_
  · blk_simp [iblk]
    unfold row
    blk_ext [idx t]
  · exact (congrFun (s2 m c) _).trans (q _ (row t r) k)
theorem e5 (t : Fin cfg0.N) : E2 (φ := .f32) (iblk m c 5 t : FVec Ideal S256x1024 .f32) fun r k => a3 (ar5 m c) (row t r) k := by
  intro r k
  refine (show _ = (V m c main_v3 : FVec Ideal S1024x1024 .f32) (ix2 (row t r) k) from ?_).trans ?_
  · blk_simp [iblk]
    unfold row
    blk_ext [idx t]
  · exact (congrFun (s3 m c) _).trans (q _ (row t r) k)
theorem e6 (t : Fin cfg0.N) : E2 (φ := .f32) (iblk m c 6 t : FVec Ideal S256x1024 .f32) fun r k => a3 (ar6 m c) (row t r) k := by
  intro r k
  refine (show _ = (V m c main_v4 : FVec Ideal S1024x1024 .f32) (ix2 (row t r) k) from ?_).trans ?_
  · blk_simp [iblk]
    unfold row
    blk_ext [idx t]
  · exact (congrFun (s4 m c) _).trans (q _ (row t r) k)
theorem e7 (t : Fin cfg0.N) : E2 (φ := .f32) (iblk m c 7 t : FVec Ideal S256x1024 .f32) fun r k => a3 (ar7 m c) (row t r) k := by
  intro r k
  refine (show _ = (V m c main_v5 : FVec Ideal S1024x1024 .f32) (ix2 (row t r) k) from ?_).trans ?_
  · blk_simp [iblk]
    unfold row
    blk_ext [idx t]
  · exact (congrFun (s5 m c) _).trans (q _ (row t r) k)

theorem blk8 (t : Fin cfg0.N) : E2 (φ := .f32) ((dats m 0 c).after 8 t : FVec Ideal S256x1024 .f32) fun r k => dl (a3 (ar2 m c) (row t r) k) (a2 (ar0 m c) (row t r) k) (a3 (ar4 m c) (row t r) k) (a3 (ar6 m c) (row t r) k) := by
  rw [after0_8]
  unfold out0_8
  frame_out
  exact p3 (e2 m c t) (e0 m c t) (e4 m c t) (e6 m c t)
theorem out8 :
    (dats m 0 c).arrAt 8 cfg0.N = (fun y => dl (a3 (ar2 m c) (y 0) (y 1)) (a2 (ar0 m c) (y 0) (y 1)) (a3 (ar4 m c) (y 0) (y 1)) (a3 (ar6 m c) (y 0) (y 1)) : FVec Ideal S1024x1024 .f32) := by
  refine (dats m 0 c).arrAt_eq_of_covers 8 _ (by decide +kernel) fun t hf y => ?_
  have hb := blk8 m c t
  blk_simp
  have h1 : (y 1 : ℕ) < 1024 := (y 1).isLt
  have h0 : (y 0 : ℕ) < 256 := (y 0).isLt
  refine (E2.at hb y (r := ⟨y 0, h0⟩) (c := ⟨y 1, h1⟩) rfl rfl).trans ?_
  have ea : (((cfg0.win 8).blk t).view.emb y 0 : Fin 1024) = row t ⟨y 0, h0⟩ := Fin.ext (by unfold row; blk_simp [odx t]; done)
  have eb : (((cfg0.win 8).blk t).view.emb y 1 : Fin 1024) = ⟨y 1, h1⟩ := Fin.ext (by blk_simp [odx t])
  exact (congrArg₂ (fun r k => dl (a3 (ar2 m c) r k) (a2 (ar0 m c) r k) (a3 (ar4 m c) r k) (a3 (ar6 m c) r k)) ea eb).symm

theorem blk9 (t : Fin cfg0.N) : E2 (φ := .f32) ((dats m 0 c).after 9 t : FVec Ideal S256x1024 .f32) fun r k => nm (a2 (ar0 m c) (row t r) k) (a3 (ar4 m c) (row t r) k) := by
  rw [after0_9]
  unfold out0_9
  frame_out
  exact p1 (e0 m c t) (e4 m c t)
theorem out9 :
    (dats m 0 c).arrAt 9 cfg0.N = (fun y => nm (a2 (ar0 m c) (y 0) (y 1)) (a3 (ar4 m c) (y 0) (y 1)) : FVec Ideal S1024x1024 .f32) := by
  refine (dats m 0 c).arrAt_eq_of_covers 9 _ (by decide +kernel) fun t hf y => ?_
  have hb := blk9 m c t
  blk_simp
  have h1 : (y 1 : ℕ) < 1024 := (y 1).isLt
  have h0 : (y 0 : ℕ) < 256 := (y 0).isLt
  refine (E2.at hb y (r := ⟨y 0, h0⟩) (c := ⟨y 1, h1⟩) rfl rfl).trans ?_
  have ea : (((cfg0.win 9).blk t).view.emb y 0 : Fin 1024) = row t ⟨y 0, h0⟩ := Fin.ext (by unfold row; blk_simp [odx t]; done)
  have eb : (((cfg0.win 9).blk t).view.emb y 1 : Fin 1024) = ⟨y 1, h1⟩ := Fin.ext (by blk_simp [odx t])
  exact (congrArg₂ (fun r k => nm (a2 (ar0 m c) r k) (a3 (ar4 m c) r k)) ea eb).symm

theorem blk10 (t : Fin cfg0.N) : E2 (φ := .f32) ((dats m 0 c).after 10 t : FVec Ideal S256x1024 .f32) fun r k => nv (a2 (ar0 m c) (row t r) k) (a3 (ar6 m c) (row t r) k) := by
  rw [after0_10]
  unfold out0_10
  frame_out
  exact p2 (e0 m c t) (e6 m c t)
theorem out10 :
    (dats m 0 c).arrAt 10 cfg0.N = (fun y => nv (a2 (ar0 m c) (y 0) (y 1)) (a3 (ar6 m c) (y 0) (y 1)) : FVec Ideal S1024x1024 .f32) := by
  refine (dats m 0 c).arrAt_eq_of_covers 10 _ (by decide +kernel) fun t hf y => ?_
  have hb := blk10 m c t
  blk_simp
  have h1 : (y 1 : ℕ) < 1024 := (y 1).isLt
  have h0 : (y 0 : ℕ) < 256 := (y 0).isLt
  refine (E2.at hb y (r := ⟨y 0, h0⟩) (c := ⟨y 1, h1⟩) rfl rfl).trans ?_
  have ea : (((cfg0.win 10).blk t).view.emb y 0 : Fin 1024) = row t ⟨y 0, h0⟩ := Fin.ext (by unfold row; blk_simp [odx t]; done)
  have eb : (((cfg0.win 10).blk t).view.emb y 1 : Fin 1024) = ⟨y 1, h1⟩ := Fin.ext (by blk_simp [odx t])
  exact (congrArg₂ (fun r k => nv (a2 (ar0 m c) r k) (a3 (ar6 m c) r k)) ea eb).symm

theorem blk11 (t : Fin cfg0.N) : E2 (φ := .f32) ((dats m 0 c).after 11 t : FVec Ideal S256x1024 .f32) fun r k => dl (a3 (ar3 m c) (row t r) k) (a2 (ar1 m c) (row t r) k) (a3 (ar5 m c) (row t r) k) (a3 (ar7 m c) (row t r) k) := by
  rw [after0_11]
  unfold out0_11
  frame_out
  exact p6 (e3 m c t) (e1 m c t) (e5 m c t) (e7 m c t)
theorem out11 :
    (dats m 0 c).arrAt 11 cfg0.N = (fun y => dl (a3 (ar3 m c) (y 0) (y 1)) (a2 (ar1 m c) (y 0) (y 1)) (a3 (ar5 m c) (y 0) (y 1)) (a3 (ar7 m c) (y 0) (y 1)) : FVec Ideal S1024x1024 .f32) := by
  refine (dats m 0 c).arrAt_eq_of_covers 11 _ (by decide +kernel) fun t hf y => ?_
  have hb := blk11 m c t
  blk_simp
  have h1 : (y 1 : ℕ) < 1024 := (y 1).isLt
  have h0 : (y 0 : ℕ) < 256 := (y 0).isLt
  refine (E2.at hb y (r := ⟨y 0, h0⟩) (c := ⟨y 1, h1⟩) rfl rfl).trans ?_
  have ea : (((cfg0.win 11).blk t).view.emb y 0 : Fin 1024) = row t ⟨y 0, h0⟩ := Fin.ext (by unfold row; blk_simp [odx t]; done)
  have eb : (((cfg0.win 11).blk t).view.emb y 1 : Fin 1024) = ⟨y 1, h1⟩ := Fin.ext (by blk_simp [odx t])
  exact (congrArg₂ (fun r k => dl (a3 (ar3 m c) r k) (a2 (ar1 m c) r k) (a3 (ar5 m c) r k) (a3 (ar7 m c) r k)) ea eb).symm

theorem blk12 (t : Fin cfg0.N) : E2 (φ := .f32) ((dats m 0 c).after 12 t : FVec Ideal S256x1024 .f32) fun r k => nm (a2 (ar1 m c) (row t r) k) (a3 (ar5 m c) (row t r) k) := by
  rw [after0_12]
  unfold out0_12
  frame_out
  exact p4 (e1 m c t) (e5 m c t)
theorem out12 :
    (dats m 0 c).arrAt 12 cfg0.N = (fun y => nm (a2 (ar1 m c) (y 0) (y 1)) (a3 (ar5 m c) (y 0) (y 1)) : FVec Ideal S1024x1024 .f32) := by
  refine (dats m 0 c).arrAt_eq_of_covers 12 _ (by decide +kernel) fun t hf y => ?_
  have hb := blk12 m c t
  blk_simp
  have h1 : (y 1 : ℕ) < 1024 := (y 1).isLt
  have h0 : (y 0 : ℕ) < 256 := (y 0).isLt
  refine (E2.at hb y (r := ⟨y 0, h0⟩) (c := ⟨y 1, h1⟩) rfl rfl).trans ?_
  have ea : (((cfg0.win 12).blk t).view.emb y 0 : Fin 1024) = row t ⟨y 0, h0⟩ := Fin.ext (by unfold row; blk_simp [odx t]; done)
  have eb : (((cfg0.win 12).blk t).view.emb y 1 : Fin 1024) = ⟨y 1, h1⟩ := Fin.ext (by blk_simp [odx t])
  exact (congrArg₂ (fun r k => nm (a2 (ar1 m c) r k) (a3 (ar5 m c) r k)) ea eb).symm

theorem blk13 (t : Fin cfg0.N) : E2 (φ := .f32) ((dats m 0 c).after 13 t : FVec Ideal S256x1024 .f32) fun r k => nv (a2 (ar1 m c) (row t r) k) (a3 (ar7 m c) (row t r) k) := by
  rw [after0_13]
  unfold out0_13
  frame_out
  exact p5 (e1 m c t) (e7 m c t)
theorem out13 :
    (dats m 0 c).arrAt 13 cfg0.N = (fun y => nv (a2 (ar1 m c) (y 0) (y 1)) (a3 (ar7 m c) (y 0) (y 1)) : FVec Ideal S1024x1024 .f32) := by
  refine (dats m 0 c).arrAt_eq_of_covers 13 _ (by decide +kernel) fun t hf y => ?_
  have hb := blk13 m c t
  blk_simp
  have h1 : (y 1 : ℕ) < 1024 := (y 1).isLt
  have h0 : (y 0 : ℕ) < 256 := (y 0).isLt
  refine (E2.at hb y (r := ⟨y 0, h0⟩) (c := ⟨y 1, h1⟩) rfl rfl).trans ?_
  have ea : (((cfg0.win 13).blk t).view.emb y 0 : Fin 1024) = row t ⟨y 0, h0⟩ := Fin.ext (by unfold row; blk_simp [odx t]; done)
  have eb : (((cfg0.win 13).blk t).view.emb y 1 : Fin 1024) = ⟨y 1, h1⟩ := Fin.ext (by blk_simp [odx t])
  exact (congrArg₂ (fun r k => nv (a2 (ar1 m c) r k) (a3 (ar7 m c) r k)) ea eb).symm

end Cert.OptIdeal.Pay

namespace Cert.OptRefIdeal.Real

open Cert.OptRefIdeal Cert.OptRefIdeal.Gen Cert.OptRefIdeal.Read Cert.FwdMath Cert.AdamMath
open Cert.OptIdeal.Pay (a2 a3)

variable (x0 x1 : FVec Ideal S1024x1024 .f32) (x2 x3 x4 x5 x6 x7 : FVec Ideal S1x1024x1024 .f32)

theorem r26 : E2 (φ := .f32) (val_main_v26 (F := Ideal) x0 x2 x4 x6) fun r k => dl (a3 x2 r k) (a2 x0 r k) (a3 x4 r k) (a3 x6 r k) := by
  intro r k
  pointwise [val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  rfl
theorem r7 : E2 (φ := .f32) (val_main_v7 (F := Ideal) x0 x4) fun r k => nm (a2 x0 r k) (a3 x4 r k) := by
  intro r k
  pointwise [val_main_v7, val_main_v6, val_main_v5, val_main_v4, val_main_v3, val_main_v1, val_main_cst, val_main_cst_0]
  rfl
theorem r13 : E2 (φ := .f32) (val_main_v13 (F := Ideal) x0 x6) fun r k => nv (a2 x0 r k) (a3 x6 r k) := by
  intro r k
  pointwise [val_main_v13, val_main_v12, val_main_v11, val_main_v10, val_main_v9, val_main_v8, val_main_v2, val_main_cst_1, val_main_cst_2]
  rfl
theorem r53 : E2 (φ := .f32) (val_main_v53 (F := Ideal) x1 x3 x5 x7) fun r k => dl (a3 x3 r k) (a2 x1 r k) (a3 x5 r k) (a3 x7 r k) := by
  intro r k
  pointwise [val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_cst_8, val_main_cst_9, val_main_cst_10, val_main_cst_11, val_main_cst_12, val_main_cst_13, val_main_cst_14, val_main_cst_15, val_main_cst_16]
  rfl
theorem r34 : E2 (φ := .f32) (val_main_v34 (F := Ideal) x1 x5) fun r k => nm (a2 x1 r k) (a3 x5 r k) := by
  intro r k
  pointwise [val_main_v34, val_main_v33, val_main_v32, val_main_v31, val_main_v30, val_main_v28, val_main_cst_8, val_main_cst_9]
  rfl
theorem r40 : E2 (φ := .f32) (val_main_v40 (F := Ideal) x1 x7) fun r k => nv (a2 x1 r k) (a3 x7 r k) := by
  intro r k
  pointwise [val_main_v40, val_main_v39, val_main_v38, val_main_v37, val_main_v36, val_main_v35, val_main_v29, val_main_cst_10, val_main_cst_11]
  rfl

end Cert.OptRefIdeal.Real

namespace Cert.OptAlg

set_option maxHeartbeats 4000000 in
open Cert.OptIdeal.Pay Cert.OptRefIdeal.Real Cert.FwdMath in
/-- The call and its reference leave equal arrays, whatever the arguments. -/
theorem algebraic : Cert.algebraic_OptIdeal_OptRefIdeal := by
  intro m g m' g' _ hagree
  refine ⟨_, _, _, _, _, _, Cert.OptIdeal.Value.run_blocks m g, ?_⟩
  refine (θ_run Cert.OptRefIdeal.defs _ _).mono (fun r h c => ?_) (Cert.OptRefIdeal.Value.run m' g')
  obtain ⟨e0, e1, e2, e3, e4, e5, e6, e7⟩ := hagree c
  obtain ⟨h0, h1, h2, h3, h4, h5, hk⟩ := h c
  simp only [e0, e1, e2, e3, e4, e5, e6, e7] at h0 h1 h2 h3 h4 h5
  refine ⟨h0.trans ?_, h1.trans ?_, h2.trans ?_, h3.trans ?_, h4.trans ?_, h5.trans ?_, hk⟩
  · exact (show _ = _ from funext fun y => E2.at (r26 _ _ _ _ ) y rfl rfl).trans (out8 m c).symm
  · exact (show _ = _ from funext fun y => E2.at (r7 _ _ ) y rfl rfl).trans (out9 m c).symm
  · exact (show _ = _ from funext fun y => E2.at (r13 _ _ ) y rfl rfl).trans (out10 m c).symm
  · exact (show _ = _ from funext fun y => E2.at (r53 _ _ _ _ ) y rfl rfl).trans (out11 m c).symm
  · exact (show _ = _ from funext fun y => E2.at (r34 _ _ ) y rfl rfl).trans (out12 m c).symm
  · exact (show _ = _ from funext fun y => E2.at (r40 _ _ ) y rfl rfl).trans (out13 m c).symm

end Cert.OptAlg

end
-- ==== Proof.lean ====
/- The proof of the claims stated in `Cert.Claim`. -/
module

public import proofs.«01_k».proof.Defs
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpIdeal.Value
public import proofs.«01_k».proof.Proof.Gen.MlpRefIdeal
public import proofs.«01_k».proof.Proof.Gen.MlpRefIdeal.Run
public import proofs.«01_k».proof.Proof.Gen.MlpRefIdeal.Read
public import proofs.«01_k».proof.Proof.Gen.Pre_mlp_finite
public import proofs.«01_k».proof.Proof.Gen.Bwd
public import proofs.«01_k».proof.Proof.Gen.Bwd.Skeleton
public import proofs.«01_k».proof.Proof.Gen.Bwd.Launch
public import proofs.«01_k».proof.Proof.Gen.Bwd.Points
public import proofs.«01_k».proof.Proof.Gen.Bwd.Frame
public import proofs.«01_k».proof.Proof.Gen.BwdIdeal
public import proofs.«01_k».proof.Proof.Gen.BwdIdeal.Skeleton
public import proofs.«01_k».proof.Proof.Gen.BwdIdeal.Launch
public import proofs.«01_k».proof.Proof.Gen.BwdIdeal.Points
public import proofs.«01_k».proof.Proof.Gen.BwdIdeal.Frame
public import proofs.«01_k».proof.Proof.Gen.BwdIdeal.Value
public import proofs.«01_k».proof.Proof.Gen.BwdRefIdeal
public import proofs.«01_k».proof.Proof.Gen.BwdRefIdeal.Run
public import proofs.«01_k».proof.Proof.Gen.BwdRefIdeal.Read
public import proofs.«01_k».proof.Proof.Gen.Pre_bwd_finite
public import proofs.«01_k».proof.Proof.Gen.Fwd
public import proofs.«01_k».proof.Proof.Gen.Fwd.Skeleton
public import proofs.«01_k».proof.Proof.Gen.Fwd.Launch
public import proofs.«01_k».proof.Proof.Gen.Fwd.Points
public import proofs.«01_k».proof.Proof.Gen.Fwd.Frame
public import proofs.«01_k».proof.Proof.Gen.FwdIdeal
public import proofs.«01_k».proof.Proof.Gen.FwdIdeal.Skeleton
public import proofs.«01_k».proof.Proof.Gen.FwdIdeal.Launch
public import proofs.«01_k».proof.Proof.Gen.FwdIdeal.Points
public import proofs.«01_k».proof.Proof.Gen.FwdIdeal.Frame
public import proofs.«01_k».proof.Proof.Gen.FwdIdeal.Value
public import proofs.«01_k».proof.Proof.Gen.FwdRefIdeal
public import proofs.«01_k».proof.Proof.Gen.FwdRefIdeal.Run
public import proofs.«01_k».proof.Proof.Gen.FwdRefIdeal.Read
public import proofs.«01_k».proof.Proof.Gen.Pre_fwd_finite
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaIdeal.Value
public import proofs.«01_k».proof.Proof.Gen.AdaRefIdeal
public import proofs.«01_k».proof.Proof.Gen.AdaRefIdeal.Run
public import proofs.«01_k».proof.Proof.Gen.AdaRefIdeal.Read
public import proofs.«01_k».proof.Proof.Gen.Opt
public import proofs.«01_k».proof.Proof.Gen.Opt.Skeleton
public import proofs.«01_k».proof.Proof.Gen.Opt.Launch
public import proofs.«01_k».proof.Proof.Gen.Opt.Points
public import proofs.«01_k».proof.Proof.Gen.Opt.Frame
public import proofs.«01_k».proof.Proof.Gen.OptIdeal
public import proofs.«01_k».proof.Proof.Gen.OptIdeal.Skeleton
public import proofs.«01_k».proof.Proof.Gen.OptIdeal.Launch
public import proofs.«01_k».proof.Proof.Gen.OptIdeal.Points
public import proofs.«01_k».proof.Proof.Gen.OptIdeal.Frame
public import proofs.«01_k».proof.Proof.Gen.OptIdeal.Value
public import proofs.«01_k».proof.Proof.Gen.OptRefIdeal
public import proofs.«01_k».proof.Proof.Gen.OptRefIdeal.Run
public import proofs.«01_k».proof.Proof.Gen.OptRefIdeal.Read
public import proofs.«01_k».proof.Proof.MlpAlg
public import proofs.«01_k».proof.Proof.BwdAlg
public import proofs.«01_k».proof.Proof.FwdAlg
public import proofs.«01_k».proof.Proof.AdaAlg
public import proofs.«01_k».proof.Proof.OptAlg
public import Idealize.ShloMosaic.Adequacy
public import Idealize.ShloMosaic.Init

@[expose] public section

noncomputable section

namespace Cert.Proof

open Idealize.ShloMosaic Idealize.SL.Sem

/-- The reference of the MLP call ends, keeps its arguments and declares no semaphore. -/
theorem mlp_ref : Cert.quiescent_MlpRefIdeal := fun m g _ =>
  (θ_run Cert.MlpRefIdeal.defs _ _).mono (fun r h => ⟨fun c => (h c).2.2.2.2.2.2, sem_eq_zero_of_no_sems (by decide) r.2⟩)
    (Cert.MlpRefIdeal.Value.run m g)

/-- The reference of the mixer's gradient ends, keeps its arguments and declares no semaphore. -/
theorem bwd_ref : Cert.quiescent_BwdRefIdeal := fun m g _ =>
  (θ_run Cert.BwdRefIdeal.defs _ _).mono (fun r h => ⟨fun c => (h c).2.2.2.2.2.2, sem_eq_zero_of_no_sems (by decide) r.2⟩)
    (Cert.BwdRefIdeal.Value.run m g)

/-- The reference of the mixer ends, keeps its arguments and declares no semaphore. -/
theorem fwd_ref : Cert.quiescent_FwdRefIdeal := fun m g _ =>
  (θ_run Cert.FwdRefIdeal.defs _ _).mono (fun r h => ⟨fun c => (h c).2.2.2.2.2, sem_eq_zero_of_no_sems (by decide) r.2⟩)
    (Cert.FwdRefIdeal.Value.run m g)

/-- The reference of the modulation weight's gradient and step ends, keeps its arguments and declares no semaphore. -/
theorem ada_ref : Cert.quiescent_AdaRefIdeal := fun m g _ =>
  (θ_run Cert.AdaRefIdeal.defs _ _).mono (fun r h => ⟨fun c => (h c).2.2.2.2, sem_eq_zero_of_no_sems (by decide) r.2⟩)
    (Cert.AdaRefIdeal.Value.run m g)

/-- The reference of the optimiser's call ends, keeps its arguments and declares no semaphore. -/
theorem opt_ref : Cert.quiescent_OptRefIdeal := fun m g _ =>
  (θ_run Cert.OptRefIdeal.defs _ _).mono (fun r h => ⟨fun c => (h c).2.2.2.2.2.2, sem_eq_zero_of_no_sems (by decide) r.2⟩)
    (Cert.OptRefIdeal.Value.run m g)

theorem claim : Cert.Claim := ⟨Cert.Mlp.Gen.facts, Cert.MlpIdeal.Gen.facts, Cert.MlpRefIdeal.Gen.facts,
  Cert.Bwd.Gen.facts, Cert.BwdIdeal.Gen.facts, Cert.BwdRefIdeal.Gen.facts,
  Cert.Fwd.Gen.facts, Cert.FwdIdeal.Gen.facts, Cert.FwdRefIdeal.Gen.facts,
  Cert.Ada.Gen.facts, Cert.AdaIdeal.Gen.facts, Cert.AdaRefIdeal.Gen.facts,
  Cert.Opt.Gen.facts, Cert.OptIdeal.Gen.facts, Cert.OptRefIdeal.Gen.facts,
  Cert.Pre_mlp_finite.Gen.facts, Cert.Pre_bwd_finite.Gen.facts, Cert.Pre_fwd_finite.Gen.facts,
  fun m g _ => Cert.Mlp.Gen.frame m g, fun m g _ => Cert.MlpIdeal.Gen.frame m g, fun m g _ => Cert.MlpIdeal.Gen.frame m g,
  mlp_ref, fun m g _ => mlp_ref m g trivial,
  fun m g _ => Cert.Bwd.Gen.frame m g, fun m g _ => Cert.BwdIdeal.Gen.frame m g, fun m g _ => Cert.BwdIdeal.Gen.frame m g,
  bwd_ref, fun m g _ => bwd_ref m g trivial,
  fun m g _ => Cert.Fwd.Gen.frame m g, fun m g _ => Cert.FwdIdeal.Gen.frame m g, fun m g _ => Cert.FwdIdeal.Gen.frame m g,
  fwd_ref, fun m g _ => fwd_ref m g trivial,
  fun m g _ => Cert.Ada.Gen.frame m g, fun m g _ => Cert.AdaIdeal.Gen.frame m g, ada_ref,
  fun m g _ => Cert.Opt.Gen.frame m g, fun m g _ => Cert.OptIdeal.Gen.frame m g, opt_ref,
  trivial, Cert.MlpAlg.algebraic, trivial, Cert.BwdAlg.algebraic, trivial, Cert.FwdAlg.algebraic,
  trivial, Cert.AdaAlg.algebraic, trivial, Cert.OptAlg.algebraic⟩

end Cert.Proof

end
